-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Kernel17Ideal_finite17 [hPre_finite17 : Cert.Pre_finite17.Facts] (m : (ℓ : Loc Cert.Kernel17Ideal.nD Cert.Kernel17Ideal.τ Cert.Kernel17Ideal.sig) → Buf (Elt Ideal) ℓ) : Prop :=
  ∀ c : Dev Cert.Kernel17Ideal.nD,
    (Cert.Pre_finite17.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2)) (m ((c.tc : Thread Cert.Kernel17Ideal.nD Cert.Kernel17Ideal.τ).loc Cert.Kernel17Ideal.main_arg3)) (m ((c.tc : Thread Cert.Kernel17Ideal.nD Cert.Kernel17Ideal.τ).loc Cert.Kernel17Ideal.main_arg4)) (m ((c.tc : Thread Cert.Kernel17Ideal.nD Cert.Kernel17Ideal.τ).loc Cert.Kernel17Ideal.main_arg5)) (m ((c.tc : Thread Cert.Kernel17Ideal.nD Cert.Kernel17Ideal.τ).loc Cert.Kernel17Ideal.main_arg6))) = (fun _ => 1#1)

def Pre_Reference17Ideal (m : (ℓ : Loc Cert.Reference17Ideal.nD Cert.Reference17Ideal.τ Cert.Reference17Ideal.sig) → Buf (Elt Ideal) ℓ) : Prop :=
  True

def Pre_Reference17Ideal_finite17 [hPre_finite17 : Cert.Pre_finite17.Facts] (m : (ℓ : Loc Cert.Reference17Ideal.nD Cert.Reference17Ideal.τ Cert.Reference17Ideal.sig) → Buf (Elt Ideal) ℓ) : Prop :=
  ∀ c : Dev Cert.Reference17Ideal.nD,
    (Cert.Pre_finite17.fn (F := Ideal) (m ((c.tc : Thread Cert.Reference17Ideal.nD Cert.Reference17Ideal.τ).loc Cert.Reference17Ideal.main_arg0)) (m ((c.tc : Thread Cert.Reference17Ideal.nD Cert.Reference17Ideal.τ).loc Cert.Reference17Ideal.main_arg1)) (m ((c.tc : Thread Cert.Reference17Ideal.nD Cert.Reference17Ideal.τ).loc Cert.Reference17Ideal.main_arg2)) (m ((c.tc : Thread Cert.Reference17Ideal.nD Cert.Reference17Ideal.τ).loc Cert.Reference17Ideal.main_arg3)) (m ((c.tc : Thread Cert.Reference17Ideal.nD Cert.Reference17Ideal.τ).loc Cert.Reference17Ideal.main_arg4)) (m ((c.tc : Thread Cert.Reference17Ideal.nD Cert.Reference17Ideal.τ).loc Cert.Reference17Ideal.main_arg5)) (m ((c.tc : Thread Cert.Reference17Ideal.nD Cert.Reference17Ideal.τ).loc Cert.Reference17Ideal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4)
      ∧ r.2.mem ((c.tc : Thread Cert.Kernel16.nD Cert.Kernel16.τ).loc Cert.Kernel16.main_arg5) = m ((c.tc : Thread Cert.Kernel16.nD Cert.Kernel16.τ).loc Cert.Kernel16.main_arg5)
      ∧ r.2.mem ((c.tc : Thread Cert.Kernel16.nD Cert.Kernel16.τ).loc Cert.Kernel16.main_arg6) = m ((c.tc : Thread Cert.Kernel16.nD Cert.Kernel16.τ).loc Cert.Kernel16.main_arg6))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
      ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
      ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4)
      ∧ r.2.mem ((c.tc : Thread Cert.Reference16Ideal.nD Cert.Reference16Ideal.τ).loc Cert.Reference16Ideal.main_arg5) = m ((c.tc : Thread Cert.Reference16Ideal.nD Cert.Reference16Ideal.τ).loc Cert.Reference16Ideal.main_arg5)
      ∧ r.2.mem ((c.tc : Thread Cert.Reference16Ideal.nD Cert.Reference16Ideal.τ).loc Cert.Reference16Ideal.main_arg6) = m ((c.tc : Thread Cert.Reference16Ideal.nD Cert.Reference16Ideal.τ).loc Cert.Reference16Ideal.main_arg6))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4)
      ∧ r.2.mem ((c.tc : Thread Cert.Kernel17.nD Cert.Kernel17.τ).loc Cert.Kernel17.main_arg5) = m ((c.tc : Thread Cert.Kernel17.nD Cert.Kernel17.τ).loc Cert.Kernel17.main_arg5)
      ∧ r.2.mem ((c.tc : Thread Cert.Kernel17.nD Cert.Kernel17.τ).loc Cert.Kernel17.main_arg6) = m ((c.tc : Thread Cert.Kernel17.nD Cert.Kernel17.τ).loc Cert.Kernel17.main_arg6))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
      ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
      ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6))
      ∧ r.2.sem = fun _ => 0)

def quiescent_Kernel17Ideal_pre_finite17 [hKernel17Ideal : Cert.Kernel17Ideal.Facts] [hPre_finite17 : Cert.Pre_finite17.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal_finite17 m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
      ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
      ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4)
      ∧ r.2.mem ((c.tc : Thread Cert.Reference17Ideal.nD Cert.Reference17Ideal.τ).loc Cert.Reference17Ideal.main_arg5) = m ((c.tc : Thread Cert.Reference17Ideal.nD Cert.Reference17Ideal.τ).loc Cert.Reference17Ideal.main_arg5)
      ∧ r.2.mem ((c.tc : Thread Cert.Reference17Ideal.nD Cert.Reference17Ideal.τ).loc Cert.Reference17Ideal.main_arg6) = m ((c.tc : Thread Cert.Reference17Ideal.nD Cert.Reference17Ideal.τ).loc Cert.Reference17Ideal.main_arg6))
      ∧ r.2.sem = fun _ => 0)

def quiescent_Reference17Ideal_pre_finite17 [hReference17Ideal : Cert.Reference17Ideal.Facts] [hPre_finite17 : Cert.Pre_finite17.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal_finite17 m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4)
      ∧ r.2.mem ((c.tc : Thread Cert.Reference17Ideal.nD Cert.Reference17Ideal.τ).loc Cert.Reference17Ideal.main_arg5) = m ((c.tc : Thread Cert.Reference17Ideal.nD Cert.Reference17Ideal.τ).loc Cert.Reference17Ideal.main_arg5)
      ∧ r.2.mem ((c.tc : Thread Cert.Reference17Ideal.nD Cert.Reference17Ideal.τ).loc Cert.Reference17Ideal.main_arg6) = m ((c.tc : Thread Cert.Reference17Ideal.nD Cert.Reference17Ideal.τ).loc Cert.Reference17Ideal.main_arg6))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v80_0)) (v1 : (c : Dev Cert.KernelIdeal.nD) → Buf (Elt Ideal) ((c.tc : Thread Cert.KernelIdeal.nD Cert.KernelIdeal.τ).loc Cert.KernelIdeal.main_v80_1)) (v2 : (c : Dev Cert.KernelIdeal.nD) → Buf (Elt Ideal) ((c.tc : Thread Cert.KernelIdeal.nD Cert.KernelIdeal.τ).loc Cert.KernelIdeal.main_v80_2)) (v3 : (c : Dev Cert.KernelIdeal.nD) → Buf (Elt Ideal) ((c.tc : Thread Cert.KernelIdeal.nD Cert.KernelIdeal.τ).loc Cert.KernelIdeal.main_v80_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80_0) = v0 c
          ∧ r.2.mem ((c.tc : Thread Cert.KernelIdeal.nD Cert.KernelIdeal.τ).loc Cert.KernelIdeal.main_v80_1) = v1 c
          ∧ r.2.mem ((c.tc : Thread Cert.KernelIdeal.nD Cert.KernelIdeal.τ).loc Cert.KernelIdeal.main_v80_2) = v2 c
          ∧ r.2.mem ((c.tc : Thread Cert.KernelIdeal.nD Cert.KernelIdeal.τ).loc Cert.KernelIdeal.main_v80_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v167) = v0 c
          ∧ r.2.mem ((c.tc : Thread Cert.ReferenceIdeal.nD Cert.ReferenceIdeal.τ).loc Cert.ReferenceIdeal.main_v168) = v1 c
          ∧ r.2.mem ((c.tc : Thread Cert.ReferenceIdeal.nD Cert.ReferenceIdeal.τ).loc Cert.ReferenceIdeal.main_v169) = v2 c
          ∧ r.2.mem ((c.tc : Thread Cert.ReferenceIdeal.nD Cert.ReferenceIdeal.τ).loc Cert.ReferenceIdeal.main_v166) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v14)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v14) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v17) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference2Ideal [hKernel3Ideal : Cert.Kernel3Ideal.Facts] [hReference2Ideal : Cert.Reference2Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel3Ideal m →
    (∀ c : Dev Cert.Kernel3Ideal.nD,
      m' ((c.tc : Thread Cert.Reference2Ideal.nD Cert.Reference2Ideal.τ).loc Cert.Reference2Ideal.main_arg0) = m ((c.tc : Thread Cert.Kernel3Ideal.nD Cert.Kernel3Ideal.τ).loc Cert.Kernel3Ideal.main_arg0)
      ∧ m' ((c.tc : Thread Cert.Reference2Ideal.nD Cert.Reference2Ideal.τ).loc Cert.Reference2Ideal.main_arg1) = m ((c.tc : Thread Cert.Kernel3Ideal.nD Cert.Kernel3Ideal.τ).loc Cert.Kernel3Ideal.main_arg1)
      ∧ m' ((c.tc : Thread Cert.Reference2Ideal.nD Cert.Reference2Ideal.τ).loc Cert.Reference2Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v14)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v14) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v17) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel4_Kernel4Ideal : Prop :=
  True

def algebraic_Kernel4Ideal_Reference2Ideal [hKernel4Ideal : Cert.Kernel4Ideal.Facts] [hReference2Ideal : Cert.Reference2Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel4Ideal m →
    (∀ c : Dev Cert.Kernel4Ideal.nD,
      m' ((c.tc : Thread Cert.Reference2Ideal.nD Cert.Reference2Ideal.τ).loc Cert.Reference2Ideal.main_arg0) = m ((c.tc : Thread Cert.Kernel4Ideal.nD Cert.Kernel4Ideal.τ).loc Cert.Kernel4Ideal.main_arg0)
      ∧ m' ((c.tc : Thread Cert.Reference2Ideal.nD Cert.Reference2Ideal.τ).loc Cert.Reference2Ideal.main_arg1) = m ((c.tc : Thread Cert.Kernel4Ideal.nD Cert.Kernel4Ideal.τ).loc Cert.Kernel4Ideal.main_arg1)
      ∧ m' ((c.tc : Thread Cert.Reference2Ideal.nD Cert.Reference2Ideal.τ).loc Cert.Reference2Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v14)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v14) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v17) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference5Ideal [hKernel6Ideal : Cert.Kernel6Ideal.Facts] [hReference5Ideal : Cert.Reference5Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel6Ideal m →
    (∀ c : Dev Cert.Kernel6Ideal.nD,
      m' ((c.tc : Thread Cert.Reference5Ideal.nD Cert.Reference5Ideal.τ).loc Cert.Reference5Ideal.main_arg0) = m ((c.tc : Thread Cert.Kernel6Ideal.nD Cert.Kernel6Ideal.τ).loc Cert.Kernel6Ideal.main_arg0)
      ∧ m' ((c.tc : Thread Cert.Reference5Ideal.nD Cert.Reference5Ideal.τ).loc Cert.Reference5Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference7Ideal [hKernel8Ideal : Cert.Kernel8Ideal.Facts] [hReference7Ideal : Cert.Reference7Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel8Ideal m →
    (∀ c : Dev Cert.Kernel8Ideal.nD,
      m' ((c.tc : Thread Cert.Reference7Ideal.nD Cert.Reference7Ideal.τ).loc Cert.Reference7Ideal.main_arg0) = m ((c.tc : Thread Cert.Kernel8Ideal.nD Cert.Kernel8Ideal.τ).loc Cert.Kernel8Ideal.main_arg0)
      ∧ m' ((c.tc : Thread Cert.Reference7Ideal.nD Cert.Reference7Ideal.τ).loc Cert.Reference7Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v7) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v7) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v60)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v60) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v66) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)) →
    ∃ (v0 : (c : Dev Cert.Kernel12Ideal.nD) → Buf (Elt Ideal) ((c.tc : Thread Cert.Kernel12Ideal.nD Cert.Kernel12Ideal.τ).loc Cert.Kernel12Ideal.main_v13_0)) (v1 : (c : Dev Cert.Kernel12Ideal.nD) → Buf (Elt Ideal) ((c.tc : Thread Cert.Kernel12Ideal.nD Cert.Kernel12Ideal.τ).loc Cert.Kernel12Ideal.main_v13_1)) (v2 : (c : Dev Cert.Kernel12Ideal.nD) → Buf (Elt Ideal) ((c.tc : Thread Cert.Kernel12Ideal.nD Cert.Kernel12Ideal.τ).loc Cert.Kernel12Ideal.main_v13_2)) (v3 : (c : Dev Cert.Kernel12Ideal.nD) → Buf (Elt Ideal) ((c.tc : Thread Cert.Kernel12Ideal.nD Cert.Kernel12Ideal.τ).loc Cert.Kernel12Ideal.main_v13_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v13_0) = v0 c
          ∧ r.2.mem ((c.tc : Thread Cert.Kernel12Ideal.nD Cert.Kernel12Ideal.τ).loc Cert.Kernel12Ideal.main_v13_1) = v1 c
          ∧ r.2.mem ((c.tc : Thread Cert.Kernel12Ideal.nD Cert.Kernel12Ideal.τ).loc Cert.Kernel12Ideal.main_v13_2) = v2 c
          ∧ r.2.mem ((c.tc : Thread Cert.Kernel12Ideal.nD Cert.Kernel12Ideal.τ).loc Cert.Kernel12Ideal.main_v13_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v21) = v0 c
          ∧ r.2.mem ((c.tc : Thread Cert.Reference12Ideal.nD Cert.Reference12Ideal.τ).loc Cert.Reference12Ideal.main_v22) = v1 c
          ∧ r.2.mem ((c.tc : Thread Cert.Reference12Ideal.nD Cert.Reference12Ideal.τ).loc Cert.Reference12Ideal.main_v18) = v2 c
          ∧ r.2.mem ((c.tc : Thread Cert.Reference12Ideal.nD Cert.Reference12Ideal.τ).loc Cert.Reference12Ideal.main_v24) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5))

def preserves_Kernel13_Kernel13Ideal : Prop :=
  True

def algebraic_Kernel13Ideal_Reference12Ideal [hKernel13Ideal : Cert.Kernel13Ideal.Facts] [hReference12Ideal : Cert.Reference12Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel13Ideal m →
    (∀ c : Dev Cert.Kernel13Ideal.nD,
      m' ((c.tc : Thread Cert.Reference12Ideal.nD Cert.Reference12Ideal.τ).loc Cert.Reference12Ideal.main_arg0) = m ((c.tc : Thread Cert.Kernel13Ideal.nD Cert.Kernel13Ideal.τ).loc Cert.Kernel13Ideal.main_arg0)
      ∧ m' ((c.tc : Thread Cert.Reference12Ideal.nD Cert.Reference12Ideal.τ).loc Cert.Reference12Ideal.main_arg1) = m ((c.tc : Thread Cert.Kernel13Ideal.nD Cert.Kernel13Ideal.τ).loc Cert.Kernel13Ideal.main_arg1)
      ∧ m' ((c.tc : Thread Cert.Reference12Ideal.nD Cert.Reference12Ideal.τ).loc Cert.Reference12Ideal.main_arg2) = m ((c.tc : Thread Cert.Kernel13Ideal.nD Cert.Kernel13Ideal.τ).loc Cert.Kernel13Ideal.main_arg2)
      ∧ m' ((c.tc : Thread Cert.Reference12Ideal.nD Cert.Reference12Ideal.τ).loc Cert.Reference12Ideal.main_arg3) = m ((c.tc : Thread Cert.Kernel13Ideal.nD Cert.Kernel13Ideal.τ).loc Cert.Kernel13Ideal.main_arg3)
      ∧ m' ((c.tc : Thread Cert.Reference12Ideal.nD Cert.Reference12Ideal.τ).loc Cert.Reference12Ideal.main_arg4) = m ((c.tc : Thread Cert.Kernel13Ideal.nD Cert.Kernel13Ideal.τ).loc Cert.Kernel13Ideal.main_arg4)
      ∧ m' ((c.tc : Thread Cert.Reference12Ideal.nD Cert.Reference12Ideal.τ).loc Cert.Reference12Ideal.main_arg5) = m ((c.tc : Thread Cert.Kernel13Ideal.nD Cert.Kernel13Ideal.τ).loc Cert.Kernel13Ideal.main_arg5)) →
    ∃ (v0 : (c : Dev Cert.Kernel13Ideal.nD) → Buf (Elt Ideal) ((c.tc : Thread Cert.Kernel13Ideal.nD Cert.Kernel13Ideal.τ).loc Cert.Kernel13Ideal.main_v13_0)) (v1 : (c : Dev Cert.Kernel13Ideal.nD) → Buf (Elt Ideal) ((c.tc : Thread Cert.Kernel13Ideal.nD Cert.Kernel13Ideal.τ).loc Cert.Kernel13Ideal.main_v13_1)) (v2 : (c : Dev Cert.Kernel13Ideal.nD) → Buf (Elt Ideal) ((c.tc : Thread Cert.Kernel13Ideal.nD Cert.Kernel13Ideal.τ).loc Cert.Kernel13Ideal.main_v13_2)) (v3 : (c : Dev Cert.Kernel13Ideal.nD) → Buf (Elt Ideal) ((c.tc : Thread Cert.Kernel13Ideal.nD Cert.Kernel13Ideal.τ).loc Cert.Kernel13Ideal.main_v13_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v13_0) = v0 c
          ∧ r.2.mem ((c.tc : Thread Cert.Kernel13Ideal.nD Cert.Kernel13Ideal.τ).loc Cert.Kernel13Ideal.main_v13_1) = v1 c
          ∧ r.2.mem ((c.tc : Thread Cert.Kernel13Ideal.nD Cert.Kernel13Ideal.τ).loc Cert.Kernel13Ideal.main_v13_2) = v2 c
          ∧ r.2.mem ((c.tc : Thread Cert.Kernel13Ideal.nD Cert.Kernel13Ideal.τ).loc Cert.Kernel13Ideal.main_v13_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v21) = v0 c
          ∧ r.2.mem ((c.tc : Thread Cert.Reference12Ideal.nD Cert.Reference12Ideal.τ).loc Cert.Reference12Ideal.main_v22) = v1 c
          ∧ r.2.mem ((c.tc : Thread Cert.Reference12Ideal.nD Cert.Reference12Ideal.τ).loc Cert.Reference12Ideal.main_v18) = v2 c
          ∧ r.2.mem ((c.tc : Thread Cert.Reference12Ideal.nD Cert.Reference12Ideal.τ).loc Cert.Reference12Ideal.main_v24) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)) →
    ∃ (v0 : (c : Dev Cert.Kernel15Ideal.nD) → Buf (Elt Ideal) ((c.tc : Thread Cert.Kernel15Ideal.nD Cert.Kernel15Ideal.τ).loc Cert.Kernel15Ideal.main_v7_0)) (v1 : (c : Dev Cert.Kernel15Ideal.nD) → Buf (Elt Ideal) ((c.tc : Thread Cert.Kernel15Ideal.nD Cert.Kernel15Ideal.τ).loc Cert.Kernel15Ideal.main_v7_1)) (v2 : (c : Dev Cert.Kernel15Ideal.nD) → Buf (Elt Ideal) ((c.tc : Thread Cert.Kernel15Ideal.nD Cert.Kernel15Ideal.τ).loc Cert.Kernel15Ideal.main_v7_2)) (v3 : (c : Dev Cert.Kernel15Ideal.nD) → Buf (Elt Ideal) ((c.tc : Thread Cert.Kernel15Ideal.nD Cert.Kernel15Ideal.τ).loc Cert.Kernel15Ideal.main_v7_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v7_0) = v0 c
          ∧ r.2.mem ((c.tc : Thread Cert.Kernel15Ideal.nD Cert.Kernel15Ideal.τ).loc Cert.Kernel15Ideal.main_v7_1) = v1 c
          ∧ r.2.mem ((c.tc : Thread Cert.Kernel15Ideal.nD Cert.Kernel15Ideal.τ).loc Cert.Kernel15Ideal.main_v7_2) = v2 c
          ∧ r.2.mem ((c.tc : Thread Cert.Kernel15Ideal.nD Cert.Kernel15Ideal.τ).loc Cert.Kernel15Ideal.main_v7_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v3) = v0 c
          ∧ r.2.mem ((c.tc : Thread Cert.Reference15Ideal.nD Cert.Reference15Ideal.τ).loc Cert.Reference15Ideal.main_v13) = v1 c
          ∧ r.2.mem ((c.tc : Thread Cert.Reference15Ideal.nD Cert.Reference15Ideal.τ).loc Cert.Reference15Ideal.main_v14) = v2 c
          ∧ r.2.mem ((c.tc : Thread Cert.Reference15Ideal.nD Cert.Reference15Ideal.τ).loc Cert.Reference15Ideal.main_v21) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)
      ∧ m' ((c.tc : Thread Cert.Reference16Ideal.nD Cert.Reference16Ideal.τ).loc Cert.Reference16Ideal.main_arg5) = m ((c.tc : Thread Cert.Kernel16Ideal.nD Cert.Kernel16Ideal.τ).loc Cert.Kernel16Ideal.main_arg5)
      ∧ m' ((c.tc : Thread Cert.Reference16Ideal.nD Cert.Reference16Ideal.τ).loc Cert.Reference16Ideal.main_arg6) = m ((c.tc : Thread Cert.Kernel16Ideal.nD Cert.Kernel16Ideal.τ).loc Cert.Kernel16Ideal.main_arg6)) →
    ∃ (v0 : (c : Dev Cert.Kernel16Ideal.nD) → Buf (Elt Ideal) ((c.tc : Thread Cert.Kernel16Ideal.nD Cert.Kernel16Ideal.τ).loc Cert.Kernel16Ideal.main_v7_0)) (v1 : (c : Dev Cert.Kernel16Ideal.nD) → Buf (Elt Ideal) ((c.tc : Thread Cert.Kernel16Ideal.nD Cert.Kernel16Ideal.τ).loc Cert.Kernel16Ideal.main_v7_1)) (v2 : (c : Dev Cert.Kernel16Ideal.nD) → Buf (Elt Ideal) ((c.tc : Thread Cert.Kernel16Ideal.nD Cert.Kernel16Ideal.τ).loc Cert.Kernel16Ideal.main_v7_2)) (v3 : (c : Dev Cert.Kernel16Ideal.nD) → Buf (Elt Ideal) ((c.tc : Thread Cert.Kernel16Ideal.nD Cert.Kernel16Ideal.τ).loc Cert.Kernel16Ideal.main_v7_3)) (v4 : (c : Dev Cert.Kernel16Ideal.nD) → Buf (Elt Ideal) ((c.tc : Thread Cert.Kernel16Ideal.nD Cert.Kernel16Ideal.τ).loc Cert.Kernel16Ideal.main_v7_4)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v7_0) = v0 c
          ∧ r.2.mem ((c.tc : Thread Cert.Kernel16Ideal.nD Cert.Kernel16Ideal.τ).loc Cert.Kernel16Ideal.main_v7_1) = v1 c
          ∧ r.2.mem ((c.tc : Thread Cert.Kernel16Ideal.nD Cert.Kernel16Ideal.τ).loc Cert.Kernel16Ideal.main_v7_2) = v2 c
          ∧ r.2.mem ((c.tc : Thread Cert.Kernel16Ideal.nD Cert.Kernel16Ideal.τ).loc Cert.Kernel16Ideal.main_v7_3) = v3 c
          ∧ r.2.mem ((c.tc : Thread Cert.Kernel16Ideal.nD Cert.Kernel16Ideal.τ).loc Cert.Kernel16Ideal.main_v7_4) = v4 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
          ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
          ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v3) = v0 c
          ∧ r.2.mem ((c.tc : Thread Cert.Reference16Ideal.nD Cert.Reference16Ideal.τ).loc Cert.Reference16Ideal.main_v28) = v1 c
          ∧ r.2.mem ((c.tc : Thread Cert.Reference16Ideal.nD Cert.Reference16Ideal.τ).loc Cert.Reference16Ideal.main_v29) = v2 c
          ∧ r.2.mem ((c.tc : Thread Cert.Reference16Ideal.nD Cert.Reference16Ideal.τ).loc Cert.Reference16Ideal.main_v36) = v3 c
          ∧ r.2.mem ((c.tc : Thread Cert.Reference16Ideal.nD Cert.Reference16Ideal.τ).loc Cert.Reference16Ideal.main_v37) = v4 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4)
          ∧ r.2.mem ((c.tc : Thread Cert.Reference16Ideal.nD Cert.Reference16Ideal.τ).loc Cert.Reference16Ideal.main_arg5) = m' ((c.tc : Thread Cert.Reference16Ideal.nD Cert.Reference16Ideal.τ).loc Cert.Reference16Ideal.main_arg5)
          ∧ r.2.mem ((c.tc : Thread Cert.Reference16Ideal.nD Cert.Reference16Ideal.τ).loc Cert.Reference16Ideal.main_arg6) = m' ((c.tc : Thread Cert.Reference16Ideal.nD Cert.Reference16Ideal.τ).loc Cert.Reference16Ideal.main_arg6))

def preserves_Kernel17_Kernel17Ideal : Prop :=
  True

def algebraic_Kernel17Ideal_Reference17Ideal_pre_finite17 [hKernel17Ideal : Cert.Kernel17Ideal.Facts] [hReference17Ideal : Cert.Reference17Ideal.Facts] [hPre_finite17 : Cert.Pre_finite17.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal_finite17 m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)
      ∧ m' ((c.tc : Thread Cert.Reference17Ideal.nD Cert.Reference17Ideal.τ).loc Cert.Reference17Ideal.main_arg5) = m ((c.tc : Thread Cert.Kernel17Ideal.nD Cert.Kernel17Ideal.τ).loc Cert.Kernel17Ideal.main_arg5)
      ∧ m' ((c.tc : Thread Cert.Reference17Ideal.nD Cert.Reference17Ideal.τ).loc Cert.Reference17Ideal.main_arg6) = m ((c.tc : Thread Cert.Kernel17Ideal.nD Cert.Kernel17Ideal.τ).loc Cert.Kernel17Ideal.main_arg6)) →
    ∃ (v0 : (c : Dev Cert.Kernel17Ideal.nD) → Buf (Elt Ideal) ((c.tc : Thread Cert.Kernel17Ideal.nD Cert.Kernel17Ideal.τ).loc Cert.Kernel17Ideal.main_v12_0)) (v1 : (c : Dev Cert.Kernel17Ideal.nD) → Buf (Elt Ideal) ((c.tc : Thread Cert.Kernel17Ideal.nD Cert.Kernel17Ideal.τ).loc Cert.Kernel17Ideal.main_v12_1)) (v2 : (c : Dev Cert.Kernel17Ideal.nD) → Buf (Elt Ideal) ((c.tc : Thread Cert.Kernel17Ideal.nD Cert.Kernel17Ideal.τ).loc Cert.Kernel17Ideal.main_v12_2)) (v3 : (c : Dev Cert.Kernel17Ideal.nD) → Buf (Elt Ideal) ((c.tc : Thread Cert.Kernel17Ideal.nD Cert.Kernel17Ideal.τ).loc Cert.Kernel17Ideal.main_v12_3)) (v4 : (c : Dev Cert.Kernel17Ideal.nD) → Buf (Elt Ideal) ((c.tc : Thread Cert.Kernel17Ideal.nD Cert.Kernel17Ideal.τ).loc Cert.Kernel17Ideal.main_v12_4)) (v5 : (c : Dev Cert.Kernel17Ideal.nD) → Buf (Elt Ideal) ((c.tc : Thread Cert.Kernel17Ideal.nD Cert.Kernel17Ideal.τ).loc Cert.Kernel17Ideal.main_v12_5)) (v6 : (c : Dev Cert.Kernel17Ideal.nD) → Buf (Elt Ideal) ((c.tc : Thread Cert.Kernel17Ideal.nD Cert.Kernel17Ideal.τ).loc Cert.Kernel17Ideal.main_v12_6)) (v7 : (c : Dev Cert.Kernel17Ideal.nD) → Buf (Elt Ideal) ((c.tc : Thread Cert.Kernel17Ideal.nD Cert.Kernel17Ideal.τ).loc Cert.Kernel17Ideal.main_v12_7)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v12_0) = v0 c
          ∧ r.2.mem ((c.tc : Thread Cert.Kernel17Ideal.nD Cert.Kernel17Ideal.τ).loc Cert.Kernel17Ideal.main_v12_1) = v1 c
          ∧ r.2.mem ((c.tc : Thread Cert.Kernel17Ideal.nD Cert.Kernel17Ideal.τ).loc Cert.Kernel17Ideal.main_v12_2) = v2 c
          ∧ r.2.mem ((c.tc : Thread Cert.Kernel17Ideal.nD Cert.Kernel17Ideal.τ).loc Cert.Kernel17Ideal.main_v12_3) = v3 c
          ∧ r.2.mem ((c.tc : Thread Cert.Kernel17Ideal.nD Cert.Kernel17Ideal.τ).loc Cert.Kernel17Ideal.main_v12_4) = v4 c
          ∧ r.2.mem ((c.tc : Thread Cert.Kernel17Ideal.nD Cert.Kernel17Ideal.τ).loc Cert.Kernel17Ideal.main_v12_5) = v5 c
          ∧ r.2.mem ((c.tc : Thread Cert.Kernel17Ideal.nD Cert.Kernel17Ideal.τ).loc Cert.Kernel17Ideal.main_v12_6) = v6 c
          ∧ r.2.mem ((c.tc : Thread Cert.Kernel17Ideal.nD Cert.Kernel17Ideal.τ).loc Cert.Kernel17Ideal.main_v12_7) = v7 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
          ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
          ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v62) = v0 c
          ∧ r.2.mem ((c.tc : Thread Cert.Reference17Ideal.nD Cert.Reference17Ideal.τ).loc Cert.Reference17Ideal.main_v63) = v1 c
          ∧ r.2.mem ((c.tc : Thread Cert.Reference17Ideal.nD Cert.Reference17Ideal.τ).loc Cert.Reference17Ideal.main_v64) = v2 c
          ∧ r.2.mem ((c.tc : Thread Cert.Reference17Ideal.nD Cert.Reference17Ideal.τ).loc Cert.Reference17Ideal.main_v65) = v3 c
          ∧ r.2.mem ((c.tc : Thread Cert.Reference17Ideal.nD Cert.Reference17Ideal.τ).loc Cert.Reference17Ideal.main_v66) = v4 c
          ∧ r.2.mem ((c.tc : Thread Cert.Reference17Ideal.nD Cert.Reference17Ideal.τ).loc Cert.Reference17Ideal.main_v67) = v5 c
          ∧ r.2.mem ((c.tc : Thread Cert.Reference17Ideal.nD Cert.Reference17Ideal.τ).loc Cert.Reference17Ideal.main_v68) = v6 c
          ∧ r.2.mem ((c.tc : Thread Cert.Reference17Ideal.nD Cert.Reference17Ideal.τ).loc Cert.Reference17Ideal.main_v69) = v7 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4)
          ∧ r.2.mem ((c.tc : Thread Cert.Reference17Ideal.nD Cert.Reference17Ideal.τ).loc Cert.Reference17Ideal.main_arg5) = m' ((c.tc : Thread Cert.Reference17Ideal.nD Cert.Reference17Ideal.τ).loc Cert.Reference17Ideal.main_arg5)
          ∧ r.2.mem ((c.tc : Thread Cert.Reference17Ideal.nD Cert.Reference17Ideal.τ).loc Cert.Reference17Ideal.main_arg6) = m' ((c.tc : Thread Cert.Reference17Ideal.nD Cert.Reference17Ideal.τ).loc Cert.Reference17Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hKernel4 : Cert.Kernel4.Facts) (hKernel4Ideal : Cert.Kernel4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hPre_finite : Cert.Pre_finite.Facts) (hPre_finite17 : Cert.Pre_finite17.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel4 (hKernel4 := hKernel4)
    ∧ quiescent_Kernel4Ideal (hKernel4Ideal := hKernel4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Kernel17Ideal_pre_finite17 (hKernel17Ideal := hKernel17Ideal) (hPre_finite17 := hPre_finite17)
    ∧ quiescent_Reference17Ideal (hReference17Ideal := hReference17Ideal)
    ∧ quiescent_Reference17Ideal_pre_finite17 (hReference17Ideal := hReference17Ideal) (hPre_finite17 := hPre_finite17)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference2Ideal (hKernel3Ideal := hKernel3Ideal) (hReference2Ideal := hReference2Ideal)
    ∧ preserves_Kernel4_Kernel4Ideal
    ∧ algebraic_Kernel4Ideal_Reference2Ideal (hKernel4Ideal := hKernel4Ideal) (hReference2Ideal := hReference2Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference5Ideal (hKernel6Ideal := hKernel6Ideal) (hReference5Ideal := hReference5Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference7Ideal (hKernel8Ideal := hKernel8Ideal) (hReference7Ideal := hReference7Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference12Ideal (hKernel13Ideal := hKernel13Ideal) (hReference12Ideal := hReference12Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal_pre_finite17 (hKernel17Ideal := hKernel17Ideal) (hReference17Ideal := hReference17Ideal) (hPre_finite17 := hPre_finite17)
-- ==== Pre_finite.lean ====
abbrev S2048x1024 : Shape := ⟨2, ![2048, 1024]⟩
abbrev S1x1024 : Shape := ⟨2, ![1, 1024]⟩
abbrev S1024x2048 : Shape := ⟨2, ![1024, 2048]⟩
abbrev S4x256x256 : Shape := ⟨3, ![4, 256, 256]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x2048 : S_.BroadcastsInDim S1024x2048 (![] : Fin 0 → Fin S1024x2048.rank)
  reducesTo_S1024x2048_S_d0_1 : S1024x2048.ReducesTo [0, 1] S_
  bcast_S_S4x256x256 : S_.BroadcastsInDim S4x256x256 (![] : Fin 0 → Fin S4x256x256.rank)
  reducesTo_S4x256x256_S_d0_1_2 : S4x256x256.ReducesTo [0, 1, 2] S_

variable [Facts]

def fn_part1 {F : FTy → Type} [FloatOps F] (main_arg4 : FVec F S1x1024 .f32) (main_arg5 : FVec F S2048x1024 .f32) (main_arg6 : FVec F S2048x1024 .f32) (main_v3 : IVec S_ 1) (main_v7 : IVec S_ 1) (main_v11 : IVec S_ 1) (main_v15 : IVec S_ 1) : IVec S_ 1 :=
  let main_v16 : FVec F S1x1024 .f32 := Host.absf main_arg4
  let main_cst_6 : FVec F S_ .f32 := constant S_ .f32 0x7F800000#32
  let main_v17 : FVec F S1x1024 .f32 := broadcastInDim S1x1024 ![] bcast_S_S1x1024 main_cst_6
  let main_v18 : IVec S1x1024 1 := cmpf .olt main_v16 main_v17
  let main_c_7 : IVec S_ 1 := constantI S_ 1 1#1
  let main_v19 : IVec S_ 1 := (fun x v => Host.reduce IntOp.andi x v reducesTo_S1x1024_S_d0_1 h_S_) main_v18 main_c_7
  let main_v20 : FVec F S2048x1024 .f32 := Host.absf main_arg5
  let main_cst_8 : FVec F S_ .f32 := constant S_ .f32 0x7F800000#32
  let main_v21 : FVec F S2048x1024 .f32 := broadcastInDim S2048x1024 ![] bcast_S_S2048x1024 main_cst_8
  let main_v22 : IVec S2048x1024 1 := cmpf .olt main_v20 main_v21
  let main_c_9 : IVec S_ 1 := constantI S_ 1 1#1
  let main_v23 : IVec S_ 1 := (fun x v => Host.reduce IntOp.andi x v reducesTo_S2048x1024_S_d0_1 h_S_) main_v22 main_c_9
  let main_v24 : FVec F S2048x1024 .f32 := Host.absf main_arg6
  let main_cst_10 : FVec F S_ .f32 := constant S_ .f32 0x7F800000#32
  let main_v25 : FVec F S2048x1024 .f32 := broadcastInDim S2048x1024 ![] bcast_S_S2048x1024 main_cst_10
  let main_v26 : IVec S2048x1024 1 := cmpf .olt main_v24 main_v25
  let main_c_11 : IVec S_ 1 := constantI S_ 1 1#1
  let main_v27 : IVec S_ 1 := (fun x v => Host.reduce IntOp.andi x v reducesTo_S2048x1024_S_d0_1 h_S_) main_v26 main_c_11
  let main_v28 : IVec S_ 1 := andi main_v3 main_v7
  let main_v29 : IVec S_ 1 := andi main_v28 main_v11
  let main_v30 : IVec S_ 1 := andi main_v29 main_v15
  let main_v31 : IVec S_ 1 := andi main_v30 main_v19
  let main_v32 : IVec S_ 1 := andi main_v31 main_v23
  let main_v33 : IVec S_ 1 := andi main_v32 main_v27
  main_v33

def fn {F : FTy → Type} [FloatOps F] (main_arg0 : FVec F S2048x1024 .f32) (main_arg1 : FVec F S1x1024 .f32) (main_arg2 : FVec F S1024x2048 .f32) (main_arg3 : FVec F S4x256x256 .f32) (main_arg4 : FVec F S1x1024 .f32) (main_arg5 : FVec F S2048x1024 .f32) (main_arg6 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : FVec F S1024x2048 .f32 := Host.absf main_arg2
  let main_cst_2 : FVec F S_ .f32 := constant S_ .f32 0x7F800000#32
  let main_v9 : FVec F S1024x2048 .f32 := broadcastInDim S1024x2048 ![] bcast_S_S1024x2048 main_cst_2
  let main_v10 : IVec S1024x2048 1 := cmpf .olt main_v8 main_v9
  let main_c_3 : IVec S_ 1 := constantI S_ 1 1#1
  let main_v11 : IVec S_ 1 := (fun x v => Host.reduce IntOp.andi x v reducesTo_S1024x2048_S_d0_1 h_S_) main_v10 main_c_3
  let main_v12 : FVec F S4x256x256 .f32 := Host.absf main_arg3
  let main_cst_4 : FVec F S_ .f32 := constant S_ .f32 0x7F800000#32
  let main_v13 : FVec F S4x256x256 .f32 := broadcastInDim S4x256x256 ![] bcast_S_S4x256x256 main_cst_4
  let main_v14 : IVec S4x256x256 1 := cmpf .olt main_v12 main_v13
  let main_c_5 : IVec S_ 1 := constantI S_ 1 1#1
  let main_v15 : IVec S_ 1 := (fun x v => Host.reduce IntOp.andi x v reducesTo_S4x256x256_S_d0_1_2 h_S_) main_v14 main_c_5
  fn_part1 (F := F) main_arg4 main_arg5 main_arg6 main_v3 main_v7 main_v11 main_v15
-- ==== Pre_finite17.lean ====
abbrev S2048x1024 : Shape := ⟨2, ![2048, 1024]⟩
abbrev S1x1024 : Shape := ⟨2, ![1, 1024]⟩
abbrev S1x64 : Shape := ⟨2, ![1, 64]⟩
abbrev S1024x2048 : Shape := ⟨2, ![1024, 2048]⟩
abbrev S_ : Shape := ⟨0, ![]⟩

class Facts : Prop where
  bcast_S_S1x1024 : S_.BroadcastsInDim S1x1024 (![] : Fin 0 → Fin S1x1024.rank)
  reducesTo_S1x1024_S_d0_1 : S1x1024.ReducesTo [0, 1] S_
  h_S_ : 0 < S_.numel
  bcast_S_S1024x2048 : S_.BroadcastsInDim S1024x2048 (![] : Fin 0 → Fin S1024x2048.rank)
  reducesTo_S1024x2048_S_d0_1 : S1024x2048.ReducesTo [0, 1] S_

variable [Facts]

def fn_part1 {F : FTy → Type} [FloatOps F] (main_v3 : IVec S_ 1) (main_v7 : IVec S_ 1) (main_v11 : IVec S_ 1) (main_v15 : IVec S_ 1) : IVec S_ 1 :=
  let main_v16 : IVec S_ 1 := andi main_v3 main_v7
  let main_v17 : IVec S_ 1 := andi main_v16 main_v11
  let main_v18 : IVec S_ 1 := andi main_v17 main_v15
  main_v18

def fn {F : FTy → Type} [FloatOps F] (main_arg0 : FVec F S2048x1024 .f32) (main_arg1 : FVec F S1x1024 .f32) (main_arg2 : FVec F S1x1024 .f32) (main_arg3 : FVec F S1x64 .f32) (main_arg4 : FVec F S1x64 .f32) (main_arg5 : FVec F S1024x2048 .f32) (main_arg6 : FVec F S1024x2048 .f32) : IVec S_ 1 :=
  let main_v0 : FVec F S1x1024 .f32 := Host.absf main_arg1
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_c : IVec S_ 1 := constantI S_ 1 1#1
  let main_v3 : IVec S_ 1 := (fun x v => Host.reduce IntOp.andi x v reducesTo_S1x1024_S_d0_1 h_S_) main_v2 main_c
  let main_v4 : FVec F S1x1024 .f32 := Host.absf main_arg2
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : FVec F S1024x2048 .f32 := Host.absf main_arg5
  let main_cst_2 : FVec F S_ .f32 := constant S_ .f32 0x7F800000#32
  let main_v9 : FVec F S1024x2048 .f32 := broadcastInDim S1024x2048 ![] bcast_S_S1024x2048 main_cst_2
  let main_v10 : IVec S1024x2048 1 := cmpf .olt main_v8 main_v9
  let main_c_3 : IVec S_ 1 := constantI S_ 1 1#1
  let main_v11 : IVec S_ 1 := (fun x v => Host.reduce IntOp.andi x v reducesTo_S1024x2048_S_d0_1 h_S_) main_v10 main_c_3
  let main_v12 : FVec F S1024x2048 .f32 := Host.absf main_arg6
  let main_cst_4 : FVec F S_ .f32 := constant S_ .f32 0x7F800000#32
  let main_v13 : FVec F S1024x2048 .f32 := broadcastInDim S1024x2048 ![] bcast_S_S1024x2048 main_cst_4
  let main_v14 : IVec S1024x2048 1 := cmpf .olt main_v12 main_v13
  let main_c_5 : IVec S_ 1 := constantI S_ 1 1#1
  let main_v15 : IVec S_ 1 := (fun x v => Host.reduce IntOp.andi x v reducesTo_S1024x2048_S_d0_1 h_S_) main_v14 main_c_5
  fn_part1 (F := F) main_v3 main_v7 main_v11 main_v15
-- ==== Kernel.lean ====
abbrev S2048x1024 : Shape := ⟨2, ![2048, 1024]⟩
abbrev S1x1024 : Shape := ⟨2, ![1, 1024]⟩
abbrev S1024x2048 : Shape := ⟨2, ![1024, 2048]⟩
abbrev S4x256x256 : Shape := ⟨3, ![4, 256, 256]⟩
abbrev S_ : Shape := ⟨0, ![]⟩
abbrev S2048 : Shape := ⟨1, ![2048]⟩
abbrev S2048x1 : Shape := ⟨2, ![2048, 1]⟩
abbrev S2048x2048 : Shape := ⟨2, ![2048, 2048]⟩
abbrev S2048x4x256 : Shape := ⟨3, ![2048, 4, 256]⟩
abbrev S16x4x256 : Shape := ⟨3, ![16, 4, 256]⟩
abbrev S2064x4x256 : Shape := ⟨3, ![2064, 4, 256]⟩
abbrev S2048x1x256 : Shape := ⟨3, ![2048, 1, 256]⟩
abbrev S2048x256 : Shape := ⟨2, ![2048, 256]⟩
abbrev S1024x4x512 : Shape := ⟨3, ![1024, 4, 512]⟩
abbrev S4x1024x512 : Shape := ⟨3, ![4, 1024, 512]⟩
abbrev S4x4x64x256 : Shape := ⟨4, ![4, 4, 64, 256]⟩
abbrev S8x1024 : Shape := ⟨2, ![8, 1024]⟩
abbrev S256x1024 : Shape := ⟨2, ![256, 1024]⟩
abbrev S256x2048 : Shape := ⟨2, ![256, 2048]⟩
abbrev S256x256 : Shape := ⟨2, ![256, 256]⟩
abbrev S1x1x64x256 : Shape := ⟨4, ![1, 1, 64, 256]⟩
abbrev S64x256 : Shape := ⟨2, ![64, 256]⟩
abbrev S1x256 : Shape := ⟨2, ![1, 256]⟩
abbrev S256 : Shape := ⟨1, ![256]⟩
abbrev S256x1 : Shape := ⟨2, ![256, 1]⟩
abbrev S256x512 : Shape := ⟨2, ![256, 512]⟩
abbrev S1x1024x512 : Shape := ⟨3, ![1, 1024, 512]⟩
abbrev S1024x512 : Shape := ⟨2, ![1024, 512]⟩
abbrev S1024 : Shape := ⟨1, ![1024]⟩

abbrev nBuf : Space → Nat
  | .hbm => 102
  | .vmem => 23
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x2048, .f32⟩
  | .hbm, ⟨3, _⟩ => ⟨S4x256x256, .f32⟩
  | .hbm, ⟨4, _⟩ => ⟨S1x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x2048, .f32⟩
  | .hbm, ⟨23, _⟩ => ⟨S2048x1024, .f32⟩
  | .hbm, ⟨24, _⟩ => ⟨S2048x4x256, .f32⟩
  | .hbm, ⟨25, _⟩ => ⟨S_, .f32⟩
  | .hbm, ⟨26, _⟩ => ⟨S_, .f32⟩
  | .hbm, ⟨27, _⟩ => ⟨S2048x4x256, .f32⟩
  | .hbm, ⟨28, _⟩ => ⟨S_, .f32⟩
  | .hbm, ⟨29, _⟩ => ⟨S16x4x256, .f32⟩
  | .hbm, ⟨30, _⟩ => ⟨S2064x4x256, .f32⟩
  | .hbm, ⟨31, _⟩ => ⟨S2048, .i32⟩
  | .hbm, ⟨32, _⟩ => ⟨S_, .i32⟩
  | .hbm, ⟨33, _⟩ => ⟨S2048, .i32⟩
  | .hbm, ⟨34, _⟩ => ⟨S2048, .i32⟩
  | .hbm, ⟨35, _⟩ => ⟨S2048x1x256, .f32⟩
  | .hbm, ⟨36, _⟩ => ⟨S2048x256, .f32⟩
  | .hbm, ⟨37, _⟩ => ⟨S_, .i32⟩
  | .hbm, ⟨38, _⟩ => ⟨S2048, .i32⟩
  | .hbm, ⟨39, _⟩ => ⟨S2048, .i32⟩
  | .hbm, ⟨40, _⟩ => ⟨S2048, .f32⟩
  | .hbm, ⟨41, _⟩ => ⟨S2048x1, .f32⟩
  | .hbm, ⟨42, _⟩ => ⟨S2048x1x256, .f32⟩
  | .hbm, ⟨43, _⟩ => ⟨S2048x256, .f32⟩
  | .hbm, ⟨44, _⟩ => ⟨S2048x256, .f32⟩
  | .hbm, ⟨45, _⟩ => ⟨S2048x256, .f32⟩
  | .hbm, ⟨46, _⟩ => ⟨S2048x256, .f32⟩
  | .hbm, ⟨47, _⟩ => ⟨S2048x1x256, .f32⟩
  | .hbm, ⟨48, _⟩ => ⟨S2048x256, .f32⟩
  | .hbm, ⟨49, _⟩ => ⟨S_, .i32⟩
  | .hbm, ⟨50, _⟩ => ⟨S2048, .i32⟩
  | .hbm, ⟨51, _⟩ => ⟨S2048, .i32⟩
  | .hbm, ⟨52, _⟩ => ⟨S2048, .f32⟩
  | .hbm, ⟨53, _⟩ => ⟨S2048x1, .f32⟩
  | .hbm, ⟨54, _⟩ => ⟨S2048x1x256, .f32⟩
  | .hbm, ⟨55, _⟩ => ⟨S2048x256, .f32⟩
  | .hbm, ⟨56, _⟩ => ⟨S2048x256, .f32⟩
  | .hbm, ⟨57, _⟩ => ⟨S2048x256, .f32⟩
  | .hbm, ⟨58, _⟩ => ⟨S2048x256, .f32⟩
  | .hbm, ⟨59, _⟩ => ⟨S2048x1x256, .f32⟩
  | .hbm, ⟨60, _⟩ => ⟨S2048x256, .f32⟩
  | .hbm, ⟨61, _⟩ => ⟨S_, .i32⟩
  | .hbm, ⟨62, _⟩ => ⟨S2048, .i32⟩
  | .hbm, ⟨63, _⟩ => ⟨S2048, .i32⟩
  | .hbm, ⟨64, _⟩ => ⟨S2048, .f32⟩
  | .hbm, ⟨65, _⟩ => ⟨S2048x1, .f32⟩
  | .hbm, ⟨66, _⟩ => ⟨S2048x1x256, .f32⟩
  | .hbm, ⟨67, _⟩ => ⟨S2048x256, .f32⟩
  | .hbm, ⟨68, _⟩ => ⟨S2048x256, .f32⟩
  | .hbm, ⟨69, _⟩ => ⟨S2048x256, .f32⟩
  | .hbm, ⟨70, _⟩ => ⟨S2048x256, .f32⟩
  | .hbm, ⟨71, _⟩ => ⟨S2048x1x256, .f32⟩
  | .hbm, ⟨72, _⟩ => ⟨S2048x256, .f32⟩
  | .hbm, ⟨73, _⟩ => ⟨S_, .i32⟩
  | .hbm, ⟨74, _⟩ => ⟨S2048, .i32⟩
  | .hbm, ⟨75, _⟩ => ⟨S2048, .i32⟩
  | .hbm, ⟨76, _⟩ => ⟨S2048, .f32⟩
  | .hbm, ⟨77, _⟩ => ⟨S2048x1, .f32⟩
  | .hbm, ⟨78, _⟩ => ⟨S2048x1x256, .f32⟩
  | .hbm, ⟨79, _⟩ => ⟨S2048x256, .f32⟩
  | .hbm, ⟨80, _⟩ => ⟨S2048x256, .f32⟩
  | .hbm, ⟨81, _⟩ => ⟨S2048x256, .f32⟩
  | .hbm, ⟨82, _⟩ => ⟨S2048x256, .f32⟩
  | .hbm, ⟨83, _⟩ => ⟨S2048x1x256, .f32⟩
  | .hbm, ⟨84, _⟩ => ⟨S2048x1x256, .f32⟩
  | .hbm, ⟨85, _⟩ => ⟨S2048x1x256, .f32⟩
  | .hbm, ⟨86, _⟩ => ⟨S2048x1x256, .f32⟩
  | .hbm, ⟨87, _⟩ => ⟨S2048x4x256, .f32⟩
  | .hbm, ⟨88, _⟩ => ⟨S2048x4x256, .f32⟩
  | .hbm, ⟨89, _⟩ => ⟨S2048x1024, .f32⟩
  | .hbm, ⟨90, _⟩ => ⟨S2048x1024, .bf16⟩
  | .hbm, ⟨91, _⟩ => ⟨S1024x4x512, .f32⟩
  | .hbm, ⟨92, _⟩ => ⟨S4x1024x512, .f32⟩
  | .hbm, ⟨93, _⟩ => ⟨S4x1024x512, .bf16⟩
  | .hbm, ⟨94, _⟩ => ⟨S4x4x64x256, .f32⟩
  | .hbm, ⟨95, _⟩ => ⟨S4x4x64x256, .f32⟩
  | .hbm, ⟨96, _⟩ => ⟨S4x4x64x256, .bf16⟩
  | .hbm, ⟨97, _⟩ => ⟨S2048x1024, .bf16⟩
  | .hbm, ⟨98, _⟩ => ⟨S2048x2048, .bf16⟩
  | .hbm, ⟨99, _⟩ => ⟨S2048x1024, .bf16⟩
  | .hbm, ⟨100, _⟩ => ⟨S2048x1024, .f32⟩
  | .hbm, ⟨101, _⟩ => ⟨S8x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .f32⟩
  | .local _ .vmem, ⟨3, _⟩ => ⟨S256x1024, .f32⟩
  | .local _ .vmem, ⟨4, _⟩ => ⟨S256x1024, .bf16⟩
  | .local _ .vmem, ⟨5, _⟩ => ⟨S256x1024, .bf16⟩
  | .local _ .vmem, ⟨6, _⟩ => ⟨S4x4x64x256, .bf16⟩
  | .local _ .vmem, ⟨7, _⟩ => ⟨S1x1024, .f32⟩
  | .local _ .vmem, ⟨8, _⟩ => ⟨S4x1024x512, .bf16⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S1x1024, .f32⟩
  | .local _ .vmem, ⟨14, _⟩ => ⟨S256x2048, .bf16⟩
  | .local _ .vmem, ⟨15, _⟩ => ⟨S256x2048, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .f32⟩
  | .local _ .vmem, ⟨19, _⟩ => ⟨S256x1024, .f32⟩
  | .local _ .vmem, ⟨20, _⟩ => ⟨S8x1024, .f32⟩
  | .local _ .vmem, ⟨21, _⟩ => ⟨S256x1024, .bf16⟩
  | .local _ .vmem, ⟨22, _⟩ => ⟨S256x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_call0_call0_cst : Ref sig .tc := ⟨.hbm, 25, rfl⟩
abbrev main_call0_call0_v0 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_3 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_c_4 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_c_5 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_c_6 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80_0 : Ref sig .tc := ⟨.hbm, 98, rfl⟩
abbrev main_v80_1 : Ref sig .tc := ⟨.hbm, 99, rfl⟩
abbrev main_v80_2 : Ref sig .tc := ⟨.hbm, 100, rfl⟩
abbrev main_v80_3 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_scratch0 : Ref sig .tc := ⟨.vmem, 21, rfl⟩
abbrev cc0_scratch1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c1_i32 : BitVec 32 := 1#32
  let c0_i32 : BitVec 32 := 0#32
  ![v0.toNat, c1_i32.toNat]

def cc0_transform_2 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x4x64x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceIdeal.lean ====
abbrev S2048x1024 : Shape := ⟨2, ![2048, 1024]⟩
abbrev S1x1024 : Shape := ⟨2, ![1, 1024]⟩
abbrev S1024x2048 : Shape := ⟨2, ![1024, 2048]⟩
abbrev S4x256x256 : Shape := ⟨3, ![4, 256, 256]⟩
abbrev S_ : Shape := ⟨0, ![]⟩
abbrev S2048 : Shape := ⟨1, ![2048]⟩
abbrev S2048x1 : Shape := ⟨2, ![2048, 1]⟩
abbrev S2048x2048 : Shape := ⟨2, ![2048, 2048]⟩
abbrev S2048x4x256 : Shape := ⟨3, ![2048, 4, 256]⟩
abbrev S16x4x256 : Shape := ⟨3, ![16, 4, 256]⟩
abbrev S2064x4x256 : Shape := ⟨3, ![2064, 4, 256]⟩
abbrev S2048x1x256 : Shape := ⟨3, ![2048, 1, 256]⟩
abbrev S2048x256 : Shape := ⟨2, ![2048, 256]⟩
abbrev S4x256x2048 : Shape := ⟨3, ![4, 256, 2048]⟩
abbrev S1024 : Shape := ⟨1, ![1024]⟩
abbrev S4x2048x256 : Shape := ⟨3, ![4, 2048, 256]⟩
abbrev S6x1024 : Shape := ⟨2, ![6, 1024]⟩
abbrev S8x1024 : Shape := ⟨2, ![8, 1024]⟩

abbrev nBuf : Space → Nat
  | .hbm => 221
  | .vmem => 0
  | .smem => 0
  | _ => 0

abbrev hbmTy0_0 (i : Nat) : BufTy := match i % 128 with
  | 0 => ⟨S2048x1024, .f32⟩
  | 1 => ⟨S1x1024, .f32⟩
  | 2 => ⟨S1024x2048, .f32⟩
  | 3 => ⟨S4x256x256, .f32⟩
  | 4 => ⟨S1x1024, .f32⟩
  | 5 => ⟨S2048x1024, .f32⟩
  | 6 => ⟨S2048x1024, .f32⟩
  | 7 => ⟨S2048x1024, .f32⟩
  | 8 => ⟨S_, .f32⟩
  | 9 => ⟨S2048, .f32⟩
  | 10 => ⟨S2048x1, .f32⟩
  | 11 => ⟨S_, .f32⟩
  | 12 => ⟨S2048x1, .f32⟩
  | 13 => ⟨S2048x1, .f32⟩
  | 14 => ⟨S_, .f32⟩
  | 15 => ⟨S2048x1, .f32⟩
  | 16 => ⟨S2048x1, .f32⟩
  | 17 => ⟨S2048x1, .f32⟩
  | 18 => ⟨S2048x1, .f32⟩
  | 19 => ⟨S_, .f32⟩
  | 20 => ⟨S2048x1, .f32⟩
  | 21 => ⟨S2048x1, .f32⟩
  | 22 => ⟨S2048x1024, .f32⟩
  | 23 => ⟨S2048x1024, .f32⟩
  | 24 => ⟨S2048x1024, .f32⟩
  | 25 => ⟨S2048x1024, .f32⟩
  | 26 => ⟨S2048x2048, .f32⟩
  | 27 => ⟨S2048x1024, .f32⟩
  | 28 => ⟨S2048x1024, .f32⟩
  | 29 => ⟨S2048x4x256, .f32⟩
  | 30 => ⟨S_, .f32⟩
  | 31 => ⟨S_, .f32⟩
  | 32 => ⟨S2048x4x256, .f32⟩
  | 33 => ⟨S_, .f32⟩
  | 34 => ⟨S16x4x256, .f32⟩
  | 35 => ⟨S2064x4x256, .f32⟩
  | 36 => ⟨S_, .f32⟩
  | 37 => ⟨S16x4x256, .f32⟩
  | 38 => ⟨S2048, .i32⟩
  | 39 => ⟨S_, .i32⟩
  | 40 => ⟨S2048, .i32⟩
  | 41 => ⟨S2048, .i32⟩
  | 42 => ⟨S2048x1x256, .f32⟩
  | 43 => ⟨S2048x256, .f32⟩
  | 44 => ⟨S_, .i32⟩
  | 45 => ⟨S2048, .i32⟩
  | 46 => ⟨S2048, .i32⟩
  | 47 => ⟨S2048, .f32⟩
  | 48 => ⟨S2048x1, .f32⟩
  | 49 => ⟨S2048x1x256, .f32⟩
  | 50 => ⟨S2048x256, .f32⟩
  | 51 => ⟨S2048x256, .f32⟩
  | 52 => ⟨S2048x256, .f32⟩
  | 53 => ⟨S2048x256, .f32⟩
  | 54 => ⟨S2048x1x256, .f32⟩
  | 55 => ⟨S2048x256, .f32⟩
  | 56 => ⟨S_, .i32⟩
  | 57 => ⟨S2048, .i32⟩
  | 58 => ⟨S2048, .i32⟩
  | 59 => ⟨S2048, .f32⟩
  | 60 => ⟨S2048x1, .f32⟩
  | 61 => ⟨S2048x1x256, .f32⟩
  | 62 => ⟨S2048x256, .f32⟩
  | 63 => ⟨S2048x256, .f32⟩
  | 64 => ⟨S2048x256, .f32⟩
  | 65 => ⟨S2048x256, .f32⟩
  | 66 => ⟨S2048x1x256, .f32⟩
  | 67 => ⟨S2048x256, .f32⟩
  | 68 => ⟨S_, .i32⟩
  | 69 => ⟨S2048, .i32⟩
  | 70 => ⟨S2048, .i32⟩
  | 71 => ⟨S2048, .f32⟩
  | 72 => ⟨S2048x1, .f32⟩
  | 73 => ⟨S2048x1x256, .f32⟩
  | 74 => ⟨S2048x256, .f32⟩
  | 75 => ⟨S2048x256, .f32⟩
  | 76 => ⟨S2048x256, .f32⟩
  | 77 => ⟨S2048x256, .f32⟩
  | 78 => ⟨S2048x1x256, .f32⟩
  | 79 => ⟨S2048x256, .f32⟩
  | 80 => ⟨S_, .i32⟩
  | 81 => ⟨S2048, .i32⟩
  | 82 => ⟨S2048, .i32⟩
  | 83 => ⟨S2048, .f32⟩
  | 84 => ⟨S2048x1, .f32⟩
  | 85 => ⟨S2048x1x256, .f32⟩
  | 86 => ⟨S2048x256, .f32⟩
  | 87 => ⟨S2048x256, .f32⟩
  | 88 => ⟨S2048x256, .f32⟩
  | 89 => ⟨S2048x256, .f32⟩
  | 90 => ⟨S2048x1x256, .f32⟩
  | 91 => ⟨S2048x1x256, .f32⟩
  | 92 => ⟨S2048x1x256, .f32⟩
  | 93 => ⟨S2048x1x256, .f32⟩
  | 94 => ⟨S2048x4x256, .f32⟩
  | 95 => ⟨S2048x4x256, .f32⟩
  | 96 => ⟨S4x256x2048, .f32⟩
  | 97 => ⟨S2048x4x256, .f32⟩
  | 98 => ⟨S2048x1024, .f32⟩
  | 99 => ⟨S2048x1024, .f32⟩
  | 100 => ⟨S2048x1024, .f32⟩
  | 101 => ⟨S2048x1024, .f32⟩
  | 102 => ⟨S2048x1024, .f32⟩
  | 103 => ⟨S_, .f32⟩
  | 104 => ⟨S2048x1024, .f32⟩
  | 105 => ⟨S2048x1024, .f32⟩
  | 106 => ⟨S_, .f32⟩
  | 107 => ⟨S2048x1024, .f32⟩
  | 108 => ⟨S2048x1024, .f32⟩
  | 109 => ⟨S_, .f32⟩
  | 110 => ⟨S2048x1024, .f32⟩
  | 111 => ⟨S2048x1024, .f32⟩
  | 112 => ⟨S2048x1024, .f32⟩
  | 113 => ⟨S2048x1024, .f32⟩
  | 114 => ⟨S2048x1024, .f32⟩
  | 115 => ⟨S2048x1024, .f32⟩
  | 116 => ⟨S2048x1024, .f32⟩
  | 117 => ⟨S2048x1024, .f32⟩
  | 118 => ⟨S2048x1024, .f32⟩
  | 119 => ⟨S2048x1024, .f32⟩
  | 120 => ⟨S2048x1024, .f32⟩
  | 121 => ⟨S2048x1024, .f32⟩
  | 122 => ⟨S_, .f32⟩
  | 123 => ⟨S1024, .f32⟩
  | 124 => ⟨S1x1024, .f32⟩
  | 125 => ⟨S2048x1024, .f32⟩
  | 126 => ⟨S2048x1024, .f32⟩
  | 127 => ⟨S2048x4x256, .f32⟩
  | _ => ⟨S2048x1024, .f32⟩

abbrev hbmTy0_1 (i : Nat) : BufTy := match i % 128 with
  | 0 => ⟨S4x256x2048, .f32⟩
  | 1 => ⟨S4x2048x256, .f32⟩
  | 2 => ⟨S2048x4x256, .f32⟩
  | 3 => ⟨S2048x4x256, .f32⟩
  | 4 => ⟨S2048x1x256, .f32⟩
  | 5 => ⟨S2048x256, .f32⟩
  | 6 => ⟨S2048x1x256, .f32⟩
  | 7 => ⟨S2048x256, .f32⟩
  | 8 => ⟨S2048x1x256, .f32⟩
  | 9 => ⟨S2048x256, .f32⟩
  | 10 => ⟨S2048x1x256, .f32⟩
  | 11 => ⟨S2048x256, .f32⟩
  | 12 => ⟨S2048x256, .f32⟩
  | 13 => ⟨S2048x256, .f32⟩
  | 14 => ⟨S2048x256, .f32⟩
  | 15 => ⟨S2048x1x256, .f32⟩
  | 16 => ⟨S_, .f32⟩
  | 17 => ⟨S2048x4x256, .f32⟩
  | 18 => ⟨S2048x1x256, .f32⟩
  | 19 => ⟨S_, .f32⟩
  | 20 => ⟨S2064x4x256, .f32⟩
  | 21 => ⟨S2048x256, .f32⟩
  | 22 => ⟨S2048x256, .f32⟩
  | 23 => ⟨S2048x256, .f32⟩
  | 24 => ⟨S2048x1x256, .f32⟩
  | 25 => ⟨S_, .f32⟩
  | 26 => ⟨S2048x4x256, .f32⟩
  | 27 => ⟨S2048x4x256, .f32⟩
  | 28 => ⟨S2048x1x256, .f32⟩
  | 29 => ⟨S_, .f32⟩
  | 30 => ⟨S2064x4x256, .f32⟩
  | 31 => ⟨S2064x4x256, .f32⟩
  | 32 => ⟨S2048x256, .f32⟩
  | 33 => ⟨S2048x256, .f32⟩
  | 34 => ⟨S2048x256, .f32⟩
  | 35 => ⟨S2048x1x256, .f32⟩
  | 36 => ⟨S_, .f32⟩
  | 37 => ⟨S2048x4x256, .f32⟩
  | 38 => ⟨S2048x4x256, .f32⟩
  | 39 => ⟨S2048x1x256, .f32⟩
  | 40 => ⟨S_, .f32⟩
  | 41 => ⟨S2064x4x256, .f32⟩
  | 42 => ⟨S2064x4x256, .f32⟩
  | 43 => ⟨S2048x256, .f32⟩
  | 44 => ⟨S2048x256, .f32⟩
  | 45 => ⟨S2048x256, .f32⟩
  | 46 => ⟨S2048x1x256, .f32⟩
  | 47 => ⟨S_, .f32⟩
  | 48 => ⟨S2048x4x256, .f32⟩
  | 49 => ⟨S2048x4x256, .f32⟩
  | 50 => ⟨S2048x1x256, .f32⟩
  | 51 => ⟨S_, .f32⟩
  | 52 => ⟨S2064x4x256, .f32⟩
  | 53 => ⟨S2064x4x256, .f32⟩
  | 54 => ⟨S16x4x256, .f32⟩
  | 55 => ⟨S2048x4x256, .f32⟩
  | 56 => ⟨S2048x4x256, .f32⟩
  | 57 => ⟨S_, .f32⟩
  | 58 => ⟨S_, .f32⟩
  | 59 => ⟨S2048x4x256, .f32⟩
  | 60 => ⟨S2048x4x256, .f32⟩
  | 61 => ⟨S2048x1024, .f32⟩
  | 62 => ⟨S2048x2048, .f32⟩
  | 63 => ⟨S2048x1024, .f32⟩
  | 64 => ⟨S2048x1024, .f32⟩
  | 65 => ⟨S_, .f32⟩
  | 66 => ⟨S1024, .f32⟩
  | 67 => ⟨S1x1024, .f32⟩
  | 68 => ⟨S2048x1024, .f32⟩
  | 69 => ⟨S2048x1024, .f32⟩
  | 70 => ⟨S2048x1024, .f32⟩
  | 71 => ⟨S_, .f32⟩
  | 72 => ⟨S2048, .f32⟩
  | 73 => ⟨S2048x1, .f32⟩
  | 74 => ⟨S2048x1024, .f32⟩
  | 75 => ⟨S2048x1024, .f32⟩
  | 76 => ⟨S2048x1, .f32⟩
  | 77 => ⟨S_, .f32⟩
  | 78 => ⟨S2048x1, .f32⟩
  | 79 => ⟨S2048x1, .f32⟩
  | 80 => ⟨S_, .f32⟩
  | 81 => ⟨S2048, .f32⟩
  | 82 => ⟨S2048x1024, .f32⟩
  | 83 => ⟨S2048x1024, .f32⟩
  | 84 => ⟨S2048x1024, .f32⟩
  | 85 => ⟨S2048x1024, .f32⟩
  | 86 => ⟨S2048x1024, .f32⟩
  | 87 => ⟨S_, .f32⟩
  | 88 => ⟨S6x1024, .f32⟩
  | 89 => ⟨S8x1024, .f32⟩
  | 90 => ⟨S2048x2048, .bf16⟩
  | 91 => ⟨S2048x1024, .bf16⟩
  | 92 => ⟨S2048x1024, .f32⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_call0_call0_cst : Ref sig .tc := ⟨.hbm, 30, rfl⟩
abbrev main_call0_call0_v0 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_c : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_5 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_c_6 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_c_7 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_c_8 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_call1_v0 : Ref sig .tc := ⟨.hbm, 101, rfl⟩
abbrev main_call1_v1 : Ref sig .tc := ⟨.hbm, 102, rfl⟩
abbrev main_call1_cst : Ref sig .tc := ⟨.hbm, 103, rfl⟩
abbrev main_call1_v2 : Ref sig .tc := ⟨.hbm, 104, rfl⟩
abbrev main_call1_v3 : Ref sig .tc := ⟨.hbm, 105, rfl⟩
abbrev main_call1_cst_0 : Ref sig .tc := ⟨.hbm, 106, rfl⟩
abbrev main_call1_v4 : Ref sig .tc := ⟨.hbm, 107, rfl⟩
abbrev main_v81_2 : Ref sig .tc := ⟨.hbm, 108, rfl⟩
abbrev main_call1_cst_1 : Ref sig .tc := ⟨.hbm, 109, rfl⟩
abbrev main_call1_v6 : Ref sig .tc := ⟨.hbm, 110, rfl⟩
abbrev main_call1_v7 : Ref sig .tc := ⟨.hbm, 111, rfl⟩
abbrev main_v81_1 : Ref sig .tc := ⟨.hbm, 112, rfl⟩
abbrev main_v81_0 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_call2_v0 : Ref sig .tc := ⟨.hbm, 117, rfl⟩
abbrev main_call2_v1 : Ref sig .tc := ⟨.hbm, 118, rfl⟩
abbrev main_call2_v2 : Ref sig .tc := ⟨.hbm, 119, rfl⟩
abbrev main_v85 : Ref sig .tc := ⟨.hbm, 120, rfl⟩
abbrev main_v86 : Ref sig .tc := ⟨.hbm, 121, rfl⟩
abbrev main_cst_9 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_cst_10 : Ref sig .tc := ⟨.hbm, 144, rfl⟩
abbrev main_v108 : Ref sig .tc := ⟨.hbm, 145, rfl⟩
abbrev main_v109 : Ref sig .tc := ⟨.hbm, 146, rfl⟩
abbrev main_cst_11 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_cst_12 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_cst_13 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_cst_14 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_cst_15 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_cst_16 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_cst_17 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_call3_call0_cst : Ref sig .tc := ⟨.hbm, 185, rfl⟩
abbrev main_call3_call0_v0 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩
abbrev main_cst_18 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩
abbrev main_cst_19 : Ref sig .tc := ⟨.hbm, 199, rfl⟩
abbrev main_v152 : Ref sig .tc := ⟨.hbm, 200, rfl⟩
abbrev main_v153 : Ref sig .tc := ⟨.hbm, 201, rfl⟩
abbrev main_v154 : Ref sig .tc := ⟨.hbm, 202, rfl⟩
abbrev main_v155 : Ref sig .tc := ⟨.hbm, 203, rfl⟩
abbrev main_v156 : Ref sig .tc := ⟨.hbm, 204, rfl⟩
abbrev main_cst_20 : Ref sig .tc := ⟨.hbm, 205, rfl⟩
abbrev main_v157 : Ref sig .tc := ⟨.hbm, 206, rfl⟩
abbrev main_v158 : Ref sig .tc := ⟨.hbm, 207, rfl⟩
abbrev main_cst_21 : Ref sig .tc := ⟨.hbm, 208, rfl⟩
abbrev main_v159 : Ref sig .tc := ⟨.hbm, 209, rfl⟩
abbrev main_v160 : Ref sig .tc := ⟨.hbm, 210, rfl⟩
abbrev main_v161 : Ref sig .tc := ⟨.hbm, 211, rfl⟩
abbrev main_v162 : Ref sig .tc := ⟨.hbm, 212, rfl⟩
abbrev main_v163 : Ref sig .tc := ⟨.hbm, 213, rfl⟩
abbrev main_v164 : Ref sig .tc := ⟨.hbm, 214, rfl⟩
abbrev main_cst_22 : Ref sig .tc := ⟨.hbm, 215, rfl⟩
abbrev main_v165 : Ref sig .tc := ⟨.hbm, 216, rfl⟩
abbrev main_v166 : Ref sig .tc := ⟨.hbm, 217, rfl⟩
abbrev main_v167 : Ref sig .tc := ⟨.hbm, 218, rfl⟩
abbrev main_v168 : Ref sig .tc := ⟨.hbm, 219, rfl⟩
abbrev main_v169 : Ref sig .tc := ⟨.hbm, 220, rfl⟩

abbrev nD : Nat := 1
abbrev τ : Topo := Topo.v7x

variable {F : FTy → Type} [FloatOps F]
-- ==== Kernel2.lean ====
abbrev S2048x1024 : Shape := ⟨2, ![2048, 1024]⟩
abbrev S1x1024 : Shape := ⟨2, ![1, 1024]⟩
abbrev S2048x2048 : Shape := ⟨2, ![2048, 2048]⟩
abbrev S_ : Shape := ⟨0, ![]⟩
abbrev S2048 : Shape := ⟨1, ![2048]⟩
abbrev S2048x1 : Shape := ⟨2, ![2048, 1]⟩
abbrev S4x1024x512 : Shape := ⟨3, ![4, 1024, 512]⟩
abbrev S1024x512 : Shape := ⟨2, ![1024, 512]⟩
abbrev S1024x2048 : Shape := ⟨2, ![1024, 2048]⟩
abbrev S4x512x512 : Shape := ⟨3, ![4, 512, 512]⟩
abbrev S512x2048 : Shape := ⟨2, ![512, 2048]⟩
abbrev S512x512 : Shape := ⟨2, ![512, 512]⟩
abbrev S1x512x512 : Shape := ⟨3, ![1, 512, 512]⟩

abbrev nBuf : Space → Nat
  | .hbm => 21
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x2048, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .bf16⟩
  | .hbm, ⟨19, _⟩ => ⟨S2048x2048, .bf16⟩
  | .hbm, ⟨20, _⟩ => ⟨S4x1024x512, .f32⟩
  | .local _ .vmem, ⟨0, _⟩ => ⟨S1024x512, .bf16⟩
  | .local _ .vmem, ⟨1, _⟩ => ⟨S1024x512, .bf16⟩
  | .local _ .vmem, ⟨2, _⟩ => ⟨S1024x2048, .bf16⟩
  | .local _ .vmem, ⟨3, _⟩ => ⟨S1024x2048, .bf16⟩
  | .local _ .vmem, ⟨4, _⟩ => ⟨S4x512x512, .f32⟩
  | .local _ .vmem, ⟨5, _⟩ => ⟨S4x512x512, .f32⟩
  | .local _ .vmem, ⟨6, _⟩ => ⟨S512x2048, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def k0_cond2 (i : grid0.Coords) : BitVec 1 :=
  let arg1 : BitVec 32 := BitVec.ofNat 32 (i 1).val
  let c1_i32 : BitVec 32 := 1#32
  let v13 : BitVec 1 := Scalar.cmpi .eq arg1 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference2Ideal.lean ====
abbrev S2048x1024 : Shape := ⟨2, ![2048, 1024]⟩
abbrev S1x1024 : Shape := ⟨2, ![1, 1024]⟩
abbrev S2048x2048 : Shape := ⟨2, ![2048, 2048]⟩
abbrev S_ : Shape := ⟨0, ![]⟩
abbrev S1024x2048 : Shape := ⟨2, ![1024, 2048]⟩
abbrev S2048 : Shape := ⟨1, ![2048]⟩
abbrev S2048x1 : Shape := ⟨2, ![2048, 1]⟩
abbrev S1024x4x512 : Shape := ⟨3, ![1024, 4, 512]⟩
abbrev S4x1024x512 : Shape := ⟨3, ![4, 1024, 512]⟩

abbrev nBuf : Space → Nat
  | .hbm => 25
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x2048, .f32⟩
  | .hbm, ⟨3, _⟩ => ⟨S_, .f32⟩
  | .hbm, ⟨4, _⟩ => ⟨S1024x2048, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x2048, .f32⟩
  | .hbm, ⟨21, _⟩ => ⟨S2048x1024, .f32⟩
  | .hbm, ⟨22, _⟩ => ⟨S1024x2048, .f32⟩
  | .hbm, ⟨23, _⟩ => ⟨S1024x4x512, .f32⟩
  | .hbm, ⟨24, _⟩ => ⟨S4x1024x512, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel3.lean ====
abbrev S2048x1024 : Shape := ⟨2, ![2048, 1024]⟩
abbrev S1x1024 : Shape := ⟨2, ![1, 1024]⟩
abbrev S2048x2048 : Shape := ⟨2, ![2048, 2048]⟩
abbrev S_ : Shape := ⟨0, ![]⟩
abbrev S2048 : Shape := ⟨1, ![2048]⟩
abbrev S2048x1 : Shape := ⟨2, ![2048, 1]⟩
abbrev S4x1024x512 : Shape := ⟨3, ![4, 1024, 512]⟩
abbrev S1024x512 : Shape := ⟨2, ![1024, 512]⟩
abbrev S1024x2048 : Shape := ⟨2, ![1024, 2048]⟩
abbrev S4x512x512 : Shape := ⟨3, ![4, 512, 512]⟩
abbrev S512x2048 : Shape := ⟨2, ![512, 2048]⟩
abbrev S512x512 : Shape := ⟨2, ![512, 512]⟩
abbrev S1x512x512 : Shape := ⟨3, ![1, 512, 512]⟩

abbrev nBuf : Space → Nat
  | .hbm => 21
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x2048, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .bf16⟩
  | .hbm, ⟨19, _⟩ => ⟨S2048x2048, .bf16⟩
  | .hbm, ⟨20, _⟩ => ⟨S4x1024x512, .f32⟩
  | .local _ .vmem, ⟨0, _⟩ => ⟨S1024x512, .bf16⟩
  | .local _ .vmem, ⟨1, _⟩ => ⟨S1024x512, .bf16⟩
  | .local _ .vmem, ⟨2, _⟩ => ⟨S1024x2048, .bf16⟩
  | .local _ .vmem, ⟨3, _⟩ => ⟨S1024x2048, .bf16⟩
  | .local _ .vmem, ⟨4, _⟩ => ⟨S4x512x512, .f32⟩
  | .local _ .vmem, ⟨5, _⟩ => ⟨S4x512x512, .f32⟩
  | .local _ .vmem, ⟨6, _⟩ => ⟨S512x2048, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def k0_cond2 (i : grid0.Coords) : BitVec 1 :=
  let arg1 : BitVec 32 := BitVec.ofNat 32 (i 1).val
  let c1_i32 : BitVec 32 := 1#32
  let v13 : BitVec 1 := Scalar.cmpi .eq arg1 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Kernel4.lean ====
abbrev S2048x1024 : Shape := ⟨2, ![2048, 1024]⟩
abbrev S1x1024 : Shape := ⟨2, ![1, 1024]⟩
abbrev S2048x2048 : Shape := ⟨2, ![2048, 2048]⟩
abbrev S_ : Shape := ⟨0, ![]⟩
abbrev S2048 : Shape := ⟨1, ![2048]⟩
abbrev S2048x1 : Shape := ⟨2, ![2048, 1]⟩
abbrev S4x1024x512 : Shape := ⟨3, ![4, 1024, 512]⟩
abbrev S1024x512 : Shape := ⟨2, ![1024, 512]⟩
abbrev S1024x2048 : Shape := ⟨2, ![1024, 2048]⟩
abbrev S4x512x512 : Shape := ⟨3, ![4, 512, 512]⟩
abbrev S512x2048 : Shape := ⟨2, ![512, 2048]⟩
abbrev S512x512 : Shape := ⟨2, ![512, 512]⟩
abbrev S1x512x512 : Shape := ⟨3, ![1, 512, 512]⟩

abbrev nBuf : Space → Nat
  | .hbm => 21
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x2048, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .bf16⟩
  | .hbm, ⟨19, _⟩ => ⟨S2048x2048, .bf16⟩
  | .hbm, ⟨20, _⟩ => ⟨S4x1024x512, .f32⟩
  | .local _ .vmem, ⟨0, _⟩ => ⟨S1024x512, .bf16⟩
  | .local _ .vmem, ⟨1, _⟩ => ⟨S1024x512, .bf16⟩
  | .local _ .vmem, ⟨2, _⟩ => ⟨S1024x2048, .bf16⟩
  | .local _ .vmem, ⟨3, _⟩ => ⟨S1024x2048, .bf16⟩
  | .local _ .vmem, ⟨4, _⟩ => ⟨S4x512x512, .f32⟩
  | .local _ .vmem, ⟨5, _⟩ => ⟨S4x512x512, .f32⟩
  | .local _ .vmem, ⟨6, _⟩ => ⟨S512x2048, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def k0_cond2 (i : grid0.Coords) : BitVec 1 :=
  let arg1 : BitVec 32 := BitVec.ofNat 32 (i 1).val
  let c1_i32 : BitVec 32 := 1#32
  let v13 : BitVec 1 := Scalar.cmpi .eq arg1 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Kernel5.lean ====
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .bf16⟩
  | .hbm, ⟨3, _⟩ => ⟨S1x1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1x1024x1024, .f32⟩
  | .local _ .vmem, ⟨5, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 2], ![false, false]⟩

def k0_cond2 (i : grid0.Coords) : BitVec 1 :=
  let arg1 : BitVec 32 := BitVec.ofNat 32 (i 1).val
  let c1_i32 : BitVec 32 := 1#32
  let v13 : BitVec 1 := Scalar.cmpi .eq arg1 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference5Ideal.lean ====
abbrev S2048x1024 : Shape := ⟨2, ![2048, 1024]⟩
abbrev S_ : Shape := ⟨0, ![]⟩
abbrev S1024x1024 : Shape := ⟨2, ![1024, 1024]⟩
abbrev S1x1024x1024 : Shape := ⟨3, ![1, 1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S_, .f32⟩
  | .hbm, ⟨3, _⟩ => ⟨S1024x1024, .f32⟩
  | .hbm, ⟨4, _⟩ => ⟨S2048x1024, .f32⟩
  | .hbm, ⟨5, _⟩ => ⟨S1024x1024, .f32⟩
  | .hbm, ⟨6, _⟩ => ⟨S1024x1024, .f32⟩
  | .hbm, ⟨7, _⟩ => ⟨S1x1024x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel6.lean ====
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .bf16⟩
  | .hbm, ⟨3, _⟩ => ⟨S1x1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1x1024x1024, .f32⟩
  | .local _ .vmem, ⟨5, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 2], ![false, false]⟩

def k0_cond2 (i : grid0.Coords) : BitVec 1 :=
  let arg1 : BitVec 32 := BitVec.ofNat 32 (i 1).val
  let c1_i32 : BitVec 32 := 1#32
  let v13 : BitVec 1 := Scalar.cmpi .eq arg1 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Kernel7.lean ====
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .bf16⟩
  | .hbm, ⟨3, _⟩ => ⟨S1x1024x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .f32⟩
  | .local _ .vmem, ⟨5, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 2], ![false, false]⟩

def k0_cond2 (i : grid0.Coords) : BitVec 1 :=
  let arg1 : BitVec 32 := BitVec.ofNat 32 (i 1).val
  let c1_i32 : BitVec 32 := 1#32
  let v13 : BitVec 1 := Scalar.cmpi .eq arg1 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference7Ideal.lean ====
abbrev S2048x1024 : Shape := ⟨2, ![2048, 1024]⟩
abbrev S_ : Shape := ⟨0, ![]⟩
abbrev S1024x1024 : Shape := ⟨2, ![1024, 1024]⟩
abbrev S1x1024x1024 : Shape := ⟨3, ![1, 1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S_, .f32⟩
  | .hbm, ⟨3, _⟩ => ⟨S1024x1024, .f32⟩
  | .hbm, ⟨4, _⟩ => ⟨S2048x1024, .f32⟩
  | .hbm, ⟨5, _⟩ => ⟨S1024x1024, .f32⟩
  | .hbm, ⟨6, _⟩ => ⟨S1024x1024, .f32⟩
  | .hbm, ⟨7, _⟩ => ⟨S1x1024x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel8.lean ====
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .bf16⟩
  | .hbm, ⟨3, _⟩ => ⟨S1x1024x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .f32⟩
  | .local _ .vmem, ⟨5, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 2], ![false, false]⟩

def k0_cond2 (i : grid0.Coords) : BitVec 1 :=
  let arg1 : BitVec 32 := BitVec.ofNat 32 (i 1).val
  let c1_i32 : BitVec 32 := 1#32
  let v13 : BitVec 1 := Scalar.cmpi .eq arg1 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Kernel9.lean ====
abbrev S2x1x2048x256 : Shape := ⟨4, ![2, 1, 2048, 256]⟩
abbrev S2048x1024 : Shape := ⟨2, ![2048, 1024]⟩
abbrev S4x256x256 : Shape := ⟨3, ![4, 256, 256]⟩
abbrev S1x1x1024x256 : Shape := ⟨4, ![1, 1, 1024, 256]⟩
abbrev S1024x1024 : Shape := ⟨2, ![1024, 1024]⟩
abbrev S256x1024 : Shape := ⟨2, ![256, 1024]⟩
abbrev S1024x256 : Shape := ⟨2, ![1024, 256]⟩
abbrev S256x256 : Shape := ⟨2, ![256, 256]⟩
abbrev S1x256x256 : Shape := ⟨3, ![1, 256, 256]⟩

abbrev nBuf : Space → Nat
  | .hbm => 4
  | .vmem => 6
  | .smem => 0
  | _ => 0

abbrev bufTy : (tb : Table) → Fin (tcTables nBuf tb) → BufTy
  | .hbm, ⟨0, _⟩ => ⟨S2x1x2048x256, .f32⟩
  | .hbm, ⟨1, _⟩ => ⟨S2048x1024, .f32⟩
  | .hbm, ⟨2, _⟩ => ⟨S2048x1024, .bf16⟩
  | .hbm, ⟨3, _⟩ => ⟨S4x256x256, .f32⟩
  | .local _ .vmem, ⟨0, _⟩ => ⟨S1x1x1024x256, .f32⟩
  | .local _ .vmem, ⟨1, _⟩ => ⟨S1x1x1024x256, .f32⟩
  | .local _ .vmem, ⟨2, _⟩ => ⟨S1024x1024, .bf16⟩
  | .local _ .vmem, ⟨3, _⟩ => ⟨S1024x1024, .bf16⟩
  | .local _ .vmem, ⟨4, _⟩ => ⟨S4x256x256, .f32⟩
  | .local _ .vmem, ⟨5, _⟩ => ⟨S256x1024, .f32⟩
  | _, _ => ⟨S2x1x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 2], ![false, false]⟩

def k0_cond2 (i : grid0.Coords) : BitVec 1 :=
  let arg1 : BitVec 32 := BitVec.ofNat 32 (i 1).val
  let c1_i32 : BitVec 32 := 1#32
  let v14 : BitVec 1 := Scalar.cmpi .eq arg1 c1_i32
  let v15 : BitVec 32 := Scalar.extui v14
  let c0_i32_10 : BitVec 32 := 0#32
  let v16 : BitVec 1 := Scalar.cmpi .ne v15 c0_i32_10
  v16

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, arg1.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S4x256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference9Ideal.lean ====
abbrev S2x1x2048x256 : Shape := ⟨4, ![2, 1, 2048, 256]⟩
abbrev S2048x1024 : Shape := ⟨2, ![2048, 1024]⟩
abbrev S_ : Shape := ⟨0, ![]⟩
abbrev S256x1024 : Shape := ⟨2, ![256, 1024]⟩
abbrev S1x1x2048x256 : Shape := ⟨4, ![1, 1, 2048, 256]⟩
abbrev S2048x256 : Shape := ⟨2, ![2048, 256]⟩
abbrev S1024x256 : Shape := ⟨2, ![1024, 256]⟩
abbrev S256x4x256 : Shape := ⟨3, ![256, 4, 256]⟩
abbrev S4x256x256 : Shape := ⟨3, ![4, 256, 256]⟩

abbrev nBuf : Space → Nat
  | .hbm => 11
  | .vmem => 0
  | .smem => 0
  | _ => 0

abbrev bufTy : (tb : Table) → Fin (tcTables nBuf tb) → BufTy
  | .hbm, ⟨0, _⟩ => ⟨S2x1x2048x256, .f32⟩
  | .hbm, ⟨1, _⟩ => ⟨S2048x1024, .f32⟩
  | .hbm, ⟨2, _⟩ => ⟨S_, .f32⟩
  | .hbm, ⟨3, _⟩ => ⟨S256x1024, .f32⟩
  | .hbm, ⟨4, _⟩ => ⟨S1x1x2048x256, .f32⟩
  | .hbm, ⟨5, _⟩ => ⟨S2048x256, .f32⟩
  | .hbm, ⟨6, _⟩ => ⟨S2048x1024, .f32⟩
  | .hbm, ⟨7, _⟩ => ⟨S1024x256, .f32⟩
  | .hbm, ⟨8, _⟩ => ⟨S256x1024, .f32⟩
  | .hbm, ⟨9, _⟩ => ⟨S256x4x256, .f32⟩
  | .hbm, ⟨10, _⟩ => ⟨S4x256x256, .f32⟩
  | _, _ => ⟨S2x1x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel10.lean ====
abbrev S2x1x2048x256 : Shape := ⟨4, ![2, 1, 2048, 256]⟩
abbrev S2048x1024 : Shape := ⟨2, ![2048, 1024]⟩
abbrev S4x256x256 : Shape := ⟨3, ![4, 256, 256]⟩
abbrev S1x1x1024x256 : Shape := ⟨4, ![1, 1, 1024, 256]⟩
abbrev S1024x1024 : Shape := ⟨2, ![1024, 1024]⟩
abbrev S256x1024 : Shape := ⟨2, ![256, 1024]⟩
abbrev S1024x256 : Shape := ⟨2, ![1024, 256]⟩
abbrev S256x256 : Shape := ⟨2, ![256, 256]⟩
abbrev S1x256x256 : Shape := ⟨3, ![1, 256, 256]⟩

abbrev nBuf : Space → Nat
  | .hbm => 4
  | .vmem => 6
  | .smem => 0
  | _ => 0

abbrev bufTy : (tb : Table) → Fin (tcTables nBuf tb) → BufTy
  | .hbm, ⟨0, _⟩ => ⟨S2x1x2048x256, .f32⟩
  | .hbm, ⟨1, _⟩ => ⟨S2048x1024, .f32⟩
  | .hbm, ⟨2, _⟩ => ⟨S2048x1024, .bf16⟩
  | .hbm, ⟨3, _⟩ => ⟨S4x256x256, .f32⟩
  | .local _ .vmem, ⟨0, _⟩ => ⟨S1x1x1024x256, .f32⟩
  | .local _ .vmem, ⟨1, _⟩ => ⟨S1x1x1024x256, .f32⟩
  | .local _ .vmem, ⟨2, _⟩ => ⟨S1024x1024, .bf16⟩
  | .local _ .vmem, ⟨3, _⟩ => ⟨S1024x1024, .bf16⟩
  | .local _ .vmem, ⟨4, _⟩ => ⟨S4x256x256, .f32⟩
  | .local _ .vmem, ⟨5, _⟩ => ⟨S256x1024, .f32⟩
  | _, _ => ⟨S2x1x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 2], ![false, false]⟩

def k0_cond2 (i : grid0.Coords) : BitVec 1 :=
  let arg1 : BitVec 32 := BitVec.ofNat 32 (i 1).val
  let c1_i32 : BitVec 32 := 1#32
  let v14 : BitVec 1 := Scalar.cmpi .eq arg1 c1_i32
  let v15 : BitVec 32 := Scalar.extui v14
  let c0_i32_10 : BitVec 32 := 0#32
  let v16 : BitVec 1 := Scalar.cmpi .ne v15 c0_i32_10
  v16

def cc0_transform_0 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S4x256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference10Ideal.lean ====
abbrev S2x1x2048x256 : Shape := ⟨4, ![2, 1, 2048, 256]⟩
abbrev S2048x1024 : Shape := ⟨2, ![2048, 1024]⟩
abbrev S_ : Shape := ⟨0, ![]⟩
abbrev S256x1024 : Shape := ⟨2, ![256, 1024]⟩
abbrev S1x1x2048x256 : Shape := ⟨4, ![1, 1, 2048, 256]⟩
abbrev S2048x256 : Shape := ⟨2, ![2048, 256]⟩
abbrev S1024x256 : Shape := ⟨2, ![1024, 256]⟩
abbrev S256x4x256 : Shape := ⟨3, ![256, 4, 256]⟩
abbrev S4x256x256 : Shape := ⟨3, ![4, 256, 256]⟩

abbrev nBuf : Space → Nat
  | .hbm => 11
  | .vmem => 0
  | .smem => 0
  | _ => 0

abbrev bufTy : (tb : Table) → Fin (tcTables nBuf tb) → BufTy
  | .hbm, ⟨0, _⟩ => ⟨S2x1x2048x256, .f32⟩
  | .hbm, ⟨1, _⟩ => ⟨S2048x1024, .f32⟩
  | .hbm, ⟨2, _⟩ => ⟨S_, .f32⟩
  | .hbm, ⟨3, _⟩ => ⟨S256x1024, .f32⟩
  | .hbm, ⟨4, _⟩ => ⟨S1x1x2048x256, .f32⟩
  | .hbm, ⟨5, _⟩ => ⟨S2048x256, .f32⟩
  | .hbm, ⟨6, _⟩ => ⟨S2048x1024, .f32⟩
  | .hbm, ⟨7, _⟩ => ⟨S1024x256, .f32⟩
  | .hbm, ⟨8, _⟩ => ⟨S256x1024, .f32⟩
  | .hbm, ⟨9, _⟩ => ⟨S256x4x256, .f32⟩
  | .hbm, ⟨10, _⟩ => ⟨S4x256x256, .f32⟩
  | _, _ => ⟨S2x1x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel11.lean ====
abbrev S2048x1024 : Shape := ⟨2, ![2048, 1024]⟩
abbrev S2048x4x256 : Shape := ⟨3, ![2048, 4, 256]⟩
abbrev S_ : Shape := ⟨0, ![]⟩
abbrev S16x4x256 : Shape := ⟨3, ![16, 4, 256]⟩
abbrev S2064x4x256 : Shape := ⟨3, ![2064, 4, 256]⟩
abbrev S2048 : Shape := ⟨1, ![2048]⟩
abbrev S2048x1x256 : Shape := ⟨3, ![2048, 1, 256]⟩
abbrev S2048x256 : Shape := ⟨2, ![2048, 256]⟩
abbrev S2048x1 : Shape := ⟨2, ![2048, 1]⟩
abbrev S4x4x64x256 : Shape := ⟨4, ![4, 4, 64, 256]⟩
abbrev S1024x256 : Shape := ⟨2, ![1024, 256]⟩
abbrev S4x1x64x256 : Shape := ⟨4, ![4, 1, 64, 256]⟩
abbrev S256x256 : Shape := ⟨2, ![256, 256]⟩
abbrev S64x256 : Shape := ⟨2, ![64, 256]⟩
abbrev S1x1x64x256 : Shape := ⟨4, ![1, 1, 64, 256]⟩

abbrev nBuf : Space → Nat
  | .hbm => 71
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x4x256, .f32⟩
  | .hbm, ⟨3, _⟩ => ⟨S_, .f32⟩
  | .hbm, ⟨4, _⟩ => ⟨S_, .f32⟩
  | .hbm, ⟨5, _⟩ => ⟨S2048x4x256, .f32⟩
  | .hbm, ⟨6, _⟩ => ⟨S_, .f32⟩
  | .hbm, ⟨7, _⟩ => ⟨S16x4x256, .f32⟩
  | .hbm, ⟨8, _⟩ => ⟨S2064x4x256, .f32⟩
  | .hbm, ⟨9, _⟩ => ⟨S2048, .i32⟩
  | .hbm, ⟨10, _⟩ => ⟨S_, .i32⟩
  | .hbm, ⟨11, _⟩ => ⟨S2048, .i32⟩
  | .hbm, ⟨12, _⟩ => ⟨S2048, .i32⟩
  | .hbm, ⟨13, _⟩ => ⟨S2048x1x256, .f32⟩
  | .hbm, ⟨14, _⟩ => ⟨S2048x256, .f32⟩
  | .hbm, ⟨15, _⟩ => ⟨S_, .i32⟩
  | .hbm, ⟨16, _⟩ => ⟨S2048, .i32⟩
  | .hbm, ⟨17, _⟩ => ⟨S2048, .i32⟩
  | .hbm, ⟨18, _⟩ => ⟨S2048, .f32⟩
  | .hbm, ⟨19, _⟩ => ⟨S2048x1, .f32⟩
  | .hbm, ⟨20, _⟩ => ⟨S2048x1x256, .f32⟩
  | .hbm, ⟨21, _⟩ => ⟨S2048x256, .f32⟩
  | .hbm, ⟨22, _⟩ => ⟨S2048x256, .f32⟩
  | .hbm, ⟨23, _⟩ => ⟨S2048x256, .f32⟩
  | .hbm, ⟨24, _⟩ => ⟨S2048x256, .f32⟩
  | .hbm, ⟨25, _⟩ => ⟨S2048x1x256, .f32⟩
  | .hbm, ⟨26, _⟩ => ⟨S2048x256, .f32⟩
  | .hbm, ⟨27, _⟩ => ⟨S_, .i32⟩
  | .hbm, ⟨28, _⟩ => ⟨S2048, .i32⟩
  | .hbm, ⟨29, _⟩ => ⟨S2048, .i32⟩
  | .hbm, ⟨30, _⟩ => ⟨S2048, .f32⟩
  | .hbm, ⟨31, _⟩ => ⟨S2048x1, .f32⟩
  | .hbm, ⟨32, _⟩ => ⟨S2048x1x256, .f32⟩
  | .hbm, ⟨33, _⟩ => ⟨S2048x256, .f32⟩
  | .hbm, ⟨34, _⟩ => ⟨S2048x256, .f32⟩
  | .hbm, ⟨35, _⟩ => ⟨S2048x256, .f32⟩
  | .hbm, ⟨36, _⟩ => ⟨S2048x256, .f32⟩
  | .hbm, ⟨37, _⟩ => ⟨S2048x1x256, .f32⟩
  | .hbm, ⟨38, _⟩ => ⟨S2048x256, .f32⟩
  | .hbm, ⟨39, _⟩ => ⟨S_, .i32⟩
  | .hbm, ⟨40, _⟩ => ⟨S2048, .i32⟩
  | .hbm, ⟨41, _⟩ => ⟨S2048, .i32⟩
  | .hbm, ⟨42, _⟩ => ⟨S2048, .f32⟩
  | .hbm, ⟨43, _⟩ => ⟨S2048x1, .f32⟩
  | .hbm, ⟨44, _⟩ => ⟨S2048x1x256, .f32⟩
  | .hbm, ⟨45, _⟩ => ⟨S2048x256, .f32⟩
  | .hbm, ⟨46, _⟩ => ⟨S2048x256, .f32⟩
  | .hbm, ⟨47, _⟩ => ⟨S2048x256, .f32⟩
  | .hbm, ⟨48, _⟩ => ⟨S2048x256, .f32⟩
  | .hbm, ⟨49, _⟩ => ⟨S2048x1x256, .f32⟩
  | .hbm, ⟨50, _⟩ => ⟨S2048x256, .f32⟩
  | .hbm, ⟨51, _⟩ => ⟨S_, .i32⟩
  | .hbm, ⟨52, _⟩ => ⟨S2048, .i32⟩
  | .hbm, ⟨53, _⟩ => ⟨S2048, .i32⟩
  | .hbm, ⟨54, _⟩ => ⟨S2048, .f32⟩
  | .hbm, ⟨55, _⟩ => ⟨S2048x1, .f32⟩
  | .hbm, ⟨56, _⟩ => ⟨S2048x1x256, .f32⟩
  | .hbm, ⟨57, _⟩ => ⟨S2048x256, .f32⟩
  | .hbm, ⟨58, _⟩ => ⟨S2048x256, .f32⟩
  | .hbm, ⟨59, _⟩ => ⟨S2048x256, .f32⟩
  | .hbm, ⟨60, _⟩ => ⟨S2048x256, .f32⟩
  | .hbm, ⟨61, _⟩ => ⟨S2048x1x256, .f32⟩
  | .hbm, ⟨62, _⟩ => ⟨S2048x1x256, .f32⟩
  | .hbm, ⟨63, _⟩ => ⟨S2048x1x256, .f32⟩
  | .hbm, ⟨64, _⟩ => ⟨S2048x1x256, .f32⟩
  | .hbm, ⟨65, _⟩ => ⟨S2048x4x256, .f32⟩
  | .hbm, ⟨66, _⟩ => ⟨S2048x4x256, .f32⟩
  | .hbm, ⟨67, _⟩ => ⟨S2048x1024, .f32⟩
  | .hbm, ⟨68, _⟩ => ⟨S2048x1024, .bf16⟩
  | .hbm, ⟨69, _⟩ => ⟨S2048x1024, .bf16⟩
  | .hbm, ⟨70, _⟩ => ⟨S4x4x64x256, .f32⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x256, .bf16⟩
  | .local _ .vmem, ⟨4, _⟩ => ⟨S4x1x64x256, .f32⟩
  | .local _ .vmem, ⟨5, _⟩ => ⟨S4x1x64x256, .f32⟩
  | .local _ .vmem, ⟨6, _⟩ => ⟨S256x256, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_call0_cst : Ref sig .tc := ⟨.hbm, 3, rfl⟩
abbrev main_call0_call0_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c_1 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_c_2 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_c_3 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def k0_cond2 (i : grid0.Coords) : BitVec 1 :=
  let arg1 : BitVec 32 := BitVec.ofNat 32 (i 1).val
  let c1_i32 : BitVec 32 := 1#32
  let v13 : BitVec 1 := Scalar.cmpi .eq arg1 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x1x64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference11Ideal.lean ====
abbrev S2048x1024 : Shape := ⟨2, ![2048, 1024]⟩
abbrev S_ : Shape := ⟨0, ![]⟩
abbrev S4x256x256 : Shape := ⟨3, ![4, 256, 256]⟩
abbrev S2048x4x256 : Shape := ⟨3, ![2048, 4, 256]⟩
abbrev S16x4x256 : Shape := ⟨3, ![16, 4, 256]⟩
abbrev S2064x4x256 : Shape := ⟨3, ![2064, 4, 256]⟩
abbrev S2048 : Shape := ⟨1, ![2048]⟩
abbrev S2048x1x256 : Shape := ⟨3, ![2048, 1, 256]⟩
abbrev S2048x256 : Shape := ⟨2, ![2048, 256]⟩
abbrev S2048x1 : Shape := ⟨2, ![2048, 1]⟩
abbrev S4x256x2048 : Shape := ⟨3, ![4, 256, 2048]⟩
abbrev S4x4x64x256 : Shape := ⟨4, ![4, 4, 64, 256]⟩

abbrev nBuf : Space → Nat
  | .hbm => 78
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S_, .f32⟩
  | .hbm, ⟨3, _⟩ => ⟨S4x256x256, .f32⟩
  | .hbm, ⟨4, _⟩ => ⟨S2048x4x256, .f32⟩
  | .hbm, ⟨5, _⟩ => ⟨S_, .f32⟩
  | .hbm, ⟨6, _⟩ => ⟨S_, .f32⟩
  | .hbm, ⟨7, _⟩ => ⟨S2048x4x256, .f32⟩
  | .hbm, ⟨8, _⟩ => ⟨S_, .f32⟩
  | .hbm, ⟨9, _⟩ => ⟨S16x4x256, .f32⟩
  | .hbm, ⟨10, _⟩ => ⟨S2064x4x256, .f32⟩
  | .hbm, ⟨11, _⟩ => ⟨S2048, .i32⟩
  | .hbm, ⟨12, _⟩ => ⟨S_, .i32⟩
  | .hbm, ⟨13, _⟩ => ⟨S2048, .i32⟩
  | .hbm, ⟨14, _⟩ => ⟨S2048, .i32⟩
  | .hbm, ⟨15, _⟩ => ⟨S2048x1x256, .f32⟩
  | .hbm, ⟨16, _⟩ => ⟨S2048x256, .f32⟩
  | .hbm, ⟨17, _⟩ => ⟨S_, .i32⟩
  | .hbm, ⟨18, _⟩ => ⟨S2048, .i32⟩
  | .hbm, ⟨19, _⟩ => ⟨S2048, .i32⟩
  | .hbm, ⟨20, _⟩ => ⟨S2048, .f32⟩
  | .hbm, ⟨21, _⟩ => ⟨S2048x1, .f32⟩
  | .hbm, ⟨22, _⟩ => ⟨S2048x1x256, .f32⟩
  | .hbm, ⟨23, _⟩ => ⟨S2048x256, .f32⟩
  | .hbm, ⟨24, _⟩ => ⟨S2048x256, .f32⟩
  | .hbm, ⟨25, _⟩ => ⟨S2048x256, .f32⟩
  | .hbm, ⟨26, _⟩ => ⟨S2048x256, .f32⟩
  | .hbm, ⟨27, _⟩ => ⟨S2048x1x256, .f32⟩
  | .hbm, ⟨28, _⟩ => ⟨S2048x256, .f32⟩
  | .hbm, ⟨29, _⟩ => ⟨S_, .i32⟩
  | .hbm, ⟨30, _⟩ => ⟨S2048, .i32⟩
  | .hbm, ⟨31, _⟩ => ⟨S2048, .i32⟩
  | .hbm, ⟨32, _⟩ => ⟨S2048, .f32⟩
  | .hbm, ⟨33, _⟩ => ⟨S2048x1, .f32⟩
  | .hbm, ⟨34, _⟩ => ⟨S2048x1x256, .f32⟩
  | .hbm, ⟨35, _⟩ => ⟨S2048x256, .f32⟩
  | .hbm, ⟨36, _⟩ => ⟨S2048x256, .f32⟩
  | .hbm, ⟨37, _⟩ => ⟨S2048x256, .f32⟩
  | .hbm, ⟨38, _⟩ => ⟨S2048x256, .f32⟩
  | .hbm, ⟨39, _⟩ => ⟨S2048x1x256, .f32⟩
  | .hbm, ⟨40, _⟩ => ⟨S2048x256, .f32⟩
  | .hbm, ⟨41, _⟩ => ⟨S_, .i32⟩
  | .hbm, ⟨42, _⟩ => ⟨S2048, .i32⟩
  | .hbm, ⟨43, _⟩ => ⟨S2048, .i32⟩
  | .hbm, ⟨44, _⟩ => ⟨S2048, .f32⟩
  | .hbm, ⟨45, _⟩ => ⟨S2048x1, .f32⟩
  | .hbm, ⟨46, _⟩ => ⟨S2048x1x256, .f32⟩
  | .hbm, ⟨47, _⟩ => ⟨S2048x256, .f32⟩
  | .hbm, ⟨48, _⟩ => ⟨S2048x256, .f32⟩
  | .hbm, ⟨49, _⟩ => ⟨S2048x256, .f32⟩
  | .hbm, ⟨50, _⟩ => ⟨S2048x256, .f32⟩
  | .hbm, ⟨51, _⟩ => ⟨S2048x1x256, .f32⟩
  | .hbm, ⟨52, _⟩ => ⟨S2048x256, .f32⟩
  | .hbm, ⟨53, _⟩ => ⟨S_, .i32⟩
  | .hbm, ⟨54, _⟩ => ⟨S2048, .i32⟩
  | .hbm, ⟨55, _⟩ => ⟨S2048, .i32⟩
  | .hbm, ⟨56, _⟩ => ⟨S2048, .f32⟩
  | .hbm, ⟨57, _⟩ => ⟨S2048x1, .f32⟩
  | .hbm, ⟨58, _⟩ => ⟨S2048x1x256, .f32⟩
  | .hbm, ⟨59, _⟩ => ⟨S2048x256, .f32⟩
  | .hbm, ⟨60, _⟩ => ⟨S2048x256, .f32⟩
  | .hbm, ⟨61, _⟩ => ⟨S2048x256, .f32⟩
  | .hbm, ⟨62, _⟩ => ⟨S2048x256, .f32⟩
  | .hbm, ⟨63, _⟩ => ⟨S2048x1x256, .f32⟩
  | .hbm, ⟨64, _⟩ => ⟨S2048x1x256, .f32⟩
  | .hbm, ⟨65, _⟩ => ⟨S2048x1x256, .f32⟩
  | .hbm, ⟨66, _⟩ => ⟨S2048x1x256, .f32⟩
  | .hbm, ⟨67, _⟩ => ⟨S2048x4x256, .f32⟩
  | .hbm, ⟨68, _⟩ => ⟨S2048x4x256, .f32⟩
  | .hbm, ⟨69, _⟩ => ⟨S4x256x2048, .f32⟩
  | .hbm, ⟨70, _⟩ => ⟨S2048x4x256, .f32⟩
  | .hbm, ⟨71, _⟩ => ⟨S2048x1024, .f32⟩
  | .hbm, ⟨72, _⟩ => ⟨S2048x4x256, .f32⟩
  | .hbm, ⟨73, _⟩ => ⟨S4x256x2048, .f32⟩
  | .hbm, ⟨74, _⟩ => ⟨S4x256x256, .f32⟩
  | .hbm, ⟨75, _⟩ => ⟨S4x256x256, .f32⟩
  | .hbm, ⟨76, _⟩ => ⟨S4x4x64x256, .f32⟩
  | .hbm, ⟨77, _⟩ => ⟨S4x4x64x256, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_call0_call0_cst : Ref sig .tc := ⟨.hbm, 5, rfl⟩
abbrev main_call0_call0_v0 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_c_3 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_c_4 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩

abbrev nD : Nat := 1
abbrev τ : Topo := Topo.v7x

variable {F : FTy → Type} [FloatOps F]
-- ==== Kernel12.lean ====
abbrev S2048x1024 : Shape := ⟨2, ![2048, 1024]⟩
abbrev S2048x256 : Shape := ⟨2, ![2048, 256]⟩
abbrev S256x1024 : Shape := ⟨2, ![256, 1024]⟩
abbrev S1024x1024 : Shape := ⟨2, ![1024, 1024]⟩
abbrev S_ : Shape := ⟨0, ![]⟩
abbrev S4x256x1024 : Shape := ⟨3, ![4, 256, 1024]⟩
abbrev S512x1024 : Shape := ⟨2, ![512, 1024]⟩
abbrev S1x256x1024 : Shape := ⟨3, ![1, 256, 1024]⟩

abbrev nBuf : Space → Nat
  | .hbm => 25
  | .vmem => 16
  | .smem => 0
  | _ => 0

abbrev bufTy : (tb : Table) → Fin (tcTables nBuf tb) → BufTy
  | .hbm, ⟨0, _⟩ => ⟨S2048x1024, .f32⟩
  | .hbm, ⟨1, _⟩ => ⟨S2048x256, .f32⟩
  | .hbm, ⟨2, _⟩ => ⟨S256x1024, .f32⟩
  | .hbm, ⟨3, _⟩ => ⟨S1024x1024, .f32⟩
  | .hbm, ⟨4, _⟩ => ⟨S1024x1024, .f32⟩
  | .hbm, ⟨5, _⟩ => ⟨S2048x1024, .f32⟩
  | .hbm, ⟨6, _⟩ => ⟨S2048x1024, .f32⟩
  | .hbm, ⟨7, _⟩ => ⟨S2048x1024, .bf16⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S_, .f32⟩
  | .hbm, ⟨12, _⟩ => ⟨S2048x1024, .f32⟩
  | .hbm, ⟨13, _⟩ => ⟨S2048x1024, .f32⟩
  | .hbm, ⟨14, _⟩ => ⟨S_, .f32⟩
  | .hbm, ⟨15, _⟩ => ⟨S2048x1024, .f32⟩
  | .hbm, ⟨16, _⟩ => ⟨S2048x1024, .f32⟩
  | .hbm, ⟨17, _⟩ => ⟨S2048x1024, .bf16⟩
  | .hbm, ⟨18, _⟩ => ⟨S4x256x1024, .f32⟩
  | .hbm, ⟨19, _⟩ => ⟨S4x256x1024, .bf16⟩
  | .hbm, ⟨20, _⟩ => ⟨S1024x1024, .bf16⟩
  | .hbm, ⟨21, _⟩ => ⟨S2048x1024, .bf16⟩
  | .hbm, ⟨22, _⟩ => ⟨S2048x1024, .bf16⟩
  | .hbm, ⟨23, _⟩ => ⟨S2048x1024, .f32⟩
  | .hbm, ⟨24, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S4x256x1024, .bf16⟩
  | .local _ .vmem, ⟨7, _⟩ => ⟨S1024x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13_0 : Ref sig .tc := ⟨.hbm, 21, rfl⟩
abbrev main_v13_1 : Ref sig .tc := ⟨.hbm, 22, rfl⟩
abbrev main_v13_2 : Ref sig .tc := ⟨.hbm, 23, rfl⟩
abbrev main_v13_3 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference12Ideal.lean ====
abbrev S2048x1024 : Shape := ⟨2, ![2048, 1024]⟩
abbrev S2048x256 : Shape := ⟨2, ![2048, 256]⟩
abbrev S256x1024 : Shape := ⟨2, ![256, 1024]⟩
abbrev S1024x1024 : Shape := ⟨2, ![1024, 1024]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x256, .f32⟩
  | .hbm, ⟨2, _⟩ => ⟨S256x1024, .f32⟩
  | .hbm, ⟨3, _⟩ => ⟨S1024x1024, .f32⟩
  | .hbm, ⟨4, _⟩ => ⟨S1024x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S_, .f32⟩
  | .hbm, ⟨11, _⟩ => ⟨S2048x1024, .f32⟩
  | .hbm, ⟨12, _⟩ => ⟨S2048x1024, .f32⟩
  | .hbm, ⟨13, _⟩ => ⟨S_, .f32⟩
  | .hbm, ⟨14, _⟩ => ⟨S2048x1024, .f32⟩
  | .hbm, ⟨15, _⟩ => ⟨S2048x1024, .f32⟩
  | .hbm, ⟨16, _⟩ => ⟨S_, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S2048x1024, .f32⟩
  | .hbm, ⟨30, _⟩ => ⟨S2048x1024, .f32⟩
  | .hbm, ⟨31, _⟩ => ⟨S2048x1024, .bf16⟩
  | .hbm, ⟨32, _⟩ => ⟨S2048x1024, .bf16⟩
  | .hbm, ⟨33, _⟩ => ⟨S2048x1024, .f32⟩
  | .hbm, ⟨34, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]
-- ==== Kernel13.lean ====
abbrev S2048x1024 : Shape := ⟨2, ![2048, 1024]⟩
abbrev S2048x256 : Shape := ⟨2, ![2048, 256]⟩
abbrev S256x1024 : Shape := ⟨2, ![256, 1024]⟩
abbrev S1024x1024 : Shape := ⟨2, ![1024, 1024]⟩
abbrev S_ : Shape := ⟨0, ![]⟩
abbrev S4x256x1024 : Shape := ⟨3, ![4, 256, 1024]⟩
abbrev S512x1024 : Shape := ⟨2, ![512, 1024]⟩
abbrev S1x256x1024 : Shape := ⟨3, ![1, 256, 1024]⟩

abbrev nBuf : Space → Nat
  | .hbm => 25
  | .vmem => 16
  | .smem => 0
  | _ => 0

abbrev bufTy : (tb : Table) → Fin (tcTables nBuf tb) → BufTy
  | .hbm, ⟨0, _⟩ => ⟨S2048x1024, .f32⟩
  | .hbm, ⟨1, _⟩ => ⟨S2048x256, .f32⟩
  | .hbm, ⟨2, _⟩ => ⟨S256x1024, .f32⟩
  | .hbm, ⟨3, _⟩ => ⟨S1024x1024, .f32⟩
  | .hbm, ⟨4, _⟩ => ⟨S1024x1024, .f32⟩
  | .hbm, ⟨5, _⟩ => ⟨S2048x1024, .f32⟩
  | .hbm, ⟨6, _⟩ => ⟨S2048x1024, .f32⟩
  | .hbm, ⟨7, _⟩ => ⟨S2048x1024, .bf16⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S_, .f32⟩
  | .hbm, ⟨12, _⟩ => ⟨S2048x1024, .f32⟩
  | .hbm, ⟨13, _⟩ => ⟨S2048x1024, .f32⟩
  | .hbm, ⟨14, _⟩ => ⟨S_, .f32⟩
  | .hbm, ⟨15, _⟩ => ⟨S2048x1024, .f32⟩
  | .hbm, ⟨16, _⟩ => ⟨S2048x1024, .f32⟩
  | .hbm, ⟨17, _⟩ => ⟨S2048x1024, .bf16⟩
  | .hbm, ⟨18, _⟩ => ⟨S4x256x1024, .f32⟩
  | .hbm, ⟨19, _⟩ => ⟨S4x256x1024, .bf16⟩
  | .hbm, ⟨20, _⟩ => ⟨S1024x1024, .bf16⟩
  | .hbm, ⟨21, _⟩ => ⟨S2048x1024, .bf16⟩
  | .hbm, ⟨22, _⟩ => ⟨S2048x1024, .bf16⟩
  | .hbm, ⟨23, _⟩ => ⟨S2048x1024, .f32⟩
  | .hbm, ⟨24, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S4x256x1024, .bf16⟩
  | .local _ .vmem, ⟨7, _⟩ => ⟨S1024x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13_0 : Ref sig .tc := ⟨.hbm, 21, rfl⟩
abbrev main_v13_1 : Ref sig .tc := ⟨.hbm, 22, rfl⟩
abbrev main_v13_2 : Ref sig .tc := ⟨.hbm, 23, rfl⟩
abbrev main_v13_3 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel15.lean ====
abbrev S2048x1024 : Shape := ⟨2, ![2048, 1024]⟩
abbrev S1024x1024 : Shape := ⟨2, ![1024, 1024]⟩
abbrev S2x1x2048x256 : Shape := ⟨4, ![2, 1, 2048, 256]⟩
abbrev S256x1024 : Shape := ⟨2, ![256, 1024]⟩
abbrev S256x4x256 : Shape := ⟨3, ![256, 4, 256]⟩
abbrev S4x256x256 : Shape := ⟨3, ![4, 256, 256]⟩
abbrev S4x256x1024 : Shape := ⟨3, ![4, 256, 1024]⟩
abbrev S512x1024 : Shape := ⟨2, ![512, 1024]⟩
abbrev S1x1x512x256 : Shape := ⟨4, ![1, 1, 512, 256]⟩
abbrev S512x256 : Shape := ⟨2, ![512, 256]⟩
abbrev S1x256x256 : Shape := ⟨3, ![1, 256, 256]⟩
abbrev S256x256 : Shape := ⟨2, ![256, 256]⟩
abbrev S1x256x1024 : Shape := ⟨3, ![1, 256, 1024]⟩

abbrev nBuf : Space → Nat
  | .hbm => 17
  | .vmem => 17
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024x1024, .f32⟩
  | .hbm, ⟨3, _⟩ => ⟨S2x1x2048x256, .f32⟩
  | .hbm, ⟨4, _⟩ => ⟨S256x1024, .f32⟩
  | .hbm, ⟨5, _⟩ => ⟨S1024x1024, .f32⟩
  | .hbm, ⟨6, _⟩ => ⟨S2048x1024, .bf16⟩
  | .hbm, ⟨7, _⟩ => ⟨S1024x1024, .bf16⟩
  | .hbm, ⟨8, _⟩ => ⟨S256x4x256, .f32⟩
  | .hbm, ⟨9, _⟩ => ⟨S4x256x256, .f32⟩
  | .hbm, ⟨10, _⟩ => ⟨S4x256x256, .bf16⟩
  | .hbm, ⟨11, _⟩ => ⟨S4x256x1024, .f32⟩
  | .hbm, ⟨12, _⟩ => ⟨S4x256x1024, .bf16⟩
  | .hbm, ⟨13, _⟩ => ⟨S2048x1024, .f32⟩
  | .hbm, ⟨14, _⟩ => ⟨S2048x1024, .f32⟩
  | .hbm, ⟨15, _⟩ => ⟨S2048x1024, .bf16⟩
  | .hbm, ⟨16, _⟩ => ⟨S2048x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1x1x512x256, .f32⟩
  | .local _ .vmem, ⟨6, _⟩ => ⟨S1x1x512x256, .f32⟩
  | .local _ .vmem, ⟨7, _⟩ => ⟨S4x256x256, .bf16⟩
  | .local _ .vmem, ⟨8, _⟩ => ⟨S4x256x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev main_v7_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference15Ideal.lean ====
abbrev S2048x1024 : Shape := ⟨2, ![2048, 1024]⟩
abbrev S1024x1024 : Shape := ⟨2, ![1024, 1024]⟩
abbrev S2x1x2048x256 : Shape := ⟨4, ![2, 1, 2048, 256]⟩
abbrev S256x1024 : Shape := ⟨2, ![256, 1024]⟩
abbrev S1x1x2048x256 : Shape := ⟨4, ![1, 1, 2048, 256]⟩
abbrev S2048x256 : Shape := ⟨2, ![2048, 256]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024x1024, .f32⟩
  | .hbm, ⟨3, _⟩ => ⟨S2x1x2048x256, .f32⟩
  | .hbm, ⟨4, _⟩ => ⟨S256x1024, .f32⟩
  | .hbm, ⟨5, _⟩ => ⟨S1024x1024, .f32⟩
  | .hbm, ⟨6, _⟩ => ⟨S1x1x2048x256, .f32⟩
  | .hbm, ⟨7, _⟩ => ⟨S2048x256, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S_, .f32⟩
  | .hbm, ⟨15, _⟩ => ⟨S2048x1024, .f32⟩
  | .hbm, ⟨16, _⟩ => ⟨S2048x1024, .f32⟩
  | .hbm, ⟨17, _⟩ => ⟨S_, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .bf16⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S2048x1024, .f32⟩
  | .hbm, ⟨30, _⟩ => ⟨S2048x1024, .f32⟩
  | .hbm, ⟨31, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]
-- ==== Kernel16.lean ====
abbrev S2048x1024 : Shape := ⟨2, ![2048, 1024]⟩
abbrev S1024x1024 : Shape := ⟨2, ![1024, 1024]⟩
abbrev S2x1x2048x256 : Shape := ⟨4, ![2, 1, 2048, 256]⟩
abbrev S256x1024 : Shape := ⟨2, ![256, 1024]⟩
abbrev S256x4x256 : Shape := ⟨3, ![256, 4, 256]⟩
abbrev S4x256x256 : Shape := ⟨3, ![4, 256, 256]⟩
abbrev S4x256x1024 : Shape := ⟨3, ![4, 256, 1024]⟩
abbrev S8x128 : Shape := ⟨2, ![8, 128]⟩
abbrev S512x1024 : Shape := ⟨2, ![512, 1024]⟩
abbrev S1x1x512x256 : Shape := ⟨4, ![1, 1, 512, 256]⟩
abbrev S512x256 : Shape := ⟨2, ![512, 256]⟩
abbrev S1x256x256 : Shape := ⟨3, ![1, 256, 256]⟩
abbrev S256x256 : Shape := ⟨2, ![256, 256]⟩
abbrev S1x256x1024 : Shape := ⟨3, ![1, 256, 1024]⟩
abbrev S1x512x1024 : Shape := ⟨3, ![1, 512, 1024]⟩
abbrev S1 : Shape := ⟨1, ![1]⟩
abbrev S1x1x1 : Shape := ⟨3, ![1, 1, 1]⟩

abbrev nBuf : Space → Nat
  | .hbm => 19
  | .vmem => 20
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024x1024, .f32⟩
  | .hbm, ⟨3, _⟩ => ⟨S2x1x2048x256, .f32⟩
  | .hbm, ⟨4, _⟩ => ⟨S256x1024, .f32⟩
  | .hbm, ⟨5, _⟩ => ⟨S1024x1024, .f32⟩
  | .hbm, ⟨6, _⟩ => ⟨S2048x1024, .f32⟩
  | .hbm, ⟨7, _⟩ => ⟨S2048x1024, .bf16⟩
  | .hbm, ⟨8, _⟩ => ⟨S1024x1024, .bf16⟩
  | .hbm, ⟨9, _⟩ => ⟨S256x4x256, .f32⟩
  | .hbm, ⟨10, _⟩ => ⟨S4x256x256, .f32⟩
  | .hbm, ⟨11, _⟩ => ⟨S4x256x256, .bf16⟩
  | .hbm, ⟨12, _⟩ => ⟨S4x256x1024, .f32⟩
  | .hbm, ⟨13, _⟩ => ⟨S4x256x1024, .bf16⟩
  | .hbm, ⟨14, _⟩ => ⟨S2048x1024, .f32⟩
  | .hbm, ⟨15, _⟩ => ⟨S2048x1024, .f32⟩
  | .hbm, ⟨16, _⟩ => ⟨S2048x1024, .bf16⟩
  | .hbm, ⟨17, _⟩ => ⟨S2048x1024, .bf16⟩
  | .hbm, ⟨18, _⟩ => ⟨S8x128, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1x1x512x256, .f32⟩
  | .local _ .vmem, ⟨6, _⟩ => ⟨S1x1x512x256, .f32⟩
  | .local _ .vmem, ⟨7, _⟩ => ⟨S4x256x256, .bf16⟩
  | .local _ .vmem, ⟨8, _⟩ => ⟨S4x256x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S8x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev main_v7_3 : Ref sig .tc := ⟨.hbm, 17, rfl⟩
abbrev main_v7_4 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference16Ideal.lean ====
abbrev S2048x1024 : Shape := ⟨2, ![2048, 1024]⟩
abbrev S1024x1024 : Shape := ⟨2, ![1024, 1024]⟩
abbrev S2x1x2048x256 : Shape := ⟨4, ![2, 1, 2048, 256]⟩
abbrev S256x1024 : Shape := ⟨2, ![256, 1024]⟩
abbrev S1x1x2048x256 : Shape := ⟨4, ![1, 1, 2048, 256]⟩
abbrev S2048x256 : Shape := ⟨2, ![2048, 256]⟩
abbrev S_ : Shape := ⟨0, ![]⟩
abbrev S2048 : Shape := ⟨1, ![2048]⟩
abbrev S8x128 : Shape := ⟨2, ![8, 128]⟩

abbrev nBuf : Space → Nat
  | .hbm => 57
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024x1024, .f32⟩
  | .hbm, ⟨3, _⟩ => ⟨S2x1x2048x256, .f32⟩
  | .hbm, ⟨4, _⟩ => ⟨S256x1024, .f32⟩
  | .hbm, ⟨5, _⟩ => ⟨S1024x1024, .f32⟩
  | .hbm, ⟨6, _⟩ => ⟨S2048x1024, .f32⟩
  | .hbm, ⟨7, _⟩ => ⟨S1x1x2048x256, .f32⟩
  | .hbm, ⟨8, _⟩ => ⟨S2048x256, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048x1024, .f32⟩
  | .hbm, ⟨17, _⟩ => ⟨S2048x1024, .f32⟩
  | .hbm, ⟨18, _⟩ => ⟨S_, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S2048, .f32⟩
  | .hbm, ⟨30, _⟩ => ⟨S_, .f32⟩
  | .hbm, ⟨31, _⟩ => ⟨S2048, .f32⟩
  | .hbm, ⟨32, _⟩ => ⟨S2048, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S2048, .f32⟩
  | .hbm, ⟨41, _⟩ => ⟨S_, .f32⟩
  | .hbm, ⟨42, _⟩ => ⟨S2048, .f32⟩
  | .hbm, ⟨43, _⟩ => ⟨S2048, .f32⟩
  | .hbm, ⟨44, _⟩ => ⟨S2048x1024, .f32⟩
  | .hbm, ⟨45, _⟩ => ⟨S2048x1024, .f32⟩
  | .hbm, ⟨46, _⟩ => ⟨S2048x1024, .bf16⟩
  | .hbm, ⟨47, _⟩ => ⟨S2048x1024, .f32⟩
  | .hbm, ⟨48, _⟩ => ⟨S2048x1024, .f32⟩
  | .hbm, ⟨49, _⟩ => ⟨S_, .f32⟩
  | .hbm, ⟨50, _⟩ => ⟨S2048x1024, .f32⟩
  | .hbm, ⟨51, _⟩ => ⟨S2048x1024, .f32⟩
  | .hbm, ⟨52, _⟩ => ⟨S_, .f32⟩
  | .hbm, ⟨53, _⟩ => ⟨S2048x1024, .f32⟩
  | .hbm, ⟨54, _⟩ => ⟨S2048x1024, .f32⟩
  | .hbm, ⟨55, _⟩ => ⟨S2048x1024, .bf16⟩
  | .hbm, ⟨56, _⟩ => ⟨S8x128, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_cst_6 : Ref sig .tc := ⟨.hbm, 37, rfl⟩
abbrev main_cst_7 : Ref sig .tc := ⟨.hbm, 38, rfl⟩
abbrev main_v23 : Ref sig .tc := ⟨.hbm, 39, rfl⟩
abbrev main_v24 : Ref sig .tc := ⟨.hbm, 40, rfl⟩
abbrev main_cst_8 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_9 : Ref sig .tc := ⟨.hbm, 49, rfl⟩
abbrev main_v32 : Ref sig .tc := ⟨.hbm, 50, rfl⟩
abbrev main_v33 : Ref sig .tc := ⟨.hbm, 51, rfl⟩
abbrev main_cst_10 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩

abbrev nD : Nat := 1
abbrev τ : Topo := Topo.v7x

variable {F : FTy → Type} [FloatOps F]
-- ==== Kernel17.lean ====
abbrev S2048x1024 : Shape := ⟨2, ![2048, 1024]⟩
abbrev S1x1024 : Shape := ⟨2, ![1, 1024]⟩
abbrev S1x64 : Shape := ⟨2, ![1, 64]⟩
abbrev S1024x2048 : Shape := ⟨2, ![1024, 2048]⟩
abbrev S1x1x1x64 : Shape := ⟨4, ![1, 1, 1, 64]⟩
abbrev S1x1x16x64 : Shape := ⟨4, ![1, 1, 16, 64]⟩
abbrev S1024x4x512 : Shape := ⟨3, ![1024, 4, 512]⟩
abbrev S4x1024x512 : Shape := ⟨3, ![4, 1024, 512]⟩
abbrev S256x1024 : Shape := ⟨2, ![256, 1024]⟩
abbrev S256 : Shape := ⟨1, ![256]⟩
abbrev S256x1 : Shape := ⟨2, ![256, 1]⟩
abbrev S256x256 : Shape := ⟨2, ![256, 256]⟩
abbrev S1x1024x512 : Shape := ⟨3, ![1, 1024, 512]⟩
abbrev S1024x512 : Shape := ⟨2, ![1024, 512]⟩
abbrev S256x512 : Shape := ⟨2, ![256, 512]⟩
abbrev S1x512 : Shape := ⟨2, ![1, 512]⟩

abbrev nBuf : Space → Nat
  | .hbm => 27
  | .vmem => 24
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024, .f32⟩
  | .hbm, ⟨3, _⟩ => ⟨S1x64, .f32⟩
  | .hbm, ⟨4, _⟩ => ⟨S1x64, .f32⟩
  | .hbm, ⟨5, _⟩ => ⟨S1024x2048, .f32⟩
  | .hbm, ⟨6, _⟩ => ⟨S1024x2048, .f32⟩
  | .hbm, ⟨7, _⟩ => ⟨S1x1x1x64, .f32⟩
  | .hbm, ⟨8, _⟩ => ⟨S1x1x16x64, .f32⟩
  | .hbm, ⟨9, _⟩ => ⟨S1x1024, .f32⟩
  | .hbm, ⟨10, _⟩ => ⟨S1x1x1x64, .f32⟩
  | .hbm, ⟨11, _⟩ => ⟨S1x1x16x64, .f32⟩
  | .hbm, ⟨12, _⟩ => ⟨S1x1024, .f32⟩
  | .hbm, ⟨13, _⟩ => ⟨S1024x4x512, .f32⟩
  | .hbm, ⟨14, _⟩ => ⟨S4x1024x512, .f32⟩
  | .hbm, ⟨15, _⟩ => ⟨S4x1024x512, .bf16⟩
  | .hbm, ⟨16, _⟩ => ⟨S1024x4x512, .f32⟩
  | .hbm, ⟨17, _⟩ => ⟨S4x1024x512, .f32⟩
  | .hbm, ⟨18, _⟩ => ⟨S4x1024x512, .bf16⟩
  | .hbm, ⟨19, _⟩ => ⟨S2048x1024, .bf16⟩
  | .hbm, ⟨20, _⟩ => ⟨S2048x1024, .bf16⟩
  | .hbm, ⟨21, _⟩ => ⟨S2048x1024, .bf16⟩
  | .hbm, ⟨22, _⟩ => ⟨S2048x1024, .bf16⟩
  | .hbm, ⟨23, _⟩ => ⟨S2048x1024, .bf16⟩
  | .hbm, ⟨24, _⟩ => ⟨S2048x1024, .bf16⟩
  | .hbm, ⟨25, _⟩ => ⟨S2048x1024, .bf16⟩
  | .hbm, ⟨26, _⟩ => ⟨S2048x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S4x1024x512, .bf16⟩
  | .local _ .vmem, ⟨7, _⟩ => ⟨S4x1024x512, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12_0 : Ref sig .tc := ⟨.hbm, 19, rfl⟩
abbrev main_v12_1 : Ref sig .tc := ⟨.hbm, 20, rfl⟩
abbrev main_v12_2 : Ref sig .tc := ⟨.hbm, 21, rfl⟩
abbrev main_v12_3 : Ref sig .tc := ⟨.hbm, 22, rfl⟩
abbrev main_v12_4 : Ref sig .tc := ⟨.hbm, 23, rfl⟩
abbrev main_v12_5 : Ref sig .tc := ⟨.hbm, 24, rfl⟩
abbrev main_v12_6 : Ref sig .tc := ⟨.hbm, 25, rfl⟩
abbrev main_v12_7 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference17Ideal.lean ====
abbrev S2048x1024 : Shape := ⟨2, ![2048, 1024]⟩
abbrev S1x1024 : Shape := ⟨2, ![1, 1024]⟩
abbrev S1x64 : Shape := ⟨2, ![1, 64]⟩
abbrev S1024x2048 : Shape := ⟨2, ![1024, 2048]⟩
abbrev S_ : Shape := ⟨0, ![]⟩
abbrev S2048 : Shape := ⟨1, ![2048]⟩
abbrev S2048x1 : Shape := ⟨2, ![2048, 1]⟩
abbrev S2048x2048 : Shape := ⟨2, ![2048, 2048]⟩
abbrev S2048x16x64 : Shape := ⟨3, ![2048, 16, 64]⟩
abbrev S1x1x64 : Shape := ⟨3, ![1, 1, 64]⟩
abbrev S2048x16 : Shape := ⟨2, ![2048, 16]⟩
abbrev S2048x16x1 : Shape := ⟨3, ![2048, 16, 1]⟩

abbrev nBuf : Space → Nat
  | .hbm => 90
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024, .f32⟩
  | .hbm, ⟨3, _⟩ => ⟨S1x64, .f32⟩
  | .hbm, ⟨4, _⟩ => ⟨S1x64, .f32⟩
  | .hbm, ⟨5, _⟩ => ⟨S1024x2048, .f32⟩
  | .hbm, ⟨6, _⟩ => ⟨S1024x2048, .f32⟩
  | .hbm, ⟨7, _⟩ => ⟨S2048x1024, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S_, .f32⟩
  | .hbm, ⟨24, _⟩ => ⟨S2048, .f32⟩
  | .hbm, ⟨25, _⟩ => ⟨S2048x1, .f32⟩
  | .hbm, ⟨26, _⟩ => ⟨S_, .f32⟩
  | .hbm, ⟨27, _⟩ => ⟨S2048x1, .f32⟩
  | .hbm, ⟨28, _⟩ => ⟨S2048x1, .f32⟩
  | .hbm, ⟨29, _⟩ => ⟨S_, .f32⟩
  | .hbm, ⟨30, _⟩ => ⟨S2048x1, .f32⟩
  | .hbm, ⟨31, _⟩ => ⟨S2048x1, .f32⟩
  | .hbm, ⟨32, _⟩ => ⟨S2048x1, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x2048, .f32⟩
  | .hbm, ⟨38, _⟩ => ⟨S2048x1024, .f32⟩
  | .hbm, ⟨39, _⟩ => ⟨S2048x1024, .f32⟩
  | .hbm, ⟨40, _⟩ => ⟨S2048x2048, .f32⟩
  | .hbm, ⟨41, _⟩ => ⟨S2048x1024, .f32⟩
  | .hbm, ⟨42, _⟩ => ⟨S2048x1024, .f32⟩
  | .hbm, ⟨43, _⟩ => ⟨S2048x16x64, .f32⟩
  | .hbm, ⟨44, _⟩ => ⟨S1x1x64, .f32⟩
  | .hbm, ⟨45, _⟩ => ⟨S2048x16x64, .f32⟩
  | .hbm, ⟨46, _⟩ => ⟨S_, .f32⟩
  | .hbm, ⟨47, _⟩ => ⟨S2048x16, .f32⟩
  | .hbm, ⟨48, _⟩ => ⟨S2048x16x1, .f32⟩
  | .hbm, ⟨49, _⟩ => ⟨S_, .f32⟩
  | .hbm, ⟨50, _⟩ => ⟨S2048x16x1, .f32⟩
  | .hbm, ⟨51, _⟩ => ⟨S2048x16x1, .f32⟩
  | .hbm, ⟨52, _⟩ => ⟨S_, .f32⟩
  | .hbm, ⟨53, _⟩ => ⟨S2048x16x1, .f32⟩
  | .hbm, ⟨54, _⟩ => ⟨S2048x16x1, .f32⟩
  | .hbm, ⟨55, _⟩ => ⟨S2048x16x1, .f32⟩
  | .hbm, ⟨56, _⟩ => ⟨S2048x16x64, .f32⟩
  | .hbm, ⟨57, _⟩ => ⟨S2048x16x64, .f32⟩
  | .hbm, ⟨58, _⟩ => ⟨S2048x16x64, .f32⟩
  | .hbm, ⟨59, _⟩ => ⟨S2048x16x64, .f32⟩
  | .hbm, ⟨60, _⟩ => ⟨S2048x1024, .f32⟩
  | .hbm, ⟨61, _⟩ => ⟨S2048x16x64, .f32⟩
  | .hbm, ⟨62, _⟩ => ⟨S1x1x64, .f32⟩
  | .hbm, ⟨63, _⟩ => ⟨S2048x16x64, .f32⟩
  | .hbm, ⟨64, _⟩ => ⟨S_, .f32⟩
  | .hbm, ⟨65, _⟩ => ⟨S2048x16, .f32⟩
  | .hbm, ⟨66, _⟩ => ⟨S2048x16x1, .f32⟩
  | .hbm, ⟨67, _⟩ => ⟨S_, .f32⟩
  | .hbm, ⟨68, _⟩ => ⟨S2048x16x1, .f32⟩
  | .hbm, ⟨69, _⟩ => ⟨S2048x16x1, .f32⟩
  | .hbm, ⟨70, _⟩ => ⟨S_, .f32⟩
  | .hbm, ⟨71, _⟩ => ⟨S2048x16x1, .f32⟩
  | .hbm, ⟨72, _⟩ => ⟨S2048x16x1, .f32⟩
  | .hbm, ⟨73, _⟩ => ⟨S2048x16x1, .f32⟩
  | .hbm, ⟨74, _⟩ => ⟨S2048x16x64, .f32⟩
  | .hbm, ⟨75, _⟩ => ⟨S2048x16x64, .f32⟩
  | .hbm, ⟨76, _⟩ => ⟨S2048x16x64, .f32⟩
  | .hbm, ⟨77, _⟩ => ⟨S2048x16x64, .f32⟩
  | .hbm, ⟨78, _⟩ => ⟨S2048x1024, .f32⟩
  | .hbm, ⟨79, _⟩ => ⟨S_, .f32⟩
  | .hbm, ⟨80, _⟩ => ⟨S2048x1024, .f32⟩
  | .hbm, ⟨81, _⟩ => ⟨S2048x1024, .f32⟩
  | .hbm, ⟨82, _⟩ => ⟨S2048x1024, .bf16⟩
  | .hbm, ⟨83, _⟩ => ⟨S2048x1024, .bf16⟩
  | .hbm, ⟨84, _⟩ => ⟨S2048x1024, .bf16⟩
  | .hbm, ⟨85, _⟩ => ⟨S2048x1024, .bf16⟩
  | .hbm, ⟨86, _⟩ => ⟨S2048x1024, .bf16⟩
  | .hbm, ⟨87, _⟩ => ⟨S2048x1024, .bf16⟩
  | .hbm, ⟨88, _⟩ => ⟨S2048x1024, .bf16⟩
  | .hbm, ⟨89, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_cst_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_8 : Ref sig .tc := ⟨.hbm, 64, rfl⟩
abbrev main_v48 : Ref sig .tc := ⟨.hbm, 65, rfl⟩
abbrev main_v49 : Ref sig .tc := ⟨.hbm, 66, rfl⟩
abbrev main_cst_9 : Ref sig .tc := ⟨.hbm, 67, rfl⟩
abbrev main_v50 : Ref sig .tc := ⟨.hbm, 68, rfl⟩
abbrev main_v51 : Ref sig .tc := ⟨.hbm, 69, rfl⟩
abbrev main_cst_10 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_11 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩

abbrev nD : Nat := 1
abbrev τ : Topo := Topo.v7x

variable {F : FTy → Type} [FloatOps F]
-- ==== Proof.Setup.lean ====
module

public import proofs.«01_k».proof.Proof.Gen.KernelIdeal.Frame
public import proofs.«01_k».proof.Proof.Gen.KernelIdeal.Skeleton

@[expose] public section

set_option maxRecDepth 16384

noncomputable section

namespace Cert.KernelIdeal.Mix

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's one branch, and the buffers a grid point works on -/

/-- The body resets its running sums and its halo when the grid coordinate is zero. -/
abbrev isFirst (i : grid0.Coords) : Prop := (Scalar.cmpi .ne (Scalar.extui (Scalar.cmpi .eq (BitVec.ofNat 32 (i 0).val) 0#32)) 0#32) = 1#1

/-- It is so at point zero alone. -/
theorem isFirst_iff : ∀ t : Fin cfg0.N, isFirst (grid0.coords t) ↔ t.val = 0 :=
  (fun t => by
    have ht : t.val < 8 := Nat.lt_of_lt_of_eq t.isLt N_0
    have e0 : (grid0.coords t 0).val = t.val / 1 % 8 := Pipeline.Grid.coords_val t 0 (by decide) rfl
    have : isFirst (grid0.coords t) ↔ t.val % 8 = 0 := by
      simp only [isFirst, e0]
      word_cmp
    rw [this]; omega
   : ∀ t : Fin grid0.N, isFirst (grid0.coords t) ↔ t.val = 0)

/-- Window 0's staging buffer at a point. -/
abbrev stg0 (t : Fin cfg0.N) : Memref sig .tc .vmem S256x1024 .bf16 := win0_0.stage (cfg0.slots t 0)
/-- It is a whole buffer. -/
abbrev stg0W (t : Fin cfg0.N) : (stg0 t).IsWhole := hstage0_0 ((cfg0.slots t 0).cast nbuf0_0)
/-- Window 1's staging buffer at a point. -/
abbrev stg1 (t : Fin cfg0.N) : Memref sig .tc .vmem S256x1024 .f32 := win0_1.stage (cfg0.slots t 1)
/-- It is a whole buffer. -/
abbrev stg1W (t : Fin cfg0.N) : (stg1 t).IsWhole := hstage0_1 ((cfg0.slots t 1).cast nbuf0_1)
/-- Window 2's staging buffer at a point. -/
abbrev stg2 (t : Fin cfg0.N) : Memref sig .tc .vmem S256x1024 .bf16 := win0_2.stage (cfg0.slots t 2)
/-- It is a whole buffer. -/
abbrev stg2W (t : Fin cfg0.N) : (stg2 t).IsWhole := hstage0_2 ((cfg0.slots t 2).cast nbuf0_2)
/-- Window 3's staging buffer at a point. -/
abbrev stg3 (t : Fin cfg0.N) : Memref sig .tc .vmem S4x4x64x256 .bf16 := win0_3.stage (cfg0.slots t 3)
/-- It is a whole buffer. -/
abbrev stg3W (t : Fin cfg0.N) : (stg3 t).IsWhole := hstage0_3 ((cfg0.slots t 3).cast nbuf0_3)
/-- Window 4's staging buffer at a point. -/
abbrev stg4 (t : Fin cfg0.N) : Memref sig .tc .vmem S1x1024 .f32 := win0_4.stage (cfg0.slots t 4)
/-- It is a whole buffer. -/
abbrev stg4W (t : Fin cfg0.N) : (stg4 t).IsWhole := hstage0_4 ((cfg0.slots t 4).cast nbuf0_4)
/-- Window 5's staging buffer at a point. -/
abbrev stg5 (t : Fin cfg0.N) : Memref sig .tc .vmem S4x1024x512 .bf16 := win0_5.stage (cfg0.slots t 5)
/-- It is a whole buffer. -/
abbrev stg5W (t : Fin cfg0.N) : (stg5 t).IsWhole := hstage0_5 ((cfg0.slots t 5).cast nbuf0_5)
/-- Window 6's staging buffer at a point. -/
abbrev stg6 (t : Fin cfg0.N) : Memref sig .tc .vmem S256x1024 .f32 := win0_6.stage (cfg0.slots t 6)
/-- It is a whole buffer. -/
abbrev stg6W (t : Fin cfg0.N) : (stg6 t).IsWhole := hstage0_6 ((cfg0.slots t 6).cast nbuf0_6)
/-- Window 7's staging buffer at a point. -/
abbrev stg7 (t : Fin cfg0.N) : Memref sig .tc .vmem S256x1024 .f32 := win0_7.stage (cfg0.slots t 7)
/-- It is a whole buffer. -/
abbrev stg7W (t : Fin cfg0.N) : (stg7 t).IsWhole := hstage0_7 ((cfg0.slots t 7).cast nbuf0_7)
/-- Window 8's staging buffer at a point. -/
abbrev stg8 (t : Fin cfg0.N) : Memref sig .tc .vmem S1x1024 .f32 := win0_8.stage (cfg0.slots t 8)
/-- It is a whole buffer. -/
abbrev stg8W (t : Fin cfg0.N) : (stg8 t).IsWhole := hstage0_8 ((cfg0.slots t 8).cast nbuf0_8)
/-- Window 9's staging buffer at a point. -/
abbrev stg9 (t : Fin cfg0.N) : Memref sig .tc .vmem S256x2048 .bf16 := win0_9.stage (cfg0.slots t 9)
/-- It is a whole buffer. -/
abbrev stg9W (t : Fin cfg0.N) : (stg9 t).IsWhole := hstage0_9 ((cfg0.slots t 9).cast nbuf0_9)
/-- Window 10's staging buffer at a point. -/
abbrev stg10 (t : Fin cfg0.N) : Memref sig .tc .vmem S256x1024 .bf16 := win0_10.stage (cfg0.slots t 10)
/-- It is a whole buffer. -/
abbrev stg10W (t : Fin cfg0.N) : (stg10 t).IsWhole := hstage0_10 ((cfg0.slots t 10).cast nbuf0_10)
/-- Window 11's staging buffer at a point. -/
abbrev stg11 (t : Fin cfg0.N) : Memref sig .tc .vmem S256x1024 .f32 := win0_11.stage (cfg0.slots t 11)
/-- It is a whole buffer. -/
abbrev stg11W (t : Fin cfg0.N) : (stg11 t).IsWhole := hstage0_11 ((cfg0.slots t 11).cast nbuf0_11)
/-- Window 12's staging buffer at a point. -/
abbrev stg12 (t : Fin cfg0.N) : Memref sig .tc .vmem S8x1024 .f32 := win0_12.stage (cfg0.slots t 12)
/-- It is a whole buffer. -/
abbrev stg12W (t : Fin cfg0.N) : (stg12 t).IsWhole := hstage0_12 ((cfg0.slots t 12).cast nbuf0_12)
/-- The high part of the halo: the scaled cotangent of the row block after this one. -/
abbrev haloHi : Memref sig .tc .vmem S256x1024 .bf16 := Memref.whole cc0_scratch0
/-- The low part of the halo. -/
abbrev haloLo : Memref sig .tc .vmem S256x1024 .bf16 := Memref.whole cc0_scratch1

/-- What the launch hands the region beside the windows: the two halo buffers at some contents, the generator register. -/
theorem rest_eq (c : Dev nD) :
    (Pipeline.ΦA spec0 c : sProp 𝕄)
      = iprop(iprop((∃ d, owns (c : Thread nD τ) haloHi fullShare d) ∗ (∃ d, owns (c : Thread nD τ) haloLo fullShare d)) ∗ (∃ r, prngReg c r)) := by
  unfold Pipeline.ΦA; rw [scopedRest0_eq]; simp only [haloHi, haloLo, owns_whole]; try rfl

end Cert.KernelIdeal.Mix

end
-- ==== Proof.RunA.lean ====
module

public import proofs.«01_k».proof.Proof.Setup

@[expose] public section

set_option maxRecDepth 16384

noncomputable section

namespace Cert.KernelIdeal.Mix

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg1 : Memref sig .tc .vmem S256x1024 .bf16) (harg1 : arg1.IsWhole)
  (arg2 : Memref sig .tc .vmem S256x1024 .f32) (harg2 : arg2.IsWhole)
  (arg3 : Memref sig .tc .vmem S256x1024 .bf16) (harg3 : arg3.IsWhole)
  (arg4 : Memref sig .tc .vmem S4x4x64x256 .bf16) (harg4 : arg4.IsWhole)
  (arg5 : Memref sig .tc .vmem S1x1024 .f32) (harg5 : arg5.IsWhole)
  (arg6 : Memref sig .tc .vmem S4x1024x512 .bf16) (harg6 : arg6.IsWhole)
  (arg7 : Memref sig .tc .vmem S256x1024 .f32) (harg7 : arg7.IsWhole)
  (arg8 : Memref sig .tc .vmem S256x1024 .f32) (harg8 : arg8.IsWhole)
  (arg9 : Memref sig .tc .vmem S1x1024 .f32) (harg9 : arg9.IsWhole)
  (arg10 : Memref sig .tc .vmem S256x2048 .bf16) (harg10 : arg10.IsWhole)
  (arg11 : Memref sig .tc .vmem S256x1024 .bf16) (harg11 : arg11.IsWhole)
  (arg12 : Memref sig .tc .vmem S256x1024 .f32) (harg12 : arg12.IsWhole)
  (arg13 : Memref sig .tc .vmem S8x1024 .f32) (harg13 : arg13.IsWhole)
  (arg14 : Memref sig .tc .vmem S256x1024 .bf16) (harg14 : arg14.IsWhole)
  (arg15 : Memref sig .tc .vmem S256x1024 .bf16) (harg15 : arg15.IsWhole)
  (x0 : Vec F S256x1024 .bf16) (x1 : Vec F S256x1024 .f32) (x2 : Vec F S256x1024 .bf16) (x3 : Vec F S4x4x64x256 .bf16) (x4 : Vec F S1x1024 .f32) (x5 : Vec F S4x1024x512 .bf16) (x6 : Vec F S256x1024 .f32) (x7 : Vec F S256x1024 .f32) (x8 : Vec F S1x1024 .f32)

set_option maxHeartbeats 4000000 in
/-- The body at the first point, where the running sums and the halo are reset: the pieces its stores leave in each
    output and in the halo buffers (last store first), found by running it, with the proof that it runs. -/
noncomputable def runA (hc : isFirst i) :
    Σ' (L9 : List (View.Piece (Elt F) S256x2048 .bf16)), Σ' (L10 : List (View.Piece (Elt F) S256x1024 .bf16)), Σ' (L11 : List (View.Piece (Elt F) S256x1024 .f32)), Σ' (L12 : List (View.Piece (Elt F) S8x1024 .f32)), Σ' (L13 : List (View.Piece (Elt F) S256x1024 .bf16)), { L14 : List (View.Piece (Elt F) S256x1024 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14)) -∗ K ⟨⟩))
          ⊢ wp frame (wpE (defs₀ (F := F)) Variants.none c none) E (cc0_a_mix_bwd i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, ?_, fun E K => ?run⟩
  case run =>
    simp only [cc0_a_mix_bwd_eq_skeleton]; unfold cc0_a_mix_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold owns
    iintro ⟨⟨%f0, %h0, H0⟩, ⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
    obtain rfl := harg1.eq_unread h0; obtain rfl := harg2.eq_unread h1; obtain rfl := harg3.eq_unread h2; obtain rfl := harg4.eq_unread h3; obtain rfl := harg5.eq_unread h4; obtain rfl := harg6.eq_unread h5; obtain rfl := harg7.eq_unread h6; obtain rfl := harg8.eq_unread h7; obtain rfl := harg9.eq_unread h8
    sl_exec (disch := first | sl_exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]; · iexists _; iexact H10
    isplitl [H11]; · iexists _; iexact H11
    isplitl [H12]; · iexists _; iexact H12
    isplitl [H13]; · iexists _; iexact H13
    iexists _; iexact H14

end Cert.KernelIdeal.Mix

end
-- ==== Proof.RunB.lean ====
module

public import proofs.«01_k».proof.Proof.Setup

@[expose] public section

set_option maxRecDepth 16384

noncomputable section

namespace Cert.KernelIdeal.Mix

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg1 : Memref sig .tc .vmem S256x1024 .bf16) (harg1 : arg1.IsWhole)
  (arg2 : Memref sig .tc .vmem S256x1024 .f32) (harg2 : arg2.IsWhole)
  (arg3 : Memref sig .tc .vmem S256x1024 .bf16) (harg3 : arg3.IsWhole)
  (arg4 : Memref sig .tc .vmem S4x4x64x256 .bf16) (harg4 : arg4.IsWhole)
  (arg5 : Memref sig .tc .vmem S1x1024 .f32) (harg5 : arg5.IsWhole)
  (arg6 : Memref sig .tc .vmem S4x1024x512 .bf16) (harg6 : arg6.IsWhole)
  (arg7 : Memref sig .tc .vmem S256x1024 .f32) (harg7 : arg7.IsWhole)
  (arg8 : Memref sig .tc .vmem S256x1024 .f32) (harg8 : arg8.IsWhole)
  (arg9 : Memref sig .tc .vmem S1x1024 .f32) (harg9 : arg9.IsWhole)
  (arg10 : Memref sig .tc .vmem S256x2048 .bf16) (harg10 : arg10.IsWhole)
  (arg11 : Memref sig .tc .vmem S256x1024 .bf16) (harg11 : arg11.IsWhole)
  (arg12 : Memref sig .tc .vmem S256x1024 .f32) (harg12 : arg12.IsWhole)
  (arg13 : Memref sig .tc .vmem S8x1024 .f32) (harg13 : arg13.IsWhole)
  (arg14 : Memref sig .tc .vmem S256x1024 .bf16) (harg14 : arg14.IsWhole)
  (arg15 : Memref sig .tc .vmem S256x1024 .bf16) (harg15 : arg15.IsWhole)
  (x0 : Vec F S256x1024 .bf16) (x1 : Vec F S256x1024 .f32) (x2 : Vec F S256x1024 .bf16) (x3 : Vec F S4x4x64x256 .bf16) (x4 : Vec F S1x1024 .f32) (x5 : Vec F S4x1024x512 .bf16) (x6 : Vec F S256x1024 .f32) (x7 : Vec F S256x1024 .f32) (x8 : Vec F S1x1024 .f32)

set_option maxHeartbeats 4000000 in
/-- The body at a later point, over the running sums `y12` and the halo `y13`, `y14` the point before left: the pieces its stores leave in each
    output and in the halo buffers (last store first), found by running it, with the proof that it runs. -/
noncomputable def runB (hc : ¬isFirst i) (y12 : Vec F S8x1024 .f32) (y13 : Vec F S256x1024 .bf16) (y14 : Vec F S256x1024 .bf16) :
    Σ' (L9 : List (View.Piece (Elt F) S256x2048 .bf16)), Σ' (L10 : List (View.Piece (Elt F) S256x1024 .bf16)), Σ' (L11 : List (View.Piece (Elt F) S256x1024 .f32)), Σ' (L12 : List (View.Piece (Elt F) S8x1024 .f32)), Σ' (L13 : List (View.Piece (Elt F) S256x1024 .bf16)), { L14 : List (View.Piece (Elt F) S256x1024 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ owns (c : Thread nD τ) arg13 fullShare y12 ∗ owns (c : Thread nD τ) arg14 fullShare y13 ∗ owns (c : Thread nD τ) arg15 fullShare y14
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (arg13.view.loc (c : Thread nD τ) ↦[arg13.view.set]{fullShare} arg13.view.writes (Elt F) (harg13.unread y12) L12) ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14)) -∗ K ⟨⟩))
          ⊢ wp frame (wpE (defs₀ (F := F)) Variants.none c none) E (cc0_a_mix_bwd i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, ?_, fun E K => ?run⟩
  case run =>
    simp only [cc0_a_mix_bwd_eq_skeleton]; unfold cc0_a_mix_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold owns
    iintro ⟨⟨%f0, %h0, H0⟩, ⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%d9, %f9, -, H9⟩, ⟨%d10, %f10, -, H10⟩, ⟨%d11, %f11, -, H11⟩, ⟨%f12, %h12, H12⟩, ⟨%f13, %h13, H13⟩, ⟨%f14, %h14, H14⟩, Hk⟩
    obtain rfl := harg1.eq_unread h0; obtain rfl := harg2.eq_unread h1; obtain rfl := harg3.eq_unread h2; obtain rfl := harg4.eq_unread h3; obtain rfl := harg5.eq_unread h4; obtain rfl := harg6.eq_unread h5; obtain rfl := harg7.eq_unread h6; obtain rfl := harg8.eq_unread h7; obtain rfl := harg9.eq_unread h8; obtain rfl := harg13.eq_unread h12; obtain rfl := harg14.eq_unread h13; obtain rfl := harg15.eq_unread h14
    sl_exec (disch := first | sl_exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]; · iexists _; iexact H10
    isplitl [H11]; · iexists _; iexact H11
    isplitl [H12]; · iexact H12
    isplitl [H13]; · iexists _; iexact H13
    iexists _; iexact H14

end Cert.KernelIdeal.Mix

end
-- ==== Proof.Frame.lean ====
module

public import proofs.«01_k».proof.Proof.RunA
public import proofs.«01_k».proof.Proof.RunB
public import Idealize.ShloMosaic.Lib.Claim

@[expose] public section

set_option maxRecDepth 16384

noncomputable section

namespace Cert.KernelIdeal.Mix

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two runs at a grid point, on its own staging buffers and blocks -/

/-- The body's run at the first point. -/
abbrev rA (c : Dev nD) (t : Fin cfg0.N) (h : isFirst (grid0.coords t)) :=
  runA (F := F) c (grid0.coords t) (stg0 t) (stg0W t) (stg1 t) (stg1W t) (stg2 t) (stg2W t) (stg3 t) (stg3W t) (stg4 t) (stg4W t) (stg5 t) (stg5W t) (stg6 t) (stg6W t) (stg7 t) (stg7W t) (stg8 t) (stg8W t) (stg9 t) (stg9W t) (stg10 t) (stg10W t) (stg11 t) (stg11W t) (stg12 t) (stg12W t) haloHi (Memref.isWhole_whole _) haloLo (Memref.isWhole_whole _)
    (iblk m c 0 t) (iblk m c 1 t) (iblk m c 2 t) (iblk m c 3 t) (iblk m c 4 t) (iblk m c 5 t) (iblk m c 6 t) (iblk m c 7 t) (iblk m c 8 t) h

/-- The body's run at a later point, over what the point before left in the sums and the halo. -/
abbrev rB (c : Dev nD) (t : Fin cfg0.N) (h : ¬isFirst (grid0.coords t)) (y12 : Vec F S8x1024 .f32) (y13 y14 : Vec F S256x1024 .bf16) :=
  runB (F := F) c (grid0.coords t) (stg0 t) (stg0W t) (stg1 t) (stg1W t) (stg2 t) (stg2W t) (stg3 t) (stg3W t) (stg4 t) (stg4W t) (stg5 t) (stg5W t) (stg6 t) (stg6W t) (stg7 t) (stg7W t) (stg8 t) (stg8W t) (stg9 t) (stg9W t) (stg10 t) (stg10W t) (stg11 t) (stg11W t) (stg12 t) (stg12W t) haloHi (Memref.isWhole_whole _) haloLo (Memref.isWhole_whole _)
    (iblk m c 0 t) (iblk m c 1 t) (iblk m c 2 t) (iblk m c 3 t) (iblk m c 4 t) (iblk m c 5 t) (iblk m c 6 t) (iblk m c 7 t) (iblk m c 8 t) h y12 y13 y14

/-- At the first point the stores cover output 9. -/
theorem coverA9 (c : Dev nD) (t : Fin cfg0.N) (h : isFirst (grid0.coords t)) (y : S256x2048.Idx) :
    ∃ p ∈ (rA m c t h).1, y ∈ p.1.set :=
  View.cover_of_tiledL (rA m c t h).1 S256x256.size (by sl_kernel_rfl) y

/-- At the first point the stores cover output 10. -/
theorem coverA10 (c : Dev nD) (t : Fin cfg0.N) (h : isFirst (grid0.coords t)) (y : S256x1024.Idx) :
    ∃ p ∈ (rA m c t h).2.1, y ∈ p.1.set :=
  View.cover_of_tiledL (rA m c t h).2.1 S256x256.size (by sl_kernel_rfl) y

/-- At the first point the stores cover output 11. -/
theorem coverA11 (c : Dev nD) (t : Fin cfg0.N) (h : isFirst (grid0.coords t)) (y : S256x1024.Idx) :
    ∃ p ∈ (rA m c t h).2.2.1, y ∈ p.1.set :=
  View.cover_of_tiledL (rA m c t h).2.2.1 S256x1024.size (by sl_kernel_rfl) y

/-- At the first point the stores cover output 12. -/
theorem coverA12 (c : Dev nD) (t : Fin cfg0.N) (h : isFirst (grid0.coords t)) (y : S8x1024.Idx) :
    ∃ p ∈ (rA m c t h).2.2.2.1, y ∈ p.1.set :=
  View.cover_of_wholeMem (rA m c t h).2.2.2.1 (by sl_whole_mem) y

/-- At the first point the stores cover halo buffer 0. -/
theorem coverA13 (c : Dev nD) (t : Fin cfg0.N) (h : isFirst (grid0.coords t)) (y : S256x1024.Idx) :
    ∃ p ∈ (rA m c t h).2.2.2.2.1, y ∈ p.1.set :=
  View.cover_of_wholeMem (rA m c t h).2.2.2.2.1 (by sl_whole_mem) y

/-- At the first point the stores cover halo buffer 1. -/
theorem coverA14 (c : Dev nD) (t : Fin cfg0.N) (h : isFirst (grid0.coords t)) (y : S256x1024.Idx) :
    ∃ p ∈ (rA m c t h).2.2.2.2.2.1, y ∈ p.1.set :=
  View.cover_of_wholeMem (rA m c t h).2.2.2.2.2.1 (by sl_whole_mem) y

/-- At a later point the stores cover output 9. -/
theorem coverB9 (c : Dev nD) (t : Fin cfg0.N) (h : ¬isFirst (grid0.coords t)) (y12 : Vec F S8x1024 .f32) (y13 y14 : Vec F S256x1024 .bf16) (y : S256x2048.Idx) :
    ∃ p ∈ (rB m c t h y12 y13 y14).1, y ∈ p.1.set :=
  View.cover_of_tiledL (rB m c t h y12 y13 y14).1 S256x256.size (by sl_kernel_rfl) y

/-- At a later point the stores cover output 10. -/
theorem coverB10 (c : Dev nD) (t : Fin cfg0.N) (h : ¬isFirst (grid0.coords t)) (y12 : Vec F S8x1024 .f32) (y13 y14 : Vec F S256x1024 .bf16) (y : S256x1024.Idx) :
    ∃ p ∈ (rB m c t h y12 y13 y14).2.1, y ∈ p.1.set :=
  View.cover_of_tiledL (rB m c t h y12 y13 y14).2.1 S256x256.size (by sl_kernel_rfl) y

/-- At a later point the stores cover output 11. -/
theorem coverB11 (c : Dev nD) (t : Fin cfg0.N) (h : ¬isFirst (grid0.coords t)) (y12 : Vec F S8x1024 .f32) (y13 y14 : Vec F S256x1024 .bf16) (y : S256x1024.Idx) :
    ∃ p ∈ (rB m c t h y12 y13 y14).2.2.1, y ∈ p.1.set :=
  View.cover_of_tiledL (rB m c t h y12 y13 y14).2.2.1 S256x1024.size (by sl_kernel_rfl) y

/-- At a later point the stores cover halo buffer 0. -/
theorem coverB13 (c : Dev nD) (t : Fin cfg0.N) (h : ¬isFirst (grid0.coords t)) (y12 : Vec F S8x1024 .f32) (y13 y14 : Vec F S256x1024 .bf16) (y : S256x1024.Idx) :
    ∃ p ∈ (rB m c t h y12 y13 y14).2.2.2.2.1, y ∈ p.1.set :=
  View.cover_of_tiledL (rB m c t h y12 y13 y14).2.2.2.2.1 S256x256.size (by sl_kernel_rfl) y

/-- At a later point the stores cover halo buffer 1. -/
theorem coverB14 (c : Dev nD) (t : Fin cfg0.N) (h : ¬isFirst (grid0.coords t)) (y12 : Vec F S8x1024 .f32) (y13 y14 : Vec F S256x1024 .bf16) (y : S256x1024.Idx) :
    ∃ p ∈ (rB m c t h y12 y13 y14).2.2.2.2.2.1, y ∈ p.1.set :=
  View.cover_of_tiledL (rB m c t h y12 y13 y14).2.2.2.2.2.1 S256x256.size (by sl_kernel_rfl) y

/-! ## What a point leaves: the four outputs' blocks and the two halo buffers -/

/-- The contents a point leaves in the four outputs' staging buffers and in the two halo buffers. -/
structure Left (F : FTy → Type) where
  /-- The cotangent of `u` and `z`, side by side. -/
  duz : Vec F S256x2048 .bf16
  /-- The cotangent of the grouped product. -/
  dmr : Vec F S256x1024 .bf16
  /-- The cotangent of the layer's input. -/
  dx : Vec F S256x1024 .f32
  /-- The running sums: row 0 of the scale, row 1 of the gain. -/
  sums : Vec F S8x1024 .f32
  /-- The halo's high part. -/
  hi : Vec F S256x1024 .bf16
  /-- The halo's low part. -/
  lo : Vec F S256x1024 .bf16

/-- What the first point leaves. -/
def leftA (c : Dev nD) (t : Fin cfg0.N) (h : isFirst (grid0.coords t)) : Left F :=
  ⟨View.canon (rA m c t h).1, View.canon (rA m c t h).2.1, View.canon (rA m c t h).2.2.1, View.canon (rA m c t h).2.2.2.1,
    View.canon (rA m c t h).2.2.2.2.1, View.canon (rA m c t h).2.2.2.2.2.1⟩

/-- What a later point leaves, over what the point before left. -/
def leftB (c : Dev nD) (t : Fin cfg0.N) (h : ¬isFirst (grid0.coords t)) (y12 : Vec F S8x1024 .f32) (y13 y14 : Vec F S256x1024 .bf16) : Left F :=
  ⟨View.canon (rB m c t h y12 y13 y14).1, View.canon (rB m c t h y12 y13 y14).2.1, View.canon (rB m c t h y12 y13 y14).2.2.1,
    (stg12 t).view.read (Elt F) ((stg12 t).view.writes (Elt F) ((stg12W t).unread y12) (rB m c t h y12 y13 y14).2.2.2.1),
    View.canon (rB m c t h y12 y13 y14).2.2.2.2.1, View.canon (rB m c t h y12 y13 y14).2.2.2.2.2.1⟩

/-- What point `n` leaves. -/
def left (c : Dev nD) : (n : ℕ) → n < cfg0.N → Left F
  | 0, hn => leftA m c ⟨0, hn⟩ ((isFirst_iff _).mpr rfl)
  | n + 1, hn => leftB m c ⟨n + 1, hn⟩ (fun h => Nat.succ_ne_zero n ((isFirst_iff _).mp h))
      (left c n (Nat.lt_of_succ_lt hn)).sums (left c n (Nat.lt_of_succ_lt hn)).hi (left c n (Nat.lt_of_succ_lt hn)).lo

theorem left_first (c : Dev nD) (t : Fin cfg0.N) (h : isFirst (grid0.coords t)) : left m c t.val t.isLt = leftA m c t h := by
  obtain ⟨n, hn⟩ := t
  cases n with
  | zero => rfl
  | succ n => exact absurd ((isFirst_iff _).mp h) (Nat.succ_ne_zero n)

theorem left_later (c : Dev nD) (t : Fin cfg0.N) (h : ¬isFirst (grid0.coords t)) :
    left m c t.val t.isLt = leftB m c t h (left m c (t.val - 1) (Nat.lt_of_le_of_lt (Nat.sub_le _ _) t.isLt)).sums
      (left m c (t.val - 1) (Nat.lt_of_le_of_lt (Nat.sub_le _ _) t.isLt)).hi (left m c (t.val - 1) (Nat.lt_of_le_of_lt (Nat.sub_le _ _) t.isLt)).lo := by
  obtain ⟨n, hn⟩ := t
  cases n with
  | zero => exact absurd ((isFirst_iff _).mpr rfl) h
  | succ n => rfl

/-- What is held beside the windows before point `n`: at the start whatever the launch hands over, later the halo the point before left. -/
def held (c : Dev nD) : (n : ℕ) → n ≤ cfg0.N → sProp 𝕄
  | 0, _ => Pipeline.ΦA spec0 c
  | n + 1, hn => iprop(iprop(owns (c : Thread nD τ) haloHi fullShare ((left m c n hn).hi) ∗ owns (c : Thread nD τ) haloLo fullShare ((left m c n hn).lo)) ∗ (∃ r, prngReg c r))

theorem held_zero (c : Dev nD) (n : ℕ) (h : n ≤ cfg0.N) (hz : n = 0) : held m c n h = Pipeline.ΦA spec0 c := by
  subst hz; rfl

theorem held_succ (c : Dev nD) (n : ℕ) (hn : n < cfg0.N) :
    held m c (n + 1) hn = iprop(iprop(owns (c : Thread nD τ) haloHi fullShare ((left m c n hn).hi) ∗ owns (c : Thread nD τ) haloLo fullShare ((left m c n hn).lo)) ∗ (∃ r, prngReg c r)) := rfl

theorem held_pos (c : Dev nD) (n : ℕ) (h : n ≤ cfg0.N) (hz : n ≠ 0) :
    held m c n h = iprop(iprop(owns (c : Thread nD τ) haloHi fullShare ((left m c (n - 1) (by omega)).hi) ∗ owns (c : Thread nD τ) haloLo fullShare ((left m c (n - 1) (by omega)).lo)) ∗ (∃ r, prngReg c r)) := by
  cases n with
  | zero => exact absurd rfl hz
  | succ n => rfl

/-! ## The proof data -/

/-- The arrays as the region finds them; each input's buffer left at its block, the outputs' at what the point leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (left m c t.val t.isLt).duz
    | ⟨10, _⟩ => (left m c t.val t.isLt).dmr
    | ⟨11, _⟩ => (left m c t.val t.isLt).dx
    | ⟨12, _⟩ => (left m c t.val t.isLt).sums
  Φ t := held m c t.val (Nat.le_of_lt_succ t.isLt)
  q _ := fullShare
  owed _ := 0

theorem A_eq (c : Dev nD) (w : Fin cfg0.W) : (dats m 0 c).A w = V m c (Pipeline.arrRef spec0 w) := by
  dsimp only [dats]

theorem held_castSucc (c : Dev nD) (t : Fin cfg0.N) :
    (dats m 0 c).Φ t.castSucc = held m c t.val (Nat.le_of_lt t.isLt) := by
  dsimp only [dats]; exact Pipeline.Dat.Φ_castSucc (held m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = (left m c t.val t.isLt).duz := by dsimp only [dats]
theorem after10 (c : Dev nD) (t : Fin cfg0.N) : (dats m 0 c).after 10 t = (left m c t.val t.isLt).dmr := by dsimp only [dats]
theorem after11 (c : Dev nD) (t : Fin cfg0.N) : (dats m 0 c).after 11 t = (left m c t.val t.isLt).dx := by dsimp only [dats]
theorem after12 (c : Dev nD) (t : Fin cfg0.N) : (dats m 0 c).after 12 t = (left m c t.val t.isLt).sums := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
/-- The sums' buffer holds what the point before left: its block is the same at every point. -/
theorem before12 (c : Dev nD) (t : Fin cfg0.N) (h0 : t.val ≠ 0) (d) :
    (dats m 0 c).before 12 t d = (left m c (t.val - 1) (Nat.lt_of_le_of_lt (Nat.sub_le _ _) t.isLt)).sums := by
  have hN : t.val < 8 := lt_of_lt_of_eq t.isLt (show cfg0.N = 8 from N_0)
  rw [Dat.before_out_kept _ 12 rfl t (by omega) (Bool.eq_false_iff.mpr fun h => by have := (flush0_12 _).mp h; dsimp only at this; omega)
    (fun _ => rfl) (fun _ _ => rfl)]
  dsimp only [dats]

/-! ## The body at a point -/

/-- What the body is called with. -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d))
    ∗ (∃ d, owns (c : Thread nD τ) (stg7 t) fullShare ((dats m 0 c).before 7 t d))
    ∗ (∃ d, owns (c : Thread nD τ) (stg8 t) fullShare ((dats m 0 c).before 8 t d))
    ∗ (∃ d, owns (c : Thread nD τ) (stg9 t) fullShare ((dats m 0 c).before 9 t d))
    ∗ (∃ d, owns (c : Thread nD τ) (stg10 t) fullShare ((dats m 0 c).before 10 t d))
    ∗ (∃ d, owns (c : Thread nD τ) (stg11 t) fullShare ((dats m 0 c).before 11 t d))
    ∗ (∃ d, owns (c : Thread nD τ) (stg12 t) fullShare ((dats m 0 c).before 12 t d)))

/-- What it returns. -/
def bodyPost (c : Dev nD) (t : Fin cfg0.N) : sProp 𝕄 :=
  iprop((dats m 0 c).Φ t.succ ∗ (dats m 0 c).owesAt () t.succ
    ∗ owns (c : Thread nD τ) (stg0 t) fullShare ((dats m 0 c).after 0 t)
    ∗ owns (c : Thread nD τ) (stg1 t) fullShare ((dats m 0 c).after 1 t)
    ∗ owns (c : Thread nD τ) (stg2 t) fullShare ((dats m 0 c).after 2 t)
    ∗ owns (c : Thread nD τ) (stg3 t) fullShare ((dats m 0 c).after 3 t)
    ∗ owns (c : Thread nD τ) (stg4 t) fullShare ((dats m 0 c).after 4 t)
    ∗ owns (c : Thread nD τ) (stg5 t) fullShare ((dats m 0 c).after 5 t)
    ∗ owns (c : Thread nD τ) (stg6 t) fullShare ((dats m 0 c).after 6 t)
    ∗ owns (c : Thread nD τ) (stg7 t) fullShare ((dats m 0 c).after 7 t)
    ∗ owns (c : Thread nD τ) (stg8 t) fullShare ((dats m 0 c).after 8 t)
    ∗ owns (c : Thread nD τ) (stg9 t) fullShare ((dats m 0 c).after 9 t)
    ∗ owns (c : Thread nD τ) (stg10 t) fullShare ((dats m 0 c).after 10 t)
    ∗ owns (c : Thread nD τ) (stg11 t) fullShare ((dats m 0 c).after 11 t)
    ∗ owns (c : Thread nD τ) (stg12 t) fullShare ((dats m 0 c).after 12 t))

set_option maxHeartbeats 9600000 in
/-- The body at any point: by the run of the case the point is in. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8]
  rw [show (dats m 0 c).owesAt () t.succ = (dats m 0 c).owesAt () t.castSucc from rfl,
    after0, after1, after2, after3, after4, after5, after6, after7, after8, after9, after10, after11, after12]
  rw [show (dats m 0 c).Φ t.succ = held m c (t.val + 1) t.isLt from rfl, held_succ]
  have hN : t.val < 8 := lt_of_lt_of_eq t.isLt (show cfg0.N = 8 from N_0)
  by_cases hz : t.val = 0
  · have h : isFirst (grid0.coords t) := (isFirst_iff t).mpr hz
    rw [held_castSucc m c t, held_zero m c _ _ hz, rest_eq]
    rw [left_first m c t h]
    unfold leftA; dsimp only
    iintro ⟨⟨⟨H13, H14⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((rA m c t h).2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [H13]; · iexact H13
    isplitl [H14]; · iexact H14
    iintro ⟨H0, H1, H2, H3, H4, H5, H6, H7, H8, ⟨%e9, H9⟩, ⟨%e10, H10⟩, ⟨%e11, H11⟩, ⟨%e12, H12⟩, ⟨%e13, H13⟩, ⟨%e14, H14⟩⟩
    isplitl [H13 H14 Hg]
    · isplitl [H13 H14]
      · isplitl [H13]
        · unfold owns; iexists _; isplitr
          swap; · iexact H13
          ipureintro; exact View.read_writes_eq_canon _ _ _ (coverA13 m c t h)
        unfold owns; iexists _; isplitr
        swap; · iexact H14
        ipureintro; exact View.read_writes_eq_canon _ _ _ (coverA14 m c t h)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact View.read_writes_eq_canon _ _ _ (coverA9 m c t h)
    isplitl [H10]
    · unfold owns; iexists _; isplitr
      swap; · iexact H10
      ipureintro; exact View.read_writes_eq_canon _ _ _ (coverA10 m c t h)
    isplitl [H11]
    · unfold owns; iexists _; isplitr
      swap; · iexact H11
      ipureintro; exact View.read_writes_eq_canon _ _ _ (coverA11 m c t h)
    unfold owns; iexists _; isplitr
    swap; · iexact H12
    ipureintro; exact View.read_writes_eq_canon _ _ _ (coverA12 m c t h)
  · have h : ¬isFirst (grid0.coords t) := fun h => hz ((isFirst_iff t).mp h)
    rw [held_castSucc m c t, held_pos m c _ _ hz]
    rw [left_later m c t h]
    simp only [before12 m c t hz]
    unfold leftB; dsimp only
    iintro ⟨⟨⟨H13, H14⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((rB m c t h _ _ _).2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexact H12
    isplitl [H13]; · iexact H13
    isplitl [H14]; · iexact H14
    iintro ⟨H0, H1, H2, H3, H4, H5, H6, H7, H8, ⟨%e9, H9⟩, ⟨%e10, H10⟩, ⟨%e11, H11⟩, H12, ⟨%e13, H13⟩, ⟨%e14, H14⟩⟩
    isplitl [H13 H14 Hg]
    · isplitl [H13 H14]
      · isplitl [H13]
        · unfold owns; iexists _; isplitr
          swap; · iexact H13
          ipureintro; exact View.read_writes_eq_canon _ _ _ (coverB13 m c t h _ _ _)
        unfold owns; iexists _; isplitr
        swap; · iexact H14
        ipureintro; exact View.read_writes_eq_canon _ _ _ (coverB14 m c t h _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact View.read_writes_eq_canon _ _ _ (coverB9 m c t h _ _ _)
    isplitl [H10]
    · unfold owns; iexists _; isplitr
      swap; · iexact H10
      ipureintro; exact View.read_writes_eq_canon _ _ _ (coverB10 m c t h _ _ _)
    isplitl [H11]
    · unfold owns; iexists _; isplitr
      swap; · iexact H11
      ipureintro; exact View.read_writes_eq_canon _ _ _ (coverB11 m c t h _ _ _)
    unfold owns; iexists _; isplitr
    swap; · iexact H12
    ipureintro; exact rfl

/-- The body table's row at a point's slots is the body. -/
theorem row_eq (t : Fin cfg0.N) :
    defs₀ (F := F) .tc cfg0.body (cfg0.bodyArgs t (cfg0.slots t)) = bodyAt0 t := by
  unfold defs₀; rw [Defs.onTc_tc]

/-- The library's body obligation. -/
theorem body_ok (c : Dev nD) : BodyObligation (dats (F := F) m 0 c) (defs₀ (F := F)) Variants.none () Set.univ := fun t => by
  rw [bigSep_W0, bigSep_W0, row_eq]
  exact triple_restated (sound_body m c t) rfl .rfl fun _ => .rfl

theorem held_in (c : Dev nD) : Pipeline.ΦA spec0 c ⊢ (dats m 0 c).Φ 0 := by
  rw [show (dats m 0 c).Φ 0 = held m c 0 (Nat.zero_le _) from rfl, held_zero m c 0 _ rfl]
  try exact Idealize.SL.BI.Entails.refl _

theorem held_out (c : Dev nD) : (dats m 0 c).Φ (Fin.last cfg0.N) ⊢ Pipeline.ΦA spec0 c := by
  have hl : (Fin.last cfg0.N).val ≠ 0 := by rw [Fin.val_last]; have : cfg0.N = 8 := N_0; omega
  rw [show (dats m 0 c).Φ (Fin.last cfg0.N) = held m c (Fin.last cfg0.N).val (Nat.le_of_lt_succ (Fin.last cfg0.N).isLt) from rfl,
    held_pos m c _ _ hl, rest_eq]
  iintro ⟨⟨H13, H14⟩, Hg⟩
  isplitl [H13 H14]
  · isplitl [H13]
    · iexists _; iexact H13
    iexists _; iexact H14
  iexact Hg

/-! ## The launch -/

set_option backward.isDefEq.respectTransparency.types false in
/-- The program from any memory with zero counters: it ends with every array as the proof data says and every counter at zero. -/
theorem run_all : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_ok m c).loose) (hshare := fun c => (dats m 0 c).share_full fun _ => rfl)
    (howed := fun _ _ => rfl) (V := V m) (hmain := hmain m Variants.none) (hA := A_eq m) (hin := held_in m) (hout := held_out m)

theorem run_main : θ_run defs (onTc (τ := τ) (main (F := F))) (s₀ m ρ) (Pipeline.FramePost cfgs (dats m) 0 (V m)) :=
  (θ_run defs _ _).mono (fun _ h => h.1) (run_all m ρ)

/-- The frame: the arguments end as they were launched, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_all m ρ))

end Cert.KernelIdeal.Mix

end
-- ==== Proof.Frames.lean ====
/- The three programs run, their arguments end unchanged and every counter ends at zero. -/
module

public import proofs.«01_k».proof.Defs
public import proofs.«01_k».proof.Proof.Gen.Kernel
public import proofs.«01_k».proof.Proof.Frame
public import proofs.«01_k».proof.Proof.Gen.ReferenceIdeal.Run

@[expose] public section

set_option maxRecDepth 16384

noncomputable section

namespace Cert.Proof

open Idealize.ShloMosaic Idealize.SL.Sem

/-- The printed kernel and its idealization have the same text: the first one's frame is the second one's at bit patterns. -/
theorem same_text : @Cert.quiescent_Kernel Cert.Kernel.Gen.facts =
    (∀ (m : (ℓ : Loc Cert.KernelIdeal.nD Cert.KernelIdeal.τ Cert.KernelIdeal.sig) → Buf (Elt Bits) ℓ) (g : Dev Cert.KernelIdeal.nD → PrngReg), True →
      θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)) := by
  sl_kernel_rfl

theorem frame_kernel : @Cert.quiescent_Kernel Cert.Kernel.Gen.facts :=
  same_text.mpr fun m g _ => Cert.KernelIdeal.Mix.frame (F := Bits) m g

theorem frame_ideal : @Cert.quiescent_KernelIdeal Cert.KernelIdeal.Gen.facts := fun m g _ => Cert.KernelIdeal.Mix.frame m g

theorem frame_reference : @Cert.quiescent_ReferenceIdeal Cert.ReferenceIdeal.Gen.facts := fun m g _ =>
  (θ_run _ _ _).mono (fun r h => ⟨fun c => (h c).2.2.2.2, sem_eq_zero_of_no_sems rfl r.2⟩) (Cert.ReferenceIdeal.Value.run m g)

end Cert.Proof
-- ==== Proof.Pieces.lean ====
module

public import proofs.«01_k».proof.Proof.RunA
public import proofs.«01_k».proof.Proof.RunB

@[expose] public section

set_option maxRecDepth 16384

noncomputable section

namespace Cert.KernelIdeal.Mix

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What one column group computes, from the slices the body reads for it -/

/-- The slices of the inputs that one column group reads: the four row blocks of its weight, the pooled rows, the gate's
    input, the incoming cotangent and the scale. -/
structure Slices (F : FTy → Type) where
  /-- Rows 0 to 63 of the group's weight. -/
  w0 : Vec F S1x1x64x256 .bf16
  /-- Rows 64 to 127 of the group's weight. -/
  w1 : Vec F S1x1x64x256 .bf16
  /-- Rows 128 to 191 of the group's weight. -/
  w2 : Vec F S1x1x64x256 .bf16
  /-- Rows 192 to 255 of the group's weight. -/
  w3 : Vec F S1x1x64x256 .bf16
  /-- The pooled rows. -/
  p : Vec F S256x256 .bf16
  /-- The gate's input. -/
  z : Vec F S256x256 .f32
  /-- The incoming cotangent. -/
  dg : Vec F S256x256 .bf16
  /-- The scale. -/
  sc : Vec F S1x256 .f32

namespace Slices

variable (s : Slices F)

/-- The group's weight. -/
def weight : FVec F S256x256 .bf16 := k0_pay5 s.w0 s.w1 s.w2 s.w3
/-- The grouped product. -/
def mraw : FVec F S256x256 .f32 := k0_pay6 s.w0 s.w1 s.w2 s.w3 s.p
/-- The cotangent of the scaled product. -/
def dm : FVec F S256x256 .f32 := k0_pay10 s.z s.dg
/-- The cotangent of the gate's input. -/
def dz : FVec F S256x256 .bf16 := k0_pay11 s.sc s.mraw (k0_pay7 s.z) (k0_pay8 s.z) (k0_pay9 s.dg)
/-- The scale's running sum, one tile on. -/
def dsc (acc : Vec F S1x256 .f32) : FVec F S1x256 .f32 := k0_pay12 s.mraw s.dm acc
/-- The cotangent of the grouped product. -/
def dmr : FVec F S256x256 .bf16 := k0_pay13 s.sc s.dm
/-- The cotangent of the pooled rows. -/
def dp : FVec F S256x256 .f32 := k0_pay14 s.weight s.sc s.dm

end Slices

/-- The reciprocal of how many rows each row's window holds, for a tile that starts at row `v4`. -/
def invCount (w v4 : BitVec 32) : FVec F S256x1 .f32 :=
  divf (broadcast S256x1 (Scalar.ofBits .f32 0x3F800000#32))
    (sitofp .f32 (minsi (addi (broadcast S256x1 (Scalar.addi v4 1#32)) (iota .tc S256x1 32 [0] iota_S256x1_d0_w32)) (broadcast S256x1 w)))

/-- One or zero by a condition. -/
def mask (b : IVec S256x256 1) : FVec F S256x256 .bf16 :=
  truncf .bf16 (select b (broadcast S256x256 (Scalar.ofBits .f32 0x3F800000#32)) (broadcast S256x256 (Scalar.ofBits .f32 0x00000000#32))) bitsLt_bf16_f32

/-- The window's matrix inside the tile. -/
def maskIn (w : BitVec 32) : FVec F S256x256 .bf16 :=
  mask (andi (cmpi .sge k0_pay4 (broadcast S256x256 0#32)) (cmpi .slt k0_pay4 (broadcast S256x256 w)))

/-- The window's matrix into the tile after. -/
def maskHalo (w : BitVec 32) : FVec F S256x256 .bf16 :=
  mask (cmpi .slt (addi k0_pay4 (broadcast S256x256 256#32)) (broadcast S256x256 w))

namespace Slices

variable (s : Slices F)

/-- The pooled rows' cotangent over the window's count. -/
def h (w v4 : BitVec 32) : FVec F S256x256 .f32 := mulf s.dp (broadcastTo S256x256 (invCount w v4) broadcasts_S256x1_S256x256)
/-- Its high part. -/
def hi (w v4 : BitVec 32) : FVec F S256x256 .bf16 := truncf .bf16 (s.h w v4) bitsLt_bf16_f32
/-- Its low part. -/
def lo (w v4 : BitVec 32) : FVec F S256x256 .bf16 := truncf .bf16 (subf (s.h w v4) (extf .f32 (s.hi w v4) bitsLt_bf16_f32)) bitsLt_bf16_f32
/-- The high part as stored. -/
def hiSt (w v4 : BitVec 32) : FVec F S256x256 .bf16 := shapeCast S256x256 (s.hi w v4) shapeCasts_S256x256_S256x256
/-- The low part as stored. -/
def loSt (w v4 : BitVec 32) : FVec F S256x256 .bf16 := shapeCast S256x256 (s.lo w v4) shapeCasts_S256x256_S256x256

/-- A product of two tiles of one group. -/
def prod (a b : FVec F S256x256 .bf16) : FVec F S256x256 .f32 :=
  matmul dot_S256x256_S256x256_S256x256_1_0_0_1_n_n none a b (constant S256x256 .f32 0x00000000#32)

/-- The cotangent of the pooled input, from this tile and the halo. -/
def du (w v4 : BitVec 32) (hh hl : Vec F S256x256 .bf16) : FVec F S256x256 .bf16 :=
  truncf .bf16 (subf (addf (addf (addf (prod (maskIn w) (s.hi w v4)) (prod (maskIn w) (s.lo w v4))) (prod (maskHalo w) hh)) (prod (maskHalo w) hl)) s.dp) bitsLt_bf16_f32

end Slices

/-- What is stored into the first output: the gate's cotangent and the pooled input's, group by group. -/
def duzPieces (v4 : BitVec 32) (s0 s1 s2 s3 : Slices F) (h0 l0 h1 l1 h2 l2 h3 l3 : Vec F S256x256 .bf16) : List (View.Piece (Elt F) S256x2048 .bf16) :=
  [⟨Rect.unit (s := S256x2048) ![0, 768] S256x256.size inb_S256x2048_S256x256_0_768, s3.du 16#32 v4 h3 l3⟩,
   ⟨Rect.unit (s := S256x2048) ![0, 1792] S256x256.size inb_S256x2048_S256x256_0_1792, s3.dz⟩,
   ⟨Rect.unit (s := S256x2048) ![0, 512] S256x256.size inb_S256x2048_S256x256_0_512, s2.du 8#32 v4 h2 l2⟩,
   ⟨Rect.unit (s := S256x2048) ![0, 1536] S256x256.size inb_S256x2048_S256x256_0_1536, s2.dz⟩,
   ⟨Rect.unit (s := S256x2048) ![0, 256] S256x256.size inb_S256x2048_S256x256_0_256, s1.du 4#32 v4 h1 l1⟩,
   ⟨Rect.unit (s := S256x2048) ![0, 1280] S256x256.size inb_S256x2048_S256x256_0_1280, s1.dz⟩,
   ⟨Rect.unit (s := S256x2048) ![0, 0] S256x256.size inb_S256x2048_S256x256_0_0, s0.du 2#32 v4 h0 l0⟩,
   ⟨Rect.unit (s := S256x2048) ![0, 1024] S256x256.size inb_S256x2048_S256x256_0_1024, s0.dz⟩]

/-- What is stored into the second output. -/
def dmrPieces (s0 s1 s2 s3 : Slices F) : List (View.Piece (Elt F) S256x1024 .bf16) :=
  [⟨Rect.unit (s := S256x1024) ![0, 768] S256x256.size inb_S256x1024_S256x256_0_768, s3.dmr⟩,
   ⟨Rect.unit (s := S256x1024) ![0, 512] S256x256.size inb_S256x1024_S256x256_0_512, s2.dmr⟩,
   ⟨Rect.unit (s := S256x1024) ![0, 256] S256x256.size inb_S256x1024_S256x256_0_256, s1.dmr⟩,
   ⟨Rect.unit (s := S256x1024) ![0, 0] S256x256.size inb_S256x1024_S256x256_0_0, s0.dmr⟩]

/-- What is stored into the halo's high part up to group 0, on top of `base`. -/
def hiPieces1 (base : List (View.Piece (Elt F) S256x1024 .bf16)) (v4 : BitVec 32) (s0 : Slices F) : List (View.Piece (Elt F) S256x1024 .bf16) :=
  ⟨Rect.unit (s := S256x1024) ![0, 0] S256x256.size inb_S256x1024_S256x256_0_0, s0.hiSt 2#32 v4⟩ :: base

/-- What is stored into the halo's high part up to group 1, on top of `base`. -/
def hiPieces2 (base : List (View.Piece (Elt F) S256x1024 .bf16)) (v4 : BitVec 32) (s0 s1 : Slices F) : List (View.Piece (Elt F) S256x1024 .bf16) :=
  ⟨Rect.unit (s := S256x1024) ![0, 256] S256x256.size inb_S256x1024_S256x256_0_256, s1.hiSt 4#32 v4⟩ :: hiPieces1 base v4 s0

/-- What is stored into the halo's high part up to group 2, on top of `base`. -/
def hiPieces3 (base : List (View.Piece (Elt F) S256x1024 .bf16)) (v4 : BitVec 32) (s0 s1 s2 : Slices F) : List (View.Piece (Elt F) S256x1024 .bf16) :=
  ⟨Rect.unit (s := S256x1024) ![0, 512] S256x256.size inb_S256x1024_S256x256_0_512, s2.hiSt 8#32 v4⟩ :: hiPieces2 base v4 s0 s1

/-- What is stored into the halo's high part up to group 3, on top of `base`. -/
def hiPieces4 (base : List (View.Piece (Elt F) S256x1024 .bf16)) (v4 : BitVec 32) (s0 s1 s2 s3 : Slices F) : List (View.Piece (Elt F) S256x1024 .bf16) :=
  ⟨Rect.unit (s := S256x1024) ![0, 768] S256x256.size inb_S256x1024_S256x256_0_768, s3.hiSt 16#32 v4⟩ :: hiPieces3 base v4 s0 s1 s2

/-- What is stored into the halo's low part up to group 0, on top of `base`. -/
def loPieces1 (base : List (View.Piece (Elt F) S256x1024 .bf16)) (v4 : BitVec 32) (s0 : Slices F) : List (View.Piece (Elt F) S256x1024 .bf16) :=
  ⟨Rect.unit (s := S256x1024) ![0, 0] S256x256.size inb_S256x1024_S256x256_0_0, s0.loSt 2#32 v4⟩ :: base

/-- What is stored into the halo's low part up to group 1, on top of `base`. -/
def loPieces2 (base : List (View.Piece (Elt F) S256x1024 .bf16)) (v4 : BitVec 32) (s0 s1 : Slices F) : List (View.Piece (Elt F) S256x1024 .bf16) :=
  ⟨Rect.unit (s := S256x1024) ![0, 256] S256x256.size inb_S256x1024_S256x256_0_256, s1.loSt 4#32 v4⟩ :: loPieces1 base v4 s0

/-- What is stored into the halo's low part up to group 2, on top of `base`. -/
def loPieces3 (base : List (View.Piece (Elt F) S256x1024 .bf16)) (v4 : BitVec 32) (s0 s1 s2 : Slices F) : List (View.Piece (Elt F) S256x1024 .bf16) :=
  ⟨Rect.unit (s := S256x1024) ![0, 512] S256x256.size inb_S256x1024_S256x256_0_512, s2.loSt 8#32 v4⟩ :: loPieces2 base v4 s0 s1

/-- What is stored into the halo's low part up to group 3, on top of `base`. -/
def loPieces4 (base : List (View.Piece (Elt F) S256x1024 .bf16)) (v4 : BitVec 32) (s0 s1 s2 s3 : Slices F) : List (View.Piece (Elt F) S256x1024 .bf16) :=
  ⟨Rect.unit (s := S256x1024) ![0, 768] S256x256.size inb_S256x1024_S256x256_0_768, s3.loSt 16#32 v4⟩ :: loPieces3 base v4 s0 s1 s2

/-- What is stored into the sums' first row up to group 0, on top of `base`. -/
def scPieces1 (base : List (View.Piece (Elt F) S8x1024 .f32)) (s0 : Slices F) (a0 : Vec F S1x256 .f32) : List (View.Piece (Elt F) S8x1024 .f32) :=
  ⟨Rect.unit (s := S8x1024) ![0, 0] S1x256.size inb_S8x1024_S1x256_0_0, s0.dsc a0⟩ :: base

/-- What is stored into the sums' first row up to group 1, on top of `base`. -/
def scPieces2 (base : List (View.Piece (Elt F) S8x1024 .f32)) (s0 s1 : Slices F) (a0 a1 : Vec F S1x256 .f32) : List (View.Piece (Elt F) S8x1024 .f32) :=
  ⟨Rect.unit (s := S8x1024) ![0, 256] S1x256.size inb_S8x1024_S1x256_0_256, s1.dsc a1⟩ :: scPieces1 base s0 a0

/-- What is stored into the sums' first row up to group 2, on top of `base`. -/
def scPieces3 (base : List (View.Piece (Elt F) S8x1024 .f32)) (s0 s1 s2 : Slices F) (a0 a1 a2 : Vec F S1x256 .f32) : List (View.Piece (Elt F) S8x1024 .f32) :=
  ⟨Rect.unit (s := S8x1024) ![0, 512] S1x256.size inb_S8x1024_S1x256_0_512, s2.dsc a2⟩ :: scPieces2 base s0 s1 a0 a1

/-- What is stored into the sums' first row up to group 3, on top of `base`. -/
def scPieces4 (base : List (View.Piece (Elt F) S8x1024 .f32)) (s0 s1 s2 s3 : Slices F) (a0 a1 a2 a3 : Vec F S1x256 .f32) : List (View.Piece (Elt F) S8x1024 .f32) :=
  ⟨Rect.unit (s := S8x1024) ![0, 768] S1x256.size inb_S8x1024_S1x256_0_768, s3.dsc a3⟩ :: scPieces3 base s0 s1 s2 a0 a1 a2

/-- The cotangent of the normalised rows, from the first output's four column blocks as read back. -/
def dhOf (d0 d1 d2 d3 : Vec F S256x512 .bf16) (w0 w1 w2 w3 : Vec F S1x1024x512 .bf16) : FVec F S256x1024 .f32 :=
  k0_pay79 d0 w0 d1 w1 d2 w2 d3 w3

variable (c : Dev nD) (i : grid0.Coords)
  (arg1 : Memref sig .tc .vmem S256x1024 .bf16) (harg1 : arg1.IsWhole)
  (arg2 : Memref sig .tc .vmem S256x1024 .f32) (harg2 : arg2.IsWhole)
  (arg3 : Memref sig .tc .vmem S256x1024 .bf16) (harg3 : arg3.IsWhole)
  (arg4 : Memref sig .tc .vmem S4x4x64x256 .bf16) (harg4 : arg4.IsWhole)
  (arg5 : Memref sig .tc .vmem S1x1024 .f32) (harg5 : arg5.IsWhole)
  (arg6 : Memref sig .tc .vmem S4x1024x512 .bf16) (harg6 : arg6.IsWhole)
  (arg7 : Memref sig .tc .vmem S256x1024 .f32) (harg7 : arg7.IsWhole)
  (arg8 : Memref sig .tc .vmem S256x1024 .f32) (harg8 : arg8.IsWhole)
  (arg9 : Memref sig .tc .vmem S1x1024 .f32) (harg9 : arg9.IsWhole)
  (arg10 : Memref sig .tc .vmem S256x2048 .bf16) (harg10 : arg10.IsWhole)
  (arg11 : Memref sig .tc .vmem S256x1024 .bf16) (harg11 : arg11.IsWhole)
  (arg12 : Memref sig .tc .vmem S256x1024 .f32) (harg12 : arg12.IsWhole)
  (arg13 : Memref sig .tc .vmem S8x1024 .f32) (harg13 : arg13.IsWhole)
  (arg14 : Memref sig .tc .vmem S256x1024 .bf16) (harg14 : arg14.IsWhole)
  (arg15 : Memref sig .tc .vmem S256x1024 .bf16) (harg15 : arg15.IsWhole)
  (x0 : Vec F S256x1024 .bf16) (x1 : Vec F S256x1024 .f32) (x2 : Vec F S256x1024 .bf16) (x3 : Vec F S4x4x64x256 .bf16) (x4 : Vec F S1x1024 .f32) (x5 : Vec F S4x1024x512 .bf16) (x6 : Vec F S256x1024 .f32) (x7 : Vec F S256x1024 .f32) (x8 : Vec F S1x1024 .f32)

/-- The slices group 0 reads. -/
def slices0 : Slices F where
  w0 := View.readAt (Elt F) arg4.view (Rect.unit (s := S4x4x64x256) ![0, 0, 0, 0] S1x1x64x256.size inb_S4x4x64x256_S1x1x64x256_0_0_0_0).toLoadRect (harg4.unread x3)
  w1 := View.readAt (Elt F) arg4.view (Rect.unit (s := S4x4x64x256) ![1, 0, 0, 0] S1x1x64x256.size inb_S4x4x64x256_S1x1x64x256_1_0_0_0).toLoadRect (harg4.unread x3)
  w2 := View.readAt (Elt F) arg4.view (Rect.unit (s := S4x4x64x256) ![2, 0, 0, 0] S1x1x64x256.size inb_S4x4x64x256_S1x1x64x256_2_0_0_0).toLoadRect (harg4.unread x3)
  w3 := View.readAt (Elt F) arg4.view (Rect.unit (s := S4x4x64x256) ![3, 0, 0, 0] S1x1x64x256.size inb_S4x4x64x256_S1x1x64x256_3_0_0_0).toLoadRect (harg4.unread x3)
  p := View.readAt (Elt F) arg3.view (Rect.unit (s := S256x1024) ![0, 0] S256x256.size inb_S256x1024_S256x256_0_0).toLoadRect (harg3.unread x2)
  z := View.readAt (Elt F) arg2.view (Rect.unit (s := S256x1024) ![0, 0] S256x256.size inb_S256x1024_S256x256_0_0).toLoadRect (harg2.unread x1)
  dg := View.readAt (Elt F) arg1.view (Rect.unit (s := S256x1024) ![0, 0] S256x256.size inb_S256x1024_S256x256_0_0).toLoadRect (harg1.unread x0)
  sc := View.readAt (Elt F) arg5.view (Rect.unit (s := S1x1024) ![0, 0] S1x256.size inb_S1x1024_S1x256_0_0).toLoadRect (harg5.unread x4)

/-- The slices group 1 reads. -/
def slices1 : Slices F where
  w0 := View.readAt (Elt F) arg4.view (Rect.unit (s := S4x4x64x256) ![0, 1, 0, 0] S1x1x64x256.size inb_S4x4x64x256_S1x1x64x256_0_1_0_0).toLoadRect (harg4.unread x3)
  w1 := View.readAt (Elt F) arg4.view (Rect.unit (s := S4x4x64x256) ![1, 1, 0, 0] S1x1x64x256.size inb_S4x4x64x256_S1x1x64x256_1_1_0_0).toLoadRect (harg4.unread x3)
  w2 := View.readAt (Elt F) arg4.view (Rect.unit (s := S4x4x64x256) ![2, 1, 0, 0] S1x1x64x256.size inb_S4x4x64x256_S1x1x64x256_2_1_0_0).toLoadRect (harg4.unread x3)
  w3 := View.readAt (Elt F) arg4.view (Rect.unit (s := S4x4x64x256) ![3, 1, 0, 0] S1x1x64x256.size inb_S4x4x64x256_S1x1x64x256_3_1_0_0).toLoadRect (harg4.unread x3)
  p := View.readAt (Elt F) arg3.view (Rect.unit (s := S256x1024) ![0, 256] S256x256.size inb_S256x1024_S256x256_0_256).toLoadRect (harg3.unread x2)
  z := View.readAt (Elt F) arg2.view (Rect.unit (s := S256x1024) ![0, 256] S256x256.size inb_S256x1024_S256x256_0_256).toLoadRect (harg2.unread x1)
  dg := View.readAt (Elt F) arg1.view (Rect.unit (s := S256x1024) ![0, 256] S256x256.size inb_S256x1024_S256x256_0_256).toLoadRect (harg1.unread x0)
  sc := View.readAt (Elt F) arg5.view (Rect.unit (s := S1x1024) ![0, 256] S1x256.size inb_S1x1024_S1x256_0_256).toLoadRect (harg5.unread x4)

/-- The slices group 2 reads. -/
def slices2 : Slices F where
  w0 := View.readAt (Elt F) arg4.view (Rect.unit (s := S4x4x64x256) ![0, 2, 0, 0] S1x1x64x256.size inb_S4x4x64x256_S1x1x64x256_0_2_0_0).toLoadRect (harg4.unread x3)
  w1 := View.readAt (Elt F) arg4.view (Rect.unit (s := S4x4x64x256) ![1, 2, 0, 0] S1x1x64x256.size inb_S4x4x64x256_S1x1x64x256_1_2_0_0).toLoadRect (harg4.unread x3)
  w2 := View.readAt (Elt F) arg4.view (Rect.unit (s := S4x4x64x256) ![2, 2, 0, 0] S1x1x64x256.size inb_S4x4x64x256_S1x1x64x256_2_2_0_0).toLoadRect (harg4.unread x3)
  w3 := View.readAt (Elt F) arg4.view (Rect.unit (s := S4x4x64x256) ![3, 2, 0, 0] S1x1x64x256.size inb_S4x4x64x256_S1x1x64x256_3_2_0_0).toLoadRect (harg4.unread x3)
  p := View.readAt (Elt F) arg3.view (Rect.unit (s := S256x1024) ![0, 512] S256x256.size inb_S256x1024_S256x256_0_512).toLoadRect (harg3.unread x2)
  z := View.readAt (Elt F) arg2.view (Rect.unit (s := S256x1024) ![0, 512] S256x256.size inb_S256x1024_S256x256_0_512).toLoadRect (harg2.unread x1)
  dg := View.readAt (Elt F) arg1.view (Rect.unit (s := S256x1024) ![0, 512] S256x256.size inb_S256x1024_S256x256_0_512).toLoadRect (harg1.unread x0)
  sc := View.readAt (Elt F) arg5.view (Rect.unit (s := S1x1024) ![0, 512] S1x256.size inb_S1x1024_S1x256_0_512).toLoadRect (harg5.unread x4)

/-- The slices group 3 reads. -/
def slices3 : Slices F where
  w0 := View.readAt (Elt F) arg4.view (Rect.unit (s := S4x4x64x256) ![0, 3, 0, 0] S1x1x64x256.size inb_S4x4x64x256_S1x1x64x256_0_3_0_0).toLoadRect (harg4.unread x3)
  w1 := View.readAt (Elt F) arg4.view (Rect.unit (s := S4x4x64x256) ![1, 3, 0, 0] S1x1x64x256.size inb_S4x4x64x256_S1x1x64x256_1_3_0_0).toLoadRect (harg4.unread x3)
  w2 := View.readAt (Elt F) arg4.view (Rect.unit (s := S4x4x64x256) ![2, 3, 0, 0] S1x1x64x256.size inb_S4x4x64x256_S1x1x64x256_2_3_0_0).toLoadRect (harg4.unread x3)
  w3 := View.readAt (Elt F) arg4.view (Rect.unit (s := S4x4x64x256) ![3, 3, 0, 0] S1x1x64x256.size inb_S4x4x64x256_S1x1x64x256_3_3_0_0).toLoadRect (harg4.unread x3)
  p := View.readAt (Elt F) arg3.view (Rect.unit (s := S256x1024) ![0, 768] S256x256.size inb_S256x1024_S256x256_0_768).toLoadRect (harg3.unread x2)
  z := View.readAt (Elt F) arg2.view (Rect.unit (s := S256x1024) ![0, 768] S256x256.size inb_S256x1024_S256x256_0_768).toLoadRect (harg2.unread x1)
  dg := View.readAt (Elt F) arg1.view (Rect.unit (s := S256x1024) ![0, 768] S256x256.size inb_S256x1024_S256x256_0_768).toLoadRect (harg1.unread x0)
  sc := View.readAt (Elt F) arg5.view (Rect.unit (s := S1x1024) ![0, 768] S1x256.size inb_S1x1024_S1x256_0_768).toLoadRect (harg5.unread x4)

/-- The first row of the tile a point works on. -/
def firstRow (i : grid0.Coords) : BitVec 32 := Scalar.muli (Scalar.subi 7#32 (BitVec.ofNat 32 (i 0).val)) 256#32

variable (y12 : Vec F S8x1024 .f32) (y13 y14 : Vec F S256x1024 .bf16)

/-- The first output's pieces at a later point. -/
def duzB : List (View.Piece (Elt F) S256x2048 .bf16) :=
  duzPieces (firstRow i) (slices0 arg1 harg1 arg2 harg2 arg3 harg3 arg4 harg4 arg5 harg5 x0 x1 x2 x3 x4) (slices1 arg1 harg1 arg2 harg2 arg3 harg3 arg4 harg4 arg5 harg5 x0 x1 x2 x3 x4) (slices2 arg1 harg1 arg2 harg2 arg3 harg3 arg4 harg4 arg5 harg5 x0 x1 x2 x3 x4) (slices3 arg1 harg1 arg2 harg2 arg3 harg3 arg4 harg4 arg5 harg5 x0 x1 x2 x3 x4)
    (View.readAt (Elt F) arg14.view (Rect.unit (s := S256x1024) ![0, 0] S256x256.size inb_S256x1024_S256x256_0_0).toLoadRect (harg14.unread y13)) (View.readAt (Elt F) arg15.view (Rect.unit (s := S256x1024) ![0, 0] S256x256.size inb_S256x1024_S256x256_0_0).toLoadRect (harg15.unread y14)) (View.readAt (Elt F) arg14.view (Rect.unit (s := S256x1024) ![0, 256] S256x256.size inb_S256x1024_S256x256_0_256).toLoadRect (harg14.unread y13)) (View.readAt (Elt F) arg15.view (Rect.unit (s := S256x1024) ![0, 256] S256x256.size inb_S256x1024_S256x256_0_256).toLoadRect (harg15.unread y14)) (View.readAt (Elt F) arg14.view (Rect.unit (s := S256x1024) ![0, 512] S256x256.size inb_S256x1024_S256x256_0_512).toLoadRect (harg14.unread y13)) (View.readAt (Elt F) arg15.view (Rect.unit (s := S256x1024) ![0, 512] S256x256.size inb_S256x1024_S256x256_0_512).toLoadRect (harg15.unread y14)) (View.readAt (Elt F) arg14.view (Rect.unit (s := S256x1024) ![0, 768] S256x256.size inb_S256x1024_S256x256_0_768).toLoadRect (harg14.unread y13)) (View.readAt (Elt F) arg15.view (Rect.unit (s := S256x1024) ![0, 768] S256x256.size inb_S256x1024_S256x256_0_768).toLoadRect (harg15.unread y14))

/-- The cotangent of the normalised rows at a later point. -/
def dhB  : FVec F S256x1024 .f32 :=
  dhOf (arg10.view.readCov (duzB i arg1 harg1 arg2 harg2 arg3 harg3 arg4 harg4 arg5 harg5 arg14 harg14 arg15 harg15 x0 x1 x2 x3 x4 y13 y14) (Rect.unit (s := S256x2048) ![0, 0] S256x512.size inb_S256x2048_S256x512_0_0).toLoadRect) (arg10.view.readCov (duzB i arg1 harg1 arg2 harg2 arg3 harg3 arg4 harg4 arg5 harg5 arg14 harg14 arg15 harg15 x0 x1 x2 x3 x4 y13 y14) (Rect.unit (s := S256x2048) ![0, 512] S256x512.size inb_S256x2048_S256x512_0_512).toLoadRect) (arg10.view.readCov (duzB i arg1 harg1 arg2 harg2 arg3 harg3 arg4 harg4 arg5 harg5 arg14 harg14 arg15 harg15 x0 x1 x2 x3 x4 y13 y14) (Rect.unit (s := S256x2048) ![0, 1024] S256x512.size inb_S256x2048_S256x512_0_1024).toLoadRect) (arg10.view.readCov (duzB i arg1 harg1 arg2 harg2 arg3 harg3 arg4 harg4 arg5 harg5 arg14 harg14 arg15 harg15 x0 x1 x2 x3 x4 y13 y14) (Rect.unit (s := S256x2048) ![0, 1536] S256x512.size inb_S256x2048_S256x512_0_1536).toLoadRect)
    (View.readAt (Elt F) arg6.view (Rect.unit (s := S4x1024x512) ![0, 0, 0] S1x1024x512.size inb_S4x1024x512_S1x1024x512_0_0_0).toLoadRect (harg6.unread x5)) (View.readAt (Elt F) arg6.view (Rect.unit (s := S4x1024x512) ![1, 0, 0] S1x1024x512.size inb_S4x1024x512_S1x1024x512_1_0_0).toLoadRect (harg6.unread x5)) (View.readAt (Elt F) arg6.view (Rect.unit (s := S4x1024x512) ![2, 0, 0] S1x1024x512.size inb_S4x1024x512_S1x1024x512_2_0_0).toLoadRect (harg6.unread x5)) (View.readAt (Elt F) arg6.view (Rect.unit (s := S4x1024x512) ![3, 0, 0] S1x1024x512.size inb_S4x1024x512_S1x1024x512_3_0_0).toLoadRect (harg6.unread x5))

set_option maxHeartbeats 4000000 in
theorem runB_duz (hc : ¬isFirst i) : (runB (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 hc y12 y13 y14).1 = duzB i arg1 harg1 arg2 harg2 arg3 harg3 arg4 harg4 arg5 harg5 arg14 harg14 arg15 harg15 x0 x1 x2 x3 x4 y13 y14 := by
  sl_kernel_rfl

set_option maxHeartbeats 4000000 in
theorem runB_dmr (hc : ¬isFirst i) : (runB (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 hc y12 y13 y14).2.1 = dmrPieces (slices0 arg1 harg1 arg2 harg2 arg3 harg3 arg4 harg4 arg5 harg5 x0 x1 x2 x3 x4) (slices1 arg1 harg1 arg2 harg2 arg3 harg3 arg4 harg4 arg5 harg5 x0 x1 x2 x3 x4) (slices2 arg1 harg1 arg2 harg2 arg3 harg3 arg4 harg4 arg5 harg5 x0 x1 x2 x3 x4) (slices3 arg1 harg1 arg2 harg2 arg3 harg3 arg4 harg4 arg5 harg5 x0 x1 x2 x3 x4) := by
  sl_kernel_rfl

set_option maxHeartbeats 4000000 in
theorem runB_dx (hc : ¬isFirst i) : (runB (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 hc y12 y13 y14).2.2.1 =
    [⟨Rect.unit (s := S256x1024) ![0, 0] S256x1024.size inb_S256x1024_S256x1024_0_0, k0_pay82 (dhB i arg1 harg1 arg2 harg2 arg3 harg3 arg4 harg4 arg5 harg5 arg6 harg6 arg10 arg14 harg14 arg15 harg15 x0 x1 x2 x3 x4 x5 y13 y14) (View.readAt (Elt F) arg7.view (Rect.unit (s := S256x1024) ![0, 0] S256x1024.size inb_S256x1024_S256x1024_0_0).toLoadRect (harg7.unread x6)) (View.readAt (Elt F) arg9.view (Rect.unit (s := S1x1024) ![0, 0] S1x1024.size inb_S1x1024_S1x1024_0_0).toLoadRect (harg9.unread x8)) (View.readAt (Elt F) arg8.view (Rect.unit (s := S256x1024) ![0, 0] S256x1024.size inb_S256x1024_S256x1024_0_0).toLoadRect (harg8.unread x7))⟩] := by
  sl_kernel_rfl

set_option maxHeartbeats 4000000 in
theorem runB_sums (hc : ¬isFirst i) : (runB (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 hc y12 y13 y14).2.2.2.1 =
    ⟨Rect.unit (s := S8x1024) ![1, 0] S1x1024.size inb_S8x1024_S1x1024_1_0, k0_pay83 (dhB i arg1 harg1 arg2 harg2 arg3 harg3 arg4 harg4 arg5 harg5 arg6 harg6 arg10 arg14 harg14 arg15 harg15 x0 x1 x2 x3 x4 x5 y13 y14) (View.readAt (Elt F) arg7.view (Rect.unit (s := S256x1024) ![0, 0] S256x1024.size inb_S256x1024_S256x1024_0_0).toLoadRect (harg7.unread x6)) (View.readAt (Elt F) arg13.view (Rect.unit (s := S8x1024) ![1, 0] S1x1024.size inb_S8x1024_S1x1024_1_0).toLoadRect (harg13.unread y12))⟩
      :: scPieces4 [] (slices0 arg1 harg1 arg2 harg2 arg3 harg3 arg4 harg4 arg5 harg5 x0 x1 x2 x3 x4) (slices1 arg1 harg1 arg2 harg2 arg3 harg3 arg4 harg4 arg5 harg5 x0 x1 x2 x3 x4) (slices2 arg1 harg1 arg2 harg2 arg3 harg3 arg4 harg4 arg5 harg5 x0 x1 x2 x3 x4) (slices3 arg1 harg1 arg2 harg2 arg3 harg3 arg4 harg4 arg5 harg5 x0 x1 x2 x3 x4) (View.readAt (Elt F) arg13.view (Rect.unit (s := S8x1024) ![0, 0] S1x256.size inb_S8x1024_S1x256_0_0).toLoadRect (harg13.unread y12)) (View.readAt (Elt F) arg13.view (Rect.unit (s := S8x1024) ![0, 256] S1x256.size inb_S8x1024_S1x256_0_256).toLoadRect (harg13.unread y12)) (View.readAt (Elt F) arg13.view (Rect.unit (s := S8x1024) ![0, 512] S1x256.size inb_S8x1024_S1x256_0_512).toLoadRect (harg13.unread y12)) (View.readAt (Elt F) arg13.view (Rect.unit (s := S8x1024) ![0, 768] S1x256.size inb_S8x1024_S1x256_0_768).toLoadRect (harg13.unread y12)) := by
  sl_kernel_rfl

set_option maxHeartbeats 4000000 in
theorem runB_hi (hc : ¬isFirst i) : (runB (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 hc y12 y13 y14).2.2.2.2.1 = hiPieces4 [] (firstRow i) (slices0 arg1 harg1 arg2 harg2 arg3 harg3 arg4 harg4 arg5 harg5 x0 x1 x2 x3 x4) (slices1 arg1 harg1 arg2 harg2 arg3 harg3 arg4 harg4 arg5 harg5 x0 x1 x2 x3 x4) (slices2 arg1 harg1 arg2 harg2 arg3 harg3 arg4 harg4 arg5 harg5 x0 x1 x2 x3 x4) (slices3 arg1 harg1 arg2 harg2 arg3 harg3 arg4 harg4 arg5 harg5 x0 x1 x2 x3 x4) := by
  sl_kernel_rfl

set_option maxHeartbeats 4000000 in
theorem runB_lo (hc : ¬isFirst i) : (runB (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 hc y12 y13 y14).2.2.2.2.2.1 = loPieces4 [] (firstRow i) (slices0 arg1 harg1 arg2 harg2 arg3 harg3 arg4 harg4 arg5 harg5 x0 x1 x2 x3 x4) (slices1 arg1 harg1 arg2 harg2 arg3 harg3 arg4 harg4 arg5 harg5 x0 x1 x2 x3 x4) (slices2 arg1 harg1 arg2 harg2 arg3 harg3 arg4 harg4 arg5 harg5 x0 x1 x2 x3 x4) (slices3 arg1 harg1 arg2 harg2 arg3 harg3 arg4 harg4 arg5 harg5 x0 x1 x2 x3 x4) := by
  sl_kernel_rfl

/-- The halo's high part as the first point resets it. -/
def hiZero : List (View.Piece (Elt F) S256x1024 .bf16) := [⟨Rect.unit (s := S256x1024) ![0, 0] S256x1024.size inb_S256x1024_S256x1024_0_0, k0_pay2⟩]
/-- The halo's low part as the first point resets it. -/
def loZero : List (View.Piece (Elt F) S256x1024 .bf16) := [⟨Rect.unit (s := S256x1024) ![0, 0] S256x1024.size inb_S256x1024_S256x1024_0_0, k0_pay3⟩]
/-- The sums as the first point resets them. -/
def sumsZero : List (View.Piece (Elt F) S8x1024 .f32) := [⟨Rect.unit (s := S8x1024) ![0, 0] S8x1024.size inb_S8x1024_S8x1024_0_0, k0_pay1⟩]

/-- The first output's pieces at the first point. -/
def duzA : List (View.Piece (Elt F) S256x2048 .bf16) :=
  duzPieces (firstRow i) (slices0 arg1 harg1 arg2 harg2 arg3 harg3 arg4 harg4 arg5 harg5 x0 x1 x2 x3 x4) (slices1 arg1 harg1 arg2 harg2 arg3 harg3 arg4 harg4 arg5 harg5 x0 x1 x2 x3 x4) (slices2 arg1 harg1 arg2 harg2 arg3 harg3 arg4 harg4 arg5 harg5 x0 x1 x2 x3 x4) (slices3 arg1 harg1 arg2 harg2 arg3 harg3 arg4 harg4 arg5 harg5 x0 x1 x2 x3 x4)
    (arg14.view.readCov (hiZero) (Rect.unit (s := S256x1024) ![0, 0] S256x256.size inb_S256x1024_S256x256_0_0).toLoadRect) (arg15.view.readCov (loZero) (Rect.unit (s := S256x1024) ![0, 0] S256x256.size inb_S256x1024_S256x256_0_0).toLoadRect)
    (arg14.view.readCov (hiPieces1 hiZero (firstRow i) (slices0 arg1 harg1 arg2 harg2 arg3 harg3 arg4 harg4 arg5 harg5 x0 x1 x2 x3 x4)) (Rect.unit (s := S256x1024) ![0, 256] S256x256.size inb_S256x1024_S256x256_0_256).toLoadRect) (arg15.view.readCov (loPieces1 loZero (firstRow i) (slices0 arg1 harg1 arg2 harg2 arg3 harg3 arg4 harg4 arg5 harg5 x0 x1 x2 x3 x4)) (Rect.unit (s := S256x1024) ![0, 256] S256x256.size inb_S256x1024_S256x256_0_256).toLoadRect)
    (arg14.view.readCov (hiPieces2 hiZero (firstRow i) (slices0 arg1 harg1 arg2 harg2 arg3 harg3 arg4 harg4 arg5 harg5 x0 x1 x2 x3 x4) (slices1 arg1 harg1 arg2 harg2 arg3 harg3 arg4 harg4 arg5 harg5 x0 x1 x2 x3 x4)) (Rect.unit (s := S256x1024) ![0, 512] S256x256.size inb_S256x1024_S256x256_0_512).toLoadRect) (arg15.view.readCov (loPieces2 loZero (firstRow i) (slices0 arg1 harg1 arg2 harg2 arg3 harg3 arg4 harg4 arg5 harg5 x0 x1 x2 x3 x4) (slices1 arg1 harg1 arg2 harg2 arg3 harg3 arg4 harg4 arg5 harg5 x0 x1 x2 x3 x4)) (Rect.unit (s := S256x1024) ![0, 512] S256x256.size inb_S256x1024_S256x256_0_512).toLoadRect)
    (arg14.view.readCov (hiPieces3 hiZero (firstRow i) (slices0 arg1 harg1 arg2 harg2 arg3 harg3 arg4 harg4 arg5 harg5 x0 x1 x2 x3 x4) (slices1 arg1 harg1 arg2 harg2 arg3 harg3 arg4 harg4 arg5 harg5 x0 x1 x2 x3 x4) (slices2 arg1 harg1 arg2 harg2 arg3 harg3 arg4 harg4 arg5 harg5 x0 x1 x2 x3 x4)) (Rect.unit (s := S256x1024) ![0, 768] S256x256.size inb_S256x1024_S256x256_0_768).toLoadRect) (arg15.view.readCov (loPieces3 loZero (firstRow i) (slices0 arg1 harg1 arg2 harg2 arg3 harg3 arg4 harg4 arg5 harg5 x0 x1 x2 x3 x4) (slices1 arg1 harg1 arg2 harg2 arg3 harg3 arg4 harg4 arg5 harg5 x0 x1 x2 x3 x4) (slices2 arg1 harg1 arg2 harg2 arg3 harg3 arg4 harg4 arg5 harg5 x0 x1 x2 x3 x4)) (Rect.unit (s := S256x1024) ![0, 768] S256x256.size inb_S256x1024_S256x256_0_768).toLoadRect)

/-- The cotangent of the normalised rows at the first point. -/
def dhA  : FVec F S256x1024 .f32 :=
  dhOf (arg10.view.readCov (duzA i arg1 harg1 arg2 harg2 arg3 harg3 arg4 harg4 arg5 harg5 arg14 arg15 x0 x1 x2 x3 x4) (Rect.unit (s := S256x2048) ![0, 0] S256x512.size inb_S256x2048_S256x512_0_0).toLoadRect) (arg10.view.readCov (duzA i arg1 harg1 arg2 harg2 arg3 harg3 arg4 harg4 arg5 harg5 arg14 arg15 x0 x1 x2 x3 x4) (Rect.unit (s := S256x2048) ![0, 512] S256x512.size inb_S256x2048_S256x512_0_512).toLoadRect) (arg10.view.readCov (duzA i arg1 harg1 arg2 harg2 arg3 harg3 arg4 harg4 arg5 harg5 arg14 arg15 x0 x1 x2 x3 x4) (Rect.unit (s := S256x2048) ![0, 1024] S256x512.size inb_S256x2048_S256x512_0_1024).toLoadRect) (arg10.view.readCov (duzA i arg1 harg1 arg2 harg2 arg3 harg3 arg4 harg4 arg5 harg5 arg14 arg15 x0 x1 x2 x3 x4) (Rect.unit (s := S256x2048) ![0, 1536] S256x512.size inb_S256x2048_S256x512_0_1536).toLoadRect)
    (View.readAt (Elt F) arg6.view (Rect.unit (s := S4x1024x512) ![0, 0, 0] S1x1024x512.size inb_S4x1024x512_S1x1024x512_0_0_0).toLoadRect (harg6.unread x5)) (View.readAt (Elt F) arg6.view (Rect.unit (s := S4x1024x512) ![1, 0, 0] S1x1024x512.size inb_S4x1024x512_S1x1024x512_1_0_0).toLoadRect (harg6.unread x5)) (View.readAt (Elt F) arg6.view (Rect.unit (s := S4x1024x512) ![2, 0, 0] S1x1024x512.size inb_S4x1024x512_S1x1024x512_2_0_0).toLoadRect (harg6.unread x5)) (View.readAt (Elt F) arg6.view (Rect.unit (s := S4x1024x512) ![3, 0, 0] S1x1024x512.size inb_S4x1024x512_S1x1024x512_3_0_0).toLoadRect (harg6.unread x5))

/-- What group 0 finds of its sum at the first point. -/
def acc0 : Vec F S1x256 .f32 := arg13.view.readCov (sumsZero) (Rect.unit (s := S8x1024) ![0, 0] S1x256.size inb_S8x1024_S1x256_0_0).toLoadRect

/-- What group 1 finds of its sum at the first point. -/
def acc1 : Vec F S1x256 .f32 := arg13.view.readCov (scPieces1 sumsZero (slices0 arg1 harg1 arg2 harg2 arg3 harg3 arg4 harg4 arg5 harg5 x0 x1 x2 x3 x4) (acc0 arg13)) (Rect.unit (s := S8x1024) ![0, 256] S1x256.size inb_S8x1024_S1x256_0_256).toLoadRect

/-- What group 2 finds of its sum at the first point. -/
def acc2 : Vec F S1x256 .f32 := arg13.view.readCov (scPieces2 sumsZero (slices0 arg1 harg1 arg2 harg2 arg3 harg3 arg4 harg4 arg5 harg5 x0 x1 x2 x3 x4) (slices1 arg1 harg1 arg2 harg2 arg3 harg3 arg4 harg4 arg5 harg5 x0 x1 x2 x3 x4) (acc0 arg13) (acc1 arg1 harg1 arg2 harg2 arg3 harg3 arg4 harg4 arg5 harg5 arg13 x0 x1 x2 x3 x4)) (Rect.unit (s := S8x1024) ![0, 512] S1x256.size inb_S8x1024_S1x256_0_512).toLoadRect

/-- What group 3 finds of its sum at the first point. -/
def acc3 : Vec F S1x256 .f32 := arg13.view.readCov (scPieces3 sumsZero (slices0 arg1 harg1 arg2 harg2 arg3 harg3 arg4 harg4 arg5 harg5 x0 x1 x2 x3 x4) (slices1 arg1 harg1 arg2 harg2 arg3 harg3 arg4 harg4 arg5 harg5 x0 x1 x2 x3 x4) (slices2 arg1 harg1 arg2 harg2 arg3 harg3 arg4 harg4 arg5 harg5 x0 x1 x2 x3 x4) (acc0 arg13) (acc1 arg1 harg1 arg2 harg2 arg3 harg3 arg4 harg4 arg5 harg5 arg13 x0 x1 x2 x3 x4) (acc2 arg1 harg1 arg2 harg2 arg3 harg3 arg4 harg4 arg5 harg5 arg13 x0 x1 x2 x3 x4)) (Rect.unit (s := S8x1024) ![0, 768] S1x256.size inb_S8x1024_S1x256_0_768).toLoadRect

/-- The sums' first row at the first point. -/
def scA : List (View.Piece (Elt F) S8x1024 .f32) := scPieces4 sumsZero (slices0 arg1 harg1 arg2 harg2 arg3 harg3 arg4 harg4 arg5 harg5 x0 x1 x2 x3 x4) (slices1 arg1 harg1 arg2 harg2 arg3 harg3 arg4 harg4 arg5 harg5 x0 x1 x2 x3 x4) (slices2 arg1 harg1 arg2 harg2 arg3 harg3 arg4 harg4 arg5 harg5 x0 x1 x2 x3 x4) (slices3 arg1 harg1 arg2 harg2 arg3 harg3 arg4 harg4 arg5 harg5 x0 x1 x2 x3 x4) (acc0 arg13) (acc1 arg1 harg1 arg2 harg2 arg3 harg3 arg4 harg4 arg5 harg5 arg13 x0 x1 x2 x3 x4) (acc2 arg1 harg1 arg2 harg2 arg3 harg3 arg4 harg4 arg5 harg5 arg13 x0 x1 x2 x3 x4) (acc3 arg1 harg1 arg2 harg2 arg3 harg3 arg4 harg4 arg5 harg5 arg13 x0 x1 x2 x3 x4)

set_option maxHeartbeats 4000000 in
theorem runA_duz (hc : isFirst i) : (runA (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 hc).1 = duzA i arg1 harg1 arg2 harg2 arg3 harg3 arg4 harg4 arg5 harg5 arg14 arg15 x0 x1 x2 x3 x4 := by
  sl_kernel_rfl

set_option maxHeartbeats 4000000 in
theorem runA_dmr (hc : isFirst i) : (runA (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 hc).2.1 = dmrPieces (slices0 arg1 harg1 arg2 harg2 arg3 harg3 arg4 harg4 arg5 harg5 x0 x1 x2 x3 x4) (slices1 arg1 harg1 arg2 harg2 arg3 harg3 arg4 harg4 arg5 harg5 x0 x1 x2 x3 x4) (slices2 arg1 harg1 arg2 harg2 arg3 harg3 arg4 harg4 arg5 harg5 x0 x1 x2 x3 x4) (slices3 arg1 harg1 arg2 harg2 arg3 harg3 arg4 harg4 arg5 harg5 x0 x1 x2 x3 x4) := by
  sl_kernel_rfl

set_option maxHeartbeats 4000000 in
theorem runA_dx (hc : isFirst i) : (runA (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 hc).2.2.1 =
    [⟨Rect.unit (s := S256x1024) ![0, 0] S256x1024.size inb_S256x1024_S256x1024_0_0, k0_pay82 (dhA i arg1 harg1 arg2 harg2 arg3 harg3 arg4 harg4 arg5 harg5 arg6 harg6 arg10 arg14 arg15 x0 x1 x2 x3 x4 x5) (View.readAt (Elt F) arg7.view (Rect.unit (s := S256x1024) ![0, 0] S256x1024.size inb_S256x1024_S256x1024_0_0).toLoadRect (harg7.unread x6)) (View.readAt (Elt F) arg9.view (Rect.unit (s := S1x1024) ![0, 0] S1x1024.size inb_S1x1024_S1x1024_0_0).toLoadRect (harg9.unread x8)) (View.readAt (Elt F) arg8.view (Rect.unit (s := S256x1024) ![0, 0] S256x1024.size inb_S256x1024_S256x1024_0_0).toLoadRect (harg8.unread x7))⟩] := by
  sl_kernel_rfl

set_option maxHeartbeats 4000000 in
theorem runA_sums (hc : isFirst i) : (runA (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 hc).2.2.2.1 =
    ⟨Rect.unit (s := S8x1024) ![1, 0] S1x1024.size inb_S8x1024_S1x1024_1_0, k0_pay83 (dhA i arg1 harg1 arg2 harg2 arg3 harg3 arg4 harg4 arg5 harg5 arg6 harg6 arg10 arg14 arg15 x0 x1 x2 x3 x4 x5) (View.readAt (Elt F) arg7.view (Rect.unit (s := S256x1024) ![0, 0] S256x1024.size inb_S256x1024_S256x1024_0_0).toLoadRect (harg7.unread x6)) (arg13.view.readCov (scA arg1 harg1 arg2 harg2 arg3 harg3 arg4 harg4 arg5 harg5 arg13 x0 x1 x2 x3 x4) (Rect.unit (s := S8x1024) ![1, 0] S1x1024.size inb_S8x1024_S1x1024_1_0).toLoadRect)⟩
      :: scA arg1 harg1 arg2 harg2 arg3 harg3 arg4 harg4 arg5 harg5 arg13 x0 x1 x2 x3 x4 := by
  sl_kernel_rfl

set_option maxHeartbeats 4000000 in
theorem runA_hi (hc : isFirst i) : (runA (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 hc).2.2.2.2.1 = hiPieces4 hiZero (firstRow i) (slices0 arg1 harg1 arg2 harg2 arg3 harg3 arg4 harg4 arg5 harg5 x0 x1 x2 x3 x4) (slices1 arg1 harg1 arg2 harg2 arg3 harg3 arg4 harg4 arg5 harg5 x0 x1 x2 x3 x4) (slices2 arg1 harg1 arg2 harg2 arg3 harg3 arg4 harg4 arg5 harg5 x0 x1 x2 x3 x4) (slices3 arg1 harg1 arg2 harg2 arg3 harg3 arg4 harg4 arg5 harg5 x0 x1 x2 x3 x4) := by
  sl_kernel_rfl

set_option maxHeartbeats 4000000 in
theorem runA_lo (hc : isFirst i) : (runA (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 hc).2.2.2.2.2.1 = loPieces4 loZero (firstRow i) (slices0 arg1 harg1 arg2 harg2 arg3 harg3 arg4 harg4 arg5 harg5 x0 x1 x2 x3 x4) (slices1 arg1 harg1 arg2 harg2 arg3 harg3 arg4 harg4 arg5 harg5 x0 x1 x2 x3 x4) (slices2 arg1 harg1 arg2 harg2 arg3 harg3 arg4 harg4 arg5 harg5 x0 x1 x2 x3 x4) (slices3 arg1 harg1 arg2 harg2 arg3 harg3 arg4 harg4 arg5 harg5 x0 x1 x2 x3 x4) := by
  sl_kernel_rfl

end Cert.KernelIdeal.Mix

end
-- ==== Proof.Tile.lean ====
/- The entries of what one column group computes, at exact arithmetic. -/
module

public import proofs.«01_k».proof.Proof.Pieces
public import Idealize.ShloMosaic.Lib.Pointwise
public import Idealize.ShloMosaic.PureOps.Ideal

@[expose] public section

set_option maxRecDepth 16384

noncomputable section

namespace Cert.KernelIdeal.Mix

open Cert.KernelIdeal Cert.KernelIdeal.Gen
open Idealize.ShloMosaic Idealize.ShloMosaic.TcCoe

/-- A sum of reals, taken in the extended reals. -/
theorem coe_sumR {ι : Type*} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- A word that holds a small number. -/
theorem toInt_small (n : ℕ) (h : n < 2 ^ 31) : (BitVec.ofNat 32 n).toInt = n := by
  rw [BitVec.toInt_eq_toNat_of_lt] <;> simp only [BitVec.toNat_ofNat] <;> omega

/-- A difference of two small words. -/
theorem toInt_sub_small (a b : ℕ) (ha : a < 2 ^ 30) (hb : b < 2 ^ 30) :
    (IntOp.subi (BitVec.ofNat 32 a) (BitVec.ofNat 32 b)).toInt = (a : ℤ) - b := by
  show (BitVec.ofNat 32 a - BitVec.ofNat 32 b).toInt = _
  rw [BitVec.toInt_sub, toInt_small _ (by omega), toInt_small _ (by omega)]
  refine Int.bmod_eq_of_le ?_ ?_ <;> omega

/-- A signed comparison, at least. -/
theorem bit_ge {w : ℕ} (x y : BitVec w) : IntOp.cmpi .sge x y = BitVec.ofBool (decide (y.toInt ≤ x.toInt)) := rfl

/-- A signed comparison, below. -/
theorem bit_lt {w : ℕ} (x y : BitVec w) : IntOp.cmpi .slt x y = BitVec.ofBool (decide (x.toInt < y.toInt)) := rfl

/-- The conjunction of two bits. -/
theorem bit_and (p q : Bool) : IntOp.andi (BitVec.ofBool p) (BitVec.ofBool q) = BitVec.ofBool (p && q) := by
  cases p <;> cases q <;> rfl

/-- A bit that is set. -/
theorem bit_one (p : Bool) : BitVec.ofBool p = 1#1 ↔ p = true := by
  cases p <;> simp

/-- A choice by a bit. -/
theorem select_ite {p : Prop} [Decidable p] (c : BitVec 1) (h : c = 1#1 ↔ p) :
    (Scalar.select c 1 0 : EReal) = ↑(if p then 1 else 0 : ℝ) := by
  show (if c = 1#1 then 1 else 0 : EReal) = _
  by_cases hp : p
  · rw [if_pos (h.2 hp), if_pos hp]; rfl
  · rw [if_neg (fun e => hp (h.1 e)), if_neg hp]; rfl

/-- The logistic function on the reals. -/
def sgm (x : ℝ) : ℝ := (1 + Real.exp (-x))⁻¹

/-- The slices hold these reals. -/
structure Holds (s : Slices Ideal) (P Z DG W : ℕ → ℕ → ℝ) (SC : ℕ → ℝ) : Prop where
  w0 : ∀ (k : Fin 64) (j : Fin 256), s.w0 (ix4 0 0 k j) = ↑(W k j)
  w1 : ∀ (k : Fin 64) (j : Fin 256), s.w1 (ix4 0 0 k j) = ↑(W (64 + k) j)
  w2 : ∀ (k : Fin 64) (j : Fin 256), s.w2 (ix4 0 0 k j) = ↑(W (128 + k) j)
  w3 : ∀ (k : Fin 64) (j : Fin 256), s.w3 (ix4 0 0 k j) = ↑(W (192 + k) j)
  p : ∀ (r j : Fin 256), s.p (ix2 r j) = ↑(P r j)
  z : ∀ (r j : Fin 256), s.z (ix2 r j) = ↑(Z r j)
  dg : ∀ (r j : Fin 256), s.dg (ix2 r j) = ↑(DG r j)
  sc : ∀ (j : Fin 256), s.sc (ix2 0 j) = ↑(SC j)

/-! ## The same quantities on the reals -/

section Spec

variable (P Z DG W : ℕ → ℕ → ℝ) (SC : ℕ → ℝ)

/-- The grouped product. -/
def mrawR (r j : ℕ) : ℝ := ∑ k : Fin 256, P r k * W k j
/-- The cotangent of the scaled product. -/
def dmR (r j : ℕ) : ℝ := DG r j * (Z r j * sgm (Z r j))
/-- The cotangent of the gate's input. -/
def dzR (r j : ℕ) : ℝ := DG r j * (mrawR P W r j * SC j) * (sgm (Z r j) * (1 + Z r j * (1 - sgm (Z r j))))
/-- The cotangent of the grouped product. -/
def dmrR (r j : ℕ) : ℝ := dmR Z DG r j * SC j
/-- The cotangent of the pooled rows. -/
def dpR (r k : ℕ) : ℝ := ∑ j : Fin 256, dmrR Z DG SC r j * W k j

end Spec

variable {s : Slices Ideal} {P Z DG W : ℕ → ℕ → ℝ} {SC : ℕ → ℝ} (hs : Holds s P Z DG W SC)

include hs

theorem weight_apply (k j : Fin 256) : s.weight (ix2 k j) = ↑(W k j) := by
  unfold Slices.weight
  pointwise [k0_pay5, hs.w0, hs.w1, hs.w2, hs.w3]
  split_ifs with h0 h1 h2 <;> congr 2 <;> omega

theorem mraw_apply (r j : Fin 256) : s.mraw (ix2 r j) = ↑(mrawR P W r j) := by
  have hw := weight_apply hs
  unfold Slices.weight at hw
  unfold Slices.mraw
  pointwise [k0_pay6, hs.p, hw]
  simp only [mrawR, EReal.coe_mul, coe_sumR]

theorem dm_apply (r j : Fin 256) : s.dm (ix2 r j) = ↑(dmR Z DG r j) := by
  unfold Slices.dm
  pointwise [k0_pay10, k0_pay7, k0_pay8, k0_pay9, hs.z, hs.dg, Ideal.logistic_coe]
  simp only [dmR, sgm, EReal.coe_mul]

theorem dz_apply (r j : Fin 256) : s.dz (ix2 r j) = ↑(dzR P Z DG W SC r j) := by
  unfold Slices.dz
  pointwise [k0_pay11, k0_pay7, k0_pay8, k0_pay9, hs.z, hs.dg, hs.sc, mraw_apply hs, Ideal.logistic_coe]
  simp only [dzR, sgm, EReal.coe_mul, EReal.coe_add, EReal.coe_sub, EReal.coe_one]

theorem dmr_apply (r j : Fin 256) : s.dmr (ix2 r j) = ↑(dmrR Z DG SC r j) := by
  unfold Slices.dmr
  pointwise [k0_pay13, hs.sc, dm_apply hs]
  simp only [dmrR, EReal.coe_mul]

theorem dp_apply (r k : Fin 256) : s.dp (ix2 r k) = ↑(dpR Z DG W SC r k) := by
  have hd := dmr_apply hs
  unfold Slices.dmr at hd
  unfold Slices.dp
  pointwise [k0_pay14, hd, weight_apply hs]
  simp only [dpR, EReal.coe_mul, coe_sumR]

theorem dsc_apply (acc : Vec Ideal S1x256 .f32) (A : ℕ → ℝ) (ha : ∀ j : Fin 256, acc (ix2 0 j) = ↑(A j)) (j : Fin 256) :
    s.dsc acc (ix2 0 j) = ↑(A j + ∑ r : Fin 256, dmR Z DG r j * mrawR P W r j) := by
  unfold Slices.dsc
  pointwise [k0_pay12, ha, dm_apply hs, mraw_apply hs]
  simp only [EReal.coe_add, EReal.coe_mul, coe_sumR]

omit hs

theorem invCount_apply (w o : ℕ) (hw : 1 ≤ w) (hw' : w ≤ 16) (ho : o ≤ 2048) (r : Fin 256) :
    invCount (F := Ideal) (BitVec.ofNat 32 w) (BitVec.ofNat 32 o) (ix2 r 0) = ↑(1 / ((min (o + r + 1) w : ℕ) : ℝ)) := by
  unfold invCount
  pointwise
  have hr := r.isLt
  have h1 : IntOp.addi (Scalar.addi (BitVec.ofNat 32 o) 1#32) (BitVec.ofNat 32 r.val) = BitVec.ofNat 32 (o + r + 1) := by
    show (BitVec.ofNat 32 o + BitVec.ofNat 32 1) + BitVec.ofNat 32 r.val = _
    rw [← BitVec.ofNat_add, ← BitVec.ofNat_add]; congr 1; omega
  have h2 : IntOp.minsi (BitVec.ofNat 32 (o + r + 1)) (BitVec.ofNat 32 w) = BitVec.ofNat 32 (min (o + r + 1) w) := by
    unfold IntOp.minsi
    rw [BitVec.slt_eq_decide, toInt_small _ (by omega), toInt_small _ (by omega)]
    by_cases h : o + r.val + 1 < w
    · rw [if_pos (by simpa using (by exact_mod_cast h)), min_eq_left h.le]
    · rw [if_neg (by simpa using (by exact_mod_cast (not_lt.1 h))), min_eq_right (not_lt.1 h)]
  rw [h1, h2]
  show Ideal.div 1 (((BitVec.ofNat 32 (min (o + r.val + 1) w)).toInt : ℝ) : EReal) = _
  have hm : ((min (o + r.val + 1) w : ℕ) : ℝ) ≠ 0 := by
    have : 0 < min (o + r.val + 1) w := by omega
    positivity
  rw [toInt_small _ (by omega), Int.cast_natCast, Ideal.div_coe hm, one_mul]

theorem maskIn_apply (w : ℕ) (hw : w ≤ 16) (r e : Fin 256) :
    maskIn (F := Ideal) (BitVec.ofNat 32 w) (ix2 r e) = ↑(if r.val ≤ e ∧ e < r.val + w then 1 else 0 : ℝ) := by
  unfold maskIn mask
  pointwise [k0_pay4]
  have hr := r.isLt
  have he := e.isLt
  refine select_ite _ ?_
  rw [bit_ge, bit_lt, toInt_sub_small _ _ (by omega) (by omega), toInt_small w (by omega), bit_and, bit_one, Bool.and_eq_true, decide_eq_true_iff,
    decide_eq_true_iff, show (0#32).toInt = 0 from rfl]
  omega

theorem maskHalo_apply (w : ℕ) (hw : w ≤ 16) (r e : Fin 256) :
    maskHalo (F := Ideal) (BitVec.ofNat 32 w) (ix2 r e) = ↑(if e.val + 256 < r.val + w then 1 else 0 : ℝ) := by
  unfold maskHalo mask
  pointwise [k0_pay4]
  have hr := r.isLt
  have he := e.isLt
  refine select_ite _ ?_
  have h1 : IntOp.addi (IntOp.subi (BitVec.ofNat 32 e.val) (BitVec.ofNat 32 r.val)) 256#32 = IntOp.subi (BitVec.ofNat 32 (e.val + 256)) (BitVec.ofNat 32 r.val) := by
    show (BitVec.ofNat 32 e.val - BitVec.ofNat 32 r.val) + BitVec.ofNat 32 256 = BitVec.ofNat 32 (e.val + 256) - BitVec.ofNat 32 r.val
    rw [BitVec.ofNat_add, BitVec.sub_eq_add_neg, BitVec.sub_eq_add_neg, BitVec.add_assoc, BitVec.add_comm (-_), BitVec.add_assoc]
  rw [h1, bit_lt, toInt_sub_small _ _ (by omega) (by omega), toInt_small w (by omega), bit_one, decide_eq_true_iff]
  push_cast
  omega

include hs

theorem h_apply (w o : ℕ) (hw : 1 ≤ w) (hw' : w ≤ 16) (ho : o ≤ 2048) (r k : Fin 256) :
    s.h (BitVec.ofNat 32 w) (BitVec.ofNat 32 o) (ix2 r k) = ↑(dpR Z DG W SC r k * (1 / ((min (o + r + 1) w : ℕ) : ℝ))) := by
  unfold Slices.h
  pointwise [dp_apply hs, invCount_apply w o hw hw' ho]
  rw [EReal.coe_mul]

theorem hi_apply (w o : ℕ) (hw : 1 ≤ w) (hw' : w ≤ 16) (ho : o ≤ 2048) (r k : Fin 256) :
    s.hi (BitVec.ofNat 32 w) (BitVec.ofNat 32 o) (ix2 r k) = ↑(dpR Z DG W SC r k * (1 / ((min (o + r + 1) w : ℕ) : ℝ))) := by
  unfold Slices.hi
  pointwise [h_apply hs w o hw hw' ho]

theorem lo_apply (w o : ℕ) (hw : 1 ≤ w) (hw' : w ≤ 16) (ho : o ≤ 2048) (r k : Fin 256) :
    s.lo (BitVec.ofNat 32 w) (BitVec.ofNat 32 o) (ix2 r k) = 0 := by
  unfold Slices.lo
  pointwise [h_apply hs w o hw hw' ho, hi_apply hs w o hw hw' ho]
  rw [← EReal.coe_sub, sub_self, EReal.coe_zero]

theorem hiSt_apply (w o : ℕ) (hw : 1 ≤ w) (hw' : w ≤ 16) (ho : o ≤ 2048) (r k : Fin 256) :
    s.hiSt (BitVec.ofNat 32 w) (BitVec.ofNat 32 o) (ix2 r k) = ↑(dpR Z DG W SC r k * (1 / ((min (o + r + 1) w : ℕ) : ℝ))) := by
  unfold Slices.hiSt
  pointwise [hi_apply hs w o hw hw' ho]

theorem loSt_apply (w o : ℕ) (hw : 1 ≤ w) (hw' : w ≤ 16) (ho : o ≤ 2048) (r k : Fin 256) :
    s.loSt (BitVec.ofNat 32 w) (BitVec.ofNat 32 o) (ix2 r k) = 0 := by
  unfold Slices.loSt
  pointwise [lo_apply hs w o hw hw' ho]

theorem du_apply (w o : ℕ) (hw : 1 ≤ w) (hw' : w ≤ 16) (ho : o ≤ 2048) (hh hl : Vec Ideal S256x256 .bf16) (H : ℕ → ℕ → ℝ)
    (hhh : ∀ r k : Fin 256, hh (ix2 r k) = ↑(H r k)) (hhl : ∀ r k : Fin 256, hl (ix2 r k) = 0) (r k : Fin 256) :
    s.du (BitVec.ofNat 32 w) (BitVec.ofNat 32 o) hh hl (ix2 r k)
      = ↑((∑ e : Fin 256, (if r.val ≤ e ∧ e < r.val + w then 1 else 0) * (dpR Z DG W SC e k * (1 / ((min (o + e + 1) w : ℕ) : ℝ)))
          + ∑ e : Fin 256, (if e.val + 256 < r.val + w then 1 else 0) * H e k) - dpR Z DG W SC r k) := by
  unfold Slices.du Slices.prod
  pointwise [maskIn_apply w hw', maskHalo_apply w hw', hhh, hhl, hi_apply hs w o hw hw' ho, lo_apply hs w o hw hw' ho, dp_apply hs]
  simp only [mul_zero, Finset.sum_const_zero, add_zero, EReal.coe_sub, EReal.coe_add, EReal.coe_mul, coe_sumR]

end Cert.KernelIdeal.Mix

end
-- ==== Proof.Rows.lean ====
/- The entries of what the body computes from whole rows, at exact arithmetic: the cotangent of the normalised rows, the
   cotangent of the input, and the gain's sum. -/
module

public import proofs.«01_k».proof.Proof.Tile

@[expose] public section

set_option maxRecDepth 16384

noncomputable section

namespace Cert.KernelIdeal.Mix

open Cert.KernelIdeal Cert.KernelIdeal.Gen
open Idealize.ShloMosaic Idealize.ShloMosaic.TcCoe

/-- The small number added to the mean of squares. -/
def epsR : ℝ := 8796093 * 2 ^ (-43 : ℤ)

theorem epsR_pos : 0 < epsR := by unfold epsR; positivity

theorem ofBits_eps : Ideal.ofBits .f32 0x358637BD#32 = ↑epsR := by
  simp [Ideal.ofBits, Ideal.ieee, -EReal.coe_mul, epsR]

theorem ofBits_1024 : Ideal.ofBits .f32 0x44800000#32 = ↑(1024 : ℝ) := by
  simp [Ideal.ofBits, Ideal.ieee, -EReal.coe_mul]
  norm_num

/-- Division by a real that is not zero. -/
theorem div_real (x y : ℝ) (h : y ≠ 0) : Ideal.div (x : EReal) ↑y = ↑(x / y) := by
  rw [Ideal.div_coe h, ← EReal.coe_mul, mul_one_div]

/-- The reciprocal root of a positive real. -/
theorem rsqrt_real (x : ℝ) (h : 0 < x) : Ideal.rsqrt (x : EReal) = ↑(√x)⁻¹ := by
  rw [Ideal.rsqrt_coe, if_neg (not_lt.2 h.le), if_neg h.ne']

section Spec

variable (X : ℕ → ℕ → ℝ) (GN : ℕ → ℝ) (DH DXM : ℕ → ℕ → ℝ)

/-- The mean of a row's squares, and the small number. -/
def msR (r : ℕ) : ℝ := (∑ c : Fin 1024, X r c * X r c) / 1024 + epsR
/-- The reciprocal root of it. -/
def rmsR (r : ℕ) : ℝ := (√(msR X r))⁻¹
/-- The normalised row. -/
def xhR (r c : ℕ) : ℝ := X r c * rmsR X r
/-- The cotangent of the input. -/
def dxR (r c : ℕ) : ℝ :=
  DXM r c + rmsR X r * (DH r c * GN c - xhR X r c * ((∑ k : Fin 1024, DH r k * GN k * xhR X r k) / 1024))

theorem msR_pos (r : ℕ) : 0 < msR X r :=
  add_pos_of_nonneg_of_pos (div_nonneg (Finset.sum_nonneg fun c _ => mul_self_nonneg _) (by norm_num)) epsR_pos

end Spec

section Rows

variable {x : Vec Ideal S256x1024 .f32} {X : ℕ → ℕ → ℝ} (hx : ∀ (r : Fin 256) (c : Fin 1024), x (ix2 r c) = ↑(X r c))

include hx

theorem pay80_apply (r : Fin 256) : k0_pay80 x (ix2 r 0) = ↑(rmsR X r) := by
  pointwise [k0_pay80, hx]
  rw [ofBits_1024, ofBits_eps]
  simp only [← EReal.coe_mul, ← coe_sumR]
  rw [div_real _ _ (by norm_num), ← EReal.coe_add]
  exact rsqrt_real _ (msR_pos X r)

theorem pay81_apply (r : Fin 256) (c : Fin 1024) : k0_pay81 x (ix2 r c) = ↑(xhR X r c) := by
  pointwise [k0_pay81, hx, pay80_apply hx]
  rw [xhR, EReal.coe_mul]

variable {dh : FVec Ideal S256x1024 .f32} {DH : ℕ → ℕ → ℝ} (hdh : ∀ (r : Fin 256) (c : Fin 1024), dh (ix2 r c) = ↑(DH r c))

include hdh

theorem pay82_apply {gn : Vec Ideal S1x1024 .f32} {GN : ℕ → ℝ} (hgn : ∀ c : Fin 1024, gn (ix2 0 c) = ↑(GN c))
    {dxm : Vec Ideal S256x1024 .f32} {DXM : ℕ → ℕ → ℝ} (hdxm : ∀ (r : Fin 256) (c : Fin 1024), dxm (ix2 r c) = ↑(DXM r c))
    (r : Fin 256) (c : Fin 1024) : k0_pay82 dh x gn dxm (ix2 r c) = ↑(dxR X GN DH DXM r c) := by
  pointwise [k0_pay82, hx, hdh, hgn, hdxm, pay80_apply hx, pay81_apply hx]
  rw [ofBits_1024]
  simp only [← EReal.coe_mul, ← coe_sumR]
  rw [div_real _ _ (by norm_num)]
  simp only [← EReal.coe_mul, ← EReal.coe_add, ← EReal.coe_sub]
  rfl

theorem pay83_apply {old : Vec Ideal S1x1024 .f32} {A : ℕ → ℝ} (hold : ∀ c : Fin 1024, old (ix2 0 c) = ↑(A c)) (c : Fin 1024) :
    k0_pay83 dh x old (ix2 0 c) = ↑(A c + ∑ r : Fin 256, DH r c * xhR X r c) := by
  pointwise [k0_pay83, hx, hdh, hold, pay81_apply hx]
  simp only [EReal.coe_add, EReal.coe_mul, coe_sumR]

end Rows

/-- A sum over 2048 in four. -/
theorem sum_four (f : ℕ → ℝ) : ∑ j : Fin 2048, f j
    = (∑ j : Fin 512, f j) + (∑ j : Fin 512, f (512 + j)) + (∑ j : Fin 512, f (1024 + j)) + ∑ j : Fin 512, f (1536 + j) := by
  rw [← Finset.sum_range f, ← Finset.sum_range f, ← Finset.sum_range (fun j => f (512 + j)), ← Finset.sum_range (fun j => f (1024 + j)),
    ← Finset.sum_range (fun j => f (1536 + j)), show 2048 = 512 + 512 + 512 + 512 from rfl, Finset.sum_range_add, Finset.sum_range_add, Finset.sum_range_add]

theorem dhOf_apply {d0 d1 d2 d3 : Vec Ideal S256x512 .bf16} {w0 w1 w2 w3 : Vec Ideal S1x1024x512 .bf16} {D WI : ℕ → ℕ → ℝ}
    (h0 : ∀ (r : Fin 256) (j : Fin 512), d0 (ix2 r j) = ↑(D r j)) (h1 : ∀ (r : Fin 256) (j : Fin 512), d1 (ix2 r j) = ↑(D r (512 + j)))
    (h2 : ∀ (r : Fin 256) (j : Fin 512), d2 (ix2 r j) = ↑(D r (1024 + j))) (h3 : ∀ (r : Fin 256) (j : Fin 512), d3 (ix2 r j) = ↑(D r (1536 + j)))
    (e0 : ∀ (c : Fin 1024) (j : Fin 512), w0 (ix3 0 c j) = ↑(WI c j)) (e1 : ∀ (c : Fin 1024) (j : Fin 512), w1 (ix3 0 c j) = ↑(WI c (512 + j)))
    (e2 : ∀ (c : Fin 1024) (j : Fin 512), w2 (ix3 0 c j) = ↑(WI c (1024 + j))) (e3 : ∀ (c : Fin 1024) (j : Fin 512), w3 (ix3 0 c j) = ↑(WI c (1536 + j)))
    (r : Fin 256) (c : Fin 1024) : dhOf d0 d1 d2 d3 w0 w1 w2 w3 (ix2 r c) = ↑(∑ j : Fin 2048, D r j * WI c j) := by
  unfold dhOf
  pointwise [k0_pay79, h0, h1, h2, h3, e0, e1, e2, e3]
  rw [sum_four (fun j => D r j * WI c j)]
  simp only [EReal.coe_add, EReal.coe_mul, coe_sumR]

end Cert.KernelIdeal.Mix

end
-- ==== Proof.Point.lean ====
/- What one grid point leaves, entry by entry, at exact arithmetic: the tile of the gradient that starts at row `o`. -/
module

public import proofs.«01_k».proof.Proof.Rows
public import proofs.«01_k».proof.Proof.Frame

@[expose] public section

set_option maxRecDepth 16384

noncomputable section

namespace Cert.KernelIdeal.Mix

open Cert.KernelIdeal Cert.KernelIdeal.Gen
open Idealize.ShloMosaic Idealize.ShloMosaic.TcCoe

/-! ## The gradient on the reals -/

/-- What the call is given, as reals. -/
structure Inp where
  /-- The pooled rows. -/
  P : ℕ → ℕ → ℝ
  /-- The gate's input. -/
  Z : ℕ → ℕ → ℝ
  /-- The incoming cotangent of the gated rows. -/
  DG : ℕ → ℕ → ℝ
  /-- The layer's input. -/
  X : ℕ → ℕ → ℝ
  /-- The incoming cotangent of the layer's input. -/
  DXM : ℕ → ℕ → ℝ
  /-- The first projection's weight. -/
  WI : ℕ → ℕ → ℝ
  /-- The groups' weights. -/
  W : ℕ → ℕ → ℕ → ℝ
  /-- The scale. -/
  SC : ℕ → ℝ
  /-- The gain. -/
  GN : ℕ → ℝ

namespace Inp

variable (I : Inp)

/-- The grouped product. -/
def mr (g s j : ℕ) : ℝ := mrawR (fun s j => I.P s (256 * g + j)) (I.W g) s j
/-- The cotangent of the scaled product. -/
def dm (g s j : ℕ) : ℝ := dmR (fun s j => I.Z s (256 * g + j)) (fun s j => I.DG s (256 * g + j)) s j
/-- The cotangent of the gate's input. -/
def dz (g s j : ℕ) : ℝ :=
  dzR (fun s j => I.P s (256 * g + j)) (fun s j => I.Z s (256 * g + j)) (fun s j => I.DG s (256 * g + j)) (I.W g) (fun j => I.SC (256 * g + j)) s j
/-- The cotangent of the grouped product. -/
def dmr (g s j : ℕ) : ℝ := dmrR (fun s j => I.Z s (256 * g + j)) (fun s j => I.DG s (256 * g + j)) (fun j => I.SC (256 * g + j)) s j
/-- The cotangent of the pooled rows. -/
def dp (g s k : ℕ) : ℝ := dpR (fun s j => I.Z s (256 * g + j)) (fun s j => I.DG s (256 * g + j)) (I.W g) (fun j => I.SC (256 * g + j)) s k
/-- The cotangent of the pooled rows over the window's count, zero past the last row. -/
def hx (g s k : ℕ) : ℝ := if s < 2048 then I.dp g s k * (1 / ((min (s + 1) (2 ^ (g + 1)) : ℕ) : ℝ)) else 0
/-- The cotangent of the pooled input. -/
def du (g s k : ℕ) : ℝ := (∑ d ∈ Finset.range (2 ^ (g + 1)), I.hx g (s + d) k) - I.dp g s k
/-- The two cotangents side by side. -/
def duz (s c : ℕ) : ℝ := if c < 1024 then I.du (c / 256) s (c % 256) else I.dz ((c - 1024) / 256) s (c % 256)
/-- The cotangent of the normalised rows. -/
def dh (s c : ℕ) : ℝ := ∑ j : Fin 2048, I.duz s j * I.WI c j
/-- The cotangent of the layer's input. -/
def dx (s c : ℕ) : ℝ := dxR I.X I.GN I.dh I.DXM s c
/-- A row's part of the scale's gradient. -/
def dsc (s c : ℕ) : ℝ := I.dm (c / 256) s (c % 256) * I.mr (c / 256) s (c % 256)
/-- A row's part of the gain's gradient. -/
def dgn (s c : ℕ) : ℝ := I.dh s c * xhR I.X s c

end Inp

/-- A sum under the window's two matrices is the window's sum. -/
theorem window_sum (f : ℕ → ℝ) (o r w : ℕ) (hr : r < 256) (hw : w ≤ 16) :
    (∑ e : Fin 256, (if r ≤ e.val ∧ e.val < r + w then 1 else 0) * f (o + e)) + ∑ e : Fin 256, (if e.val + 256 < r + w then 1 else 0) * f (o + 256 + e)
      = ∑ d ∈ Finset.range w, f (o + r + d) := by
  have h1 : (∑ e : Fin 256, (if r ≤ e.val ∧ e.val < r + w then 1 else 0) * f (o + e))
      = ∑ e ∈ Finset.range 256, if r ≤ e ∧ e < r + w then f (o + e) else 0 := by
    rw [Finset.sum_range]; exact Finset.sum_congr rfl fun e _ => by split_ifs <;> simp
  have h2 : (∑ e : Fin 256, (if e.val + 256 < r + w then 1 else 0) * f (o + 256 + e))
      = ∑ e ∈ Finset.range 256, if r ≤ 256 + e ∧ 256 + e < r + w then f (o + (256 + e)) else 0 := by
    rw [Finset.sum_range]
    refine Finset.sum_congr rfl fun e _ => ?_
    rw [← Nat.add_assoc]
    by_cases h : e.val + 256 < r + w
    · rw [if_pos h, if_pos ⟨by omega, by omega⟩, one_mul]
    · rw [if_neg h, if_neg (by omega), zero_mul]
  rw [h1, h2, ← Finset.sum_range_add (fun e => if r ≤ e ∧ e < r + w then f (o + e) else 0) 256 256, ← Finset.sum_filter]
  have h3 : (Finset.range (256 + 256)).filter (fun e => r ≤ e ∧ e < r + w) = Finset.Ico r (r + w) := by
    ext e; simp only [Finset.mem_filter, Finset.mem_range, Finset.mem_Ico]; omega
  rw [h3, Finset.sum_Ico_eq_sum_range, Nat.add_sub_cancel_left]
  exact Finset.sum_congr rfl fun d _ => by rw [Nat.add_assoc]

/-- A tile's rows on top of the rows after it. -/
theorem tile_sum (f : ℕ → ℝ) (o : ℕ) (ho : o + 256 ≤ 2048) :
    (∑ s ∈ Finset.Ico (o + 256) 2048, f s) + ∑ r : Fin 256, f (o + r) = ∑ s ∈ Finset.Ico o 2048, f s := by
  rw [← Finset.sum_range (fun r => f (o + r)), ← Finset.sum_Ico_consecutive f (Nat.le_add_right o 256) ho, Finset.sum_Ico_eq_sum_range f o (o + 256),
    Nat.add_sub_cancel_left, add_comm]

/-! ## Reading pieces and blocks -/

/-- An entry the last store holds. -/
theorem canon_hit {e : EltTy} {m n p q a b : ℕ} (inb : ∀ i, (![a, b] : Fin 2 → ℕ) i + (⟨2, ![p, q]⟩ : Shape).size i ≤ (⟨2, ![m, n]⟩ : Shape).size i)
    (w : (Rect.unit (s := ⟨2, ![m, n]⟩) ![a, b] (⟨2, ![p, q]⟩ : Shape).size inb).shape.Idx → Elt Ideal e)
    (L : List (View.Piece (Elt Ideal) ⟨2, ![m, n]⟩ e)) (r : Fin m) (c : Fin n) (x : Fin p) (y : Fin q)
    (hr : r.val = a + x) (hc : c.val = b + y) :
    View.canon (⟨Rect.unit (s := ⟨2, ![m, n]⟩) ![a, b] (⟨2, ![p, q]⟩ : Shape).size inb, w⟩ :: L) (ix2 r c) = w (ix2 x y) := by
  have : (ix2 r c : (⟨2, ![m, n]⟩ : Shape).Idx) = (Rect.unit (s := ⟨2, ![m, n]⟩) ![a, b] (⟨2, ![p, q]⟩ : Shape).size inb).emb (ix2 x y) := by
    funext i
    apply Fin.ext
    match i with
    | ⟨0, _⟩ => show r.val = a + 1 * x.val; omega
    | ⟨1, _⟩ => show c.val = b + 1 * y.val; omega
  rw [this, View.canon_cons_emb]

/-- An entry the last store leaves alone. -/
theorem canon_miss {e : EltTy} {m n p q a b : ℕ} (inb : ∀ i, (![a, b] : Fin 2 → ℕ) i + (⟨2, ![p, q]⟩ : Shape).size i ≤ (⟨2, ![m, n]⟩ : Shape).size i)
    (w : (Rect.unit (s := ⟨2, ![m, n]⟩) ![a, b] (⟨2, ![p, q]⟩ : Shape).size inb).shape.Idx → Elt Ideal e)
    (L : List (View.Piece (Elt Ideal) ⟨2, ![m, n]⟩ e)) (r : Fin m) (c : Fin n)
    (h : r.val < a ∨ a + p ≤ r.val ∨ c.val < b ∨ b + q ≤ c.val) :
    View.canon (⟨Rect.unit (s := ⟨2, ![m, n]⟩) ![a, b] (⟨2, ![p, q]⟩ : Shape).size inb, w⟩ :: L) (ix2 r c) = View.canon L (ix2 r c) := by
  refine View.canon_cons_of_not_mem _ _ fun hm => ?_
  have hm' := (Rect.mem_set_unit (inb := inb)).1 hm
  have h0 : a ≤ r.val ∧ r.val < a + p := hm' 0
  have h1 : b ≤ c.val ∧ c.val < b + q := hm' 1
  omega

/-- A block read back from stores. -/
theorem readCov_at {e : EltTy} {m n p q a b : ℕ} (inb : ∀ i, (![a, b] : Fin 2 → ℕ) i + (⟨2, ![p, q]⟩ : Shape).size i ≤ (⟨2, ![m, n]⟩ : Shape).size i)
    (arg : Memref sig .tc .vmem ⟨2, ![m, n]⟩ e) (L : List (View.Piece (Elt Ideal) ⟨2, ![m, n]⟩ e)) (x : Fin p) (y : Fin q)
    (hr : a + x.val < m) (hc : b + y.val < n) :
    arg.view.readCov L (Rect.unit (s := ⟨2, ![m, n]⟩) ![a, b] (⟨2, ![p, q]⟩ : Shape).size inb).toLoadRect (ix2 x y)
      = View.canon L (ix2 ⟨a + x, hr⟩ ⟨b + y, hc⟩) := by
  rw [View.readCov_eq_canon']
  refine congrArg _ ?_
  funext i
  apply Fin.ext
  match i with
  | ⟨0, _⟩ => show a + 1 * x.val = a + x.val; omega
  | ⟨1, _⟩ => show b + 1 * y.val = b + y.val; omega

/-- A block read from a buffer whose contents are known. -/
theorem readAt_at {s : Shape} {e : EltTy} (arg : Memref sig .tc .vmem s e) (harg : arg.IsWhole) (x : Vec Ideal s e)
    (off size : Fin s.rank → ℕ) (inb) (j : (Rect.unit (s := s) off size inb).shape.Idx) (i : s.Idx) (hi : ∀ a, (i a : ℕ) = off a + j a) :
    View.readAt (Elt Ideal) arg.view (Rect.unit (s := s) off size inb).toLoadRect (harg.unread x) j = x i := by
  rw [View.readAt_eq_ld, harg.read_unread]
  refine congrArg x (funext fun a => Fin.ext ?_)
  rw [hi a]
  show off a + 1 * (j a).val = _
  omega

/-! ## The slices of a tile -/

/-- Group `g`'s slices of the tile at row `o`. -/
abbrev HoldsAt (I : Inp) (o g : ℕ) (s : Slices Ideal) : Prop :=
  Holds s (fun r j => I.P (o + r) (256 * g + j)) (fun r j => I.Z (o + r) (256 * g + j)) (fun r j => I.DG (o + r) (256 * g + j)) (I.W g)
    (fun j => I.SC (256 * g + j))

/-- The blocks a point is handed. -/
structure BlocksAt (I : Inp) (o : ℕ) (x0 : Vec Ideal S256x1024 .bf16) (x1 : Vec Ideal S256x1024 .f32) (x2 : Vec Ideal S256x1024 .bf16)
    (x3 : Vec Ideal S4x4x64x256 .bf16) (x4 : Vec Ideal S1x1024 .f32) (x5 : Vec Ideal S4x1024x512 .bf16) (x6 x7 : Vec Ideal S256x1024 .f32)
    (x8 : Vec Ideal S1x1024 .f32) : Prop where
  dg : ∀ (r : Fin 256) (c : Fin 1024), x0 (ix2 r c) = ↑(I.DG (o + r) c)
  z : ∀ (r : Fin 256) (c : Fin 1024), x1 (ix2 r c) = ↑(I.Z (o + r) c)
  p : ∀ (r : Fin 256) (c : Fin 1024), x2 (ix2 r c) = ↑(I.P (o + r) c)
  w : ∀ (a g : Fin 4) (k : Fin 64) (j : Fin 256), x3 (ix4 a g k j) = ↑(I.W g (64 * a + k) j)
  sc : ∀ c : Fin 1024, x4 (ix2 0 c) = ↑(I.SC c)
  wi : ∀ (a : Fin 4) (c : Fin 1024) (j : Fin 512), x5 (ix3 a c j) = ↑(I.WI c (512 * a + j))
  x : ∀ (r : Fin 256) (c : Fin 1024), x6 (ix2 r c) = ↑(I.X (o + r) c)
  dxm : ∀ (r : Fin 256) (c : Fin 1024), x7 (ix2 r c) = ↑(I.DXM (o + r) c)
  gn : ∀ c : Fin 1024, x8 (ix2 0 c) = ↑(I.GN c)

section Group

variable {I : Inp} {o : ℕ} {s : Slices Ideal}

theorem du_at0 (ho : o + 256 ≤ 2048) (hs : HoldsAt I o 0 s) {hh hl : Vec Ideal S256x256 .bf16} (hhh : ∀ r k : Fin 256, hh (ix2 r k) = ↑(I.hx 0 (o + 256 + r) k))
    (hhl : ∀ r k : Fin 256, hl (ix2 r k) = 0) (r k : Fin 256) : s.du 2#32 (BitVec.ofNat 32 o) hh hl (ix2 r k) = ↑(I.du 0 (o + r) k) := by
  have hr := r.isLt
  refine (du_apply hs 2 o (by norm_num) (by norm_num) (by omega) hh hl (fun r k => I.hx 0 (o + 256 + r) k) hhh hhl r k).trans (congrArg _ ?_)
  rw [Inp.du, show 2 ^ (0 + 1) = 2 from rfl]
  rw [← window_sum (fun s => I.hx 0 s k) o r 2 hr (by norm_num)]
  refine congrArg₂ (· - ·) (congrArg₂ (· + ·) (Finset.sum_congr rfl fun e _ => ?_) rfl) rfl
  have he := e.isLt
  have hh' : I.hx 0 (o + e) k = I.dp 0 (o + e) k * (1 / ((min (o + e + 1) 2 : ℕ) : ℝ)) := if_pos (by omega)
  rw [hh']
  rfl

theorem hi_at0 (ho : o + 256 ≤ 2048) (hs : HoldsAt I o 0 s) (r k : Fin 256) : s.hiSt 2#32 (BitVec.ofNat 32 o) (ix2 r k) = ↑(I.hx 0 (o + r) k) := by
  have hr := r.isLt
  refine (hiSt_apply hs 2 o (by norm_num) (by norm_num) (by omega) r k).trans (congrArg _ ?_)
  rw [Inp.hx, if_pos (by omega)]
  rfl

theorem du_at1 (ho : o + 256 ≤ 2048) (hs : HoldsAt I o 1 s) {hh hl : Vec Ideal S256x256 .bf16} (hhh : ∀ r k : Fin 256, hh (ix2 r k) = ↑(I.hx 1 (o + 256 + r) k))
    (hhl : ∀ r k : Fin 256, hl (ix2 r k) = 0) (r k : Fin 256) : s.du 4#32 (BitVec.ofNat 32 o) hh hl (ix2 r k) = ↑(I.du 1 (o + r) k) := by
  have hr := r.isLt
  refine (du_apply hs 4 o (by norm_num) (by norm_num) (by omega) hh hl (fun r k => I.hx 1 (o + 256 + r) k) hhh hhl r k).trans (congrArg _ ?_)
  rw [Inp.du, show 2 ^ (1 + 1) = 4 from rfl]
  rw [← window_sum (fun s => I.hx 1 s k) o r 4 hr (by norm_num)]
  refine congrArg₂ (· - ·) (congrArg₂ (· + ·) (Finset.sum_congr rfl fun e _ => ?_) rfl) rfl
  have he := e.isLt
  have hh' : I.hx 1 (o + e) k = I.dp 1 (o + e) k * (1 / ((min (o + e + 1) 4 : ℕ) : ℝ)) := if_pos (by omega)
  rw [hh']
  rfl

theorem hi_at1 (ho : o + 256 ≤ 2048) (hs : HoldsAt I o 1 s) (r k : Fin 256) : s.hiSt 4#32 (BitVec.ofNat 32 o) (ix2 r k) = ↑(I.hx 1 (o + r) k) := by
  have hr := r.isLt
  refine (hiSt_apply hs 4 o (by norm_num) (by norm_num) (by omega) r k).trans (congrArg _ ?_)
  rw [Inp.hx, if_pos (by omega)]
  rfl

theorem du_at2 (ho : o + 256 ≤ 2048) (hs : HoldsAt I o 2 s) {hh hl : Vec Ideal S256x256 .bf16} (hhh : ∀ r k : Fin 256, hh (ix2 r k) = ↑(I.hx 2 (o + 256 + r) k))
    (hhl : ∀ r k : Fin 256, hl (ix2 r k) = 0) (r k : Fin 256) : s.du 8#32 (BitVec.ofNat 32 o) hh hl (ix2 r k) = ↑(I.du 2 (o + r) k) := by
  have hr := r.isLt
  refine (du_apply hs 8 o (by norm_num) (by norm_num) (by omega) hh hl (fun r k => I.hx 2 (o + 256 + r) k) hhh hhl r k).trans (congrArg _ ?_)
  rw [Inp.du, show 2 ^ (2 + 1) = 8 from rfl]
  rw [← window_sum (fun s => I.hx 2 s k) o r 8 hr (by norm_num)]
  refine congrArg₂ (· - ·) (congrArg₂ (· + ·) (Finset.sum_congr rfl fun e _ => ?_) rfl) rfl
  have he := e.isLt
  have hh' : I.hx 2 (o + e) k = I.dp 2 (o + e) k * (1 / ((min (o + e + 1) 8 : ℕ) : ℝ)) := if_pos (by omega)
  rw [hh']
  rfl

theorem hi_at2 (ho : o + 256 ≤ 2048) (hs : HoldsAt I o 2 s) (r k : Fin 256) : s.hiSt 8#32 (BitVec.ofNat 32 o) (ix2 r k) = ↑(I.hx 2 (o + r) k) := by
  have hr := r.isLt
  refine (hiSt_apply hs 8 o (by norm_num) (by norm_num) (by omega) r k).trans (congrArg _ ?_)
  rw [Inp.hx, if_pos (by omega)]
  rfl

theorem du_at3 (ho : o + 256 ≤ 2048) (hs : HoldsAt I o 3 s) {hh hl : Vec Ideal S256x256 .bf16} (hhh : ∀ r k : Fin 256, hh (ix2 r k) = ↑(I.hx 3 (o + 256 + r) k))
    (hhl : ∀ r k : Fin 256, hl (ix2 r k) = 0) (r k : Fin 256) : s.du 16#32 (BitVec.ofNat 32 o) hh hl (ix2 r k) = ↑(I.du 3 (o + r) k) := by
  have hr := r.isLt
  refine (du_apply hs 16 o (by norm_num) (by norm_num) (by omega) hh hl (fun r k => I.hx 3 (o + 256 + r) k) hhh hhl r k).trans (congrArg _ ?_)
  rw [Inp.du, show 2 ^ (3 + 1) = 16 from rfl]
  rw [← window_sum (fun s => I.hx 3 s k) o r 16 hr (by norm_num)]
  refine congrArg₂ (· - ·) (congrArg₂ (· + ·) (Finset.sum_congr rfl fun e _ => ?_) rfl) rfl
  have he := e.isLt
  have hh' : I.hx 3 (o + e) k = I.dp 3 (o + e) k * (1 / ((min (o + e + 1) 16 : ℕ) : ℝ)) := if_pos (by omega)
  rw [hh']
  rfl

theorem hi_at3 (ho : o + 256 ≤ 2048) (hs : HoldsAt I o 3 s) (r k : Fin 256) : s.hiSt 16#32 (BitVec.ofNat 32 o) (ix2 r k) = ↑(I.hx 3 (o + r) k) := by
  have hr := r.isLt
  refine (hiSt_apply hs 16 o (by norm_num) (by norm_num) (by omega) r k).trans (congrArg _ ?_)
  rw [Inp.hx, if_pos (by omega)]
  rfl

end Group

section Lists

variable {I : Inp} {o : ℕ} (ho : o + 256 ≤ 2048) {s0 s1 s2 s3 : Slices Ideal}
variable (hs0 : HoldsAt I o 0 s0) (hs1 : HoldsAt I o 1 s1) (hs2 : HoldsAt I o 2 s2) (hs3 : HoldsAt I o 3 s3)

include ho hs0 hs1 hs2 hs3

/-- The first output's tile. -/
theorem duz_at {h0 l0 h1 l1 h2 l2 h3 l3 : Vec Ideal S256x256 .bf16}
    (hh0 : ∀ r k : Fin 256, h0 (ix2 r k) = ↑(I.hx 0 (o + 256 + r) k)) (hl0 : ∀ r k : Fin 256, l0 (ix2 r k) = 0)
    (hh1 : ∀ r k : Fin 256, h1 (ix2 r k) = ↑(I.hx 1 (o + 256 + r) k)) (hl1 : ∀ r k : Fin 256, l1 (ix2 r k) = 0)
    (hh2 : ∀ r k : Fin 256, h2 (ix2 r k) = ↑(I.hx 2 (o + 256 + r) k)) (hl2 : ∀ r k : Fin 256, l2 (ix2 r k) = 0)
    (hh3 : ∀ r k : Fin 256, h3 (ix2 r k) = ↑(I.hx 3 (o + 256 + r) k)) (hl3 : ∀ r k : Fin 256, l3 (ix2 r k) = 0)
    (r : Fin 256) (c : Fin 2048) :
    View.canon (duzPieces (BitVec.ofNat 32 o) s0 s1 s2 s3 h0 l0 h1 l1 h2 l2 h3 l3) (ix2 r c) = ↑(I.duz (o + r) c) := by
  have hc := c.isLt
  unfold duzPieces Inp.duz
  by_cases k0 : 768 ≤ c.val ∧ c.val < 1024
  · have hy : c.val - 768 < 256 := by omega
    have hm : c.val % 256 = c.val - 768 := by omega
    rw [canon_hit _ _ _ r c r ⟨c.val - 768, hy⟩ (by omega) (by dsimp only; omega)]
    rw [if_pos (by omega : c.val < 1024), show c.val / 256 = 3 by omega, hm]
    exact du_at3 ho hs3 hh3 hl3 r ⟨c.val - 768, hy⟩
  rw [canon_miss _ _ _ r c (by omega)]
  by_cases k1 : 1792 ≤ c.val ∧ c.val < 2048
  · have hy : c.val - 1792 < 256 := by omega
    have hm : c.val % 256 = c.val - 1792 := by omega
    rw [canon_hit _ _ _ r c r ⟨c.val - 1792, hy⟩ (by omega) (by dsimp only; omega)]
    rw [if_neg (by omega : ¬ c.val < 1024), show (c.val - 1024) / 256 = 3 by omega, hm]
    exact dz_apply hs3 r ⟨c.val - 1792, hy⟩
  rw [canon_miss _ _ _ r c (by omega)]
  by_cases k2 : 512 ≤ c.val ∧ c.val < 768
  · have hy : c.val - 512 < 256 := by omega
    have hm : c.val % 256 = c.val - 512 := by omega
    rw [canon_hit _ _ _ r c r ⟨c.val - 512, hy⟩ (by omega) (by dsimp only; omega)]
    rw [if_pos (by omega : c.val < 1024), show c.val / 256 = 2 by omega, hm]
    exact du_at2 ho hs2 hh2 hl2 r ⟨c.val - 512, hy⟩
  rw [canon_miss _ _ _ r c (by omega)]
  by_cases k3 : 1536 ≤ c.val ∧ c.val < 1792
  · have hy : c.val - 1536 < 256 := by omega
    have hm : c.val % 256 = c.val - 1536 := by omega
    rw [canon_hit _ _ _ r c r ⟨c.val - 1536, hy⟩ (by omega) (by dsimp only; omega)]
    rw [if_neg (by omega : ¬ c.val < 1024), show (c.val - 1024) / 256 = 2 by omega, hm]
    exact dz_apply hs2 r ⟨c.val - 1536, hy⟩
  rw [canon_miss _ _ _ r c (by omega)]
  by_cases k4 : 256 ≤ c.val ∧ c.val < 512
  · have hy : c.val - 256 < 256 := by omega
    have hm : c.val % 256 = c.val - 256 := by omega
    rw [canon_hit _ _ _ r c r ⟨c.val - 256, hy⟩ (by omega) (by dsimp only; omega)]
    rw [if_pos (by omega : c.val < 1024), show c.val / 256 = 1 by omega, hm]
    exact du_at1 ho hs1 hh1 hl1 r ⟨c.val - 256, hy⟩
  rw [canon_miss _ _ _ r c (by omega)]
  by_cases k5 : 1280 ≤ c.val ∧ c.val < 1536
  · have hy : c.val - 1280 < 256 := by omega
    have hm : c.val % 256 = c.val - 1280 := by omega
    rw [canon_hit _ _ _ r c r ⟨c.val - 1280, hy⟩ (by omega) (by dsimp only; omega)]
    rw [if_neg (by omega : ¬ c.val < 1024), show (c.val - 1024) / 256 = 1 by omega, hm]
    exact dz_apply hs1 r ⟨c.val - 1280, hy⟩
  rw [canon_miss _ _ _ r c (by omega)]
  by_cases k6 : 0 ≤ c.val ∧ c.val < 256
  · have hy : c.val - 0 < 256 := by omega
    have hm : c.val % 256 = c.val - 0 := by omega
    rw [canon_hit _ _ _ r c r ⟨c.val - 0, hy⟩ (by omega) (by dsimp only; omega)]
    rw [if_pos (by omega : c.val < 1024), show c.val / 256 = 0 by omega, hm]
    exact du_at0 ho hs0 hh0 hl0 r ⟨c.val - 0, hy⟩
  rw [canon_miss _ _ _ r c (by omega)]
  by_cases k7 : 1024 ≤ c.val ∧ c.val < 1280
  · have hy : c.val - 1024 < 256 := by omega
    have hm : c.val % 256 = c.val - 1024 := by omega
    rw [canon_hit _ _ _ r c r ⟨c.val - 1024, hy⟩ (by omega) (by dsimp only; omega)]
    rw [if_neg (by omega : ¬ c.val < 1024), show (c.val - 1024) / 256 = 0 by omega, hm]
    exact dz_apply hs0 r ⟨c.val - 1024, hy⟩
  rw [canon_miss _ _ _ r c (by omega)]
  omega

/-- The second output's tile. -/
theorem dmr_at (r : Fin 256) (c : Fin 1024) :
    View.canon (dmrPieces s0 s1 s2 s3) (ix2 r c) = ↑(I.dmr (c / 256) (o + r) (c % 256)) := by
  have hc := c.isLt
  unfold dmrPieces
  by_cases k0 : 768 ≤ c.val ∧ c.val < 1024
  · have hy : c.val - 768 < 256 := by omega
    rw [canon_hit _ _ _ r c r ⟨c.val - 768, hy⟩ (by omega) (by dsimp only; omega)]
    rw [show c.val / 256 = 3 by omega, show c.val % 256 = c.val - 768 by omega]
    exact dmr_apply hs3 r ⟨c.val - 768, hy⟩
  rw [canon_miss _ _ _ r c (by omega)]
  by_cases k1 : 512 ≤ c.val ∧ c.val < 768
  · have hy : c.val - 512 < 256 := by omega
    rw [canon_hit _ _ _ r c r ⟨c.val - 512, hy⟩ (by omega) (by dsimp only; omega)]
    rw [show c.val / 256 = 2 by omega, show c.val % 256 = c.val - 512 by omega]
    exact dmr_apply hs2 r ⟨c.val - 512, hy⟩
  rw [canon_miss _ _ _ r c (by omega)]
  by_cases k2 : 256 ≤ c.val ∧ c.val < 512
  · have hy : c.val - 256 < 256 := by omega
    rw [canon_hit _ _ _ r c r ⟨c.val - 256, hy⟩ (by omega) (by dsimp only; omega)]
    rw [show c.val / 256 = 1 by omega, show c.val % 256 = c.val - 256 by omega]
    exact dmr_apply hs1 r ⟨c.val - 256, hy⟩
  rw [canon_miss _ _ _ r c (by omega)]
  by_cases k3 : 0 ≤ c.val ∧ c.val < 256
  · have hy : c.val - 0 < 256 := by omega
    rw [canon_hit _ _ _ r c r ⟨c.val - 0, hy⟩ (by omega) (by dsimp only; omega)]
    rw [show c.val / 256 = 0 by omega, show c.val % 256 = c.val - 0 by omega]
    exact dmr_apply hs0 r ⟨c.val - 0, hy⟩
  rw [canon_miss _ _ _ r c (by omega)]
  omega

/-- The halo's high part. -/
theorem hi_at (base : List (View.Piece (Elt Ideal) S256x1024 .bf16)) (r : Fin 256) (c : Fin 1024) :
    View.canon (hiPieces4 base (BitVec.ofNat 32 o) s0 s1 s2 s3) (ix2 r c) = ↑(I.hx (c / 256) (o + r) (c % 256)) := by
  have hc := c.isLt
  unfold hiPieces4 hiPieces3 hiPieces2 hiPieces1
  by_cases k0 : 768 ≤ c.val ∧ c.val < 1024
  · have hy : c.val - 768 < 256 := by omega
    rw [canon_hit _ _ _ r c r ⟨c.val - 768, hy⟩ (by omega) (by dsimp only; omega)]
    rw [show c.val / 256 = 3 by omega, show c.val % 256 = c.val - 768 by omega]
    exact hi_at3 ho hs3 r ⟨c.val - 768, hy⟩
  rw [canon_miss _ _ _ r c (by omega)]
  by_cases k1 : 512 ≤ c.val ∧ c.val < 768
  · have hy : c.val - 512 < 256 := by omega
    rw [canon_hit _ _ _ r c r ⟨c.val - 512, hy⟩ (by omega) (by dsimp only; omega)]
    rw [show c.val / 256 = 2 by omega, show c.val % 256 = c.val - 512 by omega]
    exact hi_at2 ho hs2 r ⟨c.val - 512, hy⟩
  rw [canon_miss _ _ _ r c (by omega)]
  by_cases k2 : 256 ≤ c.val ∧ c.val < 512
  · have hy : c.val - 256 < 256 := by omega
    rw [canon_hit _ _ _ r c r ⟨c.val - 256, hy⟩ (by omega) (by dsimp only; omega)]
    rw [show c.val / 256 = 1 by omega, show c.val % 256 = c.val - 256 by omega]
    exact hi_at1 ho hs1 r ⟨c.val - 256, hy⟩
  rw [canon_miss _ _ _ r c (by omega)]
  by_cases k3 : 0 ≤ c.val ∧ c.val < 256
  · have hy : c.val - 0 < 256 := by omega
    rw [canon_hit _ _ _ r c r ⟨c.val - 0, hy⟩ (by omega) (by dsimp only; omega)]
    rw [show c.val / 256 = 0 by omega, show c.val % 256 = c.val - 0 by omega]
    exact hi_at0 ho hs0 r ⟨c.val - 0, hy⟩
  rw [canon_miss _ _ _ r c (by omega)]
  omega

/-- The halo's low part. -/
theorem lo_at (base : List (View.Piece (Elt Ideal) S256x1024 .bf16)) (r : Fin 256) (c : Fin 1024) :
    View.canon (loPieces4 base (BitVec.ofNat 32 o) s0 s1 s2 s3) (ix2 r c) = 0 := by
  have hc := c.isLt
  unfold loPieces4 loPieces3 loPieces2 loPieces1
  by_cases k0 : 768 ≤ c.val ∧ c.val < 1024
  · have hy : c.val - 768 < 256 := by omega
    rw [canon_hit _ _ _ r c r ⟨c.val - 768, hy⟩ (by omega) (by dsimp only; omega)]
    exact loSt_apply hs3 16 o (by norm_num) (by norm_num) (by omega) r ⟨c.val - 768, hy⟩
  rw [canon_miss _ _ _ r c (by omega)]
  by_cases k1 : 512 ≤ c.val ∧ c.val < 768
  · have hy : c.val - 512 < 256 := by omega
    rw [canon_hit _ _ _ r c r ⟨c.val - 512, hy⟩ (by omega) (by dsimp only; omega)]
    exact loSt_apply hs2 8 o (by norm_num) (by norm_num) (by omega) r ⟨c.val - 512, hy⟩
  rw [canon_miss _ _ _ r c (by omega)]
  by_cases k2 : 256 ≤ c.val ∧ c.val < 512
  · have hy : c.val - 256 < 256 := by omega
    rw [canon_hit _ _ _ r c r ⟨c.val - 256, hy⟩ (by omega) (by dsimp only; omega)]
    exact loSt_apply hs1 4 o (by norm_num) (by norm_num) (by omega) r ⟨c.val - 256, hy⟩
  rw [canon_miss _ _ _ r c (by omega)]
  by_cases k3 : 0 ≤ c.val ∧ c.val < 256
  · have hy : c.val - 0 < 256 := by omega
    rw [canon_hit _ _ _ r c r ⟨c.val - 0, hy⟩ (by omega) (by dsimp only; omega)]
    exact loSt_apply hs0 2 o (by norm_num) (by norm_num) (by omega) r ⟨c.val - 0, hy⟩
  rw [canon_miss _ _ _ r c (by omega)]
  omega

end Lists

end Cert.KernelIdeal.Mix

end
-- ==== Proof.Reads.lean ====
/- The first point and a later point of the grid, entry by entry: what the run's stores leave is the gradient's tile. -/
module

public import proofs.«01_k».proof.Proof.Point
public import Idealize.ShloMosaic.Lib.WritesUnit

@[expose] public section

set_option maxRecDepth 16384

noncomputable section

namespace Cert.KernelIdeal.Mix

open Cert.KernelIdeal Cert.KernelIdeal.Gen
open Idealize.ShloMosaic Idealize.ShloMosaic.TcCoe

variable (c : Dev nD) (i : grid0.Coords)
  (arg1 : Memref sig .tc .vmem S256x1024 .bf16) (harg1 : arg1.IsWhole)
  (arg2 : Memref sig .tc .vmem S256x1024 .f32) (harg2 : arg2.IsWhole)
  (arg3 : Memref sig .tc .vmem S256x1024 .bf16) (harg3 : arg3.IsWhole)
  (arg4 : Memref sig .tc .vmem S4x4x64x256 .bf16) (harg4 : arg4.IsWhole)
  (arg5 : Memref sig .tc .vmem S1x1024 .f32) (harg5 : arg5.IsWhole)
  (arg6 : Memref sig .tc .vmem S4x1024x512 .bf16) (harg6 : arg6.IsWhole)
  (arg7 : Memref sig .tc .vmem S256x1024 .f32) (harg7 : arg7.IsWhole)
  (arg8 : Memref sig .tc .vmem S256x1024 .f32) (harg8 : arg8.IsWhole)
  (arg9 : Memref sig .tc .vmem S1x1024 .f32) (harg9 : arg9.IsWhole)
  (arg10 : Memref sig .tc .vmem S256x2048 .bf16) (harg10 : arg10.IsWhole)
  (arg11 : Memref sig .tc .vmem S256x1024 .bf16) (harg11 : arg11.IsWhole)
  (arg12 : Memref sig .tc .vmem S256x1024 .f32) (harg12 : arg12.IsWhole)
  (arg13 : Memref sig .tc .vmem S8x1024 .f32) (harg13 : arg13.IsWhole)
  (arg14 : Memref sig .tc .vmem S256x1024 .bf16) (harg14 : arg14.IsWhole)
  (arg15 : Memref sig .tc .vmem S256x1024 .bf16) (harg15 : arg15.IsWhole)
  (x0 : Vec Ideal S256x1024 .bf16) (x1 : Vec Ideal S256x1024 .f32) (x2 : Vec Ideal S256x1024 .bf16) (x3 : Vec Ideal S4x4x64x256 .bf16) (x4 : Vec Ideal S1x1024 .f32) (x5 : Vec Ideal S4x1024x512 .bf16) (x6 : Vec Ideal S256x1024 .f32) (x7 : Vec Ideal S256x1024 .f32) (x8 : Vec Ideal S1x1024 .f32)

variable {I : Inp} {o : ℕ} (ho : o + 256 ≤ 2048) (hb : BlocksAt I o x0 x1 x2 x3 x4 x5 x6 x7 x8)

include hb in
theorem holds0 : HoldsAt I o 0 (slices0 arg1 harg1 arg2 harg2 arg3 harg3 arg4 harg4 arg5 harg5 x0 x1 x2 x3 x4) where
  w0 k j := by
    dsimp only [slices0]
    refine Eq.trans (readAt_at arg4 harg4 x3 _ _ _ _ (ix4 0 0 k j) ?_) ?_
    · intro a
      match a with
      | ⟨0, _⟩ => rfl
      | ⟨1, _⟩ => rfl
      | ⟨2, _⟩ => exact (Nat.zero_add _).symm
      | ⟨3, _⟩ => exact (Nat.zero_add _).symm
    · refine (hb.w 0 0 k j).trans (congrArg (fun n => ((I.W 0 n j : ℝ) : EReal)) ?_)
      show 64 * 0 + k.val = _
      omega
  w1 k j := by
    dsimp only [slices0]
    refine Eq.trans (readAt_at arg4 harg4 x3 _ _ _ _ (ix4 1 0 k j) ?_) ?_
    · intro a
      match a with
      | ⟨0, _⟩ => rfl
      | ⟨1, _⟩ => rfl
      | ⟨2, _⟩ => exact (Nat.zero_add _).symm
      | ⟨3, _⟩ => exact (Nat.zero_add _).symm
    · refine (hb.w 1 0 k j).trans (congrArg (fun n => ((I.W 0 n j : ℝ) : EReal)) ?_)
      show 64 * 1 + k.val = _
      omega
  w2 k j := by
    dsimp only [slices0]
    refine Eq.trans (readAt_at arg4 harg4 x3 _ _ _ _ (ix4 2 0 k j) ?_) ?_
    · intro a
      match a with
      | ⟨0, _⟩ => rfl
      | ⟨1, _⟩ => rfl
      | ⟨2, _⟩ => exact (Nat.zero_add _).symm
      | ⟨3, _⟩ => exact (Nat.zero_add _).symm
    · refine (hb.w 2 0 k j).trans (congrArg (fun n => ((I.W 0 n j : ℝ) : EReal)) ?_)
      show 64 * 2 + k.val = _
      omega
  w3 k j := by
    dsimp only [slices0]
    refine Eq.trans (readAt_at arg4 harg4 x3 _ _ _ _ (ix4 3 0 k j) ?_) ?_
    · intro a
      match a with
      | ⟨0, _⟩ => rfl
      | ⟨1, _⟩ => rfl
      | ⟨2, _⟩ => exact (Nat.zero_add _).symm
      | ⟨3, _⟩ => exact (Nat.zero_add _).symm
    · refine (hb.w 3 0 k j).trans (congrArg (fun n => ((I.W 0 n j : ℝ) : EReal)) ?_)
      show 64 * 3 + k.val = _
      omega
  p r j := by
    dsimp only [slices0]
    refine Eq.trans (readAt_at arg3 harg3 x2 _ _ _ _ (ix2 r ⟨0 + j.val, by have := j.isLt; omega⟩) ?_) ?_
    · intro a
      match a with
      | ⟨0, _⟩ => exact (Nat.zero_add _).symm
      | ⟨1, _⟩ => rfl
    · exact hb.p r _
  z r j := by
    dsimp only [slices0]
    refine Eq.trans (readAt_at arg2 harg2 x1 _ _ _ _ (ix2 r ⟨0 + j.val, by have := j.isLt; omega⟩) ?_) ?_
    · intro a
      match a with
      | ⟨0, _⟩ => exact (Nat.zero_add _).symm
      | ⟨1, _⟩ => rfl
    · exact hb.z r _
  dg r j := by
    dsimp only [slices0]
    refine Eq.trans (readAt_at arg1 harg1 x0 _ _ _ _ (ix2 r ⟨0 + j.val, by have := j.isLt; omega⟩) ?_) ?_
    · intro a
      match a with
      | ⟨0, _⟩ => exact (Nat.zero_add _).symm
      | ⟨1, _⟩ => rfl
    · exact hb.dg r _
  sc j := by
    dsimp only [slices0]
    refine Eq.trans (readAt_at arg5 harg5 x4 _ _ _ _ (ix2 0 ⟨0 + j.val, by have := j.isLt; omega⟩) ?_) ?_
    · intro a
      match a with
      | ⟨0, _⟩ => rfl
      | ⟨1, _⟩ => rfl
    · exact hb.sc _

include hb in
theorem holds1 : HoldsAt I o 1 (slices1 arg1 harg1 arg2 harg2 arg3 harg3 arg4 harg4 arg5 harg5 x0 x1 x2 x3 x4) where
  w0 k j := by
    dsimp only [slices1]
    refine Eq.trans (readAt_at arg4 harg4 x3 _ _ _ _ (ix4 0 1 k j) ?_) ?_
    · intro a
      match a with
      | ⟨0, _⟩ => rfl
      | ⟨1, _⟩ => rfl
      | ⟨2, _⟩ => exact (Nat.zero_add _).symm
      | ⟨3, _⟩ => exact (Nat.zero_add _).symm
    · refine (hb.w 0 1 k j).trans (congrArg (fun n => ((I.W 1 n j : ℝ) : EReal)) ?_)
      show 64 * 0 + k.val = _
      omega
  w1 k j := by
    dsimp only [slices1]
    refine Eq.trans (readAt_at arg4 harg4 x3 _ _ _ _ (ix4 1 1 k j) ?_) ?_
    · intro a
      match a with
      | ⟨0, _⟩ => rfl
      | ⟨1, _⟩ => rfl
      | ⟨2, _⟩ => exact (Nat.zero_add _).symm
      | ⟨3, _⟩ => exact (Nat.zero_add _).symm
    · refine (hb.w 1 1 k j).trans (congrArg (fun n => ((I.W 1 n j : ℝ) : EReal)) ?_)
      show 64 * 1 + k.val = _
      omega
  w2 k j := by
    dsimp only [slices1]
    refine Eq.trans (readAt_at arg4 harg4 x3 _ _ _ _ (ix4 2 1 k j) ?_) ?_
    · intro a
      match a with
      | ⟨0, _⟩ => rfl
      | ⟨1, _⟩ => rfl
      | ⟨2, _⟩ => exact (Nat.zero_add _).symm
      | ⟨3, _⟩ => exact (Nat.zero_add _).symm
    · refine (hb.w 2 1 k j).trans (congrArg (fun n => ((I.W 1 n j : ℝ) : EReal)) ?_)
      show 64 * 2 + k.val = _
      omega
  w3 k j := by
    dsimp only [slices1]
    refine Eq.trans (readAt_at arg4 harg4 x3 _ _ _ _ (ix4 3 1 k j) ?_) ?_
    · intro a
      match a with
      | ⟨0, _⟩ => rfl
      | ⟨1, _⟩ => rfl
      | ⟨2, _⟩ => exact (Nat.zero_add _).symm
      | ⟨3, _⟩ => exact (Nat.zero_add _).symm
    · refine (hb.w 3 1 k j).trans (congrArg (fun n => ((I.W 1 n j : ℝ) : EReal)) ?_)
      show 64 * 3 + k.val = _
      omega
  p r j := by
    dsimp only [slices1]
    refine Eq.trans (readAt_at arg3 harg3 x2 _ _ _ _ (ix2 r ⟨256 + j.val, by have := j.isLt; omega⟩) ?_) ?_
    · intro a
      match a with
      | ⟨0, _⟩ => exact (Nat.zero_add _).symm
      | ⟨1, _⟩ => rfl
    · exact hb.p r _
  z r j := by
    dsimp only [slices1]
    refine Eq.trans (readAt_at arg2 harg2 x1 _ _ _ _ (ix2 r ⟨256 + j.val, by have := j.isLt; omega⟩) ?_) ?_
    · intro a
      match a with
      | ⟨0, _⟩ => exact (Nat.zero_add _).symm
      | ⟨1, _⟩ => rfl
    · exact hb.z r _
  dg r j := by
    dsimp only [slices1]
    refine Eq.trans (readAt_at arg1 harg1 x0 _ _ _ _ (ix2 r ⟨256 + j.val, by have := j.isLt; omega⟩) ?_) ?_
    · intro a
      match a with
      | ⟨0, _⟩ => exact (Nat.zero_add _).symm
      | ⟨1, _⟩ => rfl
    · exact hb.dg r _
  sc j := by
    dsimp only [slices1]
    refine Eq.trans (readAt_at arg5 harg5 x4 _ _ _ _ (ix2 0 ⟨256 + j.val, by have := j.isLt; omega⟩) ?_) ?_
    · intro a
      match a with
      | ⟨0, _⟩ => rfl
      | ⟨1, _⟩ => rfl
    · exact hb.sc _

include hb in
theorem holds2 : HoldsAt I o 2 (slices2 arg1 harg1 arg2 harg2 arg3 harg3 arg4 harg4 arg5 harg5 x0 x1 x2 x3 x4) where
  w0 k j := by
    dsimp only [slices2]
    refine Eq.trans (readAt_at arg4 harg4 x3 _ _ _ _ (ix4 0 2 k j) ?_) ?_
    · intro a
      match a with
      | ⟨0, _⟩ => rfl
      | ⟨1, _⟩ => rfl
      | ⟨2, _⟩ => exact (Nat.zero_add _).symm
      | ⟨3, _⟩ => exact (Nat.zero_add _).symm
    · refine (hb.w 0 2 k j).trans (congrArg (fun n => ((I.W 2 n j : ℝ) : EReal)) ?_)
      show 64 * 0 + k.val = _
      omega
  w1 k j := by
    dsimp only [slices2]
    refine Eq.trans (readAt_at arg4 harg4 x3 _ _ _ _ (ix4 1 2 k j) ?_) ?_
    · intro a
      match a with
      | ⟨0, _⟩ => rfl
      | ⟨1, _⟩ => rfl
      | ⟨2, _⟩ => exact (Nat.zero_add _).symm
      | ⟨3, _⟩ => exact (Nat.zero_add _).symm
    · refine (hb.w 1 2 k j).trans (congrArg (fun n => ((I.W 2 n j : ℝ) : EReal)) ?_)
      show 64 * 1 + k.val = _
      omega
  w2 k j := by
    dsimp only [slices2]
    refine Eq.trans (readAt_at arg4 harg4 x3 _ _ _ _ (ix4 2 2 k j) ?_) ?_
    · intro a
      match a with
      | ⟨0, _⟩ => rfl
      | ⟨1, _⟩ => rfl
      | ⟨2, _⟩ => exact (Nat.zero_add _).symm
      | ⟨3, _⟩ => exact (Nat.zero_add _).symm
    · refine (hb.w 2 2 k j).trans (congrArg (fun n => ((I.W 2 n j : ℝ) : EReal)) ?_)
      show 64 * 2 + k.val = _
      omega
  w3 k j := by
    dsimp only [slices2]
    refine Eq.trans (readAt_at arg4 harg4 x3 _ _ _ _ (ix4 3 2 k j) ?_) ?_
    · intro a
      match a with
      | ⟨0, _⟩ => rfl
      | ⟨1, _⟩ => rfl
      | ⟨2, _⟩ => exact (Nat.zero_add _).symm
      | ⟨3, _⟩ => exact (Nat.zero_add _).symm
    · refine (hb.w 3 2 k j).trans (congrArg (fun n => ((I.W 2 n j : ℝ) : EReal)) ?_)
      show 64 * 3 + k.val = _
      omega
  p r j := by
    dsimp only [slices2]
    refine Eq.trans (readAt_at arg3 harg3 x2 _ _ _ _ (ix2 r ⟨512 + j.val, by have := j.isLt; omega⟩) ?_) ?_
    · intro a
      match a with
      | ⟨0, _⟩ => exact (Nat.zero_add _).symm
      | ⟨1, _⟩ => rfl
    · exact hb.p r _
  z r j := by
    dsimp only [slices2]
    refine Eq.trans (readAt_at arg2 harg2 x1 _ _ _ _ (ix2 r ⟨512 + j.val, by have := j.isLt; omega⟩) ?_) ?_
    · intro a
      match a with
      | ⟨0, _⟩ => exact (Nat.zero_add _).symm
      | ⟨1, _⟩ => rfl
    · exact hb.z r _
  dg r j := by
    dsimp only [slices2]
    refine Eq.trans (readAt_at arg1 harg1 x0 _ _ _ _ (ix2 r ⟨512 + j.val, by have := j.isLt; omega⟩) ?_) ?_
    · intro a
      match a with
      | ⟨0, _⟩ => exact (Nat.zero_add _).symm
      | ⟨1, _⟩ => rfl
    · exact hb.dg r _
  sc j := by
    dsimp only [slices2]
    refine Eq.trans (readAt_at arg5 harg5 x4 _ _ _ _ (ix2 0 ⟨512 + j.val, by have := j.isLt; omega⟩) ?_) ?_
    · intro a
      match a with
      | ⟨0, _⟩ => rfl
      | ⟨1, _⟩ => rfl
    · exact hb.sc _

include hb in
theorem holds3 : HoldsAt I o 3 (slices3 arg1 harg1 arg2 harg2 arg3 harg3 arg4 harg4 arg5 harg5 x0 x1 x2 x3 x4) where
  w0 k j := by
    dsimp only [slices3]
    refine Eq.trans (readAt_at arg4 harg4 x3 _ _ _ _ (ix4 0 3 k j) ?_) ?_
    · intro a
      match a with
      | ⟨0, _⟩ => rfl
      | ⟨1, _⟩ => rfl
      | ⟨2, _⟩ => exact (Nat.zero_add _).symm
      | ⟨3, _⟩ => exact (Nat.zero_add _).symm
    · refine (hb.w 0 3 k j).trans (congrArg (fun n => ((I.W 3 n j : ℝ) : EReal)) ?_)
      show 64 * 0 + k.val = _
      omega
  w1 k j := by
    dsimp only [slices3]
    refine Eq.trans (readAt_at arg4 harg4 x3 _ _ _ _ (ix4 1 3 k j) ?_) ?_
    · intro a
      match a with
      | ⟨0, _⟩ => rfl
      | ⟨1, _⟩ => rfl
      | ⟨2, _⟩ => exact (Nat.zero_add _).symm
      | ⟨3, _⟩ => exact (Nat.zero_add _).symm
    · refine (hb.w 1 3 k j).trans (congrArg (fun n => ((I.W 3 n j : ℝ) : EReal)) ?_)
      show 64 * 1 + k.val = _
      omega
  w2 k j := by
    dsimp only [slices3]
    refine Eq.trans (readAt_at arg4 harg4 x3 _ _ _ _ (ix4 2 3 k j) ?_) ?_
    · intro a
      match a with
      | ⟨0, _⟩ => rfl
      | ⟨1, _⟩ => rfl
      | ⟨2, _⟩ => exact (Nat.zero_add _).symm
      | ⟨3, _⟩ => exact (Nat.zero_add _).symm
    · refine (hb.w 2 3 k j).trans (congrArg (fun n => ((I.W 3 n j : ℝ) : EReal)) ?_)
      show 64 * 2 + k.val = _
      omega
  w3 k j := by
    dsimp only [slices3]
    refine Eq.trans (readAt_at arg4 harg4 x3 _ _ _ _ (ix4 3 3 k j) ?_) ?_
    · intro a
      match a with
      | ⟨0, _⟩ => rfl
      | ⟨1, _⟩ => rfl
      | ⟨2, _⟩ => exact (Nat.zero_add _).symm
      | ⟨3, _⟩ => exact (Nat.zero_add _).symm
    · refine (hb.w 3 3 k j).trans (congrArg (fun n => ((I.W 3 n j : ℝ) : EReal)) ?_)
      show 64 * 3 + k.val = _
      omega
  p r j := by
    dsimp only [slices3]
    refine Eq.trans (readAt_at arg3 harg3 x2 _ _ _ _ (ix2 r ⟨768 + j.val, by have := j.isLt; omega⟩) ?_) ?_
    · intro a
      match a with
      | ⟨0, _⟩ => exact (Nat.zero_add _).symm
      | ⟨1, _⟩ => rfl
    · exact hb.p r _
  z r j := by
    dsimp only [slices3]
    refine Eq.trans (readAt_at arg2 harg2 x1 _ _ _ _ (ix2 r ⟨768 + j.val, by have := j.isLt; omega⟩) ?_) ?_
    · intro a
      match a with
      | ⟨0, _⟩ => exact (Nat.zero_add _).symm
      | ⟨1, _⟩ => rfl
    · exact hb.z r _
  dg r j := by
    dsimp only [slices3]
    refine Eq.trans (readAt_at arg1 harg1 x0 _ _ _ _ (ix2 r ⟨768 + j.val, by have := j.isLt; omega⟩) ?_) ?_
    · intro a
      match a with
      | ⟨0, _⟩ => exact (Nat.zero_add _).symm
      | ⟨1, _⟩ => rfl
    · exact hb.dg r _
  sc j := by
    dsimp only [slices3]
    refine Eq.trans (readAt_at arg5 harg5 x4 _ _ _ _ (ix2 0 ⟨768 + j.val, by have := j.isLt; omega⟩) ?_) ?_
    · intro a
      match a with
      | ⟨0, _⟩ => rfl
      | ⟨1, _⟩ => rfl
    · exact hb.sc _

/-- A tile's running sum of the scale's gradient, at a group's column. -/
theorem dsc_step {g : ℕ} {s : Slices Ideal} (ho : o + 256 ≤ 2048) (hs : HoldsAt I o g s) {acc : Vec Ideal S1x256 .f32}
    (ha : ∀ j : Fin 256, acc (ix2 0 j) = ↑(∑ s ∈ Finset.Ico (o + 256) 2048, I.dm g s j * I.mr g s j)) (j : Fin 256) :
    s.dsc acc (ix2 0 j) = ↑(∑ s ∈ Finset.Ico o 2048, I.dm g s j * I.mr g s j) := by
  refine (dsc_apply hs acc (fun j => ∑ s ∈ Finset.Ico (o + 256) 2048, I.dm g s j * I.mr g s j) ha j).trans (congrArg _ ?_)
  exact tile_sum (fun s => I.dm g s j * I.mr g s j) o ho

include hb in
theorem x_read (r : Fin 256) (c : Fin 1024) : View.readAt (Elt Ideal) arg7.view (Rect.unit (s := S256x1024) ![0, 0] S256x1024.size inb_S256x1024_S256x1024_0_0).toLoadRect (harg7.unread x6) (ix2 r c) = ↑(I.X (o + r) c) :=
  (readAt_at arg7 harg7 x6 _ _ _ _ (ix2 r c) (fun a => match a with
      | ⟨0, _⟩ => (Nat.zero_add _).symm | ⟨1, _⟩ => (Nat.zero_add _).symm)).trans (hb.x r c)

include hb in
theorem dxm_read (r : Fin 256) (c : Fin 1024) : View.readAt (Elt Ideal) arg8.view (Rect.unit (s := S256x1024) ![0, 0] S256x1024.size inb_S256x1024_S256x1024_0_0).toLoadRect (harg8.unread x7) (ix2 r c) = ↑(I.DXM (o + r) c) :=
  (readAt_at arg8 harg8 x7 _ _ _ _ (ix2 r c) (fun a => match a with
      | ⟨0, _⟩ => (Nat.zero_add _).symm | ⟨1, _⟩ => (Nat.zero_add _).symm)).trans (hb.dxm r c)

include hb in
theorem gn_read (c : Fin 1024) : View.readAt (Elt Ideal) arg9.view (Rect.unit (s := S1x1024) ![0, 0] S1x1024.size inb_S1x1024_S1x1024_0_0).toLoadRect (harg9.unread x8) (ix2 0 c) = ↑(I.GN c) :=
  (readAt_at arg9 harg9 x8 _ _ _ _ (ix2 0 c) (fun a => match a with
      | ⟨0, _⟩ => rfl | ⟨1, _⟩ => (Nat.zero_add _).symm)).trans (hb.gn c)

include hb in
theorem wi_read0 (c : Fin 1024) (j : Fin 512) : View.readAt (Elt Ideal) arg6.view (Rect.unit (s := S4x1024x512) ![0, 0, 0] S1x1024x512.size inb_S4x1024x512_S1x1024x512_0_0_0).toLoadRect (harg6.unread x5) (ix3 0 c j) = ↑(I.WI c (j)) := by
  refine Eq.trans (readAt_at arg6 harg6 x5 _ _ _ _ (ix3 0 c j) ?_) ?_
  · intro a
    match a with
    | ⟨0, _⟩ => rfl
    | ⟨1, _⟩ => exact (Nat.zero_add _).symm
    | ⟨2, _⟩ => exact (Nat.zero_add _).symm
  · refine (hb.wi 0 c j).trans (congrArg (fun n => ((I.WI c n : ℝ) : EReal)) ?_)
    show 512 * 0 + j.val = _
    omega

include hb in
theorem wi_read1 (c : Fin 1024) (j : Fin 512) : View.readAt (Elt Ideal) arg6.view (Rect.unit (s := S4x1024x512) ![1, 0, 0] S1x1024x512.size inb_S4x1024x512_S1x1024x512_1_0_0).toLoadRect (harg6.unread x5) (ix3 0 c j) = ↑(I.WI c (512 + j)) := by
  refine Eq.trans (readAt_at arg6 harg6 x5 _ _ _ _ (ix3 1 c j) ?_) ?_
  · intro a
    match a with
    | ⟨0, _⟩ => rfl
    | ⟨1, _⟩ => exact (Nat.zero_add _).symm
    | ⟨2, _⟩ => exact (Nat.zero_add _).symm
  · refine (hb.wi 1 c j).trans (congrArg (fun n => ((I.WI c n : ℝ) : EReal)) ?_)
    show 512 * 1 + j.val = _
    omega

include hb in
theorem wi_read2 (c : Fin 1024) (j : Fin 512) : View.readAt (Elt Ideal) arg6.view (Rect.unit (s := S4x1024x512) ![2, 0, 0] S1x1024x512.size inb_S4x1024x512_S1x1024x512_2_0_0).toLoadRect (harg6.unread x5) (ix3 0 c j) = ↑(I.WI c (1024 + j)) := by
  refine Eq.trans (readAt_at arg6 harg6 x5 _ _ _ _ (ix3 2 c j) ?_) ?_
  · intro a
    match a with
    | ⟨0, _⟩ => rfl
    | ⟨1, _⟩ => exact (Nat.zero_add _).symm
    | ⟨2, _⟩ => exact (Nat.zero_add _).symm
  · refine (hb.wi 2 c j).trans (congrArg (fun n => ((I.WI c n : ℝ) : EReal)) ?_)
    show 512 * 2 + j.val = _
    omega

include hb in
theorem wi_read3 (c : Fin 1024) (j : Fin 512) : View.readAt (Elt Ideal) arg6.view (Rect.unit (s := S4x1024x512) ![3, 0, 0] S1x1024x512.size inb_S4x1024x512_S1x1024x512_3_0_0).toLoadRect (harg6.unread x5) (ix3 0 c j) = ↑(I.WI c (1536 + j)) := by
  refine Eq.trans (readAt_at arg6 harg6 x5 _ _ _ _ (ix3 3 c j) ?_) ?_
  · intro a
    match a with
    | ⟨0, _⟩ => rfl
    | ⟨1, _⟩ => exact (Nat.zero_add _).symm
    | ⟨2, _⟩ => exact (Nat.zero_add _).symm
  · refine (hb.wi 3 c j).trans (congrArg (fun n => ((I.WI c n : ℝ) : EReal)) ?_)
    show 512 * 3 + j.val = _
    omega

include hb in
/-- The cotangent of the normalised rows, from any list that leaves the first output's tile. -/
theorem dh_read (L : List (View.Piece (Elt Ideal) S256x2048 .bf16)) (hL : ∀ (r : Fin 256) (c : Fin 2048), View.canon L (ix2 r c) = ↑(I.duz (o + r) c))
    (r : Fin 256) (c : Fin 1024) :
    dhOf (arg10.view.readCov L (Rect.unit (s := S256x2048) ![0, 0] S256x512.size inb_S256x2048_S256x512_0_0).toLoadRect) (arg10.view.readCov L (Rect.unit (s := S256x2048) ![0, 512] S256x512.size inb_S256x2048_S256x512_0_512).toLoadRect) (arg10.view.readCov L (Rect.unit (s := S256x2048) ![0, 1024] S256x512.size inb_S256x2048_S256x512_0_1024).toLoadRect) (arg10.view.readCov L (Rect.unit (s := S256x2048) ![0, 1536] S256x512.size inb_S256x2048_S256x512_0_1536).toLoadRect)
      (View.readAt (Elt Ideal) arg6.view (Rect.unit (s := S4x1024x512) ![0, 0, 0] S1x1024x512.size inb_S4x1024x512_S1x1024x512_0_0_0).toLoadRect (harg6.unread x5)) (View.readAt (Elt Ideal) arg6.view (Rect.unit (s := S4x1024x512) ![1, 0, 0] S1x1024x512.size inb_S4x1024x512_S1x1024x512_1_0_0).toLoadRect (harg6.unread x5)) (View.readAt (Elt Ideal) arg6.view (Rect.unit (s := S4x1024x512) ![2, 0, 0] S1x1024x512.size inb_S4x1024x512_S1x1024x512_2_0_0).toLoadRect (harg6.unread x5)) (View.readAt (Elt Ideal) arg6.view (Rect.unit (s := S4x1024x512) ![3, 0, 0] S1x1024x512.size inb_S4x1024x512_S1x1024x512_3_0_0).toLoadRect (harg6.unread x5)) (ix2 r c) = ↑(I.dh (o + r) c) := by
  refine dhOf_apply (D := fun r c => I.duz (o + r) c) (WI := I.WI) ?_ ?_ ?_ ?_ (wi_read0 arg6 harg6 x0 x1 x2 x3 x4 x5 x6 x7 x8 hb) (wi_read1 arg6 harg6 x0 x1 x2 x3 x4 x5 x6 x7 x8 hb) (wi_read2 arg6 harg6 x0 x1 x2 x3 x4 x5 x6 x7 x8 hb) (wi_read3 arg6 harg6 x0 x1 x2 x3 x4 x5 x6 x7 x8 hb) r c
  · intro r j
    have hr := r.isLt
    have hj := j.isLt
    refine (readCov_at _ arg10 L r j (by omega) (by omega)).trans ((hL _ _).trans ?_)
    dsimp only
    rw [Nat.zero_add, Nat.zero_add]
  · intro r j
    have hr := r.isLt
    have hj := j.isLt
    refine (readCov_at _ arg10 L r j (by omega) (by omega)).trans ((hL _ _).trans ?_)
    dsimp only
    rw [Nat.zero_add]
  · intro r j
    have hr := r.isLt
    have hj := j.isLt
    refine (readCov_at _ arg10 L r j (by omega) (by omega)).trans ((hL _ _).trans ?_)
    dsimp only
    rw [Nat.zero_add]
  · intro r j
    have hr := r.isLt
    have hj := j.isLt
    refine (readCov_at _ arg10 L r j (by omega) (by omega)).trans ((hL _ _).trans ?_)
    dsimp only
    rw [Nat.zero_add]

end Cert.KernelIdeal.Mix

end
-- ==== Proof.First.lean ====
/- The first point of the grid, entry by entry: what the run's stores leave is the gradient's tile. -/
module

public import proofs.«01_k».proof.Proof.Reads
public import Idealize.ShloMosaic.Lib.WritesUnit

@[expose] public section

set_option maxRecDepth 16384

noncomputable section

namespace Cert.KernelIdeal.Mix

open Cert.KernelIdeal Cert.KernelIdeal.Gen
open Idealize.ShloMosaic Idealize.ShloMosaic.TcCoe

variable (c : Dev nD) (i : grid0.Coords)
  (arg1 : Memref sig .tc .vmem S256x1024 .bf16) (harg1 : arg1.IsWhole)
  (arg2 : Memref sig .tc .vmem S256x1024 .f32) (harg2 : arg2.IsWhole)
  (arg3 : Memref sig .tc .vmem S256x1024 .bf16) (harg3 : arg3.IsWhole)
  (arg4 : Memref sig .tc .vmem S4x4x64x256 .bf16) (harg4 : arg4.IsWhole)
  (arg5 : Memref sig .tc .vmem S1x1024 .f32) (harg5 : arg5.IsWhole)
  (arg6 : Memref sig .tc .vmem S4x1024x512 .bf16) (harg6 : arg6.IsWhole)
  (arg7 : Memref sig .tc .vmem S256x1024 .f32) (harg7 : arg7.IsWhole)
  (arg8 : Memref sig .tc .vmem S256x1024 .f32) (harg8 : arg8.IsWhole)
  (arg9 : Memref sig .tc .vmem S1x1024 .f32) (harg9 : arg9.IsWhole)
  (arg10 : Memref sig .tc .vmem S256x2048 .bf16) (harg10 : arg10.IsWhole)
  (arg11 : Memref sig .tc .vmem S256x1024 .bf16) (harg11 : arg11.IsWhole)
  (arg12 : Memref sig .tc .vmem S256x1024 .f32) (harg12 : arg12.IsWhole)
  (arg13 : Memref sig .tc .vmem S8x1024 .f32) (harg13 : arg13.IsWhole)
  (arg14 : Memref sig .tc .vmem S256x1024 .bf16) (harg14 : arg14.IsWhole)
  (arg15 : Memref sig .tc .vmem S256x1024 .bf16) (harg15 : arg15.IsWhole)
  (x0 : Vec Ideal S256x1024 .bf16) (x1 : Vec Ideal S256x1024 .f32) (x2 : Vec Ideal S256x1024 .bf16) (x3 : Vec Ideal S4x4x64x256 .bf16) (x4 : Vec Ideal S1x1024 .f32) (x5 : Vec Ideal S4x1024x512 .bf16) (x6 : Vec Ideal S256x1024 .f32) (x7 : Vec Ideal S256x1024 .f32) (x8 : Vec Ideal S1x1024 .f32)

variable {I : Inp} {o : ℕ} (ho : o + 256 ≤ 2048) (hb : BlocksAt I o x0 x1 x2 x3 x4 x5 x6 x7 x8)

variable {i}
variable (hi : firstRow i = BitVec.ofNat 32 o)

section First

variable (hc : isFirst i) (ho' : o = 1792)

theorem sumsZero_at (q : Fin 8) (k : Fin 1024) : View.canon (sumsZero (F := Ideal)) (ix2 q k) = 0 := by
  unfold sumsZero
  rw [canon_hit _ _ _ q k q k (Nat.zero_add _).symm (Nat.zero_add _).symm]
  pointwise [k0_pay1]

theorem hiZero_at (r : Fin 256) (k : Fin 1024) : View.canon (hiZero (F := Ideal)) (ix2 r k) = 0 := by
  unfold hiZero
  rw [canon_hit _ _ _ r k r k (Nat.zero_add _).symm (Nat.zero_add _).symm]
  pointwise [k0_pay2]

theorem loZero_at (r : Fin 256) (k : Fin 1024) : View.canon (loZero (F := Ideal)) (ix2 r k) = 0 := by
  unfold loZero
  rw [canon_hit _ _ _ r k r k (Nat.zero_add _).symm (Nat.zero_add _).symm]
  pointwise [k0_pay3]

theorem hx_past (I : Inp) (g s k : ℕ) (h : 2048 ≤ s) : I.hx g s k = 0 := if_neg (by omega)

include ho' in
theorem hiA0 (r k : Fin 256) : arg14.view.readCov (hiZero (F := Ideal)) (Rect.unit (s := S256x1024) ![0, 0] S256x256.size inb_S256x1024_S256x256_0_0).toLoadRect (ix2 r k) = ↑(I.hx 0 (o + 256 + r) k) := by
  have hr := r.isLt
  have hk := k.isLt
  rw [readCov_at _ arg14 _ r k (by omega) (by omega)]
  rw [hiZero_at]
  rw [hx_past I 0 _ k (by omega)]
  rfl

theorem loA0 (r k : Fin 256) : arg15.view.readCov (loZero (F := Ideal)) (Rect.unit (s := S256x1024) ![0, 0] S256x256.size inb_S256x1024_S256x256_0_0).toLoadRect (ix2 r k) = 0 := by
  have hr := r.isLt
  have hk := k.isLt
  rw [readCov_at _ arg15 _ r k (by omega) (by omega)]
  rw [loZero_at]

include ho' in
theorem hiA1 (r k : Fin 256) : arg14.view.readCov (hiPieces1 hiZero (firstRow i) (slices0 arg1 harg1 arg2 harg2 arg3 harg3 arg4 harg4 arg5 harg5 x0 x1 x2 x3 x4)) (Rect.unit (s := S256x1024) ![0, 256] S256x256.size inb_S256x1024_S256x256_0_256).toLoadRect (ix2 r k) = ↑(I.hx 1 (o + 256 + r) k) := by
  have hr := r.isLt
  have hk := k.isLt
  rw [readCov_at _ arg14 _ r k (by omega) (by omega)]
  unfold hiPieces1
  rw [canon_miss _ _ _ _ _ (by dsimp only; omega)]
  rw [hiZero_at]
  rw [hx_past I 1 _ k (by omega)]
  rfl

theorem loA1 (r k : Fin 256) : arg15.view.readCov (loPieces1 loZero (firstRow i) (slices0 arg1 harg1 arg2 harg2 arg3 harg3 arg4 harg4 arg5 harg5 x0 x1 x2 x3 x4)) (Rect.unit (s := S256x1024) ![0, 256] S256x256.size inb_S256x1024_S256x256_0_256).toLoadRect (ix2 r k) = 0 := by
  have hr := r.isLt
  have hk := k.isLt
  rw [readCov_at _ arg15 _ r k (by omega) (by omega)]
  unfold loPieces1
  rw [canon_miss _ _ _ _ _ (by dsimp only; omega)]
  rw [loZero_at]

include ho' in
theorem hiA2 (r k : Fin 256) : arg14.view.readCov (hiPieces2 hiZero (firstRow i) (slices0 arg1 harg1 arg2 harg2 arg3 harg3 arg4 harg4 arg5 harg5 x0 x1 x2 x3 x4) (slices1 arg1 harg1 arg2 harg2 arg3 harg3 arg4 harg4 arg5 harg5 x0 x1 x2 x3 x4)) (Rect.unit (s := S256x1024) ![0, 512] S256x256.size inb_S256x1024_S256x256_0_512).toLoadRect (ix2 r k) = ↑(I.hx 2 (o + 256 + r) k) := by
  have hr := r.isLt
  have hk := k.isLt
  rw [readCov_at _ arg14 _ r k (by omega) (by omega)]
  unfold hiPieces2 hiPieces1
  rw [canon_miss _ _ _ _ _ (by dsimp only; omega)]
  rw [canon_miss _ _ _ _ _ (by dsimp only; omega)]
  rw [hiZero_at]
  rw [hx_past I 2 _ k (by omega)]
  rfl

theorem loA2 (r k : Fin 256) : arg15.view.readCov (loPieces2 loZero (firstRow i) (slices0 arg1 harg1 arg2 harg2 arg3 harg3 arg4 harg4 arg5 harg5 x0 x1 x2 x3 x4) (slices1 arg1 harg1 arg2 harg2 arg3 harg3 arg4 harg4 arg5 harg5 x0 x1 x2 x3 x4)) (Rect.unit (s := S256x1024) ![0, 512] S256x256.size inb_S256x1024_S256x256_0_512).toLoadRect (ix2 r k) = 0 := by
  have hr := r.isLt
  have hk := k.isLt
  rw [readCov_at _ arg15 _ r k (by omega) (by omega)]
  unfold loPieces2 loPieces1
  rw [canon_miss _ _ _ _ _ (by dsimp only; omega)]
  rw [canon_miss _ _ _ _ _ (by dsimp only; omega)]
  rw [loZero_at]

include ho' in
theorem hiA3 (r k : Fin 256) : arg14.view.readCov (hiPieces3 hiZero (firstRow i) (slices0 arg1 harg1 arg2 harg2 arg3 harg3 arg4 harg4 arg5 harg5 x0 x1 x2 x3 x4) (slices1 arg1 harg1 arg2 harg2 arg3 harg3 arg4 harg4 arg5 harg5 x0 x1 x2 x3 x4) (slices2 arg1 harg1 arg2 harg2 arg3 harg3 arg4 harg4 arg5 harg5 x0 x1 x2 x3 x4)) (Rect.unit (s := S256x1024) ![0, 768] S256x256.size inb_S256x1024_S256x256_0_768).toLoadRect (ix2 r k) = ↑(I.hx 3 (o + 256 + r) k) := by
  have hr := r.isLt
  have hk := k.isLt
  rw [readCov_at _ arg14 _ r k (by omega) (by omega)]
  unfold hiPieces3 hiPieces2 hiPieces1
  rw [canon_miss _ _ _ _ _ (by dsimp only; omega)]
  rw [canon_miss _ _ _ _ _ (by dsimp only; omega)]
  rw [canon_miss _ _ _ _ _ (by dsimp only; omega)]
  rw [hiZero_at]
  rw [hx_past I 3 _ k (by omega)]
  rfl

theorem loA3 (r k : Fin 256) : arg15.view.readCov (loPieces3 loZero (firstRow i) (slices0 arg1 harg1 arg2 harg2 arg3 harg3 arg4 harg4 arg5 harg5 x0 x1 x2 x3 x4) (slices1 arg1 harg1 arg2 harg2 arg3 harg3 arg4 harg4 arg5 harg5 x0 x1 x2 x3 x4) (slices2 arg1 harg1 arg2 harg2 arg3 harg3 arg4 harg4 arg5 harg5 x0 x1 x2 x3 x4)) (Rect.unit (s := S256x1024) ![0, 768] S256x256.size inb_S256x1024_S256x256_0_768).toLoadRect (ix2 r k) = 0 := by
  have hr := r.isLt
  have hk := k.isLt
  rw [readCov_at _ arg15 _ r k (by omega) (by omega)]
  unfold loPieces3 loPieces2 loPieces1
  rw [canon_miss _ _ _ _ _ (by dsimp only; omega)]
  rw [canon_miss _ _ _ _ _ (by dsimp only; omega)]
  rw [canon_miss _ _ _ _ _ (by dsimp only; omega)]
  rw [loZero_at]

include ho hb hi ho' in
theorem duzA_at (r : Fin 256) (k : Fin 2048) :
    View.canon (duzA i arg1 harg1 arg2 harg2 arg3 harg3 arg4 harg4 arg5 harg5 arg14 arg15 x0 x1 x2 x3 x4) (ix2 r k) = ↑(I.duz (o + r) k) := by
  unfold duzA
  rw [hi]
  have e := hi
  have a0 := hiA0 (I := I) arg14 ho'
  have b0 := loA0 arg15
  have a1 := hiA1 (I := I) arg1 harg1 arg2 harg2 arg3 harg3 arg4 harg4 arg5 harg5 arg14 x0 x1 x2 x3 x4 (i := i) ho'
  have b1 := loA1 arg1 harg1 arg2 harg2 arg3 harg3 arg4 harg4 arg5 harg5 arg15 x0 x1 x2 x3 x4 (i := i)
  rw [e] at a1 b1
  have a2 := hiA2 (I := I) arg1 harg1 arg2 harg2 arg3 harg3 arg4 harg4 arg5 harg5 arg14 x0 x1 x2 x3 x4 (i := i) ho'
  have b2 := loA2 arg1 harg1 arg2 harg2 arg3 harg3 arg4 harg4 arg5 harg5 arg15 x0 x1 x2 x3 x4 (i := i)
  rw [e] at a2 b2
  have a3 := hiA3 (I := I) arg1 harg1 arg2 harg2 arg3 harg3 arg4 harg4 arg5 harg5 arg14 x0 x1 x2 x3 x4 (i := i) ho'
  have b3 := loA3 arg1 harg1 arg2 harg2 arg3 harg3 arg4 harg4 arg5 harg5 arg15 x0 x1 x2 x3 x4 (i := i)
  rw [e] at a3 b3
  exact duz_at ho (holds0 arg1 harg1 arg2 harg2 arg3 harg3 arg4 harg4 arg5 harg5 x0 x1 x2 x3 x4 x5 x6 x7 x8 hb) (holds1 arg1 harg1 arg2 harg2 arg3 harg3 arg4 harg4 arg5 harg5 x0 x1 x2 x3 x4 x5 x6 x7 x8 hb) (holds2 arg1 harg1 arg2 harg2 arg3 harg3 arg4 harg4 arg5 harg5 x0 x1 x2 x3 x4 x5 x6 x7 x8 hb) (holds3 arg1 harg1 arg2 harg2 arg3 harg3 arg4 harg4 arg5 harg5 x0 x1 x2 x3 x4 x5 x6 x7 x8 hb) a0 b0 a1 b1 a2 b2 a3 b3 r k

include ho hb hi ho' in
theorem dhA_at (r : Fin 256) (k : Fin 1024) : (dhA i arg1 harg1 arg2 harg2 arg3 harg3 arg4 harg4 arg5 harg5 arg6 harg6 arg10 arg14 arg15 x0 x1 x2 x3 x4 x5) (ix2 r k) = ↑(I.dh (o + r) k) :=
  dh_read arg6 harg6 arg10 x0 x1 x2 x3 x4 x5 x6 x7 x8 hb _ (duzA_at arg1 harg1 arg2 harg2 arg3 harg3 arg4 harg4 arg5 harg5 arg14 arg15 x0 x1 x2 x3 x4 x5 x6 x7 x8 ho hb hi ho') r k

include ho hb hi ho' in
theorem stepA_duz (r : Fin 256) (k : Fin 2048) : View.canon (runA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 hc).1 (ix2 r k) = ↑(I.duz (o + r) k) := by
  rw [runA_duz c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 hc]
  exact (duzA_at arg1 harg1 arg2 harg2 arg3 harg3 arg4 harg4 arg5 harg5 arg14 arg15 x0 x1 x2 x3 x4 x5 x6 x7 x8 ho hb hi ho') r k

include ho hb hi ho' in
theorem stepA_dmr (r : Fin 256) (k : Fin 1024) : View.canon (runA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 hc).2.1 (ix2 r k) = ↑(I.dmr (k / 256) (o + r) (k % 256)) := by
  rw [runA_dmr c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 hc]
  exact dmr_at ho (holds0 arg1 harg1 arg2 harg2 arg3 harg3 arg4 harg4 arg5 harg5 x0 x1 x2 x3 x4 x5 x6 x7 x8 hb) (holds1 arg1 harg1 arg2 harg2 arg3 harg3 arg4 harg4 arg5 harg5 x0 x1 x2 x3 x4 x5 x6 x7 x8 hb) (holds2 arg1 harg1 arg2 harg2 arg3 harg3 arg4 harg4 arg5 harg5 x0 x1 x2 x3 x4 x5 x6 x7 x8 hb) (holds3 arg1 harg1 arg2 harg2 arg3 harg3 arg4 harg4 arg5 harg5 x0 x1 x2 x3 x4 x5 x6 x7 x8 hb) r k

include ho hb hi ho' in
theorem stepA_dx (r : Fin 256) (k : Fin 1024) : View.canon (runA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 hc).2.2.1 (ix2 r k) = ↑(I.dx (o + r) k) := by
  rw [runA_dx c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 hc, canon_hit _ _ _ r k r k (Nat.zero_add _).symm (Nat.zero_add _).symm]
  exact pay82_apply (X := fun r c => I.X (o + r) c) (DH := fun r c => I.dh (o + r) c) (DXM := fun r c => I.DXM (o + r) c) (x_read arg7 harg7 x0 x1 x2 x3 x4 x5 x6 x7 x8 hb)
    (dhA_at arg1 harg1 arg2 harg2 arg3 harg3 arg4 harg4 arg5 harg5 arg6 harg6 arg10 arg14 arg15 x0 x1 x2 x3 x4 x5 x6 x7 x8 ho hb hi ho') (gn_read arg9 harg9 x0 x1 x2 x3 x4 x5 x6 x7 x8 hb) (dxm_read arg8 harg8 x0 x1 x2 x3 x4 x5 x6 x7 x8 hb) r k

include ho hb hi ho' in
theorem stepA_hi (r : Fin 256) (k : Fin 1024) : View.canon (runA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 hc).2.2.2.2.1 (ix2 r k) = ↑(I.hx (k / 256) (o + r) (k % 256)) := by
  rw [runA_hi c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 hc, hi]
  exact hi_at ho (holds0 arg1 harg1 arg2 harg2 arg3 harg3 arg4 harg4 arg5 harg5 x0 x1 x2 x3 x4 x5 x6 x7 x8 hb) (holds1 arg1 harg1 arg2 harg2 arg3 harg3 arg4 harg4 arg5 harg5 x0 x1 x2 x3 x4 x5 x6 x7 x8 hb) (holds2 arg1 harg1 arg2 harg2 arg3 harg3 arg4 harg4 arg5 harg5 x0 x1 x2 x3 x4 x5 x6 x7 x8 hb) (holds3 arg1 harg1 arg2 harg2 arg3 harg3 arg4 harg4 arg5 harg5 x0 x1 x2 x3 x4 x5 x6 x7 x8 hb) _ r k

include ho hb hi ho' in
theorem stepA_lo (r : Fin 256) (k : Fin 1024) : View.canon (runA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 hc).2.2.2.2.2.1 (ix2 r k) = 0 := by
  rw [runA_lo c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 hc, hi]
  exact lo_at ho (holds0 arg1 harg1 arg2 harg2 arg3 harg3 arg4 harg4 arg5 harg5 x0 x1 x2 x3 x4 x5 x6 x7 x8 hb) (holds1 arg1 harg1 arg2 harg2 arg3 harg3 arg4 harg4 arg5 harg5 x0 x1 x2 x3 x4 x5 x6 x7 x8 hb) (holds2 arg1 harg1 arg2 harg2 arg3 harg3 arg4 harg4 arg5 harg5 x0 x1 x2 x3 x4 x5 x6 x7 x8 hb) (holds3 arg1 harg1 arg2 harg2 arg3 harg3 arg4 harg4 arg5 harg5 x0 x1 x2 x3 x4 x5 x6 x7 x8 hb) _ r k

include ho' in
theorem accA0 (j : Fin 256) : acc0 (F := Ideal) arg13 (ix2 0 j) = ((∑ s ∈ Finset.Ico (o + 256) 2048, I.dm 0 s j * I.mr 0 s j : ℝ) : EReal) := by
  have hj := j.isLt
  unfold acc0
  refine (readCov_at _ arg13 _ 0 j (by show 0 + 0 < 8; omega) (by omega)).trans ?_
  rw [sumsZero_at, Finset.Ico_eq_empty (by omega), Finset.sum_empty]
  rfl

include ho' in
theorem accA1 (j : Fin 256) : acc1 arg1 harg1 arg2 harg2 arg3 harg3 arg4 harg4 arg5 harg5 arg13 x0 x1 x2 x3 x4 (ix2 0 j) = ((∑ s ∈ Finset.Ico (o + 256) 2048, I.dm 1 s j * I.mr 1 s j : ℝ) : EReal) := by
  have hj := j.isLt
  unfold acc1
  refine (readCov_at _ arg13 _ 0 j (by show 0 + 0 < 8; omega) (by omega)).trans ?_
  unfold scPieces1
  rw [canon_miss _ _ _ _ _ (by dsimp only; omega)]
  rw [sumsZero_at, Finset.Ico_eq_empty (by omega), Finset.sum_empty]
  rfl

include ho' in
theorem accA2 (j : Fin 256) : acc2 arg1 harg1 arg2 harg2 arg3 harg3 arg4 harg4 arg5 harg5 arg13 x0 x1 x2 x3 x4 (ix2 0 j) = ((∑ s ∈ Finset.Ico (o + 256) 2048, I.dm 2 s j * I.mr 2 s j : ℝ) : EReal) := by
  have hj := j.isLt
  unfold acc2
  refine (readCov_at _ arg13 _ 0 j (by show 0 + 0 < 8; omega) (by omega)).trans ?_
  unfold scPieces2 scPieces1
  rw [canon_miss _ _ _ _ _ (by dsimp only; omega)]
  rw [canon_miss _ _ _ _ _ (by dsimp only; omega)]
  rw [sumsZero_at, Finset.Ico_eq_empty (by omega), Finset.sum_empty]
  rfl

include ho' in
theorem accA3 (j : Fin 256) : acc3 arg1 harg1 arg2 harg2 arg3 harg3 arg4 harg4 arg5 harg5 arg13 x0 x1 x2 x3 x4 (ix2 0 j) = ((∑ s ∈ Finset.Ico (o + 256) 2048, I.dm 3 s j * I.mr 3 s j : ℝ) : EReal) := by
  have hj := j.isLt
  unfold acc3
  refine (readCov_at _ arg13 _ 0 j (by show 0 + 0 < 8; omega) (by omega)).trans ?_
  unfold scPieces3 scPieces2 scPieces1
  rw [canon_miss _ _ _ _ _ (by dsimp only; omega)]
  rw [canon_miss _ _ _ _ _ (by dsimp only; omega)]
  rw [canon_miss _ _ _ _ _ (by dsimp only; omega)]
  rw [sumsZero_at, Finset.Ico_eq_empty (by omega), Finset.sum_empty]
  rfl

include ho hb hi ho' in
theorem stepA_sums0 (k : Fin 1024) : View.canon (runA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 hc).2.2.2.1 (ix2 0 k) = ↑(∑ s ∈ Finset.Ico o 2048, I.dsc s k) := by
  have hk := k.isLt
  rw [runA_sums c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 hc]
  rw [canon_miss _ _ _ 0 k (Or.inl (by show 0 < 1; omega))]
  unfold scA scPieces4 scPieces3 scPieces2 scPieces1
  by_cases k3 : 768 ≤ k.val ∧ k.val < 1024
  · rw [canon_hit _ _ _ 0 k 0 ⟨k.val - 768, by omega⟩ rfl (by dsimp only; omega)]
    unfold Inp.dsc
    rw [show k.val / 256 = 3 by omega, show k.val % 256 = k.val - 768 by omega]
    exact dsc_step ho (holds3 arg1 harg1 arg2 harg2 arg3 harg3 arg4 harg4 arg5 harg5 x0 x1 x2 x3 x4 x5 x6 x7 x8 hb) (accA3 arg1 harg1 arg2 harg2 arg3 harg3 arg4 harg4 arg5 harg5 arg13 x0 x1 x2 x3 x4 ho') ⟨k.val - 768, by omega⟩
  rw [canon_miss _ _ _ 0 k (by omega)]
  by_cases k2 : 512 ≤ k.val ∧ k.val < 768
  · rw [canon_hit _ _ _ 0 k 0 ⟨k.val - 512, by omega⟩ rfl (by dsimp only; omega)]
    unfold Inp.dsc
    rw [show k.val / 256 = 2 by omega, show k.val % 256 = k.val - 512 by omega]
    exact dsc_step ho (holds2 arg1 harg1 arg2 harg2 arg3 harg3 arg4 harg4 arg5 harg5 x0 x1 x2 x3 x4 x5 x6 x7 x8 hb) (accA2 arg1 harg1 arg2 harg2 arg3 harg3 arg4 harg4 arg5 harg5 arg13 x0 x1 x2 x3 x4 ho') ⟨k.val - 512, by omega⟩
  rw [canon_miss _ _ _ 0 k (by omega)]
  by_cases k1 : 256 ≤ k.val ∧ k.val < 512
  · rw [canon_hit _ _ _ 0 k 0 ⟨k.val - 256, by omega⟩ rfl (by dsimp only; omega)]
    unfold Inp.dsc
    rw [show k.val / 256 = 1 by omega, show k.val % 256 = k.val - 256 by omega]
    exact dsc_step ho (holds1 arg1 harg1 arg2 harg2 arg3 harg3 arg4 harg4 arg5 harg5 x0 x1 x2 x3 x4 x5 x6 x7 x8 hb) (accA1 arg1 harg1 arg2 harg2 arg3 harg3 arg4 harg4 arg5 harg5 arg13 x0 x1 x2 x3 x4 ho') ⟨k.val - 256, by omega⟩
  rw [canon_miss _ _ _ 0 k (by omega)]
  by_cases k0 : 0 ≤ k.val ∧ k.val < 256
  · rw [canon_hit _ _ _ 0 k 0 ⟨k.val - 0, by omega⟩ rfl (by dsimp only; omega)]
    unfold Inp.dsc
    rw [show k.val / 256 = 0 by omega, show k.val % 256 = k.val - 0 by omega]
    exact dsc_step ho (holds0 arg1 harg1 arg2 harg2 arg3 harg3 arg4 harg4 arg5 harg5 x0 x1 x2 x3 x4 x5 x6 x7 x8 hb) (accA0 arg13 ho') ⟨k.val - 0, by omega⟩
  rw [canon_miss _ _ _ 0 k (by omega)]
  omega

include ho hb hi ho' in
theorem stepA_sums1 (k : Fin 1024) : View.canon (runA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 hc).2.2.2.1 (ix2 1 k) = ↑(∑ s ∈ Finset.Ico o 2048, I.dgn s k) := by
  rw [runA_sums c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 hc]
  rw [canon_hit _ _ _ 1 k 0 k rfl (Nat.zero_add _).symm]
  refine (pay83_apply (X := fun r c => I.X (o + r) c) (DH := fun r c => I.dh (o + r) c) (x_read arg7 harg7 x0 x1 x2 x3 x4 x5 x6 x7 x8 hb) (dhA_at arg1 harg1 arg2 harg2 arg3 harg3 arg4 harg4 arg5 harg5 arg6 harg6 arg10 arg14 arg15 x0 x1 x2 x3 x4 x5 x6 x7 x8 ho hb hi ho')
    (A := fun c => ∑ s ∈ Finset.Ico (o + 256) 2048, I.dgn s c) (fun c => ?_) k).trans (congrArg _ ?_)
  · have hc := c.isLt
    refine (readCov_at _ arg13 _ 0 c (by show 1 + 0 < 8; omega) (by omega)).trans ?_
    unfold scA scPieces4 scPieces3 scPieces2 scPieces1
    rw [canon_miss _ _ _ _ _ (Or.inr (Or.inl (by show 0 + 1 ≤ 1 + 0; omega)))]
    rw [canon_miss _ _ _ _ _ (Or.inr (Or.inl (by show 0 + 1 ≤ 1 + 0; omega)))]
    rw [canon_miss _ _ _ _ _ (Or.inr (Or.inl (by show 0 + 1 ≤ 1 + 0; omega)))]
    rw [canon_miss _ _ _ _ _ (Or.inr (Or.inl (by show 0 + 1 ≤ 1 + 0; omega)))]
    rw [sumsZero_at, Finset.Ico_eq_empty (by omega), Finset.sum_empty]
    rfl
  exact tile_sum (fun s => I.dgn s k) o ho

theorem stepA_sums2 (q : Fin 8) (hq : 2 ≤ q.val) (k : Fin 1024) : View.canon (runA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 hc).2.2.2.1 (ix2 q k) = 0 := by
  rw [runA_sums c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 hc]
  unfold scA scPieces4 scPieces3 scPieces2 scPieces1
  rw [canon_miss _ _ _ q k (Or.inr (Or.inl (by omega)))]
  rw [canon_miss _ _ _ q k (Or.inr (Or.inl (by omega)))]
  rw [canon_miss _ _ _ q k (Or.inr (Or.inl (by omega)))]
  rw [canon_miss _ _ _ q k (Or.inr (Or.inl (by omega)))]
  rw [canon_miss _ _ _ q k (Or.inr (Or.inl (by omega)))]
  exact sumsZero_at q k

end First

end Cert.KernelIdeal.Mix

end
-- ==== Proof.Later.lean ====
/- A later point of the grid, entry by entry: what the run's stores leave is the gradient's tile. -/
module

public import proofs.«01_k».proof.Proof.Reads
public import Idealize.ShloMosaic.Lib.WritesUnit

@[expose] public section

set_option maxRecDepth 16384

noncomputable section

namespace Cert.KernelIdeal.Mix

open Cert.KernelIdeal Cert.KernelIdeal.Gen
open Idealize.ShloMosaic Idealize.ShloMosaic.TcCoe

variable (c : Dev nD) (i : grid0.Coords)
  (arg1 : Memref sig .tc .vmem S256x1024 .bf16) (harg1 : arg1.IsWhole)
  (arg2 : Memref sig .tc .vmem S256x1024 .f32) (harg2 : arg2.IsWhole)
  (arg3 : Memref sig .tc .vmem S256x1024 .bf16) (harg3 : arg3.IsWhole)
  (arg4 : Memref sig .tc .vmem S4x4x64x256 .bf16) (harg4 : arg4.IsWhole)
  (arg5 : Memref sig .tc .vmem S1x1024 .f32) (harg5 : arg5.IsWhole)
  (arg6 : Memref sig .tc .vmem S4x1024x512 .bf16) (harg6 : arg6.IsWhole)
  (arg7 : Memref sig .tc .vmem S256x1024 .f32) (harg7 : arg7.IsWhole)
  (arg8 : Memref sig .tc .vmem S256x1024 .f32) (harg8 : arg8.IsWhole)
  (arg9 : Memref sig .tc .vmem S1x1024 .f32) (harg9 : arg9.IsWhole)
  (arg10 : Memref sig .tc .vmem S256x2048 .bf16) (harg10 : arg10.IsWhole)
  (arg11 : Memref sig .tc .vmem S256x1024 .bf16) (harg11 : arg11.IsWhole)
  (arg12 : Memref sig .tc .vmem S256x1024 .f32) (harg12 : arg12.IsWhole)
  (arg13 : Memref sig .tc .vmem S8x1024 .f32) (harg13 : arg13.IsWhole)
  (arg14 : Memref sig .tc .vmem S256x1024 .bf16) (harg14 : arg14.IsWhole)
  (arg15 : Memref sig .tc .vmem S256x1024 .bf16) (harg15 : arg15.IsWhole)
  (x0 : Vec Ideal S256x1024 .bf16) (x1 : Vec Ideal S256x1024 .f32) (x2 : Vec Ideal S256x1024 .bf16) (x3 : Vec Ideal S4x4x64x256 .bf16) (x4 : Vec Ideal S1x1024 .f32) (x5 : Vec Ideal S4x1024x512 .bf16) (x6 : Vec Ideal S256x1024 .f32) (x7 : Vec Ideal S256x1024 .f32) (x8 : Vec Ideal S1x1024 .f32)

variable {I : Inp} {o : ℕ} (ho : o + 256 ≤ 2048) (hb : BlocksAt I o x0 x1 x2 x3 x4 x5 x6 x7 x8)

variable {i}
variable (hi : firstRow i = BitVec.ofNat 32 o)

/-- An entry the last write holds, over whatever was there. -/
theorem writes_hit {e : EltTy} {m n p q a b : ℕ} (v : View sig .tc .vmem ⟨2, ![m, n]⟩ e) (f : v.ty.Contents (Elt Ideal))
    (inb : ∀ i, (![a, b] : Fin 2 → ℕ) i + (⟨2, ![p, q]⟩ : Shape).size i ≤ (⟨2, ![m, n]⟩ : Shape).size i)
    (w : (Rect.unit (s := ⟨2, ![m, n]⟩) ![a, b] (⟨2, ![p, q]⟩ : Shape).size inb).shape.Idx → Elt Ideal e)
    (L : List (View.Piece (Elt Ideal) ⟨2, ![m, n]⟩ e)) (r : Fin m) (c : Fin n) (x : Fin p) (y : Fin q)
    (hr : r.val = a + x) (hc : c.val = b + y) :
    v.read (Elt Ideal) (v.writes (Elt Ideal) f (⟨Rect.unit (s := ⟨2, ![m, n]⟩) ![a, b] (⟨2, ![p, q]⟩ : Shape).size inb, w⟩ :: L)) (ix2 r c) = w (ix2 x y) :=
  View.read_writes_cons_unit_of_mem v f inb w L (ix2 r c) (ix2 x y) rfl fun a => match a with
    | ⟨0, _⟩ => hr
    | ⟨1, _⟩ => hc

/-- An entry the last write leaves alone. -/
theorem writes_miss {e : EltTy} {m n p q a b : ℕ} (v : View sig .tc .vmem ⟨2, ![m, n]⟩ e) (f : v.ty.Contents (Elt Ideal))
    (inb : ∀ i, (![a, b] : Fin 2 → ℕ) i + (⟨2, ![p, q]⟩ : Shape).size i ≤ (⟨2, ![m, n]⟩ : Shape).size i)
    (w : (Rect.unit (s := ⟨2, ![m, n]⟩) ![a, b] (⟨2, ![p, q]⟩ : Shape).size inb).shape.Idx → Elt Ideal e)
    (L : List (View.Piece (Elt Ideal) ⟨2, ![m, n]⟩ e)) (r : Fin m) (c : Fin n)
    (h : r.val < a ∨ a + p ≤ r.val ∨ c.val < b ∨ b + q ≤ c.val) :
    v.read (Elt Ideal) (v.writes (Elt Ideal) f (⟨Rect.unit (s := ⟨2, ![m, n]⟩) ![a, b] (⟨2, ![p, q]⟩ : Shape).size inb, w⟩ :: L)) (ix2 r c)
      = v.read (Elt Ideal) (v.writes (Elt Ideal) f L) (ix2 r c) := by
  rcases h with h | h | h | h
  · exact View.read_writes_cons_unit_of_not_mem v f inb w L (ix2 r c) rfl 0 (Or.inl h)
  · exact View.read_writes_cons_unit_of_not_mem v f inb w L (ix2 r c) rfl 0 (Or.inr h)
  · exact View.read_writes_cons_unit_of_not_mem v f inb w L (ix2 r c) rfl 1 (Or.inl h)
  · exact View.read_writes_cons_unit_of_not_mem v f inb w L (ix2 r c) rfl 1 (Or.inr h)

/-- A rank-two block read from a buffer whose contents are known. -/
theorem readAt2 {e : EltTy} {m n p q a b : ℕ} (arg : Memref sig .tc .vmem ⟨2, ![m, n]⟩ e) (harg : arg.IsWhole) (x : Vec Ideal ⟨2, ![m, n]⟩ e)
    (inb : ∀ i, (![a, b] : Fin 2 → ℕ) i + (⟨2, ![p, q]⟩ : Shape).size i ≤ (⟨2, ![m, n]⟩ : Shape).size i) (r : Fin p) (c : Fin q)
    (hr : a + r.val < m) (hc : b + c.val < n) :
    View.readAt (Elt Ideal) arg.view (Rect.unit (s := ⟨2, ![m, n]⟩) ![a, b] (⟨2, ![p, q]⟩ : Shape).size inb).toLoadRect (harg.unread x) (ix2 r c)
      = x (ix2 ⟨a + r, hr⟩ ⟨b + c, hc⟩) := by
  refine readAt_at arg harg x _ _ _ _ _ ?_
  intro i
  match i with
  | ⟨0, _⟩ => rfl
  | ⟨1, _⟩ => rfl

section Later

variable (hc : ¬isFirst i) (y12 : Vec Ideal S8x1024 .f32) (y13 y14 : Vec Ideal S256x1024 .bf16)
variable (h13 : ∀ (r : Fin 256) (c : Fin 1024), y13 (ix2 r c) = ↑(I.hx (c / 256) (o + 256 + r) (c % 256)))
  (h14 : ∀ (r : Fin 256) (c : Fin 1024), y14 (ix2 r c) = 0)

include h13 in
theorem hiB0 (r k : Fin 256) : View.readAt (Elt Ideal) arg14.view (Rect.unit (s := S256x1024) ![0, 0] S256x256.size inb_S256x1024_S256x256_0_0).toLoadRect (harg14.unread y13) (ix2 r k) = ↑(I.hx 0 (o + 256 + r) k) := by
  have hk := k.isLt
  have hr := r.isLt
  refine Eq.trans (readAt2 arg14 harg14 y13 _ r k (by omega) (by omega)) ((h13 _ _).trans ?_)
  dsimp only
  rw [Nat.zero_add r.val, show (0 + k.val) / 256 = 0 by omega, show (0 + k.val) % 256 = k.val by omega]

include h14 in
theorem loB0 (r k : Fin 256) : View.readAt (Elt Ideal) arg15.view (Rect.unit (s := S256x1024) ![0, 0] S256x256.size inb_S256x1024_S256x256_0_0).toLoadRect (harg15.unread y14) (ix2 r k) = 0 := by
  have hk := k.isLt
  have hr := r.isLt
  exact Eq.trans (readAt2 arg15 harg15 y14 _ r k (by omega) (by omega)) (h14 _ _)

include h13 in
theorem hiB1 (r k : Fin 256) : View.readAt (Elt Ideal) arg14.view (Rect.unit (s := S256x1024) ![0, 256] S256x256.size inb_S256x1024_S256x256_0_256).toLoadRect (harg14.unread y13) (ix2 r k) = ↑(I.hx 1 (o + 256 + r) k) := by
  have hk := k.isLt
  have hr := r.isLt
  refine Eq.trans (readAt2 arg14 harg14 y13 _ r k (by omega) (by omega)) ((h13 _ _).trans ?_)
  dsimp only
  rw [Nat.zero_add r.val, show (256 + k.val) / 256 = 1 by omega, show (256 + k.val) % 256 = k.val by omega]

include h14 in
theorem loB1 (r k : Fin 256) : View.readAt (Elt Ideal) arg15.view (Rect.unit (s := S256x1024) ![0, 256] S256x256.size inb_S256x1024_S256x256_0_256).toLoadRect (harg15.unread y14) (ix2 r k) = 0 := by
  have hk := k.isLt
  have hr := r.isLt
  exact Eq.trans (readAt2 arg15 harg15 y14 _ r k (by omega) (by omega)) (h14 _ _)

include h13 in
theorem hiB2 (r k : Fin 256) : View.readAt (Elt Ideal) arg14.view (Rect.unit (s := S256x1024) ![0, 512] S256x256.size inb_S256x1024_S256x256_0_512).toLoadRect (harg14.unread y13) (ix2 r k) = ↑(I.hx 2 (o + 256 + r) k) := by
  have hk := k.isLt
  have hr := r.isLt
  refine Eq.trans (readAt2 arg14 harg14 y13 _ r k (by omega) (by omega)) ((h13 _ _).trans ?_)
  dsimp only
  rw [Nat.zero_add r.val, show (512 + k.val) / 256 = 2 by omega, show (512 + k.val) % 256 = k.val by omega]

include h14 in
theorem loB2 (r k : Fin 256) : View.readAt (Elt Ideal) arg15.view (Rect.unit (s := S256x1024) ![0, 512] S256x256.size inb_S256x1024_S256x256_0_512).toLoadRect (harg15.unread y14) (ix2 r k) = 0 := by
  have hk := k.isLt
  have hr := r.isLt
  exact Eq.trans (readAt2 arg15 harg15 y14 _ r k (by omega) (by omega)) (h14 _ _)

include h13 in
theorem hiB3 (r k : Fin 256) : View.readAt (Elt Ideal) arg14.view (Rect.unit (s := S256x1024) ![0, 768] S256x256.size inb_S256x1024_S256x256_0_768).toLoadRect (harg14.unread y13) (ix2 r k) = ↑(I.hx 3 (o + 256 + r) k) := by
  have hk := k.isLt
  have hr := r.isLt
  refine Eq.trans (readAt2 arg14 harg14 y13 _ r k (by omega) (by omega)) ((h13 _ _).trans ?_)
  dsimp only
  rw [Nat.zero_add r.val, show (768 + k.val) / 256 = 3 by omega, show (768 + k.val) % 256 = k.val by omega]

include h14 in
theorem loB3 (r k : Fin 256) : View.readAt (Elt Ideal) arg15.view (Rect.unit (s := S256x1024) ![0, 768] S256x256.size inb_S256x1024_S256x256_0_768).toLoadRect (harg15.unread y14) (ix2 r k) = 0 := by
  have hk := k.isLt
  have hr := r.isLt
  exact Eq.trans (readAt2 arg15 harg15 y14 _ r k (by omega) (by omega)) (h14 _ _)

include ho hb hi h13 h14 in
theorem duzB_at (r : Fin 256) (k : Fin 2048) :
    View.canon (duzB i arg1 harg1 arg2 harg2 arg3 harg3 arg4 harg4 arg5 harg5 arg14 harg14 arg15 harg15 x0 x1 x2 x3 x4 y13 y14) (ix2 r k) = ↑(I.duz (o + r) k) := by
  unfold duzB
  rw [hi]
  exact duz_at ho (holds0 arg1 harg1 arg2 harg2 arg3 harg3 arg4 harg4 arg5 harg5 x0 x1 x2 x3 x4 x5 x6 x7 x8 hb) (holds1 arg1 harg1 arg2 harg2 arg3 harg3 arg4 harg4 arg5 harg5 x0 x1 x2 x3 x4 x5 x6 x7 x8 hb) (holds2 arg1 harg1 arg2 harg2 arg3 harg3 arg4 harg4 arg5 harg5 x0 x1 x2 x3 x4 x5 x6 x7 x8 hb) (holds3 arg1 harg1 arg2 harg2 arg3 harg3 arg4 harg4 arg5 harg5 x0 x1 x2 x3 x4 x5 x6 x7 x8 hb)
    (hiB0 arg14 harg14 y13 h13) (loB0 arg15 harg15 y14 h14) (hiB1 arg14 harg14 y13 h13) (loB1 arg15 harg15 y14 h14) (hiB2 arg14 harg14 y13 h13) (loB2 arg15 harg15 y14 h14) (hiB3 arg14 harg14 y13 h13) (loB3 arg15 harg15 y14 h14) r k

include ho hb hi h13 h14 in
theorem dhB_at (r : Fin 256) (k : Fin 1024) : (dhB i arg1 harg1 arg2 harg2 arg3 harg3 arg4 harg4 arg5 harg5 arg6 harg6 arg10 arg14 harg14 arg15 harg15 x0 x1 x2 x3 x4 x5 y13 y14) (ix2 r k) = ↑(I.dh (o + r) k) :=
  dh_read arg6 harg6 arg10 x0 x1 x2 x3 x4 x5 x6 x7 x8 hb _ (duzB_at arg1 harg1 arg2 harg2 arg3 harg3 arg4 harg4 arg5 harg5 arg14 harg14 arg15 harg15 x0 x1 x2 x3 x4 x5 x6 x7 x8 ho hb hi y13 y14 h13 h14) r k

include ho hb hi h13 h14 in
theorem stepB_duz (r : Fin 256) (k : Fin 2048) : View.canon (runB (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 hc y12 y13 y14).1 (ix2 r k) = ↑(I.duz (o + r) k) := by
  rw [runB_duz c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 y12 y13 y14 hc]
  exact (duzB_at arg1 harg1 arg2 harg2 arg3 harg3 arg4 harg4 arg5 harg5 arg14 harg14 arg15 harg15 x0 x1 x2 x3 x4 x5 x6 x7 x8 ho hb hi y13 y14 h13 h14) r k

include ho hb hi h13 h14 in
theorem stepB_dmr (r : Fin 256) (k : Fin 1024) : View.canon (runB (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 hc y12 y13 y14).2.1 (ix2 r k) = ↑(I.dmr (k / 256) (o + r) (k % 256)) := by
  rw [runB_dmr c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 y12 y13 y14 hc]
  exact dmr_at ho (holds0 arg1 harg1 arg2 harg2 arg3 harg3 arg4 harg4 arg5 harg5 x0 x1 x2 x3 x4 x5 x6 x7 x8 hb) (holds1 arg1 harg1 arg2 harg2 arg3 harg3 arg4 harg4 arg5 harg5 x0 x1 x2 x3 x4 x5 x6 x7 x8 hb) (holds2 arg1 harg1 arg2 harg2 arg3 harg3 arg4 harg4 arg5 harg5 x0 x1 x2 x3 x4 x5 x6 x7 x8 hb) (holds3 arg1 harg1 arg2 harg2 arg3 harg3 arg4 harg4 arg5 harg5 x0 x1 x2 x3 x4 x5 x6 x7 x8 hb) r k

include ho hb hi h13 h14 in
theorem stepB_dx (r : Fin 256) (k : Fin 1024) : View.canon (runB (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 hc y12 y13 y14).2.2.1 (ix2 r k) = ↑(I.dx (o + r) k) := by
  rw [runB_dx c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 y12 y13 y14 hc, canon_hit _ _ _ r k r k (Nat.zero_add _).symm (Nat.zero_add _).symm]
  exact pay82_apply (X := fun r c => I.X (o + r) c) (DH := fun r c => I.dh (o + r) c) (DXM := fun r c => I.DXM (o + r) c) (x_read arg7 harg7 x0 x1 x2 x3 x4 x5 x6 x7 x8 hb)
    (dhB_at arg1 harg1 arg2 harg2 arg3 harg3 arg4 harg4 arg5 harg5 arg6 harg6 arg10 arg14 harg14 arg15 harg15 x0 x1 x2 x3 x4 x5 x6 x7 x8 ho hb hi y13 y14 h13 h14) (gn_read arg9 harg9 x0 x1 x2 x3 x4 x5 x6 x7 x8 hb) (dxm_read arg8 harg8 x0 x1 x2 x3 x4 x5 x6 x7 x8 hb) r k

include ho hb hi h13 h14 in
theorem stepB_hi (r : Fin 256) (k : Fin 1024) : View.canon (runB (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 hc y12 y13 y14).2.2.2.2.1 (ix2 r k) = ↑(I.hx (k / 256) (o + r) (k % 256)) := by
  rw [runB_hi c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 y12 y13 y14 hc, hi]
  exact hi_at ho (holds0 arg1 harg1 arg2 harg2 arg3 harg3 arg4 harg4 arg5 harg5 x0 x1 x2 x3 x4 x5 x6 x7 x8 hb) (holds1 arg1 harg1 arg2 harg2 arg3 harg3 arg4 harg4 arg5 harg5 x0 x1 x2 x3 x4 x5 x6 x7 x8 hb) (holds2 arg1 harg1 arg2 harg2 arg3 harg3 arg4 harg4 arg5 harg5 x0 x1 x2 x3 x4 x5 x6 x7 x8 hb) (holds3 arg1 harg1 arg2 harg2 arg3 harg3 arg4 harg4 arg5 harg5 x0 x1 x2 x3 x4 x5 x6 x7 x8 hb) _ r k

include ho hb hi h13 h14 in
theorem stepB_lo (r : Fin 256) (k : Fin 1024) : View.canon (runB (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 hc y12 y13 y14).2.2.2.2.2.1 (ix2 r k) = 0 := by
  rw [runB_lo c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 y12 y13 y14 hc, hi]
  exact lo_at ho (holds0 arg1 harg1 arg2 harg2 arg3 harg3 arg4 harg4 arg5 harg5 x0 x1 x2 x3 x4 x5 x6 x7 x8 hb) (holds1 arg1 harg1 arg2 harg2 arg3 harg3 arg4 harg4 arg5 harg5 x0 x1 x2 x3 x4 x5 x6 x7 x8 hb) (holds2 arg1 harg1 arg2 harg2 arg3 harg3 arg4 harg4 arg5 harg5 x0 x1 x2 x3 x4 x5 x6 x7 x8 hb) (holds3 arg1 harg1 arg2 harg2 arg3 harg3 arg4 harg4 arg5 harg5 x0 x1 x2 x3 x4 x5 x6 x7 x8 hb) _ r k

variable (h12 : ∀ c : Fin 1024, y12 (ix2 0 c) = ↑(∑ s ∈ Finset.Ico (o + 256) 2048, I.dsc s c))
    (h12' : ∀ c : Fin 1024, y12 (ix2 1 c) = ↑(∑ s ∈ Finset.Ico (o + 256) 2048, I.dgn s c))

include h12 in
theorem accB0 (j : Fin 256) : View.readAt (Elt Ideal) arg13.view (Rect.unit (s := S8x1024) ![0, 0] S1x256.size inb_S8x1024_S1x256_0_0).toLoadRect (harg13.unread y12) (ix2 0 j)
    = ↑(∑ s ∈ Finset.Ico (o + 256) 2048, I.dm 0 s j * I.mr 0 s j) := by
  have hj := j.isLt
  refine Eq.trans (readAt2 arg13 harg13 y12 _ 0 j (by show 0 + 0 < 8; omega) (by omega)) ((h12 _).trans ?_)
  unfold Inp.dsc
  dsimp only
  rw [show (0 + j.val) / 256 = 0 by omega, show (0 + j.val) % 256 = j.val by omega]

include h12 in
theorem accB1 (j : Fin 256) : View.readAt (Elt Ideal) arg13.view (Rect.unit (s := S8x1024) ![0, 256] S1x256.size inb_S8x1024_S1x256_0_256).toLoadRect (harg13.unread y12) (ix2 0 j)
    = ↑(∑ s ∈ Finset.Ico (o + 256) 2048, I.dm 1 s j * I.mr 1 s j) := by
  have hj := j.isLt
  refine Eq.trans (readAt2 arg13 harg13 y12 _ 0 j (by show 0 + 0 < 8; omega) (by omega)) ((h12 _).trans ?_)
  unfold Inp.dsc
  dsimp only
  rw [show (256 + j.val) / 256 = 1 by omega, show (256 + j.val) % 256 = j.val by omega]

include h12 in
theorem accB2 (j : Fin 256) : View.readAt (Elt Ideal) arg13.view (Rect.unit (s := S8x1024) ![0, 512] S1x256.size inb_S8x1024_S1x256_0_512).toLoadRect (harg13.unread y12) (ix2 0 j)
    = ↑(∑ s ∈ Finset.Ico (o + 256) 2048, I.dm 2 s j * I.mr 2 s j) := by
  have hj := j.isLt
  refine Eq.trans (readAt2 arg13 harg13 y12 _ 0 j (by show 0 + 0 < 8; omega) (by omega)) ((h12 _).trans ?_)
  unfold Inp.dsc
  dsimp only
  rw [show (512 + j.val) / 256 = 2 by omega, show (512 + j.val) % 256 = j.val by omega]

include h12 in
theorem accB3 (j : Fin 256) : View.readAt (Elt Ideal) arg13.view (Rect.unit (s := S8x1024) ![0, 768] S1x256.size inb_S8x1024_S1x256_0_768).toLoadRect (harg13.unread y12) (ix2 0 j)
    = ↑(∑ s ∈ Finset.Ico (o + 256) 2048, I.dm 3 s j * I.mr 3 s j) := by
  have hj := j.isLt
  refine Eq.trans (readAt2 arg13 harg13 y12 _ 0 j (by show 0 + 0 < 8; omega) (by omega)) ((h12 _).trans ?_)
  unfold Inp.dsc
  dsimp only
  rw [show (768 + j.val) / 256 = 3 by omega, show (768 + j.val) % 256 = j.val by omega]

include ho hb hi h13 h14 h12 h12' in
theorem stepB_sums0 (v : View sig .tc .vmem S8x1024 .f32) (f : v.ty.Contents (Elt Ideal)) (k : Fin 1024) :
    v.read (Elt Ideal) (v.writes (Elt Ideal) f (runB (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 hc y12 y13 y14).2.2.2.1) (ix2 0 k) = ↑(∑ s ∈ Finset.Ico o 2048, I.dsc s k) := by
  have hk := k.isLt
  rw [runB_sums c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 y12 y13 y14 hc]
  rw [writes_miss v f _ _ _ 0 k (Or.inl (by show 0 < 1; omega))]
  unfold scPieces4 scPieces3 scPieces2 scPieces1
  by_cases k3 : 768 ≤ k.val ∧ k.val < 1024
  · rw [writes_hit v f _ _ _ 0 k 0 ⟨k.val - 768, by omega⟩ rfl (by dsimp only; omega)]
    unfold Inp.dsc
    rw [show k.val / 256 = 3 by omega, show k.val % 256 = k.val - 768 by omega]
    exact dsc_step ho (holds3 arg1 harg1 arg2 harg2 arg3 harg3 arg4 harg4 arg5 harg5 x0 x1 x2 x3 x4 x5 x6 x7 x8 hb) (accB3 arg13 harg13 y12 h12) ⟨k.val - 768, by omega⟩
  rw [writes_miss v f _ _ _ 0 k (by omega)]
  by_cases k2 : 512 ≤ k.val ∧ k.val < 768
  · rw [writes_hit v f _ _ _ 0 k 0 ⟨k.val - 512, by omega⟩ rfl (by dsimp only; omega)]
    unfold Inp.dsc
    rw [show k.val / 256 = 2 by omega, show k.val % 256 = k.val - 512 by omega]
    exact dsc_step ho (holds2 arg1 harg1 arg2 harg2 arg3 harg3 arg4 harg4 arg5 harg5 x0 x1 x2 x3 x4 x5 x6 x7 x8 hb) (accB2 arg13 harg13 y12 h12) ⟨k.val - 512, by omega⟩
  rw [writes_miss v f _ _ _ 0 k (by omega)]
  by_cases k1 : 256 ≤ k.val ∧ k.val < 512
  · rw [writes_hit v f _ _ _ 0 k 0 ⟨k.val - 256, by omega⟩ rfl (by dsimp only; omega)]
    unfold Inp.dsc
    rw [show k.val / 256 = 1 by omega, show k.val % 256 = k.val - 256 by omega]
    exact dsc_step ho (holds1 arg1 harg1 arg2 harg2 arg3 harg3 arg4 harg4 arg5 harg5 x0 x1 x2 x3 x4 x5 x6 x7 x8 hb) (accB1 arg13 harg13 y12 h12) ⟨k.val - 256, by omega⟩
  rw [writes_miss v f _ _ _ 0 k (by omega)]
  by_cases k0 : 0 ≤ k.val ∧ k.val < 256
  · rw [writes_hit v f _ _ _ 0 k 0 ⟨k.val - 0, by omega⟩ rfl (by dsimp only; omega)]
    unfold Inp.dsc
    rw [show k.val / 256 = 0 by omega, show k.val % 256 = k.val - 0 by omega]
    exact dsc_step ho (holds0 arg1 harg1 arg2 harg2 arg3 harg3 arg4 harg4 arg5 harg5 x0 x1 x2 x3 x4 x5 x6 x7 x8 hb) (accB0 arg13 harg13 y12 h12) ⟨k.val - 0, by omega⟩
  rw [writes_miss v f _ _ _ 0 k (by omega)]
  omega

include ho hb hi h13 h14 h12 h12' in
theorem stepB_sums1 (v : View sig .tc .vmem S8x1024 .f32) (f : v.ty.Contents (Elt Ideal)) (k : Fin 1024) :
    v.read (Elt Ideal) (v.writes (Elt Ideal) f (runB (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 hc y12 y13 y14).2.2.2.1) (ix2 1 k) = ↑(∑ s ∈ Finset.Ico o 2048, I.dgn s k) := by
  rw [runB_sums c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 y12 y13 y14 hc]
  rw [writes_hit v f _ _ _ 1 k 0 k rfl (Nat.zero_add _).symm]
  refine (pay83_apply (X := fun r c => I.X (o + r) c) (DH := fun r c => I.dh (o + r) c) (x_read arg7 harg7 x0 x1 x2 x3 x4 x5 x6 x7 x8 hb) (dhB_at arg1 harg1 arg2 harg2 arg3 harg3 arg4 harg4 arg5 harg5 arg6 harg6 arg10 arg14 harg14 arg15 harg15 x0 x1 x2 x3 x4 x5 x6 x7 x8 ho hb hi y13 y14 h13 h14)
    (A := fun c => ∑ s ∈ Finset.Ico (o + 256) 2048, I.dgn s c) (fun c => ?_) k).trans (congrArg _ ?_)
  · have hc := c.isLt
    refine Eq.trans (readAt2 arg13 harg13 y12 _ 0 c (by show 1 + 0 < 8; omega) (by omega)) ?_
    refine Eq.trans (h12' ⟨0 + c.val, by omega⟩) ?_
    dsimp only
    rw [Nat.zero_add]
  exact tile_sum (fun s => I.dgn s k) o ho

include ho hb hi h13 h14 in
theorem stepB_sums2 (v : View sig .tc .vmem S8x1024 .f32) (f : v.ty.Contents (Elt Ideal)) (q : Fin 8) (hq : 2 ≤ q.val) (k : Fin 1024) :
    v.read (Elt Ideal) (v.writes (Elt Ideal) f (runB (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 hc y12 y13 y14).2.2.2.1) (ix2 q k) = v.read (Elt Ideal) f (ix2 q k) := by
  rw [runB_sums c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 y12 y13 y14 hc]
  unfold scPieces4 scPieces3 scPieces2 scPieces1
  rw [writes_miss v f _ _ _ q k (Or.inr (Or.inl (by omega)))]
  rw [writes_miss v f _ _ _ q k (Or.inr (Or.inl (by omega)))]
  rw [writes_miss v f _ _ _ q k (Or.inr (Or.inl (by omega)))]
  rw [writes_miss v f _ _ _ q k (Or.inr (Or.inl (by omega)))]
  rw [writes_miss v f _ _ _ q k (Or.inr (Or.inl (by omega)))]
  rfl

end Later

end Cert.KernelIdeal.Mix

end
-- ==== Proof.Induct.lean ====
/- Every point's tile by induction along the grid, and the four arrays the launch ends with. -/
module

public import proofs.«01_k».proof.Proof.First
public import proofs.«01_k».proof.Proof.Later
public import Idealize.ShloMosaic.Lib.Pipeline.Value
public import Idealize.ShloMosaic.Lib.Pipeline.ValueKit.Point

@[expose] public section

set_option maxRecDepth 16384

noncomputable section

namespace Cert.KernelIdeal.Mix

open Cert.KernelIdeal Cert.KernelIdeal.Gen
open Idealize.ShloMosaic Idealize.ShloMosaic.TcCoe Idealize.SL.Sem

variable (m : (ℓ : Loc nD τ sig) → Buf (Elt Ideal) ℓ) (c : Dev nD)

/-- The arrays the launch finds, as reals. -/
structure Arrays (I : Inp) : Prop where
  dg : ∀ (s : Fin 2048) (k : Fin 1024), V m c main_v79 (ix2 s k) = ((I.DG s k : ℝ) : EReal)
  z : ∀ (s : Fin 2048) (k : Fin 1024) (k' : Fin 2048), k'.val = 1024 + k → V m c main_v12 (ix2 s k') = ((I.Z s k : ℝ) : EReal)
  p : ∀ (s : Fin 2048) (k : Fin 1024), V m c main_v72 (ix2 s k) = ((I.P s k : ℝ) : EReal)
  w : ∀ (a g : Fin 4) (k : Fin 64) (j : Fin 256), V m c main_v78 (ix4 a g k j) = ((I.W g (64 * a + k) j : ℝ) : EReal)
  sc : ∀ k : Fin 1024, V m c main_arg4 (ix2 0 k) = ((I.SC k : ℝ) : EReal)
  wi : ∀ (a : Fin 4) (k : Fin 1024) (j : Fin 512), V m c main_v75 (ix3 a k j) = ((I.WI k (512 * a + j) : ℝ) : EReal)
  x : ∀ (s : Fin 2048) (k : Fin 1024), V m c main_arg0 (ix2 s k) = ((I.X s k : ℝ) : EReal)
  dxm : ∀ (s : Fin 2048) (k : Fin 1024), V m c main_arg6 (ix2 s k) = ((I.DXM s k : ℝ) : EReal)
  gn : ∀ k : Fin 1024, V m c main_arg1 (ix2 0 k) = ((I.GN k : ℝ) : EReal)

/-- The first row of a point's tile. -/
abbrev rowOf (t : Fin cfg0.N) : ℕ := (7 - t.val) * 256

theorem lt8 (t : Fin cfg0.N) : t.val < 8 := Nat.lt_of_lt_of_eq t.isLt N_0

theorem rowOf_le (t : Fin cfg0.N) : rowOf t + 256 ≤ 2048 := by
  have := lt8 t
  unfold rowOf
  omega

theorem firstRow_eq : ∀ t : Fin cfg0.N, firstRow (grid0.coords t) = BitVec.ofNat 32 (rowOf t) :=
  (by decide +kernel : ∀ t : Fin grid0.N, firstRow (grid0.coords t) = BitVec.ofNat 32 ((7 - t.val) * 256))

theorem idx0 : ∀ t : Fin cfg0.N, win0_0.index t = ![7 - t.val, 0] :=
  (by decide +kernel : ∀ t : Fin grid0.N, win0_0.index t = ![7 - t.val, 0])
theorem idx1 : ∀ t : Fin cfg0.N, win0_1.index t = ![7 - t.val, 1] :=
  (by decide +kernel : ∀ t : Fin grid0.N, win0_1.index t = ![7 - t.val, 1])
theorem idx2 : ∀ t : Fin cfg0.N, win0_2.index t = ![7 - t.val, 0] :=
  (by decide +kernel : ∀ t : Fin grid0.N, win0_2.index t = ![7 - t.val, 0])
theorem idx3 : ∀ t : Fin cfg0.N, win0_3.index t = ![0, 0, 0, 0] :=
  (by decide +kernel : ∀ t : Fin grid0.N, win0_3.index t = ![0, 0, 0, 0])
theorem idx4 : ∀ t : Fin cfg0.N, win0_4.index t = ![0, 0] :=
  (by decide +kernel : ∀ t : Fin grid0.N, win0_4.index t = ![0, 0])
theorem idx5 : ∀ t : Fin cfg0.N, win0_5.index t = ![0, 0, 0] :=
  (by decide +kernel : ∀ t : Fin grid0.N, win0_5.index t = ![0, 0, 0])
theorem idx6 : ∀ t : Fin cfg0.N, win0_6.index t = ![7 - t.val, 0] :=
  (by decide +kernel : ∀ t : Fin grid0.N, win0_6.index t = ![7 - t.val, 0])
theorem idx7 : ∀ t : Fin cfg0.N, win0_7.index t = ![7 - t.val, 0] :=
  (by decide +kernel : ∀ t : Fin grid0.N, win0_7.index t = ![7 - t.val, 0])
theorem idx8 : ∀ t : Fin cfg0.N, win0_8.index t = ![0, 0] :=
  (by decide +kernel : ∀ t : Fin grid0.N, win0_8.index t = ![0, 0])
theorem idx9 : ∀ t : Fin cfg0.N, win0_9.index t = ![7 - t.val, 0] :=
  (by decide +kernel : ∀ t : Fin grid0.N, win0_9.index t = ![7 - t.val, 0])
theorem idx10 : ∀ t : Fin cfg0.N, win0_10.index t = ![7 - t.val, 0] :=
  (by decide +kernel : ∀ t : Fin grid0.N, win0_10.index t = ![7 - t.val, 0])
theorem idx11 : ∀ t : Fin cfg0.N, win0_11.index t = ![7 - t.val, 0] :=
  (by decide +kernel : ∀ t : Fin grid0.N, win0_11.index t = ![7 - t.val, 0])
theorem idx12 : ∀ t : Fin cfg0.N, win0_12.index t = ![0, 0] :=
  (by decide +kernel : ∀ t : Fin grid0.N, win0_12.index t = ![0, 0])

theorem blk0 (t : Fin cfg0.N) (r : Fin 256) (k : Fin 1024) (h : rowOf t + r.val < 2048) :
    iblk m c 0 t (ix2 r k) = V m c main_v79 (ix2 ⟨rowOf t + r, h⟩ k) := by
  blk_simp [iblk]
  refine congrArg (V m c main_v79) ?_
  have := lt8 t
  blk_ext [idx0 t]

theorem blk2 (t : Fin cfg0.N) (r : Fin 256) (k : Fin 1024) (h : rowOf t + r.val < 2048) :
    iblk m c 2 t (ix2 r k) = V m c main_v72 (ix2 ⟨rowOf t + r, h⟩ k) := by
  blk_simp [iblk]
  refine congrArg (V m c main_v72) ?_
  have := lt8 t
  blk_ext [idx2 t]

theorem blk6 (t : Fin cfg0.N) (r : Fin 256) (k : Fin 1024) (h : rowOf t + r.val < 2048) :
    iblk m c 6 t (ix2 r k) = V m c main_arg0 (ix2 ⟨rowOf t + r, h⟩ k) := by
  blk_simp [iblk]
  refine congrArg (V m c main_arg0) ?_
  have := lt8 t
  blk_ext [idx6 t]

theorem blk7 (t : Fin cfg0.N) (r : Fin 256) (k : Fin 1024) (h : rowOf t + r.val < 2048) :
    iblk m c 7 t (ix2 r k) = V m c main_arg6 (ix2 ⟨rowOf t + r, h⟩ k) := by
  blk_simp [iblk]
  refine congrArg (V m c main_arg6) ?_
  have := lt8 t
  blk_ext [idx7 t]

theorem blk1 (t : Fin cfg0.N) (r : Fin 256) (k : Fin 1024) (h : rowOf t + r.val < 2048) (h' : 1024 + k.val < 2048) :
    iblk m c 1 t (ix2 r k) = V m c main_v12 (ix2 ⟨rowOf t + r, h⟩ ⟨1024 + k, h'⟩) := by
  blk_simp [iblk]
  refine congrArg (V m c main_v12) ?_
  have := lt8 t
  blk_ext [idx1 t]

theorem blk3 (t : Fin cfg0.N) (a g : Fin 4) (k : Fin 64) (j : Fin 256) : iblk m c 3 t (ix4 a g k j) = V m c main_v78 (ix4 a g k j) := by
  blk_simp [iblk]
  refine congrArg (V m c main_v78) ?_
  blk_ext [idx3 t]

theorem blk4 (t : Fin cfg0.N) (q : Fin 1) (k : Fin 1024) : iblk m c 4 t (ix2 q k) = V m c main_arg4 (ix2 q k) := by
  blk_simp [iblk]
  refine congrArg (V m c main_arg4) ?_
  blk_ext [idx4 t]

theorem blk5 (t : Fin cfg0.N) (a : Fin 4) (k : Fin 1024) (j : Fin 512) : iblk m c 5 t (ix3 a k j) = V m c main_v75 (ix3 a k j) := by
  blk_simp [iblk]
  refine congrArg (V m c main_v75) ?_
  blk_ext [idx5 t]

theorem blk8 (t : Fin cfg0.N) (q : Fin 1) (k : Fin 1024) : iblk m c 8 t (ix2 q k) = V m c main_arg1 (ix2 q k) := by
  blk_simp [iblk]
  refine congrArg (V m c main_arg1) ?_
  blk_ext [idx8 t]

variable {m c} {I : Inp} (hA : Arrays m c I)
include hA

/-- The blocks a point is handed are the tile's rows. -/
theorem blocksAt (t : Fin cfg0.N) : BlocksAt I (rowOf t) (iblk m c 0 t) (iblk m c 1 t) (iblk m c 2 t) (iblk m c 3 t) (iblk m c 4 t) (iblk m c 5 t)
    (iblk m c 6 t) (iblk m c 7 t) (iblk m c 8 t) where
  dg r k := by
    have := rowOf_le t
    have := r.isLt
    rw [blk0 m c t r k (by omega), hA.dg]
  z r k := by
    have := rowOf_le t
    have := r.isLt
    have := k.isLt
    rw [blk1 m c t r k (by omega) (by omega), hA.z _ k _ rfl]
  p r k := by
    have := rowOf_le t
    have := r.isLt
    rw [blk2 m c t r k (by omega), hA.p]
  w a g k j := by rw [blk3, hA.w]
  sc k := by rw [blk4, hA.sc]
  wi a k j := by rw [blk5, hA.wi]
  x r k := by
    have := rowOf_le t
    have := r.isLt
    rw [blk6 m c t r k (by omega), hA.x]
  dxm r k := by
    have := rowOf_le t
    have := r.isLt
    rw [blk7 m c t r k (by omega), hA.dxm]
  gn k := by rw [blk8, hA.gn]

omit hA in
/-- What a point leaves when its tile starts at row `o`. -/
structure LeftAt (I : Inp) (o : ℕ) (L : Left Ideal) : Prop where
  duz : ∀ (r : Fin 256) (k : Fin 2048), L.duz (ix2 r k) = ↑(I.duz (o + r) k)
  dmr : ∀ (r : Fin 256) (k : Fin 1024), L.dmr (ix2 r k) = ↑(I.dmr (k / 256) (o + r) (k % 256))
  dx : ∀ (r : Fin 256) (k : Fin 1024), L.dx (ix2 r k) = ↑(I.dx (o + r) k)
  hi : ∀ (r : Fin 256) (k : Fin 1024), L.hi (ix2 r k) = ↑(I.hx (k / 256) (o + r) (k % 256))
  lo : ∀ (r : Fin 256) (k : Fin 1024), L.lo (ix2 r k) = 0
  sums0 : ∀ k : Fin 1024, L.sums (ix2 0 k) = ↑(∑ s ∈ Finset.Ico o 2048, I.dsc s k)
  sums1 : ∀ k : Fin 1024, L.sums (ix2 1 k) = ↑(∑ s ∈ Finset.Ico o 2048, I.dgn s k)
  sums2 : ∀ (q : Fin 8) (k : Fin 1024), 2 ≤ q.val → L.sums (ix2 q k) = 0

omit hA
theorem leftA_duz (t : Fin cfg0.N) (h : isFirst (grid0.coords t)) : (leftA m c t h).duz = View.canon (rA m c t h).1 := by dsimp only [leftA]
theorem leftA_dmr (t : Fin cfg0.N) (h : isFirst (grid0.coords t)) : (leftA m c t h).dmr = View.canon (rA m c t h).2.1 := by dsimp only [leftA]
theorem leftA_dx (t : Fin cfg0.N) (h : isFirst (grid0.coords t)) : (leftA m c t h).dx = View.canon (rA m c t h).2.2.1 := by dsimp only [leftA]
theorem leftA_hi (t : Fin cfg0.N) (h : isFirst (grid0.coords t)) : (leftA m c t h).hi = View.canon (rA m c t h).2.2.2.2.1 := by dsimp only [leftA]
theorem leftA_lo (t : Fin cfg0.N) (h : isFirst (grid0.coords t)) : (leftA m c t h).lo = View.canon (rA m c t h).2.2.2.2.2.1 := by dsimp only [leftA]
theorem leftA_sums (t : Fin cfg0.N) (h : isFirst (grid0.coords t)) : (leftA m c t h).sums = View.canon (rA m c t h).2.2.2.1 := by dsimp only [leftA]
theorem leftB_duz (t : Fin cfg0.N) (h : ¬isFirst (grid0.coords t)) (L : Left Ideal) : (leftB m c t h L.sums L.hi L.lo).duz = View.canon (rB m c t h L.sums L.hi L.lo).1 := by dsimp only [leftB]
theorem leftB_dmr (t : Fin cfg0.N) (h : ¬isFirst (grid0.coords t)) (L : Left Ideal) : (leftB m c t h L.sums L.hi L.lo).dmr = View.canon (rB m c t h L.sums L.hi L.lo).2.1 := by dsimp only [leftB]
theorem leftB_dx (t : Fin cfg0.N) (h : ¬isFirst (grid0.coords t)) (L : Left Ideal) : (leftB m c t h L.sums L.hi L.lo).dx = View.canon (rB m c t h L.sums L.hi L.lo).2.2.1 := by dsimp only [leftB]
theorem leftB_hi (t : Fin cfg0.N) (h : ¬isFirst (grid0.coords t)) (L : Left Ideal) : (leftB m c t h L.sums L.hi L.lo).hi = View.canon (rB m c t h L.sums L.hi L.lo).2.2.2.2.1 := by dsimp only [leftB]
theorem leftB_lo (t : Fin cfg0.N) (h : ¬isFirst (grid0.coords t)) (L : Left Ideal) : (leftB m c t h L.sums L.hi L.lo).lo = View.canon (rB m c t h L.sums L.hi L.lo).2.2.2.2.2.1 := by dsimp only [leftB]
theorem leftB_sums (t : Fin cfg0.N) (h : ¬isFirst (grid0.coords t)) (L : Left Ideal) : (leftB m c t h L.sums L.hi L.lo).sums = (stg12 t).view.read (Elt Ideal) ((stg12 t).view.writes (Elt Ideal) ((stg12W t).unread L.sums) (rB m c t h L.sums L.hi L.lo).2.2.2.1) := by dsimp only [leftB]

theorem leftA_of (t : Fin cfg0.N) (h : isFirst (grid0.coords t)) (o : ℕ) (ho : o + 256 ≤ 2048)
    (hb : BlocksAt I o (iblk m c 0 t) (iblk m c 1 t) (iblk m c 2 t) (iblk m c 3 t) (iblk m c 4 t) (iblk m c 5 t) (iblk m c 6 t) (iblk m c 7 t) (iblk m c 8 t))
    (hi : firstRow (grid0.coords t) = BitVec.ofNat 32 o) (ho' : o = 1792) : LeftAt I o (leftA m c t h) := by
  refine ⟨fun r k => ?_, fun r k => ?_, fun r k => ?_, fun r k => ?_, fun r k => ?_, fun k => ?_, fun k => ?_, fun q k hq => ?_⟩
  · rw [leftA_duz]
    have e := stepA_duz c (stg0 t) (stg0W t) (stg1 t) (stg1W t) (stg2 t) (stg2W t) (stg3 t) (stg3W t) (stg4 t) (stg4W t) (stg5 t) (stg5W t) (stg6 t) (stg6W t) (stg7 t) (stg7W t) (stg8 t) (stg8W t) (stg9 t) (stg9W t) (stg10 t) (stg10W t) (stg11 t) (stg11W t) (stg12 t) (stg12W t) haloHi (Memref.isWhole_whole _) haloLo (Memref.isWhole_whole _) (iblk m c 0 t) (iblk m c 1 t) (iblk m c 2 t) (iblk m c 3 t) (iblk m c 4 t) (iblk m c 5 t) (iblk m c 6 t) (iblk m c 7 t) (iblk m c 8 t) ho hb hi h ho' r k
    with_reducible exact e
  · rw [leftA_dmr]
    have e := stepA_dmr c (stg0 t) (stg0W t) (stg1 t) (stg1W t) (stg2 t) (stg2W t) (stg3 t) (stg3W t) (stg4 t) (stg4W t) (stg5 t) (stg5W t) (stg6 t) (stg6W t) (stg7 t) (stg7W t) (stg8 t) (stg8W t) (stg9 t) (stg9W t) (stg10 t) (stg10W t) (stg11 t) (stg11W t) (stg12 t) (stg12W t) haloHi (Memref.isWhole_whole _) haloLo (Memref.isWhole_whole _) (iblk m c 0 t) (iblk m c 1 t) (iblk m c 2 t) (iblk m c 3 t) (iblk m c 4 t) (iblk m c 5 t) (iblk m c 6 t) (iblk m c 7 t) (iblk m c 8 t) ho hb hi h ho' r k
    with_reducible exact e
  · rw [leftA_dx]
    have e := stepA_dx c (stg0 t) (stg0W t) (stg1 t) (stg1W t) (stg2 t) (stg2W t) (stg3 t) (stg3W t) (stg4 t) (stg4W t) (stg5 t) (stg5W t) (stg6 t) (stg6W t) (stg7 t) (stg7W t) (stg8 t) (stg8W t) (stg9 t) (stg9W t) (stg10 t) (stg10W t) (stg11 t) (stg11W t) (stg12 t) (stg12W t) haloHi (Memref.isWhole_whole _) haloLo (Memref.isWhole_whole _) (iblk m c 0 t) (iblk m c 1 t) (iblk m c 2 t) (iblk m c 3 t) (iblk m c 4 t) (iblk m c 5 t) (iblk m c 6 t) (iblk m c 7 t) (iblk m c 8 t) ho hb hi h ho' r k
    with_reducible exact e
  · rw [leftA_hi]
    have e := stepA_hi c (stg0 t) (stg0W t) (stg1 t) (stg1W t) (stg2 t) (stg2W t) (stg3 t) (stg3W t) (stg4 t) (stg4W t) (stg5 t) (stg5W t) (stg6 t) (stg6W t) (stg7 t) (stg7W t) (stg8 t) (stg8W t) (stg9 t) (stg9W t) (stg10 t) (stg10W t) (stg11 t) (stg11W t) (stg12 t) (stg12W t) haloHi (Memref.isWhole_whole _) haloLo (Memref.isWhole_whole _) (iblk m c 0 t) (iblk m c 1 t) (iblk m c 2 t) (iblk m c 3 t) (iblk m c 4 t) (iblk m c 5 t) (iblk m c 6 t) (iblk m c 7 t) (iblk m c 8 t) ho hb hi h ho' r k
    with_reducible exact e
  · rw [leftA_lo]
    have e := stepA_lo c (stg0 t) (stg0W t) (stg1 t) (stg1W t) (stg2 t) (stg2W t) (stg3 t) (stg3W t) (stg4 t) (stg4W t) (stg5 t) (stg5W t) (stg6 t) (stg6W t) (stg7 t) (stg7W t) (stg8 t) (stg8W t) (stg9 t) (stg9W t) (stg10 t) (stg10W t) (stg11 t) (stg11W t) (stg12 t) (stg12W t) haloHi (Memref.isWhole_whole _) haloLo (Memref.isWhole_whole _) (iblk m c 0 t) (iblk m c 1 t) (iblk m c 2 t) (iblk m c 3 t) (iblk m c 4 t) (iblk m c 5 t) (iblk m c 6 t) (iblk m c 7 t) (iblk m c 8 t) ho hb hi h ho' r k
    with_reducible exact e
  · rw [leftA_sums]
    have e := stepA_sums0 c (stg0 t) (stg0W t) (stg1 t) (stg1W t) (stg2 t) (stg2W t) (stg3 t) (stg3W t) (stg4 t) (stg4W t) (stg5 t) (stg5W t) (stg6 t) (stg6W t) (stg7 t) (stg7W t) (stg8 t) (stg8W t) (stg9 t) (stg9W t) (stg10 t) (stg10W t) (stg11 t) (stg11W t) (stg12 t) (stg12W t) haloHi (Memref.isWhole_whole _) haloLo (Memref.isWhole_whole _) (iblk m c 0 t) (iblk m c 1 t) (iblk m c 2 t) (iblk m c 3 t) (iblk m c 4 t) (iblk m c 5 t) (iblk m c 6 t) (iblk m c 7 t) (iblk m c 8 t) ho hb hi h ho' k
    with_reducible exact e
  · rw [leftA_sums]
    have e := stepA_sums1 c (stg0 t) (stg0W t) (stg1 t) (stg1W t) (stg2 t) (stg2W t) (stg3 t) (stg3W t) (stg4 t) (stg4W t) (stg5 t) (stg5W t) (stg6 t) (stg6W t) (stg7 t) (stg7W t) (stg8 t) (stg8W t) (stg9 t) (stg9W t) (stg10 t) (stg10W t) (stg11 t) (stg11W t) (stg12 t) (stg12W t) haloHi (Memref.isWhole_whole _) haloLo (Memref.isWhole_whole _) (iblk m c 0 t) (iblk m c 1 t) (iblk m c 2 t) (iblk m c 3 t) (iblk m c 4 t) (iblk m c 5 t) (iblk m c 6 t) (iblk m c 7 t) (iblk m c 8 t) ho hb hi h ho' k
    with_reducible exact e
  · rw [leftA_sums]
    have e := stepA_sums2 c (stg0 t) (stg0W t) (stg1 t) (stg1W t) (stg2 t) (stg2W t) (stg3 t) (stg3W t) (stg4 t) (stg4W t) (stg5 t) (stg5W t) (stg6 t) (stg6W t) (stg7 t) (stg7W t) (stg8 t) (stg8W t) (stg9 t) (stg9W t) (stg10 t) (stg10W t) (stg11 t) (stg11W t) (stg12 t) (stg12W t) haloHi (Memref.isWhole_whole _) haloLo (Memref.isWhole_whole _) (iblk m c 0 t) (iblk m c 1 t) (iblk m c 2 t) (iblk m c 3 t) (iblk m c 4 t) (iblk m c 5 t) (iblk m c 6 t) (iblk m c 7 t) (iblk m c 8 t) h q hq k
    with_reducible exact e

theorem leftB_of (t : Fin cfg0.N) (h : ¬isFirst (grid0.coords t)) (L : Left Ideal) (o : ℕ) (hL : LeftAt I (o + 256) L) (ho : o + 256 ≤ 2048)
    (hb : BlocksAt I o (iblk m c 0 t) (iblk m c 1 t) (iblk m c 2 t) (iblk m c 3 t) (iblk m c 4 t) (iblk m c 5 t) (iblk m c 6 t) (iblk m c 7 t) (iblk m c 8 t))
    (hi : firstRow (grid0.coords t) = BitVec.ofNat 32 o) :
    LeftAt I o (leftB m c t h L.sums L.hi L.lo) := by
  refine ⟨fun r k => ?_, fun r k => ?_, fun r k => ?_, fun r k => ?_, fun r k => ?_, fun k => ?_, fun k => ?_, fun q k hq => ?_⟩
  · rw [leftB_duz]
    have e := stepB_duz c (stg0 t) (stg0W t) (stg1 t) (stg1W t) (stg2 t) (stg2W t) (stg3 t) (stg3W t) (stg4 t) (stg4W t) (stg5 t) (stg5W t) (stg6 t) (stg6W t) (stg7 t) (stg7W t) (stg8 t) (stg8W t) (stg9 t) (stg9W t) (stg10 t) (stg10W t) (stg11 t) (stg11W t) (stg12 t) (stg12W t) haloHi (Memref.isWhole_whole _) haloLo (Memref.isWhole_whole _) (iblk m c 0 t) (iblk m c 1 t) (iblk m c 2 t) (iblk m c 3 t) (iblk m c 4 t) (iblk m c 5 t) (iblk m c 6 t) (iblk m c 7 t) (iblk m c 8 t) ho hb hi h L.sums L.hi L.lo hL.hi hL.lo r k
    with_reducible exact e
  · rw [leftB_dmr]
    have e := stepB_dmr c (stg0 t) (stg0W t) (stg1 t) (stg1W t) (stg2 t) (stg2W t) (stg3 t) (stg3W t) (stg4 t) (stg4W t) (stg5 t) (stg5W t) (stg6 t) (stg6W t) (stg7 t) (stg7W t) (stg8 t) (stg8W t) (stg9 t) (stg9W t) (stg10 t) (stg10W t) (stg11 t) (stg11W t) (stg12 t) (stg12W t) haloHi (Memref.isWhole_whole _) haloLo (Memref.isWhole_whole _) (iblk m c 0 t) (iblk m c 1 t) (iblk m c 2 t) (iblk m c 3 t) (iblk m c 4 t) (iblk m c 5 t) (iblk m c 6 t) (iblk m c 7 t) (iblk m c 8 t) ho hb hi h L.sums L.hi L.lo hL.hi hL.lo r k
    with_reducible exact e
  · rw [leftB_dx]
    have e := stepB_dx c (stg0 t) (stg0W t) (stg1 t) (stg1W t) (stg2 t) (stg2W t) (stg3 t) (stg3W t) (stg4 t) (stg4W t) (stg5 t) (stg5W t) (stg6 t) (stg6W t) (stg7 t) (stg7W t) (stg8 t) (stg8W t) (stg9 t) (stg9W t) (stg10 t) (stg10W t) (stg11 t) (stg11W t) (stg12 t) (stg12W t) haloHi (Memref.isWhole_whole _) haloLo (Memref.isWhole_whole _) (iblk m c 0 t) (iblk m c 1 t) (iblk m c 2 t) (iblk m c 3 t) (iblk m c 4 t) (iblk m c 5 t) (iblk m c 6 t) (iblk m c 7 t) (iblk m c 8 t) ho hb hi h L.sums L.hi L.lo hL.hi hL.lo r k
    with_reducible exact e
  · rw [leftB_hi]
    have e := stepB_hi c (stg0 t) (stg0W t) (stg1 t) (stg1W t) (stg2 t) (stg2W t) (stg3 t) (stg3W t) (stg4 t) (stg4W t) (stg5 t) (stg5W t) (stg6 t) (stg6W t) (stg7 t) (stg7W t) (stg8 t) (stg8W t) (stg9 t) (stg9W t) (stg10 t) (stg10W t) (stg11 t) (stg11W t) (stg12 t) (stg12W t) haloHi (Memref.isWhole_whole _) haloLo (Memref.isWhole_whole _) (iblk m c 0 t) (iblk m c 1 t) (iblk m c 2 t) (iblk m c 3 t) (iblk m c 4 t) (iblk m c 5 t) (iblk m c 6 t) (iblk m c 7 t) (iblk m c 8 t) ho hb hi h L.sums L.hi L.lo hL.hi hL.lo r k
    with_reducible exact e
  · rw [leftB_lo]
    have e := stepB_lo c (stg0 t) (stg0W t) (stg1 t) (stg1W t) (stg2 t) (stg2W t) (stg3 t) (stg3W t) (stg4 t) (stg4W t) (stg5 t) (stg5W t) (stg6 t) (stg6W t) (stg7 t) (stg7W t) (stg8 t) (stg8W t) (stg9 t) (stg9W t) (stg10 t) (stg10W t) (stg11 t) (stg11W t) (stg12 t) (stg12W t) haloHi (Memref.isWhole_whole _) haloLo (Memref.isWhole_whole _) (iblk m c 0 t) (iblk m c 1 t) (iblk m c 2 t) (iblk m c 3 t) (iblk m c 4 t) (iblk m c 5 t) (iblk m c 6 t) (iblk m c 7 t) (iblk m c 8 t) ho hb hi h L.sums L.hi L.lo hL.hi hL.lo r k
    with_reducible exact e
  · rw [leftB_sums]
    have e := stepB_sums0 c (stg0 t) (stg0W t) (stg1 t) (stg1W t) (stg2 t) (stg2W t) (stg3 t) (stg3W t) (stg4 t) (stg4W t) (stg5 t) (stg5W t) (stg6 t) (stg6W t) (stg7 t) (stg7W t) (stg8 t) (stg8W t) (stg9 t) (stg9W t) (stg10 t) (stg10W t) (stg11 t) (stg11W t) (stg12 t) (stg12W t) haloHi (Memref.isWhole_whole _) haloLo (Memref.isWhole_whole _) (iblk m c 0 t) (iblk m c 1 t) (iblk m c 2 t) (iblk m c 3 t) (iblk m c 4 t) (iblk m c 5 t) (iblk m c 6 t) (iblk m c 7 t) (iblk m c 8 t) ho hb hi h L.sums L.hi L.lo hL.hi hL.lo hL.sums0 hL.sums1 (stg12 t).view ((stg12W t).unread L.sums) k
    with_reducible exact e
  · rw [leftB_sums]
    have e := stepB_sums1 c (stg0 t) (stg0W t) (stg1 t) (stg1W t) (stg2 t) (stg2W t) (stg3 t) (stg3W t) (stg4 t) (stg4W t) (stg5 t) (stg5W t) (stg6 t) (stg6W t) (stg7 t) (stg7W t) (stg8 t) (stg8W t) (stg9 t) (stg9W t) (stg10 t) (stg10W t) (stg11 t) (stg11W t) (stg12 t) (stg12W t) haloHi (Memref.isWhole_whole _) haloLo (Memref.isWhole_whole _) (iblk m c 0 t) (iblk m c 1 t) (iblk m c 2 t) (iblk m c 3 t) (iblk m c 4 t) (iblk m c 5 t) (iblk m c 6 t) (iblk m c 7 t) (iblk m c 8 t) ho hb hi h L.sums L.hi L.lo hL.hi hL.lo hL.sums0 hL.sums1 (stg12 t).view ((stg12W t).unread L.sums) k
    with_reducible exact e
  · rw [leftB_sums]
    have e := stepB_sums2 c (stg0 t) (stg0W t) (stg1 t) (stg1W t) (stg2 t) (stg2W t) (stg3 t) (stg3W t) (stg4 t) (stg4W t) (stg5 t) (stg5W t) (stg6 t) (stg6W t) (stg7 t) (stg7W t) (stg8 t) (stg8W t) (stg9 t) (stg9W t) (stg10 t) (stg10W t) (stg11 t) (stg11W t) (stg12 t) (stg12W t) haloHi (Memref.isWhole_whole _) haloLo (Memref.isWhole_whole _) (iblk m c 0 t) (iblk m c 1 t) (iblk m c 2 t) (iblk m c 3 t) (iblk m c 4 t) (iblk m c 5 t) (iblk m c 6 t) (iblk m c 7 t) (iblk m c 8 t) ho hb hi h L.sums L.hi L.lo hL.hi hL.lo (stg12 t).view ((stg12W t).unread L.sums) q hq k
    refine Eq.trans e ?_
    exact (congrFun ((stg12W t).read_unread L.sums) (ix2 q k)).trans (hL.sums2 q k hq)

include hA
/-- Every point leaves its tile. -/
theorem left_at : ∀ (n : ℕ) (hn : n < cfg0.N), LeftAt I (rowOf ⟨n, hn⟩) (left m c n hn)
  | 0, hn => leftA_of ⟨0, hn⟩ _ _ (rowOf_le _) (blocksAt hA _) (firstRow_eq _) rfl
  | n + 1, hn => by
    have h8 := lt8 ⟨n + 1, hn⟩
    refine leftB_of ⟨n + 1, hn⟩ _ _ _ ?_ (rowOf_le _) (blocksAt hA _) (firstRow_eq _)
    have e : rowOf ⟨n + 1, hn⟩ + 256 = rowOf ⟨n, Nat.lt_of_succ_lt hn⟩ := by
      unfold rowOf
      dsimp only at h8 ⊢
      omega
    rw [e]
    exact left_at n _

/-! ## The arrays the launch ends with -/

/-- The cotangents of the two halves of the first projection. -/
theorem final9 (s : Fin 2048) (k : Fin 2048) : (dats m 0 c).arrAt 9 cfg0.N (ix2 s k) = ((I.duz s k : ℝ) : EReal) := by
  have h : (dats m 0 c).arrAt 9 cfg0.N = fun i : S2048x2048.Idx => ((I.duz (i 0) (i 1) : ℝ) : EReal) := by
    refine (dats m 0 c).arrAt_eq_of_covers 9 _ (by decide +kernel) fun t hf y => ?_
    obtain ⟨r, k, rfl⟩ : ∃ (r : Fin 256) (k : Fin 2048), y = ix2 r k := ⟨y 0, y 1, eq_ix2 y⟩
    blk_simp
    rw [after9]
    refine ((left_at hA t.val t.isLt).duz r k).trans ?_
    blk_simp [idx9 t]
  rw [h]
  rfl

/-- The cotangent of the grouped product. -/
theorem final10 (s : Fin 2048) (k : Fin 1024) : (dats m 0 c).arrAt 10 cfg0.N (ix2 s k) = ((I.dmr (k / 256) s (k % 256) : ℝ) : EReal) := by
  have h : (dats m 0 c).arrAt 10 cfg0.N = fun i : S2048x1024.Idx => ((I.dmr ((i 1).val / 256) (i 0) ((i 1).val % 256) : ℝ) : EReal) := by
    refine (dats m 0 c).arrAt_eq_of_covers 10 _ (by decide +kernel) fun t hf y => ?_
    obtain ⟨r, k, rfl⟩ : ∃ (r : Fin 256) (k : Fin 1024), y = ix2 r k := ⟨y 0, y 1, eq_ix2 y⟩
    blk_simp
    rw [after10]
    refine ((left_at hA t.val t.isLt).dmr r k).trans ?_
    blk_simp [idx10 t]
  rw [h]
  rfl

/-- The cotangent of the layer's input. -/
theorem final11 (s : Fin 2048) (k : Fin 1024) : (dats m 0 c).arrAt 11 cfg0.N (ix2 s k) = ((I.dx s k : ℝ) : EReal) := by
  have h : (dats m 0 c).arrAt 11 cfg0.N = fun i : S2048x1024.Idx => ((I.dx (i 0) (i 1) : ℝ) : EReal) := by
    refine (dats m 0 c).arrAt_eq_of_covers 11 _ (by decide +kernel) fun t hf y => ?_
    obtain ⟨r, k, rfl⟩ : ∃ (r : Fin 256) (k : Fin 1024), y = ix2 r k := ⟨y 0, y 1, eq_ix2 y⟩
    blk_simp
    rw [after11]
    refine ((left_at hA t.val t.isLt).dx r k).trans ?_
    blk_simp [idx11 t]
  rw [h]
  rfl

/-- The gradients of the scale and of the gain, and six rows of zeros. -/
theorem final12 (q : Fin 8) (k : Fin 1024) : (dats m 0 c).arrAt 12 cfg0.N (ix2 q k)
    = (((if q.val = 0 then ∑ s ∈ Finset.range 2048, I.dsc s k else if q.val = 1 then ∑ s ∈ Finset.range 2048, I.dgn s k else 0 : ℝ)) : EReal) := by
  have h : (dats m 0 c).arrAt 12 cfg0.N = fun i : S8x1024.Idx => (((if (i 0).val = 0 then ∑ s ∈ Finset.range 2048, I.dsc s (i 1)
      else if (i 0).val = 1 then ∑ s ∈ Finset.range 2048, I.dgn s (i 1) else 0 : ℝ)) : EReal) := by
    refine (dats m 0 c).arrAt_eq_of_covers 12 _ (by decide +kernel) fun t hf y => ?_
    obtain ⟨q, k, rfl⟩ : ∃ (q : Fin 8) (k : Fin 1024), y = ix2 q k := ⟨y 0, y 1, eq_ix2 y⟩
    have h7 : t.val % 8 = 7 := (flush0_12 t).mp hf
    have h8 := lt8 t
    have hr : rowOf t = 0 := by unfold rowOf; omega
    have hL := left_at hA t.val t.isLt
    rw [show rowOf ⟨t.val, t.isLt⟩ = 0 from hr] at hL
    blk_simp
    rw [after12]
    blk_simp [idx12 t]
    by_cases h0 : q.val = 0
    · obtain rfl : q = 0 := Fin.ext h0
      refine (hL.sums0 k).trans ?_
      rw [if_pos h0, Finset.range_eq_Ico]
    · rw [if_neg h0]
      by_cases h1 : q.val = 1
      · obtain rfl : q = 1 := Fin.ext h1
        refine (hL.sums1 k).trans ?_
        rw [if_pos h1, Finset.range_eq_Ico]
      · rw [if_neg h1]
        exact hL.sums2 q k (by omega)
  rw [h]
  rfl

end Cert.KernelIdeal.Mix

end
-- ==== Proof.Prefix.lean ====
/- The arrays the host prepares before the launch, as the reference's own lines or the arguments at an index. -/
module

public import proofs.«01_k».proof.Proof.Induct
public import proofs.«01_k».proof.Proof.Gen.ReferenceIdeal.Read
public import Idealize.ShloMosaic.Lib.Pointwise
public import Idealize.ShloMosaic.Lib.Pipeline.ValueKit.Point

@[expose] public section

set_option maxRecDepth 16384

noncomputable section

namespace Cert.KernelIdeal.Mix

open Cert.KernelIdeal Cert.KernelIdeal.Gen
open Idealize.ShloMosaic Idealize.ShloMosaic.TcCoe Idealize.SL.Sem

/-- What every buffer of a device holds. -/
abbrev Vals := Valuation τ sig (Elt Ideal)

/-- Operations 0 to 6 of the last stretch of host lines. -/
abbrev partA : List (HloOp τ sig (Elt Ideal)) := ((hostOps0_2 (F := Ideal)).drop 0).take 7

/-- Operations 7 to 18 of the last stretch of host lines. -/
abbrev partB0 : List (HloOp τ sig (Elt Ideal)) := ((hostOps0_2 (F := Ideal)).drop 7).take 12

/-- Operations 19 to 30 of the last stretch of host lines. -/
abbrev partB1 : List (HloOp τ sig (Elt Ideal)) := ((hostOps0_2 (F := Ideal)).drop 19).take 12

/-- Operations 31 to 42 of the last stretch of host lines. -/
abbrev partB2 : List (HloOp τ sig (Elt Ideal)) := ((hostOps0_2 (F := Ideal)).drop 31).take 12

/-- Operations 43 to 54 of the last stretch of host lines. -/
abbrev partB3 : List (HloOp τ sig (Elt Ideal)) := ((hostOps0_2 (F := Ideal)).drop 43).take 12

/-- Operations 55 to 62 of the last stretch of host lines. -/
abbrev partC : List (HloOp τ sig (Elt Ideal)) := ((hostOps0_2 (F := Ideal)).drop 55).take 8

/-- Operations 63 to 69 of the last stretch of host lines. -/
abbrev partD : List (HloOp τ sig (Elt Ideal)) := ((hostOps0_2 (F := Ideal)).drop 63).take 7

/-- `main_v17` from what the stretch reads. -/
def fA_v17 (v15' : FVec Ideal S2048x4x256 .f32) : FVec Ideal S2064x4x256 .f32 :=
  let cst_2' : FVec Ideal S_ .f32 := constant (F := Ideal) S_ .f32 0x00000000#32
  let v16' : FVec Ideal S16x4x256 .f32 := (broadcastInDim S16x4x256 ![] bcast_S_S16x4x256) cst_2'
  let v17' : FVec Ideal S2064x4x256 .f32 := ((fun a b => concatenate S2064x4x256 0 [⟨S16x4x256, a⟩, ⟨S2048x4x256, b⟩] concatenates_S16x4x256_S2048x4x256_S2064x4x256_d0)) v16' v15'
  v17'

theorem runA_v17 (U : Vals) : @Eq (FVec Ideal S2064x4x256 .f32) (StableHlo.after partA U (Proc.devRef .tc main_v17))
    (fA_v17 (U (Proc.devRef .tc main_v15))) := by
  sl_kernel_rfl

theorem refA_v17 (x0 : FVec Ideal S2048x1024 .f32) (x1 : FVec Ideal S1x1024 .f32) (x2 : FVec Ideal S1024x2048 .f32) : @Eq (FVec Ideal S2064x4x256 .f32) (fA_v17 (Cert.ReferenceIdeal.Read.val_main_v19 (F := Ideal) x0 x1 x2)) (Cert.ReferenceIdeal.Read.val_main_v21 (F := Ideal) x0 x1 x2) := by
  sl_kernel_rfl

/-- `main_v20` from what the stretch reads. -/
def fA_v20  : IVec S2048 32 :=
  let v18' : IVec S2048 32 := iotaInDim S2048 32 0
  let c' : IVec S_ 32 := constantI S_ 32 1#32
  let v19' : IVec S2048 32 := (broadcastInDim S2048 ![] bcast_S_S2048) c'
  let v20' : IVec S2048 32 := (addi) v19' v18'
  v20'

theorem runA_v20 (U : Vals) : @Eq (IVec S2048 32) (StableHlo.after partA U (Proc.devRef .tc main_v20))
    (fA_v20 ) := by
  sl_kernel_rfl

theorem refA_v20 (x0 : FVec Ideal S2048x1024 .f32) (x1 : FVec Ideal S1x1024 .f32) (x2 : FVec Ideal S1024x2048 .f32) : @Eq (IVec S2048 32) (fA_v20 ) (Cert.ReferenceIdeal.Read.val_main_v25 (F := Ideal)) := by
  sl_kernel_rfl

/-- `main_v31` from what the stretch reads. -/
def fB0_v31 (v15' : FVec Ideal S2048x4x256 .f32) (v17' : FVec Ideal S2064x4x256 .f32) (v20' : IVec S2048 32) : FVec Ideal S2048x256 .f32 :=
  let v21' : FVec Ideal S2048x1x256 .f32 := ((extractStridedSlice S2048x1x256 ![14, 0, 0] · slices_S2064x4x256_S2048x1x256_14_0_0)) v17'
  let v22' : FVec Ideal S2048x256 .f32 := (fun z => shapeCast S2048x256 z shapeCasts_S2048x1x256_S2048x256) v21'
  let c_3' : IVec S_ 32 := constantI S_ 32 2#32
  let v23' : IVec S2048 32 := (broadcastInDim S2048 ![] bcast_S_S2048) c_3'
  let v24' : IVec S2048 32 := (minsi) v20' v23'
  let v25' : FVec Ideal S2048 .f32 := (sitofp .f32) v24'
  let v26' : FVec Ideal S2048x1 .f32 := (broadcastInDim S2048x1 ![0] bcast_S2048_S2048x1_0) v25'
  let v27' : FVec Ideal S2048x1x256 .f32 := ((extractStridedSlice S2048x1x256 ![0, 0, 0] · slices_S2048x4x256_S2048x1x256_0_0_0)) v15'
  let v28' : FVec Ideal S2048x256 .f32 := (fun z => shapeCast S2048x256 z shapeCasts_S2048x1x256_S2048x256) v27'
  let v29' : FVec Ideal S2048x256 .f32 := (subf) v28' v22'
  let v30' : FVec Ideal S2048x256 .f32 := (broadcastInDim S2048x256 ![0, 1] bcast_S2048x1_S2048x256_0_1) v26'
  let v31' : FVec Ideal S2048x256 .f32 := (Host.divf) v29' v30'
  v31'

theorem runB0_v31 (U : Vals) : @Eq (FVec Ideal S2048x256 .f32) (StableHlo.after partB0 U (Proc.devRef .tc main_v31))
    (fB0_v31 (U (Proc.devRef .tc main_v15)) (U (Proc.devRef .tc main_v17)) (U (Proc.devRef .tc main_v20))) := by
  sl_kernel_rfl

theorem refB0_v31 (x0 : FVec Ideal S2048x1024 .f32) (x1 : FVec Ideal S1x1024 .f32) (x2 : FVec Ideal S1024x2048 .f32) : @Eq (FVec Ideal S2048x256 .f32) (fB0_v31 (Cert.ReferenceIdeal.Read.val_main_v19 (F := Ideal) x0 x1 x2) (Cert.ReferenceIdeal.Read.val_main_v21 (F := Ideal) x0 x1 x2) (Cert.ReferenceIdeal.Read.val_main_v25 (F := Ideal))) (Cert.ReferenceIdeal.Read.val_main_v36 (F := Ideal) x0 x1 x2) := by
  sl_kernel_rfl

/-- `main_v42` from what the stretch reads. -/
def fB1_v42 (v15' : FVec Ideal S2048x4x256 .f32) (v17' : FVec Ideal S2064x4x256 .f32) (v20' : IVec S2048 32) : FVec Ideal S2048x256 .f32 :=
  let v32' : FVec Ideal S2048x1x256 .f32 := ((extractStridedSlice S2048x1x256 ![12, 1, 0] · slices_S2064x4x256_S2048x1x256_12_1_0)) v17'
  let v33' : FVec Ideal S2048x256 .f32 := (fun z => shapeCast S2048x256 z shapeCasts_S2048x1x256_S2048x256) v32'
  let c_4' : IVec S_ 32 := constantI S_ 32 4#32
  let v34' : IVec S2048 32 := (broadcastInDim S2048 ![] bcast_S_S2048) c_4'
  let v35' : IVec S2048 32 := (minsi) v20' v34'
  let v36' : FVec Ideal S2048 .f32 := (sitofp .f32) v35'
  let v37' : FVec Ideal S2048x1 .f32 := (broadcastInDim S2048x1 ![0] bcast_S2048_S2048x1_0) v36'
  let v38' : FVec Ideal S2048x1x256 .f32 := ((extractStridedSlice S2048x1x256 ![0, 1, 0] · slices_S2048x4x256_S2048x1x256_0_1_0)) v15'
  let v39' : FVec Ideal S2048x256 .f32 := (fun z => shapeCast S2048x256 z shapeCasts_S2048x1x256_S2048x256) v38'
  let v40' : FVec Ideal S2048x256 .f32 := (subf) v39' v33'
  let v41' : FVec Ideal S2048x256 .f32 := (broadcastInDim S2048x256 ![0, 1] bcast_S2048x1_S2048x256_0_1) v37'
  let v42' : FVec Ideal S2048x256 .f32 := (Host.divf) v40' v41'
  v42'

theorem runB1_v42 (U : Vals) : @Eq (FVec Ideal S2048x256 .f32) (StableHlo.after partB1 U (Proc.devRef .tc main_v42))
    (fB1_v42 (U (Proc.devRef .tc main_v15)) (U (Proc.devRef .tc main_v17)) (U (Proc.devRef .tc main_v20))) := by
  sl_kernel_rfl

theorem refB1_v42 (x0 : FVec Ideal S2048x1024 .f32) (x1 : FVec Ideal S1x1024 .f32) (x2 : FVec Ideal S1024x2048 .f32) : @Eq (FVec Ideal S2048x256 .f32) (fB1_v42 (Cert.ReferenceIdeal.Read.val_main_v19 (F := Ideal) x0 x1 x2) (Cert.ReferenceIdeal.Read.val_main_v21 (F := Ideal) x0 x1 x2) (Cert.ReferenceIdeal.Read.val_main_v25 (F := Ideal))) (Cert.ReferenceIdeal.Read.val_main_v47 (F := Ideal) x0 x1 x2) := by
  sl_kernel_rfl

/-- `main_v53` from what the stretch reads. -/
def fB2_v53 (v15' : FVec Ideal S2048x4x256 .f32) (v17' : FVec Ideal S2064x4x256 .f32) (v20' : IVec S2048 32) : FVec Ideal S2048x256 .f32 :=
  let v43' : FVec Ideal S2048x1x256 .f32 := ((extractStridedSlice S2048x1x256 ![8, 2, 0] · slices_S2064x4x256_S2048x1x256_8_2_0)) v17'
  let v44' : FVec Ideal S2048x256 .f32 := (fun z => shapeCast S2048x256 z shapeCasts_S2048x1x256_S2048x256) v43'
  let c_5' : IVec S_ 32 := constantI S_ 32 8#32
  let v45' : IVec S2048 32 := (broadcastInDim S2048 ![] bcast_S_S2048) c_5'
  let v46' : IVec S2048 32 := (minsi) v20' v45'
  let v47' : FVec Ideal S2048 .f32 := (sitofp .f32) v46'
  let v48' : FVec Ideal S2048x1 .f32 := (broadcastInDim S2048x1 ![0] bcast_S2048_S2048x1_0) v47'
  let v49' : FVec Ideal S2048x1x256 .f32 := ((extractStridedSlice S2048x1x256 ![0, 2, 0] · slices_S2048x4x256_S2048x1x256_0_2_0)) v15'
  let v50' : FVec Ideal S2048x256 .f32 := (fun z => shapeCast S2048x256 z shapeCasts_S2048x1x256_S2048x256) v49'
  let v51' : FVec Ideal S2048x256 .f32 := (subf) v50' v44'
  let v52' : FVec Ideal S2048x256 .f32 := (broadcastInDim S2048x256 ![0, 1] bcast_S2048x1_S2048x256_0_1) v48'
  let v53' : FVec Ideal S2048x256 .f32 := (Host.divf) v51' v52'
  v53'

theorem runB2_v53 (U : Vals) : @Eq (FVec Ideal S2048x256 .f32) (StableHlo.after partB2 U (Proc.devRef .tc main_v53))
    (fB2_v53 (U (Proc.devRef .tc main_v15)) (U (Proc.devRef .tc main_v17)) (U (Proc.devRef .tc main_v20))) := by
  sl_kernel_rfl

theorem refB2_v53 (x0 : FVec Ideal S2048x1024 .f32) (x1 : FVec Ideal S1x1024 .f32) (x2 : FVec Ideal S1024x2048 .f32) : @Eq (FVec Ideal S2048x256 .f32) (fB2_v53 (Cert.ReferenceIdeal.Read.val_main_v19 (F := Ideal) x0 x1 x2) (Cert.ReferenceIdeal.Read.val_main_v21 (F := Ideal) x0 x1 x2) (Cert.ReferenceIdeal.Read.val_main_v25 (F := Ideal))) (Cert.ReferenceIdeal.Read.val_main_v58 (F := Ideal) x0 x1 x2) := by
  sl_kernel_rfl

/-- `main_v64` from what the stretch reads. -/
def fB3_v64 (v15' : FVec Ideal S2048x4x256 .f32) (v17' : FVec Ideal S2064x4x256 .f32) (v20' : IVec S2048 32) : FVec Ideal S2048x256 .f32 :=
  let v54' : FVec Ideal S2048x1x256 .f32 := ((extractStridedSlice S2048x1x256 ![0, 3, 0] · slices_S2064x4x256_S2048x1x256_0_3_0)) v17'
  let v55' : FVec Ideal S2048x256 .f32 := (fun z => shapeCast S2048x256 z shapeCasts_S2048x1x256_S2048x256) v54'
  let c_6' : IVec S_ 32 := constantI S_ 32 16#32
  let v56' : IVec S2048 32 := (broadcastInDim S2048 ![] bcast_S_S2048) c_6'
  let v57' : IVec S2048 32 := (minsi) v20' v56'
  let v58' : FVec Ideal S2048 .f32 := (sitofp .f32) v57'
  let v59' : FVec Ideal S2048x1 .f32 := (broadcastInDim S2048x1 ![0] bcast_S2048_S2048x1_0) v58'
  let v60' : FVec Ideal S2048x1x256 .f32 := ((extractStridedSlice S2048x1x256 ![0, 3, 0] · slices_S2048x4x256_S2048x1x256_0_3_0)) v15'
  let v61' : FVec Ideal S2048x256 .f32 := (fun z => shapeCast S2048x256 z shapeCasts_S2048x1x256_S2048x256) v60'
  let v62' : FVec Ideal S2048x256 .f32 := (subf) v61' v55'
  let v63' : FVec Ideal S2048x256 .f32 := (broadcastInDim S2048x256 ![0, 1] bcast_S2048x1_S2048x256_0_1) v59'
  let v64' : FVec Ideal S2048x256 .f32 := (Host.divf) v62' v63'
  v64'

theorem runB3_v64 (U : Vals) : @Eq (FVec Ideal S2048x256 .f32) (StableHlo.after partB3 U (Proc.devRef .tc main_v64))
    (fB3_v64 (U (Proc.devRef .tc main_v15)) (U (Proc.devRef .tc main_v17)) (U (Proc.devRef .tc main_v20))) := by
  sl_kernel_rfl

theorem refB3_v64 (x0 : FVec Ideal S2048x1024 .f32) (x1 : FVec Ideal S1x1024 .f32) (x2 : FVec Ideal S1024x2048 .f32) : @Eq (FVec Ideal S2048x256 .f32) (fB3_v64 (Cert.ReferenceIdeal.Read.val_main_v19 (F := Ideal) x0 x1 x2) (Cert.ReferenceIdeal.Read.val_main_v21 (F := Ideal) x0 x1 x2) (Cert.ReferenceIdeal.Read.val_main_v25 (F := Ideal))) (Cert.ReferenceIdeal.Read.val_main_v69 (F := Ideal) x0 x1 x2) := by
  sl_kernel_rfl

/-- `main_v72` from what the stretch reads. -/
def fC_v72 (v31' : FVec Ideal S2048x256 .f32) (v42' : FVec Ideal S2048x256 .f32) (v53' : FVec Ideal S2048x256 .f32) (v64' : FVec Ideal S2048x256 .f32) (v14' : FVec Ideal S2048x4x256 .f32) : FVec Ideal S2048x1024 .bf16 :=
  let v65' : FVec Ideal S2048x1x256 .f32 := (broadcastInDim S2048x1x256 ![0, 2] bcast_S2048x256_S2048x1x256_0_2) v31'
  let v66' : FVec Ideal S2048x1x256 .f32 := (broadcastInDim S2048x1x256 ![0, 2] bcast_S2048x256_S2048x1x256_0_2) v42'
  let v67' : FVec Ideal S2048x1x256 .f32 := (broadcastInDim S2048x1x256 ![0, 2] bcast_S2048x256_S2048x1x256_0_2) v53'
  let v68' : FVec Ideal S2048x1x256 .f32 := (broadcastInDim S2048x1x256 ![0, 2] bcast_S2048x256_S2048x1x256_0_2) v64'
  let v69' : FVec Ideal S2048x4x256 .f32 := (fun a b c d => concatenate S2048x4x256 1 [⟨S2048x1x256, a⟩, ⟨S2048x1x256, b⟩, ⟨S2048x1x256, c⟩, ⟨S2048x1x256, d⟩] concatenates_S2048x1x256_S2048x1x256_S2048x1x256_S2048x1x256_S2048x4x256_d1) v65' v66' v67' v68'
  let v70' : FVec Ideal S2048x4x256 .f32 := (subf) v69' v14'
  let v71' : FVec Ideal S2048x1024 .f32 := (fun z => shapeCast S2048x1024 z shapeCasts_S2048x4x256_S2048x1024) v70'
  let v72' : FVec Ideal S2048x1024 .bf16 := ((truncf .bf16 · bitsLt_bf16_f32)) v71'
  v72'

theorem runC_v72 (U : Vals) : @Eq (FVec Ideal S2048x1024 .bf16) (StableHlo.after partC U (Proc.devRef .tc main_v72))
    (fC_v72 (U (Proc.devRef .tc main_v31)) (U (Proc.devRef .tc main_v42)) (U (Proc.devRef .tc main_v53)) (U (Proc.devRef .tc main_v64)) (U (Proc.devRef .tc main_v14))) := by
  sl_kernel_rfl

theorem refC_v72 (x0 : FVec Ideal S2048x1024 .f32) (x1 : FVec Ideal S1x1024 .f32) (x2 : FVec Ideal S1024x2048 .f32) : @Eq (FVec Ideal S2048x1024 .bf16) (fC_v72 (Cert.ReferenceIdeal.Read.val_main_v36 (F := Ideal) x0 x1 x2) (Cert.ReferenceIdeal.Read.val_main_v47 (F := Ideal) x0 x1 x2) (Cert.ReferenceIdeal.Read.val_main_v58 (F := Ideal) x0 x1 x2) (Cert.ReferenceIdeal.Read.val_main_v69 (F := Ideal) x0 x1 x2) (Cert.ReferenceIdeal.Read.val_main_v18 (F := Ideal) x0 x1 x2)) (truncf .bf16 (shapeCast S2048x1024 (Cert.ReferenceIdeal.Read.val_main_v75 (F := Ideal) x0 x1 x2 : FVec Ideal S2048x4x256 .f32) shapeCasts_S2048x4x256_S2048x1024) bitsLt_bf16_f32) := by
  sl_kernel_rfl

/-- `main_v75` from what the stretch reads. -/
def fD_v75 (arg2' : FVec Ideal S1024x2048 .f32) : FVec Ideal S4x1024x512 .bf16 :=
  let v73' : FVec Ideal S1024x4x512 .f32 := (fun z => shapeCast S1024x4x512 z shapeCasts_S1024x2048_S1024x4x512) arg2'
  let v74' : FVec Ideal S4x1024x512 .f32 := ((transpose S4x1024x512 [1, 0, 2] · transposes_S1024x4x512_S4x1024x512_1_0_2)) v73'
  let v75' : FVec Ideal S4x1024x512 .bf16 := ((truncf .bf16 · bitsLt_bf16_f32)) v74'
  v75'

theorem runD_v75 (U : Vals) : @Eq (FVec Ideal S4x1024x512 .bf16) (StableHlo.after partD U (Proc.devRef .tc main_v75))
    (fD_v75 (U (Proc.devRef .tc main_arg2))) := by
  sl_kernel_rfl

/-- `main_v78` from what the stretch reads. -/
def fD_v78 (arg3' : FVec Ideal S4x256x256 .f32) : FVec Ideal S4x4x64x256 .bf16 :=
  let v76' : FVec Ideal S4x4x64x256 .f32 := (fun z => shapeCast S4x4x64x256 z shapeCasts_S4x256x256_S4x4x64x256) arg3'
  let v77' : FVec Ideal S4x4x64x256 .f32 := ((transpose S4x4x64x256 [1, 0, 2, 3] · transposes_S4x4x64x256_S4x4x64x256_1_0_2_3)) v76'
  let v78' : FVec Ideal S4x4x64x256 .bf16 := ((truncf .bf16 · bitsLt_bf16_f32)) v77'
  v78'

theorem runD_v78 (U : Vals) : @Eq (FVec Ideal S4x4x64x256 .bf16) (StableHlo.after partD U (Proc.devRef .tc main_v78))
    (fD_v78 (U (Proc.devRef .tc main_arg3))) := by
  sl_kernel_rfl

/-- `main_v79` from what the stretch reads. -/
def fD_v79 (arg5' : FVec Ideal S2048x1024 .f32) : FVec Ideal S2048x1024 .bf16 :=
  let v79' : FVec Ideal S2048x1024 .bf16 := ((truncf .bf16 · bitsLt_bf16_f32)) arg5'
  v79'

theorem runD_v79 (U : Vals) : @Eq (FVec Ideal S2048x1024 .bf16) (StableHlo.after partD U (Proc.devRef .tc main_v79))
    (fD_v79 (U (Proc.devRef .tc main_arg5))) := by
  sl_kernel_rfl

theorem keepA_v12 (U : Vals) : StableHlo.after partA U (Proc.devRef .tc main_v12) = U (Proc.devRef .tc main_v12) := by
  sl_kernel_rfl

theorem keepA_arg2 (U : Vals) : StableHlo.after partA U (Proc.devRef .tc main_arg2) = U (Proc.devRef .tc main_arg2) := by
  sl_kernel_rfl

theorem keepA_arg3 (U : Vals) : StableHlo.after partA U (Proc.devRef .tc main_arg3) = U (Proc.devRef .tc main_arg3) := by
  sl_kernel_rfl

theorem keepA_arg5 (U : Vals) : StableHlo.after partA U (Proc.devRef .tc main_arg5) = U (Proc.devRef .tc main_arg5) := by
  sl_kernel_rfl

theorem keepA_v14 (U : Vals) : StableHlo.after partA U (Proc.devRef .tc main_v14) = U (Proc.devRef .tc main_v14) := by
  sl_kernel_rfl

theorem keepA_v15 (U : Vals) : StableHlo.after partA U (Proc.devRef .tc main_v15) = U (Proc.devRef .tc main_v15) := by
  sl_kernel_rfl

theorem keepB0_v12 (U : Vals) : StableHlo.after partB0 U (Proc.devRef .tc main_v12) = U (Proc.devRef .tc main_v12) := by
  sl_kernel_rfl

theorem keepB0_arg2 (U : Vals) : StableHlo.after partB0 U (Proc.devRef .tc main_arg2) = U (Proc.devRef .tc main_arg2) := by
  sl_kernel_rfl

theorem keepB0_arg3 (U : Vals) : StableHlo.after partB0 U (Proc.devRef .tc main_arg3) = U (Proc.devRef .tc main_arg3) := by
  sl_kernel_rfl

theorem keepB0_arg5 (U : Vals) : StableHlo.after partB0 U (Proc.devRef .tc main_arg5) = U (Proc.devRef .tc main_arg5) := by
  sl_kernel_rfl

theorem keepB0_v14 (U : Vals) : StableHlo.after partB0 U (Proc.devRef .tc main_v14) = U (Proc.devRef .tc main_v14) := by
  sl_kernel_rfl

theorem keepB0_v15 (U : Vals) : StableHlo.after partB0 U (Proc.devRef .tc main_v15) = U (Proc.devRef .tc main_v15) := by
  sl_kernel_rfl

theorem keepB0_v17 (U : Vals) : StableHlo.after partB0 U (Proc.devRef .tc main_v17) = U (Proc.devRef .tc main_v17) := by
  sl_kernel_rfl

theorem keepB0_v20 (U : Vals) : StableHlo.after partB0 U (Proc.devRef .tc main_v20) = U (Proc.devRef .tc main_v20) := by
  sl_kernel_rfl

theorem keepB1_v12 (U : Vals) : StableHlo.after partB1 U (Proc.devRef .tc main_v12) = U (Proc.devRef .tc main_v12) := by
  sl_kernel_rfl

theorem keepB1_arg2 (U : Vals) : StableHlo.after partB1 U (Proc.devRef .tc main_arg2) = U (Proc.devRef .tc main_arg2) := by
  sl_kernel_rfl

theorem keepB1_arg3 (U : Vals) : StableHlo.after partB1 U (Proc.devRef .tc main_arg3) = U (Proc.devRef .tc main_arg3) := by
  sl_kernel_rfl

theorem keepB1_arg5 (U : Vals) : StableHlo.after partB1 U (Proc.devRef .tc main_arg5) = U (Proc.devRef .tc main_arg5) := by
  sl_kernel_rfl

theorem keepB1_v14 (U : Vals) : StableHlo.after partB1 U (Proc.devRef .tc main_v14) = U (Proc.devRef .tc main_v14) := by
  sl_kernel_rfl

theorem keepB1_v31 (U : Vals) : StableHlo.after partB1 U (Proc.devRef .tc main_v31) = U (Proc.devRef .tc main_v31) := by
  sl_kernel_rfl

theorem keepB1_v15 (U : Vals) : StableHlo.after partB1 U (Proc.devRef .tc main_v15) = U (Proc.devRef .tc main_v15) := by
  sl_kernel_rfl

theorem keepB1_v17 (U : Vals) : StableHlo.after partB1 U (Proc.devRef .tc main_v17) = U (Proc.devRef .tc main_v17) := by
  sl_kernel_rfl

theorem keepB1_v20 (U : Vals) : StableHlo.after partB1 U (Proc.devRef .tc main_v20) = U (Proc.devRef .tc main_v20) := by
  sl_kernel_rfl

theorem keepB2_v12 (U : Vals) : StableHlo.after partB2 U (Proc.devRef .tc main_v12) = U (Proc.devRef .tc main_v12) := by
  sl_kernel_rfl

theorem keepB2_arg2 (U : Vals) : StableHlo.after partB2 U (Proc.devRef .tc main_arg2) = U (Proc.devRef .tc main_arg2) := by
  sl_kernel_rfl

theorem keepB2_arg3 (U : Vals) : StableHlo.after partB2 U (Proc.devRef .tc main_arg3) = U (Proc.devRef .tc main_arg3) := by
  sl_kernel_rfl

theorem keepB2_arg5 (U : Vals) : StableHlo.after partB2 U (Proc.devRef .tc main_arg5) = U (Proc.devRef .tc main_arg5) := by
  sl_kernel_rfl

theorem keepB2_v14 (U : Vals) : StableHlo.after partB2 U (Proc.devRef .tc main_v14) = U (Proc.devRef .tc main_v14) := by
  sl_kernel_rfl

theorem keepB2_v31 (U : Vals) : StableHlo.after partB2 U (Proc.devRef .tc main_v31) = U (Proc.devRef .tc main_v31) := by
  sl_kernel_rfl

theorem keepB2_v42 (U : Vals) : StableHlo.after partB2 U (Proc.devRef .tc main_v42) = U (Proc.devRef .tc main_v42) := by
  sl_kernel_rfl

theorem keepB2_v15 (U : Vals) : StableHlo.after partB2 U (Proc.devRef .tc main_v15) = U (Proc.devRef .tc main_v15) := by
  sl_kernel_rfl

theorem keepB2_v17 (U : Vals) : StableHlo.after partB2 U (Proc.devRef .tc main_v17) = U (Proc.devRef .tc main_v17) := by
  sl_kernel_rfl

theorem keepB2_v20 (U : Vals) : StableHlo.after partB2 U (Proc.devRef .tc main_v20) = U (Proc.devRef .tc main_v20) := by
  sl_kernel_rfl

theorem keepB3_v12 (U : Vals) : StableHlo.after partB3 U (Proc.devRef .tc main_v12) = U (Proc.devRef .tc main_v12) := by
  sl_kernel_rfl

theorem keepB3_arg2 (U : Vals) : StableHlo.after partB3 U (Proc.devRef .tc main_arg2) = U (Proc.devRef .tc main_arg2) := by
  sl_kernel_rfl

theorem keepB3_arg3 (U : Vals) : StableHlo.after partB3 U (Proc.devRef .tc main_arg3) = U (Proc.devRef .tc main_arg3) := by
  sl_kernel_rfl

theorem keepB3_arg5 (U : Vals) : StableHlo.after partB3 U (Proc.devRef .tc main_arg5) = U (Proc.devRef .tc main_arg5) := by
  sl_kernel_rfl

theorem keepB3_v14 (U : Vals) : StableHlo.after partB3 U (Proc.devRef .tc main_v14) = U (Proc.devRef .tc main_v14) := by
  sl_kernel_rfl

theorem keepB3_v31 (U : Vals) : StableHlo.after partB3 U (Proc.devRef .tc main_v31) = U (Proc.devRef .tc main_v31) := by
  sl_kernel_rfl

theorem keepB3_v42 (U : Vals) : StableHlo.after partB3 U (Proc.devRef .tc main_v42) = U (Proc.devRef .tc main_v42) := by
  sl_kernel_rfl

theorem keepB3_v53 (U : Vals) : StableHlo.after partB3 U (Proc.devRef .tc main_v53) = U (Proc.devRef .tc main_v53) := by
  sl_kernel_rfl

theorem keepC_v12 (U : Vals) : StableHlo.after partC U (Proc.devRef .tc main_v12) = U (Proc.devRef .tc main_v12) := by
  sl_kernel_rfl

theorem keepC_arg2 (U : Vals) : StableHlo.after partC U (Proc.devRef .tc main_arg2) = U (Proc.devRef .tc main_arg2) := by
  sl_kernel_rfl

theorem keepC_arg3 (U : Vals) : StableHlo.after partC U (Proc.devRef .tc main_arg3) = U (Proc.devRef .tc main_arg3) := by
  sl_kernel_rfl

theorem keepC_arg5 (U : Vals) : StableHlo.after partC U (Proc.devRef .tc main_arg5) = U (Proc.devRef .tc main_arg5) := by
  sl_kernel_rfl

theorem keepD_v12 (U : Vals) : StableHlo.after partD U (Proc.devRef .tc main_v12) = U (Proc.devRef .tc main_v12) := by
  sl_kernel_rfl

theorem keepD_v72 (U : Vals) : StableHlo.after partD U (Proc.devRef .tc main_v72) = U (Proc.devRef .tc main_v72) := by
  sl_kernel_rfl

/-- What the device holds after the first two stretches of host lines. -/
abbrev begun (m : (ℓ : Loc nD τ sig) → Buf (Elt Ideal) ℓ) (c : Dev nD) : Vals :=
  StableHlo.after (hostOps0_1 (F := Ideal)) (StableHlo.after (hostOps0 (F := Ideal)) fun b => m (c, b))

theorem begun_v12 (m : (ℓ : Loc nD τ sig) → Buf (Elt Ideal) ℓ) (c : Dev nD) : @Eq (FVec Ideal S2048x2048 .f32) (begun m c (Proc.devRef .tc main_v12)) (Cert.ReferenceIdeal.Read.val_main_v15 (F := Ideal) (m ((c.tc : Thread nD τ).loc main_arg0)) (m ((c.tc : Thread nD τ).loc main_arg1)) (m ((c.tc : Thread nD τ).loc main_arg2))) := by
  sl_kernel_rfl

theorem begun_v14 (m : (ℓ : Loc nD τ sig) → Buf (Elt Ideal) ℓ) (c : Dev nD) : @Eq (FVec Ideal S2048x4x256 .f32) (begun m c (Proc.devRef .tc main_v14)) (Cert.ReferenceIdeal.Read.val_main_v18 (F := Ideal) (m ((c.tc : Thread nD τ).loc main_arg0)) (m ((c.tc : Thread nD τ).loc main_arg1)) (m ((c.tc : Thread nD τ).loc main_arg2))) := by
  sl_kernel_rfl

theorem begun_v15 (m : (ℓ : Loc nD τ sig) → Buf (Elt Ideal) ℓ) (c : Dev nD) : @Eq (FVec Ideal S2048x4x256 .f32) (begun m c (Proc.devRef .tc main_v15)) (Cert.ReferenceIdeal.Read.val_main_v19 (F := Ideal) (m ((c.tc : Thread nD τ).loc main_arg0)) (m ((c.tc : Thread nD τ).loc main_arg1)) (m ((c.tc : Thread nD τ).loc main_arg2))) := by
  sl_kernel_rfl

theorem begun_arg2 (m : (ℓ : Loc nD τ sig) → Buf (Elt Ideal) ℓ) (c : Dev nD) : begun m c (Proc.devRef .tc main_arg2) = m ((c.tc : Thread nD τ).loc main_arg2) := by
  sl_kernel_rfl

theorem begun_arg3 (m : (ℓ : Loc nD τ sig) → Buf (Elt Ideal) ℓ) (c : Dev nD) : begun m c (Proc.devRef .tc main_arg3) = m ((c.tc : Thread nD τ).loc main_arg3) := by
  sl_kernel_rfl

theorem begun_arg5 (m : (ℓ : Loc nD τ sig) → Buf (Elt Ideal) ℓ) (c : Dev nD) : begun m c (Proc.devRef .tc main_arg5) = m ((c.tc : Thread nD τ).loc main_arg5) := by
  sl_kernel_rfl

theorem V_parts (m : (ℓ : Loc nD τ sig) → Buf (Elt Ideal) ℓ) (c : Dev nD) (b : DevRef τ sig) : StableHlo.after (List.flatten [hostOps0, hostOps0_1, hostOps0_2]) (fun b => m (c, b)) b =
    StableHlo.after partD (StableHlo.after partC (StableHlo.after partB3 (StableHlo.after partB2 (StableHlo.after partB1 (StableHlo.after partB0 (StableHlo.after partA (begun m c))))))) b := by
  sl_kernel_rfl

/-- The projection the host hands the launch is the reference's. -/
theorem V_v12 (m : (ℓ : Loc nD τ sig) → Buf (Elt Ideal) ℓ) (c : Dev nD) : @Eq (FVec Ideal S2048x2048 .f32) (V m c main_v12) (Cert.ReferenceIdeal.Read.val_main_v15 (F := Ideal) (m ((c.tc : Thread nD τ).loc main_arg0)) (m ((c.tc : Thread nD τ).loc main_arg1)) (m ((c.tc : Thread nD τ).loc main_arg2))) := by
  refine Eq.trans (V_parts m c _) ?_
  rw [keepD_v12, keepC_v12, keepB3_v12, keepB2_v12, keepB1_v12, keepB0_v12, keepA_v12]
  exact begun_v12 m c

theorem got_v17 (m : (ℓ : Loc nD τ sig) → Buf (Elt Ideal) ℓ) (c : Dev nD) : @Eq (FVec Ideal S2064x4x256 .f32) (StableHlo.after partA (begun m c) (Proc.devRef .tc main_v17))
    (Cert.ReferenceIdeal.Read.val_main_v21 (F := Ideal) (m ((c.tc : Thread nD τ).loc main_arg0)) (m ((c.tc : Thread nD τ).loc main_arg1)) (m ((c.tc : Thread nD τ).loc main_arg2))) := by
  have h0 : @Eq (FVec Ideal S2048x4x256 .f32) ((begun m c) (Proc.devRef .tc main_v15)) (Cert.ReferenceIdeal.Read.val_main_v19 (F := Ideal) (m ((c.tc : Thread nD τ).loc main_arg0)) (m ((c.tc : Thread nD τ).loc main_arg1)) (m ((c.tc : Thread nD τ).loc main_arg2))) := begun_v15 m c
  refine (runA_v17 _).trans ?_
  rw [h0]
  exact refA_v17 (m ((c.tc : Thread nD τ).loc main_arg0)) (m ((c.tc : Thread nD τ).loc main_arg1)) (m ((c.tc : Thread nD τ).loc main_arg2))

theorem got_v20 (m : (ℓ : Loc nD τ sig) → Buf (Elt Ideal) ℓ) (c : Dev nD) : @Eq (IVec S2048 32) (StableHlo.after partA (begun m c) (Proc.devRef .tc main_v20))
    (Cert.ReferenceIdeal.Read.val_main_v25 (F := Ideal)) := by
  refine (runA_v20 _).trans ?_
  exact refA_v20 (m ((c.tc : Thread nD τ).loc main_arg0)) (m ((c.tc : Thread nD τ).loc main_arg1)) (m ((c.tc : Thread nD τ).loc main_arg2))

theorem got_v31 (m : (ℓ : Loc nD τ sig) → Buf (Elt Ideal) ℓ) (c : Dev nD) : @Eq (FVec Ideal S2048x256 .f32) (StableHlo.after partB0 (StableHlo.after partA (begun m c)) (Proc.devRef .tc main_v31))
    (Cert.ReferenceIdeal.Read.val_main_v36 (F := Ideal) (m ((c.tc : Thread nD τ).loc main_arg0)) (m ((c.tc : Thread nD τ).loc main_arg1)) (m ((c.tc : Thread nD τ).loc main_arg2))) := by
  have h0 : @Eq (FVec Ideal S2048x4x256 .f32) ((StableHlo.after partA (begun m c)) (Proc.devRef .tc main_v15)) (Cert.ReferenceIdeal.Read.val_main_v19 (F := Ideal) (m ((c.tc : Thread nD τ).loc main_arg0)) (m ((c.tc : Thread nD τ).loc main_arg1)) (m ((c.tc : Thread nD τ).loc main_arg2))) := (keepA_v15 _).trans (begun_v15 m c)
  have h1 : @Eq (FVec Ideal S2064x4x256 .f32) ((StableHlo.after partA (begun m c)) (Proc.devRef .tc main_v17)) (Cert.ReferenceIdeal.Read.val_main_v21 (F := Ideal) (m ((c.tc : Thread nD τ).loc main_arg0)) (m ((c.tc : Thread nD τ).loc main_arg1)) (m ((c.tc : Thread nD τ).loc main_arg2))) := got_v17 m c
  have h2 : @Eq (IVec S2048 32) ((StableHlo.after partA (begun m c)) (Proc.devRef .tc main_v20)) (Cert.ReferenceIdeal.Read.val_main_v25 (F := Ideal)) := got_v20 m c
  refine (runB0_v31 _).trans ?_
  rw [h0, h1, h2]
  exact refB0_v31 (m ((c.tc : Thread nD τ).loc main_arg0)) (m ((c.tc : Thread nD τ).loc main_arg1)) (m ((c.tc : Thread nD τ).loc main_arg2))

theorem got_v42 (m : (ℓ : Loc nD τ sig) → Buf (Elt Ideal) ℓ) (c : Dev nD) : @Eq (FVec Ideal S2048x256 .f32) (StableHlo.after partB1 (StableHlo.after partB0 (StableHlo.after partA (begun m c))) (Proc.devRef .tc main_v42))
    (Cert.ReferenceIdeal.Read.val_main_v47 (F := Ideal) (m ((c.tc : Thread nD τ).loc main_arg0)) (m ((c.tc : Thread nD τ).loc main_arg1)) (m ((c.tc : Thread nD τ).loc main_arg2))) := by
  have h0 : @Eq (FVec Ideal S2048x4x256 .f32) ((StableHlo.after partB0 (StableHlo.after partA (begun m c))) (Proc.devRef .tc main_v15)) (Cert.ReferenceIdeal.Read.val_main_v19 (F := Ideal) (m ((c.tc : Thread nD τ).loc main_arg0)) (m ((c.tc : Thread nD τ).loc main_arg1)) (m ((c.tc : Thread nD τ).loc main_arg2))) := (keepB0_v15 _).trans ((keepA_v15 _).trans (begun_v15 m c))
  have h1 : @Eq (FVec Ideal S2064x4x256 .f32) ((StableHlo.after partB0 (StableHlo.after partA (begun m c))) (Proc.devRef .tc main_v17)) (Cert.ReferenceIdeal.Read.val_main_v21 (F := Ideal) (m ((c.tc : Thread nD τ).loc main_arg0)) (m ((c.tc : Thread nD τ).loc main_arg1)) (m ((c.tc : Thread nD τ).loc main_arg2))) := (keepB0_v17 _).trans (got_v17 m c)
  have h2 : @Eq (IVec S2048 32) ((StableHlo.after partB0 (StableHlo.after partA (begun m c))) (Proc.devRef .tc main_v20)) (Cert.ReferenceIdeal.Read.val_main_v25 (F := Ideal)) := (keepB0_v20 _).trans (got_v20 m c)
  refine (runB1_v42 _).trans ?_
  rw [h0, h1, h2]
  exact refB1_v42 (m ((c.tc : Thread nD τ).loc main_arg0)) (m ((c.tc : Thread nD τ).loc main_arg1)) (m ((c.tc : Thread nD τ).loc main_arg2))

theorem got_v53 (m : (ℓ : Loc nD τ sig) → Buf (Elt Ideal) ℓ) (c : Dev nD) : @Eq (FVec Ideal S2048x256 .f32) (StableHlo.after partB2 (StableHlo.after partB1 (StableHlo.after partB0 (StableHlo.after partA (begun m c)))) (Proc.devRef .tc main_v53))
    (Cert.ReferenceIdeal.Read.val_main_v58 (F := Ideal) (m ((c.tc : Thread nD τ).loc main_arg0)) (m ((c.tc : Thread nD τ).loc main_arg1)) (m ((c.tc : Thread nD τ).loc main_arg2))) := by
  have h0 : @Eq (FVec Ideal S2048x4x256 .f32) ((StableHlo.after partB1 (StableHlo.after partB0 (StableHlo.after partA (begun m c)))) (Proc.devRef .tc main_v15)) (Cert.ReferenceIdeal.Read.val_main_v19 (F := Ideal) (m ((c.tc : Thread nD τ).loc main_arg0)) (m ((c.tc : Thread nD τ).loc main_arg1)) (m ((c.tc : Thread nD τ).loc main_arg2))) := (keepB1_v15 _).trans ((keepB0_v15 _).trans ((keepA_v15 _).trans (begun_v15 m c)))
  have h1 : @Eq (FVec Ideal S2064x4x256 .f32) ((StableHlo.after partB1 (StableHlo.after partB0 (StableHlo.after partA (begun m c)))) (Proc.devRef .tc main_v17)) (Cert.ReferenceIdeal.Read.val_main_v21 (F := Ideal) (m ((c.tc : Thread nD τ).loc main_arg0)) (m ((c.tc : Thread nD τ).loc main_arg1)) (m ((c.tc : Thread nD τ).loc main_arg2))) := (keepB1_v17 _).trans ((keepB0_v17 _).trans (got_v17 m c))
  have h2 : @Eq (IVec S2048 32) ((StableHlo.after partB1 (StableHlo.after partB0 (StableHlo.after partA (begun m c)))) (Proc.devRef .tc main_v20)) (Cert.ReferenceIdeal.Read.val_main_v25 (F := Ideal)) := (keepB1_v20 _).trans ((keepB0_v20 _).trans (got_v20 m c))
  refine (runB2_v53 _).trans ?_
  rw [h0, h1, h2]
  exact refB2_v53 (m ((c.tc : Thread nD τ).loc main_arg0)) (m ((c.tc : Thread nD τ).loc main_arg1)) (m ((c.tc : Thread nD τ).loc main_arg2))

theorem got_v64 (m : (ℓ : Loc nD τ sig) → Buf (Elt Ideal) ℓ) (c : Dev nD) : @Eq (FVec Ideal S2048x256 .f32) (StableHlo.after partB3 (StableHlo.after partB2 (StableHlo.after partB1 (StableHlo.after partB0 (StableHlo.after partA (begun m c))))) (Proc.devRef .tc main_v64))
    (Cert.ReferenceIdeal.Read.val_main_v69 (F := Ideal) (m ((c.tc : Thread nD τ).loc main_arg0)) (m ((c.tc : Thread nD τ).loc main_arg1)) (m ((c.tc : Thread nD τ).loc main_arg2))) := by
  have h0 : @Eq (FVec Ideal S2048x4x256 .f32) ((StableHlo.after partB2 (StableHlo.after partB1 (StableHlo.after partB0 (StableHlo.after partA (begun m c))))) (Proc.devRef .tc main_v15)) (Cert.ReferenceIdeal.Read.val_main_v19 (F := Ideal) (m ((c.tc : Thread nD τ).loc main_arg0)) (m ((c.tc : Thread nD τ).loc main_arg1)) (m ((c.tc : Thread nD τ).loc main_arg2))) := (keepB2_v15 _).trans ((keepB1_v15 _).trans ((keepB0_v15 _).trans ((keepA_v15 _).trans (begun_v15 m c))))
  have h1 : @Eq (FVec Ideal S2064x4x256 .f32) ((StableHlo.after partB2 (StableHlo.after partB1 (StableHlo.after partB0 (StableHlo.after partA (begun m c))))) (Proc.devRef .tc main_v17)) (Cert.ReferenceIdeal.Read.val_main_v21 (F := Ideal) (m ((c.tc : Thread nD τ).loc main_arg0)) (m ((c.tc : Thread nD τ).loc main_arg1)) (m ((c.tc : Thread nD τ).loc main_arg2))) := (keepB2_v17 _).trans ((keepB1_v17 _).trans ((keepB0_v17 _).trans (got_v17 m c)))
  have h2 : @Eq (IVec S2048 32) ((StableHlo.after partB2 (StableHlo.after partB1 (StableHlo.after partB0 (StableHlo.after partA (begun m c))))) (Proc.devRef .tc main_v20)) (Cert.ReferenceIdeal.Read.val_main_v25 (F := Ideal)) := (keepB2_v20 _).trans ((keepB1_v20 _).trans ((keepB0_v20 _).trans (got_v20 m c)))
  refine (runB3_v64 _).trans ?_
  rw [h0, h1, h2]
  exact refB3_v64 (m ((c.tc : Thread nD τ).loc main_arg0)) (m ((c.tc : Thread nD τ).loc main_arg1)) (m ((c.tc : Thread nD τ).loc main_arg2))

theorem got_v72 (m : (ℓ : Loc nD τ sig) → Buf (Elt Ideal) ℓ) (c : Dev nD) : @Eq (FVec Ideal S2048x1024 .bf16) (StableHlo.after partC (StableHlo.after partB3 (StableHlo.after partB2 (StableHlo.after partB1 (StableHlo.after partB0 (StableHlo.after partA (begun m c)))))) (Proc.devRef .tc main_v72))
    (truncf .bf16 (shapeCast S2048x1024 (Cert.ReferenceIdeal.Read.val_main_v75 (F := Ideal) (m ((c.tc : Thread nD τ).loc main_arg0)) (m ((c.tc : Thread nD τ).loc main_arg1)) (m ((c.tc : Thread nD τ).loc main_arg2)) : FVec Ideal S2048x4x256 .f32) shapeCasts_S2048x4x256_S2048x1024) bitsLt_bf16_f32) := by
  have h0 : @Eq (FVec Ideal S2048x256 .f32) ((StableHlo.after partB3 (StableHlo.after partB2 (StableHlo.after partB1 (StableHlo.after partB0 (StableHlo.after partA (begun m c)))))) (Proc.devRef .tc main_v31)) (Cert.ReferenceIdeal.Read.val_main_v36 (F := Ideal) (m ((c.tc : Thread nD τ).loc main_arg0)) (m ((c.tc : Thread nD τ).loc main_arg1)) (m ((c.tc : Thread nD τ).loc main_arg2))) := (keepB3_v31 _).trans ((keepB2_v31 _).trans ((keepB1_v31 _).trans (got_v31 m c)))
  have h1 : @Eq (FVec Ideal S2048x256 .f32) ((StableHlo.after partB3 (StableHlo.after partB2 (StableHlo.after partB1 (StableHlo.after partB0 (StableHlo.after partA (begun m c)))))) (Proc.devRef .tc main_v42)) (Cert.ReferenceIdeal.Read.val_main_v47 (F := Ideal) (m ((c.tc : Thread nD τ).loc main_arg0)) (m ((c.tc : Thread nD τ).loc main_arg1)) (m ((c.tc : Thread nD τ).loc main_arg2))) := (keepB3_v42 _).trans ((keepB2_v42 _).trans (got_v42 m c))
  have h2 : @Eq (FVec Ideal S2048x256 .f32) ((StableHlo.after partB3 (StableHlo.after partB2 (StableHlo.after partB1 (StableHlo.after partB0 (StableHlo.after partA (begun m c)))))) (Proc.devRef .tc main_v53)) (Cert.ReferenceIdeal.Read.val_main_v58 (F := Ideal) (m ((c.tc : Thread nD τ).loc main_arg0)) (m ((c.tc : Thread nD τ).loc main_arg1)) (m ((c.tc : Thread nD τ).loc main_arg2))) := (keepB3_v53 _).trans (got_v53 m c)
  have h3 : @Eq (FVec Ideal S2048x256 .f32) ((StableHlo.after partB3 (StableHlo.after partB2 (StableHlo.after partB1 (StableHlo.after partB0 (StableHlo.after partA (begun m c)))))) (Proc.devRef .tc main_v64)) (Cert.ReferenceIdeal.Read.val_main_v69 (F := Ideal) (m ((c.tc : Thread nD τ).loc main_arg0)) (m ((c.tc : Thread nD τ).loc main_arg1)) (m ((c.tc : Thread nD τ).loc main_arg2))) := got_v64 m c
  have h4 : @Eq (FVec Ideal S2048x4x256 .f32) ((StableHlo.after partB3 (StableHlo.after partB2 (StableHlo.after partB1 (StableHlo.after partB0 (StableHlo.after partA (begun m c)))))) (Proc.devRef .tc main_v14)) (Cert.ReferenceIdeal.Read.val_main_v18 (F := Ideal) (m ((c.tc : Thread nD τ).loc main_arg0)) (m ((c.tc : Thread nD τ).loc main_arg1)) (m ((c.tc : Thread nD τ).loc main_arg2))) := (keepB3_v14 _).trans ((keepB2_v14 _).trans ((keepB1_v14 _).trans ((keepB0_v14 _).trans ((keepA_v14 _).trans (begun_v14 m c)))))
  refine (runC_v72 _).trans ?_
  rw [h0, h1, h2, h3, h4]
  exact refC_v72 (m ((c.tc : Thread nD τ).loc main_arg0)) (m ((c.tc : Thread nD τ).loc main_arg1)) (m ((c.tc : Thread nD τ).loc main_arg2))

/-- The pooled rows the host hands the launch are the reference's. -/
theorem V_v72 (m : (ℓ : Loc nD τ sig) → Buf (Elt Ideal) ℓ) (c : Dev nD) : @Eq (FVec Ideal S2048x1024 .bf16) (V m c main_v72)
    (truncf .bf16 (shapeCast S2048x1024 (Cert.ReferenceIdeal.Read.val_main_v75 (F := Ideal) (m ((c.tc : Thread nD τ).loc main_arg0)) (m ((c.tc : Thread nD τ).loc main_arg1)) (m ((c.tc : Thread nD τ).loc main_arg2)) : FVec Ideal S2048x4x256 .f32) shapeCasts_S2048x4x256_S2048x1024) bitsLt_bf16_f32) :=
  (V_parts m c _).trans ((keepD_v72 _).trans (got_v72 m c))

/-- An argument the host only re-lays. -/
theorem V_v75 (m : (ℓ : Loc nD τ sig) → Buf (Elt Ideal) ℓ) (c : Dev nD) : @Eq (FVec Ideal S4x1024x512 .bf16) (V m c main_v75) (fD_v75 (m ((c.tc : Thread nD τ).loc main_arg2))) := by
  have h : (StableHlo.after partC (StableHlo.after partB3 (StableHlo.after partB2 (StableHlo.after partB1 (StableHlo.after partB0 (StableHlo.after partA (begun m c))))))) (Proc.devRef .tc main_arg2) = (m ((c.tc : Thread nD τ).loc main_arg2)) := (keepC_arg2 _).trans ((keepB3_arg2 _).trans ((keepB2_arg2 _).trans ((keepB1_arg2 _).trans ((keepB0_arg2 _).trans ((keepA_arg2 _).trans (begun_arg2 m c))))))
  refine (V_parts m c _).trans ((runD_v75 _).trans ?_)
  rw [h]

/-- An argument the host only re-lays. -/
theorem V_v78 (m : (ℓ : Loc nD τ sig) → Buf (Elt Ideal) ℓ) (c : Dev nD) : @Eq (FVec Ideal S4x4x64x256 .bf16) (V m c main_v78) (fD_v78 (m ((c.tc : Thread nD τ).loc main_arg3))) := by
  have h : (StableHlo.after partC (StableHlo.after partB3 (StableHlo.after partB2 (StableHlo.after partB1 (StableHlo.after partB0 (StableHlo.after partA (begun m c))))))) (Proc.devRef .tc main_arg3) = (m ((c.tc : Thread nD τ).loc main_arg3)) := (keepC_arg3 _).trans ((keepB3_arg3 _).trans ((keepB2_arg3 _).trans ((keepB1_arg3 _).trans ((keepB0_arg3 _).trans ((keepA_arg3 _).trans (begun_arg3 m c))))))
  refine (V_parts m c _).trans ((runD_v78 _).trans ?_)
  rw [h]

/-- An argument the host only re-lays. -/
theorem V_v79 (m : (ℓ : Loc nD τ sig) → Buf (Elt Ideal) ℓ) (c : Dev nD) : @Eq (FVec Ideal S2048x1024 .bf16) (V m c main_v79) (fD_v79 (m ((c.tc : Thread nD τ).loc main_arg5))) := by
  have h : (StableHlo.after partC (StableHlo.after partB3 (StableHlo.after partB2 (StableHlo.after partB1 (StableHlo.after partB0 (StableHlo.after partA (begun m c))))))) (Proc.devRef .tc main_arg5) = (m ((c.tc : Thread nD τ).loc main_arg5)) := (keepC_arg5 _).trans ((keepB3_arg5 _).trans ((keepB2_arg5 _).trans ((keepB1_arg5 _).trans ((keepB0_arg5 _).trans ((keepA_arg5 _).trans (begun_arg5 m c))))))
  refine (V_parts m c _).trans ((runD_v79 _).trans ?_)
  rw [h]

theorem at_v79 (m : (ℓ : Loc nD τ sig) → Buf (Elt Ideal) ℓ) (c : Dev nD) (s : Fin 2048) (k : Fin 1024) : V m c main_v79 (ix2 s k) = (m ((c.tc : Thread nD τ).loc main_arg5)) (ix2 s k) := by
  rw [V_v79]
  pointwise [fD_v79]

theorem at_v75 (m : (ℓ : Loc nD τ sig) → Buf (Elt Ideal) ℓ) (c : Dev nD) (a : Fin 4) (k : Fin 1024) (j : Fin 512) :
    V m c main_v75 (ix3 a k j) = (m ((c.tc : Thread nD τ).loc main_arg2)) (ix2 k ⟨a.val * 512 + j.val, by omega⟩) := by
  rw [V_v75]
  pointwise [fD_v75]

theorem at_v78 (m : (ℓ : Loc nD τ sig) → Buf (Elt Ideal) ℓ) (c : Dev nD) (a g : Fin 4) (k : Fin 64) (j : Fin 256) :
    V m c main_v78 (ix4 a g k j) = (m ((c.tc : Thread nD τ).loc main_arg3)) (ix3 g ⟨a.val * 64 + k.val, by omega⟩ j) := by
  rw [V_v78]
  pointwise [fD_v78]

theorem at_v72 (m : (ℓ : Loc nD τ sig) → Buf (Elt Ideal) ℓ) (c : Dev nD) (s : Fin 2048) (g : Fin 4) (j : Fin 256) : V m c main_v72 (ix2 s ⟨256 * g.val + j.val, by omega⟩) =
    Cert.ReferenceIdeal.Read.val_main_v75 (F := Ideal) (m ((c.tc : Thread nD τ).loc main_arg0)) (m ((c.tc : Thread nD τ).loc main_arg1)) (m ((c.tc : Thread nD τ).loc main_arg2)) (ix3 s g j) := by
  rw [V_v72]
  pointwise

end Cert.KernelIdeal.Mix
-- ==== Proof.Refer.lean ====
/- The reference's lines on the reals: what each of its arrays holds at an index. -/
module

public import proofs.«01_k».proof.Proof.Point
public import proofs.«01_k».proof.Proof.Gen.ReferenceIdeal.Read
public import Idealize.ShloMosaic.Lib.Pointwise

@[expose] public section

set_option maxRecDepth 16384

noncomputable section

namespace Cert.KernelIdeal.Mix

open Cert.ReferenceIdeal Cert.ReferenceIdeal.Read
open Idealize.ShloMosaic Idealize.ShloMosaic.TcCoe

variable (x0 : FVec Ideal S2048x1024 .f32) (x1 : FVec Ideal S1x1024 .f32) (x2 : FVec Ideal S1024x2048 .f32)
  (x3 : FVec Ideal S4x256x256 .f32) (x4 : FVec Ideal S1x1024 .f32) (x5 x6 : FVec Ideal S2048x1024 .f32)

/-- The arguments, the gate's input and the pooled rows are reals. -/
structure Given (I : Inp) : Prop where
  x : ∀ (s : Fin 2048) (k : Fin 1024), x0 (ix2 s k) = ((I.X s k : ℝ) : EReal)
  gn : ∀ k : Fin 1024, x1 (ix2 0 k) = ((I.GN k : ℝ) : EReal)
  wi : ∀ (k : Fin 1024) (j : Fin 2048), x2 (ix2 k j) = ((I.WI k j : ℝ) : EReal)
  w : ∀ (g : Fin 4) (k j : Fin 256), x3 (ix3 g k j) = ((I.W g k j : ℝ) : EReal)
  sc : ∀ k : Fin 1024, x4 (ix2 0 k) = ((I.SC k : ℝ) : EReal)
  dg : ∀ (s : Fin 2048) (k : Fin 1024), x5 (ix2 s k) = ((I.DG s k : ℝ) : EReal)
  dxm : ∀ (s : Fin 2048) (k : Fin 1024), x6 (ix2 s k) = ((I.DXM s k : ℝ) : EReal)
  z : ∀ (s : Fin 2048) (k : Fin 1024), val_main_v15 (F := Ideal) x0 x1 x2 (ix2 s ⟨1024 + k.val, by omega⟩) = ((I.Z s k : ℝ) : EReal)
  p : ∀ (s : Fin 2048) (g : Fin 4) (j : Fin 256), val_main_v75 (F := Ideal) x0 x1 x2 (ix3 s g j) = ((I.P s (256 * g + j) : ℝ) : EReal)

variable {x0 x1 x2 x3 x4 x5 x6} {I : Inp} (h : Given x0 x1 x2 x3 x4 x5 x6 I)
include h

theorem ref_mr (s : Fin 2048) (g : Fin 4) (j : Fin 256) (c : Fin 1024) (hc : c.val = g.val * 256 + j) :
    val_main_v78 (F := Ideal) x0 x1 x2 x3 (ix2 s c) = ↑(I.mr g s j) := by
  have e : c = ⟨g.val * 256 + j.val, by omega⟩ := Fin.ext hc
  rw [e]
  pointwise [val_main_v78, val_main_v77, val_main_v76]
  rw [Inp.mr, mrawR, coe_sumR]
  refine Finset.sum_congr rfl fun k _ => ?_
  rw [h.w, h.p, ← EReal.coe_mul, mul_comm]

theorem ref_z (s : Fin 2048) (c : Fin 1024) : val_main_v17 (F := Ideal) x0 x1 x2 (ix2 s c) = ↑(I.Z s c) := by
  pointwise [val_main_v17]
  exact h.z s c

theorem ref_sg (s : Fin 2048) (c : Fin 1024) : val_main_v81_2 (F := Ideal) x0 x1 x2 (ix2 s c) = ↑(sgm (I.Z s c)) := by
  pointwise [val_main_v81_2, val_main_call1_v4, val_main_call1_cst_0, val_main_call1_v3, val_main_call1_v2, val_main_call1_cst, val_main_call1_v1, val_main_call1_v0]
  rw [ref_z h, ← EReal.coe_neg, Ideal.exp_coe, ← EReal.coe_one, ← EReal.coe_add, div_real _ _ (by positivity), sgm, one_div]

theorem ref_dm (s : Fin 2048) (g : Fin 4) (j : Fin 256) (c : Fin 1024) (hc : c.val = g.val * 256 + j) :
    val_main_v84 (F := Ideal) x0 x1 x2 x5 (ix2 s c) = ↑(I.dm g s j) := by
  pointwise [val_main_v84, val_main_v81_0]
  rw [h.dg, ref_z h, ref_sg h, ← EReal.coe_mul, ← EReal.coe_mul, hc, Nat.mul_comm]
  rfl

theorem ref_dz (s : Fin 2048) (g : Fin 4) (j : Fin 256) (c : Fin 1024) (hc : c.val = g.val * 256 + j) :
    val_main_v85 (F := Ideal) x0 x1 x2 x3 x4 x5 (ix2 s c) = ↑(I.dz g s j) := by
  pointwise [val_main_v85, val_main_call2_v2, val_main_call2_v1, val_main_call2_v0, val_main_v83, val_main_v80, val_main_v79, val_main_v81_1, val_main_call1_v7, val_main_call1_v6, val_main_call1_cst_1]
  rw [ref_mr h s g j c hc, h.sc, h.dg, ref_sg h, ref_z h, hc, Nat.mul_comm, ← EReal.coe_one]
  simp only [← EReal.coe_mul, ← EReal.coe_add, ← EReal.coe_sub]
  refine congrArg _ ?_
  show _ = I.DG s (256 * g + j) * (I.mr g s j * I.SC (256 * g + j)) * (sgm (I.Z s (256 * g + j)) * (1 + I.Z s (256 * g + j) * (1 - sgm (I.Z s (256 * g + j)))))
  ring

theorem ref_dmr (s : Fin 2048) (g : Fin 4) (j : Fin 256) (c : Fin 1024) (hc : c.val = g.val * 256 + j) :
    val_main_v90 (F := Ideal) x0 x1 x2 x4 x5 (ix2 s c) = ↑(I.dmr g s j) := by
  pointwise [val_main_v90, val_main_v89]
  rw [ref_dm h s g j c hc, h.sc, ← EReal.coe_mul, hc, Nat.mul_comm]
  rfl

theorem ref_dp (s : Fin 2048) (g : Fin 4) (k : Fin 256) :
    val_main_v94 (F := Ideal) x0 x1 x2 x3 x4 x5 (ix3 s g k) = ↑(I.dp g s k) := by
  pointwise [val_main_v94, val_main_v93, val_main_v92, val_main_v91]
  rw [Inp.dp, dpR, coe_sumR]
  refine Finset.sum_congr rfl fun j _ => ?_
  rw [ref_dmr h s g j _ rfl, h.w, ← EReal.coe_mul]
  rfl

omit h in
/-- A row's count: the rows of its window there are. -/
theorem count_int (w : ℕ) (hw : 1 ≤ w) (hw' : w ≤ 16) (s : Fin 2048) :
    (((IntOp.minsi (IntOp.addi 1#32 (BitVec.ofNat 32 s.val)) (BitVec.ofNat 32 w)).toInt : ℝ) : EReal) = ↑(((min (s.val + 1) w : ℕ) : ℝ)) := by
  have hs := s.isLt
  have h1 : IntOp.addi 1#32 (BitVec.ofNat 32 s.val) = BitVec.ofNat 32 (s.val + 1) := by
    show BitVec.ofNat 32 1 + BitVec.ofNat 32 s.val = _
    rw [← BitVec.ofNat_add]; congr 1; omega
  have h2 : IntOp.minsi (BitVec.ofNat 32 (s.val + 1)) (BitVec.ofNat 32 w) = BitVec.ofNat 32 (min (s.val + 1) w) := by
    unfold IntOp.minsi
    rw [BitVec.slt_eq_decide, toInt_small _ (by omega), toInt_small _ (by omega)]
    by_cases h : s.val + 1 < w
    · rw [if_pos (by simpa using (by exact_mod_cast h)), min_eq_left h.le]
    · rw [if_neg (by simpa using (by exact_mod_cast (not_lt.1 h))), min_eq_right (not_lt.1 h)]
  rw [h1, h2, toInt_small _ (by omega), Int.cast_natCast]

omit h in
theorem ref_count0 (s : Fin 2048) : val_main_v31 (F := Ideal) (ix2 s 0) = ↑(((min (s.val + 1) 2 : ℕ) : ℝ)) := by
  pointwise [val_main_v31, val_main_v30, val_main_v29, val_main_v28, val_main_c_5, val_main_v25, val_main_v24, val_main_c, val_main_v23]
  exact count_int 2 (by norm_num) (by norm_num) s

omit h in
theorem ref_count1 (s : Fin 2048) : val_main_v42 (F := Ideal) (ix2 s 0) = ↑(((min (s.val + 1) 4 : ℕ) : ℝ)) := by
  pointwise [val_main_v42, val_main_v41, val_main_v40, val_main_v39, val_main_c_6, val_main_v25, val_main_v24, val_main_c, val_main_v23]
  exact count_int 4 (by norm_num) (by norm_num) s

omit h in
theorem ref_count2 (s : Fin 2048) : val_main_v53 (F := Ideal) (ix2 s 0) = ↑(((min (s.val + 1) 8 : ℕ) : ℝ)) := by
  pointwise [val_main_v53, val_main_v52, val_main_v51, val_main_v50, val_main_c_7, val_main_v25, val_main_v24, val_main_c, val_main_v23]
  exact count_int 8 (by norm_num) (by norm_num) s

omit h in
theorem ref_count3 (s : Fin 2048) : val_main_v64 (F := Ideal) (ix2 s 0) = ↑(((min (s.val + 1) 16 : ℕ) : ℝ)) := by
  pointwise [val_main_v64, val_main_v63, val_main_v62, val_main_v61, val_main_c_8, val_main_v25, val_main_v24, val_main_c, val_main_v23]
  exact count_int 16 (by norm_num) (by norm_num) s

theorem ref_h0 (s : Fin 2048) (k : Fin 256) : val_main_v130 (F := Ideal) x0 x1 x2 x3 x4 x5 (ix2 s k) = ↑(I.hx 0 s k) := by
  pointwise [val_main_v130, val_main_v97, val_main_v96, val_main_v129]
  have hm : ((min (s.val + 1) 2 : ℕ) : ℝ) ≠ 0 := by
    have : 0 < min (s.val + 1) 2 := by omega
    positivity
  rw [ref_dp h s 0 k, ref_count0, div_real _ _ hm, Inp.hx, if_pos s.isLt, mul_one_div]
  rfl

theorem ref_n0 (s : Fin 2048) (k : Fin 256) : val_main_v131 (F := Ideal) x0 x1 x2 x3 x4 x5 (ix2 s k) = ↑(-I.hx 0 s k) := by
  pointwise [val_main_v131]
  rw [ref_h0 h, ← EReal.coe_neg]

theorem ref_h1 (s : Fin 2048) (k : Fin 256) : val_main_v121 (F := Ideal) x0 x1 x2 x3 x4 x5 (ix2 s k) = ↑(I.hx 1 s k) := by
  pointwise [val_main_v121, val_main_v99, val_main_v98, val_main_v120]
  have hm : ((min (s.val + 1) 4 : ℕ) : ℝ) ≠ 0 := by
    have : 0 < min (s.val + 1) 4 := by omega
    positivity
  rw [ref_dp h s 1 k, ref_count1, div_real _ _ hm, Inp.hx, if_pos s.isLt, mul_one_div]
  rfl

theorem ref_n1 (s : Fin 2048) (k : Fin 256) : val_main_v122 (F := Ideal) x0 x1 x2 x3 x4 x5 (ix2 s k) = ↑(-I.hx 1 s k) := by
  pointwise [val_main_v122]
  rw [ref_h1 h, ← EReal.coe_neg]

theorem ref_h2 (s : Fin 2048) (k : Fin 256) : val_main_v112 (F := Ideal) x0 x1 x2 x3 x4 x5 (ix2 s k) = ↑(I.hx 2 s k) := by
  pointwise [val_main_v112, val_main_v101, val_main_v100, val_main_v111]
  have hm : ((min (s.val + 1) 8 : ℕ) : ℝ) ≠ 0 := by
    have : 0 < min (s.val + 1) 8 := by omega
    positivity
  rw [ref_dp h s 2 k, ref_count2, div_real _ _ hm, Inp.hx, if_pos s.isLt, mul_one_div]
  rfl

theorem ref_n2 (s : Fin 2048) (k : Fin 256) : val_main_v113 (F := Ideal) x0 x1 x2 x3 x4 x5 (ix2 s k) = ↑(-I.hx 2 s k) := by
  pointwise [val_main_v113]
  rw [ref_h2 h, ← EReal.coe_neg]

theorem ref_h3 (s : Fin 2048) (k : Fin 256) : val_main_v105 (F := Ideal) x0 x1 x2 x3 x4 x5 (ix2 s k) = ↑(I.hx 3 s k) := by
  pointwise [val_main_v105, val_main_v103, val_main_v102, val_main_v104]
  have hm : ((min (s.val + 1) 16 : ℕ) : ℝ) ≠ 0 := by
    have : 0 < min (s.val + 1) 16 := by omega
    positivity
  rw [ref_dp h s 3 k, ref_count3, div_real _ _ hm, Inp.hx, if_pos s.isLt, mul_one_div]
  rfl

theorem ref_n3 (s : Fin 2048) (k : Fin 256) : val_main_v106 (F := Ideal) x0 x1 x2 x3 x4 x5 (ix2 s k) = ↑(-I.hx 3 s k) := by
  pointwise [val_main_v106]
  rw [ref_h3 h, ← EReal.coe_neg]

theorem ref_pos (s : Fin 2048) (g : Fin 4) (k : Fin 256) :
    val_main_v134 (F := Ideal) x0 x1 x2 x3 x4 x5 (ix3 s g k) = ↑(I.hx g s k) := by
  pointwise [val_main_v134, val_main_v133, val_main_v125, val_main_v124, val_main_v116, val_main_v115, val_main_v108,
   val_main_cst_10, val_main_cst_12, val_main_cst_14, val_main_cst_16, val_main_v107, val_main_v114, val_main_v123, val_main_v132]
  simp only [ref_h0 h, ref_h1 h, ref_h2 h, ref_h3 h]
  match g with
  | ⟨0, _⟩ => simp
  | ⟨1, _⟩ => simp
  | ⟨2, _⟩ => simp
  | ⟨3, _⟩ => simp

theorem ref_neg (s : Fin 2048) (g : Fin 4) (k : Fin 256) :
    val_main_v139 (F := Ideal) x0 x1 x2 x3 x4 x5 (ix3 s g k) = ↑(-I.hx g (s + 2 ^ (g.val + 1)) k) := by
  have e : val_main_v139 (F := Ideal) x0 x1 x2 x3 x4 x5 (ix3 s g k)
      = val_main_v137 (F := Ideal) x0 x1 x2 x3 x4 x5 (ix3 ⟨16 + s.val, by omega⟩ g k) := by
    pointwise [val_main_v139]
  have hz : ∀ g n k, 2048 ≤ n → I.hx g n k = 0 := fun g n k hn => if_neg (by omega)
  rw [e]
  pointwise [val_main_v137, val_main_v136, val_main_v128, val_main_v127, val_main_v119, val_main_v118, val_main_v110,
   val_main_cst_11, val_main_cst_13, val_main_cst_15, val_main_cst_17,
   val_main_v109, val_main_v117, val_main_v126, val_main_v135]
  simp only [ref_n0 h, ref_n1 h, ref_n2 h, ref_n3 h]
  match g with
  | ⟨0, _⟩ =>
    by_cases hs : s.val + 2 < 2048
    · simp [show 16 + s.val - 14 = s.val + 2 by omega, show 14 ≤ 16 + s.val by omega, hs]
    · simp [show 16 + s.val - 14 = s.val + 2 by omega, hs, hz _ _ _ (not_lt.1 hs)]
  | ⟨1, _⟩ =>
    by_cases hs : s.val + 4 < 2048
    · simp [show 16 + s.val - 12 = s.val + 4 by omega, show 12 ≤ 16 + s.val by omega, hs]
    · simp [show 16 + s.val - 12 = s.val + 4 by omega, hs, hz _ _ _ (not_lt.1 hs)]
  | ⟨2, _⟩ =>
    by_cases hs : s.val + 8 < 2048
    · simp [show 16 + s.val - 8 = s.val + 8 by omega, show 8 ≤ 16 + s.val by omega, hs]
    · simp [show 16 + s.val - 8 = s.val + 8 by omega, hs, hz _ _ _ (not_lt.1 hs)]
  | ⟨3, _⟩ =>
    by_cases hs : s.val + 16 < 2048
    · simp [Nat.add_comm 16 s.val, hs]
    · simp [Nat.add_comm 16 s.val, hs, hz _ _ _ (not_lt.1 hs)]

theorem ref_step (s : Fin 2048) (g : Fin 4) (k : Fin 256) :
    val_main_v140 (F := Ideal) x0 x1 x2 x3 x4 x5 (ix3 s g k) = ↑(I.hx g s k - I.hx g (s + 2 ^ (g.val + 1)) k) := by
  pointwise [val_main_v140]
  rw [ref_pos h, ref_neg h, ← EReal.coe_add, sub_eq_add_neg]

omit h in
theorem foldl_add_sum {ι : Type*} (l : List ι) (f : ι → EReal) (v : EReal) : l.foldl (fun r n => r + f n) v = v + (l.map f).sum := by
  induction l generalizing v with
  | nil => simp
  | cons a l ih => rw [List.foldl_cons, ih, List.map_cons, List.sum_cons, add_assoc]

omit h in
/-- A window's sum, over the window's positions. -/
theorem window_at {s t u : Shape} (window strides lo hi : Fin s.rank → ℕ) (x : FVec Ideal s .f32) (init : u.Idx → EReal)
    (e : s.ReduceWindows window strides lo hi t) (hu : 0 < u.numel) (j : t.Idx) :
    Host.reduceWindowAdd (F := Ideal) (φ := .f32) window strides lo hi x init e hu j = init (Shape.Idx.first hu) + ∑ w : (⟨s.rank, window⟩ : Shape).Idx,
      (if hin : ∀ a, lo a ≤ (j (a.cast e.1.symm)).val * strides a + (w a).val ∧ (j (a.cast e.1.symm)).val * strides a + (w a).val - lo a < s.size a
        then x (fun a => ⟨(j (a.cast e.1.symm)).val * strides a + (w a).val - lo a, (hin a).2⟩) else init (Shape.Idx.first hu)) := by
  rw [← Equiv.sum_comp (⟨s.rank, window⟩ : Shape).rowMajor.symm, Fin.sum_univ_def]
  refine Eq.trans ?_ (foldl_add_sum (List.finRange (⟨s.rank, window⟩ : Shape).numel) (fun n =>
      if hin : ∀ a, lo a ≤ (j (a.cast e.1.symm)).val * strides a + ((⟨s.rank, window⟩ : Shape).rowMajor.symm n a).val
          ∧ (j (a.cast e.1.symm)).val * strides a + ((⟨s.rank, window⟩ : Shape).rowMajor.symm n a).val - lo a < s.size a
        then x (fun a => ⟨(j (a.cast e.1.symm)).val * strides a + ((⟨s.rank, window⟩ : Shape).rowMajor.symm n a).val - lo a, (hin a).2⟩)
        else init (Shape.Idx.first hu)) (init (Shape.Idx.first hu)))
  show Host.reduceWindow (· + ·) window strides lo hi x (fun _ : (⟨0, ![]⟩ : Shape).Idx => init (Shape.Idx.first hu)) e (by decide) j = _
  unfold Host.reduceWindow
  congr!

omit h in
/-- A sum from a row to the last one, read in the window that runs down from it. -/
theorem sum_down (y : FVec Ideal S2048x4x256 .f32) (f : ℕ → ℝ) (g : Fin 4) (k : Fin 256) (hy : ∀ s : Fin 2048, y (ix3 s g k) = ↑(f s))
    (hf : ∀ n, 2048 ≤ n → f n = 0) (z : FVec Ideal S_ .f32) (hz : ∀ i, z i = 0)
    (e : S2048x4x256.ReduceWindows ![2048, 1, 1] ![1, 1, 1] ![0, 0, 0] ![2047, 0, 0] S2048x4x256) (hu : 0 < S_.numel) (s : Fin 2048) :
    Host.reduceWindowAdd (F := Ideal) ![2048, 1, 1] ![1, 1, 1] ![0, 0, 0] ![2047, 0, 0] y z e hu (ix3 s g k)
      = ↑(∑ d ∈ Finset.range 2048, f (s + d)) := by
  rw [window_at, hz, zero_add]
  refine (sum_idx3 (n0 := 2048) (n1 := 1) (n2 := 1) _).trans ?_
  simp only [Finset.univ_unique, Finset.sum_singleton]
  rw [Finset.sum_range, coe_sumR]
  refine Finset.sum_congr rfl fun d _ => ?_
  by_cases hd : s.val + d.val < 2048
  · rw [dif_pos, ← hy ⟨s.val + d.val, hd⟩]
    · refine congrArg y ?_
      funext a
      apply Fin.ext
      match a with
      | ⟨0, _⟩ => show s.val * 1 + d.val - 0 = s.val + d.val; omega
      | ⟨1, _⟩ => show g.val * 1 + 0 - 0 = g.val; omega
      | ⟨2, _⟩ => show k.val * 1 + 0 - 0 = k.val; omega
    · intro a
      match a with
      | ⟨0, _⟩ => exact ⟨Nat.zero_le _, show s.val * 1 + d.val - 0 < 2048 by omega⟩
      | ⟨1, _⟩ => exact ⟨Nat.zero_le _, show g.val * 1 + 0 - 0 < 4 by omega⟩
      | ⟨2, _⟩ => exact ⟨Nat.zero_le _, show k.val * 1 + 0 - 0 < 256 by omega⟩
  · rw [dif_neg, hf _ (by omega), EReal.coe_zero]
    intro hin
    have : s.val * 1 + d.val - 0 < 2048 := (hin 0).2
    omega

omit h in
/-- What is added at a row and taken away a window later leaves the window's sum. -/
theorem tele (f : ℕ → ℝ) (hf : ∀ n, 2048 ≤ n → f n = 0) (s w : ℕ) :
    ∑ d ∈ Finset.range 2048, (f (s + d) - f (s + d + w)) = ∑ d ∈ Finset.range w, f (s + d) := by
  have h1 := Finset.sum_range_add (fun d => f (s + d)) w 2048
  have h2 := Finset.sum_range_add (fun d => f (s + d)) 2048 w
  have h3 : ∑ d ∈ Finset.range w, f (s + (2048 + d)) = 0 := Finset.sum_eq_zero fun d _ => hf _ (by omega)
  have h4 : ∑ d ∈ Finset.range 2048, f (s + d + w) = ∑ d ∈ Finset.range 2048, f (s + (w + d)) :=
    Finset.sum_congr rfl fun d _ => by congr 1; omega
  rw [Finset.sum_sub_distrib, h4]
  rw [Nat.add_comm 2048 w] at h2
  linarith

theorem ref_du (s : Fin 2048) (g : Fin 4) (k : Fin 256) :
    val_main_v142 (F := Ideal) x0 x1 x2 x3 x4 x5 (ix3 s g k) = ↑(I.du g s k) := by
  have hz : ∀ n k, 2048 ≤ n → I.hx g n k = 0 := fun n k hn => if_neg (by omega)
  have e : val_main_v141 (F := Ideal) x0 x1 x2 x3 x4 x5 (ix3 s g k) = ↑(∑ d ∈ Finset.range (2 ^ (g.val + 1)), I.hx g (s + d) k) := by
    refine (sum_down _ (fun n => I.hx g n k - I.hx g (n + 2 ^ (g.val + 1)) k) g k (fun s => ref_step h s g k)
      (fun n hn => by rw [hz _ _ hn, hz _ _ (Nat.le_add_right_of_le hn), sub_zero]) _ (fun i => by pointwise [val_main_call3_call0_v0, val_main_call3_call0_cst]) _ _ s).trans ?_
    exact congrArg _ (tele (fun n => I.hx g n k) (fun n hn => hz n k hn) s _)
  pointwise [val_main_v142, val_main_v95]
  rw [e, ref_dp h, ← EReal.coe_neg, ← EReal.coe_add]
  refine congrArg _ ?_
  rw [Inp.du]; ring

theorem ref_rows (s : Fin 2048) (g : Fin 4) (k : Fin 256) (c : Fin 1024) (hc : c.val = g.val * 256 + k) :
    val_main_v143 (F := Ideal) x0 x1 x2 x3 x4 x5 (ix2 s c) = ↑(I.du g s k) := by
  have e : c = ⟨g.val * 256 + k.val, by omega⟩ := Fin.ext hc
  rw [e, ← ref_du h s g k]
  pointwise [val_main_v143]

theorem ref_duz (s : Fin 2048) (c : Fin 2048) : val_main_v144 (F := Ideal) x0 x1 x2 x3 x4 x5 (ix2 s c) = ↑(I.duz s c) := by
  have hc := c.isLt
  have e : val_main_v144 (F := Ideal) x0 x1 x2 x3 x4 x5 (ix2 s c) = if h : c.val < 1024 then val_main_v143 (F := Ideal) x0 x1 x2 x3 x4 x5 (ix2 s ⟨c.val, h⟩)
      else val_main_v85 (F := Ideal) x0 x1 x2 x3 x4 x5 (ix2 s ⟨c.val - 1024, by omega⟩) := by
    pointwise [val_main_v144]
  rw [e, Inp.duz]
  by_cases h1 : c.val < 1024
  · rw [dif_pos h1, if_pos h1]
    obtain ⟨g, k, hgk⟩ : ∃ (g : Fin 4) (k : Fin 256), c.val = g.val * 256 + k.val := ⟨⟨c.val / 256, by omega⟩, ⟨c.val % 256, by omega⟩, by show c.val = c.val / 256 * 256 + c.val % 256; omega⟩
    rw [ref_rows h s g k ⟨c.val, h1⟩ hgk, show c.val / 256 = g.val by omega, show c.val % 256 = k.val by omega]
  · rw [dif_neg h1, if_neg h1]
    obtain ⟨g, k, hgk⟩ : ∃ (g : Fin 4) (k : Fin 256), c.val - 1024 = g.val * 256 + k.val :=
      ⟨⟨(c.val - 1024) / 256, by omega⟩, ⟨(c.val - 1024) % 256, by omega⟩, by show c.val - 1024 = (c.val - 1024) / 256 * 256 + (c.val - 1024) % 256; omega⟩
    rw [ref_dz h s g k ⟨c.val - 1024, by omega⟩ hgk, show (c.val - 1024) / 256 = g.val by omega, show c.val % 256 = k.val by omega]

theorem ref_dh (s : Fin 2048) (c : Fin 1024) : val_main_v145 (F := Ideal) x0 x1 x2 x3 x4 x5 (ix2 s c) = ↑(I.dh s c) := by
  pointwise [val_main_v145]
  rw [Inp.dh, coe_sumR]
  refine Finset.sum_congr rfl fun j _ => ?_
  rw [ref_duz h, h.wi, ← EReal.coe_mul]

theorem ref_ms (s : Fin 2048) : val_main_v6 (F := Ideal) x0 (ix2 s 0) = ↑(msR I.X s) := by
  pointwise [val_main_v6, val_main_v5, val_main_cst_1, val_main_v4, val_main_v3, val_main_cst_0, val_main_v2, val_main_v1, val_main_cst, val_main_v0, h.x]
  rw [ofBits_1024, ofBits_eps]
  simp only [← EReal.coe_mul, ← coe_sumR]
  rw [div_real _ _ (by norm_num), ← EReal.coe_add]
  rfl

theorem ref_rms (s : Fin 2048) : val_main_v7 (F := Ideal) x0 (ix2 s 0) = ↑(rmsR I.X s) := by
  pointwise [val_main_v7]
  rw [ref_ms h, rsqrt_real _ (msR_pos _ _)]
  rfl

theorem ref_xh (s : Fin 2048) (c : Fin 1024) : val_main_v12 (F := Ideal) x0 (ix2 s c) = ↑(xhR I.X s c) := by
  pointwise [val_main_v12, val_main_v11]
  rw [ref_rms h, h.x, ← EReal.coe_mul]
  rfl

theorem ref_dhg (s : Fin 2048) (c : Fin 1024) : val_main_v150 (F := Ideal) x0 x1 x2 x3 x4 x5 (ix2 s c) = ↑(I.dh s c * I.GN c) := by
  pointwise [val_main_v150, val_main_v149]
  rw [ref_dh h, h.gn, ← EReal.coe_mul]

theorem ref_t (s : Fin 2048) : val_main_v159 (F := Ideal) x0 x1 x2 x3 x4 x5 (ix1 s) =
    ↑((∑ k : Fin 1024, I.X s k * (I.dh s k * I.GN k)) * (-0.5 * (rmsR I.X s / msR I.X s)) / 1024) := by
  pointwise [val_main_v159, val_main_cst_21, val_main_v158, val_main_v157, val_main_cst_20, val_main_v156, val_main_v153, val_main_v152, val_main_cst_19, val_main_v151,
    val_main_v10, val_main_v9, val_main_cst_2, val_main_v8, h.x, ref_dhg h, ref_rms h, ref_ms h]
  have e5 : Ideal.ofBits FTy.f32 0xBF000000#32 = ↑(-0.5 : ℝ) := by
    simp [Ideal.ofBits, Ideal.ieee, -EReal.coe_mul]
    norm_num
  have e6 : (-0.5 : ℝ) = -0.5 := rfl
  refine (Finset.sum_congr rfl fun q _ => ?_).trans (Finset.sum_singleton (fun _ => _) (0 : Fin 1))
  obtain rfl : q = 0 := Subsingleton.elim _ _
  rw [ref_rms h, ref_ms h, div_real _ _ (msR_pos _ _).ne']
  erw [e5, ofBits_1024]
  simp only [← EReal.coe_mul, ← coe_sumR]
  rw [div_real _ _ (by norm_num)]

theorem ref_dx (s : Fin 2048) (c : Fin 1024) : val_main_v169 (F := Ideal) x0 x1 x2 x3 x4 x5 x6 (ix2 s c) = ↑(I.dx s c) := by
  pointwise [val_main_v169, val_main_v164, val_main_v163, val_main_v162, val_main_v161, val_main_v160, val_main_v155, val_main_v154]
  rw [h.dxm, ref_dhg h, ref_rms h, h.x, ref_t h]
  simp only [← EReal.coe_mul, ← EReal.coe_add]
  refine congrArg _ ?_
  have hm := msR_pos I.X s
  have hr : (msR I.X s)⁻¹ = rmsR I.X s * rmsR I.X s := by
    rw [rmsR, ← mul_inv, Real.mul_self_sqrt hm.le]
  have hS : ∑ k : Fin 1024, I.dh s k * I.GN k * xhR I.X s k = (∑ k : Fin 1024, I.X s k * (I.dh s k * I.GN k)) * rmsR I.X s := by
    rw [Finset.sum_mul]
    exact Finset.sum_congr rfl fun k _ => by rw [xhR]; ring
  rw [Inp.dx, dxR, hS, div_eq_mul_inv (rmsR I.X s), hr, xhR]
  ring

theorem ref_small (q : Fin 8) (c : Fin 1024) : val_main_v166 (F := Ideal) x0 x1 x2 x3 x4 x5 (ix2 q c) =
    ↑(if q.val = 0 then ∑ s ∈ Finset.range 2048, I.dsc s c else if q.val = 1 then ∑ s ∈ Finset.range 2048, I.dgn s c else 0) := by
  pointwise [val_main_v166, val_main_v165, val_main_cst_22, val_main_v148, val_main_v147, val_main_cst_18, val_main_v146, val_main_v88, val_main_v87, val_main_cst_9, val_main_v86]
  have hc := c.isLt
  by_cases h0 : q.val = 0
  · rw [dif_pos (by omega), if_pos h0, Finset.sum_range, coe_sumR]
    refine Finset.sum_congr rfl fun s _ => ?_
    have hcc : c.val = (⟨c.val / 256, by omega⟩ : Fin 4).val * 256 + (⟨c.val % 256, by omega⟩ : Fin 256).val := by show c.val = c.val / 256 * 256 + c.val % 256; omega
    rw [ref_mr h s _ _ c hcc, ref_dm h s _ _ c hcc, ← EReal.coe_mul, mul_comm]
    rfl
  · rw [dif_neg (by omega), if_neg h0]
    by_cases h1 : q.val = 1
    · rw [dif_pos (by omega), if_pos h1, Finset.sum_range, coe_sumR]
      refine Finset.sum_congr rfl fun s _ => ?_
      rw [ref_xh h, ref_dh h, ← EReal.coe_mul, mul_comm]
      rfl
    · rw [dif_neg (by omega), if_neg h1, EReal.coe_zero]

end Cert.KernelIdeal.Mix
-- ==== Proof.Whole.lean ====
/- From finite arguments: every array the launch reads holds reals, the same reals as the reference's lines. -/
module

public import proofs.«01_k».proof.Proof.Induct
public import proofs.«01_k».proof.Proof.Prefix
public import proofs.«01_k».proof.Proof.Refer

@[expose] public section

set_option maxRecDepth 16384

noncomputable section

namespace Cert.KernelIdeal.Mix

open Idealize.ShloMosaic Idealize.ShloMosaic.TcCoe

/-! ## Reals -/

/-- An extended real that is a real. -/
def Re (x : EReal) : Prop := ∃ r : ℝ, x = ↑r

theorem Re.coe (r : ℝ) : Re (r : EReal) := ⟨r, rfl⟩
theorem Re.zero : Re 0 := ⟨0, rfl⟩
theorem Re.add {x y : EReal} : Re x → Re y → Re (x + y) := fun ⟨a, ha⟩ ⟨b, hb⟩ => ⟨a + b, by rw [ha, hb, EReal.coe_add]⟩
theorem Re.sub {x y : EReal} : Re x → Re y → Re (x - y) := fun ⟨a, ha⟩ ⟨b, hb⟩ => ⟨a - b, by rw [ha, hb, EReal.coe_sub]⟩
theorem Re.mul {x y : EReal} : Re x → Re y → Re (x * y) := fun ⟨a, ha⟩ ⟨b, hb⟩ => ⟨a * b, by rw [ha, hb, EReal.coe_mul]⟩
theorem Re.div {x : EReal} (h : Re x) (r : ℝ) (hr : r ≠ 0) : Re (Ideal.div x ↑r) := by
  obtain ⟨a, rfl⟩ := h
  exact ⟨a / r, div_real a r hr⟩
theorem Re.sum {ι : Type*} (s : Finset ι) {f : ι → EReal} (h : ∀ i, Re (f i)) : Re (∑ i ∈ s, f i) :=
  Finset.sum_induction f Re (fun _ _ => Re.add) Re.zero fun i _ => h i
theorem Re.toReal {x : EReal} : Re x → x = ↑x.toReal := fun ⟨a, ha⟩ => by rw [ha, EReal.toReal_coe]

theorem re_of_abs_lt {x : EReal} (h : max x (-x) < ⊤) : Re x := by
  induction x with
  | bot => simp at h
  | top => simp at h
  | coe r => exact ⟨r, rfl⟩

section Lines

open Cert.ReferenceIdeal Cert.ReferenceIdeal.Read

variable {x0 : FVec Ideal S2048x1024 .f32} {x1 : FVec Ideal S1x1024 .f32} {x2 : FVec Ideal S1024x2048 .f32}
  (h0 : ∀ i, Re (x0 i)) (h1 : ∀ i, Re (x1 i)) (h2 : ∀ i, Re (x2 i))

include h0

theorem re_v7 (s : Fin 2048) : Re (val_main_v7 (F := Ideal) x0 (ix2 s 0)) := by
  have hx : ∀ (s : Fin 2048) (k : Fin 1024), x0 (ix2 s k) = ((x0 (ix2 s k)).toReal : EReal) := fun s k => (h0 _).toReal
  pointwise [val_main_v7, val_main_v6, val_main_v5, val_main_cst_1, val_main_v4, val_main_v3, val_main_cst_0, val_main_v2, val_main_v1, val_main_cst, val_main_v0]
  rw [Finset.sum_congr rfl fun k _ => congrArg₂ (· * ·) (hx s k) (hx s k)]
  rw [ofBits_1024, ofBits_eps]
  simp only [← EReal.coe_mul, ← coe_sumR]
  rw [div_real _ _ (by norm_num), ← EReal.coe_add]
  rw [rsqrt_real _ (add_pos_of_nonneg_of_pos (div_nonneg (Finset.sum_nonneg fun c _ => mul_self_nonneg _) (by norm_num)) epsR_pos)]
  exact Re.coe _

include h1 h2

theorem re_v15 (s c : Fin 2048) : Re (val_main_v15 (F := Ideal) x0 x1 x2 (ix2 s c)) := by
  pointwise [val_main_v15, val_main_v14, val_main_v13, val_main_v12, val_main_v11]
  exact Re.sum _ fun k => (((h0 _).mul (re_v7 h0 s)).mul (h1 _)).mul (h2 _)

theorem re_v18 (i : S2048x4x256.Idx) : Re (val_main_v18 (F := Ideal) x0 x1 x2 i) := by
  rw [val_main_v18_apply, val_main_v16_apply, eq_ix2 (idx_main_v16 _)]
  exact re_v15 h0 h1 h2 _ _

theorem re_v19 (i : S2048x4x256.Idx) : Re (val_main_v19 (F := Ideal) x0 x1 x2 i) := by
  have hz : Re (val_main_call0_call0_v0 (F := Ideal) (Shape.Idx.first Cert.ReferenceIdeal.Facts₀.h_S_)) := by
    rw [val_main_call0_call0_v0_apply, val_main_call0_call0_cst_apply]
    exact ⟨0, Ideal.ofBits_zero_f32⟩
  unfold val_main_v19
  rw [window_at]
  refine hz.add (Re.sum _ fun w => ?_)
  split
  · exact re_v18 h0 h1 h2 _
  · exact hz

theorem re_v21' (s : Fin 2064) (g : Fin 4) (k : Fin 256) : Re (val_main_v21 (F := Ideal) x0 x1 x2 (ix3 s g k)) := by
  pointwise [val_main_v21, val_main_v20, val_main_cst_3]
  by_cases h : s.val < 16
  · rw [dif_pos h]; exact Re.zero
  · rw [dif_neg h]; exact re_v19 h0 h1 h2 _

theorem re_v21 (i : S2064x4x256.Idx) : Re (val_main_v21 (F := Ideal) x0 x1 x2 i) := by
  rw [eq_ix3 i]
  exact re_v21' h0 h1 h2 _ _ _

theorem re_v36 (s : Fin 2048) (k : Fin 256) : Re (val_main_v36 (F := Ideal) x0 x1 x2 (ix2 s k)) := by
  have e : val_main_v35 (F := Ideal) (ix2 s k) = ↑(((min (s.val + 1) 2 : ℕ) : ℝ)) := by
    pointwise [val_main_v35]
    exact ref_count0 s
  have hm : ((min (s.val + 1) 2 : ℕ) : ℝ) ≠ 0 := by
    have : 0 < min (s.val + 1) 2 := by omega
    positivity
  have hu : Re (val_main_v33 (F := Ideal) x0 x1 x2 (ix2 s k)) := by
    rw [val_main_v33_apply, val_main_v32_apply]
    exact re_v19 h0 h1 h2 _
  have hl : Re (val_main_v27 (F := Ideal) x0 x1 x2 (ix2 s k)) := by
    rw [val_main_v27_apply, val_main_v26_apply]
    exact re_v21 h0 h1 h2 _
  rw [val_main_v36_apply, e, val_main_v34_apply]
  exact Re.div (hu.sub hl) _ hm

theorem re_v47 (s : Fin 2048) (k : Fin 256) : Re (val_main_v47 (F := Ideal) x0 x1 x2 (ix2 s k)) := by
  have e : val_main_v46 (F := Ideal) (ix2 s k) = ↑(((min (s.val + 1) 4 : ℕ) : ℝ)) := by
    pointwise [val_main_v46]
    exact ref_count1 s
  have hm : ((min (s.val + 1) 4 : ℕ) : ℝ) ≠ 0 := by
    have : 0 < min (s.val + 1) 4 := by omega
    positivity
  have hu : Re (val_main_v44 (F := Ideal) x0 x1 x2 (ix2 s k)) := by
    rw [val_main_v44_apply, val_main_v43_apply]
    exact re_v19 h0 h1 h2 _
  have hl : Re (val_main_v38 (F := Ideal) x0 x1 x2 (ix2 s k)) := by
    rw [val_main_v38_apply, val_main_v37_apply]
    exact re_v21 h0 h1 h2 _
  rw [val_main_v47_apply, e, val_main_v45_apply]
  exact Re.div (hu.sub hl) _ hm

theorem re_v58 (s : Fin 2048) (k : Fin 256) : Re (val_main_v58 (F := Ideal) x0 x1 x2 (ix2 s k)) := by
  have e : val_main_v57 (F := Ideal) (ix2 s k) = ↑(((min (s.val + 1) 8 : ℕ) : ℝ)) := by
    pointwise [val_main_v57]
    exact ref_count2 s
  have hm : ((min (s.val + 1) 8 : ℕ) : ℝ) ≠ 0 := by
    have : 0 < min (s.val + 1) 8 := by omega
    positivity
  have hu : Re (val_main_v55 (F := Ideal) x0 x1 x2 (ix2 s k)) := by
    rw [val_main_v55_apply, val_main_v54_apply]
    exact re_v19 h0 h1 h2 _
  have hl : Re (val_main_v49 (F := Ideal) x0 x1 x2 (ix2 s k)) := by
    rw [val_main_v49_apply, val_main_v48_apply]
    exact re_v21 h0 h1 h2 _
  rw [val_main_v58_apply, e, val_main_v56_apply]
  exact Re.div (hu.sub hl) _ hm

theorem re_v69 (s : Fin 2048) (k : Fin 256) : Re (val_main_v69 (F := Ideal) x0 x1 x2 (ix2 s k)) := by
  have e : val_main_v68 (F := Ideal) (ix2 s k) = ↑(((min (s.val + 1) 16 : ℕ) : ℝ)) := by
    pointwise [val_main_v68]
    exact ref_count3 s
  have hm : ((min (s.val + 1) 16 : ℕ) : ℝ) ≠ 0 := by
    have : 0 < min (s.val + 1) 16 := by omega
    positivity
  have hu : Re (val_main_v66 (F := Ideal) x0 x1 x2 (ix2 s k)) := by
    rw [val_main_v66_apply, val_main_v65_apply]
    exact re_v19 h0 h1 h2 _
  have hl : Re (val_main_v60 (F := Ideal) x0 x1 x2 (ix2 s k)) := by
    rw [val_main_v60_apply, val_main_v59_apply]
    exact re_v21 h0 h1 h2 _
  rw [val_main_v69_apply, e, val_main_v67_apply]
  exact Re.div (hu.sub hl) _ hm

theorem re_v75 (s : Fin 2048) (g : Fin 4) (k : Fin 256) : Re (val_main_v75 (F := Ideal) x0 x1 x2 (ix3 s g k)) := by
  rw [val_main_v75_apply]
  refine Re.sub ?_ (re_v18 h0 h1 h2 _)
  pointwise [val_main_v74, val_main_v70, val_main_v71, val_main_v72, val_main_v73]
  by_cases e0 : g.val < 1
  · rw [dif_pos e0]; exact re_v36 h0 h1 h2 s k
  rw [dif_neg e0]
  by_cases e1 : g.val - 1 < 1
  · rw [dif_pos e1]; exact re_v47 h0 h1 h2 s k
  rw [dif_neg e1]
  by_cases e2 : g.val - 1 - 1 < 1
  · rw [dif_pos e2]; exact re_v58 h0 h1 h2 s k
  rw [dif_neg e2]
  exact re_v69 h0 h1 h2 s k

end Lines

/-! ## The reals of a launch -/

/-- A matrix of extended reals as reals, zero outside. -/
def ext2 {m n : ℕ} (f : Fin m → Fin n → EReal) (a b : ℕ) : ℝ := if h : a < m ∧ b < n then (f ⟨a, h.1⟩ ⟨b, h.2⟩).toReal else 0

theorem ext2_eq {m n : ℕ} (f : Fin m → Fin n → EReal) (hf : ∀ a b, Re (f a b)) (a : Fin m) (b : Fin n) : f a b = ↑(ext2 f a b) := by
  rw [ext2, dif_pos ⟨a.isLt, b.isLt⟩]
  exact (hf a b).toReal

section Launch

open Cert.ReferenceIdeal.Read

variable (x0 : FVec Ideal S2048x1024 .f32) (x1 : FVec Ideal S1x1024 .f32) (x2 : FVec Ideal S1024x2048 .f32)
  (x3 : FVec Ideal S4x256x256 .f32) (x4 : FVec Ideal S1x1024 .f32) (x5 x6 : FVec Ideal S2048x1024 .f32)

/-- The seven arguments as reals, with the gate's input and the pooled rows computed from them. -/
def inp : Inp where
  P := ext2 fun (s : Fin 2048) (k : Fin 1024) => val_main_v75 (F := Ideal) x0 x1 x2 (ix3 s (⟨k.val / 256, by omega⟩ : Fin 4) (⟨k.val % 256, by omega⟩ : Fin 256))
  Z := ext2 fun (s : Fin 2048) (k : Fin 1024) => val_main_v15 (F := Ideal) x0 x1 x2 (ix2 s (⟨1024 + k.val, by omega⟩ : Fin 2048))
  DG := ext2 fun (s : Fin 2048) (k : Fin 1024) => x5 (ix2 s k)
  X := ext2 fun (s : Fin 2048) (k : Fin 1024) => x0 (ix2 s k)
  DXM := ext2 fun (s : Fin 2048) (k : Fin 1024) => x6 (ix2 s k)
  WI := ext2 fun (k : Fin 1024) (j : Fin 2048) => x2 (ix2 k j)
  W := fun g => ext2 fun (k : Fin 256) (j : Fin 256) => if h : g < 4 then x3 (ix3 (⟨g, h⟩ : Fin 4) k j) else 0
  SC := ext2 (fun (_ : Fin 1) (k : Fin 1024) => x4 (ix2 0 k)) 0
  GN := ext2 (fun (_ : Fin 1) (k : Fin 1024) => x1 (ix2 0 k)) 0

theorem given_inp (h0 : ∀ i, Re (x0 i)) (h1 : ∀ i, Re (x1 i)) (h2 : ∀ i, Re (x2 i)) (h3 : ∀ i, Re (x3 i)) (h4 : ∀ i, Re (x4 i))
    (h5 : ∀ i, Re (x5 i)) (h6 : ∀ i, Re (x6 i)) : Given x0 x1 x2 x3 x4 x5 x6 (inp x0 x1 x2 x3 x4 x5 x6) where
  x := ext2_eq _ fun _ _ => h0 _
  gn := ext2_eq (fun (_ : Fin 1) (k : Fin 1024) => x1 (ix2 0 k)) (fun _ _ => h1 _) 0
  wi := ext2_eq _ fun _ _ => h2 _
  w := fun g k j => by
    have e := ext2_eq (fun (k : Fin 256) (j : Fin 256) => if h : g.val < 4 then x3 (ix3 (⟨g.val, h⟩ : Fin 4) k j) else 0)
      (fun k j => by rw [dif_pos g.isLt]; exact h3 _) k j
    rw [dif_pos g.isLt] at e
    exact e
  sc := ext2_eq (fun (_ : Fin 1) (k : Fin 1024) => x4 (ix2 0 k)) (fun _ _ => h4 _) 0
  dg := ext2_eq _ fun _ _ => h5 _
  dxm := ext2_eq _ fun _ _ => h6 _
  z := ext2_eq _ fun _ _ => re_v15 h0 h1 h2 _ _
  p := fun s g j => by
    have e := ext2_eq (fun (s : Fin 2048) (k : Fin 1024) => val_main_v75 (F := Ideal) x0 x1 x2 (ix3 s (⟨k.val / 256, by omega⟩ : Fin 4) (⟨k.val % 256, by omega⟩ : Fin 256)))
      (fun _ _ => re_v75 h0 h1 h2 _ _ _) s ⟨256 * g.val + j.val, by omega⟩
    have eg : (⟨(256 * g.val + j.val) / 256, by omega⟩ : Fin 4) = g := Fin.ext (by show (256 * g.val + j.val) / 256 = g.val; omega)
    have ej : (⟨(256 * g.val + j.val) % 256, by omega⟩ : Fin 256) = j := Fin.ext (by show (256 * g.val + j.val) % 256 = j.val; omega)
    refine Eq.trans ?_ e
    show _ = val_main_v75 (F := Ideal) x0 x1 x2 (ix3 s (⟨(256 * g.val + j.val) / 256, by omega⟩ : Fin 4) (⟨(256 * g.val + j.val) % 256, by omega⟩ : Fin 256))
    rw [eg, ej]

end Launch

section Region

open Cert.KernelIdeal Cert.KernelIdeal.Gen

variable (m : (ℓ : Loc nD τ sig) → Buf (Elt Ideal) ℓ) (c : Dev nD)

/-- The reals of a memory's arguments. -/
abbrev inpOf : Inp := inp (m ((c.tc : Thread nD τ).loc main_arg0)) (m ((c.tc : Thread nD τ).loc main_arg1)) (m ((c.tc : Thread nD τ).loc main_arg2))
  (m ((c.tc : Thread nD τ).loc main_arg3)) (m ((c.tc : Thread nD τ).loc main_arg4)) (m ((c.tc : Thread nD τ).loc main_arg5)) (m ((c.tc : Thread nD τ).loc main_arg6))

theorem arrays_of {I : Inp} (h : Given (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) (m ((c.tc : Thread nD τ).loc main_arg6)) I) :
    Arrays m c I where
  dg := fun s k => (at_v79 m c s k).trans (h.dg s k)
  z := fun s k k' e => by
    have ek : k' = ⟨1024 + k.val, by omega⟩ := Fin.ext e
    rw [ek]
    exact (congrFun (V_v12 m c) _).trans (h.z s k)
  p := fun s k => by
    obtain ⟨g, j, rfl⟩ : ∃ (g : Fin 4) (j : Fin 256), k = ⟨256 * g.val + j.val, by omega⟩ :=
      ⟨⟨k.val / 256, by omega⟩, ⟨k.val % 256, by omega⟩, Fin.ext (by show k.val = 256 * (k.val / 256) + k.val % 256; omega)⟩
    exact (at_v72 m c s g j).trans (h.p s g j)
  w := fun a g k j => by
    refine (at_v78 m c a g k j).trans ((h.w g ⟨a.val * 64 + k.val, by omega⟩ j).trans ?_)
    rw [Nat.mul_comm 64]
  sc := fun k => (congrFun (V_main_arg4 m c) _).trans (h.sc k)
  wi := fun a k j => by
    refine (at_v75 m c a k j).trans ((h.wi k ⟨a.val * 512 + j.val, by omega⟩).trans ?_)
    rw [Nat.mul_comm 512]
  x := fun s k => (congrFun (V_main_arg0 m c) _).trans (h.x s k)
  dxm := fun s k => (congrFun (V_main_arg6 m c) _).trans (h.dxm s k)
  gn := fun k => (congrFun (V_main_arg1 m c) _).trans (h.gn k)

end Region

end Cert.KernelIdeal.Mix
-- ==== Proof.Finite.lean ====
/- The precondition read: where it holds, every entry of every argument is a real. -/
module

public import proofs.«01_k».proof.Pre_finite
public import proofs.«01_k».proof.Proof.Whole
public import Idealize.ShloMosaic.Lib.ReduceAll
public import Idealize.ShloMosaic.Lib.Affine

@[expose] public section

set_option maxRecDepth 16384

noncomputable section

namespace Cert.Proof

open Idealize.ShloMosaic Idealize.ShloMosaic.TcCoe Cert.Pre_finite

instance pre_facts : Cert.Pre_finite.Facts where
  bcast_S_S2048x1024 := by decide
  reducesTo_S2048x1024_S_d0_1 := by decide
  h_S_ := by decide
  bcast_S_S1x1024 := by decide
  reducesTo_S1x1024_S_d0_1 := by decide
  bcast_S_S1024x2048 := by decide
  reducesTo_S1024x2048_S_d0_1 := by decide
  bcast_S_S4x256x256 := by decide
  reducesTo_S4x256x256_S_d0_1_2 := by decide

instance : Subsingleton S_.Idx := ⟨fun a b => funext fun i => i.elim0⟩

/-- One argument's line of the precondition: all its entries are below the infinity in absolute value. -/
theorem entries_real {s : Shape} (x : FVec Ideal s .f32) (h : S_.BroadcastsInDim s (![] : Fin 0 → Fin s.rank)) {axes : List (Fin s.rank)} (hr : s.ReducesTo axes S_)
    (e : Host.reduce IntOp.andi (cmpf .olt (Host.absf x) (broadcastInDim s ![] h (constant (F := Ideal) S_ .f32 0x7F800000#32)))
      (constantI S_ 1 1#1) hr Facts.h_S_ = fun _ => 1#1) (i : s.Idx) : Cert.KernelIdeal.Mix.Re (x i) := by
  have hi := Host.reduce_andi_all _ _ hr Facts.h_S_ (fun a => a.elim0) (congrFun e _) i
  have hc : Ideal.cmp .olt (max (x i) (-(x i))) (broadcastInDim s ![] h (constant (F := Ideal) S_ .f32 0x7F800000#32) i) = 1#1 := hi
  rw [broadcastInDim_apply _ h _ i (fun a => a.elim0) (fun a => a.elim0)] at hc
  have ht : (constant (F := Ideal) S_ .f32 0x7F800000#32 : FVec Ideal S_ .f32) (fun a => a.elim0) = ⊤ := by
    show Ideal.ofBits .f32 0x7F800000#32 = ⊤
    simp [Ideal.ofBits, Ideal.ieee]
  rw [ht] at hc
  refine Cert.KernelIdeal.Mix.re_of_abs_lt ?_
  by_contra hn
  simp [Ideal.cmp, hn] at hc

theorem pre_real (x0 : FVec Ideal S2048x1024 .f32) (x1 : FVec Ideal S1x1024 .f32) (x2 : FVec Ideal S1024x2048 .f32) (x3 : FVec Ideal S4x256x256 .f32) (x4 : FVec Ideal S1x1024 .f32) (x5 : FVec Ideal S2048x1024 .f32) (x6 : FVec Ideal S2048x1024 .f32)
    (e : Cert.Pre_finite.fn (F := Ideal) x0 x1 x2 x3 x4 x5 x6 = fun _ => 1#1) :
    (∀ i, Cert.KernelIdeal.Mix.Re (x0 i)) ∧ (∀ i, Cert.KernelIdeal.Mix.Re (x1 i)) ∧ (∀ i, Cert.KernelIdeal.Mix.Re (x2 i)) ∧ (∀ i, Cert.KernelIdeal.Mix.Re (x3 i))
      ∧ (∀ i, Cert.KernelIdeal.Mix.Re (x4 i)) ∧ (∀ i, Cert.KernelIdeal.Mix.Re (x5 i)) ∧ (∀ i, Cert.KernelIdeal.Mix.Re (x6 i)) := by
  have split : ∀ {a b : IVec S_ 1}, (andi a b = fun _ => 1#1) → (a = fun _ => 1#1) ∧ (b = fun _ => 1#1) := fun h =>
    ⟨funext fun j => (IntOp.andi_eq_one.1 (congrFun h j)).1, funext fun j => (IntOp.andi_eq_one.1 (congrFun h j)).2⟩
  obtain ⟨e, e6⟩ := split e
  obtain ⟨e, e5⟩ := split e
  obtain ⟨e, e4⟩ := split e
  obtain ⟨e, e3⟩ := split e
  obtain ⟨e, e2⟩ := split e
  obtain ⟨e0, e1⟩ := split e
  exact ⟨entries_real x0 _ _ e0, entries_real x1 _ _ e1, entries_real x2 _ _ e2, entries_real x3 _ _ e3, entries_real x4 _ _ e4, entries_real x5 _ _ e5, entries_real x6 _ _ e6⟩

end Cert.Proof
-- ==== Proof.Blocks.lean ====
/- Entries of blocks, of what stores leave and of what a later load reads back, and a sum over rows taken a tile at a time. -/
module

public import Idealize.ShloMosaic.Lib.Pipeline.ValueKit
public import Idealize.ShloMosaic.Lib.Pipeline.ReadBack
public import Idealize.ShloMosaic.Lib.Pointwise

@[expose] public section

noncomputable section

namespace Cert.Blocks

open Idealize.ShloMosaic Idealize.SL.Sem

/-- An entry the only store, of the whole block, holds. -/
theorem canon_whole {e : EltTy} {m n : ℕ} (inb : ∀ i, (![0, 0] : Fin 2 → ℕ) i + (![m, n] : Fin 2 → ℕ) i ≤ (⟨2, ![m, n]⟩ : Shape).size i)
    (w : (⟨2, ![m, n]⟩ : Shape).Idx → Elt Ideal e)
    (L : List (View.Piece (Elt Ideal) ⟨2, ![m, n]⟩ e)) (r : Fin m) (c : Fin n) :
    View.canon (⟨Rect.unit (s := ⟨2, ![m, n]⟩) ![0, 0] ![m, n] inb, w⟩ :: L) (ix2 r c) = w (ix2 r c) := by
  have : (ix2 r c : (⟨2, ![m, n]⟩ : Shape).Idx) = (Rect.unit (s := ⟨2, ![m, n]⟩) ![0, 0] ![m, n] inb).emb (ix2 r c) := by
    funext i
    apply Fin.ext
    match i with
    | ⟨0, _⟩ => show r.val = 0 + 1 * r.val; omega
    | ⟨1, _⟩ => show c.val = 0 + 1 * c.val; omega
  refine (congrArg (View.canon _) this).trans ?_
  rw [View.canon_cons_emb]

/-- An entry the last store, of one layer, holds. -/
theorem canon_layer {e : EltTy} {n p q a : ℕ} (inb : ∀ i, (![a, 0, 0] : Fin 3 → ℕ) i + (![1, p, q] : Fin 3 → ℕ) i ≤ (⟨3, ![n, p, q]⟩ : Shape).size i)
    (w : (⟨3, ![1, p, q]⟩ : Shape).Idx → Elt Ideal e)
    (L : List (View.Piece (Elt Ideal) ⟨3, ![n, p, q]⟩ e)) (s : Fin n) (r : Fin p) (c : Fin q) (h : s.val = a) :
    View.canon (⟨Rect.unit (s := ⟨3, ![n, p, q]⟩) ![a, 0, 0] ![1, p, q] inb, w⟩ :: L) (ix3 s r c) = w (ix3 0 r c) := by
  have : (ix3 s r c : (⟨3, ![n, p, q]⟩ : Shape).Idx) = (Rect.unit (s := ⟨3, ![n, p, q]⟩) ![a, 0, 0] ![1, p, q] inb).emb (ix3 0 r c) := by
    funext i
    apply Fin.ext
    match i with
    | ⟨0, _⟩ => show s.val = a + 1 * 0; omega
    | ⟨1, _⟩ => show r.val = 0 + 1 * r.val; omega
    | ⟨2, _⟩ => show c.val = 0 + 1 * c.val; omega
  refine (congrArg (View.canon _) this).trans ?_
  rw [View.canon_cons_emb]

/-- An entry of another layer than the last store's. -/
theorem canon_other {e : EltTy} {n p q a : ℕ} (inb : ∀ i, (![a, 0, 0] : Fin 3 → ℕ) i + (![1, p, q] : Fin 3 → ℕ) i ≤ (⟨3, ![n, p, q]⟩ : Shape).size i)
    (w : (⟨3, ![1, p, q]⟩ : Shape).Idx → Elt Ideal e)
    (L : List (View.Piece (Elt Ideal) ⟨3, ![n, p, q]⟩ e)) (s : Fin n) (r : Fin p) (c : Fin q) (h : s.val ≠ a) :
    View.canon (⟨Rect.unit (s := ⟨3, ![n, p, q]⟩) ![a, 0, 0] ![1, p, q] inb, w⟩ :: L) (ix3 s r c) = View.canon L (ix3 s r c) := by
  refine View.canon_cons_of_not_mem _ _ fun hm => ?_
  have h0 : a ≤ s.val ∧ s.val < a + 1 := (Rect.mem_set_unit (inb := inb)).1 hm 0
  omega

/-- Four stores, of a layer each. -/
theorem canon_four {e : EltTy} {p q : ℕ} (i3 : ∀ i, (![3, 0, 0] : Fin 3 → ℕ) i + (![1, p, q] : Fin 3 → ℕ) i ≤ (⟨3, ![4, p, q]⟩ : Shape).size i)
    (i2 : ∀ i, (![2, 0, 0] : Fin 3 → ℕ) i + (![1, p, q] : Fin 3 → ℕ) i ≤ (⟨3, ![4, p, q]⟩ : Shape).size i)
    (i1 : ∀ i, (![1, 0, 0] : Fin 3 → ℕ) i + (![1, p, q] : Fin 3 → ℕ) i ≤ (⟨3, ![4, p, q]⟩ : Shape).size i)
    (i0 : ∀ i, (![0, 0, 0] : Fin 3 → ℕ) i + (![1, p, q] : Fin 3 → ℕ) i ≤ (⟨3, ![4, p, q]⟩ : Shape).size i)
    (w3 w2 w1 w0 : (⟨3, ![1, p, q]⟩ : Shape).Idx → Elt Ideal e) (s : Fin 4) (r : Fin p) (c : Fin q) (z : Elt Ideal e)
    (h3 : s.val = 3 → w3 (ix3 0 r c) = z) (h2 : s.val = 2 → w2 (ix3 0 r c) = z) (h1 : s.val = 1 → w1 (ix3 0 r c) = z) (h0 : s.val = 0 → w0 (ix3 0 r c) = z) :
    View.canon [⟨Rect.unit (s := ⟨3, ![4, p, q]⟩) ![3, 0, 0] ![1, p, q] i3, w3⟩, ⟨Rect.unit (s := ⟨3, ![4, p, q]⟩) ![2, 0, 0] ![1, p, q] i2, w2⟩,
      ⟨Rect.unit (s := ⟨3, ![4, p, q]⟩) ![1, 0, 0] ![1, p, q] i1, w1⟩, ⟨Rect.unit (s := ⟨3, ![4, p, q]⟩) ![0, 0, 0] ![1, p, q] i0, w0⟩] (ix3 s r c) = z := by
  by_cases e3 : s.val = 3
  · rw [canon_layer _ _ _ _ _ _ e3, h3 e3]
  rw [canon_other _ _ _ _ _ _ e3]
  by_cases e2 : s.val = 2
  · rw [canon_layer _ _ _ _ _ _ e2, h2 e2]
  rw [canon_other _ _ _ _ _ _ e2]
  by_cases e1 : s.val = 1
  · rw [canon_layer _ _ _ _ _ _ e1, h1 e1]
  rw [canon_other _ _ _ _ _ _ e1]
  have e0 : s.val = 0 := by omega
  rw [canon_layer _ _ _ _ _ _ e0, h0 e0]

/-- A block of columns read back from stores. -/
theorem readCov_cols {sig : RefSig} {κ : Kind} {sp : Space} {e : EltTy} {m n q b : ℕ}
    (inb : ∀ i, (![0, b] : Fin 2 → ℕ) i + (![m, q] : Fin 2 → ℕ) i ≤ (⟨2, ![m, n]⟩ : Shape).size i)
    (v : View sig κ sp ⟨2, ![m, n]⟩ e) (L : List (View.Piece (Elt Ideal) ⟨2, ![m, n]⟩ e)) (x : Fin m) (y : Fin q) (hc : b + y.val < n) :
    v.readCov L (Rect.unit (s := ⟨2, ![m, n]⟩) ![0, b] ![m, q] inb).toLoadRect (ix2 x y) = View.canon L (ix2 x ⟨b + y.val, hc⟩) := by
  rw [View.readCov_eq_canon']
  refine congrArg (View.canon L) (funext fun i => Fin.ext ?_)
  match i with
  | ⟨0, _⟩ => show 0 + 1 * x.val = x.val; omega
  | ⟨1, _⟩ => show b + 1 * y.val = b + y.val; omega

/-- Four stores, of a layer each, over one group. -/
theorem canon_layers {e : EltTy} {p q : ℕ} (i3 : ∀ i, (![3, 0, 0, 0] : Fin 4 → ℕ) i + (![1, 1, p, q] : Fin 4 → ℕ) i ≤ (⟨4, ![4, 1, p, q]⟩ : Shape).size i)
    (i2 : ∀ i, (![2, 0, 0, 0] : Fin 4 → ℕ) i + (![1, 1, p, q] : Fin 4 → ℕ) i ≤ (⟨4, ![4, 1, p, q]⟩ : Shape).size i)
    (i1 : ∀ i, (![1, 0, 0, 0] : Fin 4 → ℕ) i + (![1, 1, p, q] : Fin 4 → ℕ) i ≤ (⟨4, ![4, 1, p, q]⟩ : Shape).size i)
    (i0 : ∀ i, (![0, 0, 0, 0] : Fin 4 → ℕ) i + (![1, 1, p, q] : Fin 4 → ℕ) i ≤ (⟨4, ![4, 1, p, q]⟩ : Shape).size i)
    (w3 w2 w1 w0 : (⟨4, ![1, 1, p, q]⟩ : Shape).Idx → Elt Ideal e) (s : Fin 4) (g : Fin 1) (r : Fin p) (c : Fin q) (z : Elt Ideal e)
    (h3 : s.val = 3 → w3 (ix4 0 0 r c) = z) (h2 : s.val = 2 → w2 (ix4 0 0 r c) = z) (h1 : s.val = 1 → w1 (ix4 0 0 r c) = z) (h0 : s.val = 0 → w0 (ix4 0 0 r c) = z) :
    View.canon [⟨Rect.unit (s := ⟨4, ![4, 1, p, q]⟩) ![3, 0, 0, 0] ![1, 1, p, q] i3, w3⟩, ⟨Rect.unit (s := ⟨4, ![4, 1, p, q]⟩) ![2, 0, 0, 0] ![1, 1, p, q] i2, w2⟩,
      ⟨Rect.unit (s := ⟨4, ![4, 1, p, q]⟩) ![1, 0, 0, 0] ![1, 1, p, q] i1, w1⟩, ⟨Rect.unit (s := ⟨4, ![4, 1, p, q]⟩) ![0, 0, 0, 0] ![1, 1, p, q] i0, w0⟩] (ix4 s g r c) = z := by
  have hit : ∀ (a : ℕ) (inb : ∀ i, (![a, 0, 0, 0] : Fin 4 → ℕ) i + (![1, 1, p, q] : Fin 4 → ℕ) i ≤ (⟨4, ![4, 1, p, q]⟩ : Shape).size i)
      (w : (⟨4, ![1, 1, p, q]⟩ : Shape).Idx → Elt Ideal e) (L : List (View.Piece (Elt Ideal) ⟨4, ![4, 1, p, q]⟩ e)), s.val = a → w (ix4 0 0 r c) = z →
      View.canon (⟨Rect.unit (s := ⟨4, ![4, 1, p, q]⟩) ![a, 0, 0, 0] ![1, 1, p, q] inb, w⟩ :: L) (ix4 s g r c) = z := by
    intro a inb w L h hw
    have : (ix4 s g r c : (⟨4, ![4, 1, p, q]⟩ : Shape).Idx) = (Rect.unit (s := ⟨4, ![4, 1, p, q]⟩) ![a, 0, 0, 0] ![1, 1, p, q] inb).emb (ix4 0 0 r c) := by
      funext i
      apply Fin.ext
      match i with
      | ⟨0, _⟩ => show s.val = a + 1 * 0; omega
      | ⟨1, _⟩ => show g.val = 0 + 1 * 0; omega
      | ⟨2, _⟩ => show r.val = 0 + 1 * r.val; omega
      | ⟨3, _⟩ => show c.val = 0 + 1 * c.val; omega
    refine (congrArg (View.canon _) this).trans ?_
    rw [View.canon_cons_emb, hw]
  have miss : ∀ (a : ℕ) (inb : ∀ i, (![a, 0, 0, 0] : Fin 4 → ℕ) i + (![1, 1, p, q] : Fin 4 → ℕ) i ≤ (⟨4, ![4, 1, p, q]⟩ : Shape).size i)
      (w : (⟨4, ![1, 1, p, q]⟩ : Shape).Idx → Elt Ideal e) (L : List (View.Piece (Elt Ideal) ⟨4, ![4, 1, p, q]⟩ e)), s.val ≠ a → View.canon L (ix4 s g r c) = z →
      View.canon (⟨Rect.unit (s := ⟨4, ![4, 1, p, q]⟩) ![a, 0, 0, 0] ![1, 1, p, q] inb, w⟩ :: L) (ix4 s g r c) = z := by
    intro a inb w L h hL
    refine (View.canon_cons_of_not_mem _ _ fun hm => ?_).trans hL
    have h0 : a ≤ s.val ∧ s.val < a + 1 := (Rect.mem_set_unit (inb := inb)).1 hm 0
    omega
  by_cases e3 : s.val = 3
  · exact hit 3 i3 w3 _ e3 (h3 e3)
  refine miss 3 i3 w3 _ e3 ?_
  by_cases e2 : s.val = 2
  · exact hit 2 i2 w2 _ e2 (h2 e2)
  refine miss 2 i2 w2 _ e2 ?_
  by_cases e1 : s.val = 1
  · exact hit 1 i1 w1 _ e1 (h1 e1)
  refine miss 1 i1 w1 _ e1 ?_
  exact hit 0 i0 w0 _ (by omega) (h0 (by omega))

/-- A block of rows read back from stores. -/
theorem readCov_rows {sig : RefSig} {κ : Kind} {sp : Space} {e : EltTy} {m n p b : ℕ}
    (inb : ∀ i, (![b, 0] : Fin 2 → ℕ) i + (![p, n] : Fin 2 → ℕ) i ≤ (⟨2, ![m, n]⟩ : Shape).size i)
    (v : View sig κ sp ⟨2, ![m, n]⟩ e) (L : List (View.Piece (Elt Ideal) ⟨2, ![m, n]⟩ e)) (x : Fin p) (y : Fin n) (hc : b + x.val < m) :
    v.readCov L (Rect.unit (s := ⟨2, ![m, n]⟩) ![b, 0] ![p, n] inb).toLoadRect (ix2 x y) = View.canon L (ix2 ⟨b + x.val, hc⟩ y) := by
  rw [View.readCov_eq_canon']
  refine congrArg (View.canon L) (funext fun i => Fin.ext ?_)
  match i with
  | ⟨0, _⟩ => show b + 1 * x.val = b + x.val; omega
  | ⟨1, _⟩ => show 0 + 1 * y.val = y.val; omega

/-- Two tiles of rows are all the rows. -/
theorem two_tiles {M : Type} [AddCommMonoid M] (n : ℕ) (f : Fin (n + n) → M) :
    (∑ r : Fin n, f ⟨r.val, by omega⟩) + ∑ r : Fin n, f ⟨n + r.val, by omega⟩ = ∑ r, f r :=
  (Fin.sum_univ_add f).symm

end Cert.Blocks

end
-- ==== Proof.Input.lean ====
/- The gradients of the three projections' weights: what a call leaves is the reference's gradient. -/
module

public import proofs.«01_k».proof.Defs
public import proofs.«01_k».proof.Proof.Gen.Kernel2.Frame
public import proofs.«01_k».proof.Proof.Gen.Kernel2Ideal.Value
public import proofs.«01_k».proof.Proof.Gen.Kernel3.Frame
public import proofs.«01_k».proof.Proof.Gen.Kernel3Ideal.Value
public import proofs.«01_k».proof.Proof.Gen.Kernel4.Frame
public import proofs.«01_k».proof.Proof.Gen.Kernel4Ideal.Value
public import proofs.«01_k».proof.Proof.Gen.Reference2Ideal.Run
public import proofs.«01_k».proof.Proof.Gen.Reference2Ideal.Read
public import proofs.«01_k».proof.Proof.Blocks

@[expose] public section

set_option maxRecDepth 16384

noncomputable section

namespace Cert.Kernel2Ideal.Grad
open Cert.Kernel2Ideal Cert.Kernel2Ideal.Gen Cert.Blocks
open Idealize.ShloMosaic Idealize.ShloMosaic.TcCoe Idealize.SL.Sem

variable (m : (ℓ : Loc nD τ sig) → Buf (Elt Ideal) ℓ) (c : Dev nD)

/-- A tile's product on top of what was there. -/
theorem pay2_at (v : Vec Ideal S512x2048 .f32) (a : Vec Ideal S1024x512 .bf16) (b : Vec Ideal S1024x2048 .bf16) (k : Fin 512) (j : Fin 2048) :
    k0_pay2 v a b (ix2 k j) = v (ix2 k j) + ∑ r : Fin 1024, a (ix2 r k) * b (ix2 r j) := by
  pointwise [k0_pay2]

theorem pay1_at (k : Fin 512) (j : Fin 2048) : k0_pay1 (F := Ideal) (ix2 k j) = 0 := by
  pointwise [k0_pay1]

theorem pay3_at (v : Vec Ideal S512x512 .f32) (k j : Fin 512) : k0_pay3 v (ix3 0 k j) = v (ix2 k j) := by
  pointwise [k0_pay3]
theorem pay4_at (v : Vec Ideal S512x512 .f32) (k j : Fin 512) : k0_pay4 v (ix3 0 k j) = v (ix2 k j) := by
  pointwise [k0_pay4]
theorem pay5_at (v : Vec Ideal S512x512 .f32) (k j : Fin 512) : k0_pay5 v (ix3 0 k j) = v (ix2 k j) := by
  pointwise [k0_pay5]
theorem pay6_at (v : Vec Ideal S512x512 .f32) (k j : Fin 512) : k0_pay6 v (ix3 0 k j) = v (ix2 k j) := by
  pointwise [k0_pay6]

/-- The two blocks a point is handed, and the arrays they are blocks of. -/
abbrev blkX (t : Fin cfg0.N) : Vec Ideal S1024x512 .bf16 := iblk m c 0 t
abbrev blkY (t : Fin cfg0.N) : Vec Ideal S1024x2048 .bf16 := iblk m c 1 t
abbrev arrX : Vec Ideal S2048x1024 .bf16 := V m c main_v12
abbrev arrY : Vec Ideal S2048x2048 .bf16 := V m c main_v13

/-- What a first tile leaves in the accumulator. -/
theorem even_at (t : Fin cfg0.N) (h0 : t.val % 2 = 0) (k : Fin 512) (j : Fin 2048) :
    (outsAt0 m c t.val t.isLt).2 (ix2 k j) = ∑ r : Fin 1024, blkX m c t (ix2 r k) * blkY m c t (ix2 r j) := by
  rw [outsAt0_A m c t h0 (by omega)]
  dsimp only
  frame_out
  exact (pay2_at _ _ _ k j).trans (by rw [pay1_at, zero_add])

/-- What a second tile leaves in the output's block. -/
theorem odd_at (t : Fin cfg0.N) (h0 : t.val % 2 = 1) (s : Fin 4) (k j : Fin 512) :
    (outsAt0 m c t.val t.isLt).1 (ix3 s k j) = (outsAt0 m c (t.val - 1) (Nat.lt_of_le_of_lt (Nat.sub_le _ _) t.isLt)).2 (ix2 k ⟨512 * s.val + j.val, by omega⟩)
      + ∑ r : Fin 1024, blkX m c t (ix2 r k) * blkY m c t (ix2 r ⟨512 * s.val + j.val, by omega⟩) := by
  rw [outsAt0_B m c t (by omega) h0]
  dsimp only
  frame_out
  generalize (outsAt0 m c (t.val - 1) (Nat.lt_of_le_of_lt (Nat.sub_le _ _) t.isLt)).2 = acc
  refine canon_four _ _ _ _ _ _ _ _ s k j _ (fun h => ?_) (fun h => ?_) (fun h => ?_) (fun h => ?_)
  · refine (pay6_at _ k j).trans ((readCov_cols _ _ _ k j (by omega)).trans ((canon_whole _ _ _ k _).trans ((pay2_at _ _ _ k _).trans ?_)))
    rw [read_unread_whole, show (⟨512 * s.val + j.val, by omega⟩ : Fin 2048) = ⟨1536 + j.val, by omega⟩ from Fin.ext (by dsimp only; omega)]
  · refine (pay5_at _ k j).trans ((readCov_cols _ _ _ k j (by omega)).trans ((canon_whole _ _ _ k _).trans ((pay2_at _ _ _ k _).trans ?_)))
    rw [read_unread_whole, show (⟨512 * s.val + j.val, by omega⟩ : Fin 2048) = ⟨1024 + j.val, by omega⟩ from Fin.ext (by dsimp only; omega)]
  · refine (pay4_at _ k j).trans ((readCov_cols _ _ _ k j (by omega)).trans ((canon_whole _ _ _ k _).trans ((pay2_at _ _ _ k _).trans ?_)))
    rw [read_unread_whole, show (⟨512 * s.val + j.val, by omega⟩ : Fin 2048) = ⟨512 + j.val, by omega⟩ from Fin.ext (by dsimp only; omega)]
  · refine (pay3_at _ k j).trans ((readCov_cols _ _ _ k j (by omega)).trans ((canon_whole _ _ _ k _).trans ((pay2_at _ _ _ k _).trans ?_)))
    rw [read_unread_whole, show (⟨512 * s.val + j.val, by omega⟩ : Fin 2048) = ⟨0 + j.val, by omega⟩ from Fin.ext (by dsimp only; omega)]

/-- Which block of its array each point is handed. -/
theorem blocks_of : ∀ t : Fin cfg0.N, win0_0.index t (0 : Fin 2) = t.val % 2 ∧ win0_0.index t (1 : Fin 2) = t.val / 2 ∧ win0_1.index t (0 : Fin 2) = t.val % 2 ∧ win0_1.index t (1 : Fin 2) = 0 :=
  (by decide +kernel : ∀ t : Fin grid0.N, _)

theorem rows_at (t : Fin cfg0.N) (r : Fin 1024) (k : Fin 512) (hr : 1024 * (t.val % 2) + r.val < 2048) (hk : 512 * (t.val / 2) + k.val < 1024) :
    blkX m c t (ix2 r k) = arrX m c (ix2 ⟨1024 * (t.val % 2) + r.val, hr⟩ ⟨512 * (t.val / 2) + k.val, hk⟩) := by
  obtain ⟨e0, e1, -, -⟩ := blocks_of t
  refine congrArg (arrX m c) (funext fun a => Fin.ext ?_)
  match a with
  | ⟨0, _⟩ => show win0_0.index t (0 : Fin 2) * 1024 + 1 * r.val = 1024 * (t.val % 2) + r.val; omega
  | ⟨1, _⟩ => show win0_0.index t (1 : Fin 2) * 512 + 1 * k.val = 512 * (t.val / 2) + k.val; omega

theorem cols_at (t : Fin cfg0.N) (r : Fin 1024) (j : Fin 2048) (hr : 1024 * (t.val % 2) + r.val < 2048) :
    blkY m c t (ix2 r j) = arrY m c (ix2 ⟨1024 * (t.val % 2) + r.val, hr⟩ j) := by
  obtain ⟨-, -, e2, e3⟩ := blocks_of t
  refine congrArg (arrY m c) (funext fun a => Fin.ext ?_)
  match a with
  | ⟨0, _⟩ => show win0_1.index t (0 : Fin 2) * 1024 + 1 * r.val = 1024 * (t.val % 2) + r.val; omega
  | ⟨1, _⟩ => show win0_1.index t (1 : Fin 2) * 2048 + 1 * j.val = j.val; omega

theorem outs_congr {n n' : ℕ} (e : n = n') (h : n < cfg0.N) (h' : n' < cfg0.N) : outsAt0 m c n h = outsAt0 m c n' h' := by
  subst e; rfl

/-- An entry of what the launch leaves: the sum over all the rows. -/
theorem left_at (s : Fin 4) (k : Fin 1024) (j : Fin 512) :
    @Eq EReal (Value.G2 m c (ix3 s k j)) (∑ q : Fin 2048, arrX m c (ix2 q k) * arrY m c (ix2 q ⟨512 * s.val + j.val, by omega⟩)) := by
  have hN : cfg0.N = 4 := N_0
  have hp : Value.pt2Of (ix3 s k j) = 2 * (k.val / 512) + 1 := by
    show 2 * (2 * (s.val / 4 - 0) + 1 * (k.val / 512 - 0) + 1 * (j.val / 512 - 0)) + 1 = _
    omega
  have hlt : 2 * (k.val / 512) + 1 < cfg0.N := by omega
  have hl : Value.loc2Of (ix3 s k j) = ix3 s ⟨k.val % 512, by omega⟩ j := by
    funext a; apply Fin.ext
    match a with
    | ⟨0, _⟩ => show s.val % 4 = s.val; omega
    | ⟨1, _⟩ => rfl
    | ⟨2, _⟩ => show j.val % 512 = j.val; omega
  unfold Value.G2
  rw [dif_pos (show Value.pt2Of (ix3 s k j) < cfg0.N by rw [hp]; exact hlt), ← Value.outsAt0_sweep m c (Value.pt2Of (ix3 s k j)) (by rw [hp]; exact hlt), hl, outs_congr m c hp _ hlt, odd_at m c ⟨_, hlt⟩ (by dsimp only; omega)]
  rw [outs_congr m c (show 2 * (k.val / 512) + 1 - 1 = 2 * (k.val / 512) by omega) _ (by omega), even_at m c ⟨2 * (k.val / 512), by omega⟩ (by dsimp only; omega)]
  refine Eq.trans (congrArg₂ (· + ·) (Finset.sum_congr rfl fun r _ => ?_) (Finset.sum_congr rfl fun r _ => ?_)) (two_tiles 1024 (fun q : Fin 2048 => arrX m c (ix2 q k) * arrY m c (ix2 q ⟨512 * s.val + j.val, by omega⟩)))
  · rw [rows_at m c _ r _ (by dsimp only; omega) (by dsimp only; omega), cols_at m c _ r _ (by dsimp only; omega)]
    congr 3 <;> exact Fin.ext (by dsimp only; omega)
  · rw [rows_at m c _ r _ (by dsimp only; omega) (by dsimp only; omega), cols_at m c _ r _ (by dsimp only; omega)]
    congr 3 <;> exact Fin.ext (by dsimp only; omega)

theorem host_v13 : @Eq (FVec Ideal S2048x2048 .bf16) (V m c main_v13) (truncf .bf16 (m ((c.tc : Thread nD τ).loc main_arg2) : FVec Ideal S2048x2048 .f32) bitsLt_bf16_f32) := by
  show StableHlo.after hostOps0 (fun b => m (c, b)) (Proc.devRef .tc main_v13) = _
  after_results

theorem host_v12 : @Eq (FVec Ideal S2048x1024 .bf16) (V m c main_v12) (truncf .bf16 (Cert.Reference2Ideal.Read.val_main_v12 (F := Ideal) (m ((c.tc : Thread nD τ).loc main_arg0)) (m ((c.tc : Thread nD τ).loc main_arg1)) : FVec Ideal S2048x1024 .f32) bitsLt_bf16_f32) := by
  show StableHlo.after hostOps0 (fun b => m (c, b)) (Proc.devRef .tc main_v12) = _
  after_results
  rfl

/-- The launch leaves the reference's gradient. -/
theorem left_eq : Value.G2 m c = Cert.Reference2Ideal.Read.val_main_v17 (F := Ideal) (m ((c.tc : Thread nD τ).loc main_arg0)) (m ((c.tc : Thread nD τ).loc main_arg1)) (m ((c.tc : Thread nD τ).loc main_arg2)) := by
  funext y
  obtain ⟨s, k, j, rfl⟩ : ∃ (s : Fin 4) (k : Fin 1024) (j : Fin 512), y = ix3 s k j := ⟨y 0, y 1, y 2, eq_ix3 y⟩
  refine (left_at m c s k j).trans ?_
  rw [show arrX m c = _ from host_v12 m c, show arrY m c = _ from host_v13 m c, Cert.Reference2Ideal.Read.val_main_v17_apply, Cert.Reference2Ideal.Read.val_main_v16_apply, Cert.Reference2Ideal.Read.val_main_v15_apply, Cert.Reference2Ideal.Read.val_main_v14_apply]
  refine Finset.sum_congr rfl fun q _ => ?_
  rw [mul_comm]
  refine congrArg₂ (· * ·) (congrArg _ (funext fun a => Fin.ext ?_)) (congrArg _ (funext fun a => Fin.ext ?_))
  · match a with
    | ⟨0, _⟩ => rfl
    | ⟨1, _⟩ => show 512 * s.val + j.val = ((k.val * 4 + s.val) * 512 + j.val) % 2048; omega
  · match a with
    | ⟨0, _⟩ => rfl
    | ⟨1, _⟩ => show k.val = ((k.val * 4 + s.val) * 512 + j.val) / 2048; omega

end Cert.Kernel2Ideal.Grad

namespace Cert.Proof

open Idealize.ShloMosaic Idealize.SL.Sem

theorem frame_kernel2 : @Cert.quiescent_Kernel2 Cert.Kernel2.Gen.facts := fun m g _ => Cert.Kernel2.Gen.frame m g

theorem frame_ideal2 : @Cert.quiescent_Kernel2Ideal Cert.Kernel2Ideal.Gen.facts := fun m g _ => Cert.Kernel2Ideal.Gen.frame m g

theorem frame_reference2 : @Cert.quiescent_Reference2Ideal Cert.Reference2Ideal.Gen.facts := fun m g _ =>
  (θ_run _ _ _).mono (fun r h => ⟨fun c => (h c).2, sem_eq_zero_of_no_sems rfl r.2⟩) (Cert.Reference2Ideal.Value.run m g)

theorem gradients2 : @Cert.algebraic_Kernel2Ideal_Reference2Ideal Cert.Kernel2Ideal.Gen.facts Cert.Reference2Ideal.Gen.facts := by
  intro m g m' g' _ hagree
  refine ⟨fun c => Cert.Kernel2Ideal.Value.G2 m c, Cert.Kernel2Ideal.Value.run m g, ?_⟩
  refine (θ_run _ _ _).mono (fun r h c => ?_) (Cert.Reference2Ideal.Value.run m' g')
  obtain ⟨e0, e1, e2⟩ := hagree c
  refine ⟨(h c).1.trans ((Cert.Reference2Ideal.Read.val_main_v17_eq _ _ _).trans ?_), (h c).2⟩
  rw [e0, e1, e2]
  exact (Cert.Kernel2Ideal.Grad.left_eq m c).symm

/-- The three calls have the same text. -/
theorem same_kv : @Cert.algebraic_Kernel3Ideal_Reference2Ideal Cert.Kernel3Ideal.Gen.facts Cert.Reference2Ideal.Gen.facts =
    @Cert.algebraic_Kernel2Ideal_Reference2Ideal Cert.Kernel2Ideal.Gen.facts Cert.Reference2Ideal.Gen.facts := by
  sl_kernel_rfl

theorem same_b_in : @Cert.algebraic_Kernel4Ideal_Reference2Ideal Cert.Kernel4Ideal.Gen.facts Cert.Reference2Ideal.Gen.facts =
    @Cert.algebraic_Kernel2Ideal_Reference2Ideal Cert.Kernel2Ideal.Gen.facts Cert.Reference2Ideal.Gen.facts := by
  sl_kernel_rfl

theorem frame_kernel3 : @Cert.quiescent_Kernel3 Cert.Kernel3.Gen.facts := fun m g _ => Cert.Kernel3.Gen.frame m g

theorem frame_ideal3 : @Cert.quiescent_Kernel3Ideal Cert.Kernel3Ideal.Gen.facts := fun m g _ => Cert.Kernel3Ideal.Gen.frame m g

theorem gradients3 : @Cert.algebraic_Kernel3Ideal_Reference2Ideal Cert.Kernel3Ideal.Gen.facts Cert.Reference2Ideal.Gen.facts := same_kv.mpr gradients2

theorem frame_kernel4 : @Cert.quiescent_Kernel4 Cert.Kernel4.Gen.facts := fun m g _ => Cert.Kernel4.Gen.frame m g

theorem frame_ideal4 : @Cert.quiescent_Kernel4Ideal Cert.Kernel4Ideal.Gen.facts := fun m g _ => Cert.Kernel4Ideal.Gen.frame m g

theorem gradients4 : @Cert.algebraic_Kernel4Ideal_Reference2Ideal Cert.Kernel4Ideal.Gen.facts Cert.Reference2Ideal.Gen.facts := same_b_in.mpr gradients2

end Cert.Proof

end
-- ==== Proof.Output.lean ====
/- The gradients of the two output projections' weights. -/
module

public import proofs.«01_k».proof.Defs
public import proofs.«01_k».proof.Proof.Gen.Kernel5.Frame
public import proofs.«01_k».proof.Proof.Gen.Kernel5Ideal.Value
public import proofs.«01_k».proof.Proof.Gen.Kernel6.Frame
public import proofs.«01_k».proof.Proof.Gen.Kernel6Ideal.Value
public import proofs.«01_k».proof.Proof.Gen.Reference5Ideal.Run
public import proofs.«01_k».proof.Proof.Gen.Reference5Ideal.Read
public import proofs.«01_k».proof.Proof.Blocks

@[expose] public section

set_option maxRecDepth 16384

noncomputable section

namespace Cert.Kernel5Ideal.Grad
open Cert.Kernel5Ideal Cert.Kernel5Ideal.Gen Cert.Blocks
open Idealize.ShloMosaic Idealize.ShloMosaic.TcCoe Idealize.SL.Sem

variable (m : (ℓ : Loc nD τ sig) → Buf (Elt Ideal) ℓ) (c : Dev nD)

/-- A tile's product on top of what was there. -/
theorem pay2_at (v : Vec Ideal S1024x1024 .f32) (a : Vec Ideal S1024x1024 .bf16) (b : Vec Ideal S1024x1024 .f32) (k j : Fin 1024) :
    k0_pay2 v a b (ix2 k j) = v (ix2 k j) + ∑ r : Fin 1024, a (ix2 r k) * b (ix2 r j) := by
  pointwise [k0_pay2]

theorem pay1_at (k j : Fin 1024) : k0_pay1 (F := Ideal) (ix2 k j) = 0 := by
  pointwise [k0_pay1]

theorem pay3_at (v : Vec Ideal S1024x1024 .f32) (k j : Fin 1024) : k0_pay3 v (ix3 0 k j) = v (ix2 k j) := by
  pointwise [k0_pay3]

/-- The two blocks a point is handed, and the arrays they are blocks of. -/
abbrev blkX (t : Fin cfg0.N) : Vec Ideal S1024x1024 .bf16 := iblk m c 0 t
abbrev blkY (t : Fin cfg0.N) : Vec Ideal S1024x1024 .f32 := iblk m c 1 t
abbrev arrX : Vec Ideal S2048x1024 .bf16 := V m c main_v0
abbrev arrY : Vec Ideal S2048x1024 .f32 := V m c main_arg1

/-- What the first tile leaves in the accumulator. -/
theorem even_at (t : Fin cfg0.N) (h0 : t.val % 2 = 0) (k j : Fin 1024) :
    (outsAt0 m c t.val t.isLt).2 (ix2 k j) = ∑ r : Fin 1024, blkX m c t (ix2 r k) * blkY m c t (ix2 r j) := by
  rw [outsAt0_A m c t h0 (by omega)]
  dsimp only
  frame_out
  exact (pay2_at _ _ _ k j).trans (by rw [pay1_at, zero_add])

/-- What the second tile leaves in the output's block. -/
theorem odd_at (t : Fin cfg0.N) (h0 : t.val % 2 = 1) (s : Fin 1) (k j : Fin 1024) :
    (outsAt0 m c t.val t.isLt).1 (ix3 s k j) = (outsAt0 m c (t.val - 1) (Nat.lt_of_le_of_lt (Nat.sub_le _ _) t.isLt)).2 (ix2 k j)
      + ∑ r : Fin 1024, blkX m c t (ix2 r k) * blkY m c t (ix2 r j) := by
  rw [outsAt0_B m c t (by omega) h0]
  dsimp only
  frame_out
  rw [show s = 0 from Subsingleton.elim _ _]
  generalize (outsAt0 m c (t.val - 1) (Nat.lt_of_le_of_lt (Nat.sub_le _ _) t.isLt)).2 = acc
  refine (pay3_at _ k j).trans ((pay2_at _ _ _ k j).trans ?_)
  rw [read_unread_whole]

/-- Which block of its array each point is handed. -/
theorem blocks_of : ∀ t : Fin cfg0.N, win0_0.index t (0 : Fin 2) = t.val % 2 ∧ win0_0.index t (1 : Fin 2) = 0 ∧ win0_1.index t (0 : Fin 2) = t.val % 2 ∧ win0_1.index t (1 : Fin 2) = 0 :=
  (by decide +kernel : ∀ t : Fin grid0.N, _)

theorem rows_at (t : Fin cfg0.N) (r k : Fin 1024) (hr : 1024 * (t.val % 2) + r.val < 2048) :
    blkX m c t (ix2 r k) = arrX m c (ix2 ⟨1024 * (t.val % 2) + r.val, hr⟩ k) := by
  obtain ⟨e0, e1, -, -⟩ := blocks_of t
  refine congrArg (arrX m c) (funext fun a => Fin.ext ?_)
  match a with
  | ⟨0, _⟩ => show win0_0.index t (0 : Fin 2) * 1024 + 1 * r.val = 1024 * (t.val % 2) + r.val; omega
  | ⟨1, _⟩ => show win0_0.index t (1 : Fin 2) * 1024 + 1 * k.val = k.val; omega

theorem cols_at (t : Fin cfg0.N) (r j : Fin 1024) (hr : 1024 * (t.val % 2) + r.val < 2048) :
    blkY m c t (ix2 r j) = arrY m c (ix2 ⟨1024 * (t.val % 2) + r.val, hr⟩ j) := by
  obtain ⟨-, -, e2, e3⟩ := blocks_of t
  refine congrArg (arrY m c) (funext fun a => Fin.ext ?_)
  match a with
  | ⟨0, _⟩ => show win0_1.index t (0 : Fin 2) * 1024 + 1 * r.val = 1024 * (t.val % 2) + r.val; omega
  | ⟨1, _⟩ => show win0_1.index t (1 : Fin 2) * 1024 + 1 * j.val = j.val; omega

/-- An entry of what the launch leaves: the sum over all the rows. -/
theorem left_at (s : Fin 1) (k j : Fin 1024) :
    @Eq EReal (Value.G2 m c (ix3 s k j)) (∑ q : Fin 2048, arrX m c (ix2 q k) * arrY m c (ix2 q j)) := by
  have hN : cfg0.N = 2 := N_0
  rw [Value.G2_last, ← Value.outsAt0_sweep m c 1 (by omega), odd_at m c ⟨1, by omega⟩ rfl]
  refine (congrArg (· + _) (even_at m c ⟨0, by omega⟩ rfl k j)).trans ?_
  refine Eq.trans (congrArg₂ (· + ·) (Finset.sum_congr rfl fun r _ => ?_) (Finset.sum_congr rfl fun r _ => ?_)) (two_tiles 1024 (fun q : Fin 2048 => arrX m c (ix2 q k) * arrY m c (ix2 q j)))
  · rw [rows_at m c _ r _ (by dsimp only; omega), cols_at m c _ r _ (by dsimp only; omega)]
    exact congrArg (fun q => arrX m c (ix2 q k) * arrY m c (ix2 q j)) (Fin.ext (show 1024 * 0 + r.val = r.val by omega))
  · rw [rows_at m c _ r _ (by dsimp only; omega), cols_at m c _ r _ (by dsimp only; omega)]
    rfl

theorem host_x : @Eq (FVec Ideal S2048x1024 .bf16) (V m c main_v0) (truncf .bf16 (m ((c.tc : Thread nD τ).loc main_arg0) : FVec Ideal S2048x1024 .f32) bitsLt_bf16_f32) := by
  show StableHlo.after hostOps0 (fun b => m (c, b)) (Proc.devRef .tc main_v0) = _
  after_results

theorem host_y : @Eq (FVec Ideal S2048x1024 .f32) (V m c main_arg1) (m ((c.tc : Thread nD τ).loc main_arg1)) := by
  show StableHlo.after hostOps0 (fun b => m (c, b)) (Proc.devRef .tc main_arg1) = _
  after_results

/-- The launch leaves the reference's gradient. -/
theorem left_eq : Value.G2 m c = Cert.Reference5Ideal.Read.val_main_v4 (F := Ideal) (m ((c.tc : Thread nD τ).loc main_arg0)) (m ((c.tc : Thread nD τ).loc main_arg1)) := by
  funext y
  obtain ⟨s, k, j, rfl⟩ : ∃ (s : Fin 1) (k j : Fin 1024), y = ix3 s k j := ⟨y 0, y 1, y 2, eq_ix3 y⟩
  refine (left_at m c s k j).trans ?_
  rw [show arrX m c = _ from host_x m c, show arrY m c = _ from host_y m c, Cert.Reference5Ideal.Read.val_main_v4_apply, Cert.Reference5Ideal.Read.val_main_v3_apply, Cert.Reference5Ideal.Read.val_main_v2_apply]
  refine Finset.sum_congr rfl fun q _ => ?_
  rw [mul_comm]
  refine congrArg₂ (· * ·) (congrArg _ (funext fun a => Fin.ext ?_)) (congrArg _ (funext fun a => Fin.ext ?_))
  · match a with
    | ⟨0, _⟩ => rfl
    | ⟨1, _⟩ => rfl
  · match a with
    | ⟨0, _⟩ => rfl
    | ⟨1, _⟩ => rfl

end Cert.Kernel5Ideal.Grad

namespace Cert.Proof

open Idealize.ShloMosaic Idealize.SL.Sem

theorem frame_kernel5 : @Cert.quiescent_Kernel5 Cert.Kernel5.Gen.facts := fun m g _ => Cert.Kernel5.Gen.frame m g

theorem frame_ideal5 : @Cert.quiescent_Kernel5Ideal Cert.Kernel5Ideal.Gen.facts := fun m g _ => Cert.Kernel5Ideal.Gen.frame m g

theorem frame_reference5 : @Cert.quiescent_Reference5Ideal Cert.Reference5Ideal.Gen.facts := fun m g _ =>
  (θ_run _ _ _).mono (fun r h => ⟨fun c => (h c).2, sem_eq_zero_of_no_sems rfl r.2⟩) (Cert.Reference5Ideal.Value.run m g)

theorem gradients5 : @Cert.algebraic_Kernel5Ideal_Reference5Ideal Cert.Kernel5Ideal.Gen.facts Cert.Reference5Ideal.Gen.facts := by
  intro m g m' g' _ hagree
  refine ⟨fun c => Cert.Kernel5Ideal.Value.G2 m c, Cert.Kernel5Ideal.Value.run m g, ?_⟩
  refine (θ_run _ _ _).mono (fun r h c => ?_) (Cert.Reference5Ideal.Value.run m' g')
  obtain ⟨e0, e1⟩ := hagree c
  refine ⟨(h c).1.trans ((Cert.Reference5Ideal.Read.val_main_v4_eq _ _).trans ?_), (h c).2⟩
  rw [e0, e1]
  exact (Cert.Kernel5Ideal.Grad.left_eq m c).symm

/-- The two calls have the same text. -/
theorem same_b_out : @Cert.algebraic_Kernel6Ideal_Reference5Ideal Cert.Kernel6Ideal.Gen.facts Cert.Reference5Ideal.Gen.facts =
    @Cert.algebraic_Kernel5Ideal_Reference5Ideal Cert.Kernel5Ideal.Gen.facts Cert.Reference5Ideal.Gen.facts := by
  sl_kernel_rfl

theorem frame_kernel6 : @Cert.quiescent_Kernel6 Cert.Kernel6.Gen.facts := fun m g _ => Cert.Kernel6.Gen.frame m g

theorem frame_ideal6 : @Cert.quiescent_Kernel6Ideal Cert.Kernel6Ideal.Gen.facts := fun m g _ => Cert.Kernel6Ideal.Gen.frame m g

theorem gradients6 : @Cert.algebraic_Kernel6Ideal_Reference5Ideal Cert.Kernel6Ideal.Gen.facts Cert.Reference5Ideal.Gen.facts := same_b_out.mpr gradients5

end Cert.Proof

end
-- ==== Proof.Gate.lean ====
/- The gradients of the two embedding gates' weights. -/
module

public import proofs.«01_k».proof.Defs
public import proofs.«01_k».proof.Proof.Gen.Kernel7.Frame
public import proofs.«01_k».proof.Proof.Gen.Kernel7Ideal.Value
public import proofs.«01_k».proof.Proof.Gen.Kernel8.Frame
public import proofs.«01_k».proof.Proof.Gen.Kernel8Ideal.Value
public import proofs.«01_k».proof.Proof.Gen.Reference7Ideal.Run
public import proofs.«01_k».proof.Proof.Gen.Reference7Ideal.Read
public import proofs.«01_k».proof.Proof.Blocks

@[expose] public section

set_option maxRecDepth 16384

noncomputable section

namespace Cert.Kernel7Ideal.Grad
open Cert.Kernel7Ideal Cert.Kernel7Ideal.Gen Cert.Blocks
open Idealize.ShloMosaic Idealize.ShloMosaic.TcCoe Idealize.SL.Sem

variable (m : (ℓ : Loc nD τ sig) → Buf (Elt Ideal) ℓ) (c : Dev nD)

/-- A tile's product on top of what was there. -/
theorem pay2_at (v : Vec Ideal S1024x1024 .f32) (a : Vec Ideal S1024x1024 .f32) (b : Vec Ideal S1024x1024 .bf16) (k j : Fin 1024) :
    k0_pay2 v a b (ix2 k j) = v (ix2 k j) + ∑ r : Fin 1024, a (ix2 r k) * b (ix2 r j) := by
  pointwise [k0_pay2]

theorem pay1_at (k j : Fin 1024) : k0_pay1 (F := Ideal) (ix2 k j) = 0 := by
  pointwise [k0_pay1]

theorem pay3_at (v : Vec Ideal S1024x1024 .f32) (k j : Fin 1024) : k0_pay3 v (ix3 0 k j) = v (ix2 k j) := by
  pointwise [k0_pay3]

/-- The two blocks a point is handed, and the arrays they are blocks of. -/
abbrev blkX (t : Fin cfg0.N) : Vec Ideal S1024x1024 .f32 := iblk m c 0 t
abbrev blkY (t : Fin cfg0.N) : Vec Ideal S1024x1024 .bf16 := iblk m c 1 t
abbrev arrX : Vec Ideal S2048x1024 .f32 := V m c main_arg0
abbrev arrY : Vec Ideal S2048x1024 .bf16 := V m c main_v0

/-- What the first tile leaves in the accumulator. -/
theorem even_at (t : Fin cfg0.N) (h0 : t.val % 2 = 0) (k j : Fin 1024) :
    (outsAt0 m c t.val t.isLt).2 (ix2 k j) = ∑ r : Fin 1024, blkX m c t (ix2 r k) * blkY m c t (ix2 r j) := by
  rw [outsAt0_A m c t h0 (by omega)]
  dsimp only
  frame_out
  exact (pay2_at _ _ _ k j).trans (by rw [pay1_at, zero_add])

/-- What the second tile leaves in the output's block. -/
theorem odd_at (t : Fin cfg0.N) (h0 : t.val % 2 = 1) (s : Fin 1) (k j : Fin 1024) :
    (outsAt0 m c t.val t.isLt).1 (ix3 s k j) = (outsAt0 m c (t.val - 1) (Nat.lt_of_le_of_lt (Nat.sub_le _ _) t.isLt)).2 (ix2 k j)
      + ∑ r : Fin 1024, blkX m c t (ix2 r k) * blkY m c t (ix2 r j) := by
  rw [outsAt0_B m c t (by omega) h0]
  dsimp only
  frame_out
  rw [show s = 0 from Subsingleton.elim _ _]
  generalize (outsAt0 m c (t.val - 1) (Nat.lt_of_le_of_lt (Nat.sub_le _ _) t.isLt)).2 = acc
  refine (pay3_at _ k j).trans ((pay2_at _ _ _ k j).trans ?_)
  rw [read_unread_whole]

/-- Which block of its array each point is handed. -/
theorem blocks_of : ∀ t : Fin cfg0.N, win0_0.index t (0 : Fin 2) = t.val % 2 ∧ win0_0.index t (1 : Fin 2) = 0 ∧ win0_1.index t (0 : Fin 2) = t.val % 2 ∧ win0_1.index t (1 : Fin 2) = 0 :=
  (by decide +kernel : ∀ t : Fin grid0.N, _)

theorem rows_at (t : Fin cfg0.N) (r k : Fin 1024) (hr : 1024 * (t.val % 2) + r.val < 2048) :
    blkX m c t (ix2 r k) = arrX m c (ix2 ⟨1024 * (t.val % 2) + r.val, hr⟩ k) := by
  obtain ⟨e0, e1, -, -⟩ := blocks_of t
  refine congrArg (arrX m c) (funext fun a => Fin.ext ?_)
  match a with
  | ⟨0, _⟩ => show win0_0.index t (0 : Fin 2) * 1024 + 1 * r.val = 1024 * (t.val % 2) + r.val; omega
  | ⟨1, _⟩ => show win0_0.index t (1 : Fin 2) * 1024 + 1 * k.val = k.val; omega

theorem cols_at (t : Fin cfg0.N) (r j : Fin 1024) (hr : 1024 * (t.val % 2) + r.val < 2048) :
    blkY m c t (ix2 r j) = arrY m c (ix2 ⟨1024 * (t.val % 2) + r.val, hr⟩ j) := by
  obtain ⟨-, -, e2, e3⟩ := blocks_of t
  refine congrArg (arrY m c) (funext fun a => Fin.ext ?_)
  match a with
  | ⟨0, _⟩ => show win0_1.index t (0 : Fin 2) * 1024 + 1 * r.val = 1024 * (t.val % 2) + r.val; omega
  | ⟨1, _⟩ => show win0_1.index t (1 : Fin 2) * 1024 + 1 * j.val = j.val; omega

/-- An entry of what the launch leaves: the sum over all the rows. -/
theorem left_at (s : Fin 1) (k j : Fin 1024) :
    @Eq EReal (Value.G2 m c (ix3 s k j)) (∑ q : Fin 2048, arrX m c (ix2 q k) * arrY m c (ix2 q j)) := by
  have hN : cfg0.N = 2 := N_0
  rw [Value.G2_last, ← Value.outsAt0_sweep m c 1 (by omega), odd_at m c ⟨1, by omega⟩ rfl]
  refine (congrArg (· + _) (even_at m c ⟨0, by omega⟩ rfl k j)).trans ?_
  refine Eq.trans (congrArg₂ (· + ·) (Finset.sum_congr rfl fun r _ => ?_) (Finset.sum_congr rfl fun r _ => ?_)) (two_tiles 1024 (fun q : Fin 2048 => arrX m c (ix2 q k) * arrY m c (ix2 q j)))
  · rw [rows_at m c _ r _ (by dsimp only; omega), cols_at m c _ r _ (by dsimp only; omega)]
    exact congrArg (fun q => arrX m c (ix2 q k) * arrY m c (ix2 q j)) (Fin.ext (show 1024 * 0 + r.val = r.val by omega))
  · rw [rows_at m c _ r _ (by dsimp only; omega), cols_at m c _ r _ (by dsimp only; omega)]
    rfl

theorem host_x : @Eq (FVec Ideal S2048x1024 .f32) (V m c main_arg0) (m ((c.tc : Thread nD τ).loc main_arg0)) := by
  show StableHlo.after hostOps0 (fun b => m (c, b)) (Proc.devRef .tc main_arg0) = _
  after_results

theorem host_y : @Eq (FVec Ideal S2048x1024 .bf16) (V m c main_v0) (truncf .bf16 (m ((c.tc : Thread nD τ).loc main_arg1) : FVec Ideal S2048x1024 .f32) bitsLt_bf16_f32) := by
  show StableHlo.after hostOps0 (fun b => m (c, b)) (Proc.devRef .tc main_v0) = _
  after_results

/-- The launch leaves the reference's gradient. -/
theorem left_eq : Value.G2 m c = Cert.Reference7Ideal.Read.val_main_v4 (F := Ideal) (m ((c.tc : Thread nD τ).loc main_arg0)) (m ((c.tc : Thread nD τ).loc main_arg1)) := by
  funext y
  obtain ⟨s, k, j, rfl⟩ : ∃ (s : Fin 1) (k j : Fin 1024), y = ix3 s k j := ⟨y 0, y 1, y 2, eq_ix3 y⟩
  refine (left_at m c s k j).trans ?_
  rw [show arrX m c = _ from host_x m c, show arrY m c = _ from host_y m c, Cert.Reference7Ideal.Read.val_main_v4_apply, Cert.Reference7Ideal.Read.val_main_v3_apply, Cert.Reference7Ideal.Read.val_main_v2_apply]
  refine Finset.sum_congr rfl fun q _ => ?_
  rw [mul_comm]
  refine congrArg₂ (· * ·) (congrArg _ (funext fun a => Fin.ext ?_)) (congrArg _ (funext fun a => Fin.ext ?_))
  · match a with
    | ⟨0, _⟩ => rfl
    | ⟨1, _⟩ => rfl
  · match a with
    | ⟨0, _⟩ => rfl
    | ⟨1, _⟩ => rfl

end Cert.Kernel7Ideal.Grad

namespace Cert.Proof

open Idealize.ShloMosaic Idealize.SL.Sem

theorem frame_kernel7 : @Cert.quiescent_Kernel7 Cert.Kernel7.Gen.facts := fun m g _ => Cert.Kernel7.Gen.frame m g

theorem frame_ideal7 : @Cert.quiescent_Kernel7Ideal Cert.Kernel7Ideal.Gen.facts := fun m g _ => Cert.Kernel7Ideal.Gen.frame m g

theorem frame_reference7 : @Cert.quiescent_Reference7Ideal Cert.Reference7Ideal.Gen.facts := fun m g _ =>
  (θ_run _ _ _).mono (fun r h => ⟨fun c => (h c).2, sem_eq_zero_of_no_sems rfl r.2⟩) (Cert.Reference7Ideal.Value.run m g)

theorem gradients7 : @Cert.algebraic_Kernel7Ideal_Reference7Ideal Cert.Kernel7Ideal.Gen.facts Cert.Reference7Ideal.Gen.facts := by
  intro m g m' g' _ hagree
  refine ⟨fun c => Cert.Kernel7Ideal.Value.G2 m c, Cert.Kernel7Ideal.Value.run m g, ?_⟩
  refine (θ_run _ _ _).mono (fun r h c => ?_) (Cert.Reference7Ideal.Value.run m' g')
  obtain ⟨e0, e1⟩ := hagree c
  refine ⟨(h c).1.trans ((Cert.Reference7Ideal.Read.val_main_v4_eq _ _).trans ?_), (h c).2⟩
  rw [e0, e1]
  exact (Cert.Kernel7Ideal.Grad.left_eq m c).symm

/-- The two calls have the same text. -/
theorem same_gate : @Cert.algebraic_Kernel8Ideal_Reference7Ideal Cert.Kernel8Ideal.Gen.facts Cert.Reference7Ideal.Gen.facts =
    @Cert.algebraic_Kernel7Ideal_Reference7Ideal Cert.Kernel7Ideal.Gen.facts Cert.Reference7Ideal.Gen.facts := by
  sl_kernel_rfl

theorem frame_kernel8 : @Cert.quiescent_Kernel8 Cert.Kernel8.Gen.facts := fun m g _ => Cert.Kernel8.Gen.frame m g

theorem frame_ideal8 : @Cert.quiescent_Kernel8Ideal Cert.Kernel8Ideal.Gen.facts := fun m g _ => Cert.Kernel8Ideal.Gen.frame m g

theorem gradients8 : @Cert.algebraic_Kernel8Ideal_Reference7Ideal Cert.Kernel8Ideal.Gen.facts Cert.Reference7Ideal.Gen.facts := same_gate.mpr gradients7

end Cert.Proof

end
-- ==== Proof.Embed.lean ====
/- The gradients of the two layers' embedding weights. -/
module

public import proofs.«01_k».proof.Defs
public import proofs.«01_k».proof.Proof.Gen.Kernel9.Frame
public import proofs.«01_k».proof.Proof.Gen.Kernel9Ideal.Value
public import proofs.«01_k».proof.Proof.Gen.Kernel10.Frame
public import proofs.«01_k».proof.Proof.Gen.Kernel10Ideal.Value
public import proofs.«01_k».proof.Proof.Gen.Reference9Ideal.Run
public import proofs.«01_k».proof.Proof.Gen.Reference9Ideal.Read
public import proofs.«01_k».proof.Proof.Gen.Reference10Ideal.Run
public import proofs.«01_k».proof.Proof.Gen.Reference10Ideal.Read
public import proofs.«01_k».proof.Proof.Blocks

@[expose] public section

set_option maxRecDepth 16384

noncomputable section

namespace Cert.Kernel9Ideal.Grad
open Cert.Kernel9Ideal Cert.Kernel9Ideal.Gen Cert.Blocks
open Idealize.ShloMosaic Idealize.ShloMosaic.TcCoe Idealize.SL.Sem

variable (m : (ℓ : Loc nD τ sig) → Buf (Elt Ideal) ℓ) (c : Dev nD)

/-- A tile's product on top of what was there. -/
theorem pay2_at (v : Vec Ideal S256x1024 .f32) (a : Vec Ideal S1x1x1024x256 .f32) (b : Vec Ideal S1024x1024 .bf16) (k : Fin 256) (j : Fin 1024) :
    k0_pay2 v a b (ix2 k j) = v (ix2 k j) + ∑ r : Fin 1024, a (ix4 0 0 r k) * b (ix2 r j) := by
  pointwise [k0_pay2]

theorem pay1_at (k : Fin 256) (j : Fin 1024) : k0_pay1 (F := Ideal) (ix2 k j) = 0 := by
  pointwise [k0_pay1]

theorem pay3_at (v : Vec Ideal S256x256 .f32) (k j : Fin 256) : k0_pay3 v (ix3 0 k j) = v (ix2 k j) := by
  pointwise [k0_pay3]
theorem pay4_at (v : Vec Ideal S256x256 .f32) (k j : Fin 256) : k0_pay4 v (ix3 0 k j) = v (ix2 k j) := by
  pointwise [k0_pay4]
theorem pay5_at (v : Vec Ideal S256x256 .f32) (k j : Fin 256) : k0_pay5 v (ix3 0 k j) = v (ix2 k j) := by
  pointwise [k0_pay5]
theorem pay6_at (v : Vec Ideal S256x256 .f32) (k j : Fin 256) : k0_pay6 v (ix3 0 k j) = v (ix2 k j) := by
  pointwise [k0_pay6]

/-- What the second tile leaves, from the accumulator and the two blocks. -/
def second (acc : Vec Ideal S256x1024 .f32) (a : Vec Ideal S1x1x1024x256 .f32) (b : Vec Ideal S1024x1024 .bf16) (s : Fin 4) (k j : Fin 256) : EReal :=
  acc (ix2 k ⟨256 * s.val + j.val, by omega⟩) + ∑ r : Fin 1024, a (ix4 0 0 r k) * b (ix2 r ⟨256 * s.val + j.val, by omega⟩)

/-- The two blocks a point is handed, and the arrays they are blocks of. -/
abbrev blkX (t : Fin cfg0.N) : Vec Ideal S1x1x1024x256 .f32 := iblk m c 0 t
abbrev blkY (t : Fin cfg0.N) : Vec Ideal S1024x1024 .bf16 := iblk m c 1 t
abbrev arrX : Vec Ideal S2x1x2048x256 .f32 := V m c main_arg0
abbrev arrY : Vec Ideal S2048x1024 .bf16 := V m c main_v0

/-- What the first tile leaves in the accumulator. -/
theorem even_at (t : Fin cfg0.N) (h0 : t.val % 2 = 0) (k : Fin 256) (j : Fin 1024) :
    (outsAt0 m c t.val t.isLt).2 (ix2 k j) = ∑ r : Fin 1024, blkX m c t (ix4 0 0 r k) * blkY m c t (ix2 r j) := by
  rw [outsAt0_A m c t h0 (by omega)]
  dsimp only
  frame_out
  exact (pay2_at _ _ _ k j).trans (by rw [pay1_at, zero_add])

/-- What the second tile leaves in the output's block. -/
theorem odd_at (t : Fin cfg0.N) (h0 : t.val % 2 = 1) (s : Fin 4) (k j : Fin 256) :
    (outsAt0 m c t.val t.isLt).1 (ix3 s k j) = second (outsAt0 m c (t.val - 1) (Nat.lt_of_le_of_lt (Nat.sub_le _ _) t.isLt)).2 (blkX m c t) (blkY m c t) s k j := by
  rw [outsAt0_B m c t (by omega) h0]
  dsimp only
  frame_out
  generalize (outsAt0 m c (t.val - 1) (Nat.lt_of_le_of_lt (Nat.sub_le _ _) t.isLt)).2 = acc
  unfold second
  refine canon_four _ _ _ _ _ _ _ _ s k j _ (fun h => ?_) (fun h => ?_) (fun h => ?_) (fun h => ?_)
  · refine (pay6_at _ k j).trans ((readCov_cols _ _ _ k j (by omega)).trans ((canon_whole _ _ _ k _).trans ((pay2_at _ _ _ k _).trans ?_)))
    rw [read_unread_whole, show (⟨256 * s.val + j.val, by omega⟩ : Fin 1024) = ⟨768 + j.val, by omega⟩ from Fin.ext (by dsimp only; omega)]
  · refine (pay5_at _ k j).trans ((readCov_cols _ _ _ k j (by omega)).trans ((canon_whole _ _ _ k _).trans ((pay2_at _ _ _ k _).trans ?_)))
    rw [read_unread_whole, show (⟨256 * s.val + j.val, by omega⟩ : Fin 1024) = ⟨512 + j.val, by omega⟩ from Fin.ext (by dsimp only; omega)]
  · refine (pay4_at _ k j).trans ((readCov_cols _ _ _ k j (by omega)).trans ((canon_whole _ _ _ k _).trans ((pay2_at _ _ _ k _).trans ?_)))
    rw [read_unread_whole, show (⟨256 * s.val + j.val, by omega⟩ : Fin 1024) = ⟨256 + j.val, by omega⟩ from Fin.ext (by dsimp only; omega)]
  · refine (pay3_at _ k j).trans ((readCov_cols _ _ _ k j (by omega)).trans ((canon_whole _ _ _ k _).trans ((pay2_at _ _ _ k _).trans ?_)))
    rw [read_unread_whole, show (⟨256 * s.val + j.val, by omega⟩ : Fin 1024) = ⟨0 + j.val, by omega⟩ from Fin.ext (by dsimp only; omega)]

/-- Which block of its array each point is handed. -/
theorem blocks_of : ∀ t : Fin cfg0.N, (win0_0.index t (0 : Fin 4) = 0 ∧ win0_0.index t (1 : Fin 4) = 0 ∧ win0_0.index t (2 : Fin 4) = t.val % 2 ∧ win0_0.index t (3 : Fin 4) = 0)
    ∧ win0_1.index t (0 : Fin 2) = t.val % 2 ∧ win0_1.index t (1 : Fin 2) = 0 :=
  (by decide +kernel : ∀ t : Fin grid0.N, _)

theorem rows_at (t : Fin cfg0.N) (r : Fin 1024) (k : Fin 256) (hr : 1024 * (t.val % 2) + r.val < 2048) :
    blkX m c t (ix4 0 0 r k) = arrX m c (ix4 0 0 ⟨1024 * (t.val % 2) + r.val, hr⟩ k) := by
  obtain ⟨⟨e0, e1, e2, e3⟩, -, -⟩ := blocks_of t
  refine congrArg (arrX m c) (funext fun a => Fin.ext ?_)
  match a with
  | ⟨0, _⟩ => show win0_0.index t (0 : Fin 4) * 1 + 1 * 0 = 0; omega
  | ⟨1, _⟩ => show win0_0.index t (1 : Fin 4) * 1 + 1 * 0 = 0; omega
  | ⟨2, _⟩ => show win0_0.index t (2 : Fin 4) * 1024 + 1 * r.val = 1024 * (t.val % 2) + r.val; omega
  | ⟨3, _⟩ => show win0_0.index t (3 : Fin 4) * 256 + 1 * k.val = k.val; omega

theorem cols_at (t : Fin cfg0.N) (r j : Fin 1024) (hr : 1024 * (t.val % 2) + r.val < 2048) :
    blkY m c t (ix2 r j) = arrY m c (ix2 ⟨1024 * (t.val % 2) + r.val, hr⟩ j) := by
  obtain ⟨-, e2, e3⟩ := blocks_of t
  refine congrArg (arrY m c) (funext fun a => Fin.ext ?_)
  match a with
  | ⟨0, _⟩ => show win0_1.index t (0 : Fin 2) * 1024 + 1 * r.val = 1024 * (t.val % 2) + r.val; omega
  | ⟨1, _⟩ => show win0_1.index t (1 : Fin 2) * 1024 + 1 * j.val = j.val; omega

/-- An entry of what the launch leaves: the sum over all the rows. -/
theorem left_at (s : Fin 4) (k j : Fin 256) :
    @Eq EReal (Value.G2 m c (ix3 s k j)) (∑ q : Fin 2048, arrX m c (ix4 0 0 q k) * arrY m c (ix2 q ⟨256 * s.val + j.val, by omega⟩)) := by
  have hN : cfg0.N = 2 := N_0
  rw [Value.G2_last, ← Value.outsAt0_sweep m c 1 (by omega), odd_at m c ⟨1, by omega⟩ rfl]
  refine (congrArg (· + _) (even_at m c ⟨0, by omega⟩ rfl k _)).trans ?_
  refine Eq.trans (congrArg₂ (· + ·) (Finset.sum_congr rfl fun r _ => ?_) (Finset.sum_congr rfl fun r _ => ?_)) (two_tiles 1024 (fun q : Fin 2048 => arrX m c (ix4 0 0 q k) * arrY m c (ix2 q ⟨256 * s.val + j.val, by omega⟩)))
  · rw [rows_at m c _ r _ (by dsimp only; omega), cols_at m c _ r _ (by dsimp only; omega)]
    exact congrArg (fun q => arrX m c (ix4 0 0 q k) * arrY m c (ix2 q ⟨256 * s.val + j.val, by omega⟩)) (Fin.ext (show 1024 * 0 + r.val = r.val by omega))
  · rw [rows_at m c _ r _ (by dsimp only; omega), cols_at m c _ r _ (by dsimp only; omega)]
    rfl

theorem host_x : @Eq (FVec Ideal S2x1x2048x256 .f32) (V m c main_arg0) (m ((c.tc : Thread nD τ).loc main_arg0)) := by
  show StableHlo.after hostOps0 (fun b => m (c, b)) (Proc.devRef .tc main_arg0) = _
  after_results

theorem host_y : @Eq (FVec Ideal S2048x1024 .bf16) (V m c main_v0) (truncf .bf16 (m ((c.tc : Thread nD τ).loc main_arg1) : FVec Ideal S2048x1024 .f32) bitsLt_bf16_f32) := by
  show StableHlo.after hostOps0 (fun b => m (c, b)) (Proc.devRef .tc main_v0) = _
  after_results

/-- The launch leaves the reference's gradient. -/
theorem left_eq : Value.G2 m c = Cert.Reference9Ideal.Read.val_main_v7 (F := Ideal) (m ((c.tc : Thread nD τ).loc main_arg0)) (m ((c.tc : Thread nD τ).loc main_arg1)) := by
  funext y
  obtain ⟨s, k, j, rfl⟩ : ∃ (s : Fin 4) (k j : Fin 256), y = ix3 s k j := ⟨y 0, y 1, y 2, eq_ix3 y⟩
  refine (left_at m c s k j).trans ?_
  rw [show arrX m c = _ from host_x m c, show arrY m c = _ from host_y m c, Cert.Reference9Ideal.Read.val_main_v7_apply, Cert.Reference9Ideal.Read.val_main_v6_apply, Cert.Reference9Ideal.Read.val_main_v5_apply, Cert.Reference9Ideal.Read.val_main_v4_apply]
  refine Finset.sum_congr rfl fun q _ => ?_
  rw [mul_comm, Cert.Reference9Ideal.Read.val_main_v2_apply, Cert.Reference9Ideal.Read.val_main_v1_apply]
  refine congrArg₂ (· * ·) (congrArg _ (funext fun a => Fin.ext ?_)) (congrArg _ (funext fun a => Fin.ext ?_))
  · match a with
    | ⟨0, _⟩ => rfl
    | ⟨1, _⟩ => show 256 * s.val + j.val = ((k.val * 4 + s.val) * 256 + j.val) % 1024; omega
  · have hk : ((k.val * 4 + s.val) * 256 + j.val) / 1024 = k.val := by omega
    match a with
    | ⟨0, _⟩ => rfl
    | ⟨1, _⟩ => rfl
    | ⟨2, _⟩ => show q.val = (q.val * 256 + ((k.val * 4 + s.val) * 256 + j.val) / 1024) / 256 % 2048; omega
    | ⟨3, _⟩ => show k.val = (q.val * 256 + ((k.val * 4 + s.val) * 256 + j.val) / 1024) % 256; omega

end Cert.Kernel9Ideal.Grad

namespace Cert.Kernel10Ideal.Grad
open Cert.Kernel10Ideal Cert.Kernel10Ideal.Gen Cert.Blocks
open Idealize.ShloMosaic Idealize.ShloMosaic.TcCoe Idealize.SL.Sem

variable (m : (ℓ : Loc nD τ sig) → Buf (Elt Ideal) ℓ) (c : Dev nD)

/-- A tile's product on top of what was there. -/
theorem pay2_at (v : Vec Ideal S256x1024 .f32) (a : Vec Ideal S1x1x1024x256 .f32) (b : Vec Ideal S1024x1024 .bf16) (k : Fin 256) (j : Fin 1024) :
    k0_pay2 v a b (ix2 k j) = v (ix2 k j) + ∑ r : Fin 1024, a (ix4 0 0 r k) * b (ix2 r j) := by
  exact Cert.Kernel9Ideal.Grad.pay2_at v a b k j

theorem pay1_at (k : Fin 256) (j : Fin 1024) : k0_pay1 (F := Ideal) (ix2 k j) = 0 := by
  exact Cert.Kernel9Ideal.Grad.pay1_at k j

theorem pay3_at (v : Vec Ideal S256x256 .f32) (k j : Fin 256) : k0_pay3 v (ix3 0 k j) = v (ix2 k j) := by
  exact Cert.Kernel9Ideal.Grad.pay3_at v k j
theorem pay4_at (v : Vec Ideal S256x256 .f32) (k j : Fin 256) : k0_pay4 v (ix3 0 k j) = v (ix2 k j) := by
  exact Cert.Kernel9Ideal.Grad.pay4_at v k j
theorem pay5_at (v : Vec Ideal S256x256 .f32) (k j : Fin 256) : k0_pay5 v (ix3 0 k j) = v (ix2 k j) := by
  exact Cert.Kernel9Ideal.Grad.pay5_at v k j
theorem pay6_at (v : Vec Ideal S256x256 .f32) (k j : Fin 256) : k0_pay6 v (ix3 0 k j) = v (ix2 k j) := by
  exact Cert.Kernel9Ideal.Grad.pay6_at v k j

/-- The two blocks a point is handed, and the arrays they are blocks of. -/
abbrev blkX (t : Fin cfg0.N) : Vec Ideal S1x1x1024x256 .f32 := iblk m c 0 t
abbrev blkY (t : Fin cfg0.N) : Vec Ideal S1024x1024 .bf16 := iblk m c 1 t
abbrev arrX : Vec Ideal S2x1x2048x256 .f32 := V m c main_arg0
abbrev arrY : Vec Ideal S2048x1024 .bf16 := V m c main_v0

/-- What the first tile leaves in the accumulator. -/
theorem even_at (t : Fin cfg0.N) (h0 : t.val % 2 = 0) (k : Fin 256) (j : Fin 1024) :
    (outsAt0 m c t.val t.isLt).2 (ix2 k j) = ∑ r : Fin 1024, blkX m c t (ix4 0 0 r k) * blkY m c t (ix2 r j) := by
  rw [outsAt0_A m c t h0 (by omega)]
  dsimp only
  frame_out
  exact (pay2_at _ _ _ k j).trans (by rw [pay1_at, zero_add])

/-- What the second tile leaves in the output's block. -/
theorem odd_at (t : Fin cfg0.N) (h0 : t.val % 2 = 1) (s : Fin 4) (k j : Fin 256) :
    (outsAt0 m c t.val t.isLt).1 (ix3 s k j) = Cert.Kernel9Ideal.Grad.second (outsAt0 m c (t.val - 1) (Nat.lt_of_le_of_lt (Nat.sub_le _ _) t.isLt)).2 (blkX m c t) (blkY m c t) s k j := by
  rw [outsAt0_B m c t (by omega) h0]
  dsimp only
  frame_out
  generalize (outsAt0 m c (t.val - 1) (Nat.lt_of_le_of_lt (Nat.sub_le _ _) t.isLt)).2 = acc
  unfold Cert.Kernel9Ideal.Grad.second
  refine canon_four _ _ _ _ _ _ _ _ s k j _ (fun h => ?_) (fun h => ?_) (fun h => ?_) (fun h => ?_)
  · refine (pay6_at _ k j).trans ((readCov_cols _ _ _ k j (by omega)).trans ((canon_whole _ _ _ k _).trans ((pay2_at _ _ _ k _).trans ?_)))
    rw [read_unread_whole, show (⟨256 * s.val + j.val, by omega⟩ : Fin 1024) = ⟨768 + j.val, by omega⟩ from Fin.ext (by dsimp only; omega)]
  · refine (pay5_at _ k j).trans ((readCov_cols _ _ _ k j (by omega)).trans ((canon_whole _ _ _ k _).trans ((pay2_at _ _ _ k _).trans ?_)))
    rw [read_unread_whole, show (⟨256 * s.val + j.val, by omega⟩ : Fin 1024) = ⟨512 + j.val, by omega⟩ from Fin.ext (by dsimp only; omega)]
  · refine (pay4_at _ k j).trans ((readCov_cols _ _ _ k j (by omega)).trans ((canon_whole _ _ _ k _).trans ((pay2_at _ _ _ k _).trans ?_)))
    rw [read_unread_whole, show (⟨256 * s.val + j.val, by omega⟩ : Fin 1024) = ⟨256 + j.val, by omega⟩ from Fin.ext (by dsimp only; omega)]
  · refine (pay3_at _ k j).trans ((readCov_cols _ _ _ k j (by omega)).trans ((canon_whole _ _ _ k _).trans ((pay2_at _ _ _ k _).trans ?_)))
    rw [read_unread_whole, show (⟨256 * s.val + j.val, by omega⟩ : Fin 1024) = ⟨0 + j.val, by omega⟩ from Fin.ext (by dsimp only; omega)]

/-- Which block of its array each point is handed. -/
theorem blocks_of : ∀ t : Fin cfg0.N, (win0_0.index t (0 : Fin 4) = 1 ∧ win0_0.index t (1 : Fin 4) = 0 ∧ win0_0.index t (2 : Fin 4) = t.val % 2 ∧ win0_0.index t (3 : Fin 4) = 0)
    ∧ win0_1.index t (0 : Fin 2) = t.val % 2 ∧ win0_1.index t (1 : Fin 2) = 0 :=
  (by decide +kernel : ∀ t : Fin grid0.N, _)

theorem rows_at (t : Fin cfg0.N) (r : Fin 1024) (k : Fin 256) (hr : 1024 * (t.val % 2) + r.val < 2048) :
    blkX m c t (ix4 0 0 r k) = arrX m c (ix4 1 0 ⟨1024 * (t.val % 2) + r.val, hr⟩ k) := by
  obtain ⟨⟨e0, e1, e2, e3⟩, -, -⟩ := blocks_of t
  refine congrArg (arrX m c) (funext fun a => Fin.ext ?_)
  match a with
  | ⟨0, _⟩ => show win0_0.index t (0 : Fin 4) * 1 + 1 * 0 = 1; omega
  | ⟨1, _⟩ => show win0_0.index t (1 : Fin 4) * 1 + 1 * 0 = 0; omega
  | ⟨2, _⟩ => show win0_0.index t (2 : Fin 4) * 1024 + 1 * r.val = 1024 * (t.val % 2) + r.val; omega
  | ⟨3, _⟩ => show win0_0.index t (3 : Fin 4) * 256 + 1 * k.val = k.val; omega

theorem cols_at (t : Fin cfg0.N) (r j : Fin 1024) (hr : 1024 * (t.val % 2) + r.val < 2048) :
    blkY m c t (ix2 r j) = arrY m c (ix2 ⟨1024 * (t.val % 2) + r.val, hr⟩ j) := by
  obtain ⟨-, e2, e3⟩ := blocks_of t
  refine congrArg (arrY m c) (funext fun a => Fin.ext ?_)
  match a with
  | ⟨0, _⟩ => show win0_1.index t (0 : Fin 2) * 1024 + 1 * r.val = 1024 * (t.val % 2) + r.val; omega
  | ⟨1, _⟩ => show win0_1.index t (1 : Fin 2) * 1024 + 1 * j.val = j.val; omega

/-- An entry of what the launch leaves: the sum over all the rows. -/
theorem left_at (s : Fin 4) (k j : Fin 256) :
    @Eq EReal (Value.G2 m c (ix3 s k j)) (∑ q : Fin 2048, arrX m c (ix4 1 0 q k) * arrY m c (ix2 q ⟨256 * s.val + j.val, by omega⟩)) := by
  have hN : cfg0.N = 2 := N_0
  rw [Value.G2_last, ← Value.outsAt0_sweep m c 1 (by omega), odd_at m c ⟨1, by omega⟩ rfl]
  refine (congrArg (· + _) (even_at m c ⟨0, by omega⟩ rfl k _)).trans ?_
  refine Eq.trans (congrArg₂ (· + ·) (Finset.sum_congr rfl fun r _ => ?_) (Finset.sum_congr rfl fun r _ => ?_)) (two_tiles 1024 (fun q : Fin 2048 => arrX m c (ix4 1 0 q k) * arrY m c (ix2 q ⟨256 * s.val + j.val, by omega⟩)))
  · rw [rows_at m c _ r _ (by dsimp only; omega), cols_at m c _ r _ (by dsimp only; omega)]
    exact congrArg (fun q => arrX m c (ix4 1 0 q k) * arrY m c (ix2 q ⟨256 * s.val + j.val, by omega⟩)) (Fin.ext (show 1024 * 0 + r.val = r.val by omega))
  · rw [rows_at m c _ r _ (by dsimp only; omega), cols_at m c _ r _ (by dsimp only; omega)]
    rfl

theorem host_x : @Eq (FVec Ideal S2x1x2048x256 .f32) (V m c main_arg0) (m ((c.tc : Thread nD τ).loc main_arg0)) := by
  show StableHlo.after hostOps0 (fun b => m (c, b)) (Proc.devRef .tc main_arg0) = _
  after_results

theorem host_y : @Eq (FVec Ideal S2048x1024 .bf16) (V m c main_v0) (truncf .bf16 (m ((c.tc : Thread nD τ).loc main_arg1) : FVec Ideal S2048x1024 .f32) bitsLt_bf16_f32) := by
  show StableHlo.after hostOps0 (fun b => m (c, b)) (Proc.devRef .tc main_v0) = _
  after_results

/-- The launch leaves the reference's gradient. -/
theorem left_eq : Value.G2 m c = Cert.Reference10Ideal.Read.val_main_v7 (F := Ideal) (m ((c.tc : Thread nD τ).loc main_arg0)) (m ((c.tc : Thread nD τ).loc main_arg1)) := by
  funext y
  obtain ⟨s, k, j, rfl⟩ : ∃ (s : Fin 4) (k j : Fin 256), y = ix3 s k j := ⟨y 0, y 1, y 2, eq_ix3 y⟩
  refine (left_at m c s k j).trans ?_
  rw [show arrX m c = _ from host_x m c, show arrY m c = _ from host_y m c, Cert.Reference10Ideal.Read.val_main_v7_apply, Cert.Reference10Ideal.Read.val_main_v6_apply, Cert.Reference10Ideal.Read.val_main_v5_apply, Cert.Reference10Ideal.Read.val_main_v4_apply]
  refine Finset.sum_congr rfl fun q _ => ?_
  rw [mul_comm, Cert.Reference10Ideal.Read.val_main_v2_apply, Cert.Reference10Ideal.Read.val_main_v1_apply]
  refine congrArg₂ (· * ·) (congrArg _ (funext fun a => Fin.ext ?_)) (congrArg _ (funext fun a => Fin.ext ?_))
  · match a with
    | ⟨0, _⟩ => rfl
    | ⟨1, _⟩ => show 256 * s.val + j.val = ((k.val * 4 + s.val) * 256 + j.val) % 1024; omega
  · have hk : ((k.val * 4 + s.val) * 256 + j.val) / 1024 = k.val := by omega
    match a with
    | ⟨0, _⟩ => rfl
    | ⟨1, _⟩ => rfl
    | ⟨2, _⟩ => show q.val = (q.val * 256 + ((k.val * 4 + s.val) * 256 + j.val) / 1024) / 256 % 2048; omega
    | ⟨3, _⟩ => show k.val = (q.val * 256 + ((k.val * 4 + s.val) * 256 + j.val) / 1024) % 256; omega

end Cert.Kernel10Ideal.Grad

namespace Cert.Proof

open Idealize.ShloMosaic Idealize.SL.Sem

theorem frame_kernel9 : @Cert.quiescent_Kernel9 Cert.Kernel9.Gen.facts := fun m g _ => Cert.Kernel9.Gen.frame m g

theorem frame_ideal9 : @Cert.quiescent_Kernel9Ideal Cert.Kernel9Ideal.Gen.facts := fun m g _ => Cert.Kernel9Ideal.Gen.frame m g

theorem frame_reference9 : @Cert.quiescent_Reference9Ideal Cert.Reference9Ideal.Gen.facts := fun m g _ =>
  (θ_run _ _ _).mono (fun r h => ⟨fun c => (h c).2, sem_eq_zero_of_no_sems rfl r.2⟩) (Cert.Reference9Ideal.Value.run m g)

theorem gradients9 : @Cert.algebraic_Kernel9Ideal_Reference9Ideal Cert.Kernel9Ideal.Gen.facts Cert.Reference9Ideal.Gen.facts := by
  intro m g m' g' _ hagree
  refine ⟨fun c => Cert.Kernel9Ideal.Value.G2 m c, Cert.Kernel9Ideal.Value.run m g, ?_⟩
  refine (θ_run _ _ _).mono (fun r h c => ?_) (Cert.Reference9Ideal.Value.run m' g')
  obtain ⟨e0, e1⟩ := hagree c
  refine ⟨(h c).1.trans ((Cert.Reference9Ideal.Read.val_main_v7_eq _ _).trans ?_), (h c).2⟩
  rw [e0, e1]
  exact (Cert.Kernel9Ideal.Grad.left_eq m c).symm

theorem frame_kernel10 : @Cert.quiescent_Kernel10 Cert.Kernel10.Gen.facts := fun m g _ => Cert.Kernel10.Gen.frame m g

theorem frame_ideal10 : @Cert.quiescent_Kernel10Ideal Cert.Kernel10Ideal.Gen.facts := fun m g _ => Cert.Kernel10Ideal.Gen.frame m g

theorem frame_reference10 : @Cert.quiescent_Reference10Ideal Cert.Reference10Ideal.Gen.facts := fun m g _ =>
  (θ_run _ _ _).mono (fun r h => ⟨fun c => (h c).2, sem_eq_zero_of_no_sems rfl r.2⟩) (Cert.Reference10Ideal.Value.run m g)

theorem gradients10 : @Cert.algebraic_Kernel10Ideal_Reference10Ideal Cert.Kernel10Ideal.Gen.facts Cert.Reference10Ideal.Gen.facts := by
  intro m g m' g' _ hagree
  refine ⟨fun c => Cert.Kernel10Ideal.Value.G2 m c, Cert.Kernel10Ideal.Value.run m g, ?_⟩
  refine (θ_run _ _ _).mono (fun r h c => ?_) (Cert.Reference10Ideal.Value.run m' g')
  obtain ⟨e0, e1⟩ := hagree c
  refine ⟨(h c).1.trans ((Cert.Reference10Ideal.Read.val_main_v7_eq _ _).trans ?_), (h c).2⟩
  rw [e0, e1]
  exact (Cert.Kernel10Ideal.Grad.left_eq m c).symm

end Cert.Proof

end
-- ==== Proof.Group.lean ====
/- The gradient of the grouped product's weight. -/
module

public import proofs.«01_k».proof.Defs
public import proofs.«01_k».proof.Proof.Gen.Kernel11.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.Blocks

@[expose] public section

set_option maxRecDepth 16384

noncomputable section

namespace Cert.Kernel11Ideal.Grad
open Cert.Kernel11Ideal Cert.Kernel11Ideal.Gen Cert.Blocks
open Idealize.ShloMosaic Idealize.ShloMosaic.TcCoe Idealize.SL.Sem

variable (m : (ℓ : Loc nD τ sig) → Buf (Elt Ideal) ℓ) (c : Dev nD)

/-- A tile's product on top of what was there. -/
theorem pay2_at (v : Vec Ideal S256x256 .f32) (a : Vec Ideal S1024x256 .bf16) (b : Vec Ideal S1024x256 .bf16) (k j : Fin 256) :
    k0_pay2 v a b (ix2 k j) = v (ix2 k j) + ∑ r : Fin 1024, a (ix2 r k) * b (ix2 r j) := by
  pointwise [k0_pay2]

theorem pay1_at (k j : Fin 256) : k0_pay1 (F := Ideal) (ix2 k j) = 0 := by
  pointwise [k0_pay1]

theorem pay3_at (v : Vec Ideal S64x256 .f32) (k : Fin 64) (j : Fin 256) : k0_pay3 v (ix4 0 0 k j) = v (ix2 k j) := by
  pointwise [k0_pay3]
theorem pay4_at (v : Vec Ideal S64x256 .f32) (k : Fin 64) (j : Fin 256) : k0_pay4 v (ix4 0 0 k j) = v (ix2 k j) := by
  pointwise [k0_pay4]
theorem pay5_at (v : Vec Ideal S64x256 .f32) (k : Fin 64) (j : Fin 256) : k0_pay5 v (ix4 0 0 k j) = v (ix2 k j) := by
  pointwise [k0_pay5]
theorem pay6_at (v : Vec Ideal S64x256 .f32) (k : Fin 64) (j : Fin 256) : k0_pay6 v (ix4 0 0 k j) = v (ix2 k j) := by
  pointwise [k0_pay6]

/-- The two blocks a point is handed, and the arrays they are blocks of. -/
abbrev blkX (t : Fin cfg0.N) : Vec Ideal S1024x256 .bf16 := iblk m c 0 t
abbrev blkY (t : Fin cfg0.N) : Vec Ideal S1024x256 .bf16 := iblk m c 1 t
abbrev arrX : Vec Ideal S2048x1024 .bf16 := V m c main_v58
abbrev arrY : Vec Ideal S2048x1024 .bf16 := V m c main_v59

/-- What a first tile leaves in the accumulator. -/
theorem even_at (t : Fin cfg0.N) (h0 : t.val % 2 = 0) (k j : Fin 256) :
    (outsAt0 m c t.val t.isLt).2 (ix2 k j) = ∑ r : Fin 1024, blkX m c t (ix2 r k) * blkY m c t (ix2 r j) := by
  rw [outsAt0_A m c t h0 (by omega)]
  dsimp only
  frame_out
  exact (pay2_at _ _ _ k j).trans (by rw [pay1_at, zero_add])

/-- What a second tile leaves in the output's block. -/
theorem odd_at (t : Fin cfg0.N) (h0 : t.val % 2 = 1) (s : Fin 4) (g : Fin 1) (k : Fin 64) (j : Fin 256) :
    (outsAt0 m c t.val t.isLt).1 (ix4 s g k j) = (outsAt0 m c (t.val - 1) (Nat.lt_of_le_of_lt (Nat.sub_le _ _) t.isLt)).2 (ix2 ⟨64 * s.val + k.val, by omega⟩ j)
      + ∑ r : Fin 1024, blkX m c t (ix2 r ⟨64 * s.val + k.val, by omega⟩) * blkY m c t (ix2 r j) := by
  rw [outsAt0_B m c t (by omega) h0]
  dsimp only
  frame_out
  generalize (outsAt0 m c (t.val - 1) (Nat.lt_of_le_of_lt (Nat.sub_le _ _) t.isLt)).2 = acc
  refine canon_layers _ _ _ _ _ _ _ _ s g k j _ (fun h => ?_) (fun h => ?_) (fun h => ?_) (fun h => ?_)
  · refine (pay6_at _ k j).trans ((readCov_rows _ _ _ k j (by omega)).trans ((canon_whole _ _ _ _ j).trans ((pay2_at _ _ _ _ j).trans ?_)))
    rw [read_unread_whole, show (⟨64 * s.val + k.val, by omega⟩ : Fin 256) = ⟨192 + k.val, by omega⟩ from Fin.ext (by dsimp only; omega)]
  · refine (pay5_at _ k j).trans ((readCov_rows _ _ _ k j (by omega)).trans ((canon_whole _ _ _ _ j).trans ((pay2_at _ _ _ _ j).trans ?_)))
    rw [read_unread_whole, show (⟨64 * s.val + k.val, by omega⟩ : Fin 256) = ⟨128 + k.val, by omega⟩ from Fin.ext (by dsimp only; omega)]
  · refine (pay4_at _ k j).trans ((readCov_rows _ _ _ k j (by omega)).trans ((canon_whole _ _ _ _ j).trans ((pay2_at _ _ _ _ j).trans ?_)))
    rw [read_unread_whole, show (⟨64 * s.val + k.val, by omega⟩ : Fin 256) = ⟨64 + k.val, by omega⟩ from Fin.ext (by dsimp only; omega)]
  · refine (pay3_at _ k j).trans ((readCov_rows _ _ _ k j (by omega)).trans ((canon_whole _ _ _ _ j).trans ((pay2_at _ _ _ _ j).trans ?_)))
    rw [read_unread_whole, show (⟨64 * s.val + k.val, by omega⟩ : Fin 256) = ⟨0 + k.val, by omega⟩ from Fin.ext (by dsimp only; omega)]

/-- Which block of its array each point is handed. -/
theorem blocks_of : ∀ t : Fin cfg0.N, win0_0.index t (0 : Fin 2) = t.val % 2 ∧ win0_0.index t (1 : Fin 2) = t.val / 2 ∧ win0_1.index t (0 : Fin 2) = t.val % 2 ∧ win0_1.index t (1 : Fin 2) = t.val / 2 :=
  (by decide +kernel : ∀ t : Fin grid0.N, _)

theorem rows_at (t : Fin cfg0.N) (r : Fin 1024) (k : Fin 256) (hr : 1024 * (t.val % 2) + r.val < 2048) (hk : 256 * (t.val / 2) + k.val < 1024) :
    blkX m c t (ix2 r k) = arrX m c (ix2 ⟨1024 * (t.val % 2) + r.val, hr⟩ ⟨256 * (t.val / 2) + k.val, hk⟩) := by
  obtain ⟨e0, e1, -, -⟩ := blocks_of t
  refine congrArg (arrX m c) (funext fun a => Fin.ext ?_)
  match a with
  | ⟨0, _⟩ => show win0_0.index t (0 : Fin 2) * 1024 + 1 * r.val = 1024 * (t.val % 2) + r.val; omega
  | ⟨1, _⟩ => show win0_0.index t (1 : Fin 2) * 256 + 1 * k.val = 256 * (t.val / 2) + k.val; omega

theorem cols_at (t : Fin cfg0.N) (r : Fin 1024) (j : Fin 256) (hr : 1024 * (t.val % 2) + r.val < 2048) (hj : 256 * (t.val / 2) + j.val < 1024) :
    blkY m c t (ix2 r j) = arrY m c (ix2 ⟨1024 * (t.val % 2) + r.val, hr⟩ ⟨256 * (t.val / 2) + j.val, hj⟩) := by
  obtain ⟨-, -, e2, e3⟩ := blocks_of t
  refine congrArg (arrY m c) (funext fun a => Fin.ext ?_)
  match a with
  | ⟨0, _⟩ => show win0_1.index t (0 : Fin 2) * 1024 + 1 * r.val = 1024 * (t.val % 2) + r.val; omega
  | ⟨1, _⟩ => show win0_1.index t (1 : Fin 2) * 256 + 1 * j.val = 256 * (t.val / 2) + j.val; omega

theorem outs_congr {n n' : ℕ} (e : n = n') (h : n < cfg0.N) (h' : n' < cfg0.N) : outsAt0 m c n h = outsAt0 m c n' h' := by
  subst e; rfl

/-- An entry of what the launch leaves: the sum over all the rows. -/
theorem left_at (s g : Fin 4) (k : Fin 64) (j : Fin 256) :
    @Eq EReal (Value.G2 m c (ix4 s g k j)) (∑ q : Fin 2048, arrX m c (ix2 q ⟨256 * g.val + (64 * s.val + k.val), by omega⟩) * arrY m c (ix2 q ⟨256 * g.val + j.val, by omega⟩)) := by
  have hN : cfg0.N = 8 := N_0
  have hp : Value.pt2Of (ix4 s g k j) = 2 * g.val + 1 := by
    show 2 * (4 * (s.val / 4 - 0) + 1 * (g.val / 1 - 0) + 1 * (k.val / 64 - 0) + 1 * (j.val / 256 - 0)) + 1 = _
    omega
  have hlt : 2 * g.val + 1 < cfg0.N := by omega
  have hl : Value.loc2Of (ix4 s g k j) = ix4 s 0 k j := by
    funext a; apply Fin.ext
    match a with
    | ⟨0, _⟩ => show s.val % 4 = s.val; omega
    | ⟨1, _⟩ => show g.val % 1 = 0; omega
    | ⟨2, _⟩ => show k.val % 64 = k.val; omega
    | ⟨3, _⟩ => show j.val % 256 = j.val; omega
  unfold Value.G2
  rw [dif_pos (show Value.pt2Of (ix4 s g k j) < cfg0.N by rw [hp]; exact hlt), ← Value.outsAt0_sweep m c (Value.pt2Of (ix4 s g k j)) (by rw [hp]; exact hlt), hl, outs_congr m c hp _ hlt, odd_at m c ⟨_, hlt⟩ (by dsimp only; omega)]
  rw [outs_congr m c (show 2 * g.val + 1 - 1 = 2 * g.val by omega) _ (by omega), even_at m c ⟨2 * g.val, by omega⟩ (by dsimp only; omega)]
  refine Eq.trans (congrArg₂ (· + ·) (Finset.sum_congr rfl fun r _ => ?_) (Finset.sum_congr rfl fun r _ => ?_)) (two_tiles 1024 (fun q : Fin 2048 => arrX m c (ix2 q ⟨256 * g.val + (64 * s.val + k.val), by omega⟩) * arrY m c (ix2 q ⟨256 * g.val + j.val, by omega⟩)))
  · rw [rows_at m c _ r _ (by dsimp only; omega) (by dsimp only; omega), cols_at m c _ r _ (by dsimp only; omega) (by dsimp only; omega)]
    congr 3 <;> exact Fin.ext (by dsimp only; omega)
  · rw [rows_at m c _ r _ (by dsimp only; omega) (by dsimp only; omega), cols_at m c _ r _ (by dsimp only; omega) (by dsimp only; omega)]
    congr 3 <;> exact Fin.ext (by dsimp only; omega)

theorem host_y : @Eq (FVec Ideal S2048x1024 .bf16) (V m c main_v59) (truncf .bf16 (m ((c.tc : Thread nD τ).loc main_arg1) : FVec Ideal S2048x1024 .f32) bitsLt_bf16_f32) := by
  show StableHlo.after (List.flatten [hostOps0, hostOps0_1, hostOps0_2]) (fun b => m (c, b)) (Proc.devRef .tc main_v59) = _
  sl_kernel_rfl

theorem host_x : @Eq (FVec Ideal S2048x1024 .bf16) (V m c main_v58) (truncf .bf16 (shapeCast S2048x1024 (Cert.Reference11Ideal.Read.val_main_v57 (F := Ideal) (m ((c.tc : Thread nD τ).loc main_arg0))) shapeCasts_S2048x4x256_S2048x1024 : FVec Ideal S2048x1024 .f32) bitsLt_bf16_f32) := by
  show StableHlo.after (List.flatten [hostOps0, hostOps0_1, hostOps0_2]) (fun b => m (c, b)) (Proc.devRef .tc main_v58) = _
  sl_kernel_rfl

/-- A pooled row, its groups side by side. -/
theorem pooled_at (x : Vec Ideal S2048x4x256 .f32) (q : Fin 2048) (g : Fin 4) (k : Fin 256) :
    (truncf .bf16 (shapeCast S2048x1024 x shapeCasts_S2048x4x256_S2048x1024 : FVec Ideal S2048x1024 .f32) bitsLt_bf16_f32 : FVec Ideal S2048x1024 .bf16) (ix2 q ⟨256 * g.val + k.val, by omega⟩) = x (ix3 q g k) := by
  refine shapeCast_apply x _ _ _ ?_
  rewrite [Shape.rowMajor_val_three, Shape.rowMajor_val_two]
  show (q.val * 4 + g.val) * 256 + k.val = q.val * 1024 + (256 * g.val + k.val)
  omega

/-- The launch leaves the reference's gradient. -/
theorem left_eq : Value.G2 m c = Cert.Reference11Ideal.Read.val_main_v66 (F := Ideal) (m ((c.tc : Thread nD τ).loc main_arg0)) (m ((c.tc : Thread nD τ).loc main_arg1)) := by
  funext y
  obtain ⟨s, g, k, j, rfl⟩ : ∃ (s g : Fin 4) (k : Fin 64) (j : Fin 256), y = ix4 s g k j := ⟨y 0, y 1, y 2, y 3, eq_ix4 y⟩
  refine (left_at m c s g k j).trans ?_
  rw [show arrX m c = _ from host_x m c, show arrY m c = _ from host_y m c, Cert.Reference11Ideal.Read.val_main_v66_apply, Cert.Reference11Ideal.Read.val_main_v65_apply, Cert.Reference11Ideal.Read.val_main_v64_apply, Cert.Reference11Ideal.Read.val_main_v63_apply]
  refine Finset.sum_congr rfl fun q _ => ?_
  rw [mul_comm, Cert.Reference11Ideal.Read.val_main_v62_apply, Cert.Reference11Ideal.Read.val_main_v61_apply]
  have h0 : (((g.val * 4 + s.val) * 64 + k.val) * 256 + j.val) / 65536 = g.val := by omega
  have h1 : (((g.val * 4 + s.val) * 64 + k.val) * 256 + j.val) / 256 % 256 = 64 * s.val + k.val := by omega
  have h2 : (((g.val * 4 + s.val) * 64 + k.val) * 256 + j.val) % 256 = j.val := by omega
  refine congrArg₂ (· * ·) (congrArg _ (funext fun a => Fin.ext ?_)) ((pooled_at _ q g ⟨64 * s.val + k.val, by omega⟩).trans (congrArg _ (funext fun a => Fin.ext ?_)))
  · match a with
    | ⟨0, _⟩ => show q.val = ((q.val * 4 + (((g.val * 4 + s.val) * 64 + k.val) * 256 + j.val) / 65536) * 256 + (((g.val * 4 + s.val) * 64 + k.val) * 256 + j.val) % 256) / 1024; omega
    | ⟨1, _⟩ => show 256 * g.val + j.val = ((q.val * 4 + (((g.val * 4 + s.val) * 64 + k.val) * 256 + j.val) / 65536) * 256 + (((g.val * 4 + s.val) * 64 + k.val) * 256 + j.val) % 256) % 1024; omega
  · match a with
    | ⟨0, _⟩ => rfl
    | ⟨1, _⟩ => exact h0.symm
    | ⟨2, _⟩ => exact h1.symm

end Cert.Kernel11Ideal.Grad

namespace Cert.Proof

open Idealize.ShloMosaic Idealize.SL.Sem

theorem frame_kernel11 : @Cert.quiescent_Kernel11 Cert.Kernel11.Gen.facts := fun m g _ => Cert.Kernel11.Gen.frame m g

theorem frame_ideal11 : @Cert.quiescent_Kernel11Ideal Cert.Kernel11Ideal.Gen.facts := fun m g _ => Cert.Kernel11Ideal.Gen.frame m g

theorem frame_reference11 : @Cert.quiescent_Reference11Ideal Cert.Reference11Ideal.Gen.facts := fun m g _ =>
  (θ_run _ _ _).mono (fun r h => ⟨fun c => (h c).2, sem_eq_zero_of_no_sems rfl r.2⟩) (Cert.Reference11Ideal.Value.run m g)

theorem gradients11 : @Cert.algebraic_Kernel11Ideal_Reference11Ideal Cert.Kernel11Ideal.Gen.facts Cert.Reference11Ideal.Gen.facts := by
  intro m g m' g' _ hagree
  refine ⟨fun c => Cert.Kernel11Ideal.Value.G2 m c, Cert.Kernel11Ideal.Value.run m g, ?_⟩
  refine (θ_run _ _ _).mono (fun r h c => ?_) (Cert.Reference11Ideal.Value.run m' g')
  obtain ⟨e0, e1⟩ := hagree c
  refine ⟨(h c).1.trans ((Cert.Reference11Ideal.Read.val_main_v66_eq _ _).trans ?_), (h c).2⟩
  rw [e0, e1]
  exact (Cert.Kernel11Ideal.Grad.left_eq m c).symm

end Cert.Proof

end
-- ==== Proof.Shards.lean ====
/- Loads of a whole block and of one layer, and four shards put side by side. -/
module

public import Idealize.ShloMosaic.Lib.Pipeline.ValueKit
public import Idealize.ShloMosaic.Lib.Pointwise

@[expose] public section

noncomputable section

namespace Cert.Blocks

open Idealize.ShloMosaic Idealize.SL.Sem

/-- An entry of a load of the whole block. -/
theorem load_whole {e : EltTy} {m n : ℕ} (inb : ∀ i, (![0, 0] : Fin 2 → ℕ) i + (![m, n] : Fin 2 → ℕ) i ≤ (⟨2, ![m, n]⟩ : Shape).size i)
    (x : (⟨2, ![m, n]⟩ : Shape).Idx → Elt Ideal e) (r : Fin m) (c : Fin n) :
    View.ld x (Rect.unit (s := ⟨2, ![m, n]⟩) ![0, 0] ![m, n] inb) (ix2 r c) = x (ix2 r c) := by
  refine congrArg x (funext fun i => Fin.ext ?_)
  match i with
  | ⟨0, _⟩ => show 0 + 1 * r.val = r.val; omega
  | ⟨1, _⟩ => show 0 + 1 * c.val = c.val; omega

/-- An entry of a load of one layer. -/
theorem load_layer {e : EltTy} {n p q a : ℕ} (inb : ∀ i, (![a, 0, 0] : Fin 3 → ℕ) i + (![1, p, q] : Fin 3 → ℕ) i ≤ (⟨3, ![n, p, q]⟩ : Shape).size i)
    (x : (⟨3, ![n, p, q]⟩ : Shape).Idx → Elt Ideal e) (s : Fin n) (r : Fin p) (c : Fin q) (h : s.val = a) :
    View.ld x (Rect.unit (s := ⟨3, ![n, p, q]⟩) ![a, 0, 0] ![1, p, q] inb) (ix3 0 r c) = x (ix3 s r c) := by
  refine congrArg x (funext fun i => Fin.ext ?_)
  match i with
  | ⟨0, _⟩ => show a + 1 * 0 = s.val; omega
  | ⟨1, _⟩ => show 0 + 1 * r.val = r.val; omega
  | ⟨2, _⟩ => show 0 + 1 * c.val = c.val; omega

/-- Four shards one under the other. -/
theorem stacked {α : Type} {p q n : ℕ} (x0 x1 x2 x3 : (⟨2, ![p, q]⟩ : Shape).Idx → α)
    (h : Shape.Concatenates [⟨2, ![p, q]⟩, ⟨2, ![p, q]⟩, ⟨2, ![p, q]⟩, ⟨2, ![p, q]⟩] ⟨2, ![n, q]⟩ 0)
    (f : Fin 4 → Fin p → Fin q → α) (h0 : ∀ r c, x0 (ix2 r c) = f 0 r c) (h1 : ∀ r c, x1 (ix2 r c) = f 1 r c)
    (h2 : ∀ r c, x2 (ix2 r c) = f 2 r c) (h3 : ∀ r c, x3 (ix2 r c) = f 3 r c) (s : Fin 4) (r : Fin p) (c : Fin q) (j : Fin n) (hj : j.val = p * s.val + r.val) :
    concatenate ⟨2, ![n, q]⟩ 0 [⟨⟨2, ![p, q]⟩, x0⟩, ⟨⟨2, ![p, q]⟩, x1⟩, ⟨⟨2, ![p, q]⟩, x2⟩, ⟨⟨2, ![p, q]⟩, x3⟩] h (ix2 j c) = f s r c := by
  have hi : ∀ b : Fin 2, b.cast rfl ≠ (0 : Fin 2) → ((ix2 r c : (⟨2, ![p, q]⟩ : Shape).Idx) b).val = ((ix2 j c : (⟨2, ![n, q]⟩ : Shape).Idx) (b.cast rfl)).val := by
    intro b hb
    match b with
    | ⟨0, _⟩ => exact absurd rfl hb
    | ⟨1, _⟩ => rfl
  match s with
  | ⟨0, _⟩ =>
    refine Eq.trans (b := x0 (ix2 r c)) ?_ (h0 r c)
    refine concatenate_apply_piece _ [⟨⟨2, ![p, q]⟩, x0⟩, ⟨⟨2, ![p, q]⟩, x1⟩, ⟨⟨2, ![p, q]⟩, x2⟩, ⟨⟨2, ![p, q]⟩, x3⟩] h _ 0 (show 0 < 4 by decide) ⟨2, ![p, q]⟩ x0 rfl rfl (0) ?_ (ix2 r c) hi ?_
    · simp [List.take, List.map, List.sum_cons]
    · show 0 + r.val = j.val; dsimp only at hj; omega
  | ⟨1, _⟩ =>
    refine Eq.trans (b := x1 (ix2 r c)) ?_ (h1 r c)
    refine concatenate_apply_piece _ [⟨⟨2, ![p, q]⟩, x0⟩, ⟨⟨2, ![p, q]⟩, x1⟩, ⟨⟨2, ![p, q]⟩, x2⟩, ⟨⟨2, ![p, q]⟩, x3⟩] h _ 1 (show 1 < 4 by decide) ⟨2, ![p, q]⟩ x1 rfl rfl (p) ?_ (ix2 r c) hi ?_
    · simp [List.take, List.map, List.sum_cons]
    · show p + r.val = j.val; dsimp only at hj; omega
  | ⟨2, _⟩ =>
    refine Eq.trans (b := x2 (ix2 r c)) ?_ (h2 r c)
    refine concatenate_apply_piece _ [⟨⟨2, ![p, q]⟩, x0⟩, ⟨⟨2, ![p, q]⟩, x1⟩, ⟨⟨2, ![p, q]⟩, x2⟩, ⟨⟨2, ![p, q]⟩, x3⟩] h _ 2 (show 2 < 4 by decide) ⟨2, ![p, q]⟩ x2 rfl rfl (p + p) ?_ (ix2 r c) hi ?_
    · simp [List.take, List.map, List.sum_cons]
    · show p + p + r.val = j.val; dsimp only at hj; omega
  | ⟨3, _⟩ =>
    refine Eq.trans (b := x3 (ix2 r c)) ?_ (h3 r c)
    refine concatenate_apply_piece _ [⟨⟨2, ![p, q]⟩, x0⟩, ⟨⟨2, ![p, q]⟩, x1⟩, ⟨⟨2, ![p, q]⟩, x2⟩, ⟨⟨2, ![p, q]⟩, x3⟩] h _ 3 (show 3 < 4 by decide) ⟨2, ![p, q]⟩ x3 rfl rfl (p + p + p) ?_ (ix2 r c) hi ?_
    · simp [List.take, List.map, List.sum_cons]; omega
    · show p + p + p + r.val = j.val; dsimp only at hj; omega

/-- Four shards one beside the other. -/
theorem abreast {α : Type} {p q n : ℕ} (x0 x1 x2 x3 : (⟨2, ![p, q]⟩ : Shape).Idx → α)
    (h : Shape.Concatenates [⟨2, ![p, q]⟩, ⟨2, ![p, q]⟩, ⟨2, ![p, q]⟩, ⟨2, ![p, q]⟩] ⟨2, ![p, n]⟩ 1)
    (f : Fin 4 → Fin p → Fin q → α) (h0 : ∀ r c, x0 (ix2 r c) = f 0 r c) (h1 : ∀ r c, x1 (ix2 r c) = f 1 r c)
    (h2 : ∀ r c, x2 (ix2 r c) = f 2 r c) (h3 : ∀ r c, x3 (ix2 r c) = f 3 r c) (s : Fin 4) (r : Fin p) (c : Fin q) (j : Fin n) (hj : j.val = q * s.val + c.val) :
    concatenate ⟨2, ![p, n]⟩ 1 [⟨⟨2, ![p, q]⟩, x0⟩, ⟨⟨2, ![p, q]⟩, x1⟩, ⟨⟨2, ![p, q]⟩, x2⟩, ⟨⟨2, ![p, q]⟩, x3⟩] h (ix2 r j) = f s r c := by
  have hi : ∀ b : Fin 2, b.cast rfl ≠ (1 : Fin 2) → ((ix2 r c : (⟨2, ![p, q]⟩ : Shape).Idx) b).val = ((ix2 r j : (⟨2, ![p, n]⟩ : Shape).Idx) (b.cast rfl)).val := by
    intro b hb
    match b with
    | ⟨0, _⟩ => rfl
    | ⟨1, _⟩ => exact absurd rfl hb
  match s with
  | ⟨0, _⟩ =>
    refine Eq.trans (b := x0 (ix2 r c)) ?_ (h0 r c)
    refine concatenate_apply_piece _ [⟨⟨2, ![p, q]⟩, x0⟩, ⟨⟨2, ![p, q]⟩, x1⟩, ⟨⟨2, ![p, q]⟩, x2⟩, ⟨⟨2, ![p, q]⟩, x3⟩] h _ 0 (show 0 < 4 by decide) ⟨2, ![p, q]⟩ x0 rfl rfl (0) ?_ (ix2 r c) hi ?_
    · simp [List.take, List.map, List.sum_cons]
    · show 0 + c.val = j.val; dsimp only at hj; omega
  | ⟨1, _⟩ =>
    refine Eq.trans (b := x1 (ix2 r c)) ?_ (h1 r c)
    refine concatenate_apply_piece _ [⟨⟨2, ![p, q]⟩, x0⟩, ⟨⟨2, ![p, q]⟩, x1⟩, ⟨⟨2, ![p, q]⟩, x2⟩, ⟨⟨2, ![p, q]⟩, x3⟩] h _ 1 (show 1 < 4 by decide) ⟨2, ![p, q]⟩ x1 rfl rfl (q) ?_ (ix2 r c) hi ?_
    · simp [List.take, List.map, List.sum_cons]
    · show q + c.val = j.val; dsimp only at hj; omega
  | ⟨2, _⟩ =>
    refine Eq.trans (b := x2 (ix2 r c)) ?_ (h2 r c)
    refine concatenate_apply_piece _ [⟨⟨2, ![p, q]⟩, x0⟩, ⟨⟨2, ![p, q]⟩, x1⟩, ⟨⟨2, ![p, q]⟩, x2⟩, ⟨⟨2, ![p, q]⟩, x3⟩] h _ 2 (show 2 < 4 by decide) ⟨2, ![p, q]⟩ x2 rfl rfl (q + q) ?_ (ix2 r c) hi ?_
    · simp [List.take, List.map, List.sum_cons]
    · show q + q + c.val = j.val; dsimp only at hj; omega
  | ⟨3, _⟩ =>
    refine Eq.trans (b := x3 (ix2 r c)) ?_ (h3 r c)
    refine concatenate_apply_piece _ [⟨⟨2, ![p, q]⟩, x0⟩, ⟨⟨2, ![p, q]⟩, x1⟩, ⟨⟨2, ![p, q]⟩, x2⟩, ⟨⟨2, ![p, q]⟩, x3⟩] h _ 3 (show 3 < 4 by decide) ⟨2, ![p, q]⟩ x3 rfl rfl (q + q + q) ?_ (ix2 r c) hi ?_
    · simp [List.take, List.map, List.sum_cons]; omega
    · show q + q + q + c.val = j.val; dsimp only at hj; omega

end Cert.Blocks

end
-- ==== Proof.Back.lean ====
/- Backward of a layer's output: the gated embedding's and the output projection's cotangents. -/
module

public import proofs.«01_k».proof.Defs
public import proofs.«01_k».proof.Proof.Gen.Kernel12.Frame
public import proofs.«01_k».proof.Proof.Gen.Kernel12Ideal.Value
public import proofs.«01_k».proof.Proof.Gen.Kernel13.Frame
public import proofs.«01_k».proof.Proof.Gen.Kernel13Ideal.Frame
public import proofs.«01_k».proof.Proof.Gen.Reference12Ideal.Run
public import proofs.«01_k».proof.Proof.Gen.Reference12Ideal.Read
public import proofs.«01_k».proof.Proof.Blocks
public import proofs.«01_k».proof.Proof.Shards

@[expose] public section

set_option maxRecDepth 16384

noncomputable section

namespace Cert.Kernel12Ideal.Grad
open Cert.Kernel12Ideal Cert.Kernel12Ideal.Gen Cert.Blocks
open Idealize.ShloMosaic Idealize.ShloMosaic.TcCoe Idealize.SL.Sem

/-! ## The tile's values, entry by entry -/

theorem de_at (d : Vec Ideal S512x1024 .f32) (g : Vec Ideal S512x1024 .bf16) (r : Fin 512) (k : Fin 1024) :
    @Eq EReal (k0_pay3 d g (ix2 r k)) (d (ix2 r k) * g (ix2 r k)) := by
  pointwise [k0_pay3, k0_pay2]

theorem dgp_at (d : Vec Ideal S512x1024 .f32) (e g : Vec Ideal S512x1024 .bf16) (r : Fin 512) (k : Fin 1024) :
    @Eq EReal (k0_pay4 d e g (ix2 r k)) (d (ix2 r k) * e (ix2 r k) * g (ix2 r k) * (1 - g (ix2 r k))) := by
  pointwise [k0_pay4, k0_pay2]

/-- The weight of the gate from its four shards. -/
theorem weight_at (w : Vec Ideal S4x256x1024 .bf16) (j k : Fin 1024) :
    concatenate S1024x1024 0 [⟨S256x1024, shapeCast S256x1024 (View.ld w r0_1) shapeCasts_S1x256x1024_S256x1024⟩, ⟨S256x1024, shapeCast S256x1024 (View.ld w r0_2) shapeCasts_S1x256x1024_S256x1024⟩, ⟨S256x1024, shapeCast S256x1024 (View.ld w r0_3) shapeCasts_S1x256x1024_S256x1024⟩, ⟨S256x1024, shapeCast S256x1024 (View.ld w r0_4) shapeCasts_S1x256x1024_S256x1024⟩] concatenates_S256x1024_S256x1024_S256x1024_S256x1024_S1024x1024_d0 (ix2 j k)
      = w (ix3 ⟨j.val / 256, by omega⟩ ⟨j.val % 256, by omega⟩ k) := by
  have cast_at : ∀ (v : Vec Ideal S1x256x1024 .bf16) (q : Fin 256) (k : Fin 1024), shapeCast S256x1024 v shapeCasts_S1x256x1024_S256x1024 (ix2 q k) = v (ix3 0 q k) := by
    intro v q k
    pointwise
  refine stacked _ _ _ _ _ (fun s q k => w (ix3 s q k)) (fun q k => ?_) (fun q k => ?_) (fun q k => ?_) (fun q k => ?_) ⟨j.val / 256, by omega⟩ ⟨j.val % 256, by omega⟩ k j (by dsimp only; omega)
  all_goals exact (cast_at _ q k).trans (load_layer _ w _ q k rfl)

theorem dx_at (d : Vec Ideal S512x1024 .f32) (e g : Vec Ideal S512x1024 .bf16) (w : Vec Ideal S4x256x1024 .bf16) (r : Fin 512) (j : Fin 1024) :
    @Eq EReal (k0_pay5 d e g (View.ld w r0_1) (View.ld w r0_2) (View.ld w r0_3) (View.ld w r0_4) (ix2 r j))
      (d (ix2 r j) + ∑ k : Fin 1024, d (ix2 r k) * e (ix2 r k) * g (ix2 r k) * (1 - g (ix2 r k)) * w (ix3 ⟨j.val / 256, by omega⟩ ⟨j.val % 256, by omega⟩ k)) := by
  simp only [← weight_at]
  generalize hW : concatenate S1024x1024 0 [⟨S256x1024, shapeCast S256x1024 (View.ld w r0_1) shapeCasts_S1x256x1024_S256x1024⟩, ⟨S256x1024, shapeCast S256x1024 (View.ld w r0_2) shapeCasts_S1x256x1024_S256x1024⟩, ⟨S256x1024, shapeCast S256x1024 (View.ld w r0_3) shapeCasts_S1x256x1024_S256x1024⟩, ⟨S256x1024, shapeCast S256x1024 (View.ld w r0_4) shapeCasts_S1x256x1024_S256x1024⟩] concatenates_S256x1024_S256x1024_S256x1024_S256x1024_S1024x1024_d0 = W
  unfold k0_pay5
  rw [hW]
  pointwise [dgp_at]

theorem dgated_at (v : FVec Ideal S512x1024 .bf16) (w : Vec Ideal S1024x1024 .bf16) (r : Fin 512) (j : Fin 1024) :
    @Eq EReal (k0_pay1 v w (ix2 r j)) (∑ k : Fin 1024, v (ix2 r k) * w (ix2 j k)) := by
  pointwise [k0_pay1]

/-! ## The arrays and the blocks of them a point is handed -/

variable (m : (ℓ : Loc nD τ sig) → Buf (Elt Ideal) ℓ) (c : Dev nD)

abbrev x0 : FVec Ideal S2048x1024 .f32 := m ((c.tc : Thread nD τ).loc main_arg0)
abbrev x1 : FVec Ideal S2048x256 .f32 := m ((c.tc : Thread nD τ).loc main_arg1)
abbrev x2 : FVec Ideal S256x1024 .f32 := m ((c.tc : Thread nD τ).loc main_arg2)
abbrev x3 : FVec Ideal S1024x1024 .f32 := m ((c.tc : Thread nD τ).loc main_arg3)
abbrev x4 : FVec Ideal S1024x1024 .f32 := m ((c.tc : Thread nD τ).loc main_arg4)
abbrev x5 : FVec Ideal S2048x1024 .f32 := m ((c.tc : Thread nD τ).loc main_arg5)

/-- The embedding and the gate, as the reference computes them. -/
abbrev emb : FVec Ideal S2048x1024 .f32 := Cert.Reference12Ideal.Read.val_main_v0 (F := Ideal) (x1 m c) (x2 m c)
abbrev gat : FVec Ideal S2048x1024 .f32 := Cert.Reference12Ideal.Read.val_main_v7 (F := Ideal) (x0 m c) (x3 m c)

theorem host_e : @Eq (FVec Ideal S2048x1024 .bf16) (V m c main_v1) (truncf .bf16 (emb m c) bitsLt_bf16_f32) := by
  show StableHlo.after hostOps0 (fun b => m (c, b)) (Proc.devRef .tc main_v1) = _
  after_results
  rfl

theorem host_g : @Eq (FVec Ideal S2048x1024 .bf16) (V m c main_v9) (truncf .bf16 (gat m c) bitsLt_bf16_f32) := by
  show StableHlo.after hostOps0 (fun b => m (c, b)) (Proc.devRef .tc main_v9) = _
  after_results
  rfl

theorem host_w : @Eq (FVec Ideal S4x256x1024 .bf16) (V m c main_v11) (truncf .bf16 (shapeCast S4x256x1024 (x3 m c) shapeCasts_S1024x1024_S4x256x1024 : FVec Ideal S4x256x1024 .f32) bitsLt_bf16_f32) := by
  show StableHlo.after hostOps0 (fun b => m (c, b)) (Proc.devRef .tc main_v11) = _
  after_results
  rfl

theorem host_o : @Eq (FVec Ideal S1024x1024 .bf16) (V m c main_v12) (truncf .bf16 (x4 m c) bitsLt_bf16_f32) := by
  show StableHlo.after hostOps0 (fun b => m (c, b)) (Proc.devRef .tc main_v12) = _
  after_results

/-- Which block of its array each point is handed, and which it writes. -/
theorem index_of : ∀ t : Fin cfg0.N, win0_0.index t = ![t.val, 0] ∧ win0_1.index t = ![t.val, 0] ∧ win0_2.index t = ![t.val, 0] ∧ win0_3.index t = ![0, 0, 0] ∧ win0_4.index t = ![0, 0] :=
  (by decide +kernel : ∀ t : Fin grid0.N, _)
theorem index5 : ∀ t : Fin cfg0.N, win0_5.index t = ![t.val, 0] := (by decide +kernel : ∀ t : Fin grid0.N, _)
theorem index6 : ∀ t : Fin cfg0.N, win0_6.index t = ![t.val, 0] := (by decide +kernel : ∀ t : Fin grid0.N, _)
theorem index7 : ∀ t : Fin cfg0.N, win0_7.index t = ![t.val, 0] := (by decide +kernel : ∀ t : Fin grid0.N, _)
theorem index8 : ∀ t : Fin cfg0.N, win0_8.index t = ![t.val, 0] := (by decide +kernel : ∀ t : Fin grid0.N, _)

/-- A tile's row of the array. -/
abbrev row (t : Fin cfg0.N) (r : Fin 512) : Fin 2048 := ⟨512 * t.val + r.val, by have := t.isLt; have : cfg0.N = 4 := N_0; omega⟩

abbrev blkD (t : Fin cfg0.N) : Vec Ideal S512x1024 .f32 := iblk m c 0 t
abbrev blkE (t : Fin cfg0.N) : Vec Ideal S512x1024 .bf16 := iblk m c 1 t
abbrev blkG (t : Fin cfg0.N) : Vec Ideal S512x1024 .bf16 := iblk m c 2 t
abbrev blkW (t : Fin cfg0.N) : Vec Ideal S4x256x1024 .bf16 := iblk m c 3 t
abbrev blkO (t : Fin cfg0.N) : Vec Ideal S1024x1024 .bf16 := iblk m c 4 t

theorem blkD_at (t : Fin cfg0.N) (r : Fin 512) (k : Fin 1024) : @Eq EReal (blkD m c t (ix2 r k)) (x5 m c (ix2 (row t r) k)) := by
  refine Eq.trans (b := (V m c main_arg5 : FVec Ideal S2048x1024 .f32) (ix2 (row t r) k)) ?_ (congrFun (V_main_arg5 m c) _)
  refine congrArg (V m c main_arg5 : FVec Ideal S2048x1024 .f32) (funext fun a => Fin.ext ?_)
  have e := (index_of t).1
  match a with
  | ⟨0, _⟩ => show win0_0.index t (0 : Fin 2) * 512 + 1 * r.val = 512 * t.val + r.val; rw [e]; show t.val * 512 + 1 * r.val = _; omega
  | ⟨1, _⟩ => show win0_0.index t (1 : Fin 2) * 1024 + 1 * k.val = k.val; rw [e]; show 0 * 1024 + 1 * k.val = _; omega

theorem blkE_at (t : Fin cfg0.N) (r : Fin 512) (k : Fin 1024) : @Eq EReal (blkE m c t (ix2 r k)) (emb m c (ix2 (row t r) k)) := by
  refine Eq.trans (b := (V m c main_v1 : FVec Ideal S2048x1024 .bf16) (ix2 (row t r) k)) ?_ (congrFun (host_e m c) _)
  refine congrArg (V m c main_v1 : FVec Ideal S2048x1024 .bf16) (funext fun a => Fin.ext ?_)
  have e := (index_of t).2.1
  match a with
  | ⟨0, _⟩ => show win0_1.index t (0 : Fin 2) * 512 + 1 * r.val = 512 * t.val + r.val; rw [e]; show t.val * 512 + 1 * r.val = _; omega
  | ⟨1, _⟩ => show win0_1.index t (1 : Fin 2) * 1024 + 1 * k.val = k.val; rw [e]; show 0 * 1024 + 1 * k.val = _; omega

theorem blkG_at (t : Fin cfg0.N) (r : Fin 512) (k : Fin 1024) : @Eq EReal (blkG m c t (ix2 r k)) (gat m c (ix2 (row t r) k)) := by
  refine Eq.trans (b := (V m c main_v9 : FVec Ideal S2048x1024 .bf16) (ix2 (row t r) k)) ?_ (congrFun (host_g m c) _)
  refine congrArg (V m c main_v9 : FVec Ideal S2048x1024 .bf16) (funext fun a => Fin.ext ?_)
  have e := (index_of t).2.2.1
  match a with
  | ⟨0, _⟩ => show win0_2.index t (0 : Fin 2) * 512 + 1 * r.val = 512 * t.val + r.val; rw [e]; show t.val * 512 + 1 * r.val = _; omega
  | ⟨1, _⟩ => show win0_2.index t (1 : Fin 2) * 1024 + 1 * k.val = k.val; rw [e]; show 0 * 1024 + 1 * k.val = _; omega

theorem blkW_at (t : Fin cfg0.N) (j k : Fin 1024) : @Eq EReal (blkW m c t (ix3 ⟨j.val / 256, by omega⟩ ⟨j.val % 256, by omega⟩ k)) (x3 m c (ix2 j k)) := by
  refine Eq.trans (b := (V m c main_v11 : FVec Ideal S4x256x1024 .bf16) (ix3 ⟨j.val / 256, by omega⟩ ⟨j.val % 256, by omega⟩ k)) ?_ ((congrFun (host_w m c) _).trans ?_)
  · refine congrArg (V m c main_v11 : FVec Ideal S4x256x1024 .bf16) (funext fun a => Fin.ext ?_)
    have e := (index_of t).2.2.2.1
    match a with
    | ⟨0, _⟩ => show win0_3.index t (0 : Fin 3) * 4 + 1 * (j.val / 256) = j.val / 256; rw [e]; show 0 * 4 + 1 * (j.val / 256) = _; omega
    | ⟨1, _⟩ => show win0_3.index t (1 : Fin 3) * 256 + 1 * (j.val % 256) = j.val % 256; rw [e]; show 0 * 256 + 1 * (j.val % 256) = _; omega
    | ⟨2, _⟩ => show win0_3.index t (2 : Fin 3) * 1024 + 1 * k.val = k.val; rw [e]; show 0 * 1024 + 1 * k.val = _; omega
  · refine shapeCast_apply (x3 m c) _ _ _ ?_
    rewrite [Shape.rowMajor_val_two, Shape.rowMajor_val_three]
    show j.val * 1024 + k.val = (j.val / 256 * 256 + j.val % 256) * 1024 + k.val
    omega

theorem blkO_at (t : Fin cfg0.N) (j k : Fin 1024) : @Eq EReal (blkO m c t (ix2 j k)) (x4 m c (ix2 j k)) := by
  refine Eq.trans (b := (V m c main_v12 : FVec Ideal S1024x1024 .bf16) (ix2 j k)) ?_ (congrFun (host_o m c) _)
  refine congrArg (V m c main_v12 : FVec Ideal S1024x1024 .bf16) (funext fun a => Fin.ext ?_)
  have e := (index_of t).2.2.2.2
  match a with
  | ⟨0, _⟩ => show win0_4.index t (0 : Fin 2) * 1024 + 1 * j.val = j.val; rw [e]; show 0 * 1024 + 1 * j.val = _; omega
  | ⟨1, _⟩ => show win0_4.index t (1 : Fin 2) * 1024 + 1 * k.val = k.val; rw [e]; show 0 * 1024 + 1 * k.val = _; omega

/-! ## What the reference's lines are, entry by entry -/

open Cert.Reference12Ideal.Read in
theorem ref_d (i : S2048x1024.Idx) : val_main_v13 (F := Ideal) (x5 m c) i = x5 m c i := by
  rw [val_main_v13_apply]
  refine congrArg _ (funext fun a => Fin.ext ?_)
  have h0 : (i 0).val < 2048 := (i 0).isLt
  have h1 : (i 1).val < 1024 := (i 1).isLt
  match a with
  | ⟨0, _⟩ => show ((i 0).val * 1024 + (i 1).val) / 1024 = (i 0).val; omega
  | ⟨1, _⟩ => show ((i 0).val * 1024 + (i 1).val) % 1024 = (i 1).val; omega

open Cert.Reference12Ideal.Read in
theorem ref_dgp (i : S2048x1024.Idx) : @Eq EReal (val_main_v16 (F := Ideal) (x0 m c) (x1 m c) (x2 m c) (x3 m c) (x5 m c) i) (x5 m c i * emb m c i * gat m c i * (1 - gat m c i)) := by
  rw [val_main_v16_apply, val_main_v14_apply, val_main_v10_apply, val_main_v9_apply, val_main_v8_apply, val_main_cst_1_apply, ref_d]
  change FloatOps.mulf (FloatOps.mulf (emb m c i) (x5 m c i)) (FloatOps.mulf (gat m c i) (FloatOps.subf (FloatOps.ofBits .f32 0x3F800000#32) (gat m c i))) = _
  generalize gat m c = g
  generalize emb m c = e
  pointwise
  rw [mul_comm (e i), ← mul_assoc]

open Cert.Reference12Ideal.Read in
theorem ref_dx (i : Fin 2048) (j : Fin 1024) : @Eq EReal (val_main_v18 (F := Ideal) (x0 m c) (x1 m c) (x2 m c) (x3 m c) (x5 m c) (ix2 i j))
    (x5 m c (ix2 i j) + ∑ k : Fin 1024, x5 m c (ix2 i k) * emb m c (ix2 i k) * gat m c (ix2 i k) * (1 - gat m c (ix2 i k)) * x3 m c (ix2 j k)) := by
  rw [val_main_v18_apply, val_main_v17_apply]
  refine congrArg (x5 m c (ix2 i j) + ·) (Finset.sum_congr rfl fun k _ => ?_)
  refine congrArg₂ (· * ·) ((ref_dgp m c _).trans ?_) (congrArg _ (funext fun a => Fin.ext ?_))
  · rw [show lidx_main_v17 (ix2 i j) k = ix2 i k from funext fun a => match a with | ⟨0, _⟩ => rfl | ⟨1, _⟩ => rfl]
  · match a with
    | ⟨0, _⟩ => rfl
    | ⟨1, _⟩ => rfl

/-! ## The arrays the launch leaves -/

theorem place5 (t : Fin cfg0.N) (r : Fin 512) (k : Fin 1024) : (win0_5.blk t).view.emb (ix2 r k) = ix2 (row t r) k := by
  funext a
  apply Fin.ext
  have e := index5 t
  match a with
  | ⟨0, _⟩ => show win0_5.index t (0 : Fin 2) * 512 + 1 * r.val = 512 * t.val + r.val; rw [e]; show t.val * 512 + 1 * r.val = _; omega
  | ⟨1, _⟩ => show win0_5.index t (1 : Fin 2) * 1024 + 1 * k.val = k.val; rw [e]; show 0 * 1024 + 1 * k.val = _; omega

theorem place6 (t : Fin cfg0.N) (r : Fin 512) (k : Fin 1024) : (win0_6.blk t).view.emb (ix2 r k) = ix2 (row t r) k := by
  funext a
  apply Fin.ext
  have e := index6 t
  match a with
  | ⟨0, _⟩ => show win0_6.index t (0 : Fin 2) * 512 + 1 * r.val = 512 * t.val + r.val; rw [e]; show t.val * 512 + 1 * r.val = _; omega
  | ⟨1, _⟩ => show win0_6.index t (1 : Fin 2) * 1024 + 1 * k.val = k.val; rw [e]; show 0 * 1024 + 1 * k.val = _; omega

theorem place7 (t : Fin cfg0.N) (r : Fin 512) (k : Fin 1024) : (win0_7.blk t).view.emb (ix2 r k) = ix2 (row t r) k := by
  funext a
  apply Fin.ext
  have e := index7 t
  match a with
  | ⟨0, _⟩ => show win0_7.index t (0 : Fin 2) * 512 + 1 * r.val = 512 * t.val + r.val; rw [e]; show t.val * 512 + 1 * r.val = _; omega
  | ⟨1, _⟩ => show win0_7.index t (1 : Fin 2) * 1024 + 1 * k.val = k.val; rw [e]; show 0 * 1024 + 1 * k.val = _; omega

theorem place8 (t : Fin cfg0.N) (r : Fin 512) (k : Fin 1024) : (win0_8.blk t).view.emb (ix2 r k) = ix2 (row t r) k := by
  funext a
  apply Fin.ext
  have e := index8 t
  match a with
  | ⟨0, _⟩ => show win0_8.index t (0 : Fin 2) * 512 + 1 * r.val = 512 * t.val + r.val; rw [e]; show t.val * 512 + 1 * r.val = _; omega
  | ⟨1, _⟩ => show win0_8.index t (1 : Fin 2) * 1024 + 1 * k.val = k.val; rw [e]; show 0 * 1024 + 1 * k.val = _; omega

theorem final5 : (dats m 0 c).arrAt 5 cfg0.N = Cert.Reference12Ideal.Read.val_main_v21 (F := Ideal) (x0 m c) (x3 m c) (x5 m c) := by
  refine (dats m 0 c).arrAt_eq_of_covers 5 _ (by decide +kernel) fun t hf y => ?_
  obtain ⟨r, k, rfl⟩ : ∃ (r : Fin 512) (k : Fin 1024), y = ix2 r k := ⟨y 0, y 1, eq_ix2 y⟩
  blk_simp
  rw [after0_5]
  unfold out0_5
  refine (canon_whole _ _ _ r k).trans ((de_at _ _ r k).trans ?_)
  rw [load_whole, load_whole, place5]
  refine (congrArg₂ (· * ·) (blkD_at m c t r k) (blkG_at m c t r k)).trans ?_
  exact congrArg (· * gat m c (ix2 (row t r) k)) (ref_d m c _).symm

theorem final6 : (dats m 0 c).arrAt 6 cfg0.N = Cert.Reference12Ideal.Read.val_main_v22 (F := Ideal) (x0 m c) (x1 m c) (x2 m c) (x3 m c) (x5 m c) := by
  refine (dats m 0 c).arrAt_eq_of_covers 6 _ (by decide +kernel) fun t hf y => ?_
  obtain ⟨r, k, rfl⟩ : ∃ (r : Fin 512) (k : Fin 1024), y = ix2 r k := ⟨y 0, y 1, eq_ix2 y⟩
  blk_simp
  rw [after0_6]
  unfold out0_6
  refine (canon_whole _ _ _ r k).trans ((dgp_at _ _ _ r k).trans ?_)
  rw [load_whole, load_whole, load_whole, place6]
  refine Eq.trans ?_ (ref_dgp m c (ix2 (row t r) k)).symm
  rw [show iblk m c 0 t (ix2 r k) = _ from blkD_at m c t r k, show iblk m c 1 t (ix2 r k) = _ from blkE_at m c t r k, show iblk m c 2 t (ix2 r k) = _ from blkG_at m c t r k]

/-- The input's cotangent in a tile. -/
theorem tile_dx (t : Fin cfg0.N) (r : Fin 512) (j : Fin 1024) :
    @Eq EReal (k0_pay5 (View.ld (blkD m c t) r0_0) (View.ld (blkE m c t) r0_0) (View.ld (blkG m c t) r0_0) (View.ld (blkW m c t) r0_1) (View.ld (blkW m c t) r0_2) (View.ld (blkW m c t) r0_3) (View.ld (blkW m c t) r0_4) (ix2 r j))
      (Cert.Reference12Ideal.Read.val_main_v18 (F := Ideal) (x0 m c) (x1 m c) (x2 m c) (x3 m c) (x5 m c) (ix2 (row t r) j)) := by
  refine (dx_at _ _ _ _ r j).trans (Eq.trans ?_ (ref_dx m c (row t r) j).symm)
  refine congrArg₂ (· + ·) ((load_whole _ _ r j).trans (blkD_at m c t r j)) (Finset.sum_congr rfl fun k _ => ?_)
  refine congrArg₂ (· * ·) ?_ (blkW_at m c t j k)
  rw [show View.ld (blkD m c t) r0_0 (ix2 r k) = _ from (load_whole _ _ r k).trans (blkD_at m c t r k), show View.ld (blkE m c t) r0_0 (ix2 r k) = _ from (load_whole _ _ r k).trans (blkE_at m c t r k),
    show View.ld (blkG m c t) r0_0 (ix2 r k) = _ from (load_whole _ _ r k).trans (blkG_at m c t r k)]

theorem final7 : (dats m 0 c).arrAt 7 cfg0.N = Cert.Reference12Ideal.Read.val_main_v18 (F := Ideal) (x0 m c) (x1 m c) (x2 m c) (x3 m c) (x5 m c) := by
  refine (dats m 0 c).arrAt_eq_of_covers 7 _ (by decide +kernel) fun t hf y => ?_
  obtain ⟨r, k, rfl⟩ : ∃ (r : Fin 512) (k : Fin 1024), y = ix2 r k := ⟨y 0, y 1, eq_ix2 y⟩
  blk_simp
  rw [after0_7]
  unfold out0_7
  refine (canon_whole _ _ _ r k).trans ?_
  rw [place7]
  exact tile_dx m c t r k

theorem final8 : (dats m 0 c).arrAt 8 cfg0.N = Cert.Reference12Ideal.Read.val_main_v24 (F := Ideal) (x0 m c) (x1 m c) (x2 m c) (x3 m c) (x4 m c) (x5 m c) := by
  refine (dats m 0 c).arrAt_eq_of_covers 8 _ (by decide +kernel) fun t hf y => ?_
  obtain ⟨r, j, rfl⟩ : ∃ (r : Fin 512) (j : Fin 1024), y = ix2 r j := ⟨y 0, y 1, eq_ix2 y⟩
  blk_simp
  rw [after0_8]
  unfold out0_8
  refine (canon_whole _ _ _ r j).trans ((dgated_at _ _ r j).trans ?_)
  rw [place8]
  refine Eq.trans ?_ (Cert.Reference12Ideal.Read.val_main_v23_apply _ _ _ _ _ _ _).symm
  refine Finset.sum_congr rfl fun k _ => ?_
  rw [load_whole]
  refine congrArg₂ (· * ·) ((tile_dx m c t r k).trans (congrArg _ (funext fun a => Fin.ext ?_))) ((blkO_at m c t j k).trans (congrArg _ (funext fun a => Fin.ext ?_)))
  · match a with
    | ⟨0, _⟩ => rfl
    | ⟨1, _⟩ => rfl
  · match a with
    | ⟨0, _⟩ => rfl
    | ⟨1, _⟩ => rfl

end Cert.Kernel12Ideal.Grad

namespace Cert.Proof

open Idealize.ShloMosaic Idealize.SL.Sem

theorem frame_kernel12 : @Cert.quiescent_Kernel12 Cert.Kernel12.Gen.facts := fun m g _ => Cert.Kernel12.Gen.frame m g

theorem frame_ideal12 : @Cert.quiescent_Kernel12Ideal Cert.Kernel12Ideal.Gen.facts := fun m g _ => Cert.Kernel12Ideal.Gen.frame m g

theorem frame_reference12 : @Cert.quiescent_Reference12Ideal Cert.Reference12Ideal.Gen.facts := fun m g _ =>
  (θ_run _ _ _).mono (fun r h => ⟨fun c => (h c).2.2.2.2, sem_eq_zero_of_no_sems rfl r.2⟩) (Cert.Reference12Ideal.Value.run m g)

theorem gradients12 : @Cert.algebraic_Kernel12Ideal_Reference12Ideal Cert.Kernel12Ideal.Gen.facts Cert.Reference12Ideal.Gen.facts := by
  intro m g m' g' _ hagree
  refine ⟨fun c => _, fun c => _, fun c => _, fun c => _, (θ_run _ _ _).mono (fun r h c => ⟨(h c).1.trans (Cert.Kernel12Ideal.Grad.final5 m c), (h c).2.1.trans (Cert.Kernel12Ideal.Grad.final6 m c),
    (h c).2.2.1.trans (Cert.Kernel12Ideal.Grad.final7 m c), (h c).2.2.2.1.trans (Cert.Kernel12Ideal.Grad.final8 m c), (h c).2.2.2.2⟩) (Cert.Kernel12Ideal.Value.run_blocks m g), ?_⟩
  refine (θ_run _ _ _).mono (fun r h c => ?_) (Cert.Reference12Ideal.Value.run m' g')
  obtain ⟨e0, e1, e2, e3, e4, e5⟩ := hagree c
  refine ⟨(h c).1.trans ((Cert.Reference12Ideal.Read.val_main_v21_eq _ _ _).trans ?_), (h c).2.1.trans ((Cert.Reference12Ideal.Read.val_main_v22_eq _ _ _ _ _).trans ?_),
    (h c).2.2.1.trans ((Cert.Reference12Ideal.Read.val_main_v18_eq _ _ _ _ _).trans ?_), (h c).2.2.2.1.trans ((Cert.Reference12Ideal.Read.val_main_v24_eq _ _ _ _ _ _).trans ?_), (h c).2.2.2.2⟩
  · rw [e0, e3, e5]
  · rw [e0, e1, e2, e3, e5]
  · rw [e0, e1, e2, e3, e5]
  · rw [e0, e1, e2, e3, e4, e5]

/-- The second call's text is the first's. -/
theorem same_back : @Cert.algebraic_Kernel13Ideal_Reference12Ideal Cert.Kernel13Ideal.Gen.facts Cert.Reference12Ideal.Gen.facts = @Cert.algebraic_Kernel12Ideal_Reference12Ideal Cert.Kernel12Ideal.Gen.facts Cert.Reference12Ideal.Gen.facts := by
  sl_kernel_rfl

theorem frame_kernel13 : @Cert.quiescent_Kernel13 Cert.Kernel13.Gen.facts := fun m g _ => Cert.Kernel13.Gen.frame m g

theorem frame_ideal13 : @Cert.quiescent_Kernel13Ideal Cert.Kernel13Ideal.Gen.facts := fun m g _ => Cert.Kernel13Ideal.Gen.frame m g

theorem gradients13 : @Cert.algebraic_Kernel13Ideal_Reference12Ideal Cert.Kernel13Ideal.Gen.facts Cert.Reference12Ideal.Gen.facts := same_back.mpr gradients12

end Cert.Proof

end
-- ==== Proof.Forward.lean ====
/- Forward of a layer's output: the projection and its residual, the embedding and its gate. -/
module

public import proofs.«01_k».proof.Defs
public import proofs.«01_k».proof.Proof.Gen.Kernel15.Frame
public import proofs.«01_k».proof.Proof.Gen.Kernel15Ideal.Value
public import proofs.«01_k».proof.Proof.Gen.Reference15Ideal.Run
public import proofs.«01_k».proof.Proof.Gen.Reference15Ideal.Read
public import proofs.«01_k».proof.Proof.Blocks
public import proofs.«01_k».proof.Proof.Shards

@[expose] public section

set_option maxRecDepth 16384

noncomputable section

namespace Cert.Kernel15Ideal.Fwd
open Cert.Kernel15Ideal Cert.Kernel15Ideal.Gen Cert.Blocks
open Idealize.ShloMosaic Idealize.ShloMosaic.TcCoe Idealize.SL.Sem

/-! ## The tile's values, entry by entry -/

theorem mid_at (x : Vec Ideal S512x1024 .f32) (v : Vec Ideal S512x1024 .bf16) (w : Vec Ideal S1024x1024 .bf16) (r : Fin 512) (j : Fin 1024) :
    @Eq EReal (k0_pay5 x v w (ix2 r j)) (x (ix2 r j) + ∑ k : Fin 1024, v (ix2 r k) * w (ix2 k j)) := by
  pointwise [k0_pay5]

/-- One shard's columns of the embedding. -/
theorem shard_at (p : Vec Ideal S1x1x512x256 .f32) (w : Vec Ideal S1x256x256 .bf16) (r : Fin 512) (c : Fin 256) :
    @Eq EReal (matmul (F := Ideal) dot_S512x256_S256x256_S512x256_1_0_0_1_n_n none (truncf .bf16 (shapeCast S512x256 p shapeCasts_S1x1x512x256_S512x256 : FVec Ideal S512x256 .f32) bitsLt_bf16_f32) (shapeCast S256x256 w shapeCasts_S1x256x256_S256x256 : FVec Ideal S256x256 .bf16) (constant S512x256 .f32 0x00000000#32) (ix2 r c))
      (∑ k : Fin 256, p (ix4 0 0 r k) * w (ix3 0 k c)) := by
  pointwise

theorem emb_at (p : Vec Ideal S1x1x512x256 .f32) (w : Vec Ideal S4x256x256 .bf16) (r : Fin 512) (j : Fin 1024) :
    @Eq EReal (k0_pay6 p (View.ld w r0_3) (View.ld w r0_4) (View.ld w r0_5) (View.ld w r0_6) (ix2 r j))
      (∑ k : Fin 256, p (ix4 0 0 r k) * w (ix3 ⟨j.val / 256, by omega⟩ k ⟨j.val % 256, by omega⟩)) := by
  unfold k0_pay6
  refine abreast _ _ _ _ _ (fun s r c => (∑ k : Fin 256, p (ix4 0 0 r k) * w (ix3 s k c) : EReal)) (fun r c => ?_) (fun r c => ?_) (fun r c => ?_) (fun r c => ?_) ⟨j.val / 256, by omega⟩ r ⟨j.val % 256, by omega⟩ j (by dsimp only; omega)
  all_goals
    refine (shard_at p _ r c).trans (Finset.sum_congr rfl fun k _ => congrArg (p (ix4 0 0 r k) * ·) ?_)
    exact load_layer _ w _ k c rfl

/-- The weight of the gate from its four shards. -/
theorem weight_at (w : Vec Ideal S4x256x1024 .bf16) (k j : Fin 1024) :
    concatenate S1024x1024 0 [⟨S256x1024, k0_pay7 (View.ld w r0_7)⟩, ⟨S256x1024, shapeCast S256x1024 (View.ld w r0_8) shapeCasts_S1x256x1024_S256x1024⟩, ⟨S256x1024, shapeCast S256x1024 (View.ld w r0_9) shapeCasts_S1x256x1024_S256x1024⟩, ⟨S256x1024, shapeCast S256x1024 (View.ld w r0_10) shapeCasts_S1x256x1024_S256x1024⟩] concatenates_S256x1024_S256x1024_S256x1024_S256x1024_S1024x1024_d0 (ix2 k j)
      = w (ix3 ⟨k.val / 256, by omega⟩ ⟨k.val % 256, by omega⟩ j) := by
  have cast_at : ∀ (v : Vec Ideal S1x256x1024 .bf16) (q : Fin 256) (k : Fin 1024), shapeCast S256x1024 v shapeCasts_S1x256x1024_S256x1024 (ix2 q k) = v (ix3 0 q k) := by
    intro v q k
    pointwise
  refine stacked _ _ _ _ _ (fun s q k => w (ix3 s q k)) (fun q k => ?_) (fun q k => ?_) (fun q k => ?_) (fun q k => ?_) ⟨k.val / 256, by omega⟩ ⟨k.val % 256, by omega⟩ j k (by dsimp only; omega)
  · exact (show k0_pay7 (View.ld w r0_7) (ix2 q k) = View.ld w r0_7 (ix3 0 q k) from by pointwise [k0_pay7]).trans (load_layer _ w _ q k rfl)
  all_goals exact (cast_at _ q k).trans (load_layer _ w _ q k rfl)

theorem gate_at (x : FVec Ideal S512x1024 .f32) (w : Vec Ideal S4x256x1024 .bf16) (r : Fin 512) (j : Fin 1024) :
    @Eq EReal (k0_pay1 x (k0_pay7 (View.ld w r0_7)) (View.ld w r0_8) (View.ld w r0_9) (View.ld w r0_10) (ix2 r j))
      (Ideal.logistic (∑ k : Fin 1024, x (ix2 r k) * w (ix3 ⟨k.val / 256, by omega⟩ ⟨k.val % 256, by omega⟩ j))) := by
  simp only [← weight_at]
  generalize hW : concatenate S1024x1024 0 [⟨S256x1024, k0_pay7 (View.ld w r0_7)⟩, ⟨S256x1024, shapeCast S256x1024 (View.ld w r0_8) shapeCasts_S1x256x1024_S256x1024⟩, ⟨S256x1024, shapeCast S256x1024 (View.ld w r0_9) shapeCasts_S1x256x1024_S256x1024⟩, ⟨S256x1024, shapeCast S256x1024 (View.ld w r0_10) shapeCasts_S1x256x1024_S256x1024⟩] concatenates_S256x1024_S256x1024_S256x1024_S256x1024_S1024x1024_d0 = W
  unfold k0_pay1
  rw [hW]
  pointwise

/-! ## The arrays and the blocks of them a point is handed -/

variable (m : (ℓ : Loc nD τ sig) → Buf (Elt Ideal) ℓ) (c : Dev nD)

abbrev x0 : FVec Ideal S2048x1024 .f32 := m ((c.tc : Thread nD τ).loc main_arg0)
abbrev x1 : FVec Ideal S2048x1024 .f32 := m ((c.tc : Thread nD τ).loc main_arg1)
abbrev x2 : FVec Ideal S1024x1024 .f32 := m ((c.tc : Thread nD τ).loc main_arg2)
abbrev x3 : FVec Ideal S2x1x2048x256 .f32 := m ((c.tc : Thread nD τ).loc main_arg3)
abbrev x4 : FVec Ideal S256x1024 .f32 := m ((c.tc : Thread nD τ).loc main_arg4)
abbrev x5 : FVec Ideal S1024x1024 .f32 := m ((c.tc : Thread nD τ).loc main_arg5)

theorem host_v : @Eq (FVec Ideal S2048x1024 .bf16) (V m c main_v0) (truncf .bf16 (x0 m c) bitsLt_bf16_f32) := by
  show StableHlo.after hostOps0 (fun b => m (c, b)) (Proc.devRef .tc main_v0) = _
  after_results

theorem host_o : @Eq (FVec Ideal S1024x1024 .bf16) (V m c main_v1) (truncf .bf16 (x2 m c) bitsLt_bf16_f32) := by
  show StableHlo.after hostOps0 (fun b => m (c, b)) (Proc.devRef .tc main_v1) = _
  after_results

theorem host_p : @Eq (FVec Ideal S4x256x256 .bf16) (V m c main_v4) (truncf .bf16 (transpose S4x256x256 [1, 0, 2] (shapeCast S256x4x256 (x4 m c) shapeCasts_S256x1024_S256x4x256 : FVec Ideal S256x4x256 .f32) transposes_S256x4x256_S4x256x256_1_0_2 : FVec Ideal S4x256x256 .f32) bitsLt_bf16_f32) := by
  show StableHlo.after hostOps0 (fun b => m (c, b)) (Proc.devRef .tc main_v4) = _
  after_results
  rfl

theorem host_w : @Eq (FVec Ideal S4x256x1024 .bf16) (V m c main_v6) (truncf .bf16 (shapeCast S4x256x1024 (x5 m c) shapeCasts_S1024x1024_S4x256x1024 : FVec Ideal S4x256x1024 .f32) bitsLt_bf16_f32) := by
  show StableHlo.after hostOps0 (fun b => m (c, b)) (Proc.devRef .tc main_v6) = _
  after_results
  rfl

/-- Which block of its array each point is handed, and which it writes. -/
theorem index_of : ∀ t : Fin cfg0.N, win0_0.index t = ![t.val, 0] ∧ win0_1.index t = ![t.val, 0] ∧ win0_2.index t = ![0, 0] ∧ win0_3.index t = ![0, 0, t.val, 0] ∧ win0_4.index t = ![0, 0, 0] ∧ win0_5.index t = ![0, 0, 0] :=
  (by decide +kernel : ∀ t : Fin grid0.N, _)
theorem index6 : ∀ t : Fin cfg0.N, win0_6.index t = ![t.val, 0] := (by decide +kernel : ∀ t : Fin grid0.N, _)
theorem index7 : ∀ t : Fin cfg0.N, win0_7.index t = ![t.val, 0] := (by decide +kernel : ∀ t : Fin grid0.N, _)
theorem index8 : ∀ t : Fin cfg0.N, win0_8.index t = ![t.val, 0] := (by decide +kernel : ∀ t : Fin grid0.N, _)
theorem index9 : ∀ t : Fin cfg0.N, win0_9.index t = ![t.val, 0] := (by decide +kernel : ∀ t : Fin grid0.N, _)

/-- A tile's row of the array. -/
abbrev row (t : Fin cfg0.N) (r : Fin 512) : Fin 2048 := ⟨512 * t.val + r.val, by have := t.isLt; have : cfg0.N = 4 := N_0; omega⟩

abbrev blkV (t : Fin cfg0.N) : Vec Ideal S512x1024 .bf16 := iblk m c 0 t
abbrev blkX (t : Fin cfg0.N) : Vec Ideal S512x1024 .f32 := iblk m c 1 t
abbrev blkO (t : Fin cfg0.N) : Vec Ideal S1024x1024 .bf16 := iblk m c 2 t
abbrev blkP (t : Fin cfg0.N) : Vec Ideal S1x1x512x256 .f32 := iblk m c 3 t
abbrev blkE (t : Fin cfg0.N) : Vec Ideal S4x256x256 .bf16 := iblk m c 4 t
abbrev blkW (t : Fin cfg0.N) : Vec Ideal S4x256x1024 .bf16 := iblk m c 5 t

theorem blkV_at (t : Fin cfg0.N) (r : Fin 512) (k : Fin 1024) : @Eq EReal (blkV m c t (ix2 r k)) (x0 m c (ix2 (row t r) k)) := by
  refine Eq.trans (b := (V m c main_v0 : FVec Ideal S2048x1024 .bf16) (ix2 (row t r) k)) ?_ (congrFun (host_v m c) _)
  refine congrArg (V m c main_v0 : FVec Ideal S2048x1024 .bf16) (funext fun a => Fin.ext ?_)
  have e := (index_of t).1
  match a with
  | ⟨0, _⟩ => show win0_0.index t (0 : Fin 2) * 512 + 1 * r.val = 512 * t.val + r.val; rw [e]; show t.val * 512 + 1 * r.val = _; omega
  | ⟨1, _⟩ => show win0_0.index t (1 : Fin 2) * 1024 + 1 * k.val = k.val; rw [e]; show 0 * 1024 + 1 * k.val = _; omega

theorem blkX_at (t : Fin cfg0.N) (r : Fin 512) (k : Fin 1024) : @Eq EReal (blkX m c t (ix2 r k)) (x1 m c (ix2 (row t r) k)) := by
  refine Eq.trans (b := (V m c main_arg1 : FVec Ideal S2048x1024 .f32) (ix2 (row t r) k)) ?_ (congrFun (V_main_arg1 m c) _)
  refine congrArg (V m c main_arg1 : FVec Ideal S2048x1024 .f32) (funext fun a => Fin.ext ?_)
  have e := (index_of t).2.1
  match a with
  | ⟨0, _⟩ => show win0_1.index t (0 : Fin 2) * 512 + 1 * r.val = 512 * t.val + r.val; rw [e]; show t.val * 512 + 1 * r.val = _; omega
  | ⟨1, _⟩ => show win0_1.index t (1 : Fin 2) * 1024 + 1 * k.val = k.val; rw [e]; show 0 * 1024 + 1 * k.val = _; omega

theorem blkO_at (t : Fin cfg0.N) (j k : Fin 1024) : @Eq EReal (blkO m c t (ix2 j k)) (x2 m c (ix2 j k)) := by
  refine Eq.trans (b := (V m c main_v1 : FVec Ideal S1024x1024 .bf16) (ix2 j k)) ?_ (congrFun (host_o m c) _)
  refine congrArg (V m c main_v1 : FVec Ideal S1024x1024 .bf16) (funext fun a => Fin.ext ?_)
  have e := (index_of t).2.2.1
  match a with
  | ⟨0, _⟩ => show win0_2.index t (0 : Fin 2) * 1024 + 1 * j.val = j.val; rw [e]; show 0 * 1024 + 1 * j.val = _; omega
  | ⟨1, _⟩ => show win0_2.index t (1 : Fin 2) * 1024 + 1 * k.val = k.val; rw [e]; show 0 * 1024 + 1 * k.val = _; omega

/-- A load of the layer's inputs' block, of its layer. -/
theorem blkP_at (t : Fin cfg0.N) (r : Fin 512) (k : Fin 256) : @Eq EReal (View.ld (blkP m c t) r0_2 (ix4 0 0 r k)) (x3 m c (ix4 0 0 (row t r) k)) := by
  refine Eq.trans (b := (V m c main_arg3 : FVec Ideal S2x1x2048x256 .f32) (ix4 0 0 (row t r) k)) ?_ (congrFun (V_main_arg3 m c) _)
  refine congrArg (V m c main_arg3 : FVec Ideal S2x1x2048x256 .f32) (funext fun a => Fin.ext ?_)
  have e := (index_of t).2.2.2.1
  match a with
  | ⟨0, _⟩ => show win0_3.index t (0 : Fin 4) * 1 + 1 * (0 + 1 * 0) = 0; rw [e]; rfl
  | ⟨1, _⟩ => show win0_3.index t (1 : Fin 4) * 1 + 1 * (0 + 1 * 0) = 0; rw [e]; rfl
  | ⟨2, _⟩ => show win0_3.index t (2 : Fin 4) * 512 + 1 * (0 + 1 * r.val) = 512 * t.val + r.val; rw [e]; show t.val * 512 + 1 * (0 + 1 * r.val) = _; omega
  | ⟨3, _⟩ => show win0_3.index t (3 : Fin 4) * 256 + 1 * (0 + 1 * k.val) = k.val; rw [e]; show 0 * 256 + 1 * (0 + 1 * k.val) = _; omega

theorem blkE_at (t : Fin cfg0.N) (k : Fin 256) (j : Fin 1024) : @Eq EReal (blkE m c t (ix3 ⟨j.val / 256, by omega⟩ k ⟨j.val % 256, by omega⟩)) (x4 m c (ix2 k j)) := by
  refine Eq.trans (b := (V m c main_v4 : FVec Ideal S4x256x256 .bf16) (ix3 ⟨j.val / 256, by omega⟩ k ⟨j.val % 256, by omega⟩)) ?_ ((congrFun (host_p m c) _).trans ?_)
  · refine congrArg (V m c main_v4 : FVec Ideal S4x256x256 .bf16) (funext fun a => Fin.ext ?_)
    have e := (index_of t).2.2.2.2.1
    match a with
    | ⟨0, _⟩ => show win0_4.index t (0 : Fin 3) * 4 + 1 * (j.val / 256) = j.val / 256; rw [e]; show 0 * 4 + 1 * (j.val / 256) = _; omega
    | ⟨1, _⟩ => show win0_4.index t (1 : Fin 3) * 256 + 1 * k.val = k.val; rw [e]; show 0 * 256 + 1 * k.val = _; omega
    | ⟨2, _⟩ => show win0_4.index t (2 : Fin 3) * 256 + 1 * (j.val % 256) = j.val % 256; rw [e]; show 0 * 256 + 1 * (j.val % 256) = _; omega
  · show transpose S4x256x256 [1, 0, 2] (shapeCast S256x4x256 (x4 m c) shapeCasts_S256x1024_S256x4x256 : FVec Ideal S256x4x256 .f32) transposes_S256x4x256_S4x256x256_1_0_2 (ix3 ⟨j.val / 256, by omega⟩ k ⟨j.val % 256, by omega⟩) = _
    refine (transpose_apply [1, 0, 2] _ transposes_S256x4x256_S4x256x256_1_0_2 (ix3 ⟨j.val / 256, by omega⟩ k ⟨j.val % 256, by omega⟩) (ix3 k ⟨j.val / 256, by omega⟩ ⟨j.val % 256, by omega⟩) (fun b => match b with | ⟨0, _⟩ => rfl | ⟨1, _⟩ => rfl | ⟨2, _⟩ => rfl)).trans ?_
    refine shapeCast_apply (x4 m c) _ _ _ ?_
    rewrite [Shape.rowMajor_val_two, Shape.rowMajor_val_three]
    show k.val * 1024 + j.val = (k.val * 4 + j.val / 256) * 256 + j.val % 256
    omega

theorem blkW_at (t : Fin cfg0.N) (k j : Fin 1024) : @Eq EReal (blkW m c t (ix3 ⟨k.val / 256, by omega⟩ ⟨k.val % 256, by omega⟩ j)) (x5 m c (ix2 k j)) := by
  refine Eq.trans (b := (V m c main_v6 : FVec Ideal S4x256x1024 .bf16) (ix3 ⟨k.val / 256, by omega⟩ ⟨k.val % 256, by omega⟩ j)) ?_ ((congrFun (host_w m c) _).trans ?_)
  · refine congrArg (V m c main_v6 : FVec Ideal S4x256x1024 .bf16) (funext fun a => Fin.ext ?_)
    have e := (index_of t).2.2.2.2.2
    match a with
    | ⟨0, _⟩ => show win0_5.index t (0 : Fin 3) * 4 + 1 * (k.val / 256) = k.val / 256; rw [e]; show 0 * 4 + 1 * (k.val / 256) = _; omega
    | ⟨1, _⟩ => show win0_5.index t (1 : Fin 3) * 256 + 1 * (k.val % 256) = k.val % 256; rw [e]; show 0 * 256 + 1 * (k.val % 256) = _; omega
    | ⟨2, _⟩ => show win0_5.index t (2 : Fin 3) * 1024 + 1 * j.val = j.val; rw [e]; show 0 * 1024 + 1 * j.val = _; omega
  · refine shapeCast_apply (x5 m c) _ _ _ ?_
    rewrite [Shape.rowMajor_val_two, Shape.rowMajor_val_three]
    show k.val * 1024 + j.val = (k.val / 256 * 256 + k.val % 256) * 1024 + j.val
    omega

/-! ## What the reference's lines are, entry by entry -/

open Cert.Reference15Ideal.Read in
theorem ref_mid (i : Fin 2048) (j : Fin 1024) : @Eq EReal (val_main_v3 (F := Ideal) (x0 m c) (x1 m c) (x2 m c) (ix2 i j))
    (x1 m c (ix2 i j) + ∑ k : Fin 1024, x0 m c (ix2 i k) * x2 m c (ix2 k j)) := by
  rw [val_main_v3_apply, val_main_v2_apply]
  refine congrArg (x1 m c (ix2 i j) + ·) (Finset.sum_congr rfl fun k _ => ?_)
  refine congrArg₂ (· * ·) (congrArg _ (funext fun a => Fin.ext ?_)) (congrArg _ (funext fun a => Fin.ext ?_))
  · match a with
    | ⟨0, _⟩ => rfl
    | ⟨1, _⟩ => rfl
  · match a with
    | ⟨0, _⟩ => rfl
    | ⟨1, _⟩ => rfl

open Cert.Reference15Ideal.Read in
theorem ref_emb (i : Fin 2048) (j : Fin 1024) : @Eq EReal (val_main_v4 (F := Ideal) (x3 m c) (x4 m c) (ix2 i j))
    (∑ k : Fin 256, x3 m c (ix4 0 0 i k) * x4 m c (ix2 k j)) := by
  rw [val_main_v4_apply]
  refine Finset.sum_congr rfl fun k _ => ?_
  rw [val_main_v1_apply, val_main_v0_apply]
  refine congrArg₂ (· * ·) (congrArg _ (funext fun a => Fin.ext ?_)) (congrArg _ (funext fun a => Fin.ext ?_))
  · match a with
    | ⟨0, _⟩ => rfl
    | ⟨1, _⟩ => rfl
    | ⟨2, _⟩ => show (i.val * 256 + k.val) / 256 % 2048 = i.val; omega
    | ⟨3, _⟩ => show (i.val * 256 + k.val) % 256 = k.val; omega
  · match a with
    | ⟨0, _⟩ => rfl
    | ⟨1, _⟩ => rfl

open Cert.Reference15Ideal.Read in
theorem ref_gate (i : Fin 2048) (j : Fin 1024) : @Eq EReal (val_main_v11 (F := Ideal) (x0 m c) (x1 m c) (x2 m c) (x5 m c) (ix2 i j))
    (Ideal.logistic (∑ k : Fin 1024, val_main_v3 (F := Ideal) (x0 m c) (x1 m c) (x2 m c) (ix2 i k) * x5 m c (ix2 k j))) := by
  rw [val_main_v11_apply, val_main_v10_apply, val_main_cst_0_apply, val_main_v9_apply, val_main_v8_apply, val_main_cst_apply, val_main_v7_apply, val_main_v6_apply, val_main_v5_apply]
  have e : ∀ k : Fin 1024, lidx_main_v5 (ix2 i j) k = ix2 i k := fun k => funext fun a => match a with | ⟨0, _⟩ => rfl | ⟨1, _⟩ => rfl
  have f : ∀ k : Fin 1024, ridx_main_v5 (ix2 i j) k = ix2 k j := fun k => funext fun a => match a with | ⟨0, _⟩ => rfl | ⟨1, _⟩ => rfl
  simp only [e, f]
  generalize val_main_v3 (F := Ideal) (x0 m c) (x1 m c) (x2 m c) = y
  generalize (∑ k : Fin 1024, y (ix2 i k) * x5 m c (ix2 k j) : EReal) = s
  show FloatOps.hostDivf (F := Ideal) (φ := .f32) (FloatOps.ofBits .f32 0x3F800000#32) (FloatOps.addf (FloatOps.ofBits .f32 0x3F800000#32) (FloatOps.hostUnary .exp (FloatOps.hostNegf s))) = _
  pointwise [Ideal.logistic]

/-! ## What a tile computes -/

theorem tile_mid (t : Fin cfg0.N) (r : Fin 512) (j : Fin 1024) :
    @Eq EReal (k0_pay5 (View.ld (blkX m c t) r0_0) (View.ld (blkV m c t) r0_0) (View.ld (blkO m c t) r0_1) (ix2 r j))
      (Cert.Reference15Ideal.Read.val_main_v3 (F := Ideal) (x0 m c) (x1 m c) (x2 m c) (ix2 (row t r) j)) := by
  refine (mid_at _ _ _ r j).trans (Eq.trans ?_ (ref_mid m c (row t r) j).symm)
  refine congrArg₂ (· + ·) ((load_whole _ _ r j).trans (blkX_at m c t r j)) (Finset.sum_congr rfl fun k _ => ?_)
  exact congrArg₂ (· * ·) ((load_whole _ _ r k).trans (blkV_at m c t r k)) ((load_whole _ _ k j).trans (blkO_at m c t k j))

theorem tile_emb (t : Fin cfg0.N) (r : Fin 512) (j : Fin 1024) :
    @Eq EReal (k0_pay6 (View.ld (blkP m c t) r0_2) (View.ld (blkE m c t) r0_3) (View.ld (blkE m c t) r0_4) (View.ld (blkE m c t) r0_5) (View.ld (blkE m c t) r0_6) (ix2 r j))
      (Cert.Reference15Ideal.Read.val_main_v4 (F := Ideal) (x3 m c) (x4 m c) (ix2 (row t r) j)) := by
  refine (emb_at _ _ r j).trans (Eq.trans ?_ (ref_emb m c (row t r) j).symm)
  refine Finset.sum_congr rfl fun k _ => ?_
  exact congrArg₂ (· * ·) (blkP_at m c t r k) (blkE_at m c t k j)

theorem tile_gate (t : Fin cfg0.N) (r : Fin 512) (j : Fin 1024) :
    @Eq EReal (k0_pay1 (k0_pay5 (View.ld (blkX m c t) r0_0) (View.ld (blkV m c t) r0_0) (View.ld (blkO m c t) r0_1)) (k0_pay7 (View.ld (blkW m c t) r0_7)) (View.ld (blkW m c t) r0_8) (View.ld (blkW m c t) r0_9) (View.ld (blkW m c t) r0_10) (ix2 r j))
      (Cert.Reference15Ideal.Read.val_main_v11 (F := Ideal) (x0 m c) (x1 m c) (x2 m c) (x5 m c) (ix2 (row t r) j)) := by
  refine (gate_at _ _ r j).trans (Eq.trans ?_ (ref_gate m c (row t r) j).symm)
  refine congrArg Ideal.logistic (Finset.sum_congr rfl fun k _ => ?_)
  exact congrArg₂ (· * ·) (tile_mid m c t r k) (blkW_at m c t k j)

/-! ## The arrays the launch leaves -/

theorem place6 (t : Fin cfg0.N) (r : Fin 512) (k : Fin 1024) : (win0_6.blk t).view.emb (ix2 r k) = ix2 (row t r) k := by
  funext a
  apply Fin.ext
  have e := index6 t
  match a with
  | ⟨0, _⟩ => show win0_6.index t (0 : Fin 2) * 512 + 1 * r.val = 512 * t.val + r.val; rw [e]; show t.val * 512 + 1 * r.val = _; omega
  | ⟨1, _⟩ => show win0_6.index t (1 : Fin 2) * 1024 + 1 * k.val = k.val; rw [e]; show 0 * 1024 + 1 * k.val = _; omega

theorem place7 (t : Fin cfg0.N) (r : Fin 512) (k : Fin 1024) : (win0_7.blk t).view.emb (ix2 r k) = ix2 (row t r) k := by
  funext a
  apply Fin.ext
  have e := index7 t
  match a with
  | ⟨0, _⟩ => show win0_7.index t (0 : Fin 2) * 512 + 1 * r.val = 512 * t.val + r.val; rw [e]; show t.val * 512 + 1 * r.val = _; omega
  | ⟨1, _⟩ => show win0_7.index t (1 : Fin 2) * 1024 + 1 * k.val = k.val; rw [e]; show 0 * 1024 + 1 * k.val = _; omega

theorem place8 (t : Fin cfg0.N) (r : Fin 512) (k : Fin 1024) : (win0_8.blk t).view.emb (ix2 r k) = ix2 (row t r) k := by
  funext a
  apply Fin.ext
  have e := index8 t
  match a with
  | ⟨0, _⟩ => show win0_8.index t (0 : Fin 2) * 512 + 1 * r.val = 512 * t.val + r.val; rw [e]; show t.val * 512 + 1 * r.val = _; omega
  | ⟨1, _⟩ => show win0_8.index t (1 : Fin 2) * 1024 + 1 * k.val = k.val; rw [e]; show 0 * 1024 + 1 * k.val = _; omega

theorem place9 (t : Fin cfg0.N) (r : Fin 512) (k : Fin 1024) : (win0_9.blk t).view.emb (ix2 r k) = ix2 (row t r) k := by
  funext a
  apply Fin.ext
  have e := index9 t
  match a with
  | ⟨0, _⟩ => show win0_9.index t (0 : Fin 2) * 512 + 1 * r.val = 512 * t.val + r.val; rw [e]; show t.val * 512 + 1 * r.val = _; omega
  | ⟨1, _⟩ => show win0_9.index t (1 : Fin 2) * 1024 + 1 * k.val = k.val; rw [e]; show 0 * 1024 + 1 * k.val = _; omega

theorem final6 : (dats m 0 c).arrAt 6 cfg0.N = Cert.Reference15Ideal.Read.val_main_v3 (F := Ideal) (x0 m c) (x1 m c) (x2 m c) := by
  refine (dats m 0 c).arrAt_eq_of_covers 6 _ (by decide +kernel) fun t hf y => ?_
  obtain ⟨r, k, rfl⟩ : ∃ (r : Fin 512) (k : Fin 1024), y = ix2 r k := ⟨y 0, y 1, eq_ix2 y⟩
  blk_simp
  rw [after0_6]
  unfold out0_6
  refine (canon_whole _ _ _ r k).trans ?_
  rw [place6]
  exact tile_mid m c t r k

theorem final7 : (dats m 0 c).arrAt 7 cfg0.N = Cert.Reference15Ideal.Read.val_main_v13 (F := Ideal) (x0 m c) (x1 m c) (x2 m c) (x3 m c) (x4 m c) (x5 m c) := by
  refine (dats m 0 c).arrAt_eq_of_covers 7 _ (by decide +kernel) fun t hf y => ?_
  obtain ⟨r, k, rfl⟩ : ∃ (r : Fin 512) (k : Fin 1024), y = ix2 r k := ⟨y 0, y 1, eq_ix2 y⟩
  blk_simp
  rw [after0_7]
  unfold out0_7
  refine (canon_whole _ _ _ r k).trans ?_
  rw [place7]
  exact congrArg₂ (fun a b : EReal => a + b) (tile_mid m c t r k) (congrArg₂ (fun a b : EReal => a * b) (tile_emb m c t r k) (tile_gate m c t r k))

theorem final8 : (dats m 0 c).arrAt 8 cfg0.N = Cert.Reference15Ideal.Read.val_main_v14 (F := Ideal) (x3 m c) (x4 m c) := by
  refine (dats m 0 c).arrAt_eq_of_covers 8 _ (by decide +kernel) fun t hf y => ?_
  obtain ⟨r, k, rfl⟩ : ∃ (r : Fin 512) (k : Fin 1024), y = ix2 r k := ⟨y 0, y 1, eq_ix2 y⟩
  blk_simp
  rw [after0_8]
  unfold out0_8
  refine (canon_whole _ _ _ r k).trans ?_
  rw [place8]
  exact tile_emb m c t r k

theorem final9 : (dats m 0 c).arrAt 9 cfg0.N = Cert.Reference15Ideal.Read.val_main_v21 (F := Ideal) (x0 m c) (x1 m c) (x2 m c) (x5 m c) := by
  refine (dats m 0 c).arrAt_eq_of_covers 9 _ (by decide +kernel) fun t hf y => ?_
  obtain ⟨r, k, rfl⟩ : ∃ (r : Fin 512) (k : Fin 1024), y = ix2 r k := ⟨y 0, y 1, eq_ix2 y⟩
  blk_simp
  rw [after0_9]
  unfold out0_9
  refine (canon_whole _ _ _ r k).trans ?_
  rw [place9]
  exact tile_gate m c t r k

end Cert.Kernel15Ideal.Fwd

namespace Cert.Proof

open Idealize.ShloMosaic Idealize.SL.Sem

theorem frame_kernel15 : @Cert.quiescent_Kernel15 Cert.Kernel15.Gen.facts := fun m g _ => Cert.Kernel15.Gen.frame m g

theorem frame_ideal15 : @Cert.quiescent_Kernel15Ideal Cert.Kernel15Ideal.Gen.facts := fun m g _ => Cert.Kernel15Ideal.Gen.frame m g

theorem frame_reference15 : @Cert.quiescent_Reference15Ideal Cert.Reference15Ideal.Gen.facts := fun m g _ =>
  (θ_run _ _ _).mono (fun r h => ⟨fun c => (h c).2.2.2.2, sem_eq_zero_of_no_sems rfl r.2⟩) (Cert.Reference15Ideal.Value.run m g)

theorem values15 : @Cert.algebraic_Kernel15Ideal_Reference15Ideal Cert.Kernel15Ideal.Gen.facts Cert.Reference15Ideal.Gen.facts := by
  intro m g m' g' _ hagree
  refine ⟨fun c => _, fun c => _, fun c => _, fun c => _, (θ_run _ _ _).mono (fun r h c => ⟨(h c).1.trans (Cert.Kernel15Ideal.Fwd.final6 m c), (h c).2.1.trans (Cert.Kernel15Ideal.Fwd.final7 m c),
    (h c).2.2.1.trans (Cert.Kernel15Ideal.Fwd.final8 m c), (h c).2.2.2.1.trans (Cert.Kernel15Ideal.Fwd.final9 m c), (h c).2.2.2.2⟩) (Cert.Kernel15Ideal.Value.run_blocks m g), ?_⟩
  refine (θ_run _ _ _).mono (fun r h c => ?_) (Cert.Reference15Ideal.Value.run m' g')
  obtain ⟨e0, e1, e2, e3, e4, e5⟩ := hagree c
  refine ⟨(h c).1.trans ((Cert.Reference15Ideal.Read.val_main_v3_eq _ _ _).trans ?_), (h c).2.1.trans ((Cert.Reference15Ideal.Read.val_main_v13_eq _ _ _ _ _ _).trans ?_),
    (h c).2.2.1.trans ((Cert.Reference15Ideal.Read.val_main_v14_eq _ _).trans ?_), (h c).2.2.2.1.trans ((Cert.Reference15Ideal.Read.val_main_v21_eq _ _ _ _).trans ?_), (h c).2.2.2.2⟩
  · rw [e0, e1, e2]
  · rw [e0, e1, e2, e3, e4, e5]
  · rw [e3, e4]
  · rw [e0, e1, e2, e5]

end Cert.Proof

end
-- ==== Proof.Loss.lean ====
/- Forward of the last layer's output with the loss and its cotangent. -/
module

public import proofs.«01_k».proof.Defs
public import proofs.«01_k».proof.Proof.Gen.Kernel16.Frame
public import proofs.«01_k».proof.Proof.Gen.Kernel16Ideal.Value
public import proofs.«01_k».proof.Proof.Gen.Reference16Ideal.Run
public import proofs.«01_k».proof.Proof.Gen.Reference16Ideal.Read
public import proofs.«01_k».proof.Proof.Blocks
public import proofs.«01_k».proof.Proof.Shards
public import proofs.«01_k».proof.Proof.Rows

@[expose] public section

set_option maxRecDepth 16384

noncomputable section

namespace Cert.Kernel16Ideal.Fwd
open Cert.Kernel16Ideal Cert.Kernel16Ideal.Gen Cert.Blocks
open Idealize.ShloMosaic Idealize.ShloMosaic.TcCoe Idealize.SL.Sem

/-- The loads of one shard's layer. -/
abbrev r0_3 : Rect S4x256x256 := Rect.unit (s := S4x256x256) ![0, 0, 0] S1x256x256.size inb_S4x256x256_S1x256x256_0_0_0
abbrev r0_4 : Rect S4x256x256 := Rect.unit (s := S4x256x256) ![1, 0, 0] S1x256x256.size inb_S4x256x256_S1x256x256_1_0_0
abbrev r0_5 : Rect S4x256x256 := Rect.unit (s := S4x256x256) ![2, 0, 0] S1x256x256.size inb_S4x256x256_S1x256x256_2_0_0
abbrev r0_6 : Rect S4x256x256 := Rect.unit (s := S4x256x256) ![3, 0, 0] S1x256x256.size inb_S4x256x256_S1x256x256_3_0_0
abbrev r0_7 : Rect S4x256x1024 := Rect.unit (s := S4x256x1024) ![0, 0, 0] S1x256x1024.size inb_S4x256x1024_S1x256x1024_0_0_0
abbrev r0_8 : Rect S4x256x1024 := Rect.unit (s := S4x256x1024) ![1, 0, 0] S1x256x1024.size inb_S4x256x1024_S1x256x1024_1_0_0
abbrev r0_9 : Rect S4x256x1024 := Rect.unit (s := S4x256x1024) ![2, 0, 0] S1x256x1024.size inb_S4x256x1024_S1x256x1024_2_0_0
abbrev r0_10 : Rect S4x256x1024 := Rect.unit (s := S4x256x1024) ![3, 0, 0] S1x256x1024.size inb_S4x256x1024_S1x256x1024_3_0_0

/-! ## The tile's values, entry by entry -/

theorem mid_at (x : Vec Ideal S512x1024 .f32) (v : Vec Ideal S512x1024 .bf16) (w : Vec Ideal S1024x1024 .bf16) (r : Fin 512) (j : Fin 1024) :
    @Eq EReal (k0_pay2 x v w (ix2 r j)) (x (ix2 r j) + ∑ k : Fin 1024, v (ix2 r k) * w (ix2 k j)) := by
  pointwise [k0_pay2]

/-- One shard's columns of the embedding. -/
theorem shard_at (p : Vec Ideal S1x1x512x256 .f32) (w : Vec Ideal S1x256x256 .bf16) (r : Fin 512) (c : Fin 256) :
    @Eq EReal (matmul (F := Ideal) dot_S512x256_S256x256_S512x256_1_0_0_1_n_n none (truncf .bf16 (shapeCast S512x256 p shapeCasts_S1x1x512x256_S512x256 : FVec Ideal S512x256 .f32) bitsLt_bf16_f32) (shapeCast S256x256 w shapeCasts_S1x256x256_S256x256 : FVec Ideal S256x256 .bf16) (constant S512x256 .f32 0x00000000#32) (ix2 r c))
      (∑ k : Fin 256, p (ix4 0 0 r k) * w (ix3 0 k c)) := by
  pointwise

theorem emb_at (p : Vec Ideal S1x1x512x256 .f32) (w : Vec Ideal S4x256x256 .bf16) (r : Fin 512) (j : Fin 1024) :
    @Eq EReal (k0_pay3 p (View.ld w r0_3) (View.ld w r0_4) (View.ld w r0_5) (View.ld w r0_6) (ix2 r j))
      (∑ k : Fin 256, p (ix4 0 0 r k) * w (ix3 ⟨j.val / 256, by omega⟩ k ⟨j.val % 256, by omega⟩)) := by
  unfold k0_pay3
  refine abreast _ _ _ _ _ (fun s r c => (∑ k : Fin 256, p (ix4 0 0 r k) * w (ix3 s k c) : EReal)) (fun r c => ?_) (fun r c => ?_) (fun r c => ?_) (fun r c => ?_) ⟨j.val / 256, by omega⟩ r ⟨j.val % 256, by omega⟩ j (by dsimp only; omega)
  all_goals
    refine (shard_at p _ r c).trans (Finset.sum_congr rfl fun k _ => congrArg (p (ix4 0 0 r k) * ·) ?_)
    exact load_layer _ w _ k c rfl

/-- The weight of the gate from its four shards. -/
theorem weight_at (w : Vec Ideal S4x256x1024 .bf16) (k j : Fin 1024) :
    concatenate S1024x1024 0 [⟨S256x1024, k0_pay4 (View.ld w r0_7)⟩, ⟨S256x1024, shapeCast S256x1024 (View.ld w r0_8) shapeCasts_S1x256x1024_S256x1024⟩, ⟨S256x1024, shapeCast S256x1024 (View.ld w r0_9) shapeCasts_S1x256x1024_S256x1024⟩, ⟨S256x1024, shapeCast S256x1024 (View.ld w r0_10) shapeCasts_S1x256x1024_S256x1024⟩] concatenates_S256x1024_S256x1024_S256x1024_S256x1024_S1024x1024_d0 (ix2 k j)
      = w (ix3 ⟨k.val / 256, by omega⟩ ⟨k.val % 256, by omega⟩ j) := by
  have cast_at : ∀ (v : Vec Ideal S1x256x1024 .bf16) (q : Fin 256) (k : Fin 1024), shapeCast S256x1024 v shapeCasts_S1x256x1024_S256x1024 (ix2 q k) = v (ix3 0 q k) := by
    intro v q k
    pointwise
  refine stacked _ _ _ _ _ (fun s q k => w (ix3 s q k)) (fun q k => ?_) (fun q k => ?_) (fun q k => ?_) (fun q k => ?_) ⟨k.val / 256, by omega⟩ ⟨k.val % 256, by omega⟩ j k (by dsimp only; omega)
  · exact (show k0_pay4 (View.ld w r0_7) (ix2 q k) = View.ld w r0_7 (ix3 0 q k) from by pointwise [k0_pay4]).trans (load_layer _ w _ q k rfl)
  all_goals exact (cast_at _ q k).trans (load_layer _ w _ q k rfl)

theorem gate_at (x : FVec Ideal S512x1024 .f32) (w : Vec Ideal S4x256x1024 .bf16) (r : Fin 512) (j : Fin 1024) :
    @Eq EReal (k0_pay5 x (k0_pay4 (View.ld w r0_7)) (View.ld w r0_8) (View.ld w r0_9) (View.ld w r0_10) (ix2 r j))
      (Ideal.logistic (∑ k : Fin 1024, x (ix2 r k) * w (ix3 ⟨k.val / 256, by omega⟩ ⟨k.val % 256, by omega⟩ j))) := by
  simp only [← weight_at]
  generalize hW : concatenate S1024x1024 0 [⟨S256x1024, k0_pay4 (View.ld w r0_7)⟩, ⟨S256x1024, shapeCast S256x1024 (View.ld w r0_8) shapeCasts_S1x256x1024_S256x1024⟩, ⟨S256x1024, shapeCast S256x1024 (View.ld w r0_9) shapeCasts_S1x256x1024_S256x1024⟩, ⟨S256x1024, shapeCast S256x1024 (View.ld w r0_10) shapeCasts_S1x256x1024_S256x1024⟩] concatenates_S256x1024_S256x1024_S256x1024_S256x1024_S1024x1024_d0 = W
  unfold k0_pay5
  rw [hW]
  pointwise

/-! ## The arrays and the blocks of them a point is handed -/

variable (m : (ℓ : Loc nD τ sig) → Buf (Elt Ideal) ℓ) (c : Dev nD)

abbrev x0 : FVec Ideal S2048x1024 .f32 := m ((c.tc : Thread nD τ).loc main_arg0)
abbrev x1 : FVec Ideal S2048x1024 .f32 := m ((c.tc : Thread nD τ).loc main_arg1)
abbrev x2 : FVec Ideal S1024x1024 .f32 := m ((c.tc : Thread nD τ).loc main_arg2)
abbrev x3 : FVec Ideal S2x1x2048x256 .f32 := m ((c.tc : Thread nD τ).loc main_arg3)
abbrev x4 : FVec Ideal S256x1024 .f32 := m ((c.tc : Thread nD τ).loc main_arg4)
abbrev x5 : FVec Ideal S1024x1024 .f32 := m ((c.tc : Thread nD τ).loc main_arg5)
abbrev x6 : FVec Ideal S2048x1024 .f32 := m ((c.tc : Thread nD τ).loc main_arg6)

theorem host_v : @Eq (FVec Ideal S2048x1024 .bf16) (V m c main_v0) (truncf .bf16 (x0 m c) bitsLt_bf16_f32) := by
  show StableHlo.after hostOps0 (fun b => m (c, b)) (Proc.devRef .tc main_v0) = _
  after_results

theorem host_o : @Eq (FVec Ideal S1024x1024 .bf16) (V m c main_v1) (truncf .bf16 (x2 m c) bitsLt_bf16_f32) := by
  show StableHlo.after hostOps0 (fun b => m (c, b)) (Proc.devRef .tc main_v1) = _
  after_results

theorem host_p : @Eq (FVec Ideal S4x256x256 .bf16) (V m c main_v4) (truncf .bf16 (transpose S4x256x256 [1, 0, 2] (shapeCast S256x4x256 (x4 m c) shapeCasts_S256x1024_S256x4x256 : FVec Ideal S256x4x256 .f32) transposes_S256x4x256_S4x256x256_1_0_2 : FVec Ideal S4x256x256 .f32) bitsLt_bf16_f32) := by
  show StableHlo.after hostOps0 (fun b => m (c, b)) (Proc.devRef .tc main_v4) = _
  after_results
  rfl

theorem host_w : @Eq (FVec Ideal S4x256x1024 .bf16) (V m c main_v6) (truncf .bf16 (shapeCast S4x256x1024 (x5 m c) shapeCasts_S1024x1024_S4x256x1024 : FVec Ideal S4x256x1024 .f32) bitsLt_bf16_f32) := by
  show StableHlo.after hostOps0 (fun b => m (c, b)) (Proc.devRef .tc main_v6) = _
  after_results
  rfl

/-- Which block of its array each point is handed, and which it writes. -/
theorem index_of : ∀ t : Fin cfg0.N, win0_0.index t = ![t.val, 0] ∧ win0_1.index t = ![t.val, 0] ∧ win0_2.index t = ![0, 0] ∧ win0_3.index t = ![1, 0, t.val, 0] ∧ win0_4.index t = ![0, 0, 0] ∧ win0_5.index t = ![0, 0, 0] :=
  (by decide +kernel : ∀ t : Fin grid0.N, _)
theorem index6 : ∀ t : Fin cfg0.N, win0_6.index t = ![t.val, 0] := (by decide +kernel : ∀ t : Fin grid0.N, _)
theorem index7 : ∀ t : Fin cfg0.N, win0_7.index t = ![t.val, 0] := (by decide +kernel : ∀ t : Fin grid0.N, _)
theorem index8 : ∀ t : Fin cfg0.N, win0_8.index t = ![t.val, 0] := (by decide +kernel : ∀ t : Fin grid0.N, _)
theorem index9 : ∀ t : Fin cfg0.N, win0_9.index t = ![t.val, 0] := (by decide +kernel : ∀ t : Fin grid0.N, _)
theorem index10 : ∀ t : Fin cfg0.N, win0_10.index t = ![t.val, 0] := (by decide +kernel : ∀ t : Fin grid0.N, _)
theorem index11 : ∀ t : Fin cfg0.N, win0_11.index t = ![0, 0] := (by decide +kernel : ∀ t : Fin grid0.N, _)

/-- A tile's row of the array. -/
abbrev row (t : Fin cfg0.N) (r : Fin 512) : Fin 2048 := ⟨512 * t.val + r.val, by have := t.isLt; have : cfg0.N = 4 := N_0; omega⟩

abbrev blkV (t : Fin cfg0.N) : Vec Ideal S512x1024 .bf16 := iblk m c 0 t
abbrev blkX (t : Fin cfg0.N) : Vec Ideal S512x1024 .f32 := iblk m c 1 t
abbrev blkO (t : Fin cfg0.N) : Vec Ideal S1024x1024 .bf16 := iblk m c 2 t
abbrev blkP (t : Fin cfg0.N) : Vec Ideal S1x1x512x256 .f32 := iblk m c 3 t
abbrev blkE (t : Fin cfg0.N) : Vec Ideal S4x256x256 .bf16 := iblk m c 4 t
abbrev blkT (t : Fin cfg0.N) : Vec Ideal S512x1024 .f32 := iblk m c 6 t
abbrev blkW (t : Fin cfg0.N) : Vec Ideal S4x256x1024 .bf16 := iblk m c 5 t

theorem blkV_at (t : Fin cfg0.N) (r : Fin 512) (k : Fin 1024) : @Eq EReal (blkV m c t (ix2 r k)) (x0 m c (ix2 (row t r) k)) := by
  refine Eq.trans (b := (V m c main_v0 : FVec Ideal S2048x1024 .bf16) (ix2 (row t r) k)) ?_ (congrFun (host_v m c) _)
  refine congrArg (V m c main_v0 : FVec Ideal S2048x1024 .bf16) (funext fun a => Fin.ext ?_)
  have e := (index_of t).1
  match a with
  | ⟨0, _⟩ => show win0_0.index t (0 : Fin 2) * 512 + 1 * r.val = 512 * t.val + r.val; rw [e]; show t.val * 512 + 1 * r.val = _; omega
  | ⟨1, _⟩ => show win0_0.index t (1 : Fin 2) * 1024 + 1 * k.val = k.val; rw [e]; show 0 * 1024 + 1 * k.val = _; omega

theorem blkX_at (t : Fin cfg0.N) (r : Fin 512) (k : Fin 1024) : @Eq EReal (blkX m c t (ix2 r k)) (x1 m c (ix2 (row t r) k)) := by
  refine Eq.trans (b := (V m c main_arg1 : FVec Ideal S2048x1024 .f32) (ix2 (row t r) k)) ?_ (congrFun (V_main_arg1 m c) _)
  refine congrArg (V m c main_arg1 : FVec Ideal S2048x1024 .f32) (funext fun a => Fin.ext ?_)
  have e := (index_of t).2.1
  match a with
  | ⟨0, _⟩ => show win0_1.index t (0 : Fin 2) * 512 + 1 * r.val = 512 * t.val + r.val; rw [e]; show t.val * 512 + 1 * r.val = _; omega
  | ⟨1, _⟩ => show win0_1.index t (1 : Fin 2) * 1024 + 1 * k.val = k.val; rw [e]; show 0 * 1024 + 1 * k.val = _; omega

theorem blkT_at (t : Fin cfg0.N) (r : Fin 512) (k : Fin 1024) : @Eq EReal (blkT m c t (ix2 r k)) (x6 m c (ix2 (row t r) k)) := by
  refine Eq.trans (b := (V m c main_arg6 : FVec Ideal S2048x1024 .f32) (ix2 (row t r) k)) ?_ (congrFun (V_main_arg6 m c) _)
  refine congrArg (V m c main_arg6 : FVec Ideal S2048x1024 .f32) (funext fun a => Fin.ext ?_)
  have e := index6 t
  match a with
  | ⟨0, _⟩ => show win0_6.index t (0 : Fin 2) * 512 + 1 * r.val = 512 * t.val + r.val; rw [e]; show t.val * 512 + 1 * r.val = _; omega
  | ⟨1, _⟩ => show win0_6.index t (1 : Fin 2) * 1024 + 1 * k.val = k.val; rw [e]; show 0 * 1024 + 1 * k.val = _; omega

theorem blkO_at (t : Fin cfg0.N) (j k : Fin 1024) : @Eq EReal (blkO m c t (ix2 j k)) (x2 m c (ix2 j k)) := by
  refine Eq.trans (b := (V m c main_v1 : FVec Ideal S1024x1024 .bf16) (ix2 j k)) ?_ (congrFun (host_o m c) _)
  refine congrArg (V m c main_v1 : FVec Ideal S1024x1024 .bf16) (funext fun a => Fin.ext ?_)
  have e := (index_of t).2.2.1
  match a with
  | ⟨0, _⟩ => show win0_2.index t (0 : Fin 2) * 1024 + 1 * j.val = j.val; rw [e]; show 0 * 1024 + 1 * j.val = _; omega
  | ⟨1, _⟩ => show win0_2.index t (1 : Fin 2) * 1024 + 1 * k.val = k.val; rw [e]; show 0 * 1024 + 1 * k.val = _; omega

theorem blkP_at (t : Fin cfg0.N) (r : Fin 512) (k : Fin 256) : @Eq EReal (blkP m c t (ix4 0 0 r k)) (x3 m c (ix4 1 0 (row t r) k)) := by
  refine Eq.trans (b := (V m c main_arg3 : FVec Ideal S2x1x2048x256 .f32) (ix4 1 0 (row t r) k)) ?_ (congrFun (V_main_arg3 m c) _)
  refine congrArg (V m c main_arg3 : FVec Ideal S2x1x2048x256 .f32) (funext fun a => Fin.ext ?_)
  have e := (index_of t).2.2.2.1
  match a with
  | ⟨0, _⟩ => show win0_3.index t (0 : Fin 4) * 1 + 1 * 0 = 1; rw [e]; rfl
  | ⟨1, _⟩ => show win0_3.index t (1 : Fin 4) * 1 + 1 * 0 = 0; rw [e]; rfl
  | ⟨2, _⟩ => show win0_3.index t (2 : Fin 4) * 512 + 1 * r.val = 512 * t.val + r.val; rw [e]; show t.val * 512 + 1 * r.val = _; omega
  | ⟨3, _⟩ => show win0_3.index t (3 : Fin 4) * 256 + 1 * k.val = k.val; rw [e]; show 0 * 256 + 1 * k.val = _; omega

theorem blkE_at (t : Fin cfg0.N) (k : Fin 256) (j : Fin 1024) : @Eq EReal (blkE m c t (ix3 ⟨j.val / 256, by omega⟩ k ⟨j.val % 256, by omega⟩)) (x4 m c (ix2 k j)) := by
  refine Eq.trans (b := (V m c main_v4 : FVec Ideal S4x256x256 .bf16) (ix3 ⟨j.val / 256, by omega⟩ k ⟨j.val % 256, by omega⟩)) ?_ ((congrFun (host_p m c) _).trans ?_)
  · refine congrArg (V m c main_v4 : FVec Ideal S4x256x256 .bf16) (funext fun a => Fin.ext ?_)
    have e := (index_of t).2.2.2.2.1
    match a with
    | ⟨0, _⟩ => show win0_4.index t (0 : Fin 3) * 4 + 1 * (j.val / 256) = j.val / 256; rw [e]; show 0 * 4 + 1 * (j.val / 256) = _; omega
    | ⟨1, _⟩ => show win0_4.index t (1 : Fin 3) * 256 + 1 * k.val = k.val; rw [e]; show 0 * 256 + 1 * k.val = _; omega
    | ⟨2, _⟩ => show win0_4.index t (2 : Fin 3) * 256 + 1 * (j.val % 256) = j.val % 256; rw [e]; show 0 * 256 + 1 * (j.val % 256) = _; omega
  · show transpose S4x256x256 [1, 0, 2] (shapeCast S256x4x256 (x4 m c) shapeCasts_S256x1024_S256x4x256 : FVec Ideal S256x4x256 .f32) transposes_S256x4x256_S4x256x256_1_0_2 (ix3 ⟨j.val / 256, by omega⟩ k ⟨j.val % 256, by omega⟩) = _
    refine (transpose_apply [1, 0, 2] _ transposes_S256x4x256_S4x256x256_1_0_2 (ix3 ⟨j.val / 256, by omega⟩ k ⟨j.val % 256, by omega⟩) (ix3 k ⟨j.val / 256, by omega⟩ ⟨j.val % 256, by omega⟩) (fun b => match b with | ⟨0, _⟩ => rfl | ⟨1, _⟩ => rfl | ⟨2, _⟩ => rfl)).trans ?_
    refine shapeCast_apply (x4 m c) _ _ _ ?_
    rewrite [Shape.rowMajor_val_two, Shape.rowMajor_val_three]
    show k.val * 1024 + j.val = (k.val * 4 + j.val / 256) * 256 + j.val % 256
    omega

theorem blkW_at (t : Fin cfg0.N) (k j : Fin 1024) : @Eq EReal (blkW m c t (ix3 ⟨k.val / 256, by omega⟩ ⟨k.val % 256, by omega⟩ j)) (x5 m c (ix2 k j)) := by
  refine Eq.trans (b := (V m c main_v6 : FVec Ideal S4x256x1024 .bf16) (ix3 ⟨k.val / 256, by omega⟩ ⟨k.val % 256, by omega⟩ j)) ?_ ((congrFun (host_w m c) _).trans ?_)
  · refine congrArg (V m c main_v6 : FVec Ideal S4x256x1024 .bf16) (funext fun a => Fin.ext ?_)
    have e := (index_of t).2.2.2.2.2
    match a with
    | ⟨0, _⟩ => show win0_5.index t (0 : Fin 3) * 4 + 1 * (k.val / 256) = k.val / 256; rw [e]; show 0 * 4 + 1 * (k.val / 256) = _; omega
    | ⟨1, _⟩ => show win0_5.index t (1 : Fin 3) * 256 + 1 * (k.val % 256) = k.val % 256; rw [e]; show 0 * 256 + 1 * (k.val % 256) = _; omega
    | ⟨2, _⟩ => show win0_5.index t (2 : Fin 3) * 1024 + 1 * j.val = j.val; rw [e]; show 0 * 1024 + 1 * j.val = _; omega
  · refine shapeCast_apply (x5 m c) _ _ _ ?_
    rewrite [Shape.rowMajor_val_two, Shape.rowMajor_val_three]
    show k.val * 1024 + j.val = (k.val / 256 * 256 + k.val % 256) * 1024 + j.val
    omega

/-! ## What the reference's lines are, entry by entry -/

open Cert.Reference16Ideal.Read in
theorem ref_mid (i : Fin 2048) (j : Fin 1024) : @Eq EReal (val_main_v3 (F := Ideal) (x0 m c) (x1 m c) (x2 m c) (ix2 i j))
    (x1 m c (ix2 i j) + ∑ k : Fin 1024, x0 m c (ix2 i k) * x2 m c (ix2 k j)) := by
  rw [val_main_v3_apply, val_main_v2_apply]
  refine congrArg (x1 m c (ix2 i j) + ·) (Finset.sum_congr rfl fun k _ => ?_)
  refine congrArg₂ (· * ·) (congrArg _ (funext fun a => Fin.ext ?_)) (congrArg _ (funext fun a => Fin.ext ?_))
  · match a with
    | ⟨0, _⟩ => rfl
    | ⟨1, _⟩ => rfl
  · match a with
    | ⟨0, _⟩ => rfl
    | ⟨1, _⟩ => rfl

open Cert.Reference16Ideal.Read in
theorem ref_emb (i : Fin 2048) (j : Fin 1024) : @Eq EReal (val_main_v4 (F := Ideal) (x3 m c) (x4 m c) (ix2 i j))
    (∑ k : Fin 256, x3 m c (ix4 1 0 i k) * x4 m c (ix2 k j)) := by
  rw [val_main_v4_apply]
  refine Finset.sum_congr rfl fun k _ => ?_
  rw [val_main_v1_apply, val_main_v0_apply]
  refine congrArg₂ (· * ·) (congrArg _ (funext fun a => Fin.ext ?_)) (congrArg _ (funext fun a => Fin.ext ?_))
  · match a with
    | ⟨0, _⟩ => rfl
    | ⟨1, _⟩ => rfl
    | ⟨2, _⟩ => show (i.val * 256 + k.val) / 256 % 2048 = i.val; omega
    | ⟨3, _⟩ => show (i.val * 256 + k.val) % 256 = k.val; omega
  · match a with
    | ⟨0, _⟩ => rfl
    | ⟨1, _⟩ => rfl

open Cert.Reference16Ideal.Read in
theorem ref_gate (i : Fin 2048) (j : Fin 1024) : @Eq EReal (val_main_v11 (F := Ideal) (x0 m c) (x1 m c) (x2 m c) (x5 m c) (ix2 i j))
    (Ideal.logistic (∑ k : Fin 1024, val_main_v3 (F := Ideal) (x0 m c) (x1 m c) (x2 m c) (ix2 i k) * x5 m c (ix2 k j))) := by
  rw [val_main_v11_apply, val_main_v10_apply, val_main_cst_0_apply, val_main_v9_apply, val_main_v8_apply, val_main_cst_apply, val_main_v7_apply, val_main_v6_apply, val_main_v5_apply]
  have e : ∀ k : Fin 1024, lidx_main_v5 (ix2 i j) k = ix2 i k := fun k => funext fun a => match a with | ⟨0, _⟩ => rfl | ⟨1, _⟩ => rfl
  have f : ∀ k : Fin 1024, ridx_main_v5 (ix2 i j) k = ix2 k j := fun k => funext fun a => match a with | ⟨0, _⟩ => rfl | ⟨1, _⟩ => rfl
  simp only [e, f]
  generalize val_main_v3 (F := Ideal) (x0 m c) (x1 m c) (x2 m c) = y
  generalize (∑ k : Fin 1024, y (ix2 i k) * x5 m c (ix2 k j) : EReal) = s
  show FloatOps.hostDivf (F := Ideal) (φ := .f32) (FloatOps.ofBits .f32 0x3F800000#32) (FloatOps.addf (FloatOps.ofBits .f32 0x3F800000#32) (FloatOps.hostUnary .exp (FloatOps.hostNegf s))) = _
  pointwise [Ideal.logistic]

/-! ## What a tile computes -/

theorem tile_mid (t : Fin cfg0.N) (r : Fin 512) (j : Fin 1024) :
    @Eq EReal (k0_pay2 (blkX m c t) (blkV m c t) (blkO m c t) (ix2 r j)) (Cert.Reference16Ideal.Read.val_main_v3 (F := Ideal) (x0 m c) (x1 m c) (x2 m c) (ix2 (row t r) j)) := by
  refine (mid_at _ _ _ r j).trans (Eq.trans ?_ (ref_mid m c (row t r) j).symm)
  refine congrArg₂ (· + ·) (blkX_at m c t r j) (Finset.sum_congr rfl fun k _ => ?_)
  exact congrArg₂ (· * ·) (blkV_at m c t r k) (blkO_at m c t k j)

theorem tile_emb (t : Fin cfg0.N) (r : Fin 512) (j : Fin 1024) :
    @Eq EReal (k0_pay3 (blkP m c t) (View.ld (blkE m c t) r0_3) (View.ld (blkE m c t) r0_4) (View.ld (blkE m c t) r0_5) (View.ld (blkE m c t) r0_6) (ix2 r j)) (Cert.Reference16Ideal.Read.val_main_v4 (F := Ideal) (x3 m c) (x4 m c) (ix2 (row t r) j)) := by
  refine (emb_at _ _ r j).trans (Eq.trans ?_ (ref_emb m c (row t r) j).symm)
  refine Finset.sum_congr rfl fun k _ => ?_
  exact congrArg₂ (· * ·) (blkP_at m c t r k) (blkE_at m c t k j)

theorem tile_gate (t : Fin cfg0.N) (r : Fin 512) (j : Fin 1024) :
    @Eq EReal (k0_pay5 (k0_pay2 (blkX m c t) (blkV m c t) (blkO m c t)) (k0_pay4 (View.ld (blkW m c t) r0_7)) (View.ld (blkW m c t) r0_8) (View.ld (blkW m c t) r0_9) (View.ld (blkW m c t) r0_10) (ix2 r j)) (Cert.Reference16Ideal.Read.val_main_v11 (F := Ideal) (x0 m c) (x1 m c) (x2 m c) (x5 m c) (ix2 (row t r) j)) := by
  refine (gate_at _ _ r j).trans (Eq.trans ?_ (ref_gate m c (row t r) j).symm)
  refine congrArg Ideal.logistic (Finset.sum_congr rfl fun k _ => ?_)
  exact congrArg₂ (· * ·) (tile_mid m c t r k) (blkW_at m c t k j)

/-- A tile's difference from its target. -/
theorem tile_diff (t : Fin cfg0.N) (r : Fin 512) (j : Fin 1024) :
    @Eq EReal (k0_pay8 (k0_pay2 (blkX m c t) (blkV m c t) (blkO m c t)) (k0_pay3 (blkP m c t) (View.ld (blkE m c t) r0_3) (View.ld (blkE m c t) r0_4) (View.ld (blkE m c t) r0_5) (View.ld (blkE m c t) r0_6)) (k0_pay4 (View.ld (blkW m c t) r0_7)) (View.ld (blkW m c t) r0_8) (View.ld (blkW m c t) r0_9) (View.ld (blkW m c t) r0_10) (blkT m c t) (ix2 r j)) (Cert.Reference16Ideal.Read.val_main_v14 (F := Ideal) (x0 m c) (x1 m c) (x2 m c) (x3 m c) (x4 m c) (x5 m c) (x6 m c) (ix2 (row t r) j)) :=
  congrArg₂ (fun a b : EReal => a - b) (congrArg₂ (fun a b : EReal => a + b) (tile_mid m c t r j) (congrArg₂ (fun a b : EReal => a * b) (tile_emb m c t r j) (tile_gate m c t r j))) (blkT_at m c t r j)

theorem c_half : Ideal.ofBits .f32 0x3F000000#32 = ((1 / 2 : ℝ) : EReal) := by
  simp [Ideal.ofBits, Ideal.ieee, -EReal.coe_mul]
  norm_num
theorem c_two : Ideal.ofBits .f32 0x40000000#32 = ((2 : ℝ) : EReal) := by
  simp [Ideal.ofBits, Ideal.ieee, -EReal.coe_mul]
  norm_num
theorem c_1024th : Ideal.ofBits .f32 0x3A800000#32 = ((1 / 1024 : ℝ) : EReal) := by
  simp [Ideal.ofBits, Ideal.ieee, -EReal.coe_mul]
  norm_num
theorem c_2048th : Ideal.ofBits .f32 0x3A000000#32 = ((1 / 2048 : ℝ) : EReal) := by
  simp [Ideal.ofBits, Ideal.ieee, -EReal.coe_mul]
  norm_num

theorem over_1024 (x : EReal) : Ideal.div x (Ideal.ofBits .f32 0x44800000#32) = x * ((1 / 1024 : ℝ) : EReal) := by
  rw [Cert.KernelIdeal.Mix.ofBits_1024]
  unfold Ideal.div
  rw [if_neg (by norm_num), ← EReal.coe_inv, one_div]

/-- A nonnegative real factor goes into a sum. -/
theorem sum_times {ι : Type} (s : Finset ι) (f : ι → EReal) (a : ℝ) (ha : 0 ≤ a) : (∑ i ∈ s, f i) * (a : EReal) = ∑ i ∈ s, f i * (a : EReal) := by
  classical
  induction s using Finset.induction_on with
  | empty => simp
  | insert i s hi ih => rw [Finset.sum_insert hi, Finset.sum_insert hi, EReal.right_distrib_of_nonneg_of_ne_top (by exact_mod_cast ha) (EReal.coe_ne_top a), ih]

/-- The reference's difference and its cotangent. -/
abbrev diff (i : Fin 2048) (j : Fin 1024) : EReal := Cert.Reference16Ideal.Read.val_main_v14 (F := Ideal) (x0 m c) (x1 m c) (x2 m c) (x3 m c) (x4 m c) (x5 m c) (x6 m c) (ix2 i j)

open Cert.Reference16Ideal.Read in
theorem ref_dx (i : Fin 2048) (j : Fin 1024) : @Eq EReal (val_main_v28 (F := Ideal) (x0 m c) (x1 m c) (x2 m c) (x3 m c) (x4 m c) (x5 m c) (x6 m c) (ix2 i j)) (diff m c i j * ((1 / 1024 : ℝ) : EReal)) := by
  rw [val_main_v28_apply, val_main_v27_apply, val_main_v26_apply, val_main_v24_apply, val_main_v23_apply, val_main_cst_6_apply, val_main_cst_7_apply, val_main_v25_apply, val_main_cst_8_apply, val_main_v17_apply, val_main_v16_apply, val_main_cst_1_apply]
  show Ideal.div (Ideal.ofBits .f32 0x3F000000#32 * Ideal.ofBits .f32 0x3F800000#32) (Ideal.ofBits .f32 0x44800000#32) * (Ideal.ofBits .f32 0x40000000#32 * diff m c i j) = _
  rw [over_1024, c_half, c_two, Ideal.ofBits_one_f32, mul_one, ← EReal.coe_mul, ← mul_assoc, ← EReal.coe_mul, mul_comm]
  norm_num

/-- One row's sum of squares, and the reference's loss from them. -/
abbrev sq (i : Fin 2048) : EReal := ∑ k : Fin 1024, diff m c i k * diff m c i k

open Cert.Reference16Ideal.Read in
theorem ref_row (i : Cert.Reference16Ideal.S2048.Idx) : @Eq EReal (val_main_v20 (F := Ideal) (x0 m c) (x1 m c) (x2 m c) (x3 m c) (x4 m c) (x5 m c) (x6 m c) i) (sq m c (i 0) * ((1 / 1024 : ℝ) : EReal)) := by
  rw [val_main_v20_apply, val_main_v19_apply, val_main_cst_3_apply, val_main_v18_apply, val_main_cst_2_apply]
  have e : ∀ k : Fin 1024, idx_main_v18 i k = ix2 (i 0) k := fun k => funext fun a => match a with | ⟨0, _⟩ => rfl | ⟨1, _⟩ => rfl
  simp only [e, val_main_v15_apply]
  show Ideal.div (Ideal.ofBits .f32 0x00000000#32 + sq m c (i 0)) (Ideal.ofBits .f32 0x44800000#32) = _
  rw [over_1024, Ideal.ofBits_zero_f32, zero_add]

theorem sum_rows (f : Fin 2048 → EReal) : (∑ i : Cert.Reference16Ideal.S2048.Idx, f (i 0)) = ∑ i : Fin 2048, f i :=
  Fintype.sum_equiv ⟨fun i : Cert.Reference16Ideal.S2048.Idx => (i 0 : Fin 2048), fun i => fun a => match a with | ⟨0, _⟩ => i, fun i => funext fun a => match a with | ⟨0, _⟩ => rfl, fun _ => rfl⟩ _ _ fun _ => rfl

open Cert.Reference16Ideal.Read in
theorem ref_loss (y : S8x128.Idx) : @Eq EReal (val_main_v37 (F := Ideal) (x0 m c) (x1 m c) (x2 m c) (x3 m c) (x4 m c) (x5 m c) (x6 m c) y) ((∑ i : Fin 2048, sq m c i) * ((1 / 2048 : ℝ) : EReal)) := by
  rw [val_main_v37_apply, val_main_v22_apply, val_main_cst_5_apply, val_main_v21_apply, val_main_cst_4_apply]
  simp only [ref_row]
  rw [sum_rows (fun i => sq m c i * ((1 / 1024 : ℝ) : EReal)), ← sum_times _ _ _ (by norm_num)]
  show Ideal.ofBits .f32 0x3F000000#32 * (Ideal.ofBits .f32 0x00000000#32 + (∑ i : Fin 2048, sq m c i) * ((1 / 1024 : ℝ) : EReal)) = _
  rw [c_half, Ideal.ofBits_zero_f32, zero_add, mul_comm, mul_assoc, ← EReal.coe_mul]
  norm_num

theorem ref_gate_again : Cert.Reference16Ideal.Read.val_main_v36 (F := Ideal) (x0 m c) (x1 m c) (x2 m c) (x5 m c) = Cert.Reference16Ideal.Read.val_main_v11 (F := Ideal) (x0 m c) (x1 m c) (x2 m c) (x5 m c) := rfl

/-! ## The running sum of the loss -/

theorem sum_at (v6 v23 : FVec Ideal S512x1024 .f32) (v25 : FVec Ideal S256x1024 .bf16) (v26 v28 v30 : Vec Ideal S1x256x1024 .bf16) (v42 : Vec Ideal S512x1024 .f32) :
    @Eq EReal (k0_pay12 v6 v23 v25 v26 v28 v30 v42) (∑ r : Fin 512, ∑ k : Fin 1024, k0_pay8 v6 v23 v25 v26 v28 v30 v42 (ix2 r k) * k0_pay8 v6 v23 v25 v26 v28 v30 v42 (ix2 r k)) := by
  unfold k0_pay12
  generalize k0_pay8 v6 v23 v25 v26 v28 v30 v42 = d
  pointwise

theorem acc_at (v : FVec Ideal S8x128 .f32) (s x : Ideal .f32) (a : Fin 8) (b : Fin 128) :
    @Eq EReal (k0_pay1 v s x (ix2 a b)) (v (ix2 a b) + s * x) := by
  pointwise [k0_pay1]

theorem same_at (v : Vec Ideal S8x128 .f32) (a : Fin 8) (b : Fin 128) : @Eq EReal (k0_pay11 v (ix2 a b)) (v (ix2 a b)) := by
  pointwise [k0_pay11]

theorem zero_at (a : Fin 8) (b : Fin 128) : @Eq EReal (k0_pay10 (F := Ideal) (ix2 a b)) 0 := by
  pointwise [k0_pay10]

/-- A tile's part of the loss. -/
abbrev part (t : Fin cfg0.N) : EReal := (∑ r : Fin 512, sq m c (row t r)) * ((1 / 2048 : ℝ) : EReal)

theorem tile_part (t : Fin cfg0.N) (v : FVec Ideal S8x128 .f32) (a : Fin 8) (b : Fin 128) :
    @Eq EReal (k0_pay1 (k0_pay11 v) (k0_pay12 (k0_pay2 (blkX m c t) (blkV m c t) (blkO m c t)) (k0_pay3 (blkP m c t) (View.ld (blkE m c t) r0_3) (View.ld (blkE m c t) r0_4) (View.ld (blkE m c t) r0_5) (View.ld (blkE m c t) r0_6)) (k0_pay4 (View.ld (blkW m c t) r0_7)) (View.ld (blkW m c t) r0_8) (View.ld (blkW m c t) r0_9) (View.ld (blkW m c t) r0_10) (blkT m c t)) (FloatOps.ofBits (F := Ideal) .f32 0x3A000000#32) (ix2 a b)) (v (ix2 a b) + part m c t) := by
  refine (acc_at _ _ _ a b).trans (congrArg₂ (fun x y : EReal => x + y) (same_at v a b) (congrArg₂ (fun x y : EReal => x * y) ((sum_at _ _ _ _ _ _ _).trans ?_) c_2048th))
  refine Finset.sum_congr rfl fun r _ => Finset.sum_congr rfl fun k _ => ?_
  exact congrArg₂ (fun x y : EReal => x * y) (tile_diff m c t r k) (tile_diff m c t r k)

theorem loss_first (t : Fin cfg0.N) (h0 : t.val % 4 = 0) (a : Fin 8) (b : Fin 128) :
    @Eq EReal ((outsAt0 m c t.val t.isLt).2.2.2.2 (ix2 a b)) (part m c t) := by
  rw [outsAt0_A m c t h0]
  dsimp only
  frame_out
  refine (tile_part m c t _ a b).trans ?_
  rw [zero_at, zero_add]

theorem loss_next (t : Fin cfg0.N) (h0 : ¬t.val % 4 = 0) (a : Fin 8) (b : Fin 128) :
    @Eq EReal ((outsAt0 m c t.val t.isLt).2.2.2.2 (ix2 a b)) ((outsAt0 m c (t.val - 1) (Nat.lt_of_le_of_lt (Nat.sub_le _ _) t.isLt)).2.2.2.2 (ix2 a b) + part m c t) := by
  rw [outsAt0_B m c t h0]
  dsimp only
  frame_out
  exact tile_part m c t _ a b

/-- The rows are the four tiles' rows. -/
theorem four_tiles (f : Fin 2048 → EReal) :
    (∑ r : Fin 512, f (row ⟨0, by decide⟩ r)) + (∑ r : Fin 512, f (row ⟨1, by decide⟩ r)) + (∑ r : Fin 512, f (row ⟨2, by decide⟩ r)) + (∑ r : Fin 512, f (row ⟨3, by decide⟩ r)) = ∑ i, f i := by
  rw [add_assoc (_ + _)]
  refine Eq.trans ?_ (two_tiles 1024 f)
  refine congrArg₂ (· + ·) (Eq.trans ?_ (two_tiles 512 (fun r : Fin 1024 => f ⟨r.val, by omega⟩))) (Eq.trans ?_ (two_tiles 512 (fun r : Fin 1024 => f ⟨1024 + r.val, by omega⟩)))
  · exact congrArg₂ (· + ·) (Finset.sum_congr rfl fun r _ => congrArg f (Fin.ext (by show 512 * 0 + r.val = r.val; omega))) (Finset.sum_congr rfl fun r _ => congrArg f (Fin.ext (by show 512 * 1 + r.val = 512 + r.val; omega)))
  · exact congrArg₂ (· + ·) (Finset.sum_congr rfl fun r _ => congrArg f (Fin.ext (by show 512 * 2 + r.val = 1024 + r.val; omega))) (Finset.sum_congr rfl fun r _ => congrArg f (Fin.ext (by show 512 * 3 + r.val = 1024 + (512 + r.val); omega)))

theorem loss_last (a : Fin 8) (b : Fin 128) :
    @Eq EReal ((outsAt0 m c 3 (by decide)).2.2.2.2 (ix2 a b)) ((∑ i : Fin 2048, sq m c i) * ((1 / 2048 : ℝ) : EReal)) := by
  have d : ∀ x y : EReal, x * ((1 / 2048 : ℝ) : EReal) + y * ((1 / 2048 : ℝ) : EReal) = (x + y) * ((1 / 2048 : ℝ) : EReal) := fun x y =>
    (EReal.right_distrib_of_nonneg_of_ne_top (by exact_mod_cast (by norm_num : (0 : ℝ) ≤ 1 / 2048)) (EReal.coe_ne_top _) x y).symm
  refine (loss_next m c ⟨3, by decide⟩ (by decide) a b).trans ?_
  refine (congrArg (fun z : EReal => z + _) ((loss_next m c ⟨2, by decide⟩ (by decide) a b).trans (congrArg (fun z : EReal => z + _) ((loss_next m c ⟨1, by decide⟩ (by decide) a b).trans (congrArg (fun z : EReal => z + _) (loss_first m c ⟨0, by decide⟩ (by decide) a b)))))).trans ?_
  refine Eq.trans ?_ (congrArg (fun z : EReal => z * ((1 / 2048 : ℝ) : EReal)) (four_tiles (sq m c)))
  show part m c ⟨0, _⟩ + part m c ⟨1, _⟩ + part m c ⟨2, _⟩ + part m c ⟨3, _⟩ = _
  unfold part
  rw [d, d, d]

/-! ## What each point leaves -/

theorem left7 (t : Fin cfg0.N) (r : Fin 512) (j : Fin 1024) :
    @Eq EReal ((outsAt0 m c t.val t.isLt).1 (ix2 r j)) (Cert.Reference16Ideal.Read.val_main_v3 (F := Ideal) (x0 m c) (x1 m c) (x2 m c) (ix2 (row t r) j)) := by
  by_cases h0 : t.val % 4 = 0
  · rw [outsAt0_A m c t h0]
    dsimp only
    frame_out
    exact tile_mid m c t r j
  · rw [outsAt0_B m c t h0]
    dsimp only
    frame_out
    exact tile_mid m c t r j

theorem left8 (t : Fin cfg0.N) (r : Fin 512) (j : Fin 1024) :
    @Eq EReal ((outsAt0 m c t.val t.isLt).2.1 (ix2 r j)) (Cert.Reference16Ideal.Read.val_main_v28 (F := Ideal) (x0 m c) (x1 m c) (x2 m c) (x3 m c) (x4 m c) (x5 m c) (x6 m c) (ix2 (row t r) j)) := by
  by_cases h0 : t.val % 4 = 0
  · rw [outsAt0_A m c t h0]
    dsimp only
    frame_out
    exact (congrArg₂ (fun x y : EReal => x * y) (tile_diff m c t r j) c_1024th).trans (ref_dx m c (row t r) j).symm
  · rw [outsAt0_B m c t h0]
    dsimp only
    frame_out
    exact (congrArg₂ (fun x y : EReal => x * y) (tile_diff m c t r j) c_1024th).trans (ref_dx m c (row t r) j).symm

theorem left9 (t : Fin cfg0.N) (r : Fin 512) (j : Fin 1024) :
    @Eq EReal ((outsAt0 m c t.val t.isLt).2.2.1 (ix2 r j)) (Cert.Reference16Ideal.Read.val_main_v29 (F := Ideal) (x3 m c) (x4 m c) (ix2 (row t r) j)) := by
  by_cases h0 : t.val % 4 = 0
  · rw [outsAt0_A m c t h0]
    dsimp only
    frame_out
    exact tile_emb m c t r j
  · rw [outsAt0_B m c t h0]
    dsimp only
    frame_out
    exact tile_emb m c t r j

theorem left10 (t : Fin cfg0.N) (r : Fin 512) (j : Fin 1024) :
    @Eq EReal ((outsAt0 m c t.val t.isLt).2.2.2.1 (ix2 r j)) (Cert.Reference16Ideal.Read.val_main_v36 (F := Ideal) (x0 m c) (x1 m c) (x2 m c) (x5 m c) (ix2 (row t r) j)) := by
  by_cases h0 : t.val % 4 = 0
  · rw [outsAt0_A m c t h0]
    dsimp only
    frame_out
    exact tile_gate m c t r j
  · rw [outsAt0_B m c t h0]
    dsimp only
    frame_out
    exact tile_gate m c t r j

/-! ## The arrays the launch leaves -/

theorem place7 (t : Fin cfg0.N) (r : Fin 512) (k : Fin 1024) : (win0_7.blk t).view.emb (ix2 r k) = ix2 (row t r) k := by
  funext a
  apply Fin.ext
  have e := index7 t
  match a with
  | ⟨0, _⟩ => show win0_7.index t (0 : Fin 2) * 512 + 1 * r.val = 512 * t.val + r.val; rw [e]; show t.val * 512 + 1 * r.val = _; omega
  | ⟨1, _⟩ => show win0_7.index t (1 : Fin 2) * 1024 + 1 * k.val = k.val; rw [e]; show 0 * 1024 + 1 * k.val = _; omega

theorem final7 : (dats m 0 c).arrAt 7 cfg0.N = Cert.Reference16Ideal.Read.val_main_v3 (F := Ideal) (x0 m c) (x1 m c) (x2 m c) := by
  refine (dats m 0 c).arrAt_eq_of_covers 7 _ (by decide +kernel) fun t hf y => ?_
  obtain ⟨r, k, rfl⟩ : ∃ (r : Fin 512) (k : Fin 1024), y = ix2 r k := ⟨y 0, y 1, eq_ix2 y⟩
  blk_simp
  rw [after0_7, place7]
  exact left7 m c t r k

theorem place8 (t : Fin cfg0.N) (r : Fin 512) (k : Fin 1024) : (win0_8.blk t).view.emb (ix2 r k) = ix2 (row t r) k := by
  funext a
  apply Fin.ext
  have e := index8 t
  match a with
  | ⟨0, _⟩ => show win0_8.index t (0 : Fin 2) * 512 + 1 * r.val = 512 * t.val + r.val; rw [e]; show t.val * 512 + 1 * r.val = _; omega
  | ⟨1, _⟩ => show win0_8.index t (1 : Fin 2) * 1024 + 1 * k.val = k.val; rw [e]; show 0 * 1024 + 1 * k.val = _; omega

theorem final8 : (dats m 0 c).arrAt 8 cfg0.N = Cert.Reference16Ideal.Read.val_main_v28 (F := Ideal) (x0 m c) (x1 m c) (x2 m c) (x3 m c) (x4 m c) (x5 m c) (x6 m c) := by
  refine (dats m 0 c).arrAt_eq_of_covers 8 _ (by decide +kernel) fun t hf y => ?_
  obtain ⟨r, k, rfl⟩ : ∃ (r : Fin 512) (k : Fin 1024), y = ix2 r k := ⟨y 0, y 1, eq_ix2 y⟩
  blk_simp
  rw [after0_8, place8]
  exact left8 m c t r k

theorem place9 (t : Fin cfg0.N) (r : Fin 512) (k : Fin 1024) : (win0_9.blk t).view.emb (ix2 r k) = ix2 (row t r) k := by
  funext a
  apply Fin.ext
  have e := index9 t
  match a with
  | ⟨0, _⟩ => show win0_9.index t (0 : Fin 2) * 512 + 1 * r.val = 512 * t.val + r.val; rw [e]; show t.val * 512 + 1 * r.val = _; omega
  | ⟨1, _⟩ => show win0_9.index t (1 : Fin 2) * 1024 + 1 * k.val = k.val; rw [e]; show 0 * 1024 + 1 * k.val = _; omega

theorem final9 : (dats m 0 c).arrAt 9 cfg0.N = Cert.Reference16Ideal.Read.val_main_v29 (F := Ideal) (x3 m c) (x4 m c) := by
  refine (dats m 0 c).arrAt_eq_of_covers 9 _ (by decide +kernel) fun t hf y => ?_
  obtain ⟨r, k, rfl⟩ : ∃ (r : Fin 512) (k : Fin 1024), y = ix2 r k := ⟨y 0, y 1, eq_ix2 y⟩
  blk_simp
  rw [after0_9, place9]
  exact left9 m c t r k

theorem place10 (t : Fin cfg0.N) (r : Fin 512) (k : Fin 1024) : (win0_10.blk t).view.emb (ix2 r k) = ix2 (row t r) k := by
  funext a
  apply Fin.ext
  have e := index10 t
  match a with
  | ⟨0, _⟩ => show win0_10.index t (0 : Fin 2) * 512 + 1 * r.val = 512 * t.val + r.val; rw [e]; show t.val * 512 + 1 * r.val = _; omega
  | ⟨1, _⟩ => show win0_10.index t (1 : Fin 2) * 1024 + 1 * k.val = k.val; rw [e]; show 0 * 1024 + 1 * k.val = _; omega

theorem final10 : (dats m 0 c).arrAt 10 cfg0.N = Cert.Reference16Ideal.Read.val_main_v36 (F := Ideal) (x0 m c) (x1 m c) (x2 m c) (x5 m c) := by
  refine (dats m 0 c).arrAt_eq_of_covers 10 _ (by decide +kernel) fun t hf y => ?_
  obtain ⟨r, k, rfl⟩ : ∃ (r : Fin 512) (k : Fin 1024), y = ix2 r k := ⟨y 0, y 1, eq_ix2 y⟩
  blk_simp
  rw [after0_10, place10]
  exact left10 m c t r k

theorem final11 : (dats m 0 c).arrAt 11 cfg0.N = Cert.Reference16Ideal.Read.val_main_v37 (F := Ideal) (x0 m c) (x1 m c) (x2 m c) (x3 m c) (x4 m c) (x5 m c) (x6 m c) := by
  refine (dats m 0 c).arrAt_eq_of_covers 11 _ (by decide +kernel) fun t hf y => ?_
  obtain ⟨a, b, rfl⟩ : ∃ (a : Fin 8) (b : Fin 128), y = ix2 a b := ⟨y 0, y 1, eq_ix2 y⟩
  blk_simp
  rw [after0_11]
  obtain rfl : t = ⟨3, by decide⟩ := by
    have := (flush0_11 t).mp hf
    have := t.isLt
    have : cfg0.N = 4 := N_0
    exact Fin.ext (by dsimp only; omega)
  exact (loss_last m c a b).trans (ref_loss m c _).symm

end Cert.Kernel16Ideal.Fwd

namespace Cert.Proof

open Idealize.ShloMosaic Idealize.SL.Sem

theorem frame_kernel16 : @Cert.quiescent_Kernel16 Cert.Kernel16.Gen.facts := fun m g _ => Cert.Kernel16.Gen.frame m g

theorem frame_ideal16 : @Cert.quiescent_Kernel16Ideal Cert.Kernel16Ideal.Gen.facts := fun m g _ => Cert.Kernel16Ideal.Gen.frame m g

theorem frame_reference16 : @Cert.quiescent_Reference16Ideal Cert.Reference16Ideal.Gen.facts := fun m g _ =>
  (θ_run _ _ _).mono (fun r h => ⟨fun c => (h c).2.2.2.2.2, sem_eq_zero_of_no_sems rfl r.2⟩) (Cert.Reference16Ideal.Value.run m g)

theorem values16 : @Cert.algebraic_Kernel16Ideal_Reference16Ideal Cert.Kernel16Ideal.Gen.facts Cert.Reference16Ideal.Gen.facts := by
  intro m g m' g' _ hagree
  refine ⟨fun c => _, fun c => _, fun c => _, fun c => _, fun c => _, (θ_run _ _ _).mono (fun r h c => ⟨(h c).1.trans (Cert.Kernel16Ideal.Fwd.final7 m c), (h c).2.1.trans (Cert.Kernel16Ideal.Fwd.final8 m c),
    (h c).2.2.1.trans (Cert.Kernel16Ideal.Fwd.final9 m c), (h c).2.2.2.1.trans (Cert.Kernel16Ideal.Fwd.final10 m c), (h c).2.2.2.2.1.trans (Cert.Kernel16Ideal.Fwd.final11 m c), (h c).2.2.2.2.2⟩) (Cert.Kernel16Ideal.Value.run_blocks m g), ?_⟩
  refine (θ_run _ _ _).mono (fun r h c => ?_) (Cert.Reference16Ideal.Value.run m' g')
  obtain ⟨e0, e1, e2, e3, e4, e5, e6⟩ := hagree c
  refine ⟨(h c).1.trans ((Cert.Reference16Ideal.Read.val_main_v3_eq _ _ _).trans ?_), (h c).2.1.trans ((Cert.Reference16Ideal.Read.val_main_v28_eq _ _ _ _ _ _ _).trans ?_),
    (h c).2.2.1.trans ((Cert.Reference16Ideal.Read.val_main_v29_eq _ _).trans ?_), (h c).2.2.2.1.trans ((Cert.Reference16Ideal.Read.val_main_v36_eq _ _ _ _).trans ?_),
    (h c).2.2.2.2.1.trans ((Cert.Reference16Ideal.Read.val_main_v37_eq _ _ _ _ _ _ _).trans ?_), (h c).2.2.2.2.2⟩
  · rw [e0, e1, e2]
  · rw [e0, e1, e2, e3, e4, e5, e6]
  · rw [e3, e4]
  · rw [e0, e1, e2, e5]
  · rw [e0, e1, e2, e3, e4, e5, e6]

end Cert.Proof

end
-- ==== Proof.Heads.lean ====
/- Keys, queries, values and gate of a layer from its input: two normed copies, two projections, and each head over the root of its mean square. -/
module

public import proofs.«01_k».proof.Defs
public import proofs.«01_k».proof.Proof.Gen.Kernel17.Frame
public import proofs.«01_k».proof.Proof.Gen.Kernel17Ideal.Value
public import proofs.«01_k».proof.Proof.Gen.Reference17Ideal.Run
public import proofs.«01_k».proof.Proof.Gen.Reference17Ideal.Read
public import proofs.«01_k».proof.Proof.Blocks
public import proofs.«01_k».proof.Proof.Shards
public import proofs.«01_k».proof.Proof.Finite

@[expose] public section

set_option maxRecDepth 16384

noncomputable section

namespace Cert.Kernel17Ideal.Heads
open Cert.Kernel17Ideal Cert.Kernel17Ideal.Gen Cert.Blocks
open Cert.KernelIdeal.Mix (Re epsR epsR_pos ofBits_eps ofBits_1024 div_real rsqrt_real coe_sumR select_ite)
open Idealize.ShloMosaic Idealize.ShloMosaic.TcCoe Idealize.SL.Sem

/-! ## Reals -/

theorem ofBits_64 : Ideal.ofBits .f32 0x42800000#32 = ↑(64 : ℝ) := by
  simp [Ideal.ofBits, Ideal.ieee, -EReal.coe_mul]
  norm_num

theorem ofBits_64th : Ideal.ofBits .f32 0x3C800000#32 = ↑(1 / 64 : ℝ) := by
  simp [Ideal.ofBits, Ideal.ieee, -EReal.coe_mul]
  norm_num

theorem square_nonneg (x : EReal) : 0 ≤ x * x := by
  induction x with
  | bot => rw [EReal.bot_mul_bot]; exact le_top
  | top => rw [EReal.top_mul_top]; exact le_top
  | coe r => rw [← EReal.coe_mul]; exact_mod_cast mul_self_nonneg r

/-- A row over the root of its mean square is real, whatever the row holds. -/
theorem unit_real (f : Fin 1024 → EReal) (c : Fin 1024) :
    Re (f c * Ideal.rsqrt (Ideal.div (∑ k : Fin 1024, f k * f k) (Ideal.ofBits .f32 0x44800000#32) + Ideal.ofBits .f32 0x358637BD#32)) := by
  rw [ofBits_1024, ofBits_eps]
  by_cases h : ∀ k, Re (f k)
  · choose g hg using h
    have hs : (∑ k : Fin 1024, f k * f k) = ↑(∑ k : Fin 1024, g k * g k) := by
      rw [coe_sumR]
      exact Finset.sum_congr rfl fun k _ => by rw [hg k, EReal.coe_mul]
    have h0 : 0 ≤ ∑ k : Fin 1024, g k * g k := Finset.sum_nonneg fun k _ => mul_self_nonneg (g k)
    have := epsR_pos
    rw [hs, hg c, div_real _ _ (by norm_num), ← EReal.coe_add, rsqrt_real _ (by positivity), ← EReal.coe_mul]
    exact ⟨_, rfl⟩
  · obtain ⟨j, hj⟩ := not_forall.1 h
    have ht : f j * f j = ⊤ := by
      generalize f j = x at hj
      induction x with
      | bot => exact EReal.bot_mul_bot
      | top => exact EReal.top_mul_top
      | coe r => exact absurd ⟨r, rfl⟩ hj
    have hs : (∑ k : Fin 1024, f k * f k) = ⊤ := by
      refine top_le_iff.1 ?_
      rw [← ht]
      exact Finset.single_le_sum (f := fun k => f k * f k) (fun k _ => square_nonneg (f k)) (Finset.mem_univ j)
    rw [hs, Ideal.div_coe (by norm_num), EReal.top_mul_coe_of_pos (by norm_num), EReal.top_add_coe, Ideal.rsqrt_top, mul_zero]
    exact Re.zero

/-- A sum over the columns of one block is a sum of all columns under the block's mask. -/
theorem sum_block (f : Fin 256 → ℝ) (c : Fin 256) :
    ∑ k : Fin 256, f k * (if k.val / 64 = c.val / 64 then 1 else 0) = ∑ k : Fin 64, f ⟨64 * (c.val / 64) + k.val, by omega⟩ := by
  have e : ∀ p : Fin 4 × Fin 64, f (finProdFinEquiv p) * (if (finProdFinEquiv p : Fin 256).val / 64 = c.val / 64 then 1 else 0)
      = if p.1 = ⟨c.val / 64, by omega⟩ then f ⟨64 * p.1.val + p.2.val, by omega⟩ else 0 := by
    intro p
    have hv : (finProdFinEquiv p : Fin 256).val = p.2.val + 64 * p.1.val := rfl
    have hd : (finProdFinEquiv p : Fin 256).val / 64 = p.1.val := by rw [hv]; omega
    rw [hd]
    by_cases hp : p.1.val = c.val / 64
    · rw [if_pos hp, if_pos (Fin.ext hp), mul_one]
      exact congrArg f (Fin.ext (by rw [hv]; dsimp only; omega))
    · rw [if_neg hp, if_neg (fun h => hp (congrArg Fin.val h)), mul_zero]
  rw [← (finProdFinEquiv (m := 4) (n := 64)).sum_comp]
  rw [Fintype.sum_congr _ _ e, Fintype.sum_prod_type]
  rw [Finset.sum_eq_single (⟨c.val / 64, by omega⟩ : Fin 4)]
  · exact Finset.sum_congr rfl fun k _ => if_pos rfl
  · intro b _ hb
    exact Finset.sum_eq_zero fun k _ => if_neg hb
  · intro h
    exact absurd (Finset.mem_univ _) h

/-! ## The mean square of a head -/

/-- The block of sixty-four a word lies in, as the kernel divides. -/
def blockOf (n : BitVec 32) : BitVec 32 :=
  Scalar.select
    (IntOp.andi
      (IntOp.cmpi .ne (IntOp.subi (BitVec.setWidth 32 (IntOp.cmpi .sgt n 0#32)) (BitVec.setWidth 32 (IntOp.cmpi .slt n 0#32)))
        (Scalar.subi (Scalar.extui (Scalar.cmpi .sgt 64#32 0#32)) (Scalar.extui (Scalar.cmpi .slt 64#32 0#32))))
      (IntOp.cmpi .ne (IntOp.remsi ArithUnit.vector n 64#32) 0#32))
    (IntOp.subi (IntOp.divsi ArithUnit.vector n 64#32) 1#32)
    (IntOp.divsi ArithUnit.vector n 64#32)

theorem blockOf_eq : ∀ n : Fin 256, blockOf (BitVec.ofNat 32 n.val) = BitVec.ofNat 32 (n.val / 64) := by decide +kernel

theorem mask_at (r c : Fin 256) : @Eq EReal ((k0_pay9 (iota .tc S256x256 32 [0] iota_S256x256_d0_w32) k0_pay6 k0_pay7 k0_pay8 : FVec Ideal S256x256 .bf16) (ix2 r c))
    ↑(if r.val / 64 = c.val / 64 then 1 else 0 : ℝ) := by
  pointwise [k0_pay9, k0_pay6, k0_pay7, k0_pay8]
  show (Scalar.select (IntOp.cmpi .eq (blockOf (BitVec.ofNat 32 r.val)) (blockOf (BitVec.ofNat 32 c.val))) 1 0 : EReal) = _
  rw [blockOf_eq, blockOf_eq]
  refine select_ite _ ?_
  have hr := r.isLt
  have hc := c.isLt
  show BitVec.ofBool (BitVec.ofNat 32 (r.val / 64) == BitVec.ofNat 32 (c.val / 64)) = 1#1 ↔ _
  constructor
  · intro h
    by_contra hn
    have : BitVec.ofNat 32 (r.val / 64) ≠ BitVec.ofNat 32 (c.val / 64) := fun e => hn (by
      have := congrArg BitVec.toNat e
      simp only [BitVec.toNat_ofNat] at this
      omega)
    rw [beq_eq_false_iff_ne.2 this] at h
    exact absurd h (by decide)
  · intro h
    rw [h]
    simp

/-- Two arrays one beside the other. -/
theorem beside {α : Type} {p q n : ℕ} (y0 y1 : (⟨2, ![p, q]⟩ : Shape).Idx → α) (h : Shape.Concatenates [⟨2, ![p, q]⟩, ⟨2, ![p, q]⟩] ⟨2, ![p, n]⟩ 1)
    (r : Fin p) (c : Fin q) (j : Fin n) :
    (j.val = c.val → concatenate ⟨2, ![p, n]⟩ 1 [⟨⟨2, ![p, q]⟩, y0⟩, ⟨⟨2, ![p, q]⟩, y1⟩] h (ix2 r j) = y0 (ix2 r c))
      ∧ (j.val = q + c.val → concatenate ⟨2, ![p, n]⟩ 1 [⟨⟨2, ![p, q]⟩, y0⟩, ⟨⟨2, ![p, q]⟩, y1⟩] h (ix2 r j) = y1 (ix2 r c)) := by
  have hi : ∀ b : Fin 2, b.cast rfl ≠ (1 : Fin 2) → ((ix2 r c : (⟨2, ![p, q]⟩ : Shape).Idx) b).val = ((ix2 r j : (⟨2, ![p, n]⟩ : Shape).Idx) (b.cast rfl)).val := by
    intro b hb
    match b with
    | ⟨0, _⟩ => rfl
    | ⟨1, _⟩ => exact absurd rfl hb
  constructor
  · intro hj
    refine concatenate_apply_piece _ [⟨⟨2, ![p, q]⟩, y0⟩, ⟨⟨2, ![p, q]⟩, y1⟩] h _ 0 (show 0 < 2 by decide) ⟨2, ![p, q]⟩ y0 rfl rfl (0) ?_ (ix2 r c) hi ?_
    · simp [List.take, List.map, List.sum_cons]
    · show 0 + c.val = j.val; omega
  · intro hj
    refine concatenate_apply_piece _ [⟨⟨2, ![p, q]⟩, y0⟩, ⟨⟨2, ![p, q]⟩, y1⟩] h _ 1 (show 1 < 2 by decide) ⟨2, ![p, q]⟩ y1 rfl rfl (q) ?_ (ix2 r c) hi ?_
    · simp [List.take, List.map, List.sum_cons]
    · show q + c.val = j.val; omega

/-- The sums of the blocks' squares from a value's two parts. -/
def half (bd : FVec Ideal S256x256 .bf16) (s : FVec Ideal S256x256 .f32) : FVec Ideal S256x256 .f32 :=
  addf (matmul dot_S256x256_S256x256_S256x256_1_0_0_1_n_n none (truncf .bf16 s bitsLt_bf16_f32) bd (constant S256x256 .f32 0x00000000#32))
    (matmul dot_S256x256_S256x256_S256x256_1_0_0_1_n_n none (truncf .bf16 (subf s (extf .f32 (truncf .bf16 s bitsLt_bf16_f32 : FVec Ideal S256x256 .bf16) bitsLt_bf16_f32)) bitsLt_bf16_f32) bd (constant S256x256 .f32 0x00000000#32))

def both (bd : FVec Ideal S256x256 .bf16) (q : FVec Ideal S256x512 .f32) : FVec Ideal S256x512 .f32 :=
  concatenate S256x512 1 [⟨S256x256, half bd (extractStridedSlice S256x256 ![0, 0] q slices_S256x512_o0_0_S256x256)⟩, ⟨S256x256, half bd (extractStridedSlice S256x256 ![0, 256] q slices_S256x512_o0_256_S256x256)⟩] concatenates_S256x256_S256x256_S256x512_d1

def unit (bd : FVec Ideal S256x256 .bf16) (raw : FVec Ideal S256x512 .f32) (g : Vec Ideal S1x512 .f32) : FVec Ideal S256x512 .f32 :=
  mulf (mulf raw (rsqrt (addf (mulf (both bd (mulf raw raw)) (broadcast S256x512 (Scalar.ofBits .f32 0x3C800000#32))) (broadcast S256x512 (Scalar.ofBits .f32 0x358637BD#32))))) (broadcastTo S256x512 g broadcasts_S1x512_S256x512)

theorem half_raw (bd : FVec Ideal S256x256 .bf16) (s : FVec Ideal S256x256 .f32) (r c : Fin 256) : @Eq EReal (half bd s (ix2 r c))
    ((∑ k : Fin 256, s (ix2 r k) * bd (ix2 k c)) + ∑ k : Fin 256, (s (ix2 r k) - s (ix2 r k)) * bd (ix2 k c)) := by
  pointwise [half]

theorem half_at (bd : FVec Ideal S256x256 .bf16) (hbd : ∀ r c : Fin 256, @Eq EReal (bd (ix2 r c)) ↑(if r.val / 64 = c.val / 64 then 1 else 0 : ℝ))
    (s : FVec Ideal S256x256 .f32) (hs : ∀ r c : Fin 256, Re (s (ix2 r c))) (r c : Fin 256) : @Eq EReal (half bd s (ix2 r c))
    (∑ k : Fin 64, s (ix2 r ⟨64 * (c.val / 64) + k.val, by omega⟩)) := by
  choose R hR using hs
  rw [half_raw]
  have h1 : ∀ k : Fin 256, (s (ix2 r k) * bd (ix2 k c) : EReal) = ↑(R r k * (if k.val / 64 = c.val / 64 then 1 else 0)) := fun k => by
    rw [hR, hbd, EReal.coe_mul]
  have h2 : ∀ k : Fin 256, ((s (ix2 r k) - s (ix2 r k)) * bd (ix2 k c) : EReal) = 0 := fun k => by
    rw [hR, ← EReal.coe_sub, sub_self, EReal.coe_zero, zero_mul]
  rw [Finset.sum_congr rfl fun k _ => h1 k, Finset.sum_congr rfl fun k _ => h2 k, Finset.sum_const_zero, add_zero, ← coe_sumR, sum_block (R r) c, coe_sumR]
  exact Finset.sum_congr rfl fun k _ => (hR _ _).symm

theorem both_at (bd : FVec Ideal S256x256 .bf16) (hbd : ∀ r c : Fin 256, @Eq EReal (bd (ix2 r c)) ↑(if r.val / 64 = c.val / 64 then 1 else 0 : ℝ))
    (q : FVec Ideal S256x512 .f32) (hq : ∀ (r : Fin 256) (c : Fin 512), Re (q (ix2 r c))) (r : Fin 256) (c : Fin 512) : @Eq EReal (both bd q (ix2 r c))
    (∑ k : Fin 64, q (ix2 r ⟨64 * (c.val / 64) + k.val, by omega⟩)) := by
  have p0 : ∀ r c : Fin 256, extractStridedSlice S256x256 ![0, 0] q slices_S256x512_o0_0_S256x256 (ix2 r c) = q (ix2 r ⟨c.val, by omega⟩) := fun r c =>
    extractStridedSlice_apply ![0, 0] q slices_S256x512_o0_0_S256x256 (ix2 r c) (ix2 r ⟨c.val, by omega⟩) (fun a => match a with
      | ⟨0, _⟩ => by show r.val = 0 + r.val; omega
      | ⟨1, _⟩ => by show c.val = 0 + c.val; omega)
  have p1 : ∀ r c : Fin 256, extractStridedSlice S256x256 ![0, 256] q slices_S256x512_o0_256_S256x256 (ix2 r c) = q (ix2 r ⟨256 + c.val, by omega⟩) := fun r c =>
    extractStridedSlice_apply ![0, 256] q slices_S256x512_o0_256_S256x256 (ix2 r c) (ix2 r ⟨256 + c.val, by omega⟩) (fun a => match a with
      | ⟨0, _⟩ => by show r.val = 0 + r.val; omega
      | ⟨1, _⟩ => rfl)
  unfold both
  by_cases h : c.val < 256
  · refine ((beside _ _ _ r (⟨c.val, h⟩ : Fin 256) c).1 rfl).trans ?_
    exact (half_at bd hbd _ (fun r c => by rw [p0]; exact hq _ _) r ⟨c.val, h⟩).trans (Finset.sum_congr rfl fun k _ => p0 _ _)
  · refine ((beside _ _ _ r (⟨c.val - 256, by omega⟩ : Fin 256) c).2 (by dsimp only; omega)).trans ?_
    refine (half_at bd hbd _ (fun r c => by rw [p1]; exact hq _ _) r ⟨c.val - 256, by omega⟩).trans (Finset.sum_congr rfl fun k _ => (p1 _ _).trans ?_)
    exact congrArg (fun j => q (ix2 r j)) (Fin.ext (by dsimp only; omega))

theorem unit_raw (T raw : FVec Ideal S256x512 .f32) (g : Vec Ideal S1x512 .f32) (r : Fin 256) (c : Fin 512) :
    @Eq EReal (mulf (mulf raw (rsqrt (addf (mulf T (broadcast S256x512 (Scalar.ofBits .f32 0x3C800000#32))) (broadcast S256x512 (Scalar.ofBits .f32 0x358637BD#32))))) (broadcastTo S256x512 g broadcasts_S1x512_S256x512) (ix2 r c))
      (raw (ix2 r c) * Ideal.rsqrt (T (ix2 r c) * Ideal.ofBits .f32 0x3C800000#32 + Ideal.ofBits .f32 0x358637BD#32) * g (ix2 0 c)) := by
  pointwise

/-- A head over the root of its mean square, times its gain. -/
theorem unit_at (bd : FVec Ideal S256x256 .bf16) (hbd : ∀ r c : Fin 256, @Eq EReal (bd (ix2 r c)) ↑(if r.val / 64 = c.val / 64 then 1 else 0 : ℝ))
    (raw : FVec Ideal S256x512 .f32) (hraw : ∀ (r : Fin 256) (c : Fin 512), Re (raw (ix2 r c))) (g : Vec Ideal S1x512 .f32) (r : Fin 256) (c : Fin 512) :
    @Eq EReal (unit bd raw g (ix2 r c))
      (raw (ix2 r c) * Ideal.rsqrt (Ideal.div (∑ k : Fin 64, raw (ix2 r ⟨64 * (c.val / 64) + k.val, by omega⟩) * raw (ix2 r ⟨64 * (c.val / 64) + k.val, by omega⟩)) (Ideal.ofBits .f32 0x42800000#32) + Ideal.ofBits .f32 0x358637BD#32) * g (ix2 0 c)) := by
  unfold unit
  refine (unit_raw _ raw g r c).trans ?_
  have e : @Eq EReal (both bd (mulf raw raw) (ix2 r c)) (∑ k : Fin 64, raw (ix2 r ⟨64 * (c.val / 64) + k.val, by omega⟩) * raw (ix2 r ⟨64 * (c.val / 64) + k.val, by omega⟩)) :=
    both_at bd hbd (mulf raw raw) (fun r c => Re.mul (hraw r c) (hraw r c)) r c
  rw [e, ofBits_64, ofBits_64th, Ideal.div_coe (by norm_num)]

theorem key_lo (bd : FVec Ideal S256x256 .bf16) (raw : FVec Ideal S256x512 .f32) (g : Vec Ideal S1x512 .f32) : k0_pay15 bd raw g = truncf .bf16 (unit bd raw g) bitsLt_bf16_f32 := rfl
theorem key_hi (bd : FVec Ideal S256x256 .bf16) (raw : FVec Ideal S256x512 .f32) (g : Vec Ideal S1x512 .f32) : k0_pay25 bd raw g = truncf .bf16 (unit bd raw g) bitsLt_bf16_f32 := rfl
theorem query_lo (bd : FVec Ideal S256x256 .bf16) (h : FVec Ideal S256x1024 .bf16) (v : Vec Ideal S1x1024x512 .bf16) (g : Vec Ideal S1x512 .f32) :
    k0_pay20 bd (k0_pay12 h (k0_pay11 v)) g (k0_pay16 h (k0_pay11 v)) (k0_pay18 h (k0_pay11 v)) (k0_pay19 h (k0_pay11 v)) = truncf .bf16 (mulf (unit bd (k0_pay10 h v) g) (broadcast S256x512 (Scalar.ofBits .f32 0x3E000000#32))) bitsLt_bf16_f32 := rfl
theorem query_hi (bd : FVec Ideal S256x256 .bf16) (h : FVec Ideal S256x1024 .bf16) (v : Vec Ideal S1x1024x512 .bf16) (g : Vec Ideal S1x512 .f32) :
    k0_pay32 bd (k0_pay22 h v) g (k0_pay27 bd (k0_pay22 h v)) (k0_pay30 (k0_pay22 h v)) (k0_pay31 bd (k0_pay22 h v)) = truncf .bf16 (mulf (unit bd (k0_pay10 h v) g) (broadcast S256x512 (Scalar.ofBits .f32 0x3E000000#32))) bitsLt_bf16_f32 := rfl

theorem proj_at (h : FVec Ideal S256x1024 .bf16) (v : Vec Ideal S1x1024x512 .bf16) (r : Fin 256) (c : Fin 512) :
    @Eq EReal (k0_pay10 h v (ix2 r c)) (∑ k : Fin 1024, h (ix2 r k) * v (ix3 0 k c)) := by
  pointwise [k0_pay10]

theorem rms_at (x : Vec Ideal S256x1024 .f32) (g : Vec Ideal S1x1024 .f32) (r : Fin 256) (c : Fin 1024) : @Eq EReal (k0_pay4 x g (ix2 r c))
    (x (ix2 r c) * Ideal.rsqrt (Ideal.div (∑ k : Fin 1024, x (ix2 r k) * x (ix2 r k)) (Ideal.ofBits .f32 0x44800000#32) + Ideal.ofBits .f32 0x358637BD#32) * g (ix2 0 c)) := by
  pointwise [k0_pay4, k0_pay3]

/-- Two stores, of half the columns each. -/
theorem canon_halves {e : EltTy} {m n N : ℕ} (i1 : ∀ i, (![0, n] : Fin 2 → ℕ) i + (![m, n] : Fin 2 → ℕ) i ≤ (⟨2, ![m, N]⟩ : Shape).size i)
    (i0 : ∀ i, (![0, 0] : Fin 2 → ℕ) i + (![m, n] : Fin 2 → ℕ) i ≤ (⟨2, ![m, N]⟩ : Shape).size i) (hN : N = n + n)
    (w1 w0 : (⟨2, ![m, n]⟩ : Shape).Idx → Elt Ideal e) (r : Fin m) (j : Fin N) (z : Elt Ideal e)
    (h1 : ∀ c : Fin n, j.val = n + c.val → w1 (ix2 r c) = z) (h0 : ∀ c : Fin n, j.val = c.val → w0 (ix2 r c) = z) :
    View.canon [⟨Rect.unit (s := ⟨2, ![m, N]⟩) ![0, n] ![m, n] i1, w1⟩, ⟨Rect.unit (s := ⟨2, ![m, N]⟩) ![0, 0] ![m, n] i0, w0⟩] (ix2 r j) = z := by
  have hj := j.isLt
  by_cases h : n ≤ j.val
  · have hc : j.val - n < n := by omega
    have : (ix2 r j : (⟨2, ![m, N]⟩ : Shape).Idx) = (Rect.unit (s := ⟨2, ![m, N]⟩) ![0, n] ![m, n] i1).emb (ix2 r ⟨j.val - n, hc⟩) := by
      funext i
      apply Fin.ext
      match i with
      | ⟨0, _⟩ => show r.val = 0 + 1 * r.val; omega
      | ⟨1, _⟩ => show j.val = n + 1 * (j.val - n); omega
    refine (congrArg (View.canon _) this).trans ?_
    rw [View.canon_cons_emb]
    exact h1 ⟨j.val - n, hc⟩ (by dsimp only; omega)
  · refine (View.canon_cons_of_not_mem _ _ fun hm => ?_).trans ?_
    · have h2 : n ≤ j.val ∧ j.val < n + n := (Rect.mem_set_unit (inb := i1)).1 hm 1
      omega
    · have : (ix2 r j : (⟨2, ![m, N]⟩ : Shape).Idx) = (Rect.unit (s := ⟨2, ![m, N]⟩) ![0, 0] ![m, n] i0).emb (ix2 r ⟨j.val, by omega⟩) := by
        funext i
        apply Fin.ext
        match i with
        | ⟨0, _⟩ => show r.val = 0 + 1 * r.val; omega
        | ⟨1, _⟩ => show j.val = 0 + 1 * j.val; omega
      refine (congrArg (View.canon _) this).trans ?_
      rw [View.canon_cons_emb]
      exact h0 _ rfl

end Cert.Kernel17Ideal.Heads

end
-- ==== Proof.Entry.lean ====
/- The launch that forms keys, queries, values and gate: what its tiles compute, the arrays it leaves, and the reference's. -/
module

public import proofs.«01_k».proof.Proof.Heads

@[expose] public section

set_option maxRecDepth 16384

noncomputable section

namespace Cert.Kernel17Ideal.Heads
open Cert.Kernel17Ideal Cert.Kernel17Ideal.Gen Cert.Blocks
open Cert.KernelIdeal.Mix (Re)
open Idealize.ShloMosaic Idealize.ShloMosaic.TcCoe Idealize.SL.Sem

/-! ## What the reference's lines are, entry by entry -/

section Reference

open Cert.Reference17Ideal.Read

variable (x : FVec Ideal S2048x1024 .f32) (n : FVec Ideal S1x1024 .f32) (g : FVec Ideal S1x64 .f32) (w : FVec Ideal S1024x2048 .f32)

theorem ofBits_0 : Ideal.ofBits .f32 0x00000000#32 = 0 := by simp [Ideal.ofBits, Ideal.ieee]

theorem ref_rms (i : Fin 2048) (j : Fin 1024) : @Eq EReal (val_main_v11 (F := Ideal) x n (ix2 i j))
    (x (ix2 i j) * Ideal.rsqrt (Ideal.div (∑ k : Fin 1024, x (ix2 i k) * x (ix2 i k)) (Ideal.ofBits .f32 0x44800000#32) + Ideal.ofBits .f32 0x358637BD#32) * n (ix2 0 j)) := by
  rw [val_main_v11_apply, val_main_v10_apply, val_main_v9_apply, val_main_v8_apply, val_main_v7_apply, val_main_v6_apply, val_main_v5_apply, val_main_cst_1_apply,
    val_main_v4_apply, val_main_v3_apply, val_main_cst_0_apply, val_main_v2_apply, val_main_v1_apply, val_main_cst_apply]
  simp only [val_main_v0_apply]
  have e : ∀ k : Fin 1024, idx_main_v1 (idx_main_v2 (idx_main_v8 (ix2 i j))) k = ix2 i k := fun k => funext fun a => match a with | ⟨0, _⟩ => rfl | ⟨1, _⟩ => rfl
  have f : idx_main_v10 (ix2 i j) = ix2 0 j := funext fun a => match a with | ⟨0, _⟩ => rfl | ⟨1, _⟩ => rfl
  simp only [e, f]
  show x (ix2 i j) * Ideal.rsqrt (Ideal.div (Ideal.ofBits .f32 0x00000000#32 + ∑ k : Fin 1024, x (ix2 i k) * x (ix2 i k)) (Ideal.ofBits .f32 0x44800000#32) + Ideal.ofBits .f32 0x358637BD#32) * n (ix2 0 j) = _
  rw [ofBits_0, zero_add]

theorem ref_proj (i j : Fin 2048) : @Eq EReal (val_main_v24 (F := Ideal) x n w (ix2 i j)) (∑ k : Fin 1024, val_main_v11 (F := Ideal) x n (ix2 i k) * w (ix2 k j)) := by
  rw [val_main_v24_apply]
  refine Finset.sum_congr rfl fun k _ => congrArg₂ (· * ·) (congrArg _ (funext fun a => ?_)) (congrArg _ (funext fun a => ?_))
  · match a with
    | ⟨0, _⟩ => rfl
    | ⟨1, _⟩ => rfl
  · match a with
    | ⟨0, _⟩ => rfl
    | ⟨1, _⟩ => rfl

theorem ref_lo (i : Fin 2048) (j : Fin 1024) (J : Fin 2048) (h : J.val = j.val) : @Eq EReal (val_main_v24 (F := Ideal) x n w (ix2 i J)) (val_main_v25 (F := Ideal) x n w (ix2 i j)) := by
  rw [val_main_v25_apply]
  refine congrArg _ (funext fun a => Fin.ext ?_)
  match a with
  | ⟨0, _⟩ => rfl
  | ⟨1, _⟩ => exact h

theorem ref_hi (i : Fin 2048) (j : Fin 1024) (J : Fin 2048) (h : J.val = 1024 + j.val) : @Eq EReal (val_main_v24 (F := Ideal) x n w (ix2 i J)) (val_main_v26 (F := Ideal) x n w (ix2 i j)) := by
  rw [val_main_v26_apply]
  refine congrArg _ (funext fun a => Fin.ext ?_)
  match a with
  | ⟨0, _⟩ => rfl
  | ⟨1, _⟩ => exact h

theorem ref_head (i : Fin 2048) (j : Fin 1024) : @Eq EReal (val_main_v44 (F := Ideal) x n g w (ix2 i j))
    (val_main_v25 (F := Ideal) x n w (ix2 i j) * Ideal.rsqrt (Ideal.div (∑ k : Fin 64, val_main_v25 (F := Ideal) x n w (ix2 i ⟨64 * (j.val / 64) + k.val, by omega⟩) * val_main_v25 (F := Ideal) x n w (ix2 i ⟨64 * (j.val / 64) + k.val, by omega⟩)) (Ideal.ofBits .f32 0x42800000#32) + Ideal.ofBits .f32 0x358637BD#32)
      * g (ix2 0 ⟨j.val % 64, by omega⟩)) := by
  rw [val_main_v44_apply, val_main_v43_apply, val_main_v42_apply, val_main_v31_apply, val_main_v41_apply, val_main_v40_apply, val_main_v39_apply, val_main_v38_apply, val_main_v37_apply, val_main_cst_7_apply,
    val_main_v36_apply, val_main_v35_apply, val_main_cst_6_apply, val_main_v34_apply, val_main_v33_apply, val_main_cst_5_apply]
  simp only [val_main_v32_apply, val_main_v30_apply]
  have hi := i.isLt
  have hj := j.isLt
  have e : idx_main_v30 (idx_main_v44 (ix2 i j)) = ix2 i j := by
    funext a
    apply Fin.ext
    match a with
    | ⟨0, _⟩ => show (((i.val * 1024 + j.val) / 1024 * 16 + (i.val * 1024 + j.val) / 64 % 16) * 64 + (i.val * 1024 + j.val) % 64) / 1024 = i.val; omega
    | ⟨1, _⟩ => show (((i.val * 1024 + j.val) / 1024 * 16 + (i.val * 1024 + j.val) / 64 % 16) * 64 + (i.val * 1024 + j.val) % 64) % 1024 = j.val; omega
  have f : ∀ k : Fin 64, idx_main_v30 (idx_main_v33 (idx_main_v34 (idx_main_v40 (idx_main_v44 (ix2 i j)))) k) = ix2 i ⟨64 * (j.val / 64) + k.val, by omega⟩ := by
    intro k
    have hk := k.isLt
    funext a
    apply Fin.ext
    match a with
    | ⟨0, _⟩ => show (((i.val * 1024 + j.val) / 1024 * 16 + (i.val * 1024 + j.val) / 64 % 16) * 64 + k.val) / 1024 = i.val; omega
    | ⟨1, _⟩ => show (((i.val * 1024 + j.val) / 1024 * 16 + (i.val * 1024 + j.val) / 64 % 16) * 64 + k.val) % 1024 = 64 * (j.val / 64) + k.val; omega
  have d : idx_main_v31 (idx_main_v42 (idx_main_v44 (ix2 i j))) = ix2 0 ⟨j.val % 64, by omega⟩ := by
    funext a
    apply Fin.ext
    match a with
    | ⟨0, _⟩ => rfl
    | ⟨1, _⟩ => show ((0 * 1 + 0) * 64 + (i.val * 1024 + j.val) % 64) % 64 = j.val % 64; omega
  simp only [e, f, d]
  generalize val_main_v25 (F := Ideal) x n w = y
  show y (ix2 i j) * Ideal.rsqrt (Ideal.div (Ideal.ofBits .f32 0x00000000#32 + ∑ k : Fin 64, y (ix2 i ⟨64 * (j.val / 64) + k.val, by omega⟩) * y (ix2 i ⟨64 * (j.val / 64) + k.val, by omega⟩)) (Ideal.ofBits .f32 0x42800000#32) + Ideal.ofBits .f32 0x358637BD#32) * g (ix2 0 ⟨j.val % 64, by omega⟩) = _
  rw [ofBits_0, zero_add]

/-- The second projection's lines are the first's, of its own arguments. -/
theorem same_rms : val_main_v23 (F := Ideal) x n = val_main_v11 (F := Ideal) x n := rfl
theorem same_lo : val_main_v28 (F := Ideal) x n w = val_main_v25 (F := Ideal) x n w := rfl
theorem same_hi : val_main_v29 (F := Ideal) x n w = val_main_v26 (F := Ideal) x n w := rfl
theorem same_head : val_main_v59 (F := Ideal) x n g w = val_main_v44 (F := Ideal) x n g w := rfl

theorem ref_query (i : Fin 2048) (j : Fin 1024) : @Eq EReal (val_main_v61 (F := Ideal) x n g w (ix2 i j)) (val_main_v44 (F := Ideal) x n g w (ix2 i j) * Ideal.ofBits .f32 0x3E000000#32) := by
  rw [val_main_v61_apply, val_main_v60_apply, val_main_cst_11_apply, same_head]
  rfl

theorem re_rms (hn : ∀ i, Re (n i)) (i : Fin 2048) (j : Fin 1024) : Re (val_main_v11 (F := Ideal) x n (ix2 i j)) := by
  rw [ref_rms]
  exact Re.mul (unit_real (fun k => x (ix2 i k)) j) (hn _)

theorem re_proj (hn : ∀ i, Re (n i)) (hw : ∀ i, Re (w i)) (i j : Fin 2048) : Re (val_main_v24 (F := Ideal) x n w (ix2 i j)) := by
  rw [ref_proj]
  exact Re.sum _ fun k => Re.mul (re_rms x n hn i k) (hw _)

end Reference

/-! ## The arrays and the blocks of them a point is handed -/

variable (m : (ℓ : Loc nD τ sig) → Buf (Elt Ideal) ℓ) (c : Dev nD)

abbrev x0 : FVec Ideal S2048x1024 .f32 := m ((c.tc : Thread nD τ).loc main_arg0)
abbrev x1 : FVec Ideal S1x1024 .f32 := m ((c.tc : Thread nD τ).loc main_arg1)
abbrev x2 : FVec Ideal S1x1024 .f32 := m ((c.tc : Thread nD τ).loc main_arg2)
abbrev x3 : FVec Ideal S1x64 .f32 := m ((c.tc : Thread nD τ).loc main_arg3)
abbrev x4 : FVec Ideal S1x64 .f32 := m ((c.tc : Thread nD τ).loc main_arg4)
abbrev x5 : FVec Ideal S1024x2048 .f32 := m ((c.tc : Thread nD τ).loc main_arg5)
abbrev x6 : FVec Ideal S1024x2048 .f32 := m ((c.tc : Thread nD τ).loc main_arg6)

theorem host_k : @Eq (FVec Ideal S1x1024 .f32) (V m c main_v2) (shapeCast S1x1024 (broadcastInDim S1x1x16x64 ![0, 1, 2, 3] bcast_S1x1x1x64_S1x1x16x64_0_1_2_3 (shapeCast S1x1x1x64 (x3 m c) shapeCasts_S1x64_S1x1x1x64 : FVec Ideal S1x1x1x64 .f32) : FVec Ideal S1x1x16x64 .f32) shapeCasts_S1x1x16x64_S1x1024) := by
  show StableHlo.after hostOps0 (fun b => m (c, b)) (Proc.devRef .tc main_v2) = _
  after_results
  rfl

theorem host_q : @Eq (FVec Ideal S1x1024 .f32) (V m c main_v5) (shapeCast S1x1024 (broadcastInDim S1x1x16x64 ![0, 1, 2, 3] bcast_S1x1x1x64_S1x1x16x64_0_1_2_3 (shapeCast S1x1x1x64 (x4 m c) shapeCasts_S1x64_S1x1x1x64 : FVec Ideal S1x1x1x64 .f32) : FVec Ideal S1x1x16x64 .f32) shapeCasts_S1x1x16x64_S1x1024) := by
  show StableHlo.after hostOps0 (fun b => m (c, b)) (Proc.devRef .tc main_v5) = _
  after_results
  rfl

theorem host_kv : @Eq (FVec Ideal S4x1024x512 .bf16) (V m c main_v8) (truncf .bf16 (transpose S4x1024x512 [1, 0, 2] (shapeCast S1024x4x512 (x5 m c) shapeCasts_S1024x2048_S1024x4x512 : FVec Ideal S1024x4x512 .f32) transposes_S1024x4x512_S4x1024x512_1_0_2 : FVec Ideal S4x1024x512 .f32) bitsLt_bf16_f32) := by
  show StableHlo.after hostOps0 (fun b => m (c, b)) (Proc.devRef .tc main_v8) = _
  after_results
  rfl

theorem host_in : @Eq (FVec Ideal S4x1024x512 .bf16) (V m c main_v11) (truncf .bf16 (transpose S4x1024x512 [1, 0, 2] (shapeCast S1024x4x512 (x6 m c) shapeCasts_S1024x2048_S1024x4x512 : FVec Ideal S1024x4x512 .f32) transposes_S1024x4x512_S4x1024x512_1_0_2 : FVec Ideal S4x1024x512 .f32) bitsLt_bf16_f32) := by
  show StableHlo.after hostOps0 (fun b => m (c, b)) (Proc.devRef .tc main_v11) = _
  after_results
  rfl

/-- Which block of its array each point is handed, and which it writes. -/
theorem index_of : ∀ t : Fin cfg0.N, win0_0.index t = ![t.val, 0] ∧ win0_1.index t = ![0, 0] ∧ win0_2.index t = ![0, 0] ∧ win0_3.index t = ![0, 0] ∧ win0_4.index t = ![0, 0] ∧ win0_5.index t = ![0, 0, 0] ∧ win0_6.index t = ![0, 0, 0] :=
  (by decide +kernel : ∀ t : Fin grid0.N, _)
theorem index7 : ∀ t : Fin cfg0.N, win0_7.index t = ![t.val, 0] := (by decide +kernel : ∀ t : Fin grid0.N, _)
theorem index8 : ∀ t : Fin cfg0.N, win0_8.index t = ![t.val, 0] := (by decide +kernel : ∀ t : Fin grid0.N, _)
theorem index9 : ∀ t : Fin cfg0.N, win0_9.index t = ![t.val, 0] := (by decide +kernel : ∀ t : Fin grid0.N, _)
theorem index10 : ∀ t : Fin cfg0.N, win0_10.index t = ![t.val, 0] := (by decide +kernel : ∀ t : Fin grid0.N, _)
theorem index11 : ∀ t : Fin cfg0.N, win0_11.index t = ![t.val, 0] := (by decide +kernel : ∀ t : Fin grid0.N, _)
theorem index12 : ∀ t : Fin cfg0.N, win0_12.index t = ![t.val, 0] := (by decide +kernel : ∀ t : Fin grid0.N, _)
theorem index13 : ∀ t : Fin cfg0.N, win0_13.index t = ![t.val, 0] := (by decide +kernel : ∀ t : Fin grid0.N, _)
theorem index14 : ∀ t : Fin cfg0.N, win0_14.index t = ![t.val, 0] := (by decide +kernel : ∀ t : Fin grid0.N, _)

/-- A tile's row of the array. -/
abbrev row (t : Fin cfg0.N) (r : Fin 256) : Fin 2048 := ⟨256 * t.val + r.val, by have := t.isLt; have : cfg0.N = 8 := N_0; omega⟩

abbrev blkX (t : Fin cfg0.N) : Vec Ideal S256x1024 .f32 := iblk m c 0 t
abbrev blkA (t : Fin cfg0.N) : Vec Ideal S1x1024 .f32 := iblk m c 1 t
abbrev blkB (t : Fin cfg0.N) : Vec Ideal S1x1024 .f32 := iblk m c 2 t
abbrev blkK (t : Fin cfg0.N) : Vec Ideal S1x1024 .f32 := iblk m c 3 t
abbrev blkQ (t : Fin cfg0.N) : Vec Ideal S1x1024 .f32 := iblk m c 4 t
abbrev blkV (t : Fin cfg0.N) : Vec Ideal S4x1024x512 .bf16 := iblk m c 5 t
abbrev blkZ (t : Fin cfg0.N) : Vec Ideal S4x1024x512 .bf16 := iblk m c 6 t

theorem blkX_at (t : Fin cfg0.N) (r : Fin 256) (k : Fin 1024) : @Eq EReal (blkX m c t (ix2 r k)) (x0 m c (ix2 (row t r) k)) := by
  refine Eq.trans (b := (V m c main_arg0 : FVec Ideal S2048x1024 .f32) (ix2 (row t r) k)) ?_ (congrFun (V_main_arg0 m c) _)
  refine congrArg (V m c main_arg0 : FVec Ideal S2048x1024 .f32) (funext fun a => Fin.ext ?_)
  have e := (index_of t).1
  match a with
  | ⟨0, _⟩ => show win0_0.index t (0 : Fin 2) * 256 + 1 * r.val = 256 * t.val + r.val; rw [e]; show t.val * 256 + 1 * r.val = _; omega
  | ⟨1, _⟩ => show win0_0.index t (1 : Fin 2) * 1024 + 1 * k.val = k.val; rw [e]; show 0 * 1024 + 1 * k.val = _; omega

theorem blkA_at (t : Fin cfg0.N) (k : Fin 1024) : @Eq EReal (blkA m c t (ix2 0 k)) (x1 m c (ix2 0 k)) := by
  refine Eq.trans (b := (V m c main_arg1 : FVec Ideal S1x1024 .f32) (ix2 0 k)) ?_ (congrFun (V_main_arg1 m c) _)
  refine congrArg (V m c main_arg1 : FVec Ideal S1x1024 .f32) (funext fun a => Fin.ext ?_)
  have e := (index_of t).2.1
  match a with
  | ⟨0, _⟩ => show win0_1.index t (0 : Fin 2) * 1 + 1 * 0 = 0; rw [e]; rfl
  | ⟨1, _⟩ => show win0_1.index t (1 : Fin 2) * 1024 + 1 * k.val = k.val; rw [e]; show 0 * 1024 + 1 * k.val = _; omega

theorem blkB_at (t : Fin cfg0.N) (k : Fin 1024) : @Eq EReal (blkB m c t (ix2 0 k)) (x2 m c (ix2 0 k)) := by
  refine Eq.trans (b := (V m c main_arg2 : FVec Ideal S1x1024 .f32) (ix2 0 k)) ?_ (congrFun (V_main_arg2 m c) _)
  refine congrArg (V m c main_arg2 : FVec Ideal S1x1024 .f32) (funext fun a => Fin.ext ?_)
  have e := (index_of t).2.2.1
  match a with
  | ⟨0, _⟩ => show win0_2.index t (0 : Fin 2) * 1 + 1 * 0 = 0; rw [e]; rfl
  | ⟨1, _⟩ => show win0_2.index t (1 : Fin 2) * 1024 + 1 * k.val = k.val; rw [e]; show 0 * 1024 + 1 * k.val = _; omega

/-- A gain of sixty-four repeated for sixteen heads. -/
theorem tiled_at (g : FVec Ideal S1x64 .f32) (j : Fin 1024) : @Eq EReal (shapeCast S1x1024 (broadcastInDim S1x1x16x64 ![0, 1, 2, 3] bcast_S1x1x1x64_S1x1x16x64_0_1_2_3 (shapeCast S1x1x1x64 g shapeCasts_S1x64_S1x1x1x64 : FVec Ideal S1x1x1x64 .f32) : FVec Ideal S1x1x16x64 .f32) shapeCasts_S1x1x16x64_S1x1024 (ix2 0 j))
    (g (ix2 0 ⟨j.val % 64, by omega⟩)) := by
  refine (shapeCast_apply _ _ _ (ix4 0 0 ⟨j.val / 64, by omega⟩ ⟨j.val % 64, by omega⟩) ?_).trans ?_
  · rewrite [Shape.rowMajor_val_two, Shape.rowMajor_val_four]
    show ((0 * 1 + 0) * 16 + j.val / 64) * 64 + j.val % 64 = 0 * 1024 + j.val
    omega
  refine (broadcastInDim_apply _ bcast_S1x1x1x64_S1x1x16x64_0_1_2_3 _ _ (ix4 0 0 0 ⟨j.val % 64, by omega⟩) (fun a => match a with
    | ⟨0, _⟩ => by show 0 = if (1 : Nat) = 1 then 0 else 0; rw [if_pos rfl]
    | ⟨1, _⟩ => by show 0 = if (1 : Nat) = 1 then 0 else 0; rw [if_pos rfl]
    | ⟨2, _⟩ => by show 0 = if (1 : Nat) = 1 then 0 else j.val / 64; rw [if_pos rfl]
    | ⟨3, _⟩ => by show j.val % 64 = if (64 : Nat) = 1 then 0 else j.val % 64; rw [if_neg (by decide)])).trans ?_
  refine shapeCast_apply g _ _ _ ?_
  rewrite [Shape.rowMajor_val_two, Shape.rowMajor_val_four]
  show 0 * 64 + j.val % 64 = ((0 * 1 + 0) * 1 + 0) * 64 + j.val % 64
  omega

theorem blkK_at (t : Fin cfg0.N) (j : Fin 1024) : @Eq EReal (blkK m c t (ix2 0 j)) (x3 m c (ix2 0 ⟨j.val % 64, by omega⟩)) := by
  refine Eq.trans (b := (V m c main_v2 : FVec Ideal S1x1024 .f32) (ix2 0 j)) ?_ ((congrFun (host_k m c) _).trans (tiled_at _ j))
  refine congrArg (V m c main_v2 : FVec Ideal S1x1024 .f32) (funext fun a => Fin.ext ?_)
  have e := (index_of t).2.2.2.1
  match a with
  | ⟨0, _⟩ => show win0_3.index t (0 : Fin 2) * 1 + 1 * 0 = 0; rw [e]; rfl
  | ⟨1, _⟩ => show win0_3.index t (1 : Fin 2) * 1024 + 1 * j.val = j.val; rw [e]; show 0 * 1024 + 1 * j.val = _; omega

theorem blkQ_at (t : Fin cfg0.N) (j : Fin 1024) : @Eq EReal (blkQ m c t (ix2 0 j)) (x4 m c (ix2 0 ⟨j.val % 64, by omega⟩)) := by
  refine Eq.trans (b := (V m c main_v5 : FVec Ideal S1x1024 .f32) (ix2 0 j)) ?_ ((congrFun (host_q m c) _).trans (tiled_at _ j))
  refine congrArg (V m c main_v5 : FVec Ideal S1x1024 .f32) (funext fun a => Fin.ext ?_)
  have e := (index_of t).2.2.2.2.1
  match a with
  | ⟨0, _⟩ => show win0_4.index t (0 : Fin 2) * 1 + 1 * 0 = 0; rw [e]; rfl
  | ⟨1, _⟩ => show win0_4.index t (1 : Fin 2) * 1024 + 1 * j.val = j.val; rw [e]; show 0 * 1024 + 1 * j.val = _; omega

theorem blkV_at (t : Fin cfg0.N) (s : Fin 4) (k : Fin 1024) (j : Fin 512) : @Eq EReal (blkV m c t (ix3 s k j)) (x5 m c (ix2 k ⟨512 * s.val + j.val, by omega⟩)) := by
  refine Eq.trans (b := (V m c main_v8 : FVec Ideal S4x1024x512 .bf16) (ix3 s k j)) ?_ ((congrFun (host_kv m c) _).trans ?_)
  · refine congrArg (V m c main_v8 : FVec Ideal S4x1024x512 .bf16) (funext fun a => Fin.ext ?_)
    have e := (index_of t).2.2.2.2.2.1
    match a with
    | ⟨0, _⟩ => show win0_5.index t (0 : Fin 3) * 4 + 1 * s.val = s.val; rw [e]; show 0 * 4 + 1 * s.val = _; omega
    | ⟨1, _⟩ => show win0_5.index t (1 : Fin 3) * 1024 + 1 * k.val = k.val; rw [e]; show 0 * 1024 + 1 * k.val = _; omega
    | ⟨2, _⟩ => show win0_5.index t (2 : Fin 3) * 512 + 1 * j.val = j.val; rw [e]; show 0 * 512 + 1 * j.val = _; omega
  · show transpose S4x1024x512 [1, 0, 2] (shapeCast S1024x4x512 (x5 m c) shapeCasts_S1024x2048_S1024x4x512 : FVec Ideal S1024x4x512 .f32) transposes_S1024x4x512_S4x1024x512_1_0_2 (ix3 s k j) = _
    refine (transpose_apply [1, 0, 2] _ transposes_S1024x4x512_S4x1024x512_1_0_2 (ix3 s k j) (ix3 k s j) (fun b => match b with | ⟨0, _⟩ => rfl | ⟨1, _⟩ => rfl | ⟨2, _⟩ => rfl)).trans ?_
    refine shapeCast_apply (x5 m c) _ _ _ ?_
    rewrite [Shape.rowMajor_val_two, Shape.rowMajor_val_three]
    show k.val * 2048 + (512 * s.val + j.val) = (k.val * 4 + s.val) * 512 + j.val
    omega

theorem blkZ_at (t : Fin cfg0.N) (s : Fin 4) (k : Fin 1024) (j : Fin 512) : @Eq EReal (blkZ m c t (ix3 s k j)) (x6 m c (ix2 k ⟨512 * s.val + j.val, by omega⟩)) := by
  refine Eq.trans (b := (V m c main_v11 : FVec Ideal S4x1024x512 .bf16) (ix3 s k j)) ?_ ((congrFun (host_in m c) _).trans ?_)
  · refine congrArg (V m c main_v11 : FVec Ideal S4x1024x512 .bf16) (funext fun a => Fin.ext ?_)
    have e := (index_of t).2.2.2.2.2.2
    match a with
    | ⟨0, _⟩ => show win0_6.index t (0 : Fin 3) * 4 + 1 * s.val = s.val; rw [e]; show 0 * 4 + 1 * s.val = _; omega
    | ⟨1, _⟩ => show win0_6.index t (1 : Fin 3) * 1024 + 1 * k.val = k.val; rw [e]; show 0 * 1024 + 1 * k.val = _; omega
    | ⟨2, _⟩ => show win0_6.index t (2 : Fin 3) * 512 + 1 * j.val = j.val; rw [e]; show 0 * 512 + 1 * j.val = _; omega
  · show transpose S4x1024x512 [1, 0, 2] (shapeCast S1024x4x512 (x6 m c) shapeCasts_S1024x2048_S1024x4x512 : FVec Ideal S1024x4x512 .f32) transposes_S1024x4x512_S4x1024x512_1_0_2 (ix3 s k j) = _
    refine (transpose_apply [1, 0, 2] _ transposes_S1024x4x512_S4x1024x512_1_0_2 (ix3 s k j) (ix3 k s j) (fun b => match b with | ⟨0, _⟩ => rfl | ⟨1, _⟩ => rfl | ⟨2, _⟩ => rfl)).trans ?_
    refine shapeCast_apply (x6 m c) _ _ _ ?_
    rewrite [Shape.rowMajor_val_two, Shape.rowMajor_val_three]
    show k.val * 2048 + (512 * s.val + j.val) = (k.val * 4 + s.val) * 512 + j.val
    omega

/-! ## What a tile computes -/

section Tile

open Cert.Reference17Ideal.Read

/-- An entry of a load of some of a row's columns. -/
theorem load_cols {e : EltTy} {n p b : ℕ} (inb : ∀ i, (![0, b] : Fin 2 → ℕ) i + (![1, p] : Fin 2 → ℕ) i ≤ (⟨2, ![1, n]⟩ : Shape).size i)
    (x : (⟨2, ![1, n]⟩ : Shape).Idx → Elt Ideal e) (j : Fin p) (J : Fin n) (h : J.val = b + j.val) :
    View.ld x (Rect.unit (s := ⟨2, ![1, n]⟩) ![0, b] ![1, p] inb) (ix2 0 j) = x (ix2 0 J) := by
  refine congrArg x (funext fun i => Fin.ext ?_)
  match i with
  | ⟨0, _⟩ => show 0 + 1 * 0 = 0; omega
  | ⟨1, _⟩ => show b + 1 * j.val = J.val; omega

variable (t : Fin cfg0.N) (G : Vec Ideal S1x1024 .f32) (n : FVec Ideal S1x1024 .f32) (hG : ∀ k : Fin 1024, @Eq EReal (G (ix2 0 k)) (n (ix2 0 k)))
include hG

theorem tile_rms (r : Fin 256) (j : Fin 1024) : @Eq EReal (k0_pay4 (View.ld (blkX m c t) r0_0) (View.ld G r0_1) (ix2 r j)) (val_main_v11 (F := Ideal) (x0 m c) n (ix2 (row t r) j)) := by
  have e : ∀ k : Fin 1024, @Eq EReal (View.ld (blkX m c t) r0_0 (ix2 r k)) (x0 m c (ix2 (row t r) k)) := fun k => (load_whole _ _ r k).trans (blkX_at m c t r k)
  refine (rms_at _ _ r j).trans (Eq.trans ?_ (ref_rms _ n (row t r) j).symm)
  refine congrArg₂ (fun a b : EReal => a * b) ?_ ((load_whole _ _ 0 j).trans (hG j))
  refine congrArg₂ (fun a b : EReal => a * Ideal.rsqrt (Ideal.div b (Ideal.ofBits .f32 0x44800000#32) + Ideal.ofBits .f32 0x358637BD#32)) (e j) (Finset.sum_congr rfl fun k _ => ?_)
  exact congrArg₂ (fun a b : EReal => a * b) (e k) (e k)

variable (W : Vec Ideal S4x1024x512 .bf16) (w : FVec Ideal S1024x2048 .f32) (hW : ∀ (s : Fin 4) (k : Fin 1024) (j : Fin 512), @Eq EReal (W (ix3 s k j)) (w (ix2 k ⟨512 * s.val + j.val, by omega⟩)))
include hW

theorem tile_proj (s : Fin 4) {a : ℕ} (h : s.val = a) (inb : ∀ i, (![a, 0, 0] : Fin 3 → ℕ) i + (![1, 1024, 512] : Fin 3 → ℕ) i ≤ S4x1024x512.size i) (r : Fin 256) (j : Fin 512) :
    @Eq EReal (k0_pay10 (k0_pay4 (View.ld (blkX m c t) r0_0) (View.ld G r0_1)) (View.ld W (Rect.unit (s := S4x1024x512) ![a, 0, 0] ![1, 1024, 512] inb)) (ix2 r j))
      (val_main_v24 (F := Ideal) (x0 m c) n w (ix2 (row t r) ⟨512 * s.val + j.val, by omega⟩)) := by
  refine (proj_at _ _ r j).trans (Eq.trans (Finset.sum_congr rfl fun k _ => ?_) (ref_proj _ n w (row t r) _).symm)
  exact congrArg₂ (fun a b : EReal => a * b) (tile_rms m c t G n hG r k) ((load_layer inb W s k j h).trans (hW s k j))

/-- Half of the heads. -/
theorem tile_head (hn : ∀ i, Re (n i)) (hw : ∀ i, Re (w i)) (E : Vec Ideal S1x1024 .f32) (g : FVec Ideal S1x64 .f32) (hE : ∀ k : Fin 1024, @Eq EReal (E (ix2 0 k)) (g (ix2 0 ⟨k.val % 64, by omega⟩)))
    (s : Fin 4) {a b : ℕ} (h : s.val = a) (h2 : a < 2) (hb : b = 512 * a) (inb : ∀ i, (![a, 0, 0] : Fin 3 → ℕ) i + (![1, 1024, 512] : Fin 3 → ℕ) i ≤ S4x1024x512.size i)
    (inc : ∀ i, (![0, b] : Fin 2 → ℕ) i + (![1, 512] : Fin 2 → ℕ) i ≤ S1x1024.size i)
    (r : Fin 256) (j : Fin 512) (J : Fin 1024) (hJ : J.val = b + j.val) :
    @Eq EReal (unit (k0_pay9 (iota .tc S256x256 32 [0] iota_S256x256_d0_w32) k0_pay6 k0_pay7 k0_pay8)
        (k0_pay10 (k0_pay4 (View.ld (blkX m c t) r0_0) (View.ld G r0_1)) (View.ld W (Rect.unit (s := S4x1024x512) ![a, 0, 0] ![1, 1024, 512] inb)))
        (View.ld E (Rect.unit (s := S1x1024) ![0, b] ![1, 512] inc)) (ix2 r j))
      (val_main_v44 (F := Ideal) (x0 m c) n g w (ix2 (row t r) J)) := by
  have raw := tile_proj m c t G n hG W w hW s h inb
  have col : ∀ (j : Fin 512) (J : Fin 1024), J.val = b + j.val →
      @Eq EReal (k0_pay10 (k0_pay4 (View.ld (blkX m c t) r0_0) (View.ld G r0_1)) (View.ld W (Rect.unit (s := S4x1024x512) ![a, 0, 0] ![1, 1024, 512] inb)) (ix2 r j))
        (val_main_v25 (F := Ideal) (x0 m c) n w (ix2 (row t r) J)) := fun j J hJ =>
    (raw r j).trans (ref_lo _ n w (row t r) J _ (by dsimp only; omega))
  refine (unit_at _ mask_at _ (fun r j => ?_) _ r j).trans (Eq.trans ?_ (ref_head _ n g w (row t r) J).symm)
  · rw [raw r j]
    exact re_proj _ n w hn hw _ _
  refine congrArg₂ (fun a b : EReal => a * b) ?_ ((load_cols inc E j J hJ).trans (hE J))
  refine congrArg₂ (fun a b : EReal => a * Ideal.rsqrt (Ideal.div b (Ideal.ofBits .f32 0x42800000#32) + Ideal.ofBits .f32 0x358637BD#32)) (col j J hJ) (Finset.sum_congr rfl fun k _ => ?_)
  have := col ⟨64 * (j.val / 64) + k.val, by omega⟩ ⟨64 * (J.val / 64) + k.val, by omega⟩ (by dsimp only; omega)
  exact congrArg₂ (fun a b : EReal => a * b) this this

end Tile

/-! ## The arrays the launch leaves -/

theorem place7 (t : Fin cfg0.N) (r : Fin 256) (k : Fin 1024) : (win0_7.blk t).view.emb (ix2 r k) = ix2 (row t r) k := by
  funext a
  apply Fin.ext
  have e := index7 t
  match a with
  | ⟨0, _⟩ => show win0_7.index t (0 : Fin 2) * 256 + 1 * r.val = 256 * t.val + r.val; rw [e]; show t.val * 256 + 1 * r.val = _; omega
  | ⟨1, _⟩ => show win0_7.index t (1 : Fin 2) * 1024 + 1 * k.val = k.val; rw [e]; show 0 * 1024 + 1 * k.val = _; omega

theorem place8 (t : Fin cfg0.N) (r : Fin 256) (k : Fin 1024) : (win0_8.blk t).view.emb (ix2 r k) = ix2 (row t r) k := by
  funext a
  apply Fin.ext
  have e := index8 t
  match a with
  | ⟨0, _⟩ => show win0_8.index t (0 : Fin 2) * 256 + 1 * r.val = 256 * t.val + r.val; rw [e]; show t.val * 256 + 1 * r.val = _; omega
  | ⟨1, _⟩ => show win0_8.index t (1 : Fin 2) * 1024 + 1 * k.val = k.val; rw [e]; show 0 * 1024 + 1 * k.val = _; omega

theorem place9 (t : Fin cfg0.N) (r : Fin 256) (k : Fin 1024) : (win0_9.blk t).view.emb (ix2 r k) = ix2 (row t r) k := by
  funext a
  apply Fin.ext
  have e := index9 t
  match a with
  | ⟨0, _⟩ => show win0_9.index t (0 : Fin 2) * 256 + 1 * r.val = 256 * t.val + r.val; rw [e]; show t.val * 256 + 1 * r.val = _; omega
  | ⟨1, _⟩ => show win0_9.index t (1 : Fin 2) * 1024 + 1 * k.val = k.val; rw [e]; show 0 * 1024 + 1 * k.val = _; omega

theorem place10 (t : Fin cfg0.N) (r : Fin 256) (k : Fin 1024) : (win0_10.blk t).view.emb (ix2 r k) = ix2 (row t r) k := by
  funext a
  apply Fin.ext
  have e := index10 t
  match a with
  | ⟨0, _⟩ => show win0_10.index t (0 : Fin 2) * 256 + 1 * r.val = 256 * t.val + r.val; rw [e]; show t.val * 256 + 1 * r.val = _; omega
  | ⟨1, _⟩ => show win0_10.index t (1 : Fin 2) * 1024 + 1 * k.val = k.val; rw [e]; show 0 * 1024 + 1 * k.val = _; omega

theorem place11 (t : Fin cfg0.N) (r : Fin 256) (k : Fin 1024) : (win0_11.blk t).view.emb (ix2 r k) = ix2 (row t r) k := by
  funext a
  apply Fin.ext
  have e := index11 t
  match a with
  | ⟨0, _⟩ => show win0_11.index t (0 : Fin 2) * 256 + 1 * r.val = 256 * t.val + r.val; rw [e]; show t.val * 256 + 1 * r.val = _; omega
  | ⟨1, _⟩ => show win0_11.index t (1 : Fin 2) * 1024 + 1 * k.val = k.val; rw [e]; show 0 * 1024 + 1 * k.val = _; omega

theorem place12 (t : Fin cfg0.N) (r : Fin 256) (k : Fin 1024) : (win0_12.blk t).view.emb (ix2 r k) = ix2 (row t r) k := by
  funext a
  apply Fin.ext
  have e := index12 t
  match a with
  | ⟨0, _⟩ => show win0_12.index t (0 : Fin 2) * 256 + 1 * r.val = 256 * t.val + r.val; rw [e]; show t.val * 256 + 1 * r.val = _; omega
  | ⟨1, _⟩ => show win0_12.index t (1 : Fin 2) * 1024 + 1 * k.val = k.val; rw [e]; show 0 * 1024 + 1 * k.val = _; omega

theorem place13 (t : Fin cfg0.N) (r : Fin 256) (k : Fin 1024) : (win0_13.blk t).view.emb (ix2 r k) = ix2 (row t r) k := by
  funext a
  apply Fin.ext
  have e := index13 t
  match a with
  | ⟨0, _⟩ => show win0_13.index t (0 : Fin 2) * 256 + 1 * r.val = 256 * t.val + r.val; rw [e]; show t.val * 256 + 1 * r.val = _; omega
  | ⟨1, _⟩ => show win0_13.index t (1 : Fin 2) * 1024 + 1 * k.val = k.val; rw [e]; show 0 * 1024 + 1 * k.val = _; omega

theorem place14 (t : Fin cfg0.N) (r : Fin 256) (k : Fin 1024) : (win0_14.blk t).view.emb (ix2 r k) = ix2 (row t r) k := by
  funext a
  apply Fin.ext
  have e := index14 t
  match a with
  | ⟨0, _⟩ => show win0_14.index t (0 : Fin 2) * 256 + 1 * r.val = 256 * t.val + r.val; rw [e]; show t.val * 256 + 1 * r.val = _; omega
  | ⟨1, _⟩ => show win0_14.index t (1 : Fin 2) * 1024 + 1 * k.val = k.val; rw [e]; show 0 * 1024 + 1 * k.val = _; omega

theorem final7 : (dats m 0 c).arrAt 7 cfg0.N = Cert.Reference17Ideal.Read.val_main_v62 (F := Ideal) (x0 m c) (x1 m c) := by
  refine (dats m 0 c).arrAt_eq_of_covers 7 _ (by decide +kernel) fun t hf y => ?_
  obtain ⟨r, k, rfl⟩ : ∃ (r : Fin 256) (k : Fin 1024), y = ix2 r k := ⟨y 0, y 1, eq_ix2 y⟩
  blk_simp
  rw [after0_7, place7]
  unfold out0_7
  refine (canon_whole _ _ _ r k).trans ?_
  exact tile_rms m c t (blkA m c t) (x1 m c) (blkA_at m c t) r k

theorem final8 : (dats m 0 c).arrAt 8 cfg0.N = Cert.Reference17Ideal.Read.val_main_v63 (F := Ideal) (x0 m c) (x2 m c) := by
  refine (dats m 0 c).arrAt_eq_of_covers 8 _ (by decide +kernel) fun t hf y => ?_
  obtain ⟨r, k, rfl⟩ : ∃ (r : Fin 256) (k : Fin 1024), y = ix2 r k := ⟨y 0, y 1, eq_ix2 y⟩
  blk_simp
  rw [after0_8, place8]
  unfold out0_8
  refine (canon_whole _ _ _ r k).trans ?_
  exact tile_rms m c t (blkB m c t) (x2 m c) (blkB_at m c t) r k

end Cert.Kernel17Ideal.Heads

end
-- ==== Proof.Arrays.lean ====
/- The arrays the launch that forms keys, queries, values and gate leaves, each the reference's, and what is claimed of that launch. -/
module

public import proofs.«01_k».proof.Proof.Entry

@[expose] public section

set_option maxRecDepth 16384

noncomputable section

namespace Cert.Kernel17Ideal.Heads
open Cert.Kernel17Ideal Cert.Kernel17Ideal.Gen Cert.Blocks
open Cert.KernelIdeal.Mix (Re)
open Idealize.ShloMosaic Idealize.ShloMosaic.TcCoe Idealize.SL.Sem

/-! ## What each output buffer holds, in the few steps it is made of -/

section Buffers

variable (a0 : Vec Ideal S256x1024 .f32) (a1 a2 a3 a4 : Vec Ideal S1x1024 .f32) (a5 a6 : Vec Ideal S4x1024x512 .bf16)

/-- The factor that averages over the entries of a head. -/
abbrev mask : FVec Ideal S256x256 .bf16 := k0_pay9 (iota .tc S256x256 32 [0] iota_S256x256_d0_w32) k0_pay6 k0_pay7 k0_pay8

theorem buffer9 : out0_9 a0 a1 a2 a3 a4 a5 a6 = View.canon [⟨r0_6, truncf .bf16 (k0_pay10 (k0_pay4 (View.ld a0 r0_0) (View.ld a1 r0_1)) (View.ld a5 r0_5)) bitsLt_bf16_f32⟩, ⟨r0_3, truncf .bf16 (k0_pay10 (k0_pay4 (View.ld a0 r0_0) (View.ld a1 r0_1)) (View.ld a5 r0_2)) bitsLt_bf16_f32⟩] := rfl
theorem buffer10 : out0_10 a0 a1 a2 a3 a4 a5 a6 = View.canon [⟨r0_6, truncf .bf16 (k0_pay10 (k0_pay4 (View.ld a0 r0_0) (View.ld a2 r0_1)) (View.ld a6 r0_5)) bitsLt_bf16_f32⟩, ⟨r0_3, truncf .bf16 (k0_pay10 (k0_pay4 (View.ld a0 r0_0) (View.ld a2 r0_1)) (View.ld a6 r0_2)) bitsLt_bf16_f32⟩] := rfl
theorem buffer11 : out0_11 a0 a1 a2 a3 a4 a5 a6 = View.canon [⟨r0_6, truncf .bf16 (unit mask (k0_pay10 (k0_pay4 (View.ld a0 r0_0) (View.ld a1 r0_1)) (View.ld a5 r0_5)) (View.ld a3 r0_7)) bitsLt_bf16_f32⟩, ⟨r0_3, truncf .bf16 (unit mask (k0_pay10 (k0_pay4 (View.ld a0 r0_0) (View.ld a1 r0_1)) (View.ld a5 r0_2)) (View.ld a3 r0_4)) bitsLt_bf16_f32⟩] := rfl
theorem buffer12 : out0_12 a0 a1 a2 a3 a4 a5 a6 = View.canon [⟨r0_6, truncf .bf16 (mulf (unit mask (k0_pay10 (k0_pay4 (View.ld a0 r0_0) (View.ld a2 r0_1)) (View.ld a6 r0_5)) (View.ld a4 r0_7)) (broadcast S256x512 (Scalar.ofBits .f32 0x3E000000#32))) bitsLt_bf16_f32⟩, ⟨r0_3, truncf .bf16 (mulf (unit mask (k0_pay10 (k0_pay4 (View.ld a0 r0_0) (View.ld a2 r0_1)) (View.ld a6 r0_2)) (View.ld a4 r0_4)) (broadcast S256x512 (Scalar.ofBits .f32 0x3E000000#32))) bitsLt_bf16_f32⟩] := rfl
theorem buffer13 : out0_13 a0 a1 a2 a3 a4 a5 a6 = View.canon [⟨r0_6, truncf .bf16 (k0_pay10 (k0_pay4 (View.ld a0 r0_0) (View.ld a1 r0_1)) (View.ld a5 r0_9)) bitsLt_bf16_f32⟩, ⟨r0_3, truncf .bf16 (k0_pay10 (k0_pay4 (View.ld a0 r0_0) (View.ld a1 r0_1)) (View.ld a5 r0_8)) bitsLt_bf16_f32⟩] := rfl
theorem buffer14 : out0_14 a0 a1 a2 a3 a4 a5 a6 = View.canon [⟨r0_6, truncf .bf16 (k0_pay10 (k0_pay4 (View.ld a0 r0_0) (View.ld a2 r0_1)) (View.ld a6 r0_9)) bitsLt_bf16_f32⟩, ⟨r0_3, truncf .bf16 (k0_pay10 (k0_pay4 (View.ld a0 r0_0) (View.ld a2 r0_1)) (View.ld a6 r0_8)) bitsLt_bf16_f32⟩] := rfl

end Buffers

variable (m : (ℓ : Loc nD τ sig) → Buf (Elt Ideal) ℓ) (c : Dev nD)

section Halves

open Cert.Reference17Ideal.Read

variable (t : Fin cfg0.N) (G : Vec Ideal S1x1024 .f32) (n : FVec Ideal S1x1024 .f32) (hG : ∀ k : Fin 1024, @Eq EReal (G (ix2 0 k)) (n (ix2 0 k)))
  (W : Vec Ideal S4x1024x512 .bf16) (w : FVec Ideal S1024x2048 .f32) (hW : ∀ (s : Fin 4) (k : Fin 1024) (j : Fin 512), @Eq EReal (W (ix3 s k j)) (w (ix2 k ⟨512 * s.val + j.val, by omega⟩)))
include hG hW

theorem tile_first (s : Fin 4) {a : ℕ} (h : s.val = a) (inb : ∀ i, (![a, 0, 0] : Fin 3 → ℕ) i + (![1, 1024, 512] : Fin 3 → ℕ) i ≤ S4x1024x512.size i) (r : Fin 256) (j : Fin 512) (k : Fin 1024) (hk : k.val = 512 * a + j.val) :
    @Eq EReal (k0_pay10 (k0_pay4 (View.ld (blkX m c t) r0_0) (View.ld G r0_1)) (View.ld W (Rect.unit (s := S4x1024x512) ![a, 0, 0] ![1, 1024, 512] inb)) (ix2 r j)) (val_main_v25 (F := Ideal) (x0 m c) n w (ix2 (row t r) k)) :=
  (tile_proj m c t G n hG W w hW s h inb r j).trans (ref_lo _ n w (row t r) k _ (by dsimp only; omega))

theorem tile_second (s : Fin 4) {a : ℕ} (h : s.val = a) (inb : ∀ i, (![a, 0, 0] : Fin 3 → ℕ) i + (![1, 1024, 512] : Fin 3 → ℕ) i ≤ S4x1024x512.size i) (r : Fin 256) (j : Fin 512) (k : Fin 1024) (hk : 1024 + k.val = 512 * a + j.val) :
    @Eq EReal (k0_pay10 (k0_pay4 (View.ld (blkX m c t) r0_0) (View.ld G r0_1)) (View.ld W (Rect.unit (s := S4x1024x512) ![a, 0, 0] ![1, 1024, 512] inb)) (ix2 r j)) (val_main_v26 (F := Ideal) (x0 m c) n w (ix2 (row t r) k)) :=
  (tile_proj m c t G n hG W w hW s h inb r j).trans (ref_hi _ n w (row t r) k _ (by dsimp only; omega))

end Halves

theorem block9 (t : Fin cfg0.N) (r : Fin 256) (k : Fin 1024) :
    @Eq EReal (out0_9 (blkX m c t) (blkA m c t) (blkB m c t) (blkK m c t) (blkQ m c t) (blkV m c t) (blkZ m c t) (ix2 r k)) (Cert.Reference17Ideal.Read.val_main_v25 (F := Ideal) (x0 m c) (x1 m c) (x5 m c) (ix2 (row t r) k)) := by
  rw [buffer9]
  refine canon_halves (e := .bf16) (m := 256) (n := 512) (N := 1024) _ _ rfl _ _ r k _ (fun j hj => ?_) (fun j hj => ?_)
  · exact tile_first m c t (blkA m c t) (x1 m c) (blkA_at m c t) (blkV m c t) (x5 m c) (blkV_at m c t) 1 (a := 1) rfl _ r j k (by omega)
  · exact tile_first m c t (blkA m c t) (x1 m c) (blkA_at m c t) (blkV m c t) (x5 m c) (blkV_at m c t) 0 (a := 0) rfl _ r j k (by omega)

theorem block10 (t : Fin cfg0.N) (r : Fin 256) (k : Fin 1024) :
    @Eq EReal (out0_10 (blkX m c t) (blkA m c t) (blkB m c t) (blkK m c t) (blkQ m c t) (blkV m c t) (blkZ m c t) (ix2 r k)) (Cert.Reference17Ideal.Read.val_main_v28 (F := Ideal) (x0 m c) (x2 m c) (x6 m c) (ix2 (row t r) k)) := by
  rw [buffer10]
  refine canon_halves (e := .bf16) (m := 256) (n := 512) (N := 1024) _ _ rfl _ _ r k _ (fun j hj => ?_) (fun j hj => ?_)
  · exact (tile_first m c t (blkB m c t) (x2 m c) (blkB_at m c t) (blkZ m c t) (x6 m c) (blkZ_at m c t) 1 (a := 1) rfl _ r j k (by omega)).trans (congrFun (same_lo (x0 m c) (x2 m c) (x6 m c)).symm _)
  · exact (tile_first m c t (blkB m c t) (x2 m c) (blkB_at m c t) (blkZ m c t) (x6 m c) (blkZ_at m c t) 0 (a := 0) rfl _ r j k (by omega)).trans (congrFun (same_lo (x0 m c) (x2 m c) (x6 m c)).symm _)

theorem block11 (h1 : ∀ i, Re (x1 m c i)) (h5 : ∀ i, Re (x5 m c i)) (t : Fin cfg0.N) (r : Fin 256) (k : Fin 1024) :
    @Eq EReal (out0_11 (blkX m c t) (blkA m c t) (blkB m c t) (blkK m c t) (blkQ m c t) (blkV m c t) (blkZ m c t) (ix2 r k)) (Cert.Reference17Ideal.Read.val_main_v44 (F := Ideal) (x0 m c) (x1 m c) (x3 m c) (x5 m c) (ix2 (row t r) k)) := by
  rw [buffer11]
  refine canon_halves (e := .bf16) (m := 256) (n := 512) (N := 1024) _ _ rfl _ _ r k _ (fun j hj => ?_) (fun j hj => ?_)
  · exact tile_head m c t (blkA m c t) (x1 m c) (blkA_at m c t) (blkV m c t) (x5 m c) (blkV_at m c t) h1 h5 (blkK m c t) (x3 m c) (blkK_at m c t) 1 (a := 1) (b := 512) rfl (by decide) rfl _ _ r j k (by omega)
  · exact tile_head m c t (blkA m c t) (x1 m c) (blkA_at m c t) (blkV m c t) (x5 m c) (blkV_at m c t) h1 h5 (blkK m c t) (x3 m c) (blkK_at m c t) 0 (a := 0) (b := 0) rfl (by decide) rfl _ _ r j k (by omega)

theorem block12 (h2 : ∀ i, Re (x2 m c i)) (h6 : ∀ i, Re (x6 m c i)) (t : Fin cfg0.N) (r : Fin 256) (k : Fin 1024) :
    @Eq EReal (out0_12 (blkX m c t) (blkA m c t) (blkB m c t) (blkK m c t) (blkQ m c t) (blkV m c t) (blkZ m c t) (ix2 r k)) (Cert.Reference17Ideal.Read.val_main_v61 (F := Ideal) (x0 m c) (x2 m c) (x4 m c) (x6 m c) (ix2 (row t r) k)) := by
  rw [buffer12]
  refine canon_halves (e := .bf16) (m := 256) (n := 512) (N := 1024) _ _ rfl _ _ r k _ (fun j hj => ?_) (fun j hj => ?_)
  · exact (congrArg (fun a : EReal => a * Ideal.ofBits .f32 0x3E000000#32) (tile_head m c t (blkB m c t) (x2 m c) (blkB_at m c t) (blkZ m c t) (x6 m c) (blkZ_at m c t) h2 h6 (blkQ m c t) (x4 m c) (blkQ_at m c t) 1 (a := 1) (b := 512) rfl (by decide) rfl _ _ r j k (by omega))).trans (ref_query (x0 m c) (x2 m c) (x4 m c) (x6 m c) (row t r) k).symm
  · exact (congrArg (fun a : EReal => a * Ideal.ofBits .f32 0x3E000000#32) (tile_head m c t (blkB m c t) (x2 m c) (blkB_at m c t) (blkZ m c t) (x6 m c) (blkZ_at m c t) h2 h6 (blkQ m c t) (x4 m c) (blkQ_at m c t) 0 (a := 0) (b := 0) rfl (by decide) rfl _ _ r j k (by omega))).trans (ref_query (x0 m c) (x2 m c) (x4 m c) (x6 m c) (row t r) k).symm

theorem block13 (t : Fin cfg0.N) (r : Fin 256) (k : Fin 1024) :
    @Eq EReal (out0_13 (blkX m c t) (blkA m c t) (blkB m c t) (blkK m c t) (blkQ m c t) (blkV m c t) (blkZ m c t) (ix2 r k)) (Cert.Reference17Ideal.Read.val_main_v26 (F := Ideal) (x0 m c) (x1 m c) (x5 m c) (ix2 (row t r) k)) := by
  rw [buffer13]
  refine canon_halves (e := .bf16) (m := 256) (n := 512) (N := 1024) _ _ rfl _ _ r k _ (fun j hj => ?_) (fun j hj => ?_)
  · exact tile_second m c t (blkA m c t) (x1 m c) (blkA_at m c t) (blkV m c t) (x5 m c) (blkV_at m c t) 3 (a := 3) rfl _ r j k (by omega)
  · exact tile_second m c t (blkA m c t) (x1 m c) (blkA_at m c t) (blkV m c t) (x5 m c) (blkV_at m c t) 2 (a := 2) rfl _ r j k (by omega)

theorem block14 (t : Fin cfg0.N) (r : Fin 256) (k : Fin 1024) :
    @Eq EReal (out0_14 (blkX m c t) (blkA m c t) (blkB m c t) (blkK m c t) (blkQ m c t) (blkV m c t) (blkZ m c t) (ix2 r k)) (Cert.Reference17Ideal.Read.val_main_v29 (F := Ideal) (x0 m c) (x2 m c) (x6 m c) (ix2 (row t r) k)) := by
  rw [buffer14]
  refine canon_halves (e := .bf16) (m := 256) (n := 512) (N := 1024) _ _ rfl _ _ r k _ (fun j hj => ?_) (fun j hj => ?_)
  · exact (tile_second m c t (blkB m c t) (x2 m c) (blkB_at m c t) (blkZ m c t) (x6 m c) (blkZ_at m c t) 3 (a := 3) rfl _ r j k (by omega)).trans (congrFun (same_hi (x0 m c) (x2 m c) (x6 m c)).symm _)
  · exact (tile_second m c t (blkB m c t) (x2 m c) (blkB_at m c t) (blkZ m c t) (x6 m c) (blkZ_at m c t) 2 (a := 2) rfl _ r j k (by omega)).trans (congrFun (same_hi (x0 m c) (x2 m c) (x6 m c)).symm _)

theorem final9 : (dats m 0 c).arrAt 9 cfg0.N = Cert.Reference17Ideal.Read.val_main_v64 (F := Ideal) (x0 m c) (x1 m c) (x5 m c) := by
  refine (dats m 0 c).arrAt_eq_of_covers 9 _ (by decide +kernel) fun t hf y => ?_
  obtain ⟨r, k, rfl⟩ : ∃ (r : Fin 256) (k : Fin 1024), y = ix2 r k := ⟨y 0, y 1, eq_ix2 y⟩
  blk_simp
  rw [after0_9, place9]
  exact block9 m c t r k

theorem final10 : (dats m 0 c).arrAt 10 cfg0.N = Cert.Reference17Ideal.Read.val_main_v65 (F := Ideal) (x0 m c) (x2 m c) (x6 m c) := by
  refine (dats m 0 c).arrAt_eq_of_covers 10 _ (by decide +kernel) fun t hf y => ?_
  obtain ⟨r, k, rfl⟩ : ∃ (r : Fin 256) (k : Fin 1024), y = ix2 r k := ⟨y 0, y 1, eq_ix2 y⟩
  blk_simp
  rw [after0_10, place10]
  exact block10 m c t r k

theorem final11 (h1 : ∀ i, Re (x1 m c i)) (h5 : ∀ i, Re (x5 m c i)) : (dats m 0 c).arrAt 11 cfg0.N = Cert.Reference17Ideal.Read.val_main_v66 (F := Ideal) (x0 m c) (x1 m c) (x3 m c) (x5 m c) := by
  refine (dats m 0 c).arrAt_eq_of_covers 11 _ (by decide +kernel) fun t hf y => ?_
  obtain ⟨r, k, rfl⟩ : ∃ (r : Fin 256) (k : Fin 1024), y = ix2 r k := ⟨y 0, y 1, eq_ix2 y⟩
  blk_simp
  rw [after0_11, place11]
  exact block11 m c h1 h5 t r k

theorem final12 (h2 : ∀ i, Re (x2 m c i)) (h6 : ∀ i, Re (x6 m c i)) : (dats m 0 c).arrAt 12 cfg0.N = Cert.Reference17Ideal.Read.val_main_v67 (F := Ideal) (x0 m c) (x2 m c) (x4 m c) (x6 m c) := by
  refine (dats m 0 c).arrAt_eq_of_covers 12 _ (by decide +kernel) fun t hf y => ?_
  obtain ⟨r, k, rfl⟩ : ∃ (r : Fin 256) (k : Fin 1024), y = ix2 r k := ⟨y 0, y 1, eq_ix2 y⟩
  blk_simp
  rw [after0_12, place12]
  exact block12 m c h2 h6 t r k

theorem final13 : (dats m 0 c).arrAt 13 cfg0.N = Cert.Reference17Ideal.Read.val_main_v68 (F := Ideal) (x0 m c) (x1 m c) (x5 m c) := by
  refine (dats m 0 c).arrAt_eq_of_covers 13 _ (by decide +kernel) fun t hf y => ?_
  obtain ⟨r, k, rfl⟩ : ∃ (r : Fin 256) (k : Fin 1024), y = ix2 r k := ⟨y 0, y 1, eq_ix2 y⟩
  blk_simp
  rw [after0_13, place13]
  exact block13 m c t r k

theorem final14 : (dats m 0 c).arrAt 14 cfg0.N = Cert.Reference17Ideal.Read.val_main_v69 (F := Ideal) (x0 m c) (x2 m c) (x6 m c) := by
  refine (dats m 0 c).arrAt_eq_of_covers 14 _ (by decide +kernel) fun t hf y => ?_
  obtain ⟨r, k, rfl⟩ : ∃ (r : Fin 256) (k : Fin 1024), y = ix2 r k := ⟨y 0, y 1, eq_ix2 y⟩
  blk_simp
  rw [after0_14, place14]
  exact block14 m c t r k

end Cert.Kernel17Ideal.Heads

namespace Cert.Proof

open Idealize.ShloMosaic Idealize.ShloMosaic.TcCoe Idealize.SL.Sem
open Cert.Kernel17Ideal.Heads
open Cert.KernelIdeal.Mix (Re)

instance pre_facts17 : Cert.Pre_finite17.Facts where
  bcast_S_S1x1024 := by decide
  reducesTo_S1x1024_S_d0_1 := by decide
  h_S_ := by decide
  bcast_S_S1024x2048 := by decide
  reducesTo_S1024x2048_S_d0_1 := by decide

/-- Where the precondition holds, the two gains and the two weights are real. -/
theorem pre_real17 (x0 : FVec Ideal Cert.Pre_finite17.S2048x1024 .f32) (x1 x2 : FVec Ideal Cert.Pre_finite17.S1x1024 .f32) (x3 x4 : FVec Ideal Cert.Pre_finite17.S1x64 .f32) (x5 x6 : FVec Ideal Cert.Pre_finite17.S1024x2048 .f32)
    (e : Cert.Pre_finite17.fn (F := Ideal) x0 x1 x2 x3 x4 x5 x6 = fun _ => 1#1) :
    (∀ i, Re (x1 i)) ∧ (∀ i, Re (x2 i)) ∧ (∀ i, Re (x5 i)) ∧ (∀ i, Re (x6 i)) := by
  have split : ∀ {a b : IVec Cert.Pre_finite17.S_ 1}, (andi a b = fun _ => 1#1) → (a = fun _ => 1#1) ∧ (b = fun _ => 1#1) := fun h =>
    ⟨funext fun j => (IntOp.andi_eq_one.1 (congrFun h j)).1, funext fun j => (IntOp.andi_eq_one.1 (congrFun h j)).2⟩
  obtain ⟨e, e6⟩ := split e
  obtain ⟨e, e5⟩ := split e
  obtain ⟨e1, e2⟩ := split e
  exact ⟨entries_real x1 _ _ e1, entries_real x2 _ _ e2, entries_real x5 _ _ e5, entries_real x6 _ _ e6⟩

theorem frame_kernel17 : @Cert.quiescent_Kernel17 Cert.Kernel17.Gen.facts := fun m g _ => Cert.Kernel17.Gen.frame m g

theorem frame_ideal17 : @Cert.quiescent_Kernel17Ideal Cert.Kernel17Ideal.Gen.facts := fun m g _ => Cert.Kernel17Ideal.Gen.frame m g

theorem frame_reference17 : @Cert.quiescent_Reference17Ideal Cert.Reference17Ideal.Gen.facts := fun m g _ =>
  (θ_run _ _ _).mono (fun r h => ⟨fun c => (h c).2.2.2.2.2.2.2.2, sem_eq_zero_of_no_sems rfl r.2⟩) (Cert.Reference17Ideal.Value.run m g)

theorem values17 : @Cert.algebraic_Kernel17Ideal_Reference17Ideal_pre_finite17 Cert.Kernel17Ideal.Gen.facts Cert.Reference17Ideal.Gen.facts pre_facts17 := by
  intro m g m' g' hpre hagree
  refine ⟨fun c => Cert.Reference17Ideal.Read.val_main_v62 (F := Ideal) (x0 m c) (x1 m c), fun c => Cert.Reference17Ideal.Read.val_main_v63 (F := Ideal) (x0 m c) (x2 m c), fun c => Cert.Reference17Ideal.Read.val_main_v64 (F := Ideal) (x0 m c) (x1 m c) (x5 m c), fun c => Cert.Reference17Ideal.Read.val_main_v65 (F := Ideal) (x0 m c) (x2 m c) (x6 m c), fun c => Cert.Reference17Ideal.Read.val_main_v66 (F := Ideal) (x0 m c) (x1 m c) (x3 m c) (x5 m c), fun c => Cert.Reference17Ideal.Read.val_main_v67 (F := Ideal) (x0 m c) (x2 m c) (x4 m c) (x6 m c), fun c => Cert.Reference17Ideal.Read.val_main_v68 (F := Ideal) (x0 m c) (x1 m c) (x5 m c), fun c => Cert.Reference17Ideal.Read.val_main_v69 (F := Ideal) (x0 m c) (x2 m c) (x6 m c), (θ_run _ _ _).mono (fun r h c => ?_) (Cert.Kernel17Ideal.Value.run_blocks m g), (θ_run _ _ _).mono (fun r h c => ?_) (Cert.Reference17Ideal.Value.run m' g')⟩
  · obtain ⟨h1, h2, h5, h6⟩ := pre_real17 _ _ _ _ _ _ _ (hpre c)
    exact ⟨(h c).1.trans (final7 m c), (h c).2.1.trans (final8 m c), (h c).2.2.1.trans (final9 m c), (h c).2.2.2.1.trans (final10 m c), (h c).2.2.2.2.1.trans (final11 m c h1 h5), (h c).2.2.2.2.2.1.trans (final12 m c h2 h6), (h c).2.2.2.2.2.2.1.trans (final13 m c), (h c).2.2.2.2.2.2.2.1.trans (final14 m c), (h c).2.2.2.2.2.2.2.2⟩
  · obtain ⟨e0, e1, e2, e3, e4, e5, e6⟩ := hagree c
    refine ⟨(h c).1.trans ((Cert.Reference17Ideal.Read.val_main_v62_eq _ _).trans ?_), (h c).2.1.trans ((Cert.Reference17Ideal.Read.val_main_v63_eq _ _).trans ?_), (h c).2.2.1.trans ((Cert.Reference17Ideal.Read.val_main_v64_eq _ _ _).trans ?_), (h c).2.2.2.1.trans ((Cert.Reference17Ideal.Read.val_main_v65_eq _ _ _).trans ?_), (h c).2.2.2.2.1.trans ((Cert.Reference17Ideal.Read.val_main_v66_eq _ _ _ _).trans ?_), (h c).2.2.2.2.2.1.trans ((Cert.Reference17Ideal.Read.val_main_v67_eq _ _ _ _).trans ?_), (h c).2.2.2.2.2.2.1.trans ((Cert.Reference17Ideal.Read.val_main_v68_eq _ _ _).trans ?_), (h c).2.2.2.2.2.2.2.1.trans ((Cert.Reference17Ideal.Read.val_main_v69_eq _ _ _).trans ?_), (h c).2.2.2.2.2.2.2.2⟩
    · rw [e0, e1]
    · rw [e0, e2]
    · rw [e0, e1, e5]
    · rw [e0, e2, e6]
    · rw [e0, e1, e3, e5]
    · rw [e0, e2, e4, e6]
    · rw [e0, e1, e5]
    · rw [e0, e2, e6]

end Cert.Proof

end
-- ==== Proof.Results.lean ====
/- What the launch leaves in its four results: the arrays the proof data holds after the last grid point. -/
module

public import proofs.«01_k».proof.Proof.Frame

@[expose] public section

set_option maxRecDepth 16384

noncomputable section

namespace Cert.KernelIdeal.Mix

open Cert.KernelIdeal Cert.KernelIdeal.Gen
open Idealize.ShloMosaic Idealize.ShloMosaic.TcCoe Idealize.SL.Sem

variable {F : FTy → Type} [FloatOps F] (m : (ℓ : Loc nD τ sig) → Buf (Elt F) ℓ) (ρ : Dev nD → PrngReg)

theorem run_results : θ_run defs (onTc (τ := τ) (main (F := F))) ⟨m, fun _ => 0, ρ⟩ (fun r => ∀ c : Dev nD,
      r.2.mem ((c.tc : Thread nD τ).loc main_v80_0) = (dats m 0 c).arrAt 9 cfg0.N
      ∧ r.2.mem ((c.tc : Thread nD τ).loc main_v80_1) = (dats m 0 c).arrAt 10 cfg0.N
      ∧ r.2.mem ((c.tc : Thread nD τ).loc main_v80_2) = (dats m 0 c).arrAt 11 cfg0.N
      ∧ r.2.mem ((c.tc : Thread nD τ).loc main_v80_3) = (dats m 0 c).arrAt 12 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1 9, (h c).1 10, (h c).1 11, (h c).1 12,
    ((h c).1 6).trans (((dats m 0 c).arrAt_in 6 rfl _).trans ((A_eq m c 6).trans (V_main_arg0 m c))),
    ((h c).1 8).trans (((dats m 0 c).arrAt_in 8 rfl _).trans ((A_eq m c 8).trans (V_main_arg1 m c))),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).1 4).trans (((dats m 0 c).arrAt_in 4 rfl _).trans ((A_eq m c 4).trans (V_main_arg4 m c))),
    ((h c).2 main_arg5 (Pipeline.mem_restRefs_of main_arg5 (by decide) (by decide))).trans (V_main_arg5 m c),
    ((h c).1 7).trans (((dats m 0 c).arrAt_in 7 rfl _).trans ((A_eq m c 7).trans (V_main_arg6 m c)))⟩) (run_main m ρ)

end Cert.KernelIdeal.Mix
-- ==== Proof.lean ====
/- The certificate: the frames, and the four gradients of the mixer equal to the reference's on finite arguments. -/
module

public import proofs.«01_k».proof.Defs
public import proofs.«01_k».proof.Proof.Frames
public import proofs.«01_k».proof.Proof.Finite
public import proofs.«01_k».proof.Proof.Input
public import proofs.«01_k».proof.Proof.Output
public import proofs.«01_k».proof.Proof.Gate
public import proofs.«01_k».proof.Proof.Embed
public import proofs.«01_k».proof.Proof.Group
public import proofs.«01_k».proof.Proof.Back
public import proofs.«01_k».proof.Proof.Forward
public import proofs.«01_k».proof.Proof.Loss
public import proofs.«01_k».proof.Proof.Arrays
public import proofs.«01_k».proof.Proof.Results
public import proofs.«01_k».proof.Proof.Gen.ReferenceIdeal.Read

@[expose] public section

set_option maxRecDepth 16384

noncomputable section

namespace Cert.Proof

open Idealize.ShloMosaic Idealize.ShloMosaic.TcCoe Idealize.SL.Sem
open Cert.KernelIdeal.Mix Cert.ReferenceIdeal.Read

section Blocks

variable (m : (ℓ : Loc Cert.KernelIdeal.nD Cert.KernelIdeal.τ Cert.KernelIdeal.sig) → Buf (Elt Ideal) ℓ) (c : Dev Cert.KernelIdeal.nD)

/-- The reference's result of a memory's arguments: the cotangent of the projected rows. -/
abbrev ref_rows : FVec Ideal Cert.ReferenceIdeal.S2048x2048 .bf16 := val_main_v167 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))

/-- The reference's result of a memory's arguments: the cotangent of the grouped product. -/
abbrev ref_group : FVec Ideal Cert.ReferenceIdeal.S2048x1024 .bf16 := val_main_v168 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))

/-- The reference's result of a memory's arguments: the cotangent of the input. -/
abbrev ref_input : FVec Ideal Cert.ReferenceIdeal.S2048x1024 .f32 := val_main_v169 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))

/-- The reference's result of a memory's arguments: the sums over rows. -/
abbrev ref_sums : FVec Ideal Cert.ReferenceIdeal.S8x1024 .f32 := val_main_v166 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))

variable (g : Given (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (inpOf m c))

include g

theorem rows_eq : (dats m 0 c).arrAt 9 Cert.KernelIdeal.cfg0.N = ref_rows m c := by
  funext y
  obtain ⟨s, k, rfl⟩ : ∃ (s : Fin 2048) (k : Fin 2048), y = ix2 s k := ⟨y 0, y 1, eq_ix2 y⟩
  refine (final9 (arrays_of m c g) s k).trans ?_
  rw [ref_rows]
  pointwise [val_main_v167]
  exact (ref_duz g s k).symm

theorem group_eq : (dats m 0 c).arrAt 10 Cert.KernelIdeal.cfg0.N = ref_group m c := by
  funext y
  obtain ⟨s, k, rfl⟩ : ∃ (s : Fin 2048) (k : Fin 1024), y = ix2 s k := ⟨y 0, y 1, eq_ix2 y⟩
  refine (final10 (arrays_of m c g) s k).trans ?_
  rw [ref_group]
  pointwise [val_main_v168]
  exact (ref_dmr g s ⟨k.val / 256, by omega⟩ ⟨k.val % 256, by omega⟩ k (by show k.val = k.val / 256 * 256 + k.val % 256; omega)).symm

theorem input_eq : (dats m 0 c).arrAt 11 Cert.KernelIdeal.cfg0.N = ref_input m c := by
  funext y
  obtain ⟨s, k, rfl⟩ : ∃ (s : Fin 2048) (k : Fin 1024), y = ix2 s k := ⟨y 0, y 1, eq_ix2 y⟩
  exact (final11 (arrays_of m c g) s k).trans (ref_dx g s k).symm

theorem sums_eq : (dats m 0 c).arrAt 12 Cert.KernelIdeal.cfg0.N = ref_sums m c := by
  funext y
  obtain ⟨q, k, rfl⟩ : ∃ (q : Fin 8) (k : Fin 1024), y = ix2 q k := ⟨y 0, y 1, eq_ix2 y⟩
  exact (final12 (arrays_of m c g) q k).trans (ref_small g q k).symm

end Blocks

/-- The reference's run: its four results as its lines' values of its arguments, its arguments unchanged. -/
theorem reference_run (m' : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ⟩ (fun r => ∀ c : Dev Cert.ReferenceIdeal.nD,
      r.2.mem ((c.tc : Thread Cert.ReferenceIdeal.nD Cert.ReferenceIdeal.τ).loc Cert.ReferenceIdeal.main_v167) = val_main_v167 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5))
      ∧ r.2.mem ((c.tc : Thread Cert.ReferenceIdeal.nD Cert.ReferenceIdeal.τ).loc Cert.ReferenceIdeal.main_v168) = val_main_v168 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5))
      ∧ r.2.mem ((c.tc : Thread Cert.ReferenceIdeal.nD Cert.ReferenceIdeal.τ).loc Cert.ReferenceIdeal.main_v169) = val_main_v169 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6))
      ∧ r.2.mem ((c.tc : Thread Cert.ReferenceIdeal.nD Cert.ReferenceIdeal.τ).loc Cert.ReferenceIdeal.main_v166) = val_main_v166 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)) :=
  (θ_run _ _ _).mono (fun r h c => ⟨(h c).1.trans (val_main_v167_eq _), (h c).2.1.trans (val_main_v168_eq _), (h c).2.2.1.trans (val_main_v169_eq _),
    (h c).2.2.2.1.trans (val_main_v166_eq _), (h c).2.2.2.2⟩) (Cert.ReferenceIdeal.Value.run m' ρ)

/-- The precondition's arguments are reals. -/
theorem given_of (m : (ℓ : Loc Cert.KernelIdeal.nD Cert.KernelIdeal.τ Cert.KernelIdeal.sig) → Buf (Elt Ideal) ℓ) (hpre : @Cert.Pre_KernelIdeal_finite pre_facts m) (c : Dev Cert.KernelIdeal.nD) :
    Given (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (inpOf m c) := by
  obtain ⟨h0, h1, h2, h3, h4, h5, h6⟩ := pre_real _ _ _ _ _ _ _ (hpre c)
  exact given_inp _ _ _ _ _ _ _ h0 h1 h2 h3 h4 h5 h6

theorem kernel_run (m : (ℓ : Loc Cert.KernelIdeal.nD Cert.KernelIdeal.τ Cert.KernelIdeal.sig) → Buf (Elt Ideal) ℓ) (ρ : Dev Cert.KernelIdeal.nD → PrngReg) (hpre : @Cert.Pre_KernelIdeal_finite pre_facts m) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v80_0) = ref_rows m c
      ∧ r.2.mem ((c.tc : Thread Cert.KernelIdeal.nD Cert.KernelIdeal.τ).loc Cert.KernelIdeal.main_v80_1) = ref_group m c
      ∧ r.2.mem ((c.tc : Thread Cert.KernelIdeal.nD Cert.KernelIdeal.τ).loc Cert.KernelIdeal.main_v80_2) = ref_input m c
      ∧ r.2.mem ((c.tc : Thread Cert.KernelIdeal.nD Cert.KernelIdeal.τ).loc Cert.KernelIdeal.main_v80_3) = ref_sums m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)) :=
  (θ_run _ _ _).mono (fun r h c => ⟨(h c).1.trans (rows_eq m c (given_of m hpre c)), (h c).2.1.trans (group_eq m c (given_of m hpre c)),
    (h c).2.2.1.trans (input_eq m c (given_of m hpre c)), (h c).2.2.2.1.trans (sums_eq m c (given_of m hpre c)), (h c).2.2.2.2⟩) (run_results m ρ)

theorem gradients : @Cert.algebraic_KernelIdeal_ReferenceIdeal_pre_finite Cert.KernelIdeal.Gen.facts Cert.ReferenceIdeal.Gen.facts pre_facts := by
  intro m g m' g' hpre hagree
  refine ⟨fun c => ref_rows m c, fun c => ref_group m c, fun c => ref_input m c, fun c => ref_sums m c, kernel_run m g hpre, ?_⟩
  refine (θ_run _ _ _).mono (fun r h c => ?_) (reference_run m' g')
  obtain ⟨e0, e1, e2, e3, e4, e5, e6⟩ := hagree c
  have hc := h c
  refine ⟨hc.1.trans ?_, hc.2.1.trans ?_, hc.2.2.1.trans ?_, hc.2.2.2.1.trans ?_, hc.2.2.2.2⟩
  · show val_main_v167 (F := Ideal) _ _ _ _ _ _ = _
    rw [e0, e1, e2, e3, e4, e5]
  · show val_main_v168 (F := Ideal) _ _ _ _ _ = _
    rw [e0, e1, e2, e4, e5]
  · show val_main_v169 (F := Ideal) _ _ _ _ _ _ _ = _
    rw [e0, e1, e2, e3, e4, e5, e6]
  · show val_main_v166 (F := Ideal) _ _ _ _ _ _ = _
    rw [e0, e1, e2, e3, e4, e5]

theorem claim : Cert.Claim := ⟨Cert.Kernel.Gen.facts, Cert.KernelIdeal.Gen.facts, Cert.ReferenceIdeal.Gen.facts,
  Cert.Kernel2.Gen.facts,
  Cert.Kernel2Ideal.Gen.facts,
  Cert.Reference2Ideal.Gen.facts,
  Cert.Kernel3.Gen.facts,
  Cert.Kernel3Ideal.Gen.facts,
  Cert.Kernel4.Gen.facts,
  Cert.Kernel4Ideal.Gen.facts,
  Cert.Kernel5.Gen.facts,
  Cert.Kernel5Ideal.Gen.facts,
  Cert.Reference5Ideal.Gen.facts,
  Cert.Kernel6.Gen.facts,
  Cert.Kernel6Ideal.Gen.facts,
  Cert.Kernel7.Gen.facts,
  Cert.Kernel7Ideal.Gen.facts,
  Cert.Reference7Ideal.Gen.facts,
  Cert.Kernel8.Gen.facts,
  Cert.Kernel8Ideal.Gen.facts,
  Cert.Kernel9.Gen.facts,
  Cert.Kernel9Ideal.Gen.facts,
  Cert.Reference9Ideal.Gen.facts,
  Cert.Kernel10.Gen.facts,
  Cert.Kernel10Ideal.Gen.facts,
  Cert.Reference10Ideal.Gen.facts,
  Cert.Kernel11.Gen.facts,
  Cert.Kernel11Ideal.Gen.facts,
  Cert.Reference11Ideal.Gen.facts,
  Cert.Kernel12.Gen.facts,
  Cert.Kernel12Ideal.Gen.facts,
  Cert.Reference12Ideal.Gen.facts,
  Cert.Kernel13.Gen.facts,
  Cert.Kernel13Ideal.Gen.facts,
  Cert.Kernel15.Gen.facts,
  Cert.Kernel15Ideal.Gen.facts,
  Cert.Reference15Ideal.Gen.facts,
  Cert.Kernel16.Gen.facts,
  Cert.Kernel16Ideal.Gen.facts,
  Cert.Reference16Ideal.Gen.facts,
  Cert.Kernel17.Gen.facts,
  Cert.Kernel17Ideal.Gen.facts,
  Cert.Reference17Ideal.Gen.facts,
  pre_facts, pre_facts17, frame_kernel, frame_ideal, fun m g _ => frame_ideal m g trivial, frame_reference, fun m g _ => frame_reference m g trivial,
  frame_kernel2, frame_ideal2, frame_reference2, frame_kernel3, frame_ideal3, frame_kernel4, frame_ideal4, frame_kernel5, frame_ideal5, frame_reference5, frame_kernel6, frame_ideal6, frame_kernel7, frame_ideal7, frame_reference7, frame_kernel8, frame_ideal8, frame_kernel9, frame_ideal9, frame_reference9, frame_kernel10, frame_ideal10, frame_reference10, frame_kernel11, frame_ideal11, frame_reference11, frame_kernel12, frame_ideal12, frame_reference12, frame_kernel13, frame_ideal13, frame_kernel15, frame_ideal15, frame_reference15, frame_kernel16, frame_ideal16, frame_reference16,
  frame_kernel17, frame_ideal17, fun m g _ => frame_ideal17 m g trivial, frame_reference17, fun m g _ => frame_reference17 m g trivial,
  trivial, gradients, trivial, gradients2, trivial, gradients3, trivial, gradients4, trivial, gradients5, trivial, gradients6, trivial, gradients7, trivial, gradients8, trivial, gradients9, trivial, gradients10, trivial, gradients11, trivial, gradients12, trivial, gradients13, trivial, values15, trivial, values16, trivial, values17⟩

end Cert.Proof

end
